-- ==== Defs.lean ====
def Pre_Attn (m : (ℓ : Loc Cert.Attn.nD Cert.Attn.τ Cert.Attn.sig) → Buf (Elt Bits) ℓ) : Prop :=
  True

def Pre_AttnIdeal (m : (ℓ : Loc Cert.AttnIdeal.nD Cert.AttnIdeal.τ Cert.AttnIdeal.sig) → Buf (Elt Ideal) ℓ) : Prop :=
  True

def Pre_AttnIdeal_finite_qk [hPre_finite_qk : Cert.Pre_finite_qk.Facts] (m : (ℓ : Loc Cert.AttnIdeal.nD Cert.AttnIdeal.τ Cert.AttnIdeal.sig) → Buf (Elt Ideal) ℓ) : Prop :=
  ∀ c : Dev Cert.AttnIdeal.nD,
    (Cert.Pre_finite_qk.fn (F := Ideal) (m ((c.tc : Thread Cert.AttnIdeal.nD Cert.AttnIdeal.τ).loc Cert.AttnIdeal.main_arg0)) (m ((c.tc : Thread Cert.AttnIdeal.nD Cert.AttnIdeal.τ).loc Cert.AttnIdeal.main_arg1)) (m ((c.tc : Thread Cert.AttnIdeal.nD Cert.AttnIdeal.τ).loc Cert.AttnIdeal.main_arg2)) (m ((c.tc : Thread Cert.AttnIdeal.nD Cert.AttnIdeal.τ).loc Cert.AttnIdeal.main_arg3))).1 = (fun _ => 1#1)
    ∧ (Cert.Pre_finite_qk.fn (F := Ideal) (m ((c.tc : Thread Cert.AttnIdeal.nD Cert.AttnIdeal.τ).loc Cert.AttnIdeal.main_arg0)) (m ((c.tc : Thread Cert.AttnIdeal.nD Cert.AttnIdeal.τ).loc Cert.AttnIdeal.main_arg1)) (m ((c.tc : Thread Cert.AttnIdeal.nD Cert.AttnIdeal.τ).loc Cert.AttnIdeal.main_arg2)) (m ((c.tc : Thread Cert.AttnIdeal.nD Cert.AttnIdeal.τ).loc Cert.AttnIdeal.main_arg3))).2 = (fun _ => 1#1)

def Pre_AttnRefIdeal (m : (ℓ : Loc Cert.AttnRefIdeal.nD Cert.AttnRefIdeal.τ Cert.AttnRefIdeal.sig) → Buf (Elt Ideal) ℓ) : Prop :=
  True

def Pre_AttnRefIdeal_finite_qk [hPre_finite_qk : Cert.Pre_finite_qk.Facts] (m : (ℓ : Loc Cert.AttnRefIdeal.nD Cert.AttnRefIdeal.τ Cert.AttnRefIdeal.sig) → Buf (Elt Ideal) ℓ) : Prop :=
  ∀ c : Dev Cert.AttnRefIdeal.nD,
    (Cert.Pre_finite_qk.fn (F := Ideal) (m ((c.tc : Thread Cert.AttnRefIdeal.nD Cert.AttnRefIdeal.τ).loc Cert.AttnRefIdeal.main_arg0)) (m ((c.tc : Thread Cert.AttnRefIdeal.nD Cert.AttnRefIdeal.τ).loc Cert.AttnRefIdeal.main_arg1)) (m ((c.tc : Thread Cert.AttnRefIdeal.nD Cert.AttnRefIdeal.τ).loc Cert.AttnRefIdeal.main_arg2)) (m ((c.tc : Thread Cert.AttnRefIdeal.nD Cert.AttnRefIdeal.τ).loc Cert.AttnRefIdeal.main_arg3))).1 = (fun _ => 1#1)
    ∧ (Cert.Pre_finite_qk.fn (F := Ideal) (m ((c.tc : Thread Cert.AttnRefIdeal.nD Cert.AttnRefIdeal.τ).loc Cert.AttnRefIdeal.main_arg0)) (m ((c.tc : Thread Cert.AttnRefIdeal.nD Cert.AttnRefIdeal.τ).loc Cert.AttnRefIdeal.main_arg1)) (m ((c.tc : Thread Cert.AttnRefIdeal.nD Cert.AttnRefIdeal.τ).loc Cert.AttnRefIdeal.main_arg2)) (m ((c.tc : Thread Cert.AttnRefIdeal.nD Cert.AttnRefIdeal.τ).loc Cert.AttnRefIdeal.main_arg3))).2 = (fun _ => 1#1)

def Pre_FfnA (m : (ℓ : Loc Cert.FfnA.nD Cert.FfnA.τ Cert.FfnA.sig) → Buf (Elt Bits) ℓ) : Prop :=
  True

def Pre_FfnAIdeal (m : (ℓ : Loc Cert.FfnAIdeal.nD Cert.FfnAIdeal.τ Cert.FfnAIdeal.sig) → Buf (Elt Ideal) ℓ) : Prop :=
  True

def Pre_FfnARefIdeal (m : (ℓ : Loc Cert.FfnARefIdeal.nD Cert.FfnARefIdeal.τ Cert.FfnARefIdeal.sig) → Buf (Elt Ideal) ℓ) : Prop :=
  True

def Pre_Sgu (m : (ℓ : Loc Cert.Sgu.nD Cert.Sgu.τ Cert.Sgu.sig) → Buf (Elt Bits) ℓ) : Prop :=
  True

def Pre_SguIdeal (m : (ℓ : Loc Cert.SguIdeal.nD Cert.SguIdeal.τ Cert.SguIdeal.sig) → Buf (Elt Ideal) ℓ) : Prop :=
  True

def Pre_SguRefIdeal (m : (ℓ : Loc Cert.SguRefIdeal.nD Cert.SguRefIdeal.τ Cert.SguRefIdeal.sig) → Buf (Elt Ideal) ℓ) : Prop :=
  True

def Pre_AttnF (m : (ℓ : Loc Cert.AttnF.nD Cert.AttnF.τ Cert.AttnF.sig) → Buf (Elt Bits) ℓ) : Prop :=
  True

def Pre_AttnFIdeal (m : (ℓ : Loc Cert.AttnFIdeal.nD Cert.AttnFIdeal.τ Cert.AttnFIdeal.sig) → Buf (Elt Ideal) ℓ) : Prop :=
  True

def Pre_AttnFIdeal_finite_heads [hPre_finite_heads : Cert.Pre_finite_heads.Facts] (m : (ℓ : Loc Cert.AttnFIdeal.nD Cert.AttnFIdeal.τ Cert.AttnFIdeal.sig) → Buf (Elt Ideal) ℓ) : Prop :=
  ∀ c : Dev Cert.AttnFIdeal.nD,
    (Cert.Pre_finite_heads.fn (F := Ideal) (m ((c.tc : Thread Cert.AttnFIdeal.nD Cert.AttnFIdeal.τ).loc Cert.AttnFIdeal.main_arg0)) (m ((c.tc : Thread Cert.AttnFIdeal.nD Cert.AttnFIdeal.τ).loc Cert.AttnFIdeal.main_arg1)) (m ((c.tc : Thread Cert.AttnFIdeal.nD Cert.AttnFIdeal.τ).loc Cert.AttnFIdeal.main_arg2))).1 = (fun _ => 1#1)
    ∧ (Cert.Pre_finite_heads.fn (F := Ideal) (m ((c.tc : Thread Cert.AttnFIdeal.nD Cert.AttnFIdeal.τ).loc Cert.AttnFIdeal.main_arg0)) (m ((c.tc : Thread Cert.AttnFIdeal.nD Cert.AttnFIdeal.τ).loc Cert.AttnFIdeal.main_arg1)) (m ((c.tc : Thread Cert.AttnFIdeal.nD Cert.AttnFIdeal.τ).loc Cert.AttnFIdeal.main_arg2))).2 = (fun _ => 1#1)

def Pre_AttnFRefIdeal (m : (ℓ : Loc Cert.AttnFRefIdeal.nD Cert.AttnFRefIdeal.τ Cert.AttnFRefIdeal.sig) → Buf (Elt Ideal) ℓ) : Prop :=
  True

def Pre_AttnFRefIdeal_finite_heads [hPre_finite_heads : Cert.Pre_finite_heads.Facts] (m : (ℓ : Loc Cert.AttnFRefIdeal.nD Cert.AttnFRefIdeal.τ Cert.AttnFRefIdeal.sig) → Buf (Elt Ideal) ℓ) : Prop :=
  ∀ c : Dev Cert.AttnFRefIdeal.nD,
    (Cert.Pre_finite_heads.fn (F := Ideal) (m ((c.tc : Thread Cert.AttnFRefIdeal.nD Cert.AttnFRefIdeal.τ).loc Cert.AttnFRefIdeal.main_arg0)) (m ((c.tc : Thread Cert.AttnFRefIdeal.nD Cert.AttnFRefIdeal.τ).loc Cert.AttnFRefIdeal.main_arg1)) (m ((c.tc : Thread Cert.AttnFRefIdeal.nD Cert.AttnFRefIdeal.τ).loc Cert.AttnFRefIdeal.main_arg2))).1 = (fun _ => 1#1)
    ∧ (Cert.Pre_finite_heads.fn (F := Ideal) (m ((c.tc : Thread Cert.AttnFRefIdeal.nD Cert.AttnFRefIdeal.τ).loc Cert.AttnFRefIdeal.main_arg0)) (m ((c.tc : Thread Cert.AttnFRefIdeal.nD Cert.AttnFRefIdeal.τ).loc Cert.AttnFRefIdeal.main_arg1)) (m ((c.tc : Thread Cert.AttnFRefIdeal.nD Cert.AttnFRefIdeal.τ).loc Cert.AttnFRefIdeal.main_arg2))).2 = (fun _ => 1#1)

def Pre_FfnC (m : (ℓ : Loc Cert.FfnC.nD Cert.FfnC.τ Cert.FfnC.sig) → Buf (Elt Bits) ℓ) : Prop :=
  True

def Pre_FfnCIdeal (m : (ℓ : Loc Cert.FfnCIdeal.nD Cert.FfnCIdeal.τ Cert.FfnCIdeal.sig) → Buf (Elt Ideal) ℓ) : Prop :=
  True

def Pre_FfnCRefIdeal (m : (ℓ : Loc Cert.FfnCRefIdeal.nD Cert.FfnCRefIdeal.τ Cert.FfnCRefIdeal.sig) → Buf (Elt Ideal) ℓ) : Prop :=
  True

def Pre_SguF (m : (ℓ : Loc Cert.SguF.nD Cert.SguF.τ Cert.SguF.sig) → Buf (Elt Bits) ℓ) : Prop :=
  True

def Pre_SguFIdeal (m : (ℓ : Loc Cert.SguFIdeal.nD Cert.SguFIdeal.τ Cert.SguFIdeal.sig) → Buf (Elt Ideal) ℓ) : Prop :=
  True

def Pre_SguFRefIdeal (m : (ℓ : Loc Cert.SguFRefIdeal.nD Cert.SguFRefIdeal.τ Cert.SguFRefIdeal.sig) → Buf (Elt Ideal) ℓ) : Prop :=
  True

def Pre_Heads (m : (ℓ : Loc Cert.Heads.nD Cert.Heads.τ Cert.Heads.sig) → Buf (Elt Bits) ℓ) : Prop :=
  True

def Pre_HeadsIdeal (m : (ℓ : Loc Cert.HeadsIdeal.nD Cert.HeadsIdeal.τ Cert.HeadsIdeal.sig) → Buf (Elt Ideal) ℓ) : Prop :=
  True

def Pre_HeadsRefIdeal (m : (ℓ : Loc Cert.HeadsRefIdeal.nD Cert.HeadsRefIdeal.τ Cert.HeadsRefIdeal.sig) → Buf (Elt Ideal) ℓ) : Prop :=
  True

def Pre_OutB (m : (ℓ : Loc Cert.OutB.nD Cert.OutB.τ Cert.OutB.sig) → Buf (Elt Bits) ℓ) : Prop :=
  True

def Pre_OutBIdeal (m : (ℓ : Loc Cert.OutBIdeal.nD Cert.OutBIdeal.τ Cert.OutBIdeal.sig) → Buf (Elt Ideal) ℓ) : Prop :=
  True

def Pre_OutBRefIdeal (m : (ℓ : Loc Cert.OutBRefIdeal.nD Cert.OutBRefIdeal.τ Cert.OutBRefIdeal.sig) → Buf (Elt Ideal) ℓ) : Prop :=
  True

def Pre_OutF (m : (ℓ : Loc Cert.OutF.nD Cert.OutF.τ Cert.OutF.sig) → Buf (Elt Bits) ℓ) : Prop :=
  True

def Pre_OutFIdeal (m : (ℓ : Loc Cert.OutFIdeal.nD Cert.OutFIdeal.τ Cert.OutFIdeal.sig) → Buf (Elt Ideal) ℓ) : Prop :=
  True

def Pre_OutFRefIdeal (m : (ℓ : Loc Cert.OutFRefIdeal.nD Cert.OutFRefIdeal.τ Cert.OutFRefIdeal.sig) → Buf (Elt Ideal) ℓ) : Prop :=
  True

def Pre_Loss (m : (ℓ : Loc Cert.Loss.nD Cert.Loss.τ Cert.Loss.sig) → Buf (Elt Bits) ℓ) : Prop :=
  True

def Pre_LossIdeal (m : (ℓ : Loc Cert.LossIdeal.nD Cert.LossIdeal.τ Cert.LossIdeal.sig) → Buf (Elt Ideal) ℓ) : Prop :=
  True

def Pre_LossRefIdeal (m : (ℓ : Loc Cert.LossRefIdeal.nD Cert.LossRefIdeal.τ Cert.LossRefIdeal.sig) → Buf (Elt Ideal) ℓ) : Prop :=
  True

def Pre_FfnW (m : (ℓ : Loc Cert.FfnW.nD Cert.FfnW.τ Cert.FfnW.sig) → Buf (Elt Bits) ℓ) : Prop :=
  True

def Pre_FfnWIdeal (m : (ℓ : Loc Cert.FfnWIdeal.nD Cert.FfnWIdeal.τ Cert.FfnWIdeal.sig) → Buf (Elt Ideal) ℓ) : Prop :=
  True

def Pre_FfnWRefIdeal (m : (ℓ : Loc Cert.FfnWRefIdeal.nD Cert.FfnWRefIdeal.τ Cert.FfnWRefIdeal.sig) → Buf (Elt Ideal) ℓ) : Prop :=
  True

def quiescent_Attn [hAttn : Cert.Attn.Facts] : Prop :=
  ∀ (m : (ℓ : Loc Cert.Attn.nD Cert.Attn.τ Cert.Attn.sig) → Buf (Elt Bits) ℓ) (g : Dev Cert.Attn.nD → PrngReg), Pre_Attn m →
    θ_run (Cert.Attn.defs (F := Bits)) (onTc (τ := Cert.Attn.τ) (Cert.Attn.main (F := Bits))) ⟨m, fun _ => 0, g⟩ (fun r => (∀ c : Dev Cert.Attn.nD,
      r.2.mem ((c.tc : Thread Cert.Attn.nD Cert.Attn.τ).loc Cert.Attn.main_arg0) = m ((c.tc : Thread Cert.Attn.nD Cert.Attn.τ).loc Cert.Attn.main_arg0)
      ∧ r.2.mem ((c.tc : Thread Cert.Attn.nD Cert.Attn.τ).loc Cert.Attn.main_arg1) = m ((c.tc : Thread Cert.Attn.nD Cert.Attn.τ).loc Cert.Attn.main_arg1)
      ∧ r.2.mem ((c.tc : Thread Cert.Attn.nD Cert.Attn.τ).loc Cert.Attn.main_arg2) = m ((c.tc : Thread Cert.Attn.nD Cert.Attn.τ).loc Cert.Attn.main_arg2)
      ∧ r.2.mem ((c.tc : Thread Cert.Attn.nD Cert.Attn.τ).loc Cert.Attn.main_arg3) = m ((c.tc : Thread Cert.Attn.nD Cert.Attn.τ).loc Cert.Attn.main_arg3))
      ∧ r.2.sem = fun _ => 0)

def quiescent_AttnIdeal [hAttnIdeal : Cert.AttnIdeal.Facts] : Prop :=
  ∀ (m : (ℓ : Loc Cert.AttnIdeal.nD Cert.AttnIdeal.τ Cert.AttnIdeal.sig) → Buf (Elt Ideal) ℓ) (g : Dev Cert.AttnIdeal.nD → PrngReg), Pre_AttnIdeal m →
    θ_run (Cert.AttnIdeal.defs (F := Ideal)) (onTc (τ := Cert.AttnIdeal.τ) (Cert.AttnIdeal.main (F := Ideal))) ⟨m, fun _ => 0, g⟩ (fun r => (∀ c : Dev Cert.AttnIdeal.nD,
      r.2.mem ((c.tc : Thread Cert.AttnIdeal.nD Cert.AttnIdeal.τ).loc Cert.AttnIdeal.main_arg0) = m ((c.tc : Thread Cert.AttnIdeal.nD Cert.AttnIdeal.τ).loc Cert.AttnIdeal.main_arg0)
      ∧ r.2.mem ((c.tc : Thread Cert.AttnIdeal.nD Cert.AttnIdeal.τ).loc Cert.AttnIdeal.main_arg1) = m ((c.tc : Thread Cert.AttnIdeal.nD Cert.AttnIdeal.τ).loc Cert.AttnIdeal.main_arg1)
      ∧ r.2.mem ((c.tc : Thread Cert.AttnIdeal.nD Cert.AttnIdeal.τ).loc Cert.AttnIdeal.main_arg2) = m ((c.tc : Thread Cert.AttnIdeal.nD Cert.AttnIdeal.τ).loc Cert.AttnIdeal.main_arg2)
      ∧ r.2.mem ((c.tc : Thread Cert.AttnIdeal.nD Cert.AttnIdeal.τ).loc Cert.AttnIdeal.main_arg3) = m ((c.tc : Thread Cert.AttnIdeal.nD Cert.AttnIdeal.τ).loc Cert.AttnIdeal.main_arg3))
      ∧ r.2.sem = fun _ => 0)

def quiescent_AttnIdeal_pre_finite_qk [hAttnIdeal : Cert.AttnIdeal.Facts] [hPre_finite_qk : Cert.Pre_finite_qk.Facts] : Prop :=
  ∀ (m : (ℓ : Loc Cert.AttnIdeal.nD Cert.AttnIdeal.τ Cert.AttnIdeal.sig) → Buf (Elt Ideal) ℓ) (g : Dev Cert.AttnIdeal.nD → PrngReg), Pre_AttnIdeal_finite_qk m →
    θ_run (Cert.AttnIdeal.defs (F := Ideal)) (onTc (τ := Cert.AttnIdeal.τ) (Cert.AttnIdeal.main (F := Ideal))) ⟨m, fun _ => 0, g⟩ (fun r => (∀ c : Dev Cert.AttnIdeal.nD,
      r.2.mem ((c.tc : Thread Cert.AttnIdeal.nD Cert.AttnIdeal.τ).loc Cert.AttnIdeal.main_arg0) = m ((c.tc : Thread Cert.AttnIdeal.nD Cert.AttnIdeal.τ).loc Cert.AttnIdeal.main_arg0)
      ∧ r.2.mem ((c.tc : Thread Cert.AttnIdeal.nD Cert.AttnIdeal.τ).loc Cert.AttnIdeal.main_arg1) = m ((c.tc : Thread Cert.AttnIdeal.nD Cert.AttnIdeal.τ).loc Cert.AttnIdeal.main_arg1)
      ∧ r.2.mem ((c.tc : Thread Cert.AttnIdeal.nD Cert.AttnIdeal.τ).loc Cert.AttnIdeal.main_arg2) = m ((c.tc : Thread Cert.AttnIdeal.nD Cert.AttnIdeal.τ).loc Cert.AttnIdeal.main_arg2)
      ∧ r.2.mem ((c.tc : Thread Cert.AttnIdeal.nD Cert.AttnIdeal.τ).loc Cert.AttnIdeal.main_arg3) = m ((c.tc : Thread Cert.AttnIdeal.nD Cert.AttnIdeal.τ).loc Cert.AttnIdeal.main_arg3))
      ∧ r.2.sem = fun _ => 0)

def quiescent_AttnRefIdeal [hAttnRefIdeal : Cert.AttnRefIdeal.Facts] : Prop :=
  ∀ (m : (ℓ : Loc Cert.AttnRefIdeal.nD Cert.AttnRefIdeal.τ Cert.AttnRefIdeal.sig) → Buf (Elt Ideal) ℓ) (g : Dev Cert.AttnRefIdeal.nD → PrngReg), Pre_AttnRefIdeal m →
    θ_run (Cert.AttnRefIdeal.defs (F := Ideal)) (onTc (τ := Cert.AttnRefIdeal.τ) (Cert.AttnRefIdeal.main (F := Ideal))) ⟨m, fun _ => 0, g⟩ (fun r => (∀ c : Dev Cert.AttnRefIdeal.nD,
      r.2.mem ((c.tc : Thread Cert.AttnRefIdeal.nD Cert.AttnRefIdeal.τ).loc Cert.AttnRefIdeal.main_arg0) = m ((c.tc : Thread Cert.AttnRefIdeal.nD Cert.AttnRefIdeal.τ).loc Cert.AttnRefIdeal.main_arg0)
      ∧ r.2.mem ((c.tc : Thread Cert.AttnRefIdeal.nD Cert.AttnRefIdeal.τ).loc Cert.AttnRefIdeal.main_arg1) = m ((c.tc : Thread Cert.AttnRefIdeal.nD Cert.AttnRefIdeal.τ).loc Cert.AttnRefIdeal.main_arg1)
      ∧ r.2.mem ((c.tc : Thread Cert.AttnRefIdeal.nD Cert.AttnRefIdeal.τ).loc Cert.AttnRefIdeal.main_arg2) = m ((c.tc : Thread Cert.AttnRefIdeal.nD Cert.AttnRefIdeal.τ).loc Cert.AttnRefIdeal.main_arg2)
      ∧ r.2.mem ((c.tc : Thread Cert.AttnRefIdeal.nD Cert.AttnRefIdeal.τ).loc Cert.AttnRefIdeal.main_arg3) = m ((c.tc : Thread Cert.AttnRefIdeal.nD Cert.AttnRefIdeal.τ).loc Cert.AttnRefIdeal.main_arg3))
      ∧ r.2.sem = fun _ => 0)

def quiescent_AttnRefIdeal_pre_finite_qk [hAttnRefIdeal : Cert.AttnRefIdeal.Facts] [hPre_finite_qk : Cert.Pre_finite_qk.Facts] : Prop :=
  ∀ (m : (ℓ : Loc Cert.AttnRefIdeal.nD Cert.AttnRefIdeal.τ Cert.AttnRefIdeal.sig) → Buf (Elt Ideal) ℓ) (g : Dev Cert.AttnRefIdeal.nD → PrngReg), Pre_AttnRefIdeal_finite_qk m →
    θ_run (Cert.AttnRefIdeal.defs (F := Ideal)) (onTc (τ := Cert.AttnRefIdeal.τ) (Cert.AttnRefIdeal.main (F := Ideal))) ⟨m, fun _ => 0, g⟩ (fun r => (∀ c : Dev Cert.AttnRefIdeal.nD,
      r.2.mem ((c.tc : Thread Cert.AttnRefIdeal.nD Cert.AttnRefIdeal.τ).loc Cert.AttnRefIdeal.main_arg0) = m ((c.tc : Thread Cert.AttnRefIdeal.nD Cert.AttnRefIdeal.τ).loc Cert.AttnRefIdeal.main_arg0)
      ∧ r.2.mem ((c.tc : Thread Cert.AttnRefIdeal.nD Cert.AttnRefIdeal.τ).loc Cert.AttnRefIdeal.main_arg1) = m ((c.tc : Thread Cert.AttnRefIdeal.nD Cert.AttnRefIdeal.τ).loc Cert.AttnRefIdeal.main_arg1)
      ∧ r.2.mem ((c.tc : Thread Cert.AttnRefIdeal.nD Cert.AttnRefIdeal.τ).loc Cert.AttnRefIdeal.main_arg2) = m ((c.tc : Thread Cert.AttnRefIdeal.nD Cert.AttnRefIdeal.τ).loc Cert.AttnRefIdeal.main_arg2)
      ∧ r.2.mem ((c.tc : Thread Cert.AttnRefIdeal.nD Cert.AttnRefIdeal.τ).loc Cert.AttnRefIdeal.main_arg3) = m ((c.tc : Thread Cert.AttnRefIdeal.nD Cert.AttnRefIdeal.τ).loc Cert.AttnRefIdeal.main_arg3))
      ∧ r.2.sem = fun _ => 0)

def quiescent_FfnA [hFfnA : Cert.FfnA.Facts] : Prop :=
  ∀ (m : (ℓ : Loc Cert.FfnA.nD Cert.FfnA.τ Cert.FfnA.sig) → Buf (Elt Bits) ℓ) (g : Dev Cert.FfnA.nD → PrngReg), Pre_FfnA m →
    θ_run (Cert.FfnA.defs (F := Bits)) (onTc (τ := Cert.FfnA.τ) (Cert.FfnA.main (F := Bits))) ⟨m, fun _ => 0, g⟩ (fun r => (∀ c : Dev Cert.FfnA.nD,
      r.2.mem ((c.tc : Thread Cert.FfnA.nD Cert.FfnA.τ).loc Cert.FfnA.main_arg0) = m ((c.tc : Thread Cert.FfnA.nD Cert.FfnA.τ).loc Cert.FfnA.main_arg0)
      ∧ r.2.mem ((c.tc : Thread Cert.FfnA.nD Cert.FfnA.τ).loc Cert.FfnA.main_arg1) = m ((c.tc : Thread Cert.FfnA.nD Cert.FfnA.τ).loc Cert.FfnA.main_arg1)
      ∧ r.2.mem ((c.tc : Thread Cert.FfnA.nD Cert.FfnA.τ).loc Cert.FfnA.main_arg2) = m ((c.tc : Thread Cert.FfnA.nD Cert.FfnA.τ).loc Cert.FfnA.main_arg2)
      ∧ r.2.mem ((c.tc : Thread Cert.FfnA.nD Cert.FfnA.τ).loc Cert.FfnA.main_arg3) = m ((c.tc : Thread Cert.FfnA.nD Cert.FfnA.τ).loc Cert.FfnA.main_arg3)
      ∧ r.2.mem ((c.tc : Thread Cert.FfnA.nD Cert.FfnA.τ).loc Cert.FfnA.main_arg4) = m ((c.tc : Thread Cert.FfnA.nD Cert.FfnA.τ).loc Cert.FfnA.main_arg4)
      ∧ r.2.mem ((c.tc : Thread Cert.FfnA.nD Cert.FfnA.τ).loc Cert.FfnA.main_arg5) = m ((c.tc : Thread Cert.FfnA.nD Cert.FfnA.τ).loc Cert.FfnA.main_arg5)
      ∧ r.2.mem ((c.tc : Thread Cert.FfnA.nD Cert.FfnA.τ).loc Cert.FfnA.main_arg6) = m ((c.tc : Thread Cert.FfnA.nD Cert.FfnA.τ).loc Cert.FfnA.main_arg6)
      ∧ r.2.mem ((c.tc : Thread Cert.FfnA.nD Cert.FfnA.τ).loc Cert.FfnA.main_arg7) = m ((c.tc : Thread Cert.FfnA.nD Cert.FfnA.τ).loc Cert.FfnA.main_arg7))
      ∧ r.2.sem = fun _ => 0)

def quiescent_FfnAIdeal [hFfnAIdeal : Cert.FfnAIdeal.Facts] : Prop :=
  ∀ (m : (ℓ : Loc Cert.FfnAIdeal.nD Cert.FfnAIdeal.τ Cert.FfnAIdeal.sig) → Buf (Elt Ideal) ℓ) (g : Dev Cert.FfnAIdeal.nD → PrngReg), Pre_FfnAIdeal m →
    θ_run (Cert.FfnAIdeal.defs (F := Ideal)) (onTc (τ := Cert.FfnAIdeal.τ) (Cert.FfnAIdeal.main (F := Ideal))) ⟨m, fun _ => 0, g⟩ (fun r => (∀ c : Dev Cert.FfnAIdeal.nD,
      r.2.mem ((c.tc : Thread Cert.FfnAIdeal.nD Cert.FfnAIdeal.τ).loc Cert.FfnAIdeal.main_arg0) = m ((c.tc : Thread Cert.FfnAIdeal.nD Cert.FfnAIdeal.τ).loc Cert.FfnAIdeal.main_arg0)
      ∧ r.2.mem ((c.tc : Thread Cert.FfnAIdeal.nD Cert.FfnAIdeal.τ).loc Cert.FfnAIdeal.main_arg1) = m ((c.tc : Thread Cert.FfnAIdeal.nD Cert.FfnAIdeal.τ).loc Cert.FfnAIdeal.main_arg1)
      ∧ r.2.mem ((c.tc : Thread Cert.FfnAIdeal.nD Cert.FfnAIdeal.τ).loc Cert.FfnAIdeal.main_arg2) = m ((c.tc : Thread Cert.FfnAIdeal.nD Cert.FfnAIdeal.τ).loc Cert.FfnAIdeal.main_arg2)
      ∧ r.2.mem ((c.tc : Thread Cert.FfnAIdeal.nD Cert.FfnAIdeal.τ).loc Cert.FfnAIdeal.main_arg3) = m ((c.tc : Thread Cert.FfnAIdeal.nD Cert.FfnAIdeal.τ).loc Cert.FfnAIdeal.main_arg3)
      ∧ r.2.mem ((c.tc : Thread Cert.FfnAIdeal.nD Cert.FfnAIdeal.τ).loc Cert.FfnAIdeal.main_arg4) = m ((c.tc : Thread Cert.FfnAIdeal.nD Cert.FfnAIdeal.τ).loc Cert.FfnAIdeal.main_arg4)
      ∧ r.2.mem ((c.tc : Thread Cert.FfnAIdeal.nD Cert.FfnAIdeal.τ).loc Cert.FfnAIdeal.main_arg5) = m ((c.tc : Thread Cert.FfnAIdeal.nD Cert.FfnAIdeal.τ).loc Cert.FfnAIdeal.main_arg5)
      ∧ r.2.mem ((c.tc : Thread Cert.FfnAIdeal.nD Cert.FfnAIdeal.τ).loc Cert.FfnAIdeal.main_arg6) = m ((c.tc : Thread Cert.FfnAIdeal.nD Cert.FfnAIdeal.τ).loc Cert.FfnAIdeal.main_arg6)
      ∧ r.2.mem ((c.tc : Thread Cert.FfnAIdeal.nD Cert.FfnAIdeal.τ).loc Cert.FfnAIdeal.main_arg7) = m ((c.tc : Thread Cert.FfnAIdeal.nD Cert.FfnAIdeal.τ).loc Cert.FfnAIdeal.main_arg7))
      ∧ r.2.sem = fun _ => 0)

def quiescent_FfnARefIdeal [hFfnARefIdeal : Cert.FfnARefIdeal.Facts] : Prop :=
  ∀ (m : (ℓ : Loc Cert.FfnARefIdeal.nD Cert.FfnARefIdeal.τ Cert.FfnARefIdeal.sig) → Buf (Elt Ideal) ℓ) (g : Dev Cert.FfnARefIdeal.nD → PrngReg), Pre_FfnARefIdeal m →
    θ_run (Cert.FfnARefIdeal.defs (F := Ideal)) (onTc (τ := Cert.FfnARefIdeal.τ) (Cert.FfnARefIdeal.main (F := Ideal))) ⟨m, fun _ => 0, g⟩ (fun r => (∀ c : Dev Cert.FfnARefIdeal.nD,
      r.2.mem ((c.tc : Thread Cert.FfnARefIdeal.nD Cert.FfnARefIdeal.τ).loc Cert.FfnARefIdeal.main_arg0) = m ((c.tc : Thread Cert.FfnARefIdeal.nD Cert.FfnARefIdeal.τ).loc Cert.FfnARefIdeal.main_arg0)
      ∧ r.2.mem ((c.tc : Thread Cert.FfnARefIdeal.nD Cert.FfnARefIdeal.τ).loc Cert.FfnARefIdeal.main_arg1) = m ((c.tc : Thread Cert.FfnARefIdeal.nD Cert.FfnARefIdeal.τ).loc Cert.FfnARefIdeal.main_arg1)
      ∧ r.2.mem ((c.tc : Thread Cert.FfnARefIdeal.nD Cert.FfnARefIdeal.τ).loc Cert.FfnARefIdeal.main_arg2) = m ((c.tc : Thread Cert.FfnARefIdeal.nD Cert.FfnARefIdeal.τ).loc Cert.FfnARefIdeal.main_arg2)
      ∧ r.2.mem ((c.tc : Thread Cert.FfnARefIdeal.nD Cert.FfnARefIdeal.τ).loc Cert.FfnARefIdeal.main_arg3) = m ((c.tc : Thread Cert.FfnARefIdeal.nD Cert.FfnARefIdeal.τ).loc Cert.FfnARefIdeal.main_arg3)
      ∧ r.2.mem ((c.tc : Thread Cert.FfnARefIdeal.nD Cert.FfnARefIdeal.τ).loc Cert.FfnARefIdeal.main_arg4) = m ((c.tc : Thread Cert.FfnARefIdeal.nD Cert.FfnARefIdeal.τ).loc Cert.FfnARefIdeal.main_arg4)
      ∧ r.2.mem ((c.tc : Thread Cert.FfnARefIdeal.nD Cert.FfnARefIdeal.τ).loc Cert.FfnARefIdeal.main_arg5) = m ((c.tc : Thread Cert.FfnARefIdeal.nD Cert.FfnARefIdeal.τ).loc Cert.FfnARefIdeal.main_arg5)
      ∧ r.2.mem ((c.tc : Thread Cert.FfnARefIdeal.nD Cert.FfnARefIdeal.τ).loc Cert.FfnARefIdeal.main_arg6) = m ((c.tc : Thread Cert.FfnARefIdeal.nD Cert.FfnARefIdeal.τ).loc Cert.FfnARefIdeal.main_arg6)
      ∧ r.2.mem ((c.tc : Thread Cert.FfnARefIdeal.nD Cert.FfnARefIdeal.τ).loc Cert.FfnARefIdeal.main_arg7) = m ((c.tc : Thread Cert.FfnARefIdeal.nD Cert.FfnARefIdeal.τ).loc Cert.FfnARefIdeal.main_arg7))
      ∧ r.2.sem = fun _ => 0)

def quiescent_Sgu [hSgu : Cert.Sgu.Facts] : Prop :=
  ∀ (m : (ℓ : Loc Cert.Sgu.nD Cert.Sgu.τ Cert.Sgu.sig) → Buf (Elt Bits) ℓ) (g : Dev Cert.Sgu.nD → PrngReg), Pre_Sgu m →
    θ_run (Cert.Sgu.defs (F := Bits)) (onTc (τ := Cert.Sgu.τ) (Cert.Sgu.main (F := Bits))) ⟨m, fun _ => 0, g⟩ (fun r => (∀ c : Dev Cert.Sgu.nD,
      r.2.mem ((c.tc : Thread Cert.Sgu.nD Cert.Sgu.τ).loc Cert.Sgu.main_arg0) = m ((c.tc : Thread Cert.Sgu.nD Cert.Sgu.τ).loc Cert.Sgu.main_arg0)
      ∧ r.2.mem ((c.tc : Thread Cert.Sgu.nD Cert.Sgu.τ).loc Cert.Sgu.main_arg1) = m ((c.tc : Thread Cert.Sgu.nD Cert.Sgu.τ).loc Cert.Sgu.main_arg1)
      ∧ r.2.mem ((c.tc : Thread Cert.Sgu.nD Cert.Sgu.τ).loc Cert.Sgu.main_arg2) = m ((c.tc : Thread Cert.Sgu.nD Cert.Sgu.τ).loc Cert.Sgu.main_arg2)
      ∧ r.2.mem ((c.tc : Thread Cert.Sgu.nD Cert.Sgu.τ).loc Cert.Sgu.main_arg3) = m ((c.tc : Thread Cert.Sgu.nD Cert.Sgu.τ).loc Cert.Sgu.main_arg3)
      ∧ r.2.mem ((c.tc : Thread Cert.Sgu.nD Cert.Sgu.τ).loc Cert.Sgu.main_arg4) = m ((c.tc : Thread Cert.Sgu.nD Cert.Sgu.τ).loc Cert.Sgu.main_arg4)
      ∧ r.2.mem ((c.tc : Thread Cert.Sgu.nD Cert.Sgu.τ).loc Cert.Sgu.main_arg5) = m ((c.tc : Thread Cert.Sgu.nD Cert.Sgu.τ).loc Cert.Sgu.main_arg5)
      ∧ r.2.mem ((c.tc : Thread Cert.Sgu.nD Cert.Sgu.τ).loc Cert.Sgu.main_arg6) = m ((c.tc : Thread Cert.Sgu.nD Cert.Sgu.τ).loc Cert.Sgu.main_arg6)
      ∧ r.2.mem ((c.tc : Thread Cert.Sgu.nD Cert.Sgu.τ).loc Cert.Sgu.main_arg7) = m ((c.tc : Thread Cert.Sgu.nD Cert.Sgu.τ).loc Cert.Sgu.main_arg7)
      ∧ r.2.mem ((c.tc : Thread Cert.Sgu.nD Cert.Sgu.τ).loc Cert.Sgu.main_arg8) = m ((c.tc : Thread Cert.Sgu.nD Cert.Sgu.τ).loc Cert.Sgu.main_arg8))
      ∧ r.2.sem = fun _ => 0)

def quiescent_SguIdeal [hSguIdeal : Cert.SguIdeal.Facts] : Prop :=
  ∀ (m : (ℓ : Loc Cert.SguIdeal.nD Cert.SguIdeal.τ Cert.SguIdeal.sig) → Buf (Elt Ideal) ℓ) (g : Dev Cert.SguIdeal.nD → PrngReg), Pre_SguIdeal m →
    θ_run (Cert.SguIdeal.defs (F := Ideal)) (onTc (τ := Cert.SguIdeal.τ) (Cert.SguIdeal.main (F := Ideal))) ⟨m, fun _ => 0, g⟩ (fun r => (∀ c : Dev Cert.SguIdeal.nD,
      r.2.mem ((c.tc : Thread Cert.SguIdeal.nD Cert.SguIdeal.τ).loc Cert.SguIdeal.main_arg0) = m ((c.tc : Thread Cert.SguIdeal.nD Cert.SguIdeal.τ).loc Cert.SguIdeal.main_arg0)
      ∧ r.2.mem ((c.tc : Thread Cert.SguIdeal.nD Cert.SguIdeal.τ).loc Cert.SguIdeal.main_arg1) = m ((c.tc : Thread Cert.SguIdeal.nD Cert.SguIdeal.τ).loc Cert.SguIdeal.main_arg1)
      ∧ r.2.mem ((c.tc : Thread Cert.SguIdeal.nD Cert.SguIdeal.τ).loc Cert.SguIdeal.main_arg2) = m ((c.tc : Thread Cert.SguIdeal.nD Cert.SguIdeal.τ).loc Cert.SguIdeal.main_arg2)
      ∧ r.2.mem ((c.tc : Thread Cert.SguIdeal.nD Cert.SguIdeal.τ).loc Cert.SguIdeal.main_arg3) = m ((c.tc : Thread Cert.SguIdeal.nD Cert.SguIdeal.τ).loc Cert.SguIdeal.main_arg3)
      ∧ r.2.mem ((c.tc : Thread Cert.SguIdeal.nD Cert.SguIdeal.τ).loc Cert.SguIdeal.main_arg4) = m ((c.tc : Thread Cert.SguIdeal.nD Cert.SguIdeal.τ).loc Cert.SguIdeal.main_arg4)
      ∧ r.2.mem ((c.tc : Thread Cert.SguIdeal.nD Cert.SguIdeal.τ).loc Cert.SguIdeal.main_arg5) = m ((c.tc : Thread Cert.SguIdeal.nD Cert.SguIdeal.τ).loc Cert.SguIdeal.main_arg5)
      ∧ r.2.mem ((c.tc : Thread Cert.SguIdeal.nD Cert.SguIdeal.τ).loc Cert.SguIdeal.main_arg6) = m ((c.tc : Thread Cert.SguIdeal.nD Cert.SguIdeal.τ).loc Cert.SguIdeal.main_arg6)
      ∧ r.2.mem ((c.tc : Thread Cert.SguIdeal.nD Cert.SguIdeal.τ).loc Cert.SguIdeal.main_arg7) = m ((c.tc : Thread Cert.SguIdeal.nD Cert.SguIdeal.τ).loc Cert.SguIdeal.main_arg7)
      ∧ r.2.mem ((c.tc : Thread Cert.SguIdeal.nD Cert.SguIdeal.τ).loc Cert.SguIdeal.main_arg8) = m ((c.tc : Thread Cert.SguIdeal.nD Cert.SguIdeal.τ).loc Cert.SguIdeal.main_arg8))
      ∧ r.2.sem = fun _ => 0)

def quiescent_SguRefIdeal [hSguRefIdeal : Cert.SguRefIdeal.Facts] : Prop :=
  ∀ (m : (ℓ : Loc Cert.SguRefIdeal.nD Cert.SguRefIdeal.τ Cert.SguRefIdeal.sig) → Buf (Elt Ideal) ℓ) (g : Dev Cert.SguRefIdeal.nD → PrngReg), Pre_SguRefIdeal m →
    θ_run (Cert.SguRefIdeal.defs (F := Ideal)) (onTc (τ := Cert.SguRefIdeal.τ) (Cert.SguRefIdeal.main (F := Ideal))) ⟨m, fun _ => 0, g⟩ (fun r => (∀ c : Dev Cert.SguRefIdeal.nD,
      r.2.mem ((c.tc : Thread Cert.SguRefIdeal.nD Cert.SguRefIdeal.τ).loc Cert.SguRefIdeal.main_arg0) = m ((c.tc : Thread Cert.SguRefIdeal.nD Cert.SguRefIdeal.τ).loc Cert.SguRefIdeal.main_arg0)
      ∧ r.2.mem ((c.tc : Thread Cert.SguRefIdeal.nD Cert.SguRefIdeal.τ).loc Cert.SguRefIdeal.main_arg1) = m ((c.tc : Thread Cert.SguRefIdeal.nD Cert.SguRefIdeal.τ).loc Cert.SguRefIdeal.main_arg1)
      ∧ r.2.mem ((c.tc : Thread Cert.SguRefIdeal.nD Cert.SguRefIdeal.τ).loc Cert.SguRefIdeal.main_arg2) = m ((c.tc : Thread Cert.SguRefIdeal.nD Cert.SguRefIdeal.τ).loc Cert.SguRefIdeal.main_arg2)
      ∧ r.2.mem ((c.tc : Thread Cert.SguRefIdeal.nD Cert.SguRefIdeal.τ).loc Cert.SguRefIdeal.main_arg3) = m ((c.tc : Thread Cert.SguRefIdeal.nD Cert.SguRefIdeal.τ).loc Cert.SguRefIdeal.main_arg3)
      ∧ r.2.mem ((c.tc : Thread Cert.SguRefIdeal.nD Cert.SguRefIdeal.τ).loc Cert.SguRefIdeal.main_arg4) = m ((c.tc : Thread Cert.SguRefIdeal.nD Cert.SguRefIdeal.τ).loc Cert.SguRefIdeal.main_arg4)
      ∧ r.2.mem ((c.tc : Thread Cert.SguRefIdeal.nD Cert.SguRefIdeal.τ).loc Cert.SguRefIdeal.main_arg5) = m ((c.tc : Thread Cert.SguRefIdeal.nD Cert.SguRefIdeal.τ).loc Cert.SguRefIdeal.main_arg5)
      ∧ r.2.mem ((c.tc : Thread Cert.SguRefIdeal.nD Cert.SguRefIdeal.τ).loc Cert.SguRefIdeal.main_arg6) = m ((c.tc : Thread Cert.SguRefIdeal.nD Cert.SguRefIdeal.τ).loc Cert.SguRefIdeal.main_arg6)
      ∧ r.2.mem ((c.tc : Thread Cert.SguRefIdeal.nD Cert.SguRefIdeal.τ).loc Cert.SguRefIdeal.main_arg7) = m ((c.tc : Thread Cert.SguRefIdeal.nD Cert.SguRefIdeal.τ).loc Cert.SguRefIdeal.main_arg7)
      ∧ r.2.mem ((c.tc : Thread Cert.SguRefIdeal.nD Cert.SguRefIdeal.τ).loc Cert.SguRefIdeal.main_arg8) = m ((c.tc : Thread Cert.SguRefIdeal.nD Cert.SguRefIdeal.τ).loc Cert.SguRefIdeal.main_arg8))
      ∧ r.2.sem = fun _ => 0)

def quiescent_AttnF [hAttnF : Cert.AttnF.Facts] : Prop :=
  ∀ (m : (ℓ : Loc Cert.AttnF.nD Cert.AttnF.τ Cert.AttnF.sig) → Buf (Elt Bits) ℓ) (g : Dev Cert.AttnF.nD → PrngReg), Pre_AttnF m →
    θ_run (Cert.AttnF.defs (F := Bits)) (onTc (τ := Cert.AttnF.τ) (Cert.AttnF.main (F := Bits))) ⟨m, fun _ => 0, g⟩ (fun r => (∀ c : Dev Cert.AttnF.nD,
      r.2.mem ((c.tc : Thread Cert.AttnF.nD Cert.AttnF.τ).loc Cert.AttnF.main_arg0) = m ((c.tc : Thread Cert.AttnF.nD Cert.AttnF.τ).loc Cert.AttnF.main_arg0)
      ∧ r.2.mem ((c.tc : Thread Cert.AttnF.nD Cert.AttnF.τ).loc Cert.AttnF.main_arg1) = m ((c.tc : Thread Cert.AttnF.nD Cert.AttnF.τ).loc Cert.AttnF.main_arg1)
      ∧ r.2.mem ((c.tc : Thread Cert.AttnF.nD Cert.AttnF.τ).loc Cert.AttnF.main_arg2) = m ((c.tc : Thread Cert.AttnF.nD Cert.AttnF.τ).loc Cert.AttnF.main_arg2))
      ∧ r.2.sem = fun _ => 0)

def quiescent_AttnFIdeal [hAttnFIdeal : Cert.AttnFIdeal.Facts] : Prop :=
  ∀ (m : (ℓ : Loc Cert.AttnFIdeal.nD Cert.AttnFIdeal.τ Cert.AttnFIdeal.sig) → Buf (Elt Ideal) ℓ) (g : Dev Cert.AttnFIdeal.nD → PrngReg), Pre_AttnFIdeal m →
    θ_run (Cert.AttnFIdeal.defs (F := Ideal)) (onTc (τ := Cert.AttnFIdeal.τ) (Cert.AttnFIdeal.main (F := Ideal))) ⟨m, fun _ => 0, g⟩ (fun r => (∀ c : Dev Cert.AttnFIdeal.nD,
      r.2.mem ((c.tc : Thread Cert.AttnFIdeal.nD Cert.AttnFIdeal.τ).loc Cert.AttnFIdeal.main_arg0) = m ((c.tc : Thread Cert.AttnFIdeal.nD Cert.AttnFIdeal.τ).loc Cert.AttnFIdeal.main_arg0)
      ∧ r.2.mem ((c.tc : Thread Cert.AttnFIdeal.nD Cert.AttnFIdeal.τ).loc Cert.AttnFIdeal.main_arg1) = m ((c.tc : Thread Cert.AttnFIdeal.nD Cert.AttnFIdeal.τ).loc Cert.AttnFIdeal.main_arg1)
      ∧ r.2.mem ((c.tc : Thread Cert.AttnFIdeal.nD Cert.AttnFIdeal.τ).loc Cert.AttnFIdeal.main_arg2) = m ((c.tc : Thread Cert.AttnFIdeal.nD Cert.AttnFIdeal.τ).loc Cert.AttnFIdeal.main_arg2))
      ∧ r.2.sem = fun _ => 0)

def quiescent_AttnFIdeal_pre_finite_heads [hAttnFIdeal : Cert.AttnFIdeal.Facts] [hPre_finite_heads : Cert.Pre_finite_heads.Facts] : Prop :=
  ∀ (m : (ℓ : Loc Cert.AttnFIdeal.nD Cert.AttnFIdeal.τ Cert.AttnFIdeal.sig) → Buf (Elt Ideal) ℓ) (g : Dev Cert.AttnFIdeal.nD → PrngReg), Pre_AttnFIdeal_finite_heads m →
    θ_run (Cert.AttnFIdeal.defs (F := Ideal)) (onTc (τ := Cert.AttnFIdeal.τ) (Cert.AttnFIdeal.main (F := Ideal))) ⟨m, fun _ => 0, g⟩ (fun r => (∀ c : Dev Cert.AttnFIdeal.nD,
      r.2.mem ((c.tc : Thread Cert.AttnFIdeal.nD Cert.AttnFIdeal.τ).loc Cert.AttnFIdeal.main_arg0) = m ((c.tc : Thread Cert.AttnFIdeal.nD Cert.AttnFIdeal.τ).loc Cert.AttnFIdeal.main_arg0)
      ∧ r.2.mem ((c.tc : Thread Cert.AttnFIdeal.nD Cert.AttnFIdeal.τ).loc Cert.AttnFIdeal.main_arg1) = m ((c.tc : Thread Cert.AttnFIdeal.nD Cert.AttnFIdeal.τ).loc Cert.AttnFIdeal.main_arg1)
      ∧ r.2.mem ((c.tc : Thread Cert.AttnFIdeal.nD Cert.AttnFIdeal.τ).loc Cert.AttnFIdeal.main_arg2) = m ((c.tc : Thread Cert.AttnFIdeal.nD Cert.AttnFIdeal.τ).loc Cert.AttnFIdeal.main_arg2))
      ∧ r.2.sem = fun _ => 0)

def quiescent_AttnFRefIdeal [hAttnFRefIdeal : Cert.AttnFRefIdeal.Facts] : Prop :=
  ∀ (m : (ℓ : Loc Cert.AttnFRefIdeal.nD Cert.AttnFRefIdeal.τ Cert.AttnFRefIdeal.sig) → Buf (Elt Ideal) ℓ) (g : Dev Cert.AttnFRefIdeal.nD → PrngReg), Pre_AttnFRefIdeal m →
    θ_run (Cert.AttnFRefIdeal.defs (F := Ideal)) (onTc (τ := Cert.AttnFRefIdeal.τ) (Cert.AttnFRefIdeal.main (F := Ideal))) ⟨m, fun _ => 0, g⟩ (fun r => (∀ c : Dev Cert.AttnFRefIdeal.nD,
      r.2.mem ((c.tc : Thread Cert.AttnFRefIdeal.nD Cert.AttnFRefIdeal.τ).loc Cert.AttnFRefIdeal.main_arg0) = m ((c.tc : Thread Cert.AttnFRefIdeal.nD Cert.AttnFRefIdeal.τ).loc Cert.AttnFRefIdeal.main_arg0)
      ∧ r.2.mem ((c.tc : Thread Cert.AttnFRefIdeal.nD Cert.AttnFRefIdeal.τ).loc Cert.AttnFRefIdeal.main_arg1) = m ((c.tc : Thread Cert.AttnFRefIdeal.nD Cert.AttnFRefIdeal.τ).loc Cert.AttnFRefIdeal.main_arg1)
      ∧ r.2.mem ((c.tc : Thread Cert.AttnFRefIdeal.nD Cert.AttnFRefIdeal.τ).loc Cert.AttnFRefIdeal.main_arg2) = m ((c.tc : Thread Cert.AttnFRefIdeal.nD Cert.AttnFRefIdeal.τ).loc Cert.AttnFRefIdeal.main_arg2))
      ∧ r.2.sem = fun _ => 0)

def quiescent_AttnFRefIdeal_pre_finite_heads [hAttnFRefIdeal : Cert.AttnFRefIdeal.Facts] [hPre_finite_heads : Cert.Pre_finite_heads.Facts] : Prop :=
  ∀ (m : (ℓ : Loc Cert.AttnFRefIdeal.nD Cert.AttnFRefIdeal.τ Cert.AttnFRefIdeal.sig) → Buf (Elt Ideal) ℓ) (g : Dev Cert.AttnFRefIdeal.nD → PrngReg), Pre_AttnFRefIdeal_finite_heads m →
    θ_run (Cert.AttnFRefIdeal.defs (F := Ideal)) (onTc (τ := Cert.AttnFRefIdeal.τ) (Cert.AttnFRefIdeal.main (F := Ideal))) ⟨m, fun _ => 0, g⟩ (fun r => (∀ c : Dev Cert.AttnFRefIdeal.nD,
      r.2.mem ((c.tc : Thread Cert.AttnFRefIdeal.nD Cert.AttnFRefIdeal.τ).loc Cert.AttnFRefIdeal.main_arg0) = m ((c.tc : Thread Cert.AttnFRefIdeal.nD Cert.AttnFRefIdeal.τ).loc Cert.AttnFRefIdeal.main_arg0)
      ∧ r.2.mem ((c.tc : Thread Cert.AttnFRefIdeal.nD Cert.AttnFRefIdeal.τ).loc Cert.AttnFRefIdeal.main_arg1) = m ((c.tc : Thread Cert.AttnFRefIdeal.nD Cert.AttnFRefIdeal.τ).loc Cert.AttnFRefIdeal.main_arg1)
      ∧ r.2.mem ((c.tc : Thread Cert.AttnFRefIdeal.nD Cert.AttnFRefIdeal.τ).loc Cert.AttnFRefIdeal.main_arg2) = m ((c.tc : Thread Cert.AttnFRefIdeal.nD Cert.AttnFRefIdeal.τ).loc Cert.AttnFRefIdeal.main_arg2))
      ∧ r.2.sem = fun _ => 0)

def quiescent_FfnC [hFfnC : Cert.FfnC.Facts] : Prop :=
  ∀ (m : (ℓ : Loc Cert.FfnC.nD Cert.FfnC.τ Cert.FfnC.sig) → Buf (Elt Bits) ℓ) (g : Dev Cert.FfnC.nD → PrngReg), Pre_FfnC m →
    θ_run (Cert.FfnC.defs (F := Bits)) (onTc (τ := Cert.FfnC.τ) (Cert.FfnC.main (F := Bits))) ⟨m, fun _ => 0, g⟩ (fun r => (∀ c : Dev Cert.FfnC.nD,
      r.2.mem ((c.tc : Thread Cert.FfnC.nD Cert.FfnC.τ).loc Cert.FfnC.main_arg0) = m ((c.tc : Thread Cert.FfnC.nD Cert.FfnC.τ).loc Cert.FfnC.main_arg0)
      ∧ r.2.mem ((c.tc : Thread Cert.FfnC.nD Cert.FfnC.τ).loc Cert.FfnC.main_arg1) = m ((c.tc : Thread Cert.FfnC.nD Cert.FfnC.τ).loc Cert.FfnC.main_arg1)
      ∧ r.2.mem ((c.tc : Thread Cert.FfnC.nD Cert.FfnC.τ).loc Cert.FfnC.main_arg2) = m ((c.tc : Thread Cert.FfnC.nD Cert.FfnC.τ).loc Cert.FfnC.main_arg2)
      ∧ r.2.mem ((c.tc : Thread Cert.FfnC.nD Cert.FfnC.τ).loc Cert.FfnC.main_arg3) = m ((c.tc : Thread Cert.FfnC.nD Cert.FfnC.τ).loc Cert.FfnC.main_arg3))
      ∧ r.2.sem = fun _ => 0)

def quiescent_FfnCIdeal [hFfnCIdeal : Cert.FfnCIdeal.Facts] : Prop :=
  ∀ (m : (ℓ : Loc Cert.FfnCIdeal.nD Cert.FfnCIdeal.τ Cert.FfnCIdeal.sig) → Buf (Elt Ideal) ℓ) (g : Dev Cert.FfnCIdeal.nD → PrngReg), Pre_FfnCIdeal m →
    θ_run (Cert.FfnCIdeal.defs (F := Ideal)) (onTc (τ := Cert.FfnCIdeal.τ) (Cert.FfnCIdeal.main (F := Ideal))) ⟨m, fun _ => 0, g⟩ (fun r => (∀ c : Dev Cert.FfnCIdeal.nD,
      r.2.mem ((c.tc : Thread Cert.FfnCIdeal.nD Cert.FfnCIdeal.τ).loc Cert.FfnCIdeal.main_arg0) = m ((c.tc : Thread Cert.FfnCIdeal.nD Cert.FfnCIdeal.τ).loc Cert.FfnCIdeal.main_arg0)
      ∧ r.2.mem ((c.tc : Thread Cert.FfnCIdeal.nD Cert.FfnCIdeal.τ).loc Cert.FfnCIdeal.main_arg1) = m ((c.tc : Thread Cert.FfnCIdeal.nD Cert.FfnCIdeal.τ).loc Cert.FfnCIdeal.main_arg1)
      ∧ r.2.mem ((c.tc : Thread Cert.FfnCIdeal.nD Cert.FfnCIdeal.τ).loc Cert.FfnCIdeal.main_arg2) = m ((c.tc : Thread Cert.FfnCIdeal.nD Cert.FfnCIdeal.τ).loc Cert.FfnCIdeal.main_arg2)
      ∧ r.2.mem ((c.tc : Thread Cert.FfnCIdeal.nD Cert.FfnCIdeal.τ).loc Cert.FfnCIdeal.main_arg3) = m ((c.tc : Thread Cert.FfnCIdeal.nD Cert.FfnCIdeal.τ).loc Cert.FfnCIdeal.main_arg3))
      ∧ r.2.sem = fun _ => 0)

def quiescent_FfnCRefIdeal [hFfnCRefIdeal : Cert.FfnCRefIdeal.Facts] : Prop :=
  ∀ (m : (ℓ : Loc Cert.FfnCRefIdeal.nD Cert.FfnCRefIdeal.τ Cert.FfnCRefIdeal.sig) → Buf (Elt Ideal) ℓ) (g : Dev Cert.FfnCRefIdeal.nD → PrngReg), Pre_FfnCRefIdeal m →
    θ_run (Cert.FfnCRefIdeal.defs (F := Ideal)) (onTc (τ := Cert.FfnCRefIdeal.τ) (Cert.FfnCRefIdeal.main (F := Ideal))) ⟨m, fun _ => 0, g⟩ (fun r => (∀ c : Dev Cert.FfnCRefIdeal.nD,
      r.2.mem ((c.tc : Thread Cert.FfnCRefIdeal.nD Cert.FfnCRefIdeal.τ).loc Cert.FfnCRefIdeal.main_arg0) = m ((c.tc : Thread Cert.FfnCRefIdeal.nD Cert.FfnCRefIdeal.τ).loc Cert.FfnCRefIdeal.main_arg0)
      ∧ r.2.mem ((c.tc : Thread Cert.FfnCRefIdeal.nD Cert.FfnCRefIdeal.τ).loc Cert.FfnCRefIdeal.main_arg1) = m ((c.tc : Thread Cert.FfnCRefIdeal.nD Cert.FfnCRefIdeal.τ).loc Cert.FfnCRefIdeal.main_arg1)
      ∧ r.2.mem ((c.tc : Thread Cert.FfnCRefIdeal.nD Cert.FfnCRefIdeal.τ).loc Cert.FfnCRefIdeal.main_arg2) = m ((c.tc : Thread Cert.FfnCRefIdeal.nD Cert.FfnCRefIdeal.τ).loc Cert.FfnCRefIdeal.main_arg2)
      ∧ r.2.mem ((c.tc : Thread Cert.FfnCRefIdeal.nD Cert.FfnCRefIdeal.τ).loc Cert.FfnCRefIdeal.main_arg3) = m ((c.tc : Thread Cert.FfnCRefIdeal.nD Cert.FfnCRefIdeal.τ).loc Cert.FfnCRefIdeal.main_arg3))
      ∧ r.2.sem = fun _ => 0)

def quiescent_SguF [hSguF : Cert.SguF.Facts] : Prop :=
  ∀ (m : (ℓ : Loc Cert.SguF.nD Cert.SguF.τ Cert.SguF.sig) → Buf (Elt Bits) ℓ) (g : Dev Cert.SguF.nD → PrngReg), Pre_SguF m →
    θ_run (Cert.SguF.defs (F := Bits)) (onTc (τ := Cert.SguF.τ) (Cert.SguF.main (F := Bits))) ⟨m, fun _ => 0, g⟩ (fun r => (∀ c : Dev Cert.SguF.nD,
      r.2.mem ((c.tc : Thread Cert.SguF.nD Cert.SguF.τ).loc Cert.SguF.main_arg0) = m ((c.tc : Thread Cert.SguF.nD Cert.SguF.τ).loc Cert.SguF.main_arg0)
      ∧ r.2.mem ((c.tc : Thread Cert.SguF.nD Cert.SguF.τ).loc Cert.SguF.main_arg1) = m ((c.tc : Thread Cert.SguF.nD Cert.SguF.τ).loc Cert.SguF.main_arg1)
      ∧ r.2.mem ((c.tc : Thread Cert.SguF.nD Cert.SguF.τ).loc Cert.SguF.main_arg2) = m ((c.tc : Thread Cert.SguF.nD Cert.SguF.τ).loc Cert.SguF.main_arg2)
      ∧ r.2.mem ((c.tc : Thread Cert.SguF.nD Cert.SguF.τ).loc Cert.SguF.main_arg3) = m ((c.tc : Thread Cert.SguF.nD Cert.SguF.τ).loc Cert.SguF.main_arg3)
      ∧ r.2.mem ((c.tc : Thread Cert.SguF.nD Cert.SguF.τ).loc Cert.SguF.main_arg4) = m ((c.tc : Thread Cert.SguF.nD Cert.SguF.τ).loc Cert.SguF.main_arg4)
      ∧ r.2.mem ((c.tc : Thread Cert.SguF.nD Cert.SguF.τ).loc Cert.SguF.main_arg5) = m ((c.tc : Thread Cert.SguF.nD Cert.SguF.τ).loc Cert.SguF.main_arg5)
      ∧ r.2.mem ((c.tc : Thread Cert.SguF.nD Cert.SguF.τ).loc Cert.SguF.main_arg6) = m ((c.tc : Thread Cert.SguF.nD Cert.SguF.τ).loc Cert.SguF.main_arg6)
      ∧ r.2.mem ((c.tc : Thread Cert.SguF.nD Cert.SguF.τ).loc Cert.SguF.main_arg7) = m ((c.tc : Thread Cert.SguF.nD Cert.SguF.τ).loc Cert.SguF.main_arg7))
      ∧ r.2.sem = fun _ => 0)

def quiescent_SguFIdeal [hSguFIdeal : Cert.SguFIdeal.Facts] : Prop :=
  ∀ (m : (ℓ : Loc Cert.SguFIdeal.nD Cert.SguFIdeal.τ Cert.SguFIdeal.sig) → Buf (Elt Ideal) ℓ) (g : Dev Cert.SguFIdeal.nD → PrngReg), Pre_SguFIdeal m →
    θ_run (Cert.SguFIdeal.defs (F := Ideal)) (onTc (τ := Cert.SguFIdeal.τ) (Cert.SguFIdeal.main (F := Ideal))) ⟨m, fun _ => 0, g⟩ (fun r => (∀ c : Dev Cert.SguFIdeal.nD,
      r.2.mem ((c.tc : Thread Cert.SguFIdeal.nD Cert.SguFIdeal.τ).loc Cert.SguFIdeal.main_arg0) = m ((c.tc : Thread Cert.SguFIdeal.nD Cert.SguFIdeal.τ).loc Cert.SguFIdeal.main_arg0)
      ∧ r.2.mem ((c.tc : Thread Cert.SguFIdeal.nD Cert.SguFIdeal.τ).loc Cert.SguFIdeal.main_arg1) = m ((c.tc : Thread Cert.SguFIdeal.nD Cert.SguFIdeal.τ).loc Cert.SguFIdeal.main_arg1)
      ∧ r.2.mem ((c.tc : Thread Cert.SguFIdeal.nD Cert.SguFIdeal.τ).loc Cert.SguFIdeal.main_arg2) = m ((c.tc : Thread Cert.SguFIdeal.nD Cert.SguFIdeal.τ).loc Cert.SguFIdeal.main_arg2)
      ∧ r.2.mem ((c.tc : Thread Cert.SguFIdeal.nD Cert.SguFIdeal.τ).loc Cert.SguFIdeal.main_arg3) = m ((c.tc : Thread Cert.SguFIdeal.nD Cert.SguFIdeal.τ).loc Cert.SguFIdeal.main_arg3)
      ∧ r.2.mem ((c.tc : Thread Cert.SguFIdeal.nD Cert.SguFIdeal.τ).loc Cert.SguFIdeal.main_arg4) = m ((c.tc : Thread Cert.SguFIdeal.nD Cert.SguFIdeal.τ).loc Cert.SguFIdeal.main_arg4)
      ∧ r.2.mem ((c.tc : Thread Cert.SguFIdeal.nD Cert.SguFIdeal.τ).loc Cert.SguFIdeal.main_arg5) = m ((c.tc : Thread Cert.SguFIdeal.nD Cert.SguFIdeal.τ).loc Cert.SguFIdeal.main_arg5)
      ∧ r.2.mem ((c.tc : Thread Cert.SguFIdeal.nD Cert.SguFIdeal.τ).loc Cert.SguFIdeal.main_arg6) = m ((c.tc : Thread Cert.SguFIdeal.nD Cert.SguFIdeal.τ).loc Cert.SguFIdeal.main_arg6)
      ∧ r.2.mem ((c.tc : Thread Cert.SguFIdeal.nD Cert.SguFIdeal.τ).loc Cert.SguFIdeal.main_arg7) = m ((c.tc : Thread Cert.SguFIdeal.nD Cert.SguFIdeal.τ).loc Cert.SguFIdeal.main_arg7))
      ∧ r.2.sem = fun _ => 0)

def quiescent_SguFRefIdeal [hSguFRefIdeal : Cert.SguFRefIdeal.Facts] : Prop :=
  ∀ (m : (ℓ : Loc Cert.SguFRefIdeal.nD Cert.SguFRefIdeal.τ Cert.SguFRefIdeal.sig) → Buf (Elt Ideal) ℓ) (g : Dev Cert.SguFRefIdeal.nD → PrngReg), Pre_SguFRefIdeal m →
    θ_run (Cert.SguFRefIdeal.defs (F := Ideal)) (onTc (τ := Cert.SguFRefIdeal.τ) (Cert.SguFRefIdeal.main (F := Ideal))) ⟨m, fun _ => 0, g⟩ (fun r => (∀ c : Dev Cert.SguFRefIdeal.nD,
      r.2.mem ((c.tc : Thread Cert.SguFRefIdeal.nD Cert.SguFRefIdeal.τ).loc Cert.SguFRefIdeal.main_arg0) = m ((c.tc : Thread Cert.SguFRefIdeal.nD Cert.SguFRefIdeal.τ).loc Cert.SguFRefIdeal.main_arg0)
      ∧ r.2.mem ((c.tc : Thread Cert.SguFRefIdeal.nD Cert.SguFRefIdeal.τ).loc Cert.SguFRefIdeal.main_arg1) = m ((c.tc : Thread Cert.SguFRefIdeal.nD Cert.SguFRefIdeal.τ).loc Cert.SguFRefIdeal.main_arg1)
      ∧ r.2.mem ((c.tc : Thread Cert.SguFRefIdeal.nD Cert.SguFRefIdeal.τ).loc Cert.SguFRefIdeal.main_arg2) = m ((c.tc : Thread Cert.SguFRefIdeal.nD Cert.SguFRefIdeal.τ).loc Cert.SguFRefIdeal.main_arg2)
      ∧ r.2.mem ((c.tc : Thread Cert.SguFRefIdeal.nD Cert.SguFRefIdeal.τ).loc Cert.SguFRefIdeal.main_arg3) = m ((c.tc : Thread Cert.SguFRefIdeal.nD Cert.SguFRefIdeal.τ).loc Cert.SguFRefIdeal.main_arg3)
      ∧ r.2.mem ((c.tc : Thread Cert.SguFRefIdeal.nD Cert.SguFRefIdeal.τ).loc Cert.SguFRefIdeal.main_arg4) = m ((c.tc : Thread Cert.SguFRefIdeal.nD Cert.SguFRefIdeal.τ).loc Cert.SguFRefIdeal.main_arg4)
      ∧ r.2.mem ((c.tc : Thread Cert.SguFRefIdeal.nD Cert.SguFRefIdeal.τ).loc Cert.SguFRefIdeal.main_arg5) = m ((c.tc : Thread Cert.SguFRefIdeal.nD Cert.SguFRefIdeal.τ).loc Cert.SguFRefIdeal.main_arg5)
      ∧ r.2.mem ((c.tc : Thread Cert.SguFRefIdeal.nD Cert.SguFRefIdeal.τ).loc Cert.SguFRefIdeal.main_arg6) = m ((c.tc : Thread Cert.SguFRefIdeal.nD Cert.SguFRefIdeal.τ).loc Cert.SguFRefIdeal.main_arg6)
      ∧ r.2.mem ((c.tc : Thread Cert.SguFRefIdeal.nD Cert.SguFRefIdeal.τ).loc Cert.SguFRefIdeal.main_arg7) = m ((c.tc : Thread Cert.SguFRefIdeal.nD Cert.SguFRefIdeal.τ).loc Cert.SguFRefIdeal.main_arg7))
      ∧ r.2.sem = fun _ => 0)

def quiescent_Heads [hHeads : Cert.Heads.Facts] : Prop :=
  ∀ (m : (ℓ : Loc Cert.Heads.nD Cert.Heads.τ Cert.Heads.sig) → Buf (Elt Bits) ℓ) (g : Dev Cert.Heads.nD → PrngReg), Pre_Heads m →
    θ_run (Cert.Heads.defs (F := Bits)) (onTc (τ := Cert.Heads.τ) (Cert.Heads.main (F := Bits))) ⟨m, fun _ => 0, g⟩ (fun r => (∀ c : Dev Cert.Heads.nD,
      r.2.mem ((c.tc : Thread Cert.Heads.nD Cert.Heads.τ).loc Cert.Heads.main_arg0) = m ((c.tc : Thread Cert.Heads.nD Cert.Heads.τ).loc Cert.Heads.main_arg0)
      ∧ r.2.mem ((c.tc : Thread Cert.Heads.nD Cert.Heads.τ).loc Cert.Heads.main_arg1) = m ((c.tc : Thread Cert.Heads.nD Cert.Heads.τ).loc Cert.Heads.main_arg1)
      ∧ r.2.mem ((c.tc : Thread Cert.Heads.nD Cert.Heads.τ).loc Cert.Heads.main_arg2) = m ((c.tc : Thread Cert.Heads.nD Cert.Heads.τ).loc Cert.Heads.main_arg2)
      ∧ r.2.mem ((c.tc : Thread Cert.Heads.nD Cert.Heads.τ).loc Cert.Heads.main_arg3) = m ((c.tc : Thread Cert.Heads.nD Cert.Heads.τ).loc Cert.Heads.main_arg3)
      ∧ r.2.mem ((c.tc : Thread Cert.Heads.nD Cert.Heads.τ).loc Cert.Heads.main_arg4) = m ((c.tc : Thread Cert.Heads.nD Cert.Heads.τ).loc Cert.Heads.main_arg4)
      ∧ r.2.mem ((c.tc : Thread Cert.Heads.nD Cert.Heads.τ).loc Cert.Heads.main_arg5) = m ((c.tc : Thread Cert.Heads.nD Cert.Heads.τ).loc Cert.Heads.main_arg5)
      ∧ r.2.mem ((c.tc : Thread Cert.Heads.nD Cert.Heads.τ).loc Cert.Heads.main_arg6) = m ((c.tc : Thread Cert.Heads.nD Cert.Heads.τ).loc Cert.Heads.main_arg6)
      ∧ r.2.mem ((c.tc : Thread Cert.Heads.nD Cert.Heads.τ).loc Cert.Heads.main_arg7) = m ((c.tc : Thread Cert.Heads.nD Cert.Heads.τ).loc Cert.Heads.main_arg7))
      ∧ r.2.sem = fun _ => 0)

def quiescent_HeadsIdeal [hHeadsIdeal : Cert.HeadsIdeal.Facts] : Prop :=
  ∀ (m : (ℓ : Loc Cert.HeadsIdeal.nD Cert.HeadsIdeal.τ Cert.HeadsIdeal.sig) → Buf (Elt Ideal) ℓ) (g : Dev Cert.HeadsIdeal.nD → PrngReg), Pre_HeadsIdeal m →
    θ_run (Cert.HeadsIdeal.defs (F := Ideal)) (onTc (τ := Cert.HeadsIdeal.τ) (Cert.HeadsIdeal.main (F := Ideal))) ⟨m, fun _ => 0, g⟩ (fun r => (∀ c : Dev Cert.HeadsIdeal.nD,
      r.2.mem ((c.tc : Thread Cert.HeadsIdeal.nD Cert.HeadsIdeal.τ).loc Cert.HeadsIdeal.main_arg0) = m ((c.tc : Thread Cert.HeadsIdeal.nD Cert.HeadsIdeal.τ).loc Cert.HeadsIdeal.main_arg0)
      ∧ r.2.mem ((c.tc : Thread Cert.HeadsIdeal.nD Cert.HeadsIdeal.τ).loc Cert.HeadsIdeal.main_arg1) = m ((c.tc : Thread Cert.HeadsIdeal.nD Cert.HeadsIdeal.τ).loc Cert.HeadsIdeal.main_arg1)
      ∧ r.2.mem ((c.tc : Thread Cert.HeadsIdeal.nD Cert.HeadsIdeal.τ).loc Cert.HeadsIdeal.main_arg2) = m ((c.tc : Thread Cert.HeadsIdeal.nD Cert.HeadsIdeal.τ).loc Cert.HeadsIdeal.main_arg2)
      ∧ r.2.mem ((c.tc : Thread Cert.HeadsIdeal.nD Cert.HeadsIdeal.τ).loc Cert.HeadsIdeal.main_arg3) = m ((c.tc : Thread Cert.HeadsIdeal.nD Cert.HeadsIdeal.τ).loc Cert.HeadsIdeal.main_arg3)
      ∧ r.2.mem ((c.tc : Thread Cert.HeadsIdeal.nD Cert.HeadsIdeal.τ).loc Cert.HeadsIdeal.main_arg4) = m ((c.tc : Thread Cert.HeadsIdeal.nD Cert.HeadsIdeal.τ).loc Cert.HeadsIdeal.main_arg4)
      ∧ r.2.mem ((c.tc : Thread Cert.HeadsIdeal.nD Cert.HeadsIdeal.τ).loc Cert.HeadsIdeal.main_arg5) = m ((c.tc : Thread Cert.HeadsIdeal.nD Cert.HeadsIdeal.τ).loc Cert.HeadsIdeal.main_arg5)
      ∧ r.2.mem ((c.tc : Thread Cert.HeadsIdeal.nD Cert.HeadsIdeal.τ).loc Cert.HeadsIdeal.main_arg6) = m ((c.tc : Thread Cert.HeadsIdeal.nD Cert.HeadsIdeal.τ).loc Cert.HeadsIdeal.main_arg6)
      ∧ r.2.mem ((c.tc : Thread Cert.HeadsIdeal.nD Cert.HeadsIdeal.τ).loc Cert.HeadsIdeal.main_arg7) = m ((c.tc : Thread Cert.HeadsIdeal.nD Cert.HeadsIdeal.τ).loc Cert.HeadsIdeal.main_arg7))
      ∧ r.2.sem = fun _ => 0)

def quiescent_HeadsRefIdeal [hHeadsRefIdeal : Cert.HeadsRefIdeal.Facts] : Prop :=
  ∀ (m : (ℓ : Loc Cert.HeadsRefIdeal.nD Cert.HeadsRefIdeal.τ Cert.HeadsRefIdeal.sig) → Buf (Elt Ideal) ℓ) (g : Dev Cert.HeadsRefIdeal.nD → PrngReg), Pre_HeadsRefIdeal m →
    θ_run (Cert.HeadsRefIdeal.defs (F := Ideal)) (onTc (τ := Cert.HeadsRefIdeal.τ) (Cert.HeadsRefIdeal.main (F := Ideal))) ⟨m, fun _ => 0, g⟩ (fun r => (∀ c : Dev Cert.HeadsRefIdeal.nD,
      r.2.mem ((c.tc : Thread Cert.HeadsRefIdeal.nD Cert.HeadsRefIdeal.τ).loc Cert.HeadsRefIdeal.main_arg0) = m ((c.tc : Thread Cert.HeadsRefIdeal.nD Cert.HeadsRefIdeal.τ).loc Cert.HeadsRefIdeal.main_arg0)
      ∧ r.2.mem ((c.tc : Thread Cert.HeadsRefIdeal.nD Cert.HeadsRefIdeal.τ).loc Cert.HeadsRefIdeal.main_arg1) = m ((c.tc : Thread Cert.HeadsRefIdeal.nD Cert.HeadsRefIdeal.τ).loc Cert.HeadsRefIdeal.main_arg1)
      ∧ r.2.mem ((c.tc : Thread Cert.HeadsRefIdeal.nD Cert.HeadsRefIdeal.τ).loc Cert.HeadsRefIdeal.main_arg2) = m ((c.tc : Thread Cert.HeadsRefIdeal.nD Cert.HeadsRefIdeal.τ).loc Cert.HeadsRefIdeal.main_arg2)
      ∧ r.2.mem ((c.tc : Thread Cert.HeadsRefIdeal.nD Cert.HeadsRefIdeal.τ).loc Cert.HeadsRefIdeal.main_arg3) = m ((c.tc : Thread Cert.HeadsRefIdeal.nD Cert.HeadsRefIdeal.τ).loc Cert.HeadsRefIdeal.main_arg3)
      ∧ r.2.mem ((c.tc : Thread Cert.HeadsRefIdeal.nD Cert.HeadsRefIdeal.τ).loc Cert.HeadsRefIdeal.main_arg4) = m ((c.tc : Thread Cert.HeadsRefIdeal.nD Cert.HeadsRefIdeal.τ).loc Cert.HeadsRefIdeal.main_arg4)
      ∧ r.2.mem ((c.tc : Thread Cert.HeadsRefIdeal.nD Cert.HeadsRefIdeal.τ).loc Cert.HeadsRefIdeal.main_arg5) = m ((c.tc : Thread Cert.HeadsRefIdeal.nD Cert.HeadsRefIdeal.τ).loc Cert.HeadsRefIdeal.main_arg5)
      ∧ r.2.mem ((c.tc : Thread Cert.HeadsRefIdeal.nD Cert.HeadsRefIdeal.τ).loc Cert.HeadsRefIdeal.main_arg6) = m ((c.tc : Thread Cert.HeadsRefIdeal.nD Cert.HeadsRefIdeal.τ).loc Cert.HeadsRefIdeal.main_arg6)
      ∧ r.2.mem ((c.tc : Thread Cert.HeadsRefIdeal.nD Cert.HeadsRefIdeal.τ).loc Cert.HeadsRefIdeal.main_arg7) = m ((c.tc : Thread Cert.HeadsRefIdeal.nD Cert.HeadsRefIdeal.τ).loc Cert.HeadsRefIdeal.main_arg7))
      ∧ r.2.sem = fun _ => 0)

def quiescent_OutB [hOutB : Cert.OutB.Facts] : Prop :=
  ∀ (m : (ℓ : Loc Cert.OutB.nD Cert.OutB.τ Cert.OutB.sig) → Buf (Elt Bits) ℓ) (g : Dev Cert.OutB.nD → PrngReg), Pre_OutB m →
    θ_run (Cert.OutB.defs (F := Bits)) (onTc (τ := Cert.OutB.τ) (Cert.OutB.main (F := Bits))) ⟨m, fun _ => 0, g⟩ (fun r => (∀ c : Dev Cert.OutB.nD,
      r.2.mem ((c.tc : Thread Cert.OutB.nD Cert.OutB.τ).loc Cert.OutB.main_arg0) = m ((c.tc : Thread Cert.OutB.nD Cert.OutB.τ).loc Cert.OutB.main_arg0)
      ∧ r.2.mem ((c.tc : Thread Cert.OutB.nD Cert.OutB.τ).loc Cert.OutB.main_arg1) = m ((c.tc : Thread Cert.OutB.nD Cert.OutB.τ).loc Cert.OutB.main_arg1)
      ∧ r.2.mem ((c.tc : Thread Cert.OutB.nD Cert.OutB.τ).loc Cert.OutB.main_arg2) = m ((c.tc : Thread Cert.OutB.nD Cert.OutB.τ).loc Cert.OutB.main_arg2)
      ∧ r.2.mem ((c.tc : Thread Cert.OutB.nD Cert.OutB.τ).loc Cert.OutB.main_arg3) = m ((c.tc : Thread Cert.OutB.nD Cert.OutB.τ).loc Cert.OutB.main_arg3))
      ∧ r.2.sem = fun _ => 0)

def quiescent_OutBIdeal [hOutBIdeal : Cert.OutBIdeal.Facts] : Prop :=
  ∀ (m : (ℓ : Loc Cert.OutBIdeal.nD Cert.OutBIdeal.τ Cert.OutBIdeal.sig) → Buf (Elt Ideal) ℓ) (g : Dev Cert.OutBIdeal.nD → PrngReg), Pre_OutBIdeal m →
    θ_run (Cert.OutBIdeal.defs (F := Ideal)) (onTc (τ := Cert.OutBIdeal.τ) (Cert.OutBIdeal.main (F := Ideal))) ⟨m, fun _ => 0, g⟩ (fun r => (∀ c : Dev Cert.OutBIdeal.nD,
      r.2.mem ((c.tc : Thread Cert.OutBIdeal.nD Cert.OutBIdeal.τ).loc Cert.OutBIdeal.main_arg0) = m ((c.tc : Thread Cert.OutBIdeal.nD Cert.OutBIdeal.τ).loc Cert.OutBIdeal.main_arg0)
      ∧ r.2.mem ((c.tc : Thread Cert.OutBIdeal.nD Cert.OutBIdeal.τ).loc Cert.OutBIdeal.main_arg1) = m ((c.tc : Thread Cert.OutBIdeal.nD Cert.OutBIdeal.τ).loc Cert.OutBIdeal.main_arg1)
      ∧ r.2.mem ((c.tc : Thread Cert.OutBIdeal.nD Cert.OutBIdeal.τ).loc Cert.OutBIdeal.main_arg2) = m ((c.tc : Thread Cert.OutBIdeal.nD Cert.OutBIdeal.τ).loc Cert.OutBIdeal.main_arg2)
      ∧ r.2.mem ((c.tc : Thread Cert.OutBIdeal.nD Cert.OutBIdeal.τ).loc Cert.OutBIdeal.main_arg3) = m ((c.tc : Thread Cert.OutBIdeal.nD Cert.OutBIdeal.τ).loc Cert.OutBIdeal.main_arg3))
      ∧ r.2.sem = fun _ => 0)

def quiescent_OutBRefIdeal [hOutBRefIdeal : Cert.OutBRefIdeal.Facts] : Prop :=
  ∀ (m : (ℓ : Loc Cert.OutBRefIdeal.nD Cert.OutBRefIdeal.τ Cert.OutBRefIdeal.sig) → Buf (Elt Ideal) ℓ) (g : Dev Cert.OutBRefIdeal.nD → PrngReg), Pre_OutBRefIdeal m →
    θ_run (Cert.OutBRefIdeal.defs (F := Ideal)) (onTc (τ := Cert.OutBRefIdeal.τ) (Cert.OutBRefIdeal.main (F := Ideal))) ⟨m, fun _ => 0, g⟩ (fun r => (∀ c : Dev Cert.OutBRefIdeal.nD,
      r.2.mem ((c.tc : Thread Cert.OutBRefIdeal.nD Cert.OutBRefIdeal.τ).loc Cert.OutBRefIdeal.main_arg0) = m ((c.tc : Thread Cert.OutBRefIdeal.nD Cert.OutBRefIdeal.τ).loc Cert.OutBRefIdeal.main_arg0)
      ∧ r.2.mem ((c.tc : Thread Cert.OutBRefIdeal.nD Cert.OutBRefIdeal.τ).loc Cert.OutBRefIdeal.main_arg1) = m ((c.tc : Thread Cert.OutBRefIdeal.nD Cert.OutBRefIdeal.τ).loc Cert.OutBRefIdeal.main_arg1)
      ∧ r.2.mem ((c.tc : Thread Cert.OutBRefIdeal.nD Cert.OutBRefIdeal.τ).loc Cert.OutBRefIdeal.main_arg2) = m ((c.tc : Thread Cert.OutBRefIdeal.nD Cert.OutBRefIdeal.τ).loc Cert.OutBRefIdeal.main_arg2)
      ∧ r.2.mem ((c.tc : Thread Cert.OutBRefIdeal.nD Cert.OutBRefIdeal.τ).loc Cert.OutBRefIdeal.main_arg3) = m ((c.tc : Thread Cert.OutBRefIdeal.nD Cert.OutBRefIdeal.τ).loc Cert.OutBRefIdeal.main_arg3))
      ∧ r.2.sem = fun _ => 0)

def quiescent_OutF [hOutF : Cert.OutF.Facts] : Prop :=
  ∀ (m : (ℓ : Loc Cert.OutF.nD Cert.OutF.τ Cert.OutF.sig) → Buf (Elt Bits) ℓ) (g : Dev Cert.OutF.nD → PrngReg), Pre_OutF m →
    θ_run (Cert.OutF.defs (F := Bits)) (onTc (τ := Cert.OutF.τ) (Cert.OutF.main (F := Bits))) ⟨m, fun _ => 0, g⟩ (fun r => (∀ c : Dev Cert.OutF.nD,
      r.2.mem ((c.tc : Thread Cert.OutF.nD Cert.OutF.τ).loc Cert.OutF.main_arg0) = m ((c.tc : Thread Cert.OutF.nD Cert.OutF.τ).loc Cert.OutF.main_arg0)
      ∧ r.2.mem ((c.tc : Thread Cert.OutF.nD Cert.OutF.τ).loc Cert.OutF.main_arg1) = m ((c.tc : Thread Cert.OutF.nD Cert.OutF.τ).loc Cert.OutF.main_arg1)
      ∧ r.2.mem ((c.tc : Thread Cert.OutF.nD Cert.OutF.τ).loc Cert.OutF.main_arg2) = m ((c.tc : Thread Cert.OutF.nD Cert.OutF.τ).loc Cert.OutF.main_arg2)
      ∧ r.2.mem ((c.tc : Thread Cert.OutF.nD Cert.OutF.τ).loc Cert.OutF.main_arg3) = m ((c.tc : Thread Cert.OutF.nD Cert.OutF.τ).loc Cert.OutF.main_arg3))
      ∧ r.2.sem = fun _ => 0)

def quiescent_OutFIdeal [hOutFIdeal : Cert.OutFIdeal.Facts] : Prop :=
  ∀ (m : (ℓ : Loc Cert.OutFIdeal.nD Cert.OutFIdeal.τ Cert.OutFIdeal.sig) → Buf (Elt Ideal) ℓ) (g : Dev Cert.OutFIdeal.nD → PrngReg), Pre_OutFIdeal m →
    θ_run (Cert.OutFIdeal.defs (F := Ideal)) (onTc (τ := Cert.OutFIdeal.τ) (Cert.OutFIdeal.main (F := Ideal))) ⟨m, fun _ => 0, g⟩ (fun r => (∀ c : Dev Cert.OutFIdeal.nD,
      r.2.mem ((c.tc : Thread Cert.OutFIdeal.nD Cert.OutFIdeal.τ).loc Cert.OutFIdeal.main_arg0) = m ((c.tc : Thread Cert.OutFIdeal.nD Cert.OutFIdeal.τ).loc Cert.OutFIdeal.main_arg0)
      ∧ r.2.mem ((c.tc : Thread Cert.OutFIdeal.nD Cert.OutFIdeal.τ).loc Cert.OutFIdeal.main_arg1) = m ((c.tc : Thread Cert.OutFIdeal.nD Cert.OutFIdeal.τ).loc Cert.OutFIdeal.main_arg1)
      ∧ r.2.mem ((c.tc : Thread Cert.OutFIdeal.nD Cert.OutFIdeal.τ).loc Cert.OutFIdeal.main_arg2) = m ((c.tc : Thread Cert.OutFIdeal.nD Cert.OutFIdeal.τ).loc Cert.OutFIdeal.main_arg2)
      ∧ r.2.mem ((c.tc : Thread Cert.OutFIdeal.nD Cert.OutFIdeal.τ).loc Cert.OutFIdeal.main_arg3) = m ((c.tc : Thread Cert.OutFIdeal.nD Cert.OutFIdeal.τ).loc Cert.OutFIdeal.main_arg3))
      ∧ r.2.sem = fun _ => 0)

def quiescent_OutFRefIdeal [hOutFRefIdeal : Cert.OutFRefIdeal.Facts] : Prop :=
  ∀ (m : (ℓ : Loc Cert.OutFRefIdeal.nD Cert.OutFRefIdeal.τ Cert.OutFRefIdeal.sig) → Buf (Elt Ideal) ℓ) (g : Dev Cert.OutFRefIdeal.nD → PrngReg), Pre_OutFRefIdeal m →
    θ_run (Cert.OutFRefIdeal.defs (F := Ideal)) (onTc (τ := Cert.OutFRefIdeal.τ) (Cert.OutFRefIdeal.main (F := Ideal))) ⟨m, fun _ => 0, g⟩ (fun r => (∀ c : Dev Cert.OutFRefIdeal.nD,
      r.2.mem ((c.tc : Thread Cert.OutFRefIdeal.nD Cert.OutFRefIdeal.τ).loc Cert.OutFRefIdeal.main_arg0) = m ((c.tc : Thread Cert.OutFRefIdeal.nD Cert.OutFRefIdeal.τ).loc Cert.OutFRefIdeal.main_arg0)
      ∧ r.2.mem ((c.tc : Thread Cert.OutFRefIdeal.nD Cert.OutFRefIdeal.τ).loc Cert.OutFRefIdeal.main_arg1) = m ((c.tc : Thread Cert.OutFRefIdeal.nD Cert.OutFRefIdeal.τ).loc Cert.OutFRefIdeal.main_arg1)
      ∧ r.2.mem ((c.tc : Thread Cert.OutFRefIdeal.nD Cert.OutFRefIdeal.τ).loc Cert.OutFRefIdeal.main_arg2) = m ((c.tc : Thread Cert.OutFRefIdeal.nD Cert.OutFRefIdeal.τ).loc Cert.OutFRefIdeal.main_arg2)
      ∧ r.2.mem ((c.tc : Thread Cert.OutFRefIdeal.nD Cert.OutFRefIdeal.τ).loc Cert.OutFRefIdeal.main_arg3) = m ((c.tc : Thread Cert.OutFRefIdeal.nD Cert.OutFRefIdeal.τ).loc Cert.OutFRefIdeal.main_arg3))
      ∧ r.2.sem = fun _ => 0)

def quiescent_Loss [hLoss : Cert.Loss.Facts] : Prop :=
  ∀ (m : (ℓ : Loc Cert.Loss.nD Cert.Loss.τ Cert.Loss.sig) → Buf (Elt Bits) ℓ) (g : Dev Cert.Loss.nD → PrngReg), Pre_Loss m →
    θ_run (Cert.Loss.defs (F := Bits)) (onTc (τ := Cert.Loss.τ) (Cert.Loss.main (F := Bits))) ⟨m, fun _ => 0, g⟩ (fun r => (∀ c : Dev Cert.Loss.nD,
      r.2.mem ((c.tc : Thread Cert.Loss.nD Cert.Loss.τ).loc Cert.Loss.main_arg0) = m ((c.tc : Thread Cert.Loss.nD Cert.Loss.τ).loc Cert.Loss.main_arg0)
      ∧ r.2.mem ((c.tc : Thread Cert.Loss.nD Cert.Loss.τ).loc Cert.Loss.main_arg1) = m ((c.tc : Thread Cert.Loss.nD Cert.Loss.τ).loc Cert.Loss.main_arg1)
      ∧ r.2.mem ((c.tc : Thread Cert.Loss.nD Cert.Loss.τ).loc Cert.Loss.main_arg2) = m ((c.tc : Thread Cert.Loss.nD Cert.Loss.τ).loc Cert.Loss.main_arg2)
      ∧ r.2.mem ((c.tc : Thread Cert.Loss.nD Cert.Loss.τ).loc Cert.Loss.main_arg3) = m ((c.tc : Thread Cert.Loss.nD Cert.Loss.τ).loc Cert.Loss.main_arg3)
      ∧ r.2.mem ((c.tc : Thread Cert.Loss.nD Cert.Loss.τ).loc Cert.Loss.main_arg4) = m ((c.tc : Thread Cert.Loss.nD Cert.Loss.τ).loc Cert.Loss.main_arg4)
      ∧ r.2.mem ((c.tc : Thread Cert.Loss.nD Cert.Loss.τ).loc Cert.Loss.main_arg5) = m ((c.tc : Thread Cert.Loss.nD Cert.Loss.τ).loc Cert.Loss.main_arg5)
      ∧ r.2.mem ((c.tc : Thread Cert.Loss.nD Cert.Loss.τ).loc Cert.Loss.main_arg6) = m ((c.tc : Thread Cert.Loss.nD Cert.Loss.τ).loc Cert.Loss.main_arg6)
      ∧ r.2.mem ((c.tc : Thread Cert.Loss.nD Cert.Loss.τ).loc Cert.Loss.main_arg7) = m ((c.tc : Thread Cert.Loss.nD Cert.Loss.τ).loc Cert.Loss.main_arg7))
      ∧ r.2.sem = fun _ => 0)

def quiescent_LossIdeal [hLossIdeal : Cert.LossIdeal.Facts] : Prop :=
  ∀ (m : (ℓ : Loc Cert.LossIdeal.nD Cert.LossIdeal.τ Cert.LossIdeal.sig) → Buf (Elt Ideal) ℓ) (g : Dev Cert.LossIdeal.nD → PrngReg), Pre_LossIdeal m →
    θ_run (Cert.LossIdeal.defs (F := Ideal)) (onTc (τ := Cert.LossIdeal.τ) (Cert.LossIdeal.main (F := Ideal))) ⟨m, fun _ => 0, g⟩ (fun r => (∀ c : Dev Cert.LossIdeal.nD,
      r.2.mem ((c.tc : Thread Cert.LossIdeal.nD Cert.LossIdeal.τ).loc Cert.LossIdeal.main_arg0) = m ((c.tc : Thread Cert.LossIdeal.nD Cert.LossIdeal.τ).loc Cert.LossIdeal.main_arg0)
      ∧ r.2.mem ((c.tc : Thread Cert.LossIdeal.nD Cert.LossIdeal.τ).loc Cert.LossIdeal.main_arg1) = m ((c.tc : Thread Cert.LossIdeal.nD Cert.LossIdeal.τ).loc Cert.LossIdeal.main_arg1)
      ∧ r.2.mem ((c.tc : Thread Cert.LossIdeal.nD Cert.LossIdeal.τ).loc Cert.LossIdeal.main_arg2) = m ((c.tc : Thread Cert.LossIdeal.nD Cert.LossIdeal.τ).loc Cert.LossIdeal.main_arg2)
      ∧ r.2.mem ((c.tc : Thread Cert.LossIdeal.nD Cert.LossIdeal.τ).loc Cert.LossIdeal.main_arg3) = m ((c.tc : Thread Cert.LossIdeal.nD Cert.LossIdeal.τ).loc Cert.LossIdeal.main_arg3)
      ∧ r.2.mem ((c.tc : Thread Cert.LossIdeal.nD Cert.LossIdeal.τ).loc Cert.LossIdeal.main_arg4) = m ((c.tc : Thread Cert.LossIdeal.nD Cert.LossIdeal.τ).loc Cert.LossIdeal.main_arg4)
      ∧ r.2.mem ((c.tc : Thread Cert.LossIdeal.nD Cert.LossIdeal.τ).loc Cert.LossIdeal.main_arg5) = m ((c.tc : Thread Cert.LossIdeal.nD Cert.LossIdeal.τ).loc Cert.LossIdeal.main_arg5)
      ∧ r.2.mem ((c.tc : Thread Cert.LossIdeal.nD Cert.LossIdeal.τ).loc Cert.LossIdeal.main_arg6) = m ((c.tc : Thread Cert.LossIdeal.nD Cert.LossIdeal.τ).loc Cert.LossIdeal.main_arg6)
      ∧ r.2.mem ((c.tc : Thread Cert.LossIdeal.nD Cert.LossIdeal.τ).loc Cert.LossIdeal.main_arg7) = m ((c.tc : Thread Cert.LossIdeal.nD Cert.LossIdeal.τ).loc Cert.LossIdeal.main_arg7))
      ∧ r.2.sem = fun _ => 0)

def quiescent_LossRefIdeal [hLossRefIdeal : Cert.LossRefIdeal.Facts] : Prop :=
  ∀ (m : (ℓ : Loc Cert.LossRefIdeal.nD Cert.LossRefIdeal.τ Cert.LossRefIdeal.sig) → Buf (Elt Ideal) ℓ) (g : Dev Cert.LossRefIdeal.nD → PrngReg), Pre_LossRefIdeal m →
    θ_run (Cert.LossRefIdeal.defs (F := Ideal)) (onTc (τ := Cert.LossRefIdeal.τ) (Cert.LossRefIdeal.main (F := Ideal))) ⟨m, fun _ => 0, g⟩ (fun r => (∀ c : Dev Cert.LossRefIdeal.nD,
      r.2.mem ((c.tc : Thread Cert.LossRefIdeal.nD Cert.LossRefIdeal.τ).loc Cert.LossRefIdeal.main_arg0) = m ((c.tc : Thread Cert.LossRefIdeal.nD Cert.LossRefIdeal.τ).loc Cert.LossRefIdeal.main_arg0)
      ∧ r.2.mem ((c.tc : Thread Cert.LossRefIdeal.nD Cert.LossRefIdeal.τ).loc Cert.LossRefIdeal.main_arg1) = m ((c.tc : Thread Cert.LossRefIdeal.nD Cert.LossRefIdeal.τ).loc Cert.LossRefIdeal.main_arg1)
      ∧ r.2.mem ((c.tc : Thread Cert.LossRefIdeal.nD Cert.LossRefIdeal.τ).loc Cert.LossRefIdeal.main_arg2) = m ((c.tc : Thread Cert.LossRefIdeal.nD Cert.LossRefIdeal.τ).loc Cert.LossRefIdeal.main_arg2)
      ∧ r.2.mem ((c.tc : Thread Cert.LossRefIdeal.nD Cert.LossRefIdeal.τ).loc Cert.LossRefIdeal.main_arg3) = m ((c.tc : Thread Cert.LossRefIdeal.nD Cert.LossRefIdeal.τ).loc Cert.LossRefIdeal.main_arg3)
      ∧ r.2.mem ((c.tc : Thread Cert.LossRefIdeal.nD Cert.LossRefIdeal.τ).loc Cert.LossRefIdeal.main_arg4) = m ((c.tc : Thread Cert.LossRefIdeal.nD Cert.LossRefIdeal.τ).loc Cert.LossRefIdeal.main_arg4)
      ∧ r.2.mem ((c.tc : Thread Cert.LossRefIdeal.nD Cert.LossRefIdeal.τ).loc Cert.LossRefIdeal.main_arg5) = m ((c.tc : Thread Cert.LossRefIdeal.nD Cert.LossRefIdeal.τ).loc Cert.LossRefIdeal.main_arg5)
      ∧ r.2.mem ((c.tc : Thread Cert.LossRefIdeal.nD Cert.LossRefIdeal.τ).loc Cert.LossRefIdeal.main_arg6) = m ((c.tc : Thread Cert.LossRefIdeal.nD Cert.LossRefIdeal.τ).loc Cert.LossRefIdeal.main_arg6)
      ∧ r.2.mem ((c.tc : Thread Cert.LossRefIdeal.nD Cert.LossRefIdeal.τ).loc Cert.LossRefIdeal.main_arg7) = m ((c.tc : Thread Cert.LossRefIdeal.nD Cert.LossRefIdeal.τ).loc Cert.LossRefIdeal.main_arg7))
      ∧ r.2.sem = fun _ => 0)

def quiescent_FfnW [hFfnW : Cert.FfnW.Facts] : Prop :=
  ∀ (m : (ℓ : Loc Cert.FfnW.nD Cert.FfnW.τ Cert.FfnW.sig) → Buf (Elt Bits) ℓ) (g : Dev Cert.FfnW.nD → PrngReg), Pre_FfnW m →
    θ_run (Cert.FfnW.defs (F := Bits)) (onTc (τ := Cert.FfnW.τ) (Cert.FfnW.main (F := Bits))) ⟨m, fun _ => 0, g⟩ (fun r => (∀ c : Dev Cert.FfnW.nD,
      r.2.mem ((c.tc : Thread Cert.FfnW.nD Cert.FfnW.τ).loc Cert.FfnW.main_arg0) = m ((c.tc : Thread Cert.FfnW.nD Cert.FfnW.τ).loc Cert.FfnW.main_arg0)
      ∧ r.2.mem ((c.tc : Thread Cert.FfnW.nD Cert.FfnW.τ).loc Cert.FfnW.main_arg1) = m ((c.tc : Thread Cert.FfnW.nD Cert.FfnW.τ).loc Cert.FfnW.main_arg1)
      ∧ r.2.mem ((c.tc : Thread Cert.FfnW.nD Cert.FfnW.τ).loc Cert.FfnW.main_arg2) = m ((c.tc : Thread Cert.FfnW.nD Cert.FfnW.τ).loc Cert.FfnW.main_arg2)
      ∧ r.2.mem ((c.tc : Thread Cert.FfnW.nD Cert.FfnW.τ).loc Cert.FfnW.main_arg3) = m ((c.tc : Thread Cert.FfnW.nD Cert.FfnW.τ).loc Cert.FfnW.main_arg3))
      ∧ r.2.sem = fun _ => 0)

def quiescent_FfnWIdeal [hFfnWIdeal : Cert.FfnWIdeal.Facts] : Prop :=
  ∀ (m : (ℓ : Loc Cert.FfnWIdeal.nD Cert.FfnWIdeal.τ Cert.FfnWIdeal.sig) → Buf (Elt Ideal) ℓ) (g : Dev Cert.FfnWIdeal.nD → PrngReg), Pre_FfnWIdeal m →
    θ_run (Cert.FfnWIdeal.defs (F := Ideal)) (onTc (τ := Cert.FfnWIdeal.τ) (Cert.FfnWIdeal.main (F := Ideal))) ⟨m, fun _ => 0, g⟩ (fun r => (∀ c : Dev Cert.FfnWIdeal.nD,
      r.2.mem ((c.tc : Thread Cert.FfnWIdeal.nD Cert.FfnWIdeal.τ).loc Cert.FfnWIdeal.main_arg0) = m ((c.tc : Thread Cert.FfnWIdeal.nD Cert.FfnWIdeal.τ).loc Cert.FfnWIdeal.main_arg0)
      ∧ r.2.mem ((c.tc : Thread Cert.FfnWIdeal.nD Cert.FfnWIdeal.τ).loc Cert.FfnWIdeal.main_arg1) = m ((c.tc : Thread Cert.FfnWIdeal.nD Cert.FfnWIdeal.τ).loc Cert.FfnWIdeal.main_arg1)
      ∧ r.2.mem ((c.tc : Thread Cert.FfnWIdeal.nD Cert.FfnWIdeal.τ).loc Cert.FfnWIdeal.main_arg2) = m ((c.tc : Thread Cert.FfnWIdeal.nD Cert.FfnWIdeal.τ).loc Cert.FfnWIdeal.main_arg2)
      ∧ r.2.mem ((c.tc : Thread Cert.FfnWIdeal.nD Cert.FfnWIdeal.τ).loc Cert.FfnWIdeal.main_arg3) = m ((c.tc : Thread Cert.FfnWIdeal.nD Cert.FfnWIdeal.τ).loc Cert.FfnWIdeal.main_arg3))
      ∧ r.2.sem = fun _ => 0)

def quiescent_FfnWRefIdeal [hFfnWRefIdeal : Cert.FfnWRefIdeal.Facts] : Prop :=
  ∀ (m : (ℓ : Loc Cert.FfnWRefIdeal.nD Cert.FfnWRefIdeal.τ Cert.FfnWRefIdeal.sig) → Buf (Elt Ideal) ℓ) (g : Dev Cert.FfnWRefIdeal.nD → PrngReg), Pre_FfnWRefIdeal m →
    θ_run (Cert.FfnWRefIdeal.defs (F := Ideal)) (onTc (τ := Cert.FfnWRefIdeal.τ) (Cert.FfnWRefIdeal.main (F := Ideal))) ⟨m, fun _ => 0, g⟩ (fun r => (∀ c : Dev Cert.FfnWRefIdeal.nD,
      r.2.mem ((c.tc : Thread Cert.FfnWRefIdeal.nD Cert.FfnWRefIdeal.τ).loc Cert.FfnWRefIdeal.main_arg0) = m ((c.tc : Thread Cert.FfnWRefIdeal.nD Cert.FfnWRefIdeal.τ).loc Cert.FfnWRefIdeal.main_arg0)
      ∧ r.2.mem ((c.tc : Thread Cert.FfnWRefIdeal.nD Cert.FfnWRefIdeal.τ).loc Cert.FfnWRefIdeal.main_arg1) = m ((c.tc : Thread Cert.FfnWRefIdeal.nD Cert.FfnWRefIdeal.τ).loc Cert.FfnWRefIdeal.main_arg1)
      ∧ r.2.mem ((c.tc : Thread Cert.FfnWRefIdeal.nD Cert.FfnWRefIdeal.τ).loc Cert.FfnWRefIdeal.main_arg2) = m ((c.tc : Thread Cert.FfnWRefIdeal.nD Cert.FfnWRefIdeal.τ).loc Cert.FfnWRefIdeal.main_arg2)
      ∧ r.2.mem ((c.tc : Thread Cert.FfnWRefIdeal.nD Cert.FfnWRefIdeal.τ).loc Cert.FfnWRefIdeal.main_arg3) = m ((c.tc : Thread Cert.FfnWRefIdeal.nD Cert.FfnWRefIdeal.τ).loc Cert.FfnWRefIdeal.main_arg3))
      ∧ r.2.sem = fun _ => 0)

def preserves_Attn_AttnIdeal : Prop :=
  True

def algebraic_AttnIdeal_AttnRefIdeal_pre_finite_qk [hAttnIdeal : Cert.AttnIdeal.Facts] [hAttnRefIdeal : Cert.AttnRefIdeal.Facts] [hPre_finite_qk : Cert.Pre_finite_qk.Facts] : Prop :=
  ∀ (m : (ℓ : Loc Cert.AttnIdeal.nD Cert.AttnIdeal.τ Cert.AttnIdeal.sig) → Buf (Elt Ideal) ℓ) (g : Dev Cert.AttnIdeal.nD → PrngReg)
    (m' : (ℓ : Loc Cert.AttnRefIdeal.nD Cert.AttnRefIdeal.τ Cert.AttnRefIdeal.sig) → Buf (Elt Ideal) ℓ) (g' : Dev Cert.AttnRefIdeal.nD → PrngReg), Pre_AttnIdeal_finite_qk m →
    (∀ c : Dev Cert.AttnIdeal.nD,
      m' ((c.tc : Thread Cert.AttnRefIdeal.nD Cert.AttnRefIdeal.τ).loc Cert.AttnRefIdeal.main_arg0) = m ((c.tc : Thread Cert.AttnIdeal.nD Cert.AttnIdeal.τ).loc Cert.AttnIdeal.main_arg0)
      ∧ m' ((c.tc : Thread Cert.AttnRefIdeal.nD Cert.AttnRefIdeal.τ).loc Cert.AttnRefIdeal.main_arg1) = m ((c.tc : Thread Cert.AttnIdeal.nD Cert.AttnIdeal.τ).loc Cert.AttnIdeal.main_arg1)
      ∧ m' ((c.tc : Thread Cert.AttnRefIdeal.nD Cert.AttnRefIdeal.τ).loc Cert.AttnRefIdeal.main_arg2) = m ((c.tc : Thread Cert.AttnIdeal.nD Cert.AttnIdeal.τ).loc Cert.AttnIdeal.main_arg2)
      ∧ m' ((c.tc : Thread Cert.AttnRefIdeal.nD Cert.AttnRefIdeal.τ).loc Cert.AttnRefIdeal.main_arg3) = m ((c.tc : Thread Cert.AttnIdeal.nD Cert.AttnIdeal.τ).loc Cert.AttnIdeal.main_arg3)) →
    ∃ (v0 : (c : Dev Cert.AttnIdeal.nD) → Buf (Elt Ideal) ((c.tc : Thread Cert.AttnIdeal.nD Cert.AttnIdeal.τ).loc Cert.AttnIdeal.main_v35_0)) (v1 : (c : Dev Cert.AttnIdeal.nD) → Buf (Elt Ideal) ((c.tc : Thread Cert.AttnIdeal.nD Cert.AttnIdeal.τ).loc Cert.AttnIdeal.main_v35_1)) (v2 : (c : Dev Cert.AttnIdeal.nD) → Buf (Elt Ideal) ((c.tc : Thread Cert.AttnIdeal.nD Cert.AttnIdeal.τ).loc Cert.AttnIdeal.main_v35_2)),
      θ_run (Cert.AttnIdeal.defs (F := Ideal)) (onTc (τ := Cert.AttnIdeal.τ) (Cert.AttnIdeal.main (F := Ideal))) ⟨m, fun _ => 0, g⟩ (fun r => ∀ c : Dev Cert.AttnIdeal.nD,
          r.2.mem ((c.tc : Thread Cert.AttnIdeal.nD Cert.AttnIdeal.τ).loc Cert.AttnIdeal.main_v35_0) = v0 c
          ∧ r.2.mem ((c.tc : Thread Cert.AttnIdeal.nD Cert.AttnIdeal.τ).loc Cert.AttnIdeal.main_v35_1) = v1 c
          ∧ r.2.mem ((c.tc : Thread Cert.AttnIdeal.nD Cert.AttnIdeal.τ).loc Cert.AttnIdeal.main_v35_2) = v2 c
          ∧ r.2.mem ((c.tc : Thread Cert.AttnIdeal.nD Cert.AttnIdeal.τ).loc Cert.AttnIdeal.main_arg0) = m ((c.tc : Thread Cert.AttnIdeal.nD Cert.AttnIdeal.τ).loc Cert.AttnIdeal.main_arg0)
          ∧ r.2.mem ((c.tc : Thread Cert.AttnIdeal.nD Cert.AttnIdeal.τ).loc Cert.AttnIdeal.main_arg1) = m ((c.tc : Thread Cert.AttnIdeal.nD Cert.AttnIdeal.τ).loc Cert.AttnIdeal.main_arg1)
          ∧ r.2.mem ((c.tc : Thread Cert.AttnIdeal.nD Cert.AttnIdeal.τ).loc Cert.AttnIdeal.main_arg2) = m ((c.tc : Thread Cert.AttnIdeal.nD Cert.AttnIdeal.τ).loc Cert.AttnIdeal.main_arg2)
          ∧ r.2.mem ((c.tc : Thread Cert.AttnIdeal.nD Cert.AttnIdeal.τ).loc Cert.AttnIdeal.main_arg3) = m ((c.tc : Thread Cert.AttnIdeal.nD Cert.AttnIdeal.τ).loc Cert.AttnIdeal.main_arg3))
      ∧ θ_run (Cert.AttnRefIdeal.defs (F := Ideal)) (onTc (τ := Cert.AttnRefIdeal.τ) (Cert.AttnRefIdeal.main (F := Ideal))) ⟨m', fun _ => 0, g'⟩ (fun r => ∀ c : Dev Cert.AttnRefIdeal.nD,
          r.2.mem ((c.tc : Thread Cert.AttnRefIdeal.nD Cert.AttnRefIdeal.τ).loc Cert.AttnRefIdeal.main_v66) = v0 c
          ∧ r.2.mem ((c.tc : Thread Cert.AttnRefIdeal.nD Cert.AttnRefIdeal.τ).loc Cert.AttnRefIdeal.main_v68) = v1 c
          ∧ r.2.mem ((c.tc : Thread Cert.AttnRefIdeal.nD Cert.AttnRefIdeal.τ).loc Cert.AttnRefIdeal.main_v70) = v2 c
          ∧ r.2.mem ((c.tc : Thread Cert.AttnRefIdeal.nD Cert.AttnRefIdeal.τ).loc Cert.AttnRefIdeal.main_arg0) = m' ((c.tc : Thread Cert.AttnRefIdeal.nD Cert.AttnRefIdeal.τ).loc Cert.AttnRefIdeal.main_arg0)
          ∧ r.2.mem ((c.tc : Thread Cert.AttnRefIdeal.nD Cert.AttnRefIdeal.τ).loc Cert.AttnRefIdeal.main_arg1) = m' ((c.tc : Thread Cert.AttnRefIdeal.nD Cert.AttnRefIdeal.τ).loc Cert.AttnRefIdeal.main_arg1)
          ∧ r.2.mem ((c.tc : Thread Cert.AttnRefIdeal.nD Cert.AttnRefIdeal.τ).loc Cert.AttnRefIdeal.main_arg2) = m' ((c.tc : Thread Cert.AttnRefIdeal.nD Cert.AttnRefIdeal.τ).loc Cert.AttnRefIdeal.main_arg2)
          ∧ r.2.mem ((c.tc : Thread Cert.AttnRefIdeal.nD Cert.AttnRefIdeal.τ).loc Cert.AttnRefIdeal.main_arg3) = m' ((c.tc : Thread Cert.AttnRefIdeal.nD Cert.AttnRefIdeal.τ).loc Cert.AttnRefIdeal.main_arg3))

def preserves_FfnA_FfnAIdeal : Prop :=
  True

def algebraic_FfnAIdeal_FfnARefIdeal [hFfnAIdeal : Cert.FfnAIdeal.Facts] [hFfnARefIdeal : Cert.FfnARefIdeal.Facts] : Prop :=
  ∀ (m : (ℓ : Loc Cert.FfnAIdeal.nD Cert.FfnAIdeal.τ Cert.FfnAIdeal.sig) → Buf (Elt Ideal) ℓ) (g : Dev Cert.FfnAIdeal.nD → PrngReg)
    (m' : (ℓ : Loc Cert.FfnARefIdeal.nD Cert.FfnARefIdeal.τ Cert.FfnARefIdeal.sig) → Buf (Elt Ideal) ℓ) (g' : Dev Cert.FfnARefIdeal.nD → PrngReg), Pre_FfnAIdeal m →
    (∀ c : Dev Cert.FfnAIdeal.nD,
      m' ((c.tc : Thread Cert.FfnARefIdeal.nD Cert.FfnARefIdeal.τ).loc Cert.FfnARefIdeal.main_arg0) = m ((c.tc : Thread Cert.FfnAIdeal.nD Cert.FfnAIdeal.τ).loc Cert.FfnAIdeal.main_arg0)
      ∧ m' ((c.tc : Thread Cert.FfnARefIdeal.nD Cert.FfnARefIdeal.τ).loc Cert.FfnARefIdeal.main_arg1) = m ((c.tc : Thread Cert.FfnAIdeal.nD Cert.FfnAIdeal.τ).loc Cert.FfnAIdeal.main_arg1)
      ∧ m' ((c.tc : Thread Cert.FfnARefIdeal.nD Cert.FfnARefIdeal.τ).loc Cert.FfnARefIdeal.main_arg2) = m ((c.tc : Thread Cert.FfnAIdeal.nD Cert.FfnAIdeal.τ).loc Cert.FfnAIdeal.main_arg2)
      ∧ m' ((c.tc : Thread Cert.FfnARefIdeal.nD Cert.FfnARefIdeal.τ).loc Cert.FfnARefIdeal.main_arg3) = m ((c.tc : Thread Cert.FfnAIdeal.nD Cert.FfnAIdeal.τ).loc Cert.FfnAIdeal.main_arg3)
      ∧ m' ((c.tc : Thread Cert.FfnARefIdeal.nD Cert.FfnARefIdeal.τ).loc Cert.FfnARefIdeal.main_arg4) = m ((c.tc : Thread Cert.FfnAIdeal.nD Cert.FfnAIdeal.τ).loc Cert.FfnAIdeal.main_arg4)
      ∧ m' ((c.tc : Thread Cert.FfnARefIdeal.nD Cert.FfnARefIdeal.τ).loc Cert.FfnARefIdeal.main_arg5) = m ((c.tc : Thread Cert.FfnAIdeal.nD Cert.FfnAIdeal.τ).loc Cert.FfnAIdeal.main_arg5)
      ∧ m' ((c.tc : Thread Cert.FfnARefIdeal.nD Cert.FfnARefIdeal.τ).loc Cert.FfnARefIdeal.main_arg6) = m ((c.tc : Thread Cert.FfnAIdeal.nD Cert.FfnAIdeal.τ).loc Cert.FfnAIdeal.main_arg6)
      ∧ m' ((c.tc : Thread Cert.FfnARefIdeal.nD Cert.FfnARefIdeal.τ).loc Cert.FfnARefIdeal.main_arg7) = m ((c.tc : Thread Cert.FfnAIdeal.nD Cert.FfnAIdeal.τ).loc Cert.FfnAIdeal.main_arg7)) →
    ∃ (v0 : (c : Dev Cert.FfnAIdeal.nD) → Buf (Elt Ideal) ((c.tc : Thread Cert.FfnAIdeal.nD Cert.FfnAIdeal.τ).loc Cert.FfnAIdeal.main_v10_0)) (v1 : (c : Dev Cert.FfnAIdeal.nD) → Buf (Elt Ideal) ((c.tc : Thread Cert.FfnAIdeal.nD Cert.FfnAIdeal.τ).loc Cert.FfnAIdeal.main_v10_1)) (v2 : (c : Dev Cert.FfnAIdeal.nD) → Buf (Elt Ideal) ((c.tc : Thread Cert.FfnAIdeal.nD Cert.FfnAIdeal.τ).loc Cert.FfnAIdeal.main_v10_2)),
      θ_run (Cert.FfnAIdeal.defs (F := Ideal)) (onTc (τ := Cert.FfnAIdeal.τ) (Cert.FfnAIdeal.main (F := Ideal))) ⟨m, fun _ => 0, g⟩ (fun r => ∀ c : Dev Cert.FfnAIdeal.nD,
          r.2.mem ((c.tc : Thread Cert.FfnAIdeal.nD Cert.FfnAIdeal.τ).loc Cert.FfnAIdeal.main_v10_0) = v0 c
          ∧ r.2.mem ((c.tc : Thread Cert.FfnAIdeal.nD Cert.FfnAIdeal.τ).loc Cert.FfnAIdeal.main_v10_1) = v1 c
          ∧ r.2.mem ((c.tc : Thread Cert.FfnAIdeal.nD Cert.FfnAIdeal.τ).loc Cert.FfnAIdeal.main_v10_2) = v2 c
          ∧ r.2.mem ((c.tc : Thread Cert.FfnAIdeal.nD Cert.FfnAIdeal.τ).loc Cert.FfnAIdeal.main_arg0) = m ((c.tc : Thread Cert.FfnAIdeal.nD Cert.FfnAIdeal.τ).loc Cert.FfnAIdeal.main_arg0)
          ∧ r.2.mem ((c.tc : Thread Cert.FfnAIdeal.nD Cert.FfnAIdeal.τ).loc Cert.FfnAIdeal.main_arg1) = m ((c.tc : Thread Cert.FfnAIdeal.nD Cert.FfnAIdeal.τ).loc Cert.FfnAIdeal.main_arg1)
          ∧ r.2.mem ((c.tc : Thread Cert.FfnAIdeal.nD Cert.FfnAIdeal.τ).loc Cert.FfnAIdeal.main_arg2) = m ((c.tc : Thread Cert.FfnAIdeal.nD Cert.FfnAIdeal.τ).loc Cert.FfnAIdeal.main_arg2)
          ∧ r.2.mem ((c.tc : Thread Cert.FfnAIdeal.nD Cert.FfnAIdeal.τ).loc Cert.FfnAIdeal.main_arg3) = m ((c.tc : Thread Cert.FfnAIdeal.nD Cert.FfnAIdeal.τ).loc Cert.FfnAIdeal.main_arg3)
          ∧ r.2.mem ((c.tc : Thread Cert.FfnAIdeal.nD Cert.FfnAIdeal.τ).loc Cert.FfnAIdeal.main_arg4) = m ((c.tc : Thread Cert.FfnAIdeal.nD Cert.FfnAIdeal.τ).loc Cert.FfnAIdeal.main_arg4)
          ∧ r.2.mem ((c.tc : Thread Cert.FfnAIdeal.nD Cert.FfnAIdeal.τ).loc Cert.FfnAIdeal.main_arg5) = m ((c.tc : Thread Cert.FfnAIdeal.nD Cert.FfnAIdeal.τ).loc Cert.FfnAIdeal.main_arg5)
          ∧ r.2.mem ((c.tc : Thread Cert.FfnAIdeal.nD Cert.FfnAIdeal.τ).loc Cert.FfnAIdeal.main_arg6) = m ((c.tc : Thread Cert.FfnAIdeal.nD Cert.FfnAIdeal.τ).loc Cert.FfnAIdeal.main_arg6)
          ∧ r.2.mem ((c.tc : Thread Cert.FfnAIdeal.nD Cert.FfnAIdeal.τ).loc Cert.FfnAIdeal.main_arg7) = m ((c.tc : Thread Cert.FfnAIdeal.nD Cert.FfnAIdeal.τ).loc Cert.FfnAIdeal.main_arg7))
      ∧ θ_run (Cert.FfnARefIdeal.defs (F := Ideal)) (onTc (τ := Cert.FfnARefIdeal.τ) (Cert.FfnARefIdeal.main (F := Ideal))) ⟨m', fun _ => 0, g'⟩ (fun r => ∀ c : Dev Cert.FfnARefIdeal.nD,
          r.2.mem ((c.tc : Thread Cert.FfnARefIdeal.nD Cert.FfnARefIdeal.τ).loc Cert.FfnARefIdeal.main_v85) = v0 c
          ∧ r.2.mem ((c.tc : Thread Cert.FfnARefIdeal.nD Cert.FfnARefIdeal.τ).loc Cert.FfnARefIdeal.main_v87) = v1 c
          ∧ r.2.mem ((c.tc : Thread Cert.FfnARefIdeal.nD Cert.FfnARefIdeal.τ).loc Cert.FfnARefIdeal.main_v88) = v2 c
          ∧ r.2.mem ((c.tc : Thread Cert.FfnARefIdeal.nD Cert.FfnARefIdeal.τ).loc Cert.FfnARefIdeal.main_arg0) = m' ((c.tc : Thread Cert.FfnARefIdeal.nD Cert.FfnARefIdeal.τ).loc Cert.FfnARefIdeal.main_arg0)
          ∧ r.2.mem ((c.tc : Thread Cert.FfnARefIdeal.nD Cert.FfnARefIdeal.τ).loc Cert.FfnARefIdeal.main_arg1) = m' ((c.tc : Thread Cert.FfnARefIdeal.nD Cert.FfnARefIdeal.τ).loc Cert.FfnARefIdeal.main_arg1)
          ∧ r.2.mem ((c.tc : Thread Cert.FfnARefIdeal.nD Cert.FfnARefIdeal.τ).loc Cert.FfnARefIdeal.main_arg2) = m' ((c.tc : Thread Cert.FfnARefIdeal.nD Cert.FfnARefIdeal.τ).loc Cert.FfnARefIdeal.main_arg2)
          ∧ r.2.mem ((c.tc : Thread Cert.FfnARefIdeal.nD Cert.FfnARefIdeal.τ).loc Cert.FfnARefIdeal.main_arg3) = m' ((c.tc : Thread Cert.FfnARefIdeal.nD Cert.FfnARefIdeal.τ).loc Cert.FfnARefIdeal.main_arg3)
          ∧ r.2.mem ((c.tc : Thread Cert.FfnARefIdeal.nD Cert.FfnARefIdeal.τ).loc Cert.FfnARefIdeal.main_arg4) = m' ((c.tc : Thread Cert.FfnARefIdeal.nD Cert.FfnARefIdeal.τ).loc Cert.FfnARefIdeal.main_arg4)
          ∧ r.2.mem ((c.tc : Thread Cert.FfnARefIdeal.nD Cert.FfnARefIdeal.τ).loc Cert.FfnARefIdeal.main_arg5) = m' ((c.tc : Thread Cert.FfnARefIdeal.nD Cert.FfnARefIdeal.τ).loc Cert.FfnARefIdeal.main_arg5)
          ∧ r.2.mem ((c.tc : Thread Cert.FfnARefIdeal.nD Cert.FfnARefIdeal.τ).loc Cert.FfnARefIdeal.main_arg6) = m' ((c.tc : Thread Cert.FfnARefIdeal.nD Cert.FfnARefIdeal.τ).loc Cert.FfnARefIdeal.main_arg6)
          ∧ r.2.mem ((c.tc : Thread Cert.FfnARefIdeal.nD Cert.FfnARefIdeal.τ).loc Cert.FfnARefIdeal.main_arg7) = m' ((c.tc : Thread Cert.FfnARefIdeal.nD Cert.FfnARefIdeal.τ).loc Cert.FfnARefIdeal.main_arg7))

def preserves_Sgu_SguIdeal : Prop :=
  True

def algebraic_SguIdeal_SguRefIdeal [hSguIdeal : Cert.SguIdeal.Facts] [hSguRefIdeal : Cert.SguRefIdeal.Facts] : Prop :=
  ∀ (m : (ℓ : Loc Cert.SguIdeal.nD Cert.SguIdeal.τ Cert.SguIdeal.sig) → Buf (Elt Ideal) ℓ) (g : Dev Cert.SguIdeal.nD → PrngReg)
    (m' : (ℓ : Loc Cert.SguRefIdeal.nD Cert.SguRefIdeal.τ Cert.SguRefIdeal.sig) → Buf (Elt Ideal) ℓ) (g' : Dev Cert.SguRefIdeal.nD → PrngReg), Pre_SguIdeal m →
    (∀ c : Dev Cert.SguIdeal.nD,
      m' ((c.tc : Thread Cert.SguRefIdeal.nD Cert.SguRefIdeal.τ).loc Cert.SguRefIdeal.main_arg0) = m ((c.tc : Thread Cert.SguIdeal.nD Cert.SguIdeal.τ).loc Cert.SguIdeal.main_arg0)
      ∧ m' ((c.tc : Thread Cert.SguRefIdeal.nD Cert.SguRefIdeal.τ).loc Cert.SguRefIdeal.main_arg1) = m ((c.tc : Thread Cert.SguIdeal.nD Cert.SguIdeal.τ).loc Cert.SguIdeal.main_arg1)
      ∧ m' ((c.tc : Thread Cert.SguRefIdeal.nD Cert.SguRefIdeal.τ).loc Cert.SguRefIdeal.main_arg2) = m ((c.tc : Thread Cert.SguIdeal.nD Cert.SguIdeal.τ).loc Cert.SguIdeal.main_arg2)
      ∧ m' ((c.tc : Thread Cert.SguRefIdeal.nD Cert.SguRefIdeal.τ).loc Cert.SguRefIdeal.main_arg3) = m ((c.tc : Thread Cert.SguIdeal.nD Cert.SguIdeal.τ).loc Cert.SguIdeal.main_arg3)
      ∧ m' ((c.tc : Thread Cert.SguRefIdeal.nD Cert.SguRefIdeal.τ).loc Cert.SguRefIdeal.main_arg4) = m ((c.tc : Thread Cert.SguIdeal.nD Cert.SguIdeal.τ).loc Cert.SguIdeal.main_arg4)
      ∧ m' ((c.tc : Thread Cert.SguRefIdeal.nD Cert.SguRefIdeal.τ).loc Cert.SguRefIdeal.main_arg5) = m ((c.tc : Thread Cert.SguIdeal.nD Cert.SguIdeal.τ).loc Cert.SguIdeal.main_arg5)
      ∧ m' ((c.tc : Thread Cert.SguRefIdeal.nD Cert.SguRefIdeal.τ).loc Cert.SguRefIdeal.main_arg6) = m ((c.tc : Thread Cert.SguIdeal.nD Cert.SguIdeal.τ).loc Cert.SguIdeal.main_arg6)
      ∧ m' ((c.tc : Thread Cert.SguRefIdeal.nD Cert.SguRefIdeal.τ).loc Cert.SguRefIdeal.main_arg7) = m ((c.tc : Thread Cert.SguIdeal.nD Cert.SguIdeal.τ).loc Cert.SguIdeal.main_arg7)
      ∧ m' ((c.tc : Thread Cert.SguRefIdeal.nD Cert.SguRefIdeal.τ).loc Cert.SguRefIdeal.main_arg8) = m ((c.tc : Thread Cert.SguIdeal.nD Cert.SguIdeal.τ).loc Cert.SguIdeal.main_arg8)) →
    ∃ (v0 : (c : Dev Cert.SguIdeal.nD) → Buf (Elt Ideal) ((c.tc : Thread Cert.SguIdeal.nD Cert.SguIdeal.τ).loc Cert.SguIdeal.main_v9_0)) (v1 : (c : Dev Cert.SguIdeal.nD) → Buf (Elt Ideal) ((c.tc : Thread Cert.SguIdeal.nD Cert.SguIdeal.τ).loc Cert.SguIdeal.main_v9_1)) (v2 : (c : Dev Cert.SguIdeal.nD) → Buf (Elt Ideal) ((c.tc : Thread Cert.SguIdeal.nD Cert.SguIdeal.τ).loc Cert.SguIdeal.main_v9_2)) (v3 : (c : Dev Cert.SguIdeal.nD) → Buf (Elt Ideal) ((c.tc : Thread Cert.SguIdeal.nD Cert.SguIdeal.τ).loc Cert.SguIdeal.main_v9_3)) (v4 : (c : Dev Cert.SguIdeal.nD) → Buf (Elt Ideal) ((c.tc : Thread Cert.SguIdeal.nD Cert.SguIdeal.τ).loc Cert.SguIdeal.main_v9_4)) (v5 : (c : Dev Cert.SguIdeal.nD) → Buf (Elt Ideal) ((c.tc : Thread Cert.SguIdeal.nD Cert.SguIdeal.τ).loc Cert.SguIdeal.main_v9_5)) (v6 : (c : Dev Cert.SguIdeal.nD) → Buf (Elt Ideal) ((c.tc : Thread Cert.SguIdeal.nD Cert.SguIdeal.τ).loc Cert.SguIdeal.main_v9_6)) (v7 : (c : Dev Cert.SguIdeal.nD) → Buf (Elt Ideal) ((c.tc : Thread Cert.SguIdeal.nD Cert.SguIdeal.τ).loc Cert.SguIdeal.main_v9_7)),
      θ_run (Cert.SguIdeal.defs (F := Ideal)) (onTc (τ := Cert.SguIdeal.τ) (Cert.SguIdeal.main (F := Ideal))) ⟨m, fun _ => 0, g⟩ (fun r => ∀ c : Dev Cert.SguIdeal.nD,
          r.2.mem ((c.tc : Thread Cert.SguIdeal.nD Cert.SguIdeal.τ).loc Cert.SguIdeal.main_v9_0) = v0 c
          ∧ r.2.mem ((c.tc : Thread Cert.SguIdeal.nD Cert.SguIdeal.τ).loc Cert.SguIdeal.main_v9_1) = v1 c
          ∧ r.2.mem ((c.tc : Thread Cert.SguIdeal.nD Cert.SguIdeal.τ).loc Cert.SguIdeal.main_v9_2) = v2 c
          ∧ r.2.mem ((c.tc : Thread Cert.SguIdeal.nD Cert.SguIdeal.τ).loc Cert.SguIdeal.main_v9_3) = v3 c
          ∧ r.2.mem ((c.tc : Thread Cert.SguIdeal.nD Cert.SguIdeal.τ).loc Cert.SguIdeal.main_v9_4) = v4 c
          ∧ r.2.mem ((c.tc : Thread Cert.SguIdeal.nD Cert.SguIdeal.τ).loc Cert.SguIdeal.main_v9_5) = v5 c
          ∧ r.2.mem ((c.tc : Thread Cert.SguIdeal.nD Cert.SguIdeal.τ).loc Cert.SguIdeal.main_v9_6) = v6 c
          ∧ r.2.mem ((c.tc : Thread Cert.SguIdeal.nD Cert.SguIdeal.τ).loc Cert.SguIdeal.main_v9_7) = v7 c
          ∧ r.2.mem ((c.tc : Thread Cert.SguIdeal.nD Cert.SguIdeal.τ).loc Cert.SguIdeal.main_arg0) = m ((c.tc : Thread Cert.SguIdeal.nD Cert.SguIdeal.τ).loc Cert.SguIdeal.main_arg0)
          ∧ r.2.mem ((c.tc : Thread Cert.SguIdeal.nD Cert.SguIdeal.τ).loc Cert.SguIdeal.main_arg1) = m ((c.tc : Thread Cert.SguIdeal.nD Cert.SguIdeal.τ).loc Cert.SguIdeal.main_arg1)
          ∧ r.2.mem ((c.tc : Thread Cert.SguIdeal.nD Cert.SguIdeal.τ).loc Cert.SguIdeal.main_arg2) = m ((c.tc : Thread Cert.SguIdeal.nD Cert.SguIdeal.τ).loc Cert.SguIdeal.main_arg2)
          ∧ r.2.mem ((c.tc : Thread Cert.SguIdeal.nD Cert.SguIdeal.τ).loc Cert.SguIdeal.main_arg3) = m ((c.tc : Thread Cert.SguIdeal.nD Cert.SguIdeal.τ).loc Cert.SguIdeal.main_arg3)
          ∧ r.2.mem ((c.tc : Thread Cert.SguIdeal.nD Cert.SguIdeal.τ).loc Cert.SguIdeal.main_arg4) = m ((c.tc : Thread Cert.SguIdeal.nD Cert.SguIdeal.τ).loc Cert.SguIdeal.main_arg4)
          ∧ r.2.mem ((c.tc : Thread Cert.SguIdeal.nD Cert.SguIdeal.τ).loc Cert.SguIdeal.main_arg5) = m ((c.tc : Thread Cert.SguIdeal.nD Cert.SguIdeal.τ).loc Cert.SguIdeal.main_arg5)
          ∧ r.2.mem ((c.tc : Thread Cert.SguIdeal.nD Cert.SguIdeal.τ).loc Cert.SguIdeal.main_arg6) = m ((c.tc : Thread Cert.SguIdeal.nD Cert.SguIdeal.τ).loc Cert.SguIdeal.main_arg6)
          ∧ r.2.mem ((c.tc : Thread Cert.SguIdeal.nD Cert.SguIdeal.τ).loc Cert.SguIdeal.main_arg7) = m ((c.tc : Thread Cert.SguIdeal.nD Cert.SguIdeal.τ).loc Cert.SguIdeal.main_arg7)
          ∧ r.2.mem ((c.tc : Thread Cert.SguIdeal.nD Cert.SguIdeal.τ).loc Cert.SguIdeal.main_arg8) = m ((c.tc : Thread Cert.SguIdeal.nD Cert.SguIdeal.τ).loc Cert.SguIdeal.main_arg8))
      ∧ θ_run (Cert.SguRefIdeal.defs (F := Ideal)) (onTc (τ := Cert.SguRefIdeal.τ) (Cert.SguRefIdeal.main (F := Ideal))) ⟨m', fun _ => 0, g'⟩ (fun r => ∀ c : Dev Cert.SguRefIdeal.nD,
          r.2.mem ((c.tc : Thread Cert.SguRefIdeal.nD Cert.SguRefIdeal.τ).loc Cert.SguRefIdeal.main_v170) = v0 c
          ∧ r.2.mem ((c.tc : Thread Cert.SguRefIdeal.nD Cert.SguRefIdeal.τ).loc Cert.SguRefIdeal.main_v171) = v1 c
          ∧ r.2.mem ((c.tc : Thread Cert.SguRefIdeal.nD Cert.SguRefIdeal.τ).loc Cert.SguRefIdeal.main_v147) = v2 c
          ∧ r.2.mem ((c.tc : Thread Cert.SguRefIdeal.nD Cert.SguRefIdeal.τ).loc Cert.SguRefIdeal.main_v172) = v3 c
          ∧ r.2.mem ((c.tc : Thread Cert.SguRefIdeal.nD Cert.SguRefIdeal.τ).loc Cert.SguRefIdeal.main_v173) = v4 c
          ∧ r.2.mem ((c.tc : Thread Cert.SguRefIdeal.nD Cert.SguRefIdeal.τ).loc Cert.SguRefIdeal.main_v100) = v5 c
          ∧ r.2.mem ((c.tc : Thread Cert.SguRefIdeal.nD Cert.SguRefIdeal.τ).loc Cert.SguRefIdeal.main_v175) = v6 c
          ∧ r.2.mem ((c.tc : Thread Cert.SguRefIdeal.nD Cert.SguRefIdeal.τ).loc Cert.SguRefIdeal.main_v84) = v7 c
          ∧ r.2.mem ((c.tc : Thread Cert.SguRefIdeal.nD Cert.SguRefIdeal.τ).loc Cert.SguRefIdeal.main_arg0) = m' ((c.tc : Thread Cert.SguRefIdeal.nD Cert.SguRefIdeal.τ).loc Cert.SguRefIdeal.main_arg0)
          ∧ r.2.mem ((c.tc : Thread Cert.SguRefIdeal.nD Cert.SguRefIdeal.τ).loc Cert.SguRefIdeal.main_arg1) = m' ((c.tc : Thread Cert.SguRefIdeal.nD Cert.SguRefIdeal.τ).loc Cert.SguRefIdeal.main_arg1)
          ∧ r.2.mem ((c.tc : Thread Cert.SguRefIdeal.nD Cert.SguRefIdeal.τ).loc Cert.SguRefIdeal.main_arg2) = m' ((c.tc : Thread Cert.SguRefIdeal.nD Cert.SguRefIdeal.τ).loc Cert.SguRefIdeal.main_arg2)
          ∧ r.2.mem ((c.tc : Thread Cert.SguRefIdeal.nD Cert.SguRefIdeal.τ).loc Cert.SguRefIdeal.main_arg3) = m' ((c.tc : Thread Cert.SguRefIdeal.nD Cert.SguRefIdeal.τ).loc Cert.SguRefIdeal.main_arg3)
          ∧ r.2.mem ((c.tc : Thread Cert.SguRefIdeal.nD Cert.SguRefIdeal.τ).loc Cert.SguRefIdeal.main_arg4) = m' ((c.tc : Thread Cert.SguRefIdeal.nD Cert.SguRefIdeal.τ).loc Cert.SguRefIdeal.main_arg4)
          ∧ r.2.mem ((c.tc : Thread Cert.SguRefIdeal.nD Cert.SguRefIdeal.τ).loc Cert.SguRefIdeal.main_arg5) = m' ((c.tc : Thread Cert.SguRefIdeal.nD Cert.SguRefIdeal.τ).loc Cert.SguRefIdeal.main_arg5)
          ∧ r.2.mem ((c.tc : Thread Cert.SguRefIdeal.nD Cert.SguRefIdeal.τ).loc Cert.SguRefIdeal.main_arg6) = m' ((c.tc : Thread Cert.SguRefIdeal.nD Cert.SguRefIdeal.τ).loc Cert.SguRefIdeal.main_arg6)
          ∧ r.2.mem ((c.tc : Thread Cert.SguRefIdeal.nD Cert.SguRefIdeal.τ).loc Cert.SguRefIdeal.main_arg7) = m' ((c.tc : Thread Cert.SguRefIdeal.nD Cert.SguRefIdeal.τ).loc Cert.SguRefIdeal.main_arg7)
          ∧ r.2.mem ((c.tc : Thread Cert.SguRefIdeal.nD Cert.SguRefIdeal.τ).loc Cert.SguRefIdeal.main_arg8) = m' ((c.tc : Thread Cert.SguRefIdeal.nD Cert.SguRefIdeal.τ).loc Cert.SguRefIdeal.main_arg8))

def preserves_AttnF_AttnFIdeal : Prop :=
  IdealRules.named_const.Statement Cert.AttnFIdeal.κ "mask" .f32 0xF149F2CA#32 ⊥

def algebraic_AttnFIdeal_AttnFRefIdeal_pre_finite_heads [hAttnFIdeal : Cert.AttnFIdeal.Facts] [hAttnFRefIdeal : Cert.AttnFRefIdeal.Facts] [hPre_finite_heads : Cert.Pre_finite_heads.Facts] : Prop :=
  ∀ (m : (ℓ : Loc Cert.AttnFIdeal.nD Cert.AttnFIdeal.τ Cert.AttnFIdeal.sig) → Buf (Elt Ideal) ℓ) (g : Dev Cert.AttnFIdeal.nD → PrngReg)
    (m' : (ℓ : Loc Cert.AttnFRefIdeal.nD Cert.AttnFRefIdeal.τ Cert.AttnFRefIdeal.sig) → Buf (Elt Ideal) ℓ) (g' : Dev Cert.AttnFRefIdeal.nD → PrngReg), Pre_AttnFIdeal_finite_heads m →
    (∀ c : Dev Cert.AttnFIdeal.nD,
      m' ((c.tc : Thread Cert.AttnFRefIdeal.nD Cert.AttnFRefIdeal.τ).loc Cert.AttnFRefIdeal.main_arg0) = m ((c.tc : Thread Cert.AttnFIdeal.nD Cert.AttnFIdeal.τ).loc Cert.AttnFIdeal.main_arg0)
      ∧ m' ((c.tc : Thread Cert.AttnFRefIdeal.nD Cert.AttnFRefIdeal.τ).loc Cert.AttnFRefIdeal.main_arg1) = m ((c.tc : Thread Cert.AttnFIdeal.nD Cert.AttnFIdeal.τ).loc Cert.AttnFIdeal.main_arg1)
      ∧ m' ((c.tc : Thread Cert.AttnFRefIdeal.nD Cert.AttnFRefIdeal.τ).loc Cert.AttnFRefIdeal.main_arg2) = m ((c.tc : Thread Cert.AttnFIdeal.nD Cert.AttnFIdeal.τ).loc Cert.AttnFIdeal.main_arg2)) →
    ∃ (v0 : (c : Dev Cert.AttnFIdeal.nD) → Buf (Elt Ideal) ((c.tc : Thread Cert.AttnFIdeal.nD Cert.AttnFIdeal.τ).loc Cert.AttnFIdeal.main_v9_0)),
      θ_run (Cert.AttnFIdeal.defs (F := Ideal)) (onTc (τ := Cert.AttnFIdeal.τ) (Cert.AttnFIdeal.main (F := Ideal))) ⟨m, fun _ => 0, g⟩ (fun r => ∀ c : Dev Cert.AttnFIdeal.nD,
          r.2.mem ((c.tc : Thread Cert.AttnFIdeal.nD Cert.AttnFIdeal.τ).loc Cert.AttnFIdeal.main_v9_0) = v0 c
          ∧ r.2.mem ((c.tc : Thread Cert.AttnFIdeal.nD Cert.AttnFIdeal.τ).loc Cert.AttnFIdeal.main_arg0) = m ((c.tc : Thread Cert.AttnFIdeal.nD Cert.AttnFIdeal.τ).loc Cert.AttnFIdeal.main_arg0)
          ∧ r.2.mem ((c.tc : Thread Cert.AttnFIdeal.nD Cert.AttnFIdeal.τ).loc Cert.AttnFIdeal.main_arg1) = m ((c.tc : Thread Cert.AttnFIdeal.nD Cert.AttnFIdeal.τ).loc Cert.AttnFIdeal.main_arg1)
          ∧ r.2.mem ((c.tc : Thread Cert.AttnFIdeal.nD Cert.AttnFIdeal.τ).loc Cert.AttnFIdeal.main_arg2) = m ((c.tc : Thread Cert.AttnFIdeal.nD Cert.AttnFIdeal.τ).loc Cert.AttnFIdeal.main_arg2))
      ∧ θ_run (Cert.AttnFRefIdeal.defs (F := Ideal)) (onTc (τ := Cert.AttnFRefIdeal.τ) (Cert.AttnFRefIdeal.main (F := Ideal))) ⟨m', fun _ => 0, g'⟩ (fun r => ∀ c : Dev Cert.AttnFRefIdeal.nD,
          r.2.mem ((c.tc : Thread Cert.AttnFRefIdeal.nD Cert.AttnFRefIdeal.τ).loc Cert.AttnFRefIdeal.main_v25) = v0 c
          ∧ r.2.mem ((c.tc : Thread Cert.AttnFRefIdeal.nD Cert.AttnFRefIdeal.τ).loc Cert.AttnFRefIdeal.main_arg0) = m' ((c.tc : Thread Cert.AttnFRefIdeal.nD Cert.AttnFRefIdeal.τ).loc Cert.AttnFRefIdeal.main_arg0)
          ∧ r.2.mem ((c.tc : Thread Cert.AttnFRefIdeal.nD Cert.AttnFRefIdeal.τ).loc Cert.AttnFRefIdeal.main_arg1) = m' ((c.tc : Thread Cert.AttnFRefIdeal.nD Cert.AttnFRefIdeal.τ).loc Cert.AttnFRefIdeal.main_arg1)
          ∧ r.2.mem ((c.tc : Thread Cert.AttnFRefIdeal.nD Cert.AttnFRefIdeal.τ).loc Cert.AttnFRefIdeal.main_arg2) = m' ((c.tc : Thread Cert.AttnFRefIdeal.nD Cert.AttnFRefIdeal.τ).loc Cert.AttnFRefIdeal.main_arg2))

def preserves_FfnC_FfnCIdeal : Prop :=
  True

def algebraic_FfnCIdeal_FfnCRefIdeal [hFfnCIdeal : Cert.FfnCIdeal.Facts] [hFfnCRefIdeal : Cert.FfnCRefIdeal.Facts] : Prop :=
  ∀ (m : (ℓ : Loc Cert.FfnCIdeal.nD Cert.FfnCIdeal.τ Cert.FfnCIdeal.sig) → Buf (Elt Ideal) ℓ) (g : Dev Cert.FfnCIdeal.nD → PrngReg)
    (m' : (ℓ : Loc Cert.FfnCRefIdeal.nD Cert.FfnCRefIdeal.τ Cert.FfnCRefIdeal.sig) → Buf (Elt Ideal) ℓ) (g' : Dev Cert.FfnCRefIdeal.nD → PrngReg), Pre_FfnCIdeal m →
    (∀ c : Dev Cert.FfnCIdeal.nD,
      m' ((c.tc : Thread Cert.FfnCRefIdeal.nD Cert.FfnCRefIdeal.τ).loc Cert.FfnCRefIdeal.main_arg0) = m ((c.tc : Thread Cert.FfnCIdeal.nD Cert.FfnCIdeal.τ).loc Cert.FfnCIdeal.main_arg0)
      ∧ m' ((c.tc : Thread Cert.FfnCRefIdeal.nD Cert.FfnCRefIdeal.τ).loc Cert.FfnCRefIdeal.main_arg1) = m ((c.tc : Thread Cert.FfnCIdeal.nD Cert.FfnCIdeal.τ).loc Cert.FfnCIdeal.main_arg1)
      ∧ m' ((c.tc : Thread Cert.FfnCRefIdeal.nD Cert.FfnCRefIdeal.τ).loc Cert.FfnCRefIdeal.main_arg2) = m ((c.tc : Thread Cert.FfnCIdeal.nD Cert.FfnCIdeal.τ).loc Cert.FfnCIdeal.main_arg2)
      ∧ m' ((c.tc : Thread Cert.FfnCRefIdeal.nD Cert.FfnCRefIdeal.τ).loc Cert.FfnCRefIdeal.main_arg3) = m ((c.tc : Thread Cert.FfnCIdeal.nD Cert.FfnCIdeal.τ).loc Cert.FfnCIdeal.main_arg3)) →
    ∃ (v0 : (c : Dev Cert.FfnCIdeal.nD) → Buf (Elt Ideal) ((c.tc : Thread Cert.FfnCIdeal.nD Cert.FfnCIdeal.τ).loc Cert.FfnCIdeal.main_v6_0)) (v1 : (c : Dev Cert.FfnCIdeal.nD) → Buf (Elt Ideal) ((c.tc : Thread Cert.FfnCIdeal.nD Cert.FfnCIdeal.τ).loc Cert.FfnCIdeal.main_v6_1)) (v2 : (c : Dev Cert.FfnCIdeal.nD) → Buf (Elt Ideal) ((c.tc : Thread Cert.FfnCIdeal.nD Cert.FfnCIdeal.τ).loc Cert.FfnCIdeal.main_v6_2)),
      θ_run (Cert.FfnCIdeal.defs (F := Ideal)) (onTc (τ := Cert.FfnCIdeal.τ) (Cert.FfnCIdeal.main (F := Ideal))) ⟨m, fun _ => 0, g⟩ (fun r => ∀ c : Dev Cert.FfnCIdeal.nD,
          r.2.mem ((c.tc : Thread Cert.FfnCIdeal.nD Cert.FfnCIdeal.τ).loc Cert.FfnCIdeal.main_v6_0) = v0 c
          ∧ r.2.mem ((c.tc : Thread Cert.FfnCIdeal.nD Cert.FfnCIdeal.τ).loc Cert.FfnCIdeal.main_v6_1) = v1 c
          ∧ r.2.mem ((c.tc : Thread Cert.FfnCIdeal.nD Cert.FfnCIdeal.τ).loc Cert.FfnCIdeal.main_v6_2) = v2 c
          ∧ r.2.mem ((c.tc : Thread Cert.FfnCIdeal.nD Cert.FfnCIdeal.τ).loc Cert.FfnCIdeal.main_arg0) = m ((c.tc : Thread Cert.FfnCIdeal.nD Cert.FfnCIdeal.τ).loc Cert.FfnCIdeal.main_arg0)
          ∧ r.2.mem ((c.tc : Thread Cert.FfnCIdeal.nD Cert.FfnCIdeal.τ).loc Cert.FfnCIdeal.main_arg1) = m ((c.tc : Thread Cert.FfnCIdeal.nD Cert.FfnCIdeal.τ).loc Cert.FfnCIdeal.main_arg1)
          ∧ r.2.mem ((c.tc : Thread Cert.FfnCIdeal.nD Cert.FfnCIdeal.τ).loc Cert.FfnCIdeal.main_arg2) = m ((c.tc : Thread Cert.FfnCIdeal.nD Cert.FfnCIdeal.τ).loc Cert.FfnCIdeal.main_arg2)
          ∧ r.2.mem ((c.tc : Thread Cert.FfnCIdeal.nD Cert.FfnCIdeal.τ).loc Cert.FfnCIdeal.main_arg3) = m ((c.tc : Thread Cert.FfnCIdeal.nD Cert.FfnCIdeal.τ).loc Cert.FfnCIdeal.main_arg3))
      ∧ θ_run (Cert.FfnCRefIdeal.defs (F := Ideal)) (onTc (τ := Cert.FfnCRefIdeal.τ) (Cert.FfnCRefIdeal.main (F := Ideal))) ⟨m', fun _ => 0, g'⟩ (fun r => ∀ c : Dev Cert.FfnCRefIdeal.nD,
          r.2.mem ((c.tc : Thread Cert.FfnCRefIdeal.nD Cert.FfnCRefIdeal.τ).loc Cert.FfnCRefIdeal.main_v16) = v0 c
          ∧ r.2.mem ((c.tc : Thread Cert.FfnCRefIdeal.nD Cert.FfnCRefIdeal.τ).loc Cert.FfnCRefIdeal.main_v18) = v1 c
          ∧ r.2.mem ((c.tc : Thread Cert.FfnCRefIdeal.nD Cert.FfnCRefIdeal.τ).loc Cert.FfnCRefIdeal.main_v21) = v2 c
          ∧ r.2.mem ((c.tc : Thread Cert.FfnCRefIdeal.nD Cert.FfnCRefIdeal.τ).loc Cert.FfnCRefIdeal.main_arg0) = m' ((c.tc : Thread Cert.FfnCRefIdeal.nD Cert.FfnCRefIdeal.τ).loc Cert.FfnCRefIdeal.main_arg0)
          ∧ r.2.mem ((c.tc : Thread Cert.FfnCRefIdeal.nD Cert.FfnCRefIdeal.τ).loc Cert.FfnCRefIdeal.main_arg1) = m' ((c.tc : Thread Cert.FfnCRefIdeal.nD Cert.FfnCRefIdeal.τ).loc Cert.FfnCRefIdeal.main_arg1)
          ∧ r.2.mem ((c.tc : Thread Cert.FfnCRefIdeal.nD Cert.FfnCRefIdeal.τ).loc Cert.FfnCRefIdeal.main_arg2) = m' ((c.tc : Thread Cert.FfnCRefIdeal.nD Cert.FfnCRefIdeal.τ).loc Cert.FfnCRefIdeal.main_arg2)
          ∧ r.2.mem ((c.tc : Thread Cert.FfnCRefIdeal.nD Cert.FfnCRefIdeal.τ).loc Cert.FfnCRefIdeal.main_arg3) = m' ((c.tc : Thread Cert.FfnCRefIdeal.nD Cert.FfnCRefIdeal.τ).loc Cert.FfnCRefIdeal.main_arg3))

def preserves_SguF_SguFIdeal : Prop :=
  True

def algebraic_SguFIdeal_SguFRefIdeal [hSguFIdeal : Cert.SguFIdeal.Facts] [hSguFRefIdeal : Cert.SguFRefIdeal.Facts] : Prop :=
  ∀ (m : (ℓ : Loc Cert.SguFIdeal.nD Cert.SguFIdeal.τ Cert.SguFIdeal.sig) → Buf (Elt Ideal) ℓ) (g : Dev Cert.SguFIdeal.nD → PrngReg)
    (m' : (ℓ : Loc Cert.SguFRefIdeal.nD Cert.SguFRefIdeal.τ Cert.SguFRefIdeal.sig) → Buf (Elt Ideal) ℓ) (g' : Dev Cert.SguFRefIdeal.nD → PrngReg), Pre_SguFIdeal m →
    (∀ c : Dev Cert.SguFIdeal.nD,
      m' ((c.tc : Thread Cert.SguFRefIdeal.nD Cert.SguFRefIdeal.τ).loc Cert.SguFRefIdeal.main_arg0) = m ((c.tc : Thread Cert.SguFIdeal.nD Cert.SguFIdeal.τ).loc Cert.SguFIdeal.main_arg0)
      ∧ m' ((c.tc : Thread Cert.SguFRefIdeal.nD Cert.SguFRefIdeal.τ).loc Cert.SguFRefIdeal.main_arg1) = m ((c.tc : Thread Cert.SguFIdeal.nD Cert.SguFIdeal.τ).loc Cert.SguFIdeal.main_arg1)
      ∧ m' ((c.tc : Thread Cert.SguFRefIdeal.nD Cert.SguFRefIdeal.τ).loc Cert.SguFRefIdeal.main_arg2) = m ((c.tc : Thread Cert.SguFIdeal.nD Cert.SguFIdeal.τ).loc Cert.SguFIdeal.main_arg2)
      ∧ m' ((c.tc : Thread Cert.SguFRefIdeal.nD Cert.SguFRefIdeal.τ).loc Cert.SguFRefIdeal.main_arg3) = m ((c.tc : Thread Cert.SguFIdeal.nD Cert.SguFIdeal.τ).loc Cert.SguFIdeal.main_arg3)
      ∧ m' ((c.tc : Thread Cert.SguFRefIdeal.nD Cert.SguFRefIdeal.τ).loc Cert.SguFRefIdeal.main_arg4) = m ((c.tc : Thread Cert.SguFIdeal.nD Cert.SguFIdeal.τ).loc Cert.SguFIdeal.main_arg4)
      ∧ m' ((c.tc : Thread Cert.SguFRefIdeal.nD Cert.SguFRefIdeal.τ).loc Cert.SguFRefIdeal.main_arg5) = m ((c.tc : Thread Cert.SguFIdeal.nD Cert.SguFIdeal.τ).loc Cert.SguFIdeal.main_arg5)
      ∧ m' ((c.tc : Thread Cert.SguFRefIdeal.nD Cert.SguFRefIdeal.τ).loc Cert.SguFRefIdeal.main_arg6) = m ((c.tc : Thread Cert.SguFIdeal.nD Cert.SguFIdeal.τ).loc Cert.SguFIdeal.main_arg6)
      ∧ m' ((c.tc : Thread Cert.SguFRefIdeal.nD Cert.SguFRefIdeal.τ).loc Cert.SguFRefIdeal.main_arg7) = m ((c.tc : Thread Cert.SguFIdeal.nD Cert.SguFIdeal.τ).loc Cert.SguFIdeal.main_arg7)) →
    ∃ (v0 : (c : Dev Cert.SguFIdeal.nD) → Buf (Elt Ideal) ((c.tc : Thread Cert.SguFIdeal.nD Cert.SguFIdeal.τ).loc Cert.SguFIdeal.main_v8)),
      θ_run (Cert.SguFIdeal.defs (F := Ideal)) (onTc (τ := Cert.SguFIdeal.τ) (Cert.SguFIdeal.main (F := Ideal))) ⟨m, fun _ => 0, g⟩ (fun r => ∀ c : Dev Cert.SguFIdeal.nD,
          r.2.mem ((c.tc : Thread Cert.SguFIdeal.nD Cert.SguFIdeal.τ).loc Cert.SguFIdeal.main_v8) = v0 c
          ∧ r.2.mem ((c.tc : Thread Cert.SguFIdeal.nD Cert.SguFIdeal.τ).loc Cert.SguFIdeal.main_arg0) = m ((c.tc : Thread Cert.SguFIdeal.nD Cert.SguFIdeal.τ).loc Cert.SguFIdeal.main_arg0)
          ∧ r.2.mem ((c.tc : Thread Cert.SguFIdeal.nD Cert.SguFIdeal.τ).loc Cert.SguFIdeal.main_arg1) = m ((c.tc : Thread Cert.SguFIdeal.nD Cert.SguFIdeal.τ).loc Cert.SguFIdeal.main_arg1)
          ∧ r.2.mem ((c.tc : Thread Cert.SguFIdeal.nD Cert.SguFIdeal.τ).loc Cert.SguFIdeal.main_arg2) = m ((c.tc : Thread Cert.SguFIdeal.nD Cert.SguFIdeal.τ).loc Cert.SguFIdeal.main_arg2)
          ∧ r.2.mem ((c.tc : Thread Cert.SguFIdeal.nD Cert.SguFIdeal.τ).loc Cert.SguFIdeal.main_arg3) = m ((c.tc : Thread Cert.SguFIdeal.nD Cert.SguFIdeal.τ).loc Cert.SguFIdeal.main_arg3)
          ∧ r.2.mem ((c.tc : Thread Cert.SguFIdeal.nD Cert.SguFIdeal.τ).loc Cert.SguFIdeal.main_arg4) = m ((c.tc : Thread Cert.SguFIdeal.nD Cert.SguFIdeal.τ).loc Cert.SguFIdeal.main_arg4)
          ∧ r.2.mem ((c.tc : Thread Cert.SguFIdeal.nD Cert.SguFIdeal.τ).loc Cert.SguFIdeal.main_arg5) = m ((c.tc : Thread Cert.SguFIdeal.nD Cert.SguFIdeal.τ).loc Cert.SguFIdeal.main_arg5)
          ∧ r.2.mem ((c.tc : Thread Cert.SguFIdeal.nD Cert.SguFIdeal.τ).loc Cert.SguFIdeal.main_arg6) = m ((c.tc : Thread Cert.SguFIdeal.nD Cert.SguFIdeal.τ).loc Cert.SguFIdeal.main_arg6)
          ∧ r.2.mem ((c.tc : Thread Cert.SguFIdeal.nD Cert.SguFIdeal.τ).loc Cert.SguFIdeal.main_arg7) = m ((c.tc : Thread Cert.SguFIdeal.nD Cert.SguFIdeal.τ).loc Cert.SguFIdeal.main_arg7))
      ∧ θ_run (Cert.SguFRefIdeal.defs (F := Ideal)) (onTc (τ := Cert.SguFRefIdeal.τ) (Cert.SguFRefIdeal.main (F := Ideal))) ⟨m', fun _ => 0, g'⟩ (fun r => ∀ c : Dev Cert.SguFRefIdeal.nD,
          r.2.mem ((c.tc : Thread Cert.SguFRefIdeal.nD Cert.SguFRefIdeal.τ).loc Cert.SguFRefIdeal.main_v68) = v0 c
          ∧ r.2.mem ((c.tc : Thread Cert.SguFRefIdeal.nD Cert.SguFRefIdeal.τ).loc Cert.SguFRefIdeal.main_arg0) = m' ((c.tc : Thread Cert.SguFRefIdeal.nD Cert.SguFRefIdeal.τ).loc Cert.SguFRefIdeal.main_arg0)
          ∧ r.2.mem ((c.tc : Thread Cert.SguFRefIdeal.nD Cert.SguFRefIdeal.τ).loc Cert.SguFRefIdeal.main_arg1) = m' ((c.tc : Thread Cert.SguFRefIdeal.nD Cert.SguFRefIdeal.τ).loc Cert.SguFRefIdeal.main_arg1)
          ∧ r.2.mem ((c.tc : Thread Cert.SguFRefIdeal.nD Cert.SguFRefIdeal.τ).loc Cert.SguFRefIdeal.main_arg2) = m' ((c.tc : Thread Cert.SguFRefIdeal.nD Cert.SguFRefIdeal.τ).loc Cert.SguFRefIdeal.main_arg2)
          ∧ r.2.mem ((c.tc : Thread Cert.SguFRefIdeal.nD Cert.SguFRefIdeal.τ).loc Cert.SguFRefIdeal.main_arg3) = m' ((c.tc : Thread Cert.SguFRefIdeal.nD Cert.SguFRefIdeal.τ).loc Cert.SguFRefIdeal.main_arg3)
          ∧ r.2.mem ((c.tc : Thread Cert.SguFRefIdeal.nD Cert.SguFRefIdeal.τ).loc Cert.SguFRefIdeal.main_arg4) = m' ((c.tc : Thread Cert.SguFRefIdeal.nD Cert.SguFRefIdeal.τ).loc Cert.SguFRefIdeal.main_arg4)
          ∧ r.2.mem ((c.tc : Thread Cert.SguFRefIdeal.nD Cert.SguFRefIdeal.τ).loc Cert.SguFRefIdeal.main_arg5) = m' ((c.tc : Thread Cert.SguFRefIdeal.nD Cert.SguFRefIdeal.τ).loc Cert.SguFRefIdeal.main_arg5)
          ∧ r.2.mem ((c.tc : Thread Cert.SguFRefIdeal.nD Cert.SguFRefIdeal.τ).loc Cert.SguFRefIdeal.main_arg6) = m' ((c.tc : Thread Cert.SguFRefIdeal.nD Cert.SguFRefIdeal.τ).loc Cert.SguFRefIdeal.main_arg6)
          ∧ r.2.mem ((c.tc : Thread Cert.SguFRefIdeal.nD Cert.SguFRefIdeal.τ).loc Cert.SguFRefIdeal.main_arg7) = m' ((c.tc : Thread Cert.SguFRefIdeal.nD Cert.SguFRefIdeal.τ).loc Cert.SguFRefIdeal.main_arg7))

def preserves_Heads_HeadsIdeal : Prop :=
  True

def algebraic_HeadsIdeal_HeadsRefIdeal [hHeadsIdeal : Cert.HeadsIdeal.Facts] [hHeadsRefIdeal : Cert.HeadsRefIdeal.Facts] : Prop :=
  ∀ (m : (ℓ : Loc Cert.HeadsIdeal.nD Cert.HeadsIdeal.τ Cert.HeadsIdeal.sig) → Buf (Elt Ideal) ℓ) (g : Dev Cert.HeadsIdeal.nD → PrngReg)
    (m' : (ℓ : Loc Cert.HeadsRefIdeal.nD Cert.HeadsRefIdeal.τ Cert.HeadsRefIdeal.sig) → Buf (Elt Ideal) ℓ) (g' : Dev Cert.HeadsRefIdeal.nD → PrngReg), Pre_HeadsIdeal m →
    (∀ c : Dev Cert.HeadsIdeal.nD,
      m' ((c.tc : Thread Cert.HeadsRefIdeal.nD Cert.HeadsRefIdeal.τ).loc Cert.HeadsRefIdeal.main_arg0) = m ((c.tc : Thread Cert.HeadsIdeal.nD Cert.HeadsIdeal.τ).loc Cert.HeadsIdeal.main_arg0)
      ∧ m' ((c.tc : Thread Cert.HeadsRefIdeal.nD Cert.HeadsRefIdeal.τ).loc Cert.HeadsRefIdeal.main_arg1) = m ((c.tc : Thread Cert.HeadsIdeal.nD Cert.HeadsIdeal.τ).loc Cert.HeadsIdeal.main_arg1)
      ∧ m' ((c.tc : Thread Cert.HeadsRefIdeal.nD Cert.HeadsRefIdeal.τ).loc Cert.HeadsRefIdeal.main_arg2) = m ((c.tc : Thread Cert.HeadsIdeal.nD Cert.HeadsIdeal.τ).loc Cert.HeadsIdeal.main_arg2)
      ∧ m' ((c.tc : Thread Cert.HeadsRefIdeal.nD Cert.HeadsRefIdeal.τ).loc Cert.HeadsRefIdeal.main_arg3) = m ((c.tc : Thread Cert.HeadsIdeal.nD Cert.HeadsIdeal.τ).loc Cert.HeadsIdeal.main_arg3)
      ∧ m' ((c.tc : Thread Cert.HeadsRefIdeal.nD Cert.HeadsRefIdeal.τ).loc Cert.HeadsRefIdeal.main_arg4) = m ((c.tc : Thread Cert.HeadsIdeal.nD Cert.HeadsIdeal.τ).loc Cert.HeadsIdeal.main_arg4)
      ∧ m' ((c.tc : Thread Cert.HeadsRefIdeal.nD Cert.HeadsRefIdeal.τ).loc Cert.HeadsRefIdeal.main_arg5) = m ((c.tc : Thread Cert.HeadsIdeal.nD Cert.HeadsIdeal.τ).loc Cert.HeadsIdeal.main_arg5)
      ∧ m' ((c.tc : Thread Cert.HeadsRefIdeal.nD Cert.HeadsRefIdeal.τ).loc Cert.HeadsRefIdeal.main_arg6) = m ((c.tc : Thread Cert.HeadsIdeal.nD Cert.HeadsIdeal.τ).loc Cert.HeadsIdeal.main_arg6)
      ∧ m' ((c.tc : Thread Cert.HeadsRefIdeal.nD Cert.HeadsRefIdeal.τ).loc Cert.HeadsRefIdeal.main_arg7) = m ((c.tc : Thread Cert.HeadsIdeal.nD Cert.HeadsIdeal.τ).loc Cert.HeadsIdeal.main_arg7)) →
    ∃ (v0 : (c : Dev Cert.HeadsIdeal.nD) → Buf (Elt Ideal) ((c.tc : Thread Cert.HeadsIdeal.nD Cert.HeadsIdeal.τ).loc Cert.HeadsIdeal.main_v27_0)) (v1 : (c : Dev Cert.HeadsIdeal.nD) → Buf (Elt Ideal) ((c.tc : Thread Cert.HeadsIdeal.nD Cert.HeadsIdeal.τ).loc Cert.HeadsIdeal.main_v27_1)) (v2 : (c : Dev Cert.HeadsIdeal.nD) → Buf (Elt Ideal) ((c.tc : Thread Cert.HeadsIdeal.nD Cert.HeadsIdeal.τ).loc Cert.HeadsIdeal.main_v27_2)) (v3 : (c : Dev Cert.HeadsIdeal.nD) → Buf (Elt Ideal) ((c.tc : Thread Cert.HeadsIdeal.nD Cert.HeadsIdeal.τ).loc Cert.HeadsIdeal.main_v27_3)) (v4 : (c : Dev Cert.HeadsIdeal.nD) → Buf (Elt Ideal) ((c.tc : Thread Cert.HeadsIdeal.nD Cert.HeadsIdeal.τ).loc Cert.HeadsIdeal.main_v27_4)),
      θ_run (Cert.HeadsIdeal.defs (F := Ideal)) (onTc (τ := Cert.HeadsIdeal.τ) (Cert.HeadsIdeal.main (F := Ideal))) ⟨m, fun _ => 0, g⟩ (fun r => ∀ c : Dev Cert.HeadsIdeal.nD,
          r.2.mem ((c.tc : Thread Cert.HeadsIdeal.nD Cert.HeadsIdeal.τ).loc Cert.HeadsIdeal.main_v27_0) = v0 c
          ∧ r.2.mem ((c.tc : Thread Cert.HeadsIdeal.nD Cert.HeadsIdeal.τ).loc Cert.HeadsIdeal.main_v27_1) = v1 c
          ∧ r.2.mem ((c.tc : Thread Cert.HeadsIdeal.nD Cert.HeadsIdeal.τ).loc Cert.HeadsIdeal.main_v27_2) = v2 c
          ∧ r.2.mem ((c.tc : Thread Cert.HeadsIdeal.nD Cert.HeadsIdeal.τ).loc Cert.HeadsIdeal.main_v27_3) = v3 c
          ∧ r.2.mem ((c.tc : Thread Cert.HeadsIdeal.nD Cert.HeadsIdeal.τ).loc Cert.HeadsIdeal.main_v27_4) = v4 c
          ∧ r.2.mem ((c.tc : Thread Cert.HeadsIdeal.nD Cert.HeadsIdeal.τ).loc Cert.HeadsIdeal.main_arg0) = m ((c.tc : Thread Cert.HeadsIdeal.nD Cert.HeadsIdeal.τ).loc Cert.HeadsIdeal.main_arg0)
          ∧ r.2.mem ((c.tc : Thread Cert.HeadsIdeal.nD Cert.HeadsIdeal.τ).loc Cert.HeadsIdeal.main_arg1) = m ((c.tc : Thread Cert.HeadsIdeal.nD Cert.HeadsIdeal.τ).loc Cert.HeadsIdeal.main_arg1)
          ∧ r.2.mem ((c.tc : Thread Cert.HeadsIdeal.nD Cert.HeadsIdeal.τ).loc Cert.HeadsIdeal.main_arg2) = m ((c.tc : Thread Cert.HeadsIdeal.nD Cert.HeadsIdeal.τ).loc Cert.HeadsIdeal.main_arg2)
          ∧ r.2.mem ((c.tc : Thread Cert.HeadsIdeal.nD Cert.HeadsIdeal.τ).loc Cert.HeadsIdeal.main_arg3) = m ((c.tc : Thread Cert.HeadsIdeal.nD Cert.HeadsIdeal.τ).loc Cert.HeadsIdeal.main_arg3)
          ∧ r.2.mem ((c.tc : Thread Cert.HeadsIdeal.nD Cert.HeadsIdeal.τ).loc Cert.HeadsIdeal.main_arg4) = m ((c.tc : Thread Cert.HeadsIdeal.nD Cert.HeadsIdeal.τ).loc Cert.HeadsIdeal.main_arg4)
          ∧ r.2.mem ((c.tc : Thread Cert.HeadsIdeal.nD Cert.HeadsIdeal.τ).loc Cert.HeadsIdeal.main_arg5) = m ((c.tc : Thread Cert.HeadsIdeal.nD Cert.HeadsIdeal.τ).loc Cert.HeadsIdeal.main_arg5)
          ∧ r.2.mem ((c.tc : Thread Cert.HeadsIdeal.nD Cert.HeadsIdeal.τ).loc Cert.HeadsIdeal.main_arg6) = m ((c.tc : Thread Cert.HeadsIdeal.nD Cert.HeadsIdeal.τ).loc Cert.HeadsIdeal.main_arg6)
          ∧ r.2.mem ((c.tc : Thread Cert.HeadsIdeal.nD Cert.HeadsIdeal.τ).loc Cert.HeadsIdeal.main_arg7) = m ((c.tc : Thread Cert.HeadsIdeal.nD Cert.HeadsIdeal.τ).loc Cert.HeadsIdeal.main_arg7))
      ∧ θ_run (Cert.HeadsRefIdeal.defs (F := Ideal)) (onTc (τ := Cert.HeadsRefIdeal.τ) (Cert.HeadsRefIdeal.main (F := Ideal))) ⟨m', fun _ => 0, g'⟩ (fun r => ∀ c : Dev Cert.HeadsRefIdeal.nD,
          r.2.mem ((c.tc : Thread Cert.HeadsRefIdeal.nD Cert.HeadsRefIdeal.τ).loc Cert.HeadsRefIdeal.main_v113) = v0 c
          ∧ r.2.mem ((c.tc : Thread Cert.HeadsRefIdeal.nD Cert.HeadsRefIdeal.τ).loc Cert.HeadsRefIdeal.main_v116) = v1 c
          ∧ r.2.mem ((c.tc : Thread Cert.HeadsRefIdeal.nD Cert.HeadsRefIdeal.τ).loc Cert.HeadsRefIdeal.main_v119) = v2 c
          ∧ r.2.mem ((c.tc : Thread Cert.HeadsRefIdeal.nD Cert.HeadsRefIdeal.τ).loc Cert.HeadsRefIdeal.main_v120) = v3 c
          ∧ r.2.mem ((c.tc : Thread Cert.HeadsRefIdeal.nD Cert.HeadsRefIdeal.τ).loc Cert.HeadsRefIdeal.main_v121) = v4 c
          ∧ r.2.mem ((c.tc : Thread Cert.HeadsRefIdeal.nD Cert.HeadsRefIdeal.τ).loc Cert.HeadsRefIdeal.main_arg0) = m' ((c.tc : Thread Cert.HeadsRefIdeal.nD Cert.HeadsRefIdeal.τ).loc Cert.HeadsRefIdeal.main_arg0)
          ∧ r.2.mem ((c.tc : Thread Cert.HeadsRefIdeal.nD Cert.HeadsRefIdeal.τ).loc Cert.HeadsRefIdeal.main_arg1) = m' ((c.tc : Thread Cert.HeadsRefIdeal.nD Cert.HeadsRefIdeal.τ).loc Cert.HeadsRefIdeal.main_arg1)
          ∧ r.2.mem ((c.tc : Thread Cert.HeadsRefIdeal.nD Cert.HeadsRefIdeal.τ).loc Cert.HeadsRefIdeal.main_arg2) = m' ((c.tc : Thread Cert.HeadsRefIdeal.nD Cert.HeadsRefIdeal.τ).loc Cert.HeadsRefIdeal.main_arg2)
          ∧ r.2.mem ((c.tc : Thread Cert.HeadsRefIdeal.nD Cert.HeadsRefIdeal.τ).loc Cert.HeadsRefIdeal.main_arg3) = m' ((c.tc : Thread Cert.HeadsRefIdeal.nD Cert.HeadsRefIdeal.τ).loc Cert.HeadsRefIdeal.main_arg3)
          ∧ r.2.mem ((c.tc : Thread Cert.HeadsRefIdeal.nD Cert.HeadsRefIdeal.τ).loc Cert.HeadsRefIdeal.main_arg4) = m' ((c.tc : Thread Cert.HeadsRefIdeal.nD Cert.HeadsRefIdeal.τ).loc Cert.HeadsRefIdeal.main_arg4)
          ∧ r.2.mem ((c.tc : Thread Cert.HeadsRefIdeal.nD Cert.HeadsRefIdeal.τ).loc Cert.HeadsRefIdeal.main_arg5) = m' ((c.tc : Thread Cert.HeadsRefIdeal.nD Cert.HeadsRefIdeal.τ).loc Cert.HeadsRefIdeal.main_arg5)
          ∧ r.2.mem ((c.tc : Thread Cert.HeadsRefIdeal.nD Cert.HeadsRefIdeal.τ).loc Cert.HeadsRefIdeal.main_arg6) = m' ((c.tc : Thread Cert.HeadsRefIdeal.nD Cert.HeadsRefIdeal.τ).loc Cert.HeadsRefIdeal.main_arg6)
          ∧ r.2.mem ((c.tc : Thread Cert.HeadsRefIdeal.nD Cert.HeadsRefIdeal.τ).loc Cert.HeadsRefIdeal.main_arg7) = m' ((c.tc : Thread Cert.HeadsRefIdeal.nD Cert.HeadsRefIdeal.τ).loc Cert.HeadsRefIdeal.main_arg7))

def preserves_OutB_OutBIdeal : Prop :=
  True

def algebraic_OutBIdeal_OutBRefIdeal [hOutBIdeal : Cert.OutBIdeal.Facts] [hOutBRefIdeal : Cert.OutBRefIdeal.Facts] : Prop :=
  ∀ (m : (ℓ : Loc Cert.OutBIdeal.nD Cert.OutBIdeal.τ Cert.OutBIdeal.sig) → Buf (Elt Ideal) ℓ) (g : Dev Cert.OutBIdeal.nD → PrngReg)
    (m' : (ℓ : Loc Cert.OutBRefIdeal.nD Cert.OutBRefIdeal.τ Cert.OutBRefIdeal.sig) → Buf (Elt Ideal) ℓ) (g' : Dev Cert.OutBRefIdeal.nD → PrngReg), Pre_OutBIdeal m →
    (∀ c : Dev Cert.OutBIdeal.nD,
      m' ((c.tc : Thread Cert.OutBRefIdeal.nD Cert.OutBRefIdeal.τ).loc Cert.OutBRefIdeal.main_arg0) = m ((c.tc : Thread Cert.OutBIdeal.nD Cert.OutBIdeal.τ).loc Cert.OutBIdeal.main_arg0)
      ∧ m' ((c.tc : Thread Cert.OutBRefIdeal.nD Cert.OutBRefIdeal.τ).loc Cert.OutBRefIdeal.main_arg1) = m ((c.tc : Thread Cert.OutBIdeal.nD Cert.OutBIdeal.τ).loc Cert.OutBIdeal.main_arg1)
      ∧ m' ((c.tc : Thread Cert.OutBRefIdeal.nD Cert.OutBRefIdeal.τ).loc Cert.OutBRefIdeal.main_arg2) = m ((c.tc : Thread Cert.OutBIdeal.nD Cert.OutBIdeal.τ).loc Cert.OutBIdeal.main_arg2)
      ∧ m' ((c.tc : Thread Cert.OutBRefIdeal.nD Cert.OutBRefIdeal.τ).loc Cert.OutBRefIdeal.main_arg3) = m ((c.tc : Thread Cert.OutBIdeal.nD Cert.OutBIdeal.τ).loc Cert.OutBIdeal.main_arg3)) →
    ∃ (v0 : (c : Dev Cert.OutBIdeal.nD) → Buf (Elt Ideal) ((c.tc : Thread Cert.OutBIdeal.nD Cert.OutBIdeal.τ).loc Cert.OutBIdeal.main_v13_0)) (v1 : (c : Dev Cert.OutBIdeal.nD) → Buf (Elt Ideal) ((c.tc : Thread Cert.OutBIdeal.nD Cert.OutBIdeal.τ).loc Cert.OutBIdeal.main_v13_1)) (v2 : (c : Dev Cert.OutBIdeal.nD) → Buf (Elt Ideal) ((c.tc : Thread Cert.OutBIdeal.nD Cert.OutBIdeal.τ).loc Cert.OutBIdeal.main_v13_2)) (v3 : (c : Dev Cert.OutBIdeal.nD) → Buf (Elt Ideal) ((c.tc : Thread Cert.OutBIdeal.nD Cert.OutBIdeal.τ).loc Cert.OutBIdeal.main_v13_3)),
      θ_run (Cert.OutBIdeal.defs (F := Ideal)) (onTc (τ := Cert.OutBIdeal.τ) (Cert.OutBIdeal.main (F := Ideal))) ⟨m, fun _ => 0, g⟩ (fun r => ∀ c : Dev Cert.OutBIdeal.nD,
          r.2.mem ((c.tc : Thread Cert.OutBIdeal.nD Cert.OutBIdeal.τ).loc Cert.OutBIdeal.main_v13_0) = v0 c
          ∧ r.2.mem ((c.tc : Thread Cert.OutBIdeal.nD Cert.OutBIdeal.τ).loc Cert.OutBIdeal.main_v13_1) = v1 c
          ∧ r.2.mem ((c.tc : Thread Cert.OutBIdeal.nD Cert.OutBIdeal.τ).loc Cert.OutBIdeal.main_v13_2) = v2 c
          ∧ r.2.mem ((c.tc : Thread Cert.OutBIdeal.nD Cert.OutBIdeal.τ).loc Cert.OutBIdeal.main_v13_3) = v3 c
          ∧ r.2.mem ((c.tc : Thread Cert.OutBIdeal.nD Cert.OutBIdeal.τ).loc Cert.OutBIdeal.main_arg0) = m ((c.tc : Thread Cert.OutBIdeal.nD Cert.OutBIdeal.τ).loc Cert.OutBIdeal.main_arg0)
          ∧ r.2.mem ((c.tc : Thread Cert.OutBIdeal.nD Cert.OutBIdeal.τ).loc Cert.OutBIdeal.main_arg1) = m ((c.tc : Thread Cert.OutBIdeal.nD Cert.OutBIdeal.τ).loc Cert.OutBIdeal.main_arg1)
          ∧ r.2.mem ((c.tc : Thread Cert.OutBIdeal.nD Cert.OutBIdeal.τ).loc Cert.OutBIdeal.main_arg2) = m ((c.tc : Thread Cert.OutBIdeal.nD Cert.OutBIdeal.τ).loc Cert.OutBIdeal.main_arg2)
          ∧ r.2.mem ((c.tc : Thread Cert.OutBIdeal.nD Cert.OutBIdeal.τ).loc Cert.OutBIdeal.main_arg3) = m ((c.tc : Thread Cert.OutBIdeal.nD Cert.OutBIdeal.τ).loc Cert.OutBIdeal.main_arg3))
      ∧ θ_run (Cert.OutBRefIdeal.defs (F := Ideal)) (onTc (τ := Cert.OutBRefIdeal.τ) (Cert.OutBRefIdeal.main (F := Ideal))) ⟨m', fun _ => 0, g'⟩ (fun r => ∀ c : Dev Cert.OutBRefIdeal.nD,
          r.2.mem ((c.tc : Thread Cert.OutBRefIdeal.nD Cert.OutBRefIdeal.τ).loc Cert.OutBRefIdeal.main_v10) = v0 c
          ∧ r.2.mem ((c.tc : Thread Cert.OutBRefIdeal.nD Cert.OutBRefIdeal.τ).loc Cert.OutBRefIdeal.main_v15) = v1 c
          ∧ r.2.mem ((c.tc : Thread Cert.OutBRefIdeal.nD Cert.OutBRefIdeal.τ).loc Cert.OutBRefIdeal.main_v14) = v2 c
          ∧ r.2.mem ((c.tc : Thread Cert.OutBRefIdeal.nD Cert.OutBRefIdeal.τ).loc Cert.OutBRefIdeal.main_v16) = v3 c
          ∧ r.2.mem ((c.tc : Thread Cert.OutBRefIdeal.nD Cert.OutBRefIdeal.τ).loc Cert.OutBRefIdeal.main_arg0) = m' ((c.tc : Thread Cert.OutBRefIdeal.nD Cert.OutBRefIdeal.τ).loc Cert.OutBRefIdeal.main_arg0)
          ∧ r.2.mem ((c.tc : Thread Cert.OutBRefIdeal.nD Cert.OutBRefIdeal.τ).loc Cert.OutBRefIdeal.main_arg1) = m' ((c.tc : Thread Cert.OutBRefIdeal.nD Cert.OutBRefIdeal.τ).loc Cert.OutBRefIdeal.main_arg1)
          ∧ r.2.mem ((c.tc : Thread Cert.OutBRefIdeal.nD Cert.OutBRefIdeal.τ).loc Cert.OutBRefIdeal.main_arg2) = m' ((c.tc : Thread Cert.OutBRefIdeal.nD Cert.OutBRefIdeal.τ).loc Cert.OutBRefIdeal.main_arg2)
          ∧ r.2.mem ((c.tc : Thread Cert.OutBRefIdeal.nD Cert.OutBRefIdeal.τ).loc Cert.OutBRefIdeal.main_arg3) = m' ((c.tc : Thread Cert.OutBRefIdeal.nD Cert.OutBRefIdeal.τ).loc Cert.OutBRefIdeal.main_arg3))

def preserves_OutF_OutFIdeal : Prop :=
  True

def algebraic_OutFIdeal_OutFRefIdeal [hOutFIdeal : Cert.OutFIdeal.Facts] [hOutFRefIdeal : Cert.OutFRefIdeal.Facts] : Prop :=
  ∀ (m : (ℓ : Loc Cert.OutFIdeal.nD Cert.OutFIdeal.τ Cert.OutFIdeal.sig) → Buf (Elt Ideal) ℓ) (g : Dev Cert.OutFIdeal.nD → PrngReg)
    (m' : (ℓ : Loc Cert.OutFRefIdeal.nD Cert.OutFRefIdeal.τ Cert.OutFRefIdeal.sig) → Buf (Elt Ideal) ℓ) (g' : Dev Cert.OutFRefIdeal.nD → PrngReg), Pre_OutFIdeal m →
    (∀ c : Dev Cert.OutFIdeal.nD,
      m' ((c.tc : Thread Cert.OutFRefIdeal.nD Cert.OutFRefIdeal.τ).loc Cert.OutFRefIdeal.main_arg0) = m ((c.tc : Thread Cert.OutFIdeal.nD Cert.OutFIdeal.τ).loc Cert.OutFIdeal.main_arg0)
      ∧ m' ((c.tc : Thread Cert.OutFRefIdeal.nD Cert.OutFRefIdeal.τ).loc Cert.OutFRefIdeal.main_arg1) = m ((c.tc : Thread Cert.OutFIdeal.nD Cert.OutFIdeal.τ).loc Cert.OutFIdeal.main_arg1)
      ∧ m' ((c.tc : Thread Cert.OutFRefIdeal.nD Cert.OutFRefIdeal.τ).loc Cert.OutFRefIdeal.main_arg2) = m ((c.tc : Thread Cert.OutFIdeal.nD Cert.OutFIdeal.τ).loc Cert.OutFIdeal.main_arg2)
      ∧ m' ((c.tc : Thread Cert.OutFRefIdeal.nD Cert.OutFRefIdeal.τ).loc Cert.OutFRefIdeal.main_arg3) = m ((c.tc : Thread Cert.OutFIdeal.nD Cert.OutFIdeal.τ).loc Cert.OutFIdeal.main_arg3)) →
    ∃ (v0 : (c : Dev Cert.OutFIdeal.nD) → Buf (Elt Ideal) ((c.tc : Thread Cert.OutFIdeal.nD Cert.OutFIdeal.τ).loc Cert.OutFIdeal.main_v13)),
      θ_run (Cert.OutFIdeal.defs (F := Ideal)) (onTc (τ := Cert.OutFIdeal.τ) (Cert.OutFIdeal.main (F := Ideal))) ⟨m, fun _ => 0, g⟩ (fun r => ∀ c : Dev Cert.OutFIdeal.nD,
          r.2.mem ((c.tc : Thread Cert.OutFIdeal.nD Cert.OutFIdeal.τ).loc Cert.OutFIdeal.main_v13) = v0 c
          ∧ r.2.mem ((c.tc : Thread Cert.OutFIdeal.nD Cert.OutFIdeal.τ).loc Cert.OutFIdeal.main_arg0) = m ((c.tc : Thread Cert.OutFIdeal.nD Cert.OutFIdeal.τ).loc Cert.OutFIdeal.main_arg0)
          ∧ r.2.mem ((c.tc : Thread Cert.OutFIdeal.nD Cert.OutFIdeal.τ).loc Cert.OutFIdeal.main_arg1) = m ((c.tc : Thread Cert.OutFIdeal.nD Cert.OutFIdeal.τ).loc Cert.OutFIdeal.main_arg1)
          ∧ r.2.mem ((c.tc : Thread Cert.OutFIdeal.nD Cert.OutFIdeal.τ).loc Cert.OutFIdeal.main_arg2) = m ((c.tc : Thread Cert.OutFIdeal.nD Cert.OutFIdeal.τ).loc Cert.OutFIdeal.main_arg2)
          ∧ r.2.mem ((c.tc : Thread Cert.OutFIdeal.nD Cert.OutFIdeal.τ).loc Cert.OutFIdeal.main_arg3) = m ((c.tc : Thread Cert.OutFIdeal.nD Cert.OutFIdeal.τ).loc Cert.OutFIdeal.main_arg3))
      ∧ θ_run (Cert.OutFRefIdeal.defs (F := Ideal)) (onTc (τ := Cert.OutFRefIdeal.τ) (Cert.OutFRefIdeal.main (F := Ideal))) ⟨m', fun _ => 0, g'⟩ (fun r => ∀ c : Dev Cert.OutFRefIdeal.nD,
          r.2.mem ((c.tc : Thread Cert.OutFRefIdeal.nD Cert.OutFRefIdeal.τ).loc Cert.OutFRefIdeal.main_v3) = v0 c
          ∧ r.2.mem ((c.tc : Thread Cert.OutFRefIdeal.nD Cert.OutFRefIdeal.τ).loc Cert.OutFRefIdeal.main_arg0) = m' ((c.tc : Thread Cert.OutFRefIdeal.nD Cert.OutFRefIdeal.τ).loc Cert.OutFRefIdeal.main_arg0)
          ∧ r.2.mem ((c.tc : Thread Cert.OutFRefIdeal.nD Cert.OutFRefIdeal.τ).loc Cert.OutFRefIdeal.main_arg1) = m' ((c.tc : Thread Cert.OutFRefIdeal.nD Cert.OutFRefIdeal.τ).loc Cert.OutFRefIdeal.main_arg1)
          ∧ r.2.mem ((c.tc : Thread Cert.OutFRefIdeal.nD Cert.OutFRefIdeal.τ).loc Cert.OutFRefIdeal.main_arg2) = m' ((c.tc : Thread Cert.OutFRefIdeal.nD Cert.OutFRefIdeal.τ).loc Cert.OutFRefIdeal.main_arg2)
          ∧ r.2.mem ((c.tc : Thread Cert.OutFRefIdeal.nD Cert.OutFRefIdeal.τ).loc Cert.OutFRefIdeal.main_arg3) = m' ((c.tc : Thread Cert.OutFRefIdeal.nD Cert.OutFRefIdeal.τ).loc Cert.OutFRefIdeal.main_arg3))

def preserves_Loss_LossIdeal : Prop :=
  True

def preserves_FfnW_FfnWIdeal : Prop :=
  True

def algebraic_FfnWIdeal_FfnWRefIdeal [hFfnWIdeal : Cert.FfnWIdeal.Facts] [hFfnWRefIdeal : Cert.FfnWRefIdeal.Facts] : Prop :=
  ∀ (m : (ℓ : Loc Cert.FfnWIdeal.nD Cert.FfnWIdeal.τ Cert.FfnWIdeal.sig) → Buf (Elt Ideal) ℓ) (g : Dev Cert.FfnWIdeal.nD → PrngReg)
    (m' : (ℓ : Loc Cert.FfnWRefIdeal.nD Cert.FfnWRefIdeal.τ Cert.FfnWRefIdeal.sig) → Buf (Elt Ideal) ℓ) (g' : Dev Cert.FfnWRefIdeal.nD → PrngReg), Pre_FfnWIdeal m →
    (∀ c : Dev Cert.FfnWIdeal.nD,
      m' ((c.tc : Thread Cert.FfnWRefIdeal.nD Cert.FfnWRefIdeal.τ).loc Cert.FfnWRefIdeal.main_arg0) = m ((c.tc : Thread Cert.FfnWIdeal.nD Cert.FfnWIdeal.τ).loc Cert.FfnWIdeal.main_arg0)
      ∧ m' ((c.tc : Thread Cert.FfnWRefIdeal.nD Cert.FfnWRefIdeal.τ).loc Cert.FfnWRefIdeal.main_arg1) = m ((c.tc : Thread Cert.FfnWIdeal.nD Cert.FfnWIdeal.τ).loc Cert.FfnWIdeal.main_arg1)
      ∧ m' ((c.tc : Thread Cert.FfnWRefIdeal.nD Cert.FfnWRefIdeal.τ).loc Cert.FfnWRefIdeal.main_arg2) = m ((c.tc : Thread Cert.FfnWIdeal.nD Cert.FfnWIdeal.τ).loc Cert.FfnWIdeal.main_arg2)
      ∧ m' ((c.tc : Thread Cert.FfnWRefIdeal.nD Cert.FfnWRefIdeal.τ).loc Cert.FfnWRefIdeal.main_arg3) = m ((c.tc : Thread Cert.FfnWIdeal.nD Cert.FfnWIdeal.τ).loc Cert.FfnWIdeal.main_arg3)) →
    ∃ (v0 : (c : Dev Cert.FfnWIdeal.nD) → Buf (Elt Ideal) ((c.tc : Thread Cert.FfnWIdeal.nD Cert.FfnWIdeal.τ).loc Cert.FfnWIdeal.main_v20_0)) (v1 : (c : Dev Cert.FfnWIdeal.nD) → Buf (Elt Ideal) ((c.tc : Thread Cert.FfnWIdeal.nD Cert.FfnWIdeal.τ).loc Cert.FfnWIdeal.main_v20_1)),
      θ_run (Cert.FfnWIdeal.defs (F := Ideal)) (onTc (τ := Cert.FfnWIdeal.τ) (Cert.FfnWIdeal.main (F := Ideal))) ⟨m, fun _ => 0, g⟩ (fun r => ∀ c : Dev Cert.FfnWIdeal.nD,
          r.2.mem ((c.tc : Thread Cert.FfnWIdeal.nD Cert.FfnWIdeal.τ).loc Cert.FfnWIdeal.main_v20_0) = v0 c
          ∧ r.2.mem ((c.tc : Thread Cert.FfnWIdeal.nD Cert.FfnWIdeal.τ).loc Cert.FfnWIdeal.main_v20_1) = v1 c
          ∧ r.2.mem ((c.tc : Thread Cert.FfnWIdeal.nD Cert.FfnWIdeal.τ).loc Cert.FfnWIdeal.main_arg0) = m ((c.tc : Thread Cert.FfnWIdeal.nD Cert.FfnWIdeal.τ).loc Cert.FfnWIdeal.main_arg0)
          ∧ r.2.mem ((c.tc : Thread Cert.FfnWIdeal.nD Cert.FfnWIdeal.τ).loc Cert.FfnWIdeal.main_arg1) = m ((c.tc : Thread Cert.FfnWIdeal.nD Cert.FfnWIdeal.τ).loc Cert.FfnWIdeal.main_arg1)
          ∧ r.2.mem ((c.tc : Thread Cert.FfnWIdeal.nD Cert.FfnWIdeal.τ).loc Cert.FfnWIdeal.main_arg2) = m ((c.tc : Thread Cert.FfnWIdeal.nD Cert.FfnWIdeal.τ).loc Cert.FfnWIdeal.main_arg2)
          ∧ r.2.mem ((c.tc : Thread Cert.FfnWIdeal.nD Cert.FfnWIdeal.τ).loc Cert.FfnWIdeal.main_arg3) = m ((c.tc : Thread Cert.FfnWIdeal.nD Cert.FfnWIdeal.τ).loc Cert.FfnWIdeal.main_arg3))
      ∧ θ_run (Cert.FfnWRefIdeal.defs (F := Ideal)) (onTc (τ := Cert.FfnWRefIdeal.τ) (Cert.FfnWRefIdeal.main (F := Ideal))) ⟨m', fun _ => 0, g'⟩ (fun r => ∀ c : Dev Cert.FfnWRefIdeal.nD,
          r.2.mem ((c.tc : Thread Cert.FfnWRefIdeal.nD Cert.FfnWRefIdeal.τ).loc Cert.FfnWRefIdeal.main_v21) = v0 c
          ∧ r.2.mem ((c.tc : Thread Cert.FfnWRefIdeal.nD Cert.FfnWRefIdeal.τ).loc Cert.FfnWRefIdeal.main_v23) = v1 c
          ∧ r.2.mem ((c.tc : Thread Cert.FfnWRefIdeal.nD Cert.FfnWRefIdeal.τ).loc Cert.FfnWRefIdeal.main_arg0) = m' ((c.tc : Thread Cert.FfnWRefIdeal.nD Cert.FfnWRefIdeal.τ).loc Cert.FfnWRefIdeal.main_arg0)
          ∧ r.2.mem ((c.tc : Thread Cert.FfnWRefIdeal.nD Cert.FfnWRefIdeal.τ).loc Cert.FfnWRefIdeal.main_arg1) = m' ((c.tc : Thread Cert.FfnWRefIdeal.nD Cert.FfnWRefIdeal.τ).loc Cert.FfnWRefIdeal.main_arg1)
          ∧ r.2.mem ((c.tc : Thread Cert.FfnWRefIdeal.nD Cert.FfnWRefIdeal.τ).loc Cert.FfnWRefIdeal.main_arg2) = m' ((c.tc : Thread Cert.FfnWRefIdeal.nD Cert.FfnWRefIdeal.τ).loc Cert.FfnWRefIdeal.main_arg2)
          ∧ r.2.mem ((c.tc : Thread Cert.FfnWRefIdeal.nD Cert.FfnWRefIdeal.τ).loc Cert.FfnWRefIdeal.main_arg3) = m' ((c.tc : Thread Cert.FfnWRefIdeal.nD Cert.FfnWRefIdeal.τ).loc Cert.FfnWRefIdeal.main_arg3))

def Claim : Prop :=
  ∃ (hAttn : Cert.Attn.Facts) (hAttnIdeal : Cert.AttnIdeal.Facts) (hAttnRefIdeal : Cert.AttnRefIdeal.Facts) (hFfnA : Cert.FfnA.Facts) (hFfnAIdeal : Cert.FfnAIdeal.Facts) (hFfnARefIdeal : Cert.FfnARefIdeal.Facts) (hSgu : Cert.Sgu.Facts) (hSguIdeal : Cert.SguIdeal.Facts) (hSguRefIdeal : Cert.SguRefIdeal.Facts) (hAttnF : Cert.AttnF.Facts) (hAttnFIdeal : Cert.AttnFIdeal.Facts) (hAttnFRefIdeal : Cert.AttnFRefIdeal.Facts) (hFfnC : Cert.FfnC.Facts) (hFfnCIdeal : Cert.FfnCIdeal.Facts) (hFfnCRefIdeal : Cert.FfnCRefIdeal.Facts) (hSguF : Cert.SguF.Facts) (hSguFIdeal : Cert.SguFIdeal.Facts) (hSguFRefIdeal : Cert.SguFRefIdeal.Facts) (hHeads : Cert.Heads.Facts) (hHeadsIdeal : Cert.HeadsIdeal.Facts) (hHeadsRefIdeal : Cert.HeadsRefIdeal.Facts) (hOutB : Cert.OutB.Facts) (hOutBIdeal : Cert.OutBIdeal.Facts) (hOutBRefIdeal : Cert.OutBRefIdeal.Facts) (hOutF : Cert.OutF.Facts) (hOutFIdeal : Cert.OutFIdeal.Facts) (hOutFRefIdeal : Cert.OutFRefIdeal.Facts) (hLoss : Cert.Loss.Facts) (hLossIdeal : Cert.LossIdeal.Facts) (hLossRefIdeal : Cert.LossRefIdeal.Facts) (hFfnW : Cert.FfnW.Facts) (hFfnWIdeal : Cert.FfnWIdeal.Facts) (hFfnWRefIdeal : Cert.FfnWRefIdeal.Facts) (hPre_finite_qk : Cert.Pre_finite_qk.Facts) (hPre_finite_heads : Cert.Pre_finite_heads.Facts),
    quiescent_Attn (hAttn := hAttn)
    ∧ quiescent_AttnIdeal (hAttnIdeal := hAttnIdeal)
    ∧ quiescent_AttnIdeal_pre_finite_qk (hAttnIdeal := hAttnIdeal) (hPre_finite_qk := hPre_finite_qk)
    ∧ quiescent_AttnRefIdeal (hAttnRefIdeal := hAttnRefIdeal)
    ∧ quiescent_AttnRefIdeal_pre_finite_qk (hAttnRefIdeal := hAttnRefIdeal) (hPre_finite_qk := hPre_finite_qk)
    ∧ quiescent_FfnA (hFfnA := hFfnA)
    ∧ quiescent_FfnAIdeal (hFfnAIdeal := hFfnAIdeal)
    ∧ quiescent_FfnARefIdeal (hFfnARefIdeal := hFfnARefIdeal)
    ∧ quiescent_Sgu (hSgu := hSgu)
    ∧ quiescent_SguIdeal (hSguIdeal := hSguIdeal)
    ∧ quiescent_SguRefIdeal (hSguRefIdeal := hSguRefIdeal)
    ∧ quiescent_AttnF (hAttnF := hAttnF)
    ∧ quiescent_AttnFIdeal (hAttnFIdeal := hAttnFIdeal)
    ∧ quiescent_AttnFIdeal_pre_finite_heads (hAttnFIdeal := hAttnFIdeal) (hPre_finite_heads := hPre_finite_heads)
    ∧ quiescent_AttnFRefIdeal (hAttnFRefIdeal := hAttnFRefIdeal)
    ∧ quiescent_AttnFRefIdeal_pre_finite_heads (hAttnFRefIdeal := hAttnFRefIdeal) (hPre_finite_heads := hPre_finite_heads)
    ∧ quiescent_FfnC (hFfnC := hFfnC)
    ∧ quiescent_FfnCIdeal (hFfnCIdeal := hFfnCIdeal)
    ∧ quiescent_FfnCRefIdeal (hFfnCRefIdeal := hFfnCRefIdeal)
    ∧ quiescent_SguF (hSguF := hSguF)
    ∧ quiescent_SguFIdeal (hSguFIdeal := hSguFIdeal)
    ∧ quiescent_SguFRefIdeal (hSguFRefIdeal := hSguFRefIdeal)
    ∧ quiescent_Heads (hHeads := hHeads)
    ∧ quiescent_HeadsIdeal (hHeadsIdeal := hHeadsIdeal)
    ∧ quiescent_HeadsRefIdeal (hHeadsRefIdeal := hHeadsRefIdeal)
    ∧ quiescent_OutB (hOutB := hOutB)
    ∧ quiescent_OutBIdeal (hOutBIdeal := hOutBIdeal)
    ∧ quiescent_OutBRefIdeal (hOutBRefIdeal := hOutBRefIdeal)
    ∧ quiescent_OutF (hOutF := hOutF)
    ∧ quiescent_OutFIdeal (hOutFIdeal := hOutFIdeal)
    ∧ quiescent_OutFRefIdeal (hOutFRefIdeal := hOutFRefIdeal)
    ∧ quiescent_Loss (hLoss := hLoss)
    ∧ quiescent_LossIdeal (hLossIdeal := hLossIdeal)
    ∧ quiescent_LossRefIdeal (hLossRefIdeal := hLossRefIdeal)
    ∧ quiescent_FfnW (hFfnW := hFfnW)
    ∧ quiescent_FfnWIdeal (hFfnWIdeal := hFfnWIdeal)
    ∧ quiescent_FfnWRefIdeal (hFfnWRefIdeal := hFfnWRefIdeal)
    ∧ preserves_Attn_AttnIdeal
    ∧ algebraic_AttnIdeal_AttnRefIdeal_pre_finite_qk (hAttnIdeal := hAttnIdeal) (hAttnRefIdeal := hAttnRefIdeal) (hPre_finite_qk := hPre_finite_qk)
    ∧ preserves_FfnA_FfnAIdeal
    ∧ algebraic_FfnAIdeal_FfnARefIdeal (hFfnAIdeal := hFfnAIdeal) (hFfnARefIdeal := hFfnARefIdeal)
    ∧ preserves_Sgu_SguIdeal
    ∧ algebraic_SguIdeal_SguRefIdeal (hSguIdeal := hSguIdeal) (hSguRefIdeal := hSguRefIdeal)
    ∧ preserves_AttnF_AttnFIdeal
    ∧ algebraic_AttnFIdeal_AttnFRefIdeal_pre_finite_heads (hAttnFIdeal := hAttnFIdeal) (hAttnFRefIdeal := hAttnFRefIdeal) (hPre_finite_heads := hPre_finite_heads)
    ∧ preserves_FfnC_FfnCIdeal
    ∧ algebraic_FfnCIdeal_FfnCRefIdeal (hFfnCIdeal := hFfnCIdeal) (hFfnCRefIdeal := hFfnCRefIdeal)
    ∧ preserves_SguF_SguFIdeal
    ∧ algebraic_SguFIdeal_SguFRefIdeal (hSguFIdeal := hSguFIdeal) (hSguFRefIdeal := hSguFRefIdeal)
    ∧ preserves_Heads_HeadsIdeal
    ∧ algebraic_HeadsIdeal_HeadsRefIdeal (hHeadsIdeal := hHeadsIdeal) (hHeadsRefIdeal := hHeadsRefIdeal)
    ∧ preserves_OutB_OutBIdeal
    ∧ algebraic_OutBIdeal_OutBRefIdeal (hOutBIdeal := hOutBIdeal) (hOutBRefIdeal := hOutBRefIdeal)
    ∧ preserves_OutF_OutFIdeal
    ∧ algebraic_OutFIdeal_OutFRefIdeal (hOutFIdeal := hOutFIdeal) (hOutFRefIdeal := hOutFRefIdeal)
    ∧ preserves_Loss_LossIdeal
    ∧ preserves_FfnW_FfnWIdeal
    ∧ algebraic_FfnWIdeal_FfnWRefIdeal (hFfnWIdeal := hFfnWIdeal) (hFfnWRefIdeal := hFfnWRefIdeal)
-- ==== Pre_finite_heads.lean ====
abbrev S2x2048x8x96 : Shape := ⟨4, ![2, 2048, 8, 96]⟩
abbrev S2x2048x8x64 : Shape := ⟨4, ![2, 2048, 8, 64]⟩
abbrev S_ : Shape := ⟨0, ![]⟩

class Facts : Prop where
  bcast_S_S2x2048x8x96 : S_.BroadcastsInDim S2x2048x8x96 (![] : Fin 0 → Fin S2x2048x8x96.rank)

variable [Facts]

def fn {F : FTy → Type} [FloatOps F] (main_arg0 : FVec F S2x2048x8x96 .f32) (main_arg1 : FVec F S2x2048x8x96 .f32) (main_arg2 : FVec F S2x2048x8x64 .f32) : IVec S2x2048x8x96 1 × IVec S2x2048x8x96 1 :=
  let main_v0 : FVec F S2x2048x8x96 .f32 := Host.absf main_arg0
  let main_cst : FVec F S_ .f32 := constant S_ .f32 0x7F800000#32
  let main_v1 : FVec F S2x2048x8x96 .f32 := broadcastInDim S2x2048x8x96 ![] bcast_S_S2x2048x8x96 main_cst
  let main_v2 : IVec S2x2048x8x96 1 := cmpf .olt main_v0 main_v1
  let main_v3 : FVec F S2x2048x8x96 .f32 := Host.absf main_arg1
  let main_cst_0 : FVec F S_ .f32 := constant S_ .f32 0x7F800000#32
  let main_v4 : FVec F S2x2048x8x96 .f32 := broadcastInDim S2x2048x8x96 ![] bcast_S_S2x2048x8x96 main_cst_0
  let main_v5 : IVec S2x2048x8x96 1 := cmpf .olt main_v3 main_v4
  (main_v2, main_v5)
-- ==== Pre_finite_qk.lean ====
abbrev S2x2048x8x96 : Shape := ⟨4, ![2, 2048, 8, 96]⟩
abbrev S2x2048x8x64 : Shape := ⟨4, ![2, 2048, 8, 64]⟩
abbrev S2x2048x512 : Shape := ⟨3, ![2, 2048, 512]⟩
abbrev S_ : Shape := ⟨0, ![]⟩

class Facts : Prop where
  bcast_S_S2x2048x8x96 : S_.BroadcastsInDim S2x2048x8x96 (![] : Fin 0 → Fin S2x2048x8x96.rank)

variable [Facts]

def fn {F : FTy → Type} [FloatOps F] (main_arg0 : FVec F S2x2048x8x96 .f32) (main_arg1 : FVec F S2x2048x8x96 .f32) (main_arg2 : FVec F S2x2048x8x64 .f32) (main_arg3 : FVec F S2x2048x512 .f32) : IVec S2x2048x8x96 1 × IVec S2x2048x8x96 1 :=
  let main_v0 : FVec F S2x2048x8x96 .f32 := Host.absf main_arg0
  let main_cst : FVec F S_ .f32 := constant S_ .f32 0x7F800000#32
  let main_v1 : FVec F S2x2048x8x96 .f32 := broadcastInDim S2x2048x8x96 ![] bcast_S_S2x2048x8x96 main_cst
  let main_v2 : IVec S2x2048x8x96 1 := cmpf .olt main_v0 main_v1
  let main_v3 : FVec F S2x2048x8x96 .f32 := Host.absf main_arg1
  let main_cst_0 : FVec F S_ .f32 := constant S_ .f32 0x7F800000#32
  let main_v4 : FVec F S2x2048x8x96 .f32 := broadcastInDim S2x2048x8x96 ![] bcast_S_S2x2048x8x96 main_cst_0
  let main_v5 : IVec S2x2048x8x96 1 := cmpf .olt main_v3 main_v4
  (main_v2, main_v5)
-- ==== Attn.lean ====
abbrev S2x2048x8x96 : Shape := ⟨4, ![2, 2048, 8, 96]⟩
abbrev S2x2048x8x64 : Shape := ⟨4, ![2, 2048, 8, 64]⟩
abbrev S2x2048x512 : Shape := ⟨3, ![2, 2048, 512]⟩
abbrev S2x8x2048x2048 : Shape := ⟨4, ![2, 8, 2048, 2048]⟩
abbrev S_ : Shape := ⟨0, ![]⟩
abbrev S2048 : Shape := ⟨1, ![2048]⟩
abbrev S1x2048 : Shape := ⟨2, ![1, 2048]⟩
abbrev S2048x1 : Shape := ⟨2, ![2048, 1]⟩
abbrev S2048x2048 : Shape := ⟨2, ![2048, 2048]⟩
abbrev S2x8x2048 : Shape := ⟨3, ![2, 8, 2048]⟩
abbrev S2x8x2048x1 : Shape := ⟨4, ![2, 8, 2048, 1]⟩
abbrev S2x2048x8x128 : Shape := ⟨4, ![2, 2048, 8, 128]⟩
abbrev S2x2048x1024 : Shape := ⟨3, ![2, 2048, 1024]⟩
abbrev S1x2048x128 : Shape := ⟨3, ![1, 2048, 128]⟩
abbrev S1x1x2048x2048 : Shape := ⟨4, ![1, 1, 2048, 2048]⟩
abbrev S1x512x128 : Shape := ⟨3, ![1, 512, 128]⟩
abbrev S512x128 : Shape := ⟨2, ![512, 128]⟩
abbrev S1x1x512x512 : Shape := ⟨4, ![1, 1, 512, 512]⟩
abbrev S512x512 : Shape := ⟨2, ![512, 512]⟩
abbrev S512 : Shape := ⟨1, ![512]⟩
abbrev S512x1 : Shape := ⟨2, ![512, 1]⟩
abbrev S1x1x512x1024 : Shape := ⟨4, ![1, 1, 512, 1024]⟩
abbrev S512x1024 : Shape := ⟨2, ![512, 1024]⟩
abbrev S1x1024x128 : Shape := ⟨3, ![1, 1024, 128]⟩
abbrev S1024x128 : Shape := ⟨2, ![1024, 128]⟩
abbrev S1x1x512x1536 : Shape := ⟨4, ![1, 1, 512, 1536]⟩
abbrev S512x1536 : Shape := ⟨2, ![512, 1536]⟩
abbrev S1x1536x128 : Shape := ⟨3, ![1, 1536, 128]⟩
abbrev S1536x128 : Shape := ⟨2, ![1536, 128]⟩
abbrev S1x1x512x2048 : Shape := ⟨4, ![1, 1, 512, 2048]⟩
abbrev S512x2048 : Shape := ⟨2, ![512, 2048]⟩
abbrev S2048x128 : Shape := ⟨2, ![2048, 128]⟩

abbrev nBuf : Space → Nat
  | .hbm => 58
  | .vmem => 16
  | .smem => 0
  | _ => 0

abbrev bufTy : (tb : Table) → Fin (tcTables nBuf tb) → BufTy
  | .hbm, ⟨0, _⟩ => ⟨S2x2048x8x96, .f32⟩
  | .hbm, ⟨1, _⟩ => ⟨S2x2048x8x96, .f32⟩
  | .hbm, ⟨2, _⟩ => ⟨S2x2048x8x64, .f32⟩
  | .hbm, ⟨3, _⟩ => ⟨S2x2048x512, .f32⟩
  | .hbm, ⟨4, _⟩ => ⟨S2x8x2048x2048, .f32⟩
  | .hbm, ⟨5, _⟩ => ⟨S_, .f32⟩
  | .hbm, ⟨6, _⟩ => ⟨S2x8x2048x2048, .f32⟩
  | .hbm, ⟨7, _⟩ => ⟨S2x8x2048x2048, .f32⟩
  | .hbm, ⟨8, _⟩ => ⟨S2048, .i32⟩
  | .hbm, ⟨9, _⟩ => ⟨S1x2048, .i32⟩
  | .hbm, ⟨10, _⟩ => ⟨S2048x1, .i32⟩
  | .hbm, ⟨11, _⟩ => ⟨S2048x2048, .i32⟩
  | .hbm, ⟨12, _⟩ => ⟨S2048x2048, .i32⟩
  | .hbm, ⟨13, _⟩ => ⟨S2048x2048, .i1⟩
  | .hbm, ⟨14, _⟩ => ⟨S_, .f32⟩
  | .hbm, ⟨15, _⟩ => ⟨S_, .f32⟩
  | .hbm, ⟨16, _⟩ => ⟨S2x8x2048x2048, .i1⟩
  | .hbm, ⟨17, _⟩ => ⟨S2x8x2048x2048, .f32⟩
  | .hbm, ⟨18, _⟩ => ⟨S2x8x2048x2048, .f32⟩
  | .hbm, ⟨19, _⟩ => ⟨S_, .f32⟩
  | .hbm, ⟨20, _⟩ => ⟨S2x8x2048, .f32⟩
  | .hbm, ⟨21, _⟩ => ⟨S_, .f32⟩
  | .hbm, ⟨22, _⟩ => ⟨S2x8x2048, .f32⟩
  | .hbm, ⟨23, _⟩ => ⟨S2x8x2048, .f32⟩
  | .hbm, ⟨24, _⟩ => ⟨S2x8x2048x1, .f32⟩
  | .hbm, ⟨25, _⟩ => ⟨S2x8x2048x2048, .f32⟩
  | .hbm, ⟨26, _⟩ => ⟨S2x8x2048x2048, .f32⟩
  | .hbm, ⟨27, _⟩ => ⟨S2x8x2048x2048, .f32⟩
  | .hbm, ⟨28, _⟩ => ⟨S_, .f32⟩
  | .hbm, ⟨29, _⟩ => ⟨S2x8x2048, .f32⟩
  | .hbm, ⟨30, _⟩ => ⟨S2x8x2048x1, .f32⟩
  | .hbm, ⟨31, _⟩ => ⟨S2x8x2048x2048, .f32⟩
  | .hbm, ⟨32, _⟩ => ⟨S2x8x2048x2048, .f32⟩
  | .hbm, ⟨33, _⟩ => ⟨S2x8x2048x2048, .bf16⟩
  | .hbm, ⟨34, _⟩ => ⟨S_, .i32⟩
  | .hbm, ⟨35, _⟩ => ⟨S_, .f32⟩
  | .hbm, ⟨36, _⟩ => ⟨S2x2048x8x128, .f32⟩
  | .hbm, ⟨37, _⟩ => ⟨S2x2048x8x128, .bf16⟩
  | .hbm, ⟨38, _⟩ => ⟨S2x2048x1024, .bf16⟩
  | .hbm, ⟨39, _⟩ => ⟨S_, .i32⟩
  | .hbm, ⟨40, _⟩ => ⟨S_, .f32⟩
  | .hbm, ⟨41, _⟩ => ⟨S2x2048x8x128, .f32⟩
  | .hbm, ⟨42, _⟩ => ⟨S2x2048x8x128, .bf16⟩
  | .hbm, ⟨43, _⟩ => ⟨S2x2048x1024, .bf16⟩
  | .hbm, ⟨44, _⟩ => ⟨S_, .i32⟩
  | .hbm, ⟨45, _⟩ => ⟨S_, .f32⟩
  | .hbm, ⟨46, _⟩ => ⟨S2x2048x8x128, .f32⟩
  | .hbm, ⟨47, _⟩ => ⟨S2x2048x8x128, .bf16⟩
  | .hbm, ⟨48, _⟩ => ⟨S2x2048x1024, .bf16⟩
  | .hbm, ⟨49, _⟩ => ⟨S2x2048x8x64, .f32⟩
  | .hbm, ⟨50, _⟩ => ⟨S_, .i32⟩
  | .hbm, ⟨51, _⟩ => ⟨S_, .f32⟩
  | .hbm, ⟨52, _⟩ => ⟨S2x2048x8x128, .f32⟩
  | .hbm, ⟨53, _⟩ => ⟨S2x2048x8x128, .bf16⟩
  | .hbm, ⟨54, _⟩ => ⟨S2x2048x1024, .bf16⟩
  | .hbm, ⟨55, _⟩ => ⟨S2x2048x1024, .f32⟩
  | .hbm, ⟨56, _⟩ => ⟨S2x2048x1024, .f32⟩
  | .hbm, ⟨57, _⟩ => ⟨S2x2048x1024, .f32⟩
  | .local _ .vmem, ⟨0, _⟩ => ⟨S1x2048x128, .bf16⟩
  | .local _ .vmem, ⟨1, _⟩ => ⟨S1x2048x128, .bf16⟩
  | .local _ .vmem, ⟨2, _⟩ => ⟨S1x2048x128, .bf16⟩
  | .local _ .vmem, ⟨3, _⟩ => ⟨S1x2048x128, .bf16⟩
  | .local _ .vmem, ⟨4, _⟩ => ⟨S1x2048x128, .bf16⟩
  | .local _ .vmem, ⟨5, _⟩ => ⟨S1x2048x128, .bf16⟩
  | .local _ .vmem, ⟨6, _⟩ => ⟨S1x1x2048x2048, .bf16⟩
  | .local _ .vmem, ⟨7, _⟩ => ⟨S1x1x2048x2048, .bf16⟩
  | .local _ .vmem, ⟨8, _⟩ => ⟨S1x2048x128, .bf16⟩
  | .local _ .vmem, ⟨9, _⟩ => ⟨S1x2048x128, .bf16⟩
  | .local _ .vmem, ⟨10, _⟩ => ⟨S1x2048x128, .f32⟩
  | .local _ .vmem, ⟨11, _⟩ => ⟨S1x2048x128, .f32⟩
  | .local _ .vmem, ⟨12, _⟩ => ⟨S1x2048x128, .f32⟩
  | .local _ .vmem, ⟨13, _⟩ => ⟨S1x2048x128, .f32⟩
  | .local _ .vmem, ⟨14, _⟩ => ⟨S1x2048x128, .f32⟩
  | .local _ .vmem, ⟨15, _⟩ => ⟨S1x2048x128, .f32⟩
  | _, _ => ⟨S2x2048x8x96, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_cst_0 : Ref sig .tc := ⟨.hbm, 14, rfl⟩
abbrev main_call0_v0 : Ref sig .tc := ⟨.hbm, 15, rfl⟩
abbrev main_call0_v1 : Ref sig .tc := ⟨.hbm, 16, rfl⟩
abbrev main_call0_v2 : Ref sig .tc := ⟨.hbm, 17, rfl⟩
abbrev main_v9 : Ref sig .tc := ⟨.hbm, 18, rfl⟩
abbrev main_cst_1 : Ref sig .tc := ⟨.hbm, 19, rfl⟩
abbrev main_v10 : Ref sig .tc := ⟨.hbm, 20, rfl⟩
abbrev main_cst_2 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_cst_3 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_c : Ref sig .tc := ⟨.hbm, 34, rfl⟩
abbrev main_call1_v0 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_c_4 : Ref sig .tc := ⟨.hbm, 39, rfl⟩
abbrev main_call2_v0 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_c_5 : Ref sig .tc := ⟨.hbm, 44, rfl⟩
abbrev main_call3_v0 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_c_6 : Ref sig .tc := ⟨.hbm, 50, rfl⟩
abbrev main_call4_v0 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_v35_0 : Ref sig .tc := ⟨.hbm, 55, rfl⟩
abbrev main_v35_1 : Ref sig .tc := ⟨.hbm, 56, rfl⟩
abbrev main_v35_2 : Ref sig .tc := ⟨.hbm, 57, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨2, ![2, 8], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_3 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 2 → Memref sig .tc .vmem S1x2048x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x2048x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x2048x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x1x2048x2048 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x2048x128 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x2048x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x2048x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x2048x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]
-- ==== AttnRefIdeal.lean ====
abbrev S2x2048x8x96 : Shape := ⟨4, ![2, 2048, 8, 96]⟩
abbrev S2x2048x8x64 : Shape := ⟨4, ![2, 2048, 8, 64]⟩
abbrev S2x2048x512 : Shape := ⟨3, ![2, 2048, 512]⟩
abbrev S2x8x2048x2048 : Shape := ⟨4, ![2, 8, 2048, 2048]⟩
abbrev S_ : Shape := ⟨0, ![]⟩
abbrev S2048 : Shape := ⟨1, ![2048]⟩
abbrev S1x2048 : Shape := ⟨2, ![1, 2048]⟩
abbrev S2048x1 : Shape := ⟨2, ![2048, 1]⟩
abbrev S2048x2048 : Shape := ⟨2, ![2048, 2048]⟩
abbrev S2x8x2048 : Shape := ⟨3, ![2, 8, 2048]⟩
abbrev S2x8x2048x1 : Shape := ⟨4, ![2, 8, 2048, 1]⟩
abbrev S2x8x64x2048 : Shape := ⟨4, ![2, 8, 64, 2048]⟩
abbrev S2x8x2048x96 : Shape := ⟨4, ![2, 8, 2048, 96]⟩
abbrev S2x2048x8x128 : Shape := ⟨4, ![2, 2048, 8, 128]⟩
abbrev S2x2048x1024 : Shape := ⟨3, ![2, 2048, 1024]⟩

abbrev nBuf : Space → Nat
  | .hbm => 103
  | .vmem => 0
  | .smem => 0
  | _ => 0

abbrev bufTy : (tb : Table) → Fin (tcTables nBuf tb) → BufTy
  | .hbm, ⟨0, _⟩ => ⟨S2x2048x8x96, .f32⟩
  | .hbm, ⟨1, _⟩ => ⟨S2x2048x8x96, .f32⟩
  | .hbm, ⟨2, _⟩ => ⟨S2x2048x8x64, .f32⟩
  | .hbm, ⟨3, _⟩ => ⟨S2x2048x512, .f32⟩
  | .hbm, ⟨4, _⟩ => ⟨S2x8x2048x2048, .f32⟩
  | .hbm, ⟨5, _⟩ => ⟨S_, .f32⟩
  | .hbm, ⟨6, _⟩ => ⟨S2x8x2048x2048, .f32⟩
  | .hbm, ⟨7, _⟩ => ⟨S2x8x2048x2048, .f32⟩
  | .hbm, ⟨8, _⟩ => ⟨S2048, .i32⟩
  | .hbm, ⟨9, _⟩ => ⟨S1x2048, .i32⟩
  | .hbm, ⟨10, _⟩ => ⟨S2048x1, .i32⟩
  | .hbm, ⟨11, _⟩ => ⟨S2048x2048, .i32⟩
  | .hbm, ⟨12, _⟩ => ⟨S2048x2048, .i32⟩
  | .hbm, ⟨13, _⟩ => ⟨S2048x2048, .i1⟩
  | .hbm, ⟨14, _⟩ => ⟨S_, .f32⟩
  | .hbm, ⟨15, _⟩ => ⟨S_, .f32⟩
  | .hbm, ⟨16, _⟩ => ⟨S2x8x2048x2048, .i1⟩
  | .hbm, ⟨17, _⟩ => ⟨S2x8x2048x2048, .f32⟩
  | .hbm, ⟨18, _⟩ => ⟨S2x8x2048x2048, .f32⟩
  | .hbm, ⟨19, _⟩ => ⟨S_, .f32⟩
  | .hbm, ⟨20, _⟩ => ⟨S2x8x2048x2048, .f32⟩
  | .hbm, ⟨21, _⟩ => ⟨S_, .f32⟩
  | .hbm, ⟨22, _⟩ => ⟨S2x8x2048, .f32⟩
  | .hbm, ⟨23, _⟩ => ⟨S2x8x2048x1, .f32⟩
  | .hbm, ⟨24, _⟩ => ⟨S2x8x2048x2048, .f32⟩
  | .hbm, ⟨25, _⟩ => ⟨S2x8x2048x2048, .i1⟩
  | .hbm, ⟨26, _⟩ => ⟨S2x8x2048x2048, .f32⟩
  | .hbm, ⟨27, _⟩ => ⟨S_, .f32⟩
  | .hbm, ⟨28, _⟩ => ⟨S2x8x2048, .f32⟩
  | .hbm, ⟨29, _⟩ => ⟨S_, .f32⟩
  | .hbm, ⟨30, _⟩ => ⟨S2x8x2048, .f32⟩
  | .hbm, ⟨31, _⟩ => ⟨S2x8x2048, .f32⟩
  | .hbm, ⟨32, _⟩ => ⟨S_, .f32⟩
  | .hbm, ⟨33, _⟩ => ⟨S2x8x2048, .f32⟩
  | .hbm, ⟨34, _⟩ => ⟨S2x8x2048, .i1⟩
  | .hbm, ⟨35, _⟩ => ⟨S_, .f32⟩
  | .hbm, ⟨36, _⟩ => ⟨S2x8x2048, .f32⟩
  | .hbm, ⟨37, _⟩ => ⟨S2x8x2048, .i1⟩
  | .hbm, ⟨38, _⟩ => ⟨S_, .f32⟩
  | .hbm, ⟨39, _⟩ => ⟨S2x8x2048, .f32⟩
  | .hbm, ⟨40, _⟩ => ⟨S_, .f32⟩
  | .hbm, ⟨41, _⟩ => ⟨S2x8x2048, .f32⟩
  | .hbm, ⟨42, _⟩ => ⟨S_, .f32⟩
  | .hbm, ⟨43, _⟩ => ⟨S2x8x2048, .f32⟩
  | .hbm, ⟨44, _⟩ => ⟨S2x8x2048, .f32⟩
  | .hbm, ⟨45, _⟩ => ⟨S2x8x2048, .f32⟩
  | .hbm, ⟨46, _⟩ => ⟨S2x8x2048x1, .f32⟩
  | .hbm, ⟨47, _⟩ => ⟨S2x8x2048x2048, .f32⟩
  | .hbm, ⟨48, _⟩ => ⟨S2x8x2048x2048, .f32⟩
  | .hbm, ⟨49, _⟩ => ⟨S2x8x2048x2048, .f32⟩
  | .hbm, ⟨50, _⟩ => ⟨S_, .f32⟩
  | .hbm, ⟨51, _⟩ => ⟨S2x8x2048, .f32⟩
  | .hbm, ⟨52, _⟩ => ⟨S2x8x2048x1, .f32⟩
  | .hbm, ⟨53, _⟩ => ⟨S2x8x2048x2048, .f32⟩
  | .hbm, ⟨54, _⟩ => ⟨S2x8x2048x2048, .f32⟩
  | .hbm, ⟨55, _⟩ => ⟨S2x8x2048x1, .f32⟩
  | .hbm, ⟨56, _⟩ => ⟨S_, .f32⟩
  | .hbm, ⟨57, _⟩ => ⟨S2x8x2048x1, .f32⟩
  | .hbm, ⟨58, _⟩ => ⟨S2x8x2048x1, .f32⟩
  | .hbm, ⟨59, _⟩ => ⟨S2x8x64x2048, .f32⟩
  | .hbm, ⟨60, _⟩ => ⟨S2x2048x8x64, .f32⟩
  | .hbm, ⟨61, _⟩ => ⟨S2x2048x512, .f32⟩
  | .hbm, ⟨62, _⟩ => ⟨S2x2048x8x64, .f32⟩
  | .hbm, ⟨63, _⟩ => ⟨S2x8x64x2048, .f32⟩
  | .hbm, ⟨64, _⟩ => ⟨S2x8x2048x2048, .f32⟩
  | .hbm, ⟨65, _⟩ => ⟨S2x8x64x2048, .f32⟩
  | .hbm, ⟨66, _⟩ => ⟨S2x2048x8x64, .f32⟩
  | .hbm, ⟨67, _⟩ => ⟨S2x8x2048x2048, .f32⟩
  | .hbm, ⟨68, _⟩ => ⟨S2x8x2048x2048, .f32⟩
  | .hbm, ⟨69, _⟩ => ⟨S2x8x2048x2048, .f32⟩
  | .hbm, ⟨70, _⟩ => ⟨S_, .f32⟩
  | .hbm, ⟨71, _⟩ => ⟨S2x8x2048, .f32⟩
  | .hbm, ⟨72, _⟩ => ⟨S2x8x2048x1, .f32⟩
  | .hbm, ⟨73, _⟩ => ⟨S2x8x2048x1, .f32⟩
  | .hbm, ⟨74, _⟩ => ⟨S2x8x2048x2048, .f32⟩
  | .hbm, ⟨75, _⟩ => ⟨S2x8x2048x2048, .f32⟩
  | .hbm, ⟨76, _⟩ => ⟨S_, .f32⟩
  | .hbm, ⟨77, _⟩ => ⟨S2x8x2048, .f32⟩
  | .hbm, ⟨78, _⟩ => ⟨S2x8x2048x2048, .f32⟩
  | .hbm, ⟨79, _⟩ => ⟨S2x8x2048x2048, .f32⟩
  | .hbm, ⟨80, _⟩ => ⟨S2x8x2048x2048, .f32⟩
  | .hbm, ⟨81, _⟩ => ⟨S_, .f32⟩
  | .hbm, ⟨82, _⟩ => ⟨S2x8x2048x2048, .f32⟩
  | .hbm, ⟨83, _⟩ => ⟨S2x8x2048x2048, .f32⟩
  | .hbm, ⟨84, _⟩ => ⟨S_, .f32⟩
  | .hbm, ⟨85, _⟩ => ⟨S2x8x2048x2048, .f32⟩
  | .hbm, ⟨86, _⟩ => ⟨S2x8x2048x2048, .f32⟩
  | .hbm, ⟨87, _⟩ => ⟨S2x8x2048x96, .f32⟩
  | .hbm, ⟨88, _⟩ => ⟨S2x2048x8x96, .f32⟩
  | .hbm, ⟨89, _⟩ => ⟨S2x8x2048x96, .f32⟩
  | .hbm, ⟨90, _⟩ => ⟨S2x2048x8x96, .f32⟩
  | .hbm, ⟨91, _⟩ => ⟨S_, .i32⟩
  | .hbm, ⟨92, _⟩ => ⟨S_, .f32⟩
  | .hbm, ⟨93, _⟩ => ⟨S2x2048x8x128, .f32⟩
  | .hbm, ⟨94, _⟩ => ⟨S2x2048x1024, .f32⟩
  | .hbm, ⟨95, _⟩ => ⟨S_, .i32⟩
  | .hbm, ⟨96, _⟩ => ⟨S_, .f32⟩
  | .hbm, ⟨97, _⟩ => ⟨S2x2048x8x128, .f32⟩
  | .hbm, ⟨98, _⟩ => ⟨S2x2048x1024, .f32⟩
  | .hbm, ⟨99, _⟩ => ⟨S_, .i32⟩
  | .hbm, ⟨100, _⟩ => ⟨S_, .f32⟩
  | .hbm, ⟨101, _⟩ => ⟨S2x2048x8x128, .f32⟩
  | .hbm, ⟨102, _⟩ => ⟨S2x2048x1024, .f32⟩
  | _, _ => ⟨S2x2048x8x96, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_cst_0 : Ref sig .tc := ⟨.hbm, 14, rfl⟩
abbrev main_call0_v0 : Ref sig .tc := ⟨.hbm, 15, rfl⟩
abbrev main_v9_1 : Ref sig .tc := ⟨.hbm, 16, rfl⟩
abbrev main_call0_v2 : Ref sig .tc := ⟨.hbm, 17, rfl⟩
abbrev main_v9_0 : Ref sig .tc := ⟨.hbm, 18, rfl⟩
abbrev main_call0_cst : Ref sig .tc := ⟨.hbm, 19, rfl⟩
abbrev main_v9_2 : Ref sig .tc := ⟨.hbm, 20, rfl⟩
abbrev main_cst_1 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_cst_2 : Ref sig .tc := ⟨.hbm, 27, rfl⟩
abbrev main_v15 : Ref sig .tc := ⟨.hbm, 28, rfl⟩
abbrev main_cst_3 : Ref sig .tc := ⟨.hbm, 29, rfl⟩
abbrev main_v16 : Ref sig .tc := ⟨.hbm, 30, rfl⟩
abbrev main_v17 : Ref sig .tc := ⟨.hbm, 31, rfl⟩
abbrev main_cst_4 : Ref sig .tc := ⟨.hbm, 32, rfl⟩
abbrev main_v18 : Ref sig .tc := ⟨.hbm, 33, rfl⟩
abbrev main_v19 : Ref sig .tc := ⟨.hbm, 34, rfl⟩
abbrev main_cst_5 : Ref sig .tc := ⟨.hbm, 35, rfl⟩
abbrev main_v20 : Ref sig .tc := ⟨.hbm, 36, rfl⟩
abbrev main_v21 : Ref sig .tc := ⟨.hbm, 37, rfl⟩
abbrev main_cst_6 : Ref sig .tc := ⟨.hbm, 38, rfl⟩
abbrev main_v22 : Ref sig .tc := ⟨.hbm, 39, rfl⟩
abbrev main_cst_7 : Ref sig .tc := ⟨.hbm, 40, rfl⟩
abbrev main_v23 : Ref sig .tc := ⟨.hbm, 41, rfl⟩
abbrev main_cst_8 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_cst_9 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_cst_10 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev main_v48 : Ref sig .tc := ⟨.hbm, 69, rfl⟩
abbrev main_cst_11 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_cst_12 : Ref sig .tc := ⟨.hbm, 76, rfl⟩
abbrev main_v54 : Ref sig .tc := ⟨.hbm, 77, rfl⟩
abbrev main_v55 : Ref sig .tc := ⟨.hbm, 78, rfl⟩
abbrev main_v56 : Ref sig .tc := ⟨.hbm, 79, rfl⟩
abbrev main_v57 : Ref sig .tc := ⟨.hbm, 80, rfl⟩
abbrev main_call1_cst : Ref sig .tc := ⟨.hbm, 81, rfl⟩
abbrev main_call1_v0 : Ref sig .tc := ⟨.hbm, 82, rfl⟩
abbrev main_v58 : Ref sig .tc := ⟨.hbm, 83, rfl⟩
abbrev main_cst_13 : Ref sig .tc := ⟨.hbm, 84, rfl⟩
abbrev main_v59 : Ref sig .tc := ⟨.hbm, 85, rfl⟩
abbrev main_v60 : Ref sig .tc := ⟨.hbm, 86, rfl⟩
abbrev main_v61 : Ref sig .tc := ⟨.hbm, 87, rfl⟩
abbrev main_v62 : Ref sig .tc := ⟨.hbm, 88, rfl⟩
abbrev main_v63 : Ref sig .tc := ⟨.hbm, 89, rfl⟩
abbrev main_v64 : Ref sig .tc := ⟨.hbm, 90, rfl⟩
abbrev main_c : Ref sig .tc := ⟨.hbm, 91, rfl⟩
abbrev main_call2_v0 : Ref sig .tc := ⟨.hbm, 92, rfl⟩
abbrev main_v65 : Ref sig .tc := ⟨.hbm, 93, rfl⟩
abbrev main_v66 : Ref sig .tc := ⟨.hbm, 94, rfl⟩
abbrev main_c_14 : Ref sig .tc := ⟨.hbm, 95, rfl⟩
abbrev main_call3_v0 : Ref sig .tc := ⟨.hbm, 96, rfl⟩
abbrev main_v67 : Ref sig .tc := ⟨.hbm, 97, rfl⟩
abbrev main_v68 : Ref sig .tc := ⟨.hbm, 98, rfl⟩
abbrev main_c_15 : Ref sig .tc := ⟨.hbm, 99, rfl⟩
abbrev main_call4_v0 : Ref sig .tc := ⟨.hbm, 100, rfl⟩
abbrev main_v69 : Ref sig .tc := ⟨.hbm, 101, rfl⟩
abbrev main_v70 : Ref sig .tc := ⟨.hbm, 102, rfl⟩

abbrev nD : Nat := 1
abbrev τ : Topo := Topo.v7x

variable {F : FTy → Type} [FloatOps F]
-- ==== FfnA.lean ====
abbrev S2x2048x1024 : Shape := ⟨3, ![2, 2048, 1024]⟩
abbrev S1024 : Shape := ⟨1, ![1024]⟩
abbrev S2x2048x2816 : Shape := ⟨3, ![2, 2048, 2816]⟩
abbrev S3x2816 : Shape := ⟨2, ![3, 2816]⟩
abbrev S1024x2816 : Shape := ⟨2, ![1024, 2816]⟩
abbrev S4096x1024 : Shape := ⟨2, ![4096, 1024]⟩
abbrev S1x1024 : Shape := ⟨2, ![1, 1024]⟩
abbrev S4096x2816 : Shape := ⟨2, ![4096, 2816]⟩
abbrev S2816x1024 : Shape := ⟨2, ![2816, 1024]⟩
abbrev S256x1024 : Shape := ⟨2, ![256, 1024]⟩
abbrev S256x2816 : Shape := ⟨2, ![256, 2816]⟩
abbrev S8x2816 : Shape := ⟨2, ![8, 2816]⟩
abbrev S264x2816 : Shape := ⟨2, ![264, 2816]⟩
abbrev S1x2816 : Shape := ⟨2, ![1, 2816]⟩
abbrev S256 : Shape := ⟨1, ![256]⟩
abbrev S256x1 : Shape := ⟨2, ![256, 1]⟩

abbrev nBuf : Space → Nat
  | .hbm => 21
  | .vmem => 20
  | .smem => 0
  | _ => 0

abbrev bufTy : (tb : Table) → Fin (tcTables nBuf tb) → BufTy
  | .hbm, ⟨0, _⟩ => ⟨S2x2048x1024, .f32⟩
  | .hbm, ⟨1, _⟩ => ⟨S1024, .f32⟩
  | .hbm, ⟨2, _⟩ => ⟨S2x2048x2816, .f32⟩
  | .hbm, ⟨3, _⟩ => ⟨S2x2048x2816, .f32⟩
  | .hbm, ⟨4, _⟩ => ⟨S2x2048x1024, .f32⟩
  | .hbm, ⟨5, _⟩ => ⟨S3x2816, .f32⟩
  | .hbm, ⟨6, _⟩ => ⟨S1024x2816, .f32⟩
  | .hbm, ⟨7, _⟩ => ⟨S1024x2816, .f32⟩
  | .hbm, ⟨8, _⟩ => ⟨S4096x1024, .f32⟩
  | .hbm, ⟨9, _⟩ => ⟨S1x1024, .f32⟩
  | .hbm, ⟨10, _⟩ => ⟨S4096x2816, .f32⟩
  | .hbm, ⟨11, _⟩ => ⟨S4096x2816, .f32⟩
  | .hbm, ⟨12, _⟩ => ⟨S4096x2816, .bf16⟩
  | .hbm, ⟨13, _⟩ => ⟨S4096x1024, .f32⟩
  | .hbm, ⟨14, _⟩ => ⟨S2816x1024, .f32⟩
  | .hbm, ⟨15, _⟩ => ⟨S2816x1024, .bf16⟩
  | .hbm, ⟨16, _⟩ => ⟨S2816x1024, .f32⟩
  | .hbm, ⟨17, _⟩ => ⟨S2816x1024, .bf16⟩
  | .hbm, ⟨18, _⟩ => ⟨S4096x1024, .f32⟩
  | .hbm, ⟨19, _⟩ => ⟨S4096x2816, .bf16⟩
  | .hbm, ⟨20, _⟩ => ⟨S1x1024, .f32⟩
  | .local _ .vmem, ⟨0, _⟩ => ⟨S256x1024, .f32⟩
  | .local _ .vmem, ⟨1, _⟩ => ⟨S256x1024, .f32⟩
  | .local _ .vmem, ⟨2, _⟩ => ⟨S1x1024, .f32⟩
  | .local _ .vmem, ⟨3, _⟩ => ⟨S256x2816, .f32⟩
  | .local _ .vmem, ⟨4, _⟩ => ⟨S256x2816, .f32⟩
  | .local _ .vmem, ⟨5, _⟩ => ⟨S8x2816, .f32⟩
  | .local _ .vmem, ⟨6, _⟩ => ⟨S8x2816, .f32⟩
  | .local _ .vmem, ⟨7, _⟩ => ⟨S256x2816, .bf16⟩
  | .local _ .vmem, ⟨8, _⟩ => ⟨S256x2816, .bf16⟩
  | .local _ .vmem, ⟨9, _⟩ => ⟨S256x1024, .f32⟩
  | .local _ .vmem, ⟨10, _⟩ => ⟨S256x1024, .f32⟩
  | .local _ .vmem, ⟨11, _⟩ => ⟨S3x2816, .f32⟩
  | .local _ .vmem, ⟨12, _⟩ => ⟨S2816x1024, .bf16⟩
  | .local _ .vmem, ⟨13, _⟩ => ⟨S2816x1024, .bf16⟩
  | .local _ .vmem, ⟨14, _⟩ => ⟨S256x1024, .f32⟩
  | .local _ .vmem, ⟨15, _⟩ => ⟨S256x1024, .f32⟩
  | .local _ .vmem, ⟨16, _⟩ => ⟨S256x2816, .bf16⟩
  | .local _ .vmem, ⟨17, _⟩ => ⟨S256x2816, .bf16⟩
  | .local _ .vmem, ⟨18, _⟩ => ⟨S1x1024, .f32⟩
  | .local _ .vmem, ⟨19, _⟩ => ⟨S264x2816, .f32⟩
  | _, _ => ⟨S2x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10_0 : Ref sig .tc := ⟨.hbm, 18, rfl⟩
abbrev main_v10_1 : Ref sig .tc := ⟨.hbm, 19, rfl⟩
abbrev main_v10_2 : Ref sig .tc := ⟨.hbm, 20, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg9_0 : Ref sig .tc := ⟨.vmem, 14, rfl⟩
abbrev cc0_stg9_1 : Ref sig .tc := ⟨.vmem, 15, rfl⟩
abbrev cc0_stg10_0 : Ref sig .tc := ⟨.vmem, 16, rfl⟩
abbrev cc0_stg10_1 : Ref sig .tc := ⟨.vmem, 17, rfl⟩
abbrev cc0_stg11_0 : Ref sig .tc := ⟨.vmem, 18, rfl⟩
abbrev cc0_scratch0 : Ref sig .tc := ⟨.vmem, 19, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem7_0 : DmaSem sig := 12
abbrev cc0_sem8_0 : DmaSem sig := 13
abbrev cc0_sem9_0 : DmaSem sig := 14
abbrev cc0_sem9_1 : DmaSem sig := 15
abbrev cc0_sem10_0 : DmaSem sig := 16
abbrev cc0_sem10_1 : DmaSem sig := 17
abbrev cc0_sem11_0 : DmaSem sig := 18

abbrev nD : Nat := 1
abbrev τ : Topo := Topo.v7x

variable {F : FTy → Type} [FloatOps F]

abbrev grid0 : Pipeline.Grid := ⟨1, ![16], ![false]⟩

def k0_cond1 (i : grid0.Coords) : BitVec 1 :=
  let arg0 : BitVec 32 := BitVec.ofNat 32 (i 0).val
  let c0_i32_39 : BitVec 32 := 0#32
  let v89 : BitVec 1 := Scalar.cmpi .eq arg0 c0_i32_39
  let v90 : BitVec 32 := Scalar.extui v89
  let c0_i32_40 : BitVec 32 := 0#32
  let v91 : BitVec 1 := Scalar.cmpi .ne v90 c0_i32_40
  v91

def k0_cond2 (i : grid0.Coords) : BitVec 1 :=
  let arg0 : BitVec 32 := BitVec.ofNat 32 (i 0).val
  let c0_i32_39 : BitVec 32 := 0#32
  let v89 : BitVec 1 := Scalar.cmpi .eq arg0 c0_i32_39
  let v_true : BitVec 1 := 1#1
  let v92 : BitVec 1 := Scalar.xori v89 v_true
  let v93 : BitVec 32 := Scalar.extui v92
  let c0_i32_41 : BitVec 32 := 0#32
  let v94 : BitVec 1 := Scalar.cmpi .ne v93 c0_i32_41
  v94

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c1_i32 : BitVec 32 := 1#32
  let v0 : BitVec 32 := Scalar.addi arg0 c1_i32
  let c32_i32 : BitVec 32 := 32#32
  let v1 : BitVec 32 := Scalar.muli v0 c32_i32
  let c511_i32 : BitVec 32 := 511#32
  let v2 : BitVec 32 := Scalar.minsi v1 c511_i32
  let c0_i32 : BitVec 32 := 0#32
  let c0_i32_0 : BitVec 32 := 0#32
  ![v2.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S256x2816 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S8x2816 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x2816 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S3x2816 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S2816x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S2816x1024 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S256x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S256x2816 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 1 → Memref sig .tc .vmem S1x1024 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]
-- ==== FfnARefIdeal.lean ====
abbrev S2x2048x1024 : Shape := ⟨3, ![2, 2048, 1024]⟩
abbrev S1024 : Shape := ⟨1, ![1024]⟩
abbrev S2x2048x2816 : Shape := ⟨3, ![2, 2048, 2816]⟩
abbrev S3x2816 : Shape := ⟨2, ![3, 2816]⟩
abbrev S1024x2816 : Shape := ⟨2, ![1024, 2816]⟩
abbrev S_ : Shape := ⟨0, ![]⟩
abbrev S2x2048 : Shape := ⟨2, ![2, 2048]⟩
abbrev S2x2048x1 : Shape := ⟨3, ![2, 2048, 1]⟩
abbrev S1x1x1024 : Shape := ⟨3, ![1, 1, 1024]⟩
abbrev S2816 : Shape := ⟨1, ![2816]⟩
abbrev S2x2x2816 : Shape := ⟨3, ![2, 2, 2816]⟩
abbrev S2x2050x2816 : Shape := ⟨3, ![2, 2050, 2816]⟩
abbrev S1x2816 : Shape := ⟨2, ![1, 2816]⟩
abbrev S1x1x2816 : Shape := ⟨3, ![1, 1, 2816]⟩
abbrev S4096x1024 : Shape := ⟨2, ![4096, 1024]⟩
abbrev S4096x2816 : Shape := ⟨2, ![4096, 2816]⟩
abbrev S1x1024 : Shape := ⟨2, ![1, 1024]⟩

abbrev nBuf : Space → Nat
  | .hbm => 112
  | .vmem => 0
  | .smem => 0
  | _ => 0

abbrev bufTy : (tb : Table) → Fin (tcTables nBuf tb) → BufTy
  | .hbm, ⟨0, _⟩ => ⟨S2x2048x1024, .f32⟩
  | .hbm, ⟨1, _⟩ => ⟨S1024, .f32⟩
  | .hbm, ⟨2, _⟩ => ⟨S2x2048x2816, .f32⟩
  | .hbm, ⟨3, _⟩ => ⟨S2x2048x2816, .f32⟩
  | .hbm, ⟨4, _⟩ => ⟨S2x2048x1024, .f32⟩
  | .hbm, ⟨5, _⟩ => ⟨S3x2816, .f32⟩
  | .hbm, ⟨6, _⟩ => ⟨S1024x2816, .f32⟩
  | .hbm, ⟨7, _⟩ => ⟨S1024x2816, .f32⟩
  | .hbm, ⟨8, _⟩ => ⟨S2x2048x1024, .f32⟩
  | .hbm, ⟨9, _⟩ => ⟨S_, .f32⟩
  | .hbm, ⟨10, _⟩ => ⟨S2x2048, .f32⟩
  | .hbm, ⟨11, _⟩ => ⟨S2x2048x1, .f32⟩
  | .hbm, ⟨12, _⟩ => ⟨S_, .f32⟩
  | .hbm, ⟨13, _⟩ => ⟨S2x2048x1, .f32⟩
  | .hbm, ⟨14, _⟩ => ⟨S2x2048x1, .f32⟩
  | .hbm, ⟨15, _⟩ => ⟨S_, .f32⟩
  | .hbm, ⟨16, _⟩ => ⟨S2x2048x1, .f32⟩
  | .hbm, ⟨17, _⟩ => ⟨S2x2048x1, .f32⟩
  | .hbm, ⟨18, _⟩ => ⟨S2x2048x1, .f32⟩
  | .hbm, ⟨19, _⟩ => ⟨S2x2048x1, .f32⟩
  | .hbm, ⟨20, _⟩ => ⟨S_, .f32⟩
  | .hbm, ⟨21, _⟩ => ⟨S2x2048x1, .f32⟩
  | .hbm, ⟨22, _⟩ => ⟨S2x2048x1, .f32⟩
  | .hbm, ⟨23, _⟩ => ⟨S2x2048x1024, .f32⟩
  | .hbm, ⟨24, _⟩ => ⟨S2x2048x1024, .f32⟩
  | .hbm, ⟨25, _⟩ => ⟨S1x1x1024, .f32⟩
  | .hbm, ⟨26, _⟩ => ⟨S2x2048x1024, .f32⟩
  | .hbm, ⟨27, _⟩ => ⟨S2x2048x1024, .f32⟩
  | .hbm, ⟨28, _⟩ => ⟨S2x2048x2816, .f32⟩
  | .hbm, ⟨29, _⟩ => ⟨S_, .f32⟩
  | .hbm, ⟨30, _⟩ => ⟨S2816, .f32⟩
  | .hbm, ⟨31, _⟩ => ⟨S_, .f32⟩
  | .hbm, ⟨32, _⟩ => ⟨S2x2x2816, .f32⟩
  | .hbm, ⟨33, _⟩ => ⟨S2x2050x2816, .f32⟩
  | .hbm, ⟨34, _⟩ => ⟨S_, .f32⟩
  | .hbm, ⟨35, _⟩ => ⟨S2x2x2816, .f32⟩
  | .hbm, ⟨36, _⟩ => ⟨S2x2048x2816, .f32⟩
  | .hbm, ⟨37, _⟩ => ⟨S1x2816, .f32⟩
  | .hbm, ⟨38, _⟩ => ⟨S2816, .f32⟩
  | .hbm, ⟨39, _⟩ => ⟨S1x1x2816, .f32⟩
  | .hbm, ⟨40, _⟩ => ⟨S2x2048x2816, .f32⟩
  | .hbm, ⟨41, _⟩ => ⟨S2x2048x2816, .f32⟩
  | .hbm, ⟨42, _⟩ => ⟨S2x2048x2816, .f32⟩
  | .hbm, ⟨43, _⟩ => ⟨S1x2816, .f32⟩
  | .hbm, ⟨44, _⟩ => ⟨S2816, .f32⟩
  | .hbm, ⟨45, _⟩ => ⟨S1x1x2816, .f32⟩
  | .hbm, ⟨46, _⟩ => ⟨S2x2048x2816, .f32⟩
  | .hbm, ⟨47, _⟩ => ⟨S2x2048x2816, .f32⟩
  | .hbm, ⟨48, _⟩ => ⟨S2x2048x2816, .f32⟩
  | .hbm, ⟨49, _⟩ => ⟨S2x2048x2816, .f32⟩
  | .hbm, ⟨50, _⟩ => ⟨S1x2816, .f32⟩
  | .hbm, ⟨51, _⟩ => ⟨S2816, .f32⟩
  | .hbm, ⟨52, _⟩ => ⟨S1x1x2816, .f32⟩
  | .hbm, ⟨53, _⟩ => ⟨S2x2048x2816, .f32⟩
  | .hbm, ⟨54, _⟩ => ⟨S2x2048x2816, .f32⟩
  | .hbm, ⟨55, _⟩ => ⟨S2x2048x2816, .f32⟩
  | .hbm, ⟨56, _⟩ => ⟨S1x1x2816, .f32⟩
  | .hbm, ⟨57, _⟩ => ⟨S2x2048x2816, .f32⟩
  | .hbm, ⟨58, _⟩ => ⟨S2x2048x2816, .f32⟩
  | .hbm, ⟨59, _⟩ => ⟨S2x2048x2816, .f32⟩
  | .hbm, ⟨60, _⟩ => ⟨S2x2048x2816, .f32⟩
  | .hbm, ⟨61, _⟩ => ⟨S2x2048x2816, .f32⟩
  | .hbm, ⟨62, _⟩ => ⟨S2x2048x2816, .f32⟩
  | .hbm, ⟨63, _⟩ => ⟨S_, .f32⟩
  | .hbm, ⟨64, _⟩ => ⟨S2x2050x2816, .f32⟩
  | .hbm, ⟨65, _⟩ => ⟨S2x2048x2816, .f32⟩
  | .hbm, ⟨66, _⟩ => ⟨S2x2048x2816, .f32⟩
  | .hbm, ⟨67, _⟩ => ⟨S_, .f32⟩
  | .hbm, ⟨68, _⟩ => ⟨S2x2050x2816, .f32⟩
  | .hbm, ⟨69, _⟩ => ⟨S2x2050x2816, .f32⟩
  | .hbm, ⟨70, _⟩ => ⟨S2x2048x2816, .f32⟩
  | .hbm, ⟨71, _⟩ => ⟨S2x2048x2816, .f32⟩
  | .hbm, ⟨72, _⟩ => ⟨S_, .f32⟩
  | .hbm, ⟨73, _⟩ => ⟨S2x2050x2816, .f32⟩
  | .hbm, ⟨74, _⟩ => ⟨S2x2050x2816, .f32⟩
  | .hbm, ⟨75, _⟩ => ⟨S2x2x2816, .f32⟩
  | .hbm, ⟨76, _⟩ => ⟨S2x2048x2816, .f32⟩
  | .hbm, ⟨77, _⟩ => ⟨S2x2048x2816, .f32⟩
  | .hbm, ⟨78, _⟩ => ⟨S2x2048x2816, .f32⟩
  | .hbm, ⟨79, _⟩ => ⟨S2x2048x1024, .f32⟩
  | .hbm, ⟨80, _⟩ => ⟨S2x2048x1024, .f32⟩
  | .hbm, ⟨81, _⟩ => ⟨S2x2048x1024, .f32⟩
  | .hbm, ⟨82, _⟩ => ⟨S2x2048x1024, .f32⟩
  | .hbm, ⟨83, _⟩ => ⟨S_, .f32⟩
  | .hbm, ⟨84, _⟩ => ⟨S1024, .f32⟩
  | .hbm, ⟨85, _⟩ => ⟨S1x1x1024, .f32⟩
  | .hbm, ⟨86, _⟩ => ⟨S2x2048x1024, .f32⟩
  | .hbm, ⟨87, _⟩ => ⟨S2x2048x1024, .f32⟩
  | .hbm, ⟨88, _⟩ => ⟨S_, .f32⟩
  | .hbm, ⟨89, _⟩ => ⟨S1024, .f32⟩
  | .hbm, ⟨90, _⟩ => ⟨S2x2048x1024, .f32⟩
  | .hbm, ⟨91, _⟩ => ⟨S_, .f32⟩
  | .hbm, ⟨92, _⟩ => ⟨S2x2048, .f32⟩
  | .hbm, ⟨93, _⟩ => ⟨S2x2048x1, .f32⟩
  | .hbm, ⟨94, _⟩ => ⟨S2x2048x1024, .f32⟩
  | .hbm, ⟨95, _⟩ => ⟨S2x2048x1024, .f32⟩
  | .hbm, ⟨96, _⟩ => ⟨S2x2048x1, .f32⟩
  | .hbm, ⟨97, _⟩ => ⟨S_, .f32⟩
  | .hbm, ⟨98, _⟩ => ⟨S2x2048x1, .f32⟩
  | .hbm, ⟨99, _⟩ => ⟨S2x2048x1, .f32⟩
  | .hbm, ⟨100, _⟩ => ⟨S_, .f32⟩
  | .hbm, ⟨101, _⟩ => ⟨S2x2048, .f32⟩
  | .hbm, ⟨102, _⟩ => ⟨S2x2048x1024, .f32⟩
  | .hbm, ⟨103, _⟩ => ⟨S2x2048x1024, .f32⟩
  | .hbm, ⟨104, _⟩ => ⟨S2x2048x1024, .f32⟩
  | .hbm, ⟨105, _⟩ => ⟨S2x2048x1024, .f32⟩
  | .hbm, ⟨106, _⟩ => ⟨S2x2048x1024, .f32⟩
  | .hbm, ⟨107, _⟩ => ⟨S2x2048x1024, .f32⟩
  | .hbm, ⟨108, _⟩ => ⟨S4096x1024, .f32⟩
  | .hbm, ⟨109, _⟩ => ⟨S2x2048x2816, .bf16⟩
  | .hbm, ⟨110, _⟩ => ⟨S4096x2816, .bf16⟩
  | .hbm, ⟨111, _⟩ => ⟨S1x1024, .f32⟩
  | _, _ => ⟨S2x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_cst : Ref sig .tc := ⟨.hbm, 9, rfl⟩
abbrev main_v1 : Ref sig .tc := ⟨.hbm, 10, rfl⟩
abbrev main_v2 : Ref sig .tc := ⟨.hbm, 11, rfl⟩
abbrev main_cst_0 : Ref sig .tc := ⟨.hbm, 12, rfl⟩
abbrev main_v3 : Ref sig .tc := ⟨.hbm, 13, rfl⟩
abbrev main_v4 : Ref sig .tc := ⟨.hbm, 14, rfl⟩
abbrev main_cst_1 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_cst_2 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_cst_3 : Ref sig .tc := ⟨.hbm, 29, rfl⟩
abbrev main_v17 : Ref sig .tc := ⟨.hbm, 30, rfl⟩
abbrev main_cst_4 : Ref sig .tc := ⟨.hbm, 31, rfl⟩
abbrev main_v18 : Ref sig .tc := ⟨.hbm, 32, rfl⟩
abbrev main_v19 : Ref sig .tc := ⟨.hbm, 33, rfl⟩
abbrev main_cst_5 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩
abbrev main_v45 : Ref sig .tc := ⟨.hbm, 60, rfl⟩
abbrev main_v46 : Ref sig .tc := ⟨.hbm, 61, rfl⟩
abbrev main_v47 : Ref sig .tc := ⟨.hbm, 62, rfl⟩
abbrev main_cst_6 : Ref sig .tc := ⟨.hbm, 63, rfl⟩
abbrev main_v48 : Ref sig .tc := ⟨.hbm, 64, rfl⟩
abbrev main_v49 : Ref sig .tc := ⟨.hbm, 65, rfl⟩
abbrev main_v50 : Ref sig .tc := ⟨.hbm, 66, rfl⟩
abbrev main_cst_7 : Ref sig .tc := ⟨.hbm, 67, rfl⟩
abbrev main_v51 : Ref sig .tc := ⟨.hbm, 68, rfl⟩
abbrev main_v52 : Ref sig .tc := ⟨.hbm, 69, rfl⟩
abbrev main_v53 : Ref sig .tc := ⟨.hbm, 70, rfl⟩
abbrev main_v54 : Ref sig .tc := ⟨.hbm, 71, rfl⟩
abbrev main_cst_8 : Ref sig .tc := ⟨.hbm, 72, rfl⟩
abbrev main_v55 : Ref sig .tc := ⟨.hbm, 73, rfl⟩
abbrev main_v56 : Ref sig .tc := ⟨.hbm, 74, rfl⟩
abbrev main_v57 : Ref sig .tc := ⟨.hbm, 75, rfl⟩
abbrev main_v58 : Ref sig .tc := ⟨.hbm, 76, rfl⟩
abbrev main_v59 : Ref sig .tc := ⟨.hbm, 77, rfl⟩
abbrev main_v60 : Ref sig .tc := ⟨.hbm, 78, rfl⟩
abbrev main_v61 : Ref sig .tc := ⟨.hbm, 79, rfl⟩
abbrev main_v62 : Ref sig .tc := ⟨.hbm, 80, rfl⟩
abbrev main_v63 : Ref sig .tc := ⟨.hbm, 81, rfl⟩
abbrev main_v64 : Ref sig .tc := ⟨.hbm, 82, rfl⟩
abbrev main_cst_9 : Ref sig .tc := ⟨.hbm, 83, rfl⟩
abbrev main_v65 : Ref sig .tc := ⟨.hbm, 84, rfl⟩
abbrev main_v66 : Ref sig .tc := ⟨.hbm, 85, rfl⟩
abbrev main_v67 : Ref sig .tc := ⟨.hbm, 86, rfl⟩
abbrev main_v68 : Ref sig .tc := ⟨.hbm, 87, rfl⟩
abbrev main_cst_10 : Ref sig .tc := ⟨.hbm, 88, rfl⟩
abbrev main_v69 : Ref sig .tc := ⟨.hbm, 89, rfl⟩
abbrev main_v70 : Ref sig .tc := ⟨.hbm, 90, rfl⟩
abbrev main_cst_11 : Ref sig .tc := ⟨.hbm, 91, rfl⟩
abbrev main_v71 : Ref sig .tc := ⟨.hbm, 92, rfl⟩
abbrev main_v72 : Ref sig .tc := ⟨.hbm, 93, rfl⟩
abbrev main_v73 : Ref sig .tc := ⟨.hbm, 94, rfl⟩
abbrev main_v74 : Ref sig .tc := ⟨.hbm, 95, rfl⟩
abbrev main_v75 : Ref sig .tc := ⟨.hbm, 96, rfl⟩
abbrev main_cst_12 : Ref sig .tc := ⟨.hbm, 97, rfl⟩
abbrev main_v76 : Ref sig .tc := ⟨.hbm, 98, rfl⟩
abbrev main_v77 : Ref sig .tc := ⟨.hbm, 99, rfl⟩
abbrev main_cst_13 : Ref sig .tc := ⟨.hbm, 100, rfl⟩
abbrev main_v78 : Ref sig .tc := ⟨.hbm, 101, rfl⟩
abbrev main_v79 : Ref sig .tc := ⟨.hbm, 102, rfl⟩
abbrev main_v80 : Ref sig .tc := ⟨.hbm, 103, rfl⟩
abbrev main_v81 : Ref sig .tc := ⟨.hbm, 104, rfl⟩
abbrev main_v82 : Ref sig .tc := ⟨.hbm, 105, rfl⟩
abbrev main_v83 : Ref sig .tc := ⟨.hbm, 106, rfl⟩
abbrev main_v84 : Ref sig .tc := ⟨.hbm, 107, rfl⟩
abbrev main_v85 : Ref sig .tc := ⟨.hbm, 108, rfl⟩
abbrev main_v86 : Ref sig .tc := ⟨.hbm, 109, rfl⟩
abbrev main_v87 : Ref sig .tc := ⟨.hbm, 110, rfl⟩
abbrev main_v88 : Ref sig .tc := ⟨.hbm, 111, rfl⟩

abbrev nD : Nat := 1
abbrev τ : Topo := Topo.v7x

variable {F : FTy → Type} [FloatOps F]
-- ==== Sgu.lean ====
abbrev S2x2048x1024 : Shape := ⟨3, ![2, 2048, 1024]⟩
abbrev S1024 : Shape := ⟨1, ![1024]⟩
abbrev S1024x2048 : Shape := ⟨2, ![1024, 2048]⟩
abbrev S8x128x128 : Shape := ⟨3, ![8, 128, 128]⟩
abbrev S8x128 : Shape := ⟨2, ![8, 128]⟩
abbrev S1024x1024 : Shape := ⟨2, ![1024, 1024]⟩
abbrev S1x1024 : Shape := ⟨2, ![1, 1024]⟩
abbrev S128x8 : Shape := ⟨2, ![128, 8]⟩
abbrev S_ : Shape := ⟨0, ![]⟩
abbrev S128x128 : Shape := ⟨2, ![128, 128]⟩
abbrev S4096x1024 : Shape := ⟨2, ![4096, 1024]⟩
abbrev S512x1024 : Shape := ⟨2, ![512, 1024]⟩
abbrev S512x2048 : Shape := ⟨2, ![512, 2048]⟩
abbrev S256x1024 : Shape := ⟨2, ![256, 1024]⟩
abbrev S256 : Shape := ⟨1, ![256]⟩
abbrev S256x1 : Shape := ⟨2, ![256, 1]⟩
abbrev S256x2048 : Shape := ⟨2, ![256, 2048]⟩
abbrev S1x128x128 : Shape := ⟨3, ![1, 128, 128]⟩
abbrev S128x1024 : Shape := ⟨2, ![128, 1024]⟩
abbrev S128x1 : Shape := ⟨2, ![128, 1]⟩
abbrev S128 : Shape := ⟨1, ![128]⟩

abbrev nBuf : Space → Nat
  | .hbm => 28
  | .vmem => 23
  | .smem => 0
  | _ => 0

abbrev bufTy : (tb : Table) → Fin (tcTables nBuf tb) → BufTy
  | .hbm, ⟨0, _⟩ => ⟨S2x2048x1024, .f32⟩
  | .hbm, ⟨1, _⟩ => ⟨S2x2048x1024, .f32⟩
  | .hbm, ⟨2, _⟩ => ⟨S1024, .f32⟩
  | .hbm, ⟨3, _⟩ => ⟨S1024x2048, .f32⟩
  | .hbm, ⟨4, _⟩ => ⟨S1024, .f32⟩
  | .hbm, ⟨5, _⟩ => ⟨S1024, .f32⟩
  | .hbm, ⟨6, _⟩ => ⟨S8x128x128, .f32⟩
  | .hbm, ⟨7, _⟩ => ⟨S8x128, .f32⟩
  | .hbm, ⟨8, _⟩ => ⟨S1024x1024, .f32⟩
  | .hbm, ⟨9, _⟩ => ⟨S1x1024, .f32⟩
  | .hbm, ⟨10, _⟩ => ⟨S1024x2048, .bf16⟩
  | .hbm, ⟨11, _⟩ => ⟨S1x1024, .f32⟩
  | .hbm, ⟨12, _⟩ => ⟨S1x1024, .f32⟩
  | .hbm, ⟨13, _⟩ => ⟨S128x8, .f32⟩
  | .hbm, ⟨14, _⟩ => ⟨S_, .i32⟩
  | .hbm, ⟨15, _⟩ => ⟨S_, .f32⟩
  | .hbm, ⟨16, _⟩ => ⟨S128x128, .f32⟩
  | .hbm, ⟨17, _⟩ => ⟨S1024x1024, .bf16⟩
  | .hbm, ⟨18, _⟩ => ⟨S4096x1024, .f32⟩
  | .hbm, ⟨19, _⟩ => ⟨S4096x1024, .f32⟩
  | .hbm, ⟨20, _⟩ => ⟨S4096x1024, .f32⟩
  | .hbm, ⟨21, _⟩ => ⟨S1x1024, .f32⟩
  | .hbm, ⟨22, _⟩ => ⟨S1024x2048, .f32⟩
  | .hbm, ⟨23, _⟩ => ⟨S1x1024, .f32⟩
  | .hbm, ⟨24, _⟩ => ⟨S1x1024, .f32⟩
  | .hbm, ⟨25, _⟩ => ⟨S8x128x128, .f32⟩
  | .hbm, ⟨26, _⟩ => ⟨S128x128, .f32⟩
  | .hbm, ⟨27, _⟩ => ⟨S1024x1024, .f32⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S1x1024, .f32⟩
  | .local _ .vmem, ⟨5, _⟩ => ⟨S1024x2048, .bf16⟩
  | .local _ .vmem, ⟨6, _⟩ => ⟨S1x1024, .f32⟩
  | .local _ .vmem, ⟨7, _⟩ => ⟨S1x1024, .f32⟩
  | .local _ .vmem, ⟨8, _⟩ => ⟨S8x128x128, .f32⟩
  | .local _ .vmem, ⟨9, _⟩ => ⟨S128x128, .f32⟩
  | .local _ .vmem, ⟨10, _⟩ => ⟨S1024x1024, .bf16⟩
  | .local _ .vmem, ⟨11, _⟩ => ⟨S512x1024, .f32⟩
  | .local _ .vmem, ⟨12, _⟩ => ⟨S512x1024, .f32⟩
  | .local _ .vmem, ⟨13, _⟩ => ⟨S1x1024, .f32⟩
  | .local _ .vmem, ⟨14, _⟩ => ⟨S1024x2048, .f32⟩
  | .local _ .vmem, ⟨15, _⟩ => ⟨S1x1024, .f32⟩
  | .local _ .vmem, ⟨16, _⟩ => ⟨S1x1024, .f32⟩
  | .local _ .vmem, ⟨17, _⟩ => ⟨S8x128x128, .f32⟩
  | .local _ .vmem, ⟨18, _⟩ => ⟨S128x128, .f32⟩
  | .local _ .vmem, ⟨19, _⟩ => ⟨S1024x1024, .f32⟩
  | .local _ .vmem, ⟨20, _⟩ => ⟨S512x1024, .bf16⟩
  | .local _ .vmem, ⟨21, _⟩ => ⟨S512x1024, .bf16⟩
  | .local _ .vmem, ⟨22, _⟩ => ⟨S512x2048, .bf16⟩
  | _, _ => ⟨S2x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_c : Ref sig .tc := ⟨.hbm, 14, rfl⟩
abbrev main_call0_v0 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9_0 : Ref sig .tc := ⟨.hbm, 20, rfl⟩
abbrev main_v9_1 : Ref sig .tc := ⟨.hbm, 21, rfl⟩
abbrev main_v9_2 : Ref sig .tc := ⟨.hbm, 22, rfl⟩
abbrev main_v9_3 : Ref sig .tc := ⟨.hbm, 23, rfl⟩
abbrev main_v9_4 : Ref sig .tc := ⟨.hbm, 24, rfl⟩
abbrev main_v9_5 : Ref sig .tc := ⟨.hbm, 25, rfl⟩
abbrev main_v9_6 : Ref sig .tc := ⟨.hbm, 26, rfl⟩
abbrev main_v9_7 : Ref sig .tc := ⟨.hbm, 27, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg9_0 : Ref sig .tc := ⟨.vmem, 11, rfl⟩
abbrev cc0_stg9_1 : Ref sig .tc := ⟨.vmem, 12, rfl⟩
abbrev cc0_stg10_0 : Ref sig .tc := ⟨.vmem, 13, rfl⟩
abbrev cc0_stg11_0 : Ref sig .tc := ⟨.vmem, 14, rfl⟩
abbrev cc0_stg12_0 : Ref sig .tc := ⟨.vmem, 15, rfl⟩
abbrev cc0_stg13_0 : Ref sig .tc := ⟨.vmem, 16, rfl⟩
abbrev cc0_stg14_0 : Ref sig .tc := ⟨.vmem, 17, rfl⟩
abbrev cc0_stg15_0 : Ref sig .tc := ⟨.vmem, 18, rfl⟩
abbrev cc0_stg16_0 : Ref sig .tc := ⟨.vmem, 19, rfl⟩
abbrev cc0_scratch0 : Ref sig .tc := ⟨.vmem, 20, rfl⟩
abbrev cc0_scratch1 : Ref sig .tc := ⟨.vmem, 21, rfl⟩
abbrev cc0_scratch2 : Ref sig .tc := ⟨.vmem, 22, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem9_0 : DmaSem sig := 11
abbrev cc0_sem9_1 : DmaSem sig := 12
abbrev cc0_sem10_0 : DmaSem sig := 13
abbrev cc0_sem11_0 : DmaSem sig := 14
abbrev cc0_sem12_0 : DmaSem sig := 15
abbrev cc0_sem13_0 : DmaSem sig := 16
abbrev cc0_sem14_0 : DmaSem sig := 17
abbrev cc0_sem15_0 : DmaSem sig := 18
abbrev cc0_sem16_0 : DmaSem sig := 19

abbrev nD : Nat := 1
abbrev τ : Topo := Topo.v7x

variable {F : FTy → Type} [FloatOps F]

abbrev grid0 : Pipeline.Grid := ⟨1, ![8], ![false]⟩

def k0_cond27 (i : grid0.Coords) : BitVec 1 :=
  let arg0 : BitVec 32 := BitVec.ofNat 32 (i 0).val
  let c0_i32 : BitVec 32 := 0#32
  let v0 : BitVec 1 := Scalar.cmpi .eq arg0 c0_i32
  let v1526 : BitVec 32 := Scalar.extui v0
  let c0_i32_579 : BitVec 32 := 0#32
  let v1527 : BitVec 1 := Scalar.cmpi .ne v1526 c0_i32_579
  v1527

def k0_cond28 (i : grid0.Coords) : BitVec 1 :=
  let arg0 : BitVec 32 := BitVec.ofNat 32 (i 0).val
  let c0_i32 : BitVec 32 := 0#32
  let v0 : BitVec 1 := Scalar.cmpi .eq arg0 c0_i32
  let true_580 : BitVec 1 := 1#1
  let v1528 : BitVec 1 := Scalar.xori v0 true_580
  let v1529 : BitVec 32 := Scalar.extui v1528
  let c0_i32_581 : BitVec 32 := 0#32
  let v1530 : BitVec 1 := Scalar.cmpi .ne v1529 c0_i32_581
  v1530

def k0_cond3 (i : grid0.Coords) : BitVec 1 :=
  let arg0 : BitVec 32 := BitVec.ofNat 32 (i 0).val
  let c0_i32 : BitVec 32 := 0#32
  let v0 : BitVec 1 := Scalar.cmpi .eq arg0 c0_i32
  let v1450 : BitVec 32 := Scalar.extui v0
  let c0_i32_535 : BitVec 32 := 0#32
  let v1451 : BitVec 1 := Scalar.cmpi .ne v1450 c0_i32_535
  v1451

def k0_cond4 (i : grid0.Coords) : BitVec 1 :=
  let arg0 : BitVec 32 := BitVec.ofNat 32 (i 0).val
  let c0_i32 : BitVec 32 := 0#32
  let v0 : BitVec 1 := Scalar.cmpi .eq arg0 c0_i32
  let true_536 : BitVec 1 := 1#1
  let v1452 : BitVec 1 := Scalar.xori v0 true_536
  let v1453 : BitVec 32 := Scalar.extui v1452
  let c0_i32_537 : BitVec 32 := 0#32
  let v1454 : BitVec 1 := Scalar.cmpi .ne v1453 c0_i32_537
  v1454

def k0_cond23 (i : grid0.Coords) : BitVec 1 :=
  let arg0 : BitVec 32 := BitVec.ofNat 32 (i 0).val
  let c0_i32 : BitVec 32 := 0#32
  let v0 : BitVec 1 := Scalar.cmpi .eq arg0 c0_i32
  let v1516 : BitVec 32 := Scalar.extui v0
  let c0_i32_573 : BitVec 32 := 0#32
  let v1517 : BitVec 1 := Scalar.cmpi .ne v1516 c0_i32_573
  v1517

def k0_cond24 (i : grid0.Coords) : BitVec 1 :=
  let arg0 : BitVec 32 := BitVec.ofNat 32 (i 0).val
  let c0_i32 : BitVec 32 := 0#32
  let v0 : BitVec 1 := Scalar.cmpi .eq arg0 c0_i32
  let true_574 : BitVec 1 := 1#1
  let v1518 : BitVec 1 := Scalar.xori v0 true_574
  let v1519 : BitVec 32 := Scalar.extui v1518
  let c0_i32_575 : BitVec 32 := 0#32
  let v1520 : BitVec 1 := Scalar.cmpi .ne v1519 c0_i32_575
  v1520

def k0_cond25 (i : grid0.Coords) : BitVec 1 :=
  let arg0 : BitVec 32 := BitVec.ofNat 32 (i 0).val
  let c0_i32 : BitVec 32 := 0#32
  let v0 : BitVec 1 := Scalar.cmpi .eq arg0 c0_i32
  let v1521 : BitVec 32 := Scalar.extui v0
  let c0_i32_576 : BitVec 32 := 0#32
  let v1522 : BitVec 1 := Scalar.cmpi .ne v1521 c0_i32_576
  v1522

def k0_cond26 (i : grid0.Coords) : BitVec 1 :=
  let arg0 : BitVec 32 := BitVec.ofNat 32 (i 0).val
  let c0_i32 : BitVec 32 := 0#32
  let v0 : BitVec 1 := Scalar.cmpi .eq arg0 c0_i32
  let true_577 : BitVec 1 := 1#1
  let v1523 : BitVec 1 := Scalar.xori v0 true_577
  let v1524 : BitVec 32 := Scalar.extui v1523
  let c0_i32_578 : BitVec 32 := 0#32
  let v1525 : BitVec 1 := Scalar.cmpi .ne v1524 c0_i32_578
  v1525

def k0_cond5 (i : grid0.Coords) : BitVec 1 :=
  let arg0 : BitVec 32 := BitVec.ofNat 32 (i 0).val
  let c0_i32 : BitVec 32 := 0#32
  let v0 : BitVec 1 := Scalar.cmpi .eq arg0 c0_i32
  let v1457 : BitVec 32 := Scalar.extui v0
  let c0_i32_539 : BitVec 32 := 0#32
  let v1458 : BitVec 1 := Scalar.cmpi .ne v1457 c0_i32_539
  v1458

def k0_cond6 (i : grid0.Coords) : BitVec 1 :=
  let arg0 : BitVec 32 := BitVec.ofNat 32 (i 0).val
  let c0_i32 : BitVec 32 := 0#32
  let v0 : BitVec 1 := Scalar.cmpi .eq arg0 c0_i32
  let true_540 : BitVec 1 := 1#1
  let v1459 : BitVec 1 := Scalar.xori v0 true_540
  let v1460 : BitVec 32 := Scalar.extui v1459
  let c0_i32_541 : BitVec 32 := 0#32
  let v1461 : BitVec 1 := Scalar.cmpi .ne v1460 c0_i32_541
  v1461

def k0_cond7 (i : grid0.Coords) : BitVec 1 :=
  let arg0 : BitVec 32 := BitVec.ofNat 32 (i 0).val
  let c0_i32 : BitVec 32 := 0#32
  let v0 : BitVec 1 := Scalar.cmpi .eq arg0 c0_i32
  let v1464 : BitVec 32 := Scalar.extui v0
  let c0_i32_543 : BitVec 32 := 0#32
  let v1465 : BitVec 1 := Scalar.cmpi .ne v1464 c0_i32_543
  v1465

def k0_cond8 (i : grid0.Coords) : BitVec 1 :=
  let arg0 : BitVec 32 := BitVec.ofNat 32 (i 0).val
  let c0_i32 : BitVec 32 := 0#32
  let v0 : BitVec 1 := Scalar.cmpi .eq arg0 c0_i32
  let true_544 : BitVec 1 := 1#1
  let v1466 : BitVec 1 := Scalar.xori v0 true_544
  let v1467 : BitVec 32 := Scalar.extui v1466
  let c0_i32_545 : BitVec 32 := 0#32
  let v1468 : BitVec 1 := Scalar.cmpi .ne v1467 c0_i32_545
  v1468

def k0_cond9 (i : grid0.Coords) : BitVec 1 :=
  let arg0 : BitVec 32 := BitVec.ofNat 32 (i 0).val
  let c0_i32 : BitVec 32 := 0#32
  let v0 : BitVec 1 := Scalar.cmpi .eq arg0 c0_i32
  let v1471 : BitVec 32 := Scalar.extui v0
  let c0_i32_547 : BitVec 32 := 0#32
  let v1472 : BitVec 1 := Scalar.cmpi .ne v1471 c0_i32_547
  v1472

def k0_cond10 (i : grid0.Coords) : BitVec 1 :=
  let arg0 : BitVec 32 := BitVec.ofNat 32 (i 0).val
  let c0_i32 : BitVec 32 := 0#32
  let v0 : BitVec 1 := Scalar.cmpi .eq arg0 c0_i32
  let true_548 : BitVec 1 := 1#1
  let v1473 : BitVec 1 := Scalar.xori v0 true_548
  let v1474 : BitVec 32 := Scalar.extui v1473
  let c0_i32_549 : BitVec 32 := 0#32
  let v1475 : BitVec 1 := Scalar.cmpi .ne v1474 c0_i32_549
  v1475

def k0_cond11 (i : grid0.Coords) : BitVec 1 :=
  let arg0 : BitVec 32 := BitVec.ofNat 32 (i 0).val
  let c0_i32 : BitVec 32 := 0#32
  let v0 : BitVec 1 := Scalar.cmpi .eq arg0 c0_i32
  let v1478 : BitVec 32 := Scalar.extui v0
  let c0_i32_551 : BitVec 32 := 0#32
  let v1479 : BitVec 1 := Scalar.cmpi .ne v1478 c0_i32_551
  v1479

def k0_cond12 (i : grid0.Coords) : BitVec 1 :=
  let arg0 : BitVec 32 := BitVec.ofNat 32 (i 0).val
  let c0_i32 : BitVec 32 := 0#32
  let v0 : BitVec 1 := Scalar.cmpi .eq arg0 c0_i32
  let true_552 : BitVec 1 := 1#1
  let v1480 : BitVec 1 := Scalar.xori v0 true_552
  let v1481 : BitVec 32 := Scalar.extui v1480
  let c0_i32_553 : BitVec 32 := 0#32
  let v1482 : BitVec 1 := Scalar.cmpi .ne v1481 c0_i32_553
  v1482

def k0_cond13 (i : grid0.Coords) : BitVec 1 :=
  let arg0 : BitVec 32 := BitVec.ofNat 32 (i 0).val
  let c0_i32 : BitVec 32 := 0#32
  let v0 : BitVec 1 := Scalar.cmpi .eq arg0 c0_i32
  let v1485 : BitVec 32 := Scalar.extui v0
  let c0_i32_555 : BitVec 32 := 0#32
  let v1486 : BitVec 1 := Scalar.cmpi .ne v1485 c0_i32_555
  v1486

def k0_cond14 (i : grid0.Coords) : BitVec 1 :=
  let arg0 : BitVec 32 := BitVec.ofNat 32 (i 0).val
  let c0_i32 : BitVec 32 := 0#32
  let v0 : BitVec 1 := Scalar.cmpi .eq arg0 c0_i32
  let true_556 : BitVec 1 := 1#1
  let v1487 : BitVec 1 := Scalar.xori v0 true_556
  let v1488 : BitVec 32 := Scalar.extui v1487
  let c0_i32_557 : BitVec 32 := 0#32
  let v1489 : BitVec 1 := Scalar.cmpi .ne v1488 c0_i32_557
  v1489

def k0_cond15 (i : grid0.Coords) : BitVec 1 :=
  let arg0 : BitVec 32 := BitVec.ofNat 32 (i 0).val
  let c0_i32 : BitVec 32 := 0#32
  let v0 : BitVec 1 := Scalar.cmpi .eq arg0 c0_i32
  let v1492 : BitVec 32 := Scalar.extui v0
  let c0_i32_559 : BitVec 32 := 0#32
  let v1493 : BitVec 1 := Scalar.cmpi .ne v1492 c0_i32_559
  v1493

def k0_cond16 (i : grid0.Coords) : BitVec 1 :=
  let arg0 : BitVec 32 := BitVec.ofNat 32 (i 0).val
  let c0_i32 : BitVec 32 := 0#32
  let v0 : BitVec 1 := Scalar.cmpi .eq arg0 c0_i32
  let true_560 : BitVec 1 := 1#1
  let v1494 : BitVec 1 := Scalar.xori v0 true_560
  let v1495 : BitVec 32 := Scalar.extui v1494
  let c0_i32_561 : BitVec 32 := 0#32
  let v1496 : BitVec 1 := Scalar.cmpi .ne v1495 c0_i32_561
  v1496

def k0_cond17 (i : grid0.Coords) : BitVec 1 :=
  let arg0 : BitVec 32 := BitVec.ofNat 32 (i 0).val
  let c0_i32 : BitVec 32 := 0#32
  let v0 : BitVec 1 := Scalar.cmpi .eq arg0 c0_i32
  let v1499 : BitVec 32 := Scalar.extui v0
  let c0_i32_563 : BitVec 32 := 0#32
  let v1500 : BitVec 1 := Scalar.cmpi .ne v1499 c0_i32_563
  v1500

def k0_cond18 (i : grid0.Coords) : BitVec 1 :=
  let arg0 : BitVec 32 := BitVec.ofNat 32 (i 0).val
  let c0_i32 : BitVec 32 := 0#32
  let v0 : BitVec 1 := Scalar.cmpi .eq arg0 c0_i32
  let true_564 : BitVec 1 := 1#1
  let v1501 : BitVec 1 := Scalar.xori v0 true_564
  let v1502 : BitVec 32 := Scalar.extui v1501
  let c0_i32_565 : BitVec 32 := 0#32
  let v1503 : BitVec 1 := Scalar.cmpi .ne v1502 c0_i32_565
  v1503

def k0_cond19 (i : grid0.Coords) : BitVec 1 :=
  let arg0 : BitVec 32 := BitVec.ofNat 32 (i 0).val
  let c0_i32 : BitVec 32 := 0#32
  let v0 : BitVec 1 := Scalar.cmpi .eq arg0 c0_i32
  let v1506 : BitVec 32 := Scalar.extui v0
  let c0_i32_567 : BitVec 32 := 0#32
  let v1507 : BitVec 1 := Scalar.cmpi .ne v1506 c0_i32_567
  v1507

def k0_cond20 (i : grid0.Coords) : BitVec 1 :=
  let arg0 : BitVec 32 := BitVec.ofNat 32 (i 0).val
  let c0_i32 : BitVec 32 := 0#32
  let v0 : BitVec 1 := Scalar.cmpi .eq arg0 c0_i32
  let true_568 : BitVec 1 := 1#1
  let v1508 : BitVec 1 := Scalar.xori v0 true_568
  let v1509 : BitVec 32 := Scalar.extui v1508
  let c0_i32_569 : BitVec 32 := 0#32
  let v1510 : BitVec 1 := Scalar.cmpi .ne v1509 c0_i32_569
  v1510

def k0_cond21 (i : grid0.Coords) : BitVec 1 :=
  let arg0 : BitVec 32 := BitVec.ofNat 32 (i 0).val
  let c0_i32 : BitVec 32 := 0#32
  let v0 : BitVec 1 := Scalar.cmpi .eq arg0 c0_i32
  let v1511 : BitVec 32 := Scalar.extui v0
  let c0_i32_570 : BitVec 32 := 0#32
  let v1512 : BitVec 1 := Scalar.cmpi .ne v1511 c0_i32_570
  v1512

def k0_cond22 (i : grid0.Coords) : BitVec 1 :=
  let arg0 : BitVec 32 := BitVec.ofNat 32 (i 0).val
  let c0_i32 : BitVec 32 := 0#32
  let v0 : BitVec 1 := Scalar.cmpi .eq arg0 c0_i32
  let true_571 : BitVec 1 := 1#1
  let v1513 : BitVec 1 := Scalar.xori v0 true_571
  let v1514 : BitVec 32 := Scalar.extui v1513
  let c0_i32_572 : BitVec 32 := 0#32
  let v1515 : BitVec 1 := Scalar.cmpi .ne v1514 c0_i32_572
  v1515

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let v1442 : BitVec 32 := Scalar.extui v0
  let c0_i32_528 : BitVec 32 := 0#32
  let v1443 : BitVec 1 := Scalar.cmpi .ne v1442 c0_i32_528
  v1443

def k0_cond2 (i : grid0.Coords) : BitVec 1 :=
  let arg0 : BitVec 32 := BitVec.ofNat 32 (i 0).val
  let c0_i32 : BitVec 32 := 0#32
  let v0 : BitVec 1 := Scalar.cmpi .eq arg0 c0_i32
  let v_true : BitVec 1 := 1#1
  let v1444 : BitVec 1 := Scalar.xori v0 v_true
  let v1445 : BitVec 32 := Scalar.extui v1444
  let c0_i32_529 : BitVec 32 := 0#32
  let v1446 : BitVec 1 := Scalar.cmpi .ne v1445 c0_i32_529
  v1446

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_15 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_16 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x2048 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S8x128x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S128x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1024x1024 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S512x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 1 → Memref sig .tc .vmem S1x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1024x2048 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S1x1024 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S1x1024 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S8x128x128 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 1 → Memref sig .tc .vmem S128x128 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false]

abbrev stage0_16 : Fin 1 → Memref sig .tc .vmem S1024x1024 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![false]
-- ==== SguRefIdeal.lean ====
abbrev S2x2048x1024 : Shape := ⟨3, ![2, 2048, 1024]⟩
abbrev S1024 : Shape := ⟨1, ![1024]⟩
abbrev S1024x2048 : Shape := ⟨2, ![1024, 2048]⟩
abbrev S8x128x128 : Shape := ⟨3, ![8, 128, 128]⟩
abbrev S8x128 : Shape := ⟨2, ![8, 128]⟩
abbrev S1024x1024 : Shape := ⟨2, ![1024, 1024]⟩
abbrev S_ : Shape := ⟨0, ![]⟩
abbrev S2x2048 : Shape := ⟨2, ![2, 2048]⟩
abbrev S2x2048x1 : Shape := ⟨3, ![2, 2048, 1]⟩
abbrev S1x1x1024 : Shape := ⟨3, ![1, 1, 1024]⟩
abbrev S2x2048x2048 : Shape := ⟨3, ![2, 2048, 2048]⟩
abbrev S2x16x128x8x128 : Shape := ⟨5, ![2, 16, 128, 8, 128]⟩
abbrev S128x128 : Shape := ⟨2, ![128, 128]⟩
abbrev S1x128x128 : Shape := ⟨3, ![1, 128, 128]⟩
abbrev S8x2x16x128x128 : Shape := ⟨5, ![8, 2, 16, 128, 128]⟩
abbrev S128x8 : Shape := ⟨2, ![128, 8]⟩
abbrev S128x8x1 : Shape := ⟨3, ![128, 8, 1]⟩
abbrev S1x1x128x8x1 : Shape := ⟨5, ![1, 1, 128, 8, 1]⟩
abbrev S2048x1024 : Shape := ⟨2, ![2048, 1024]⟩
abbrev S4096x1024 : Shape := ⟨2, ![4096, 1024]⟩
abbrev S1x1024 : Shape := ⟨2, ![1, 1024]⟩

abbrev nBuf : Space → Nat
  | .hbm => 234
  | .vmem => 0
  | .smem => 0
  | _ => 0

abbrev hbmTy0_0 (i : Nat) : BufTy := match i % 128 with
  | 0 => ⟨S2x2048x1024, .f32⟩
  | 1 => ⟨S2x2048x1024, .f32⟩
  | 2 => ⟨S1024, .f32⟩
  | 3 => ⟨S1024x2048, .f32⟩
  | 4 => ⟨S1024, .f32⟩
  | 5 => ⟨S1024, .f32⟩
  | 6 => ⟨S8x128x128, .f32⟩
  | 7 => ⟨S8x128, .f32⟩
  | 8 => ⟨S1024x1024, .f32⟩
  | 9 => ⟨S2x2048x1024, .f32⟩
  | 10 => ⟨S_, .f32⟩
  | 11 => ⟨S2x2048, .f32⟩
  | 12 => ⟨S2x2048x1, .f32⟩
  | 13 => ⟨S_, .f32⟩
  | 14 => ⟨S2x2048x1, .f32⟩
  | 15 => ⟨S2x2048x1, .f32⟩
  | 16 => ⟨S_, .f32⟩
  | 17 => ⟨S2x2048x1, .f32⟩
  | 18 => ⟨S2x2048x1, .f32⟩
  | 19 => ⟨S2x2048x1, .f32⟩
  | 20 => ⟨S2x2048x1, .f32⟩
  | 21 => ⟨S_, .f32⟩
  | 22 => ⟨S2x2048x1, .f32⟩
  | 23 => ⟨S2x2048x1, .f32⟩
  | 24 => ⟨S2x2048x1024, .f32⟩
  | 25 => ⟨S2x2048x1024, .f32⟩
  | 26 => ⟨S1x1x1024, .f32⟩
  | 27 => ⟨S2x2048x1024, .f32⟩
  | 28 => ⟨S2x2048x1024, .f32⟩
  | 29 => ⟨S2x2048x2048, .f32⟩
  | 30 => ⟨S2x2048x2048, .f32⟩
  | 31 => ⟨S2x2048x2048, .f32⟩
  | 32 => ⟨S2x2048x2048, .f32⟩
  | 33 => ⟨S_, .f32⟩
  | 34 => ⟨S2x2048x2048, .f32⟩
  | 35 => ⟨S2x2048x2048, .f32⟩
  | 36 => ⟨S_, .f32⟩
  | 37 => ⟨S2x2048x2048, .f32⟩
  | 38 => ⟨S2x2048x2048, .f32⟩
  | 39 => ⟨S2x2048x2048, .f32⟩
  | 40 => ⟨S_, .f32⟩
  | 41 => ⟨S2x2048x2048, .f32⟩
  | 42 => ⟨S2x2048x2048, .f32⟩
  | 43 => ⟨S2x2048x2048, .f32⟩
  | 44 => ⟨S_, .f32⟩
  | 45 => ⟨S2x2048x2048, .f32⟩
  | 46 => ⟨S2x2048x2048, .f32⟩
  | 47 => ⟨S_, .f32⟩
  | 48 => ⟨S2x2048x2048, .f32⟩
  | 49 => ⟨S2x2048x2048, .f32⟩
  | 50 => ⟨S2x2048x2048, .f32⟩
  | 51 => ⟨S_, .f32⟩
  | 52 => ⟨S2x2048x2048, .f32⟩
  | 53 => ⟨S2x2048x2048, .f32⟩
  | 54 => ⟨S_, .f32⟩
  | 55 => ⟨S2x2048x2048, .f32⟩
  | 56 => ⟨S2x2048x2048, .f32⟩
  | 57 => ⟨S2x2048x2048, .f32⟩
  | 58 => ⟨S2x2048x1024, .f32⟩
  | 59 => ⟨S2x2048x1024, .f32⟩
  | 60 => ⟨S_, .f32⟩
  | 61 => ⟨S2x2048, .f32⟩
  | 62 => ⟨S2x2048x1, .f32⟩
  | 63 => ⟨S_, .f32⟩
  | 64 => ⟨S2x2048x1, .f32⟩
  | 65 => ⟨S2x2048x1, .f32⟩
  | 66 => ⟨S2x2048x1024, .f32⟩
  | 67 => ⟨S2x2048x1024, .f32⟩
  | 68 => ⟨S2x2048x1024, .f32⟩
  | 69 => ⟨S_, .f32⟩
  | 70 => ⟨S2x2048, .f32⟩
  | 71 => ⟨S2x2048x1, .f32⟩
  | 72 => ⟨S_, .f32⟩
  | 73 => ⟨S2x2048x1, .f32⟩
  | 74 => ⟨S2x2048x1, .f32⟩
  | 75 => ⟨S_, .f32⟩
  | 76 => ⟨S2x2048x1, .f32⟩
  | 77 => ⟨S2x2048x1, .f32⟩
  | 78 => ⟨S2x2048x1, .f32⟩
  | 79 => ⟨S2x2048x1, .f32⟩
  | 80 => ⟨S_, .f32⟩
  | 81 => ⟨S2x2048x1, .f32⟩
  | 82 => ⟨S2x2048x1, .f32⟩
  | 83 => ⟨S2x2048x1024, .f32⟩
  | 84 => ⟨S2x2048x1024, .f32⟩
  | 85 => ⟨S1x1x1024, .f32⟩
  | 86 => ⟨S2x2048x1024, .f32⟩
  | 87 => ⟨S2x2048x1024, .f32⟩
  | 88 => ⟨S1x1x1024, .f32⟩
  | 89 => ⟨S2x2048x1024, .f32⟩
  | 90 => ⟨S2x2048x1024, .f32⟩
  | 91 => ⟨S2x16x128x8x128, .f32⟩
  | 92 => ⟨S_, .f32⟩
  | 93 => ⟨S128x128, .f32⟩
  | 94 => ⟨S128x128, .i32⟩
  | 95 => ⟨S_, .i32⟩
  | 96 => ⟨S128x128, .i32⟩
  | 97 => ⟨S128x128, .i32⟩
  | 98 => ⟨S128x128, .i32⟩
  | 99 => ⟨S128x128, .i1⟩
  | 100 => ⟨S_, .f32⟩
  | 101 => ⟨S128x128, .f32⟩
  | 102 => ⟨S128x128, .f32⟩
  | 103 => ⟨S1x128x128, .f32⟩
  | 104 => ⟨S8x128x128, .f32⟩
  | 105 => ⟨S8x128x128, .f32⟩
  | 106 => ⟨S8x2x16x128x128, .f32⟩
  | 107 => ⟨S2x16x128x8x128, .f32⟩
  | 108 => ⟨S128x8, .f32⟩
  | 109 => ⟨S128x8x1, .f32⟩
  | 110 => ⟨S1x1x128x8x1, .f32⟩
  | 111 => ⟨S2x16x128x8x128, .f32⟩
  | 112 => ⟨S2x16x128x8x128, .f32⟩
  | 113 => ⟨S2x2048x1024, .f32⟩
  | 114 => ⟨S2x2048x1024, .f32⟩
  | 115 => ⟨S2x2048x1024, .f32⟩
  | 116 => ⟨S2x2048x1024, .f32⟩
  | 117 => ⟨S2x2048x1024, .f32⟩
  | 118 => ⟨S1024x1024, .f32⟩
  | 119 => ⟨S1024x1024, .f32⟩
  | 120 => ⟨S2x2048x1024, .f32⟩
  | 121 => ⟨S2x2048x1024, .f32⟩
  | 122 => ⟨S2x2048x1024, .f32⟩
  | 123 => ⟨S2x16x128x8x128, .f32⟩
  | 124 => ⟨S_, .f32⟩
  | 125 => ⟨S128x8, .f32⟩
  | 126 => ⟨S1x1x128x8x1, .f32⟩
  | 127 => ⟨S_, .f32⟩
  | _ => ⟨S2x2048x1024, .f32⟩

abbrev hbmTy0_1 (i : Nat) : BufTy := match i % 128 with
  | 0 => ⟨S128x8, .f32⟩
  | 1 => ⟨S128x8x1, .f32⟩
  | 2 => ⟨S_, .f32⟩
  | 3 => ⟨S128x8, .f32⟩
  | 4 => ⟨S8x128, .f32⟩
  | 5 => ⟨S8x2x16x128x128, .f32⟩
  | 6 => ⟨S8x128x128, .f32⟩
  | 7 => ⟨S8x2x16x128x128, .f32⟩
  | 8 => ⟨S2x16x128x8x128, .f32⟩
  | 9 => ⟨S8x128x128, .f32⟩
  | 10 => ⟨S8x128x128, .f32⟩
  | 11 => ⟨S2x2048x1024, .f32⟩
  | 12 => ⟨S_, .f32⟩
  | 13 => ⟨S1024, .f32⟩
  | 14 => ⟨S1x1x1024, .f32⟩
  | 15 => ⟨S_, .f32⟩
  | 16 => ⟨S1024, .f32⟩
  | 17 => ⟨S2x2048x1024, .f32⟩
  | 18 => ⟨S_, .f32⟩
  | 19 => ⟨S1024, .f32⟩
  | 20 => ⟨S1x1x1024, .f32⟩
  | 21 => ⟨S2x2048x1024, .f32⟩
  | 22 => ⟨S2x2048x1024, .f32⟩
  | 23 => ⟨S_, .f32⟩
  | 24 => ⟨S1024, .f32⟩
  | 25 => ⟨S2x2048x1024, .f32⟩
  | 26 => ⟨S_, .f32⟩
  | 27 => ⟨S2x2048, .f32⟩
  | 28 => ⟨S2x2048x1, .f32⟩
  | 29 => ⟨S2x2048x1024, .f32⟩
  | 30 => ⟨S2x2048x1024, .f32⟩
  | 31 => ⟨S2x2048x1, .f32⟩
  | 32 => ⟨S_, .f32⟩
  | 33 => ⟨S2x2048x1, .f32⟩
  | 34 => ⟨S2x2048x1, .f32⟩
  | 35 => ⟨S_, .f32⟩
  | 36 => ⟨S2x2048, .f32⟩
  | 37 => ⟨S2x2048x1024, .f32⟩
  | 38 => ⟨S2x2048x1024, .f32⟩
  | 39 => ⟨S2x2048x1024, .f32⟩
  | 40 => ⟨S2x2048x1024, .f32⟩
  | 41 => ⟨S2x2048x1024, .f32⟩
  | 42 => ⟨S2x2048x1024, .f32⟩
  | 43 => ⟨S_, .f32⟩
  | 44 => ⟨S2x2048, .f32⟩
  | 45 => ⟨S2x2048x1, .f32⟩
  | 46 => ⟨S_, .f32⟩
  | 47 => ⟨S2x2048x1, .f32⟩
  | 48 => ⟨S2x2048x1, .f32⟩
  | 49 => ⟨S_, .f32⟩
  | 50 => ⟨S2x2048, .f32⟩
  | 51 => ⟨S2x2048x1024, .f32⟩
  | 52 => ⟨S2x2048x1024, .f32⟩
  | 53 => ⟨S2x2048x2048, .f32⟩
  | 54 => ⟨S2x2048x2048, .f32⟩
  | 55 => ⟨S2x2048x2048, .f32⟩
  | 56 => ⟨S_, .f32⟩
  | 57 => ⟨S2x2048x2048, .f32⟩
  | 58 => ⟨S2x2048x2048, .f32⟩
  | 59 => ⟨S2x2048x2048, .f32⟩
  | 60 => ⟨S_, .f32⟩
  | 61 => ⟨S2x2048x2048, .f32⟩
  | 62 => ⟨S2x2048x2048, .f32⟩
  | 63 => ⟨S2x2048x2048, .f32⟩
  | 64 => ⟨S_, .f32⟩
  | 65 => ⟨S2x2048x2048, .f32⟩
  | 66 => ⟨S2x2048x2048, .f32⟩
  | 67 => ⟨S2x2048x2048, .f32⟩
  | 68 => ⟨S2x2048x2048, .f32⟩
  | 69 => ⟨S2048x1024, .f32⟩
  | 70 => ⟨S1024x2048, .f32⟩
  | 71 => ⟨S2x2048x1024, .f32⟩
  | 72 => ⟨S2x2048x1024, .f32⟩
  | 73 => ⟨S_, .f32⟩
  | 74 => ⟨S1024, .f32⟩
  | 75 => ⟨S1x1x1024, .f32⟩
  | 76 => ⟨S2x2048x1024, .f32⟩
  | 77 => ⟨S2x2048x1024, .f32⟩
  | 78 => ⟨S_, .f32⟩
  | 79 => ⟨S1024, .f32⟩
  | 80 => ⟨S2x2048x1024, .f32⟩
  | 81 => ⟨S_, .f32⟩
  | 82 => ⟨S2x2048, .f32⟩
  | 83 => ⟨S2x2048x1, .f32⟩
  | 84 => ⟨S2x2048x1024, .f32⟩
  | 85 => ⟨S2x2048x1024, .f32⟩
  | 86 => ⟨S2x2048x1024, .f32⟩
  | 87 => ⟨S2x2048x1, .f32⟩
  | 88 => ⟨S_, .f32⟩
  | 89 => ⟨S2x2048x1, .f32⟩
  | 90 => ⟨S2x2048x1, .f32⟩
  | 91 => ⟨S_, .f32⟩
  | 92 => ⟨S2x2048, .f32⟩
  | 93 => ⟨S2x2048x1024, .f32⟩
  | 94 => ⟨S2x2048x1024, .f32⟩
  | 95 => ⟨S2x2048x1024, .f32⟩
  | 96 => ⟨S2x2048x1024, .f32⟩
  | 97 => ⟨S2x2048x1024, .f32⟩
  | 98 => ⟨S4096x1024, .f32⟩
  | 99 => ⟨S1x1024, .f32⟩
  | 100 => ⟨S1x1024, .f32⟩
  | 101 => ⟨S1x1024, .f32⟩
  | 102 => ⟨S128x8, .f32⟩
  | 103 => ⟨S_, .i32⟩
  | 104 => ⟨S_, .f32⟩
  | 105 => ⟨S128x128, .f32⟩
  | _ => ⟨S2x2048x1024, .f32⟩

abbrev hbmTy (i : Nat) : BufTy := match i / 128 with
  | 0 => hbmTy0_0 i
  | 1 => hbmTy0_1 i
  | _ => ⟨S2x2048x1024, .f32⟩

abbrev bufTy : (tb : Table) → Fin (tcTables nBuf tb) → BufTy
  | .hbm, ⟨i, _⟩ => hbmTy i
  | _, _ => ⟨S2x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_cst : Ref sig .tc := ⟨.hbm, 10, rfl⟩
abbrev main_v1 : Ref sig .tc := ⟨.hbm, 11, rfl⟩
abbrev main_v2 : Ref sig .tc := ⟨.hbm, 12, rfl⟩
abbrev main_cst_0 : Ref sig .tc := ⟨.hbm, 13, rfl⟩
abbrev main_v3 : Ref sig .tc := ⟨.hbm, 14, rfl⟩
abbrev main_v4 : Ref sig .tc := ⟨.hbm, 15, rfl⟩
abbrev main_cst_1 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_cst_2 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_cst_3 : Ref sig .tc := ⟨.hbm, 33, rfl⟩
abbrev main_v20 : Ref sig .tc := ⟨.hbm, 34, rfl⟩
abbrev main_v21 : Ref sig .tc := ⟨.hbm, 35, rfl⟩
abbrev main_cst_4 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_cst_5 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_cst_6 : Ref sig .tc := ⟨.hbm, 44, rfl⟩
abbrev main_v28 : Ref sig .tc := ⟨.hbm, 45, rfl⟩
abbrev main_v29 : Ref sig .tc := ⟨.hbm, 46, rfl⟩
abbrev main_cst_7 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_cst_8 : Ref sig .tc := ⟨.hbm, 51, rfl⟩
abbrev main_v33 : Ref sig .tc := ⟨.hbm, 52, rfl⟩
abbrev main_v34 : Ref sig .tc := ⟨.hbm, 53, rfl⟩
abbrev main_cst_9 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_cst_10 : Ref sig .tc := ⟨.hbm, 60, rfl⟩
abbrev main_v40 : Ref sig .tc := ⟨.hbm, 61, rfl⟩
abbrev main_v41 : Ref sig .tc := ⟨.hbm, 62, rfl⟩
abbrev main_cst_11 : Ref sig .tc := ⟨.hbm, 63, rfl⟩
abbrev main_v42 : Ref sig .tc := ⟨.hbm, 64, rfl⟩
abbrev main_v43 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev main_cst_12 : Ref sig .tc := ⟨.hbm, 69, rfl⟩
abbrev main_v47 : Ref sig .tc := ⟨.hbm, 70, rfl⟩
abbrev main_v48 : Ref sig .tc := ⟨.hbm, 71, rfl⟩
abbrev main_cst_13 : Ref sig .tc := ⟨.hbm, 72, rfl⟩
abbrev main_v49 : Ref sig .tc := ⟨.hbm, 73, rfl⟩
abbrev main_v50 : Ref sig .tc := ⟨.hbm, 74, rfl⟩
abbrev main_cst_14 : Ref sig .tc := ⟨.hbm, 75, rfl⟩
abbrev main_v51 : Ref sig .tc := ⟨.hbm, 76, rfl⟩
abbrev main_v52 : Ref sig .tc := ⟨.hbm, 77, rfl⟩
abbrev main_v53 : Ref sig .tc := ⟨.hbm, 78, rfl⟩
abbrev main_v54 : Ref sig .tc := ⟨.hbm, 79, rfl⟩
abbrev main_cst_15 : Ref sig .tc := ⟨.hbm, 80, rfl⟩
abbrev main_v55 : Ref sig .tc := ⟨.hbm, 81, rfl⟩
abbrev main_v56 : Ref sig .tc := ⟨.hbm, 82, rfl⟩
abbrev main_v57 : Ref sig .tc := ⟨.hbm, 83, rfl⟩
abbrev main_v58 : Ref sig .tc := ⟨.hbm, 84, rfl⟩
abbrev main_v59 : Ref sig .tc := ⟨.hbm, 85, rfl⟩
abbrev main_v60 : Ref sig .tc := ⟨.hbm, 86, rfl⟩
abbrev main_v61 : Ref sig .tc := ⟨.hbm, 87, rfl⟩
abbrev main_v62 : Ref sig .tc := ⟨.hbm, 88, rfl⟩
abbrev main_v63 : Ref sig .tc := ⟨.hbm, 89, rfl⟩
abbrev main_v64 : Ref sig .tc := ⟨.hbm, 90, rfl⟩
abbrev main_v65 : Ref sig .tc := ⟨.hbm, 91, rfl⟩
abbrev main_cst_16 : Ref sig .tc := ⟨.hbm, 92, rfl⟩
abbrev main_v66 : Ref sig .tc := ⟨.hbm, 93, rfl⟩
abbrev main_call0_v0 : Ref sig .tc := ⟨.hbm, 94, rfl⟩
abbrev main_call0_c : Ref sig .tc := ⟨.hbm, 95, rfl⟩
abbrev main_call0_v1 : Ref sig .tc := ⟨.hbm, 96, rfl⟩
abbrev main_call0_v2 : Ref sig .tc := ⟨.hbm, 97, rfl⟩
abbrev main_call0_v3 : Ref sig .tc := ⟨.hbm, 98, rfl⟩
abbrev main_call0_v4 : Ref sig .tc := ⟨.hbm, 99, rfl⟩
abbrev main_call0_cst : Ref sig .tc := ⟨.hbm, 100, rfl⟩
abbrev main_call0_v5 : Ref sig .tc := ⟨.hbm, 101, rfl⟩
abbrev main_v67 : Ref sig .tc := ⟨.hbm, 102, rfl⟩
abbrev main_v68 : Ref sig .tc := ⟨.hbm, 103, rfl⟩
abbrev main_v69 : Ref sig .tc := ⟨.hbm, 104, rfl⟩
abbrev main_v70 : Ref sig .tc := ⟨.hbm, 105, rfl⟩
abbrev main_v71 : Ref sig .tc := ⟨.hbm, 106, rfl⟩
abbrev main_v72 : Ref sig .tc := ⟨.hbm, 107, rfl⟩
abbrev main_v73 : Ref sig .tc := ⟨.hbm, 108, rfl⟩
abbrev main_v74 : Ref sig .tc := ⟨.hbm, 109, rfl⟩
abbrev main_v75 : Ref sig .tc := ⟨.hbm, 110, rfl⟩
abbrev main_v76 : Ref sig .tc := ⟨.hbm, 111, rfl⟩
abbrev main_v77 : Ref sig .tc := ⟨.hbm, 112, rfl⟩
abbrev main_v78 : Ref sig .tc := ⟨.hbm, 113, rfl⟩
abbrev main_v79 : Ref sig .tc := ⟨.hbm, 114, rfl⟩
abbrev main_v80 : Ref sig .tc := ⟨.hbm, 115, rfl⟩
abbrev main_v81 : Ref sig .tc := ⟨.hbm, 116, rfl⟩
abbrev main_v82 : Ref sig .tc := ⟨.hbm, 117, rfl⟩
abbrev main_v83 : Ref sig .tc := ⟨.hbm, 118, rfl⟩
abbrev main_v84 : Ref sig .tc := ⟨.hbm, 119, rfl⟩
abbrev main_v85 : Ref sig .tc := ⟨.hbm, 120, rfl⟩
abbrev main_v86 : Ref sig .tc := ⟨.hbm, 121, rfl⟩
abbrev main_v87 : Ref sig .tc := ⟨.hbm, 122, rfl⟩
abbrev main_v88 : Ref sig .tc := ⟨.hbm, 123, rfl⟩
abbrev main_cst_17 : Ref sig .tc := ⟨.hbm, 124, rfl⟩
abbrev main_v89 : Ref sig .tc := ⟨.hbm, 125, rfl⟩
abbrev main_v90 : Ref sig .tc := ⟨.hbm, 126, rfl⟩
abbrev main_cst_18 : Ref sig .tc := ⟨.hbm, 127, rfl⟩
abbrev main_v91 : Ref sig .tc := ⟨.hbm, 128, rfl⟩
abbrev main_v92 : Ref sig .tc := ⟨.hbm, 129, rfl⟩
abbrev main_cst_19 : Ref sig .tc := ⟨.hbm, 130, rfl⟩
abbrev main_v93 : Ref sig .tc := ⟨.hbm, 131, rfl⟩
abbrev main_v94 : Ref sig .tc := ⟨.hbm, 132, rfl⟩
abbrev main_v95 : Ref sig .tc := ⟨.hbm, 133, rfl⟩
abbrev main_v96 : Ref sig .tc := ⟨.hbm, 134, rfl⟩
abbrev main_v97 : Ref sig .tc := ⟨.hbm, 135, rfl⟩
abbrev main_v98 : Ref sig .tc := ⟨.hbm, 136, rfl⟩
abbrev main_v99 : Ref sig .tc := ⟨.hbm, 137, rfl⟩
abbrev main_v100 : Ref sig .tc := ⟨.hbm, 138, rfl⟩
abbrev main_v101 : Ref sig .tc := ⟨.hbm, 139, rfl⟩
abbrev main_cst_20 : Ref sig .tc := ⟨.hbm, 140, rfl⟩
abbrev main_v102 : Ref sig .tc := ⟨.hbm, 141, rfl⟩
abbrev main_v103 : Ref sig .tc := ⟨.hbm, 142, rfl⟩
abbrev main_cst_21 : Ref sig .tc := ⟨.hbm, 143, rfl⟩
abbrev main_v104 : Ref sig .tc := ⟨.hbm, 144, rfl⟩
abbrev main_v105 : Ref sig .tc := ⟨.hbm, 145, rfl⟩
abbrev main_cst_22 : Ref sig .tc := ⟨.hbm, 146, rfl⟩
abbrev main_v106 : Ref sig .tc := ⟨.hbm, 147, rfl⟩
abbrev main_v107 : Ref sig .tc := ⟨.hbm, 148, rfl⟩
abbrev main_v108 : Ref sig .tc := ⟨.hbm, 149, rfl⟩
abbrev main_v109 : Ref sig .tc := ⟨.hbm, 150, rfl⟩
abbrev main_cst_23 : Ref sig .tc := ⟨.hbm, 151, rfl⟩
abbrev main_v110 : Ref sig .tc := ⟨.hbm, 152, rfl⟩
abbrev main_v111 : Ref sig .tc := ⟨.hbm, 153, rfl⟩
abbrev main_cst_24 : Ref sig .tc := ⟨.hbm, 154, rfl⟩
abbrev main_v112 : Ref sig .tc := ⟨.hbm, 155, rfl⟩
abbrev main_v113 : Ref sig .tc := ⟨.hbm, 156, rfl⟩
abbrev main_v114 : Ref sig .tc := ⟨.hbm, 157, rfl⟩
abbrev main_v115 : Ref sig .tc := ⟨.hbm, 158, rfl⟩
abbrev main_v116 : Ref sig .tc := ⟨.hbm, 159, rfl⟩
abbrev main_cst_25 : Ref sig .tc := ⟨.hbm, 160, rfl⟩
abbrev main_v117 : Ref sig .tc := ⟨.hbm, 161, rfl⟩
abbrev main_v118 : Ref sig .tc := ⟨.hbm, 162, rfl⟩
abbrev main_cst_26 : Ref sig .tc := ⟨.hbm, 163, rfl⟩
abbrev main_v119 : Ref sig .tc := ⟨.hbm, 164, rfl⟩
abbrev main_v120 : Ref sig .tc := ⟨.hbm, 165, rfl⟩
abbrev main_v121 : Ref sig .tc := ⟨.hbm, 166, rfl⟩
abbrev main_v122 : Ref sig .tc := ⟨.hbm, 167, rfl⟩
abbrev main_v123 : Ref sig .tc := ⟨.hbm, 168, rfl⟩
abbrev main_v124 : Ref sig .tc := ⟨.hbm, 169, rfl⟩
abbrev main_v125 : Ref sig .tc := ⟨.hbm, 170, rfl⟩
abbrev main_cst_27 : Ref sig .tc := ⟨.hbm, 171, rfl⟩
abbrev main_v126 : Ref sig .tc := ⟨.hbm, 172, rfl⟩
abbrev main_v127 : Ref sig .tc := ⟨.hbm, 173, rfl⟩
abbrev main_cst_28 : Ref sig .tc := ⟨.hbm, 174, rfl⟩
abbrev main_v128 : Ref sig .tc := ⟨.hbm, 175, rfl⟩
abbrev main_v129 : Ref sig .tc := ⟨.hbm, 176, rfl⟩
abbrev main_cst_29 : Ref sig .tc := ⟨.hbm, 177, rfl⟩
abbrev main_v130 : Ref sig .tc := ⟨.hbm, 178, rfl⟩
abbrev main_v131 : Ref sig .tc := ⟨.hbm, 179, rfl⟩
abbrev main_v132 : Ref sig .tc := ⟨.hbm, 180, rfl⟩
abbrev main_v133 : Ref sig .tc := ⟨.hbm, 181, rfl⟩
abbrev main_v134 : Ref sig .tc := ⟨.hbm, 182, rfl⟩
abbrev main_v135 : Ref sig .tc := ⟨.hbm, 183, rfl⟩
abbrev main_cst_30 : Ref sig .tc := ⟨.hbm, 184, rfl⟩
abbrev main_v136 : Ref sig .tc := ⟨.hbm, 185, rfl⟩
abbrev main_v137 : Ref sig .tc := ⟨.hbm, 186, rfl⟩
abbrev main_v138 : Ref sig .tc := ⟨.hbm, 187, rfl⟩
abbrev main_cst_31 : Ref sig .tc := ⟨.hbm, 188, rfl⟩
abbrev main_v139 : Ref sig .tc := ⟨.hbm, 189, rfl⟩
abbrev main_v140 : Ref sig .tc := ⟨.hbm, 190, rfl⟩
abbrev main_v141 : Ref sig .tc := ⟨.hbm, 191, rfl⟩
abbrev main_cst_32 : Ref sig .tc := ⟨.hbm, 192, rfl⟩
abbrev main_v142 : Ref sig .tc := ⟨.hbm, 193, rfl⟩
abbrev main_v143 : Ref sig .tc := ⟨.hbm, 194, rfl⟩
abbrev main_v144 : Ref sig .tc := ⟨.hbm, 195, rfl⟩
abbrev main_v145 : Ref sig .tc := ⟨.hbm, 196, rfl⟩
abbrev main_v146 : Ref sig .tc := ⟨.hbm, 197, rfl⟩
abbrev main_v147 : Ref sig .tc := ⟨.hbm, 198, rfl⟩
abbrev main_v148 : Ref sig .tc := ⟨.hbm, 199, rfl⟩
abbrev main_v149 : Ref sig .tc := ⟨.hbm, 200, rfl⟩
abbrev main_cst_33 : Ref sig .tc := ⟨.hbm, 201, rfl⟩
abbrev main_v150 : Ref sig .tc := ⟨.hbm, 202, rfl⟩
abbrev main_v151 : Ref sig .tc := ⟨.hbm, 203, rfl⟩
abbrev main_v152 : Ref sig .tc := ⟨.hbm, 204, rfl⟩
abbrev main_v153 : Ref sig .tc := ⟨.hbm, 205, rfl⟩
abbrev main_cst_34 : Ref sig .tc := ⟨.hbm, 206, rfl⟩
abbrev main_v154 : Ref sig .tc := ⟨.hbm, 207, rfl⟩
abbrev main_v155 : Ref sig .tc := ⟨.hbm, 208, rfl⟩
abbrev main_cst_35 : Ref sig .tc := ⟨.hbm, 209, rfl⟩
abbrev main_v156 : Ref sig .tc := ⟨.hbm, 210, rfl⟩
abbrev main_v157 : Ref sig .tc := ⟨.hbm, 211, rfl⟩
abbrev main_v158 : Ref sig .tc := ⟨.hbm, 212, rfl⟩
abbrev main_v159 : Ref sig .tc := ⟨.hbm, 213, rfl⟩
abbrev main_v160 : Ref sig .tc := ⟨.hbm, 214, rfl⟩
abbrev main_v161 : Ref sig .tc := ⟨.hbm, 215, rfl⟩
abbrev main_cst_36 : Ref sig .tc := ⟨.hbm, 216, rfl⟩
abbrev main_v162 : Ref sig .tc := ⟨.hbm, 217, rfl⟩
abbrev main_v163 : Ref sig .tc := ⟨.hbm, 218, rfl⟩
abbrev main_cst_37 : Ref sig .tc := ⟨.hbm, 219, rfl⟩
abbrev main_v164 : Ref sig .tc := ⟨.hbm, 220, rfl⟩
abbrev main_v165 : Ref sig .tc := ⟨.hbm, 221, rfl⟩
abbrev main_v166 : Ref sig .tc := ⟨.hbm, 222, rfl⟩
abbrev main_v167 : Ref sig .tc := ⟨.hbm, 223, rfl⟩
abbrev main_v168 : Ref sig .tc := ⟨.hbm, 224, rfl⟩
abbrev main_v169 : Ref sig .tc := ⟨.hbm, 225, rfl⟩
abbrev main_v170 : Ref sig .tc := ⟨.hbm, 226, rfl⟩
abbrev main_v171 : Ref sig .tc := ⟨.hbm, 227, rfl⟩
abbrev main_v172 : Ref sig .tc := ⟨.hbm, 228, rfl⟩
abbrev main_v173 : Ref sig .tc := ⟨.hbm, 229, rfl⟩
abbrev main_v174 : Ref sig .tc := ⟨.hbm, 230, rfl⟩
abbrev main_c : Ref sig .tc := ⟨.hbm, 231, rfl⟩
abbrev main_call1_v0 : Ref sig .tc := ⟨.hbm, 232, rfl⟩
abbrev main_v175 : Ref sig .tc := ⟨.hbm, 233, rfl⟩

abbrev nD : Nat := 1
abbrev τ : Topo := Topo.v7x

variable {F : FTy → Type} [FloatOps F]
-- ==== AttnF.lean ====
abbrev S2x2048x8x96 : Shape := ⟨4, ![2, 2048, 8, 96]⟩
abbrev S2x2048x8x64 : Shape := ⟨4, ![2, 2048, 8, 64]⟩
abbrev S_ : Shape := ⟨0, ![]⟩
abbrev S2x2048x8x128 : Shape := ⟨4, ![2, 2048, 8, 128]⟩
abbrev S2x2048x1024 : Shape := ⟨3, ![2, 2048, 1024]⟩
abbrev S2x8x2048x2048 : Shape := ⟨4, ![2, 8, 2048, 2048]⟩
abbrev S1x2048x128 : Shape := ⟨3, ![1, 2048, 128]⟩
abbrev S1x1x2048x2048 : Shape := ⟨4, ![1, 1, 2048, 2048]⟩
abbrev S1x512x128 : Shape := ⟨3, ![1, 512, 128]⟩
abbrev S512x128 : Shape := ⟨2, ![512, 128]⟩
abbrev S512x512 : Shape := ⟨2, ![512, 512]⟩
abbrev S512 : Shape := ⟨1, ![512]⟩
abbrev S512x1 : Shape := ⟨2, ![512, 1]⟩
abbrev S1x1x512x512 : Shape := ⟨4, ![1, 1, 512, 512]⟩
abbrev S1x1024x128 : Shape := ⟨3, ![1, 1024, 128]⟩
abbrev S1024x128 : Shape := ⟨2, ![1024, 128]⟩
abbrev S512x1024 : Shape := ⟨2, ![512, 1024]⟩
abbrev S1x1x512x1024 : Shape := ⟨4, ![1, 1, 512, 1024]⟩
abbrev S1x1536x128 : Shape := ⟨3, ![1, 1536, 128]⟩
abbrev S1536x128 : Shape := ⟨2, ![1536, 128]⟩
abbrev S512x1536 : Shape := ⟨2, ![512, 1536]⟩
abbrev S1x1x512x1536 : Shape := ⟨4, ![1, 1, 512, 1536]⟩
abbrev S2048x128 : Shape := ⟨2, ![2048, 128]⟩
abbrev S512x2048 : Shape := ⟨2, ![512, 2048]⟩
abbrev S1x1x512x2048 : Shape := ⟨4, ![1, 1, 512, 2048]⟩

abbrev nBuf : Space → Nat
  | .hbm => 20
  | .vmem => 10
  | .smem => 0
  | _ => 0

abbrev bufTy : (tb : Table) → Fin (tcTables nBuf tb) → BufTy
  | .hbm, ⟨0, _⟩ => ⟨S2x2048x8x96, .f32⟩
  | .hbm, ⟨1, _⟩ => ⟨S2x2048x8x96, .f32⟩
  | .hbm, ⟨2, _⟩ => ⟨S2x2048x8x64, .f32⟩
  | .hbm, ⟨3, _⟩ => ⟨S_, .i32⟩
  | .hbm, ⟨4, _⟩ => ⟨S_, .f32⟩
  | .hbm, ⟨5, _⟩ => ⟨S2x2048x8x128, .f32⟩
  | .hbm, ⟨6, _⟩ => ⟨S2x2048x8x128, .bf16⟩
  | .hbm, ⟨7, _⟩ => ⟨S2x2048x1024, .bf16⟩
  | .hbm, ⟨8, _⟩ => ⟨S_, .i32⟩
  | .hbm, ⟨9, _⟩ => ⟨S_, .f32⟩
  | .hbm, ⟨10, _⟩ => ⟨S2x2048x8x128, .f32⟩
  | .hbm, ⟨11, _⟩ => ⟨S2x2048x8x128, .bf16⟩
  | .hbm, ⟨12, _⟩ => ⟨S2x2048x1024, .bf16⟩
  | .hbm, ⟨13, _⟩ => ⟨S_, .i32⟩
  | .hbm, ⟨14, _⟩ => ⟨S_, .f32⟩
  | .hbm, ⟨15, _⟩ => ⟨S2x2048x8x128, .f32⟩
  | .hbm, ⟨16, _⟩ => ⟨S2x2048x8x128, .bf16⟩
  | .hbm, ⟨17, _⟩ => ⟨S2x2048x1024, .bf16⟩
  | .hbm, ⟨18, _⟩ => ⟨S2x2048x1024, .bf16⟩
  | .hbm, ⟨19, _⟩ => ⟨S2x8x2048x2048, .bf16⟩
  | .local _ .vmem, ⟨0, _⟩ => ⟨S1x2048x128, .bf16⟩
  | .local _ .vmem, ⟨1, _⟩ => ⟨S1x2048x128, .bf16⟩
  | .local _ .vmem, ⟨2, _⟩ => ⟨S1x2048x128, .bf16⟩
  | .local _ .vmem, ⟨3, _⟩ => ⟨S1x2048x128, .bf16⟩
  | .local _ .vmem, ⟨4, _⟩ => ⟨S1x2048x128, .bf16⟩
  | .local _ .vmem, ⟨5, _⟩ => ⟨S1x2048x128, .bf16⟩
  | .local _ .vmem, ⟨6, _⟩ => ⟨S1x2048x128, .bf16⟩
  | .local _ .vmem, ⟨7, _⟩ => ⟨S1x2048x128, .bf16⟩
  | .local _ .vmem, ⟨8, _⟩ => ⟨S1x1x2048x2048, .bf16⟩
  | .local _ .vmem, ⟨9, _⟩ => ⟨S1x1x2048x2048, .bf16⟩
  | _, _ => ⟨S2x2048x8x96, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_c : Ref sig .tc := ⟨.hbm, 3, rfl⟩
abbrev main_call0_v0 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_c_0 : Ref sig .tc := ⟨.hbm, 8, rfl⟩
abbrev main_call1_v0 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_c_1 : Ref sig .tc := ⟨.hbm, 13, rfl⟩
abbrev main_call2_v0 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9_0 : Ref sig .tc := ⟨.hbm, 18, rfl⟩
abbrev main_v9_1 : Ref sig .tc := ⟨.hbm, 19, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![2, 8], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_4 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

abbrev stage0_0 : Fin 2 → Memref sig .tc .vmem S1x2048x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x2048x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x2048x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x2048x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x1x2048x2048 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== AttnFIdeal.lean ====
variable {F : FTy → Type} [FloatOps F] [Named F]
def κ : String → Option EReal := fun
  | "mask" => some ⊥
  | _ => none
-- ==== AttnFRefIdeal.lean ====
abbrev S2x2048x8x96 : Shape := ⟨4, ![2, 2048, 8, 96]⟩
abbrev S2x2048x8x64 : Shape := ⟨4, ![2, 2048, 8, 64]⟩
abbrev S2x8x2048x2048 : Shape := ⟨4, ![2, 8, 2048, 2048]⟩
abbrev S_ : Shape := ⟨0, ![]⟩
abbrev S2048 : Shape := ⟨1, ![2048]⟩
abbrev S1x2048 : Shape := ⟨2, ![1, 2048]⟩
abbrev S2048x1 : Shape := ⟨2, ![2048, 1]⟩
abbrev S2048x2048 : Shape := ⟨2, ![2048, 2048]⟩
abbrev S2x8x2048 : Shape := ⟨3, ![2, 8, 2048]⟩
abbrev S2x8x2048x1 : Shape := ⟨4, ![2, 8, 2048, 1]⟩
abbrev S2x8x64x2048 : Shape := ⟨4, ![2, 8, 64, 2048]⟩
abbrev S2x2048x8x128 : Shape := ⟨4, ![2, 2048, 8, 128]⟩
abbrev S2x2048x1024 : Shape := ⟨3, ![2, 2048, 1024]⟩

abbrev nBuf : Space → Nat
  | .hbm => 39
  | .vmem => 0
  | .smem => 0
  | _ => 0

abbrev bufTy : (tb : Table) → Fin (tcTables nBuf tb) → BufTy
  | .hbm, ⟨0, _⟩ => ⟨S2x2048x8x96, .f32⟩
  | .hbm, ⟨1, _⟩ => ⟨S2x2048x8x96, .f32⟩
  | .hbm, ⟨2, _⟩ => ⟨S2x2048x8x64, .f32⟩
  | .hbm, ⟨3, _⟩ => ⟨S2x8x2048x2048, .f32⟩
  | .hbm, ⟨4, _⟩ => ⟨S_, .f32⟩
  | .hbm, ⟨5, _⟩ => ⟨S2x8x2048x2048, .f32⟩
  | .hbm, ⟨6, _⟩ => ⟨S2x8x2048x2048, .f32⟩
  | .hbm, ⟨7, _⟩ => ⟨S2048, .i32⟩
  | .hbm, ⟨8, _⟩ => ⟨S1x2048, .i32⟩
  | .hbm, ⟨9, _⟩ => ⟨S2048x1, .i32⟩
  | .hbm, ⟨10, _⟩ => ⟨S2048x2048, .i32⟩
  | .hbm, ⟨11, _⟩ => ⟨S2048x2048, .i32⟩
  | .hbm, ⟨12, _⟩ => ⟨S2048x2048, .i1⟩
  | .hbm, ⟨13, _⟩ => ⟨S_, .f32⟩
  | .hbm, ⟨14, _⟩ => ⟨S_, .f32⟩
  | .hbm, ⟨15, _⟩ => ⟨S2x8x2048x2048, .i1⟩
  | .hbm, ⟨16, _⟩ => ⟨S2x8x2048x2048, .f32⟩
  | .hbm, ⟨17, _⟩ => ⟨S2x8x2048x2048, .f32⟩
  | .hbm, ⟨18, _⟩ => ⟨S_, .f32⟩
  | .hbm, ⟨19, _⟩ => ⟨S2x8x2048, .f32⟩
  | .hbm, ⟨20, _⟩ => ⟨S_, .f32⟩
  | .hbm, ⟨21, _⟩ => ⟨S2x8x2048, .f32⟩
  | .hbm, ⟨22, _⟩ => ⟨S2x8x2048, .f32⟩
  | .hbm, ⟨23, _⟩ => ⟨S2x8x2048x1, .f32⟩
  | .hbm, ⟨24, _⟩ => ⟨S2x8x2048x2048, .f32⟩
  | .hbm, ⟨25, _⟩ => ⟨S2x8x2048x2048, .f32⟩
  | .hbm, ⟨26, _⟩ => ⟨S2x8x2048x2048, .f32⟩
  | .hbm, ⟨27, _⟩ => ⟨S_, .f32⟩
  | .hbm, ⟨28, _⟩ => ⟨S2x8x2048, .f32⟩
  | .hbm, ⟨29, _⟩ => ⟨S2x8x2048x1, .f32⟩
  | .hbm, ⟨30, _⟩ => ⟨S2x8x2048x2048, .f32⟩
  | .hbm, ⟨31, _⟩ => ⟨S2x8x2048x2048, .f32⟩
  | .hbm, ⟨32, _⟩ => ⟨S2x8x64x2048, .f32⟩
  | .hbm, ⟨33, _⟩ => ⟨S2x2048x8x64, .f32⟩
  | .hbm, ⟨34, _⟩ => ⟨S_, .i32⟩
  | .hbm, ⟨35, _⟩ => ⟨S_, .f32⟩
  | .hbm, ⟨36, _⟩ => ⟨S2x2048x8x128, .f32⟩
  | .hbm, ⟨37, _⟩ => ⟨S2x2048x1024, .f32⟩
  | .hbm, ⟨38, _⟩ => ⟨S2x2048x1024, .bf16⟩
  | _, _ => ⟨S2x2048x8x96, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_cst_0 : Ref sig .tc := ⟨.hbm, 13, rfl⟩
abbrev main_call0_v0 : Ref sig .tc := ⟨.hbm, 14, rfl⟩
abbrev main_call0_v1 : Ref sig .tc := ⟨.hbm, 15, rfl⟩
abbrev main_call0_v2 : Ref sig .tc := ⟨.hbm, 16, rfl⟩
abbrev main_v9 : Ref sig .tc := ⟨.hbm, 17, rfl⟩
abbrev main_cst_1 : Ref sig .tc := ⟨.hbm, 18, rfl⟩
abbrev main_v10 : Ref sig .tc := ⟨.hbm, 19, rfl⟩
abbrev main_cst_2 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_cst_3 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_c : Ref sig .tc := ⟨.hbm, 34, rfl⟩
abbrev main_call1_v0 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩

abbrev nD : Nat := 1
abbrev τ : Topo := Topo.v7x

variable {F : FTy → Type} [FloatOps F]
-- ==== FfnC.lean ====
abbrev S2x2048x1024 : Shape := ⟨3, ![2, 2048, 1024]⟩
abbrev S1024 : Shape := ⟨1, ![1024]⟩
abbrev S1024x2816 : Shape := ⟨2, ![1024, 2816]⟩
abbrev S4096x1024 : Shape := ⟨2, ![4096, 1024]⟩
abbrev S1x1024 : Shape := ⟨2, ![1, 1024]⟩
abbrev S2816x1024 : Shape := ⟨2, ![2816, 1024]⟩
abbrev S4096x2816 : Shape := ⟨2, ![4096, 2816]⟩
abbrev S2x4096x1024 : Shape := ⟨3, ![2, 4096, 1024]⟩
abbrev S1024x1024 : Shape := ⟨2, ![1024, 1024]⟩
abbrev S1408x1024 : Shape := ⟨2, ![1408, 1024]⟩
abbrev S1024x1408 : Shape := ⟨2, ![1024, 1408]⟩
abbrev S1x1024x1024 : Shape := ⟨3, ![1, 1024, 1024]⟩
abbrev S1024x1 : Shape := ⟨2, ![1024, 1]⟩

abbrev nBuf : Space → Nat
  | .hbm => 13
  | .vmem => 13
  | .smem => 0
  | _ => 0

abbrev bufTy : (tb : Table) → Fin (tcTables nBuf tb) → BufTy
  | .hbm, ⟨0, _⟩ => ⟨S2x2048x1024, .f32⟩
  | .hbm, ⟨1, _⟩ => ⟨S1024, .f32⟩
  | .hbm, ⟨2, _⟩ => ⟨S1024x2816, .f32⟩
  | .hbm, ⟨3, _⟩ => ⟨S1024x2816, .f32⟩
  | .hbm, ⟨4, _⟩ => ⟨S4096x1024, .f32⟩
  | .hbm, ⟨5, _⟩ => ⟨S1x1024, .f32⟩
  | .hbm, ⟨6, _⟩ => ⟨S2816x1024, .f32⟩
  | .hbm, ⟨7, _⟩ => ⟨S2816x1024, .bf16⟩
  | .hbm, ⟨8, _⟩ => ⟨S2816x1024, .f32⟩
  | .hbm, ⟨9, _⟩ => ⟨S2816x1024, .bf16⟩
  | .hbm, ⟨10, _⟩ => ⟨S4096x2816, .f32⟩
  | .hbm, ⟨11, _⟩ => ⟨S4096x2816, .f32⟩
  | .hbm, ⟨12, _⟩ => ⟨S2x4096x1024, .bf16⟩
  | .local _ .vmem, ⟨0, _⟩ => ⟨S1024x1024, .f32⟩
  | .local _ .vmem, ⟨1, _⟩ => ⟨S1024x1024, .f32⟩
  | .local _ .vmem, ⟨2, _⟩ => ⟨S1x1024, .f32⟩
  | .local _ .vmem, ⟨3, _⟩ => ⟨S1408x1024, .bf16⟩
  | .local _ .vmem, ⟨4, _⟩ => ⟨S1408x1024, .bf16⟩
  | .local _ .vmem, ⟨5, _⟩ => ⟨S1408x1024, .bf16⟩
  | .local _ .vmem, ⟨6, _⟩ => ⟨S1408x1024, .bf16⟩
  | .local _ .vmem, ⟨7, _⟩ => ⟨S1024x1408, .f32⟩
  | .local _ .vmem, ⟨8, _⟩ => ⟨S1024x1408, .f32⟩
  | .local _ .vmem, ⟨9, _⟩ => ⟨S1024x1408, .f32⟩
  | .local _ .vmem, ⟨10, _⟩ => ⟨S1024x1408, .f32⟩
  | .local _ .vmem, ⟨11, _⟩ => ⟨S1x1024x1024, .bf16⟩
  | .local _ .vmem, ⟨12, _⟩ => ⟨S1x1024x1024, .bf16⟩
  | _, _ => ⟨S2x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6_0 : Ref sig .tc := ⟨.hbm, 10, rfl⟩
abbrev main_v6_1 : Ref sig .tc := ⟨.hbm, 11, rfl⟩
abbrev main_v6_2 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12

abbrev nD : Nat := 1
abbrev τ : Topo := Topo.v7x

variable {F : FTy → Type} [FloatOps F]

abbrev grid0 : Pipeline.Grid := ⟨2, ![2, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1408x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1408x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1024x1408 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1024x1408 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x1024x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== FfnCRefIdeal.lean ====
abbrev S2x2048x1024 : Shape := ⟨3, ![2, 2048, 1024]⟩
abbrev S1024 : Shape := ⟨1, ![1024]⟩
abbrev S1024x2816 : Shape := ⟨2, ![1024, 2816]⟩
abbrev S_ : Shape := ⟨0, ![]⟩
abbrev S2x2048 : Shape := ⟨2, ![2, 2048]⟩
abbrev S2x2048x1 : Shape := ⟨3, ![2, 2048, 1]⟩
abbrev S1x1x1024 : Shape := ⟨3, ![1, 1, 1024]⟩
abbrev S4096x1024 : Shape := ⟨2, ![4096, 1024]⟩
abbrev S2x2048x2816 : Shape := ⟨3, ![2, 2048, 2816]⟩
abbrev S4096x2816 : Shape := ⟨2, ![4096, 2816]⟩
abbrev S1x4096x1024 : Shape := ⟨3, ![1, 4096, 1024]⟩
abbrev S2x4096x1024 : Shape := ⟨3, ![2, 4096, 1024]⟩

abbrev nBuf : Space → Nat
  | .hbm => 29
  | .vmem => 0
  | .smem => 0
  | _ => 0

abbrev bufTy : (tb : Table) → Fin (tcTables nBuf tb) → BufTy
  | .hbm, ⟨0, _⟩ => ⟨S2x2048x1024, .f32⟩
  | .hbm, ⟨1, _⟩ => ⟨S1024, .f32⟩
  | .hbm, ⟨2, _⟩ => ⟨S1024x2816, .f32⟩
  | .hbm, ⟨3, _⟩ => ⟨S1024x2816, .f32⟩
  | .hbm, ⟨4, _⟩ => ⟨S2x2048x1024, .f32⟩
  | .hbm, ⟨5, _⟩ => ⟨S_, .f32⟩
  | .hbm, ⟨6, _⟩ => ⟨S2x2048, .f32⟩
  | .hbm, ⟨7, _⟩ => ⟨S2x2048x1, .f32⟩
  | .hbm, ⟨8, _⟩ => ⟨S_, .f32⟩
  | .hbm, ⟨9, _⟩ => ⟨S2x2048x1, .f32⟩
  | .hbm, ⟨10, _⟩ => ⟨S2x2048x1, .f32⟩
  | .hbm, ⟨11, _⟩ => ⟨S_, .f32⟩
  | .hbm, ⟨12, _⟩ => ⟨S2x2048x1, .f32⟩
  | .hbm, ⟨13, _⟩ => ⟨S2x2048x1, .f32⟩
  | .hbm, ⟨14, _⟩ => ⟨S2x2048x1, .f32⟩
  | .hbm, ⟨15, _⟩ => ⟨S2x2048x1024, .f32⟩
  | .hbm, ⟨16, _⟩ => ⟨S2x2048x1024, .f32⟩
  | .hbm, ⟨17, _⟩ => ⟨S1x1x1024, .f32⟩
  | .hbm, ⟨18, _⟩ => ⟨S2x2048x1024, .f32⟩
  | .hbm, ⟨19, _⟩ => ⟨S2x2048x1024, .f32⟩
  | .hbm, ⟨20, _⟩ => ⟨S2x2048x1024, .bf16⟩
  | .hbm, ⟨21, _⟩ => ⟨S4096x1024, .bf16⟩
  | .hbm, ⟨22, _⟩ => ⟨S2x2048x2816, .f32⟩
  | .hbm, ⟨23, _⟩ => ⟨S4096x2816, .f32⟩
  | .hbm, ⟨24, _⟩ => ⟨S2x2048x2816, .f32⟩
  | .hbm, ⟨25, _⟩ => ⟨S4096x2816, .f32⟩
  | .hbm, ⟨26, _⟩ => ⟨S1x4096x1024, .bf16⟩
  | .hbm, ⟨27, _⟩ => ⟨S1x4096x1024, .bf16⟩
  | .hbm, ⟨28, _⟩ => ⟨S2x4096x1024, .bf16⟩
  | _, _ => ⟨S2x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩

abbrev nD : Nat := 1
abbrev τ : Topo := Topo.v7x

variable {F : FTy → Type} [FloatOps F]
-- ==== SguF.lean ====
abbrev S2x2048x1024 : Shape := ⟨3, ![2, 2048, 1024]⟩
abbrev S1024 : Shape := ⟨1, ![1024]⟩
abbrev S1024x2048 : Shape := ⟨2, ![1024, 2048]⟩
abbrev S8x128x128 : Shape := ⟨3, ![8, 128, 128]⟩
abbrev S8x128 : Shape := ⟨2, ![8, 128]⟩
abbrev S1024x1024 : Shape := ⟨2, ![1024, 1024]⟩
abbrev S1x1024 : Shape := ⟨2, ![1, 1024]⟩
abbrev S128x8 : Shape := ⟨2, ![128, 8]⟩
abbrev S_ : Shape := ⟨0, ![]⟩
abbrev S128x128 : Shape := ⟨2, ![128, 128]⟩
abbrev S4096x1024 : Shape := ⟨2, ![4096, 1024]⟩
abbrev S256x1024 : Shape := ⟨2, ![256, 1024]⟩
abbrev S256 : Shape := ⟨1, ![256]⟩
abbrev S256x1 : Shape := ⟨2, ![256, 1]⟩
abbrev S256x2048 : Shape := ⟨2, ![256, 2048]⟩
abbrev S1x128x128 : Shape := ⟨3, ![1, 128, 128]⟩
abbrev S128x1024 : Shape := ⟨2, ![128, 1024]⟩
abbrev S128x1 : Shape := ⟨2, ![128, 1]⟩

abbrev nBuf : Space → Nat
  | .hbm => 19
  | .vmem => 11
  | .smem => 0
  | _ => 0

abbrev bufTy : (tb : Table) → Fin (tcTables nBuf tb) → BufTy
  | .hbm, ⟨0, _⟩ => ⟨S2x2048x1024, .f32⟩
  | .hbm, ⟨1, _⟩ => ⟨S1024, .f32⟩
  | .hbm, ⟨2, _⟩ => ⟨S1024x2048, .f32⟩
  | .hbm, ⟨3, _⟩ => ⟨S1024, .f32⟩
  | .hbm, ⟨4, _⟩ => ⟨S1024, .f32⟩
  | .hbm, ⟨5, _⟩ => ⟨S8x128x128, .f32⟩
  | .hbm, ⟨6, _⟩ => ⟨S8x128, .f32⟩
  | .hbm, ⟨7, _⟩ => ⟨S1024x1024, .f32⟩
  | .hbm, ⟨8, _⟩ => ⟨S1x1024, .f32⟩
  | .hbm, ⟨9, _⟩ => ⟨S1024x2048, .bf16⟩
  | .hbm, ⟨10, _⟩ => ⟨S1x1024, .f32⟩
  | .hbm, ⟨11, _⟩ => ⟨S1x1024, .f32⟩
  | .hbm, ⟨12, _⟩ => ⟨S128x8, .f32⟩
  | .hbm, ⟨13, _⟩ => ⟨S_, .i32⟩
  | .hbm, ⟨14, _⟩ => ⟨S_, .f32⟩
  | .hbm, ⟨15, _⟩ => ⟨S128x128, .f32⟩
  | .hbm, ⟨16, _⟩ => ⟨S1024x1024, .bf16⟩
  | .hbm, ⟨17, _⟩ => ⟨S4096x1024, .f32⟩
  | .hbm, ⟨18, _⟩ => ⟨S4096x1024, .f32⟩
  | .local _ .vmem, ⟨0, _⟩ => ⟨S256x1024, .f32⟩
  | .local _ .vmem, ⟨1, _⟩ => ⟨S256x1024, .f32⟩
  | .local _ .vmem, ⟨2, _⟩ => ⟨S1x1024, .f32⟩
  | .local _ .vmem, ⟨3, _⟩ => ⟨S1024x2048, .bf16⟩
  | .local _ .vmem, ⟨4, _⟩ => ⟨S1x1024, .f32⟩
  | .local _ .vmem, ⟨5, _⟩ => ⟨S1x1024, .f32⟩
  | .local _ .vmem, ⟨6, _⟩ => ⟨S8x128x128, .f32⟩
  | .local _ .vmem, ⟨7, _⟩ => ⟨S128x128, .f32⟩
  | .local _ .vmem, ⟨8, _⟩ => ⟨S1024x1024, .bf16⟩
  | .local _ .vmem, ⟨9, _⟩ => ⟨S256x1024, .f32⟩
  | .local _ .vmem, ⟨10, _⟩ => ⟨S256x1024, .f32⟩
  | _, _ => ⟨S2x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_c : Ref sig .tc := ⟨.hbm, 13, rfl⟩
abbrev main_call0_v0 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg8_1 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem8_1 : DmaSem sig := 10

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x2048 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S8x128x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S128x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1024x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S256x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== SguFRefIdeal.lean ====
abbrev S2x2048x1024 : Shape := ⟨3, ![2, 2048, 1024]⟩
abbrev S1024 : Shape := ⟨1, ![1024]⟩
abbrev S1024x2048 : Shape := ⟨2, ![1024, 2048]⟩
abbrev S8x128x128 : Shape := ⟨3, ![8, 128, 128]⟩
abbrev S8x128 : Shape := ⟨2, ![8, 128]⟩
abbrev S1024x1024 : Shape := ⟨2, ![1024, 1024]⟩
abbrev S_ : Shape := ⟨0, ![]⟩
abbrev S2x2048 : Shape := ⟨2, ![2, 2048]⟩
abbrev S2x2048x1 : Shape := ⟨3, ![2, 2048, 1]⟩
abbrev S1x1x1024 : Shape := ⟨3, ![1, 1, 1024]⟩
abbrev S2x2048x2048 : Shape := ⟨3, ![2, 2048, 2048]⟩
abbrev S2x16x128x8x128 : Shape := ⟨5, ![2, 16, 128, 8, 128]⟩
abbrev S128x128 : Shape := ⟨2, ![128, 128]⟩
abbrev S1x128x128 : Shape := ⟨3, ![1, 128, 128]⟩
abbrev S8x2x16x128x128 : Shape := ⟨5, ![8, 2, 16, 128, 128]⟩
abbrev S128x8 : Shape := ⟨2, ![128, 8]⟩
abbrev S128x8x1 : Shape := ⟨3, ![128, 8, 1]⟩
abbrev S1x1x128x8x1 : Shape := ⟨5, ![1, 1, 128, 8, 1]⟩
abbrev S4096x1024 : Shape := ⟨2, ![4096, 1024]⟩

abbrev nBuf : Space → Nat
  | .hbm => 98
  | .vmem => 0
  | .smem => 0
  | _ => 0

abbrev bufTy : (tb : Table) → Fin (tcTables nBuf tb) → BufTy
  | .hbm, ⟨0, _⟩ => ⟨S2x2048x1024, .f32⟩
  | .hbm, ⟨1, _⟩ => ⟨S1024, .f32⟩
  | .hbm, ⟨2, _⟩ => ⟨S1024x2048, .f32⟩
  | .hbm, ⟨3, _⟩ => ⟨S1024, .f32⟩
  | .hbm, ⟨4, _⟩ => ⟨S1024, .f32⟩
  | .hbm, ⟨5, _⟩ => ⟨S8x128x128, .f32⟩
  | .hbm, ⟨6, _⟩ => ⟨S8x128, .f32⟩
  | .hbm, ⟨7, _⟩ => ⟨S1024x1024, .f32⟩
  | .hbm, ⟨8, _⟩ => ⟨S2x2048x1024, .f32⟩
  | .hbm, ⟨9, _⟩ => ⟨S_, .f32⟩
  | .hbm, ⟨10, _⟩ => ⟨S2x2048, .f32⟩
  | .hbm, ⟨11, _⟩ => ⟨S2x2048x1, .f32⟩
  | .hbm, ⟨12, _⟩ => ⟨S_, .f32⟩
  | .hbm, ⟨13, _⟩ => ⟨S2x2048x1, .f32⟩
  | .hbm, ⟨14, _⟩ => ⟨S2x2048x1, .f32⟩
  | .hbm, ⟨15, _⟩ => ⟨S_, .f32⟩
  | .hbm, ⟨16, _⟩ => ⟨S2x2048x1, .f32⟩
  | .hbm, ⟨17, _⟩ => ⟨S2x2048x1, .f32⟩
  | .hbm, ⟨18, _⟩ => ⟨S2x2048x1, .f32⟩
  | .hbm, ⟨19, _⟩ => ⟨S2x2048x1024, .f32⟩
  | .hbm, ⟨20, _⟩ => ⟨S2x2048x1024, .f32⟩
  | .hbm, ⟨21, _⟩ => ⟨S1x1x1024, .f32⟩
  | .hbm, ⟨22, _⟩ => ⟨S2x2048x1024, .f32⟩
  | .hbm, ⟨23, _⟩ => ⟨S2x2048x1024, .f32⟩
  | .hbm, ⟨24, _⟩ => ⟨S2x2048x2048, .f32⟩
  | .hbm, ⟨25, _⟩ => ⟨S2x2048x2048, .f32⟩
  | .hbm, ⟨26, _⟩ => ⟨S2x2048x2048, .f32⟩
  | .hbm, ⟨27, _⟩ => ⟨S_, .f32⟩
  | .hbm, ⟨28, _⟩ => ⟨S2x2048x2048, .f32⟩
  | .hbm, ⟨29, _⟩ => ⟨S2x2048x2048, .f32⟩
  | .hbm, ⟨30, _⟩ => ⟨S2x2048x2048, .f32⟩
  | .hbm, ⟨31, _⟩ => ⟨S_, .f32⟩
  | .hbm, ⟨32, _⟩ => ⟨S2x2048x2048, .f32⟩
  | .hbm, ⟨33, _⟩ => ⟨S2x2048x2048, .f32⟩
  | .hbm, ⟨34, _⟩ => ⟨S2x2048x2048, .f32⟩
  | .hbm, ⟨35, _⟩ => ⟨S_, .f32⟩
  | .hbm, ⟨36, _⟩ => ⟨S2x2048x2048, .f32⟩
  | .hbm, ⟨37, _⟩ => ⟨S2x2048x2048, .f32⟩
  | .hbm, ⟨38, _⟩ => ⟨S_, .f32⟩
  | .hbm, ⟨39, _⟩ => ⟨S2x2048x2048, .f32⟩
  | .hbm, ⟨40, _⟩ => ⟨S2x2048x2048, .f32⟩
  | .hbm, ⟨41, _⟩ => ⟨S2x2048x2048, .f32⟩
  | .hbm, ⟨42, _⟩ => ⟨S2x2048x1024, .f32⟩
  | .hbm, ⟨43, _⟩ => ⟨S2x2048x1024, .f32⟩
  | .hbm, ⟨44, _⟩ => ⟨S_, .f32⟩
  | .hbm, ⟨45, _⟩ => ⟨S2x2048, .f32⟩
  | .hbm, ⟨46, _⟩ => ⟨S2x2048x1, .f32⟩
  | .hbm, ⟨47, _⟩ => ⟨S_, .f32⟩
  | .hbm, ⟨48, _⟩ => ⟨S2x2048x1, .f32⟩
  | .hbm, ⟨49, _⟩ => ⟨S2x2048x1, .f32⟩
  | .hbm, ⟨50, _⟩ => ⟨S2x2048x1024, .f32⟩
  | .hbm, ⟨51, _⟩ => ⟨S2x2048x1024, .f32⟩
  | .hbm, ⟨52, _⟩ => ⟨S2x2048x1024, .f32⟩
  | .hbm, ⟨53, _⟩ => ⟨S_, .f32⟩
  | .hbm, ⟨54, _⟩ => ⟨S2x2048, .f32⟩
  | .hbm, ⟨55, _⟩ => ⟨S2x2048x1, .f32⟩
  | .hbm, ⟨56, _⟩ => ⟨S_, .f32⟩
  | .hbm, ⟨57, _⟩ => ⟨S2x2048x1, .f32⟩
  | .hbm, ⟨58, _⟩ => ⟨S2x2048x1, .f32⟩
  | .hbm, ⟨59, _⟩ => ⟨S_, .f32⟩
  | .hbm, ⟨60, _⟩ => ⟨S2x2048x1, .f32⟩
  | .hbm, ⟨61, _⟩ => ⟨S2x2048x1, .f32⟩
  | .hbm, ⟨62, _⟩ => ⟨S2x2048x1, .f32⟩
  | .hbm, ⟨63, _⟩ => ⟨S2x2048x1024, .f32⟩
  | .hbm, ⟨64, _⟩ => ⟨S2x2048x1024, .f32⟩
  | .hbm, ⟨65, _⟩ => ⟨S1x1x1024, .f32⟩
  | .hbm, ⟨66, _⟩ => ⟨S2x2048x1024, .f32⟩
  | .hbm, ⟨67, _⟩ => ⟨S2x2048x1024, .f32⟩
  | .hbm, ⟨68, _⟩ => ⟨S1x1x1024, .f32⟩
  | .hbm, ⟨69, _⟩ => ⟨S2x2048x1024, .f32⟩
  | .hbm, ⟨70, _⟩ => ⟨S2x2048x1024, .f32⟩
  | .hbm, ⟨71, _⟩ => ⟨S2x16x128x8x128, .f32⟩
  | .hbm, ⟨72, _⟩ => ⟨S_, .f32⟩
  | .hbm, ⟨73, _⟩ => ⟨S128x128, .f32⟩
  | .hbm, ⟨74, _⟩ => ⟨S128x128, .i32⟩
  | .hbm, ⟨75, _⟩ => ⟨S_, .i32⟩
  | .hbm, ⟨76, _⟩ => ⟨S128x128, .i32⟩
  | .hbm, ⟨77, _⟩ => ⟨S128x128, .i32⟩
  | .hbm, ⟨78, _⟩ => ⟨S128x128, .i32⟩
  | .hbm, ⟨79, _⟩ => ⟨S128x128, .i1⟩
  | .hbm, ⟨80, _⟩ => ⟨S_, .f32⟩
  | .hbm, ⟨81, _⟩ => ⟨S128x128, .f32⟩
  | .hbm, ⟨82, _⟩ => ⟨S128x128, .f32⟩
  | .hbm, ⟨83, _⟩ => ⟨S1x128x128, .f32⟩
  | .hbm, ⟨84, _⟩ => ⟨S8x128x128, .f32⟩
  | .hbm, ⟨85, _⟩ => ⟨S8x128x128, .f32⟩
  | .hbm, ⟨86, _⟩ => ⟨S8x2x16x128x128, .f32⟩
  | .hbm, ⟨87, _⟩ => ⟨S2x16x128x8x128, .f32⟩
  | .hbm, ⟨88, _⟩ => ⟨S128x8, .f32⟩
  | .hbm, ⟨89, _⟩ => ⟨S128x8x1, .f32⟩
  | .hbm, ⟨90, _⟩ => ⟨S1x1x128x8x1, .f32⟩
  | .hbm, ⟨91, _⟩ => ⟨S2x16x128x8x128, .f32⟩
  | .hbm, ⟨92, _⟩ => ⟨S2x16x128x8x128, .f32⟩
  | .hbm, ⟨93, _⟩ => ⟨S2x2048x1024, .f32⟩
  | .hbm, ⟨94, _⟩ => ⟨S2x2048x1024, .f32⟩
  | .hbm, ⟨95, _⟩ => ⟨S2x2048x1024, .f32⟩
  | .hbm, ⟨96, _⟩ => ⟨S2x2048x1024, .f32⟩
  | .hbm, ⟨97, _⟩ => ⟨S4096x1024, .f32⟩
  | _, _ => ⟨S2x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_cst : Ref sig .tc := ⟨.hbm, 9, rfl⟩
abbrev main_v1 : Ref sig .tc := ⟨.hbm, 10, rfl⟩
abbrev main_v2 : Ref sig .tc := ⟨.hbm, 11, rfl⟩
abbrev main_cst_0 : Ref sig .tc := ⟨.hbm, 12, rfl⟩
abbrev main_v3 : Ref sig .tc := ⟨.hbm, 13, rfl⟩
abbrev main_v4 : Ref sig .tc := ⟨.hbm, 14, rfl⟩
abbrev main_cst_1 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_cst_2 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_cst_3 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_cst_4 : Ref sig .tc := ⟨.hbm, 35, rfl⟩
abbrev main_v22 : Ref sig .tc := ⟨.hbm, 36, rfl⟩
abbrev main_v23 : Ref sig .tc := ⟨.hbm, 37, rfl⟩
abbrev main_cst_5 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_cst_6 : Ref sig .tc := ⟨.hbm, 44, rfl⟩
abbrev main_v29 : Ref sig .tc := ⟨.hbm, 45, rfl⟩
abbrev main_v30 : Ref sig .tc := ⟨.hbm, 46, rfl⟩
abbrev main_cst_7 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_cst_8 : Ref sig .tc := ⟨.hbm, 53, rfl⟩
abbrev main_v36 : Ref sig .tc := ⟨.hbm, 54, rfl⟩
abbrev main_v37 : Ref sig .tc := ⟨.hbm, 55, rfl⟩
abbrev main_cst_9 : Ref sig .tc := ⟨.hbm, 56, rfl⟩
abbrev main_v38 : Ref sig .tc := ⟨.hbm, 57, rfl⟩
abbrev main_v39 : Ref sig .tc := ⟨.hbm, 58, rfl⟩
abbrev main_cst_10 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev main_v51 : Ref sig .tc := ⟨.hbm, 71, rfl⟩
abbrev main_cst_11 : Ref sig .tc := ⟨.hbm, 72, rfl⟩
abbrev main_v52 : Ref sig .tc := ⟨.hbm, 73, rfl⟩
abbrev main_call0_v0 : Ref sig .tc := ⟨.hbm, 74, rfl⟩
abbrev main_call0_c : Ref sig .tc := ⟨.hbm, 75, rfl⟩
abbrev main_call0_v1 : Ref sig .tc := ⟨.hbm, 76, rfl⟩
abbrev main_call0_v2 : Ref sig .tc := ⟨.hbm, 77, rfl⟩
abbrev main_call0_v3 : Ref sig .tc := ⟨.hbm, 78, rfl⟩
abbrev main_call0_v4 : Ref sig .tc := ⟨.hbm, 79, rfl⟩
abbrev main_call0_cst : Ref sig .tc := ⟨.hbm, 80, rfl⟩
abbrev main_call0_v5 : Ref sig .tc := ⟨.hbm, 81, rfl⟩
abbrev main_v53 : Ref sig .tc := ⟨.hbm, 82, rfl⟩
abbrev main_v54 : Ref sig .tc := ⟨.hbm, 83, rfl⟩
abbrev main_v55 : Ref sig .tc := ⟨.hbm, 84, rfl⟩
abbrev main_v56 : Ref sig .tc := ⟨.hbm, 85, rfl⟩
abbrev main_v57 : Ref sig .tc := ⟨.hbm, 86, rfl⟩
abbrev main_v58 : Ref sig .tc := ⟨.hbm, 87, rfl⟩
abbrev main_v59 : Ref sig .tc := ⟨.hbm, 88, rfl⟩
abbrev main_v60 : Ref sig .tc := ⟨.hbm, 89, rfl⟩
abbrev main_v61 : Ref sig .tc := ⟨.hbm, 90, rfl⟩
abbrev main_v62 : Ref sig .tc := ⟨.hbm, 91, rfl⟩
abbrev main_v63 : Ref sig .tc := ⟨.hbm, 92, rfl⟩
abbrev main_v64 : Ref sig .tc := ⟨.hbm, 93, rfl⟩
abbrev main_v65 : Ref sig .tc := ⟨.hbm, 94, rfl⟩
abbrev main_v66 : Ref sig .tc := ⟨.hbm, 95, rfl⟩
abbrev main_v67 : Ref sig .tc := ⟨.hbm, 96, rfl⟩
abbrev main_v68 : Ref sig .tc := ⟨.hbm, 97, rfl⟩

abbrev nD : Nat := 1
abbrev τ : Topo := Topo.v7x

variable {F : FTy → Type} [FloatOps F]
-- ==== Heads.lean ====
abbrev S2x2048x1024 : Shape := ⟨3, ![2, 2048, 1024]⟩
abbrev S2x2048 : Shape := ⟨2, ![2, 2048]⟩
abbrev S1024 : Shape := ⟨1, ![1024]⟩
abbrev S1024x1440 : Shape := ⟨2, ![1024, 1440]⟩
abbrev S256 : Shape := ⟨1, ![256]⟩
abbrev S256x768 : Shape := ⟨2, ![256, 768]⟩
abbrev S128 : Shape := ⟨1, ![128]⟩
abbrev S128x1024 : Shape := ⟨2, ![128, 1024]⟩
abbrev S256x8x96 : Shape := ⟨3, ![256, 8, 96]⟩
abbrev S128x8x128 : Shape := ⟨3, ![128, 8, 128]⟩
abbrev S1024x384 : Shape := ⟨2, ![1024, 384]⟩
abbrev S_ : Shape := ⟨0, ![]⟩
abbrev S1024x64 : Shape := ⟨2, ![1024, 64]⟩
abbrev S1024x32 : Shape := ⟨2, ![1024, 32]⟩
abbrev S1024x1024 : Shape := ⟨2, ![1024, 1024]⟩
abbrev S1024x1536 : Shape := ⟨2, ![1024, 1536]⟩
abbrev S256x8x128 : Shape := ⟨3, ![256, 8, 128]⟩
abbrev S256x1024 : Shape := ⟨2, ![256, 1024]⟩
abbrev S128x8x64 : Shape := ⟨3, ![128, 8, 64]⟩
abbrev S1x1024 : Shape := ⟨2, ![1, 1024]⟩
abbrev S1x256 : Shape := ⟨2, ![1, 256]⟩
abbrev S1x128 : Shape := ⟨2, ![1, 128]⟩
abbrev S4096x1 : Shape := ⟨2, ![4096, 1]⟩
abbrev S4096x128 : Shape := ⟨2, ![4096, 128]⟩
abbrev S4096x1024 : Shape := ⟨2, ![4096, 1024]⟩
abbrev S4096x512 : Shape := ⟨2, ![4096, 512]⟩
abbrev S512x1024 : Shape := ⟨2, ![512, 1024]⟩
abbrev S512x128 : Shape := ⟨2, ![512, 128]⟩
abbrev S512x512 : Shape := ⟨2, ![512, 512]⟩
abbrev S512 : Shape := ⟨1, ![512]⟩
abbrev S512x1 : Shape := ⟨2, ![512, 1]⟩
abbrev S512x1536 : Shape := ⟨2, ![512, 1536]⟩
abbrev S512x256 : Shape := ⟨2, ![512, 256]⟩

abbrev nBuf : Space → Nat
  | .hbm => 48
  | .vmem => 21
  | .smem => 0
  | _ => 0

abbrev bufTy : (tb : Table) → Fin (tcTables nBuf tb) → BufTy
  | .hbm, ⟨0, _⟩ => ⟨S2x2048x1024, .f32⟩
  | .hbm, ⟨1, _⟩ => ⟨S2x2048, .i32⟩
  | .hbm, ⟨2, _⟩ => ⟨S1024, .f32⟩
  | .hbm, ⟨3, _⟩ => ⟨S1024x1440, .f32⟩
  | .hbm, ⟨4, _⟩ => ⟨S256, .f32⟩
  | .hbm, ⟨5, _⟩ => ⟨S256x768, .f32⟩
  | .hbm, ⟨6, _⟩ => ⟨S128, .f32⟩
  | .hbm, ⟨7, _⟩ => ⟨S128x1024, .f32⟩
  | .hbm, ⟨8, _⟩ => ⟨S256x8x96, .f32⟩
  | .hbm, ⟨9, _⟩ => ⟨S128x8x128, .f32⟩
  | .hbm, ⟨10, _⟩ => ⟨S1024x384, .f32⟩
  | .hbm, ⟨11, _⟩ => ⟨S_, .f32⟩
  | .hbm, ⟨12, _⟩ => ⟨S1024x64, .f32⟩
  | .hbm, ⟨13, _⟩ => ⟨S1024x32, .f32⟩
  | .hbm, ⟨14, _⟩ => ⟨S_, .f32⟩
  | .hbm, ⟨15, _⟩ => ⟨S1024x32, .f32⟩
  | .hbm, ⟨16, _⟩ => ⟨S1024x1024, .f32⟩
  | .hbm, ⟨17, _⟩ => ⟨S1024x1536, .f32⟩
  | .hbm, ⟨18, _⟩ => ⟨S1024x1536, .bf16⟩
  | .hbm, ⟨19, _⟩ => ⟨S_, .i32⟩
  | .hbm, ⟨20, _⟩ => ⟨S_, .f32⟩
  | .hbm, ⟨21, _⟩ => ⟨S256x8x128, .f32⟩
  | .hbm, ⟨22, _⟩ => ⟨S256x1024, .f32⟩
  | .hbm, ⟨23, _⟩ => ⟨S256x1024, .bf16⟩
  | .hbm, ⟨24, _⟩ => ⟨S128x8x64, .f32⟩
  | .hbm, ⟨25, _⟩ => ⟨S_, .i32⟩
  | .hbm, ⟨26, _⟩ => ⟨S_, .f32⟩
  | .hbm, ⟨27, _⟩ => ⟨S128x8x128, .f32⟩
  | .hbm, ⟨28, _⟩ => ⟨S128x1024, .f32⟩
  | .hbm, ⟨29, _⟩ => ⟨S128x1024, .bf16⟩
  | .hbm, ⟨30, _⟩ => ⟨S128x8x64, .f32⟩
  | .hbm, ⟨31, _⟩ => ⟨S_, .i32⟩
  | .hbm, ⟨32, _⟩ => ⟨S_, .f32⟩
  | .hbm, ⟨33, _⟩ => ⟨S128x8x128, .f32⟩
  | .hbm, ⟨34, _⟩ => ⟨S128x1024, .f32⟩
  | .hbm, ⟨35, _⟩ => ⟨S128x1024, .bf16⟩
  | .hbm, ⟨36, _⟩ => ⟨S1x1024, .f32⟩
  | .hbm, ⟨37, _⟩ => ⟨S1x256, .f32⟩
  | .hbm, ⟨38, _⟩ => ⟨S1x128, .f32⟩
  | .hbm, ⟨39, _⟩ => ⟨S2x2048, .f32⟩
  | .hbm, ⟨40, _⟩ => ⟨S4096x1, .f32⟩
  | .hbm, ⟨41, _⟩ => ⟨S4096x128, .f32⟩
  | .hbm, ⟨42, _⟩ => ⟨S4096x1024, .f32⟩
  | .hbm, ⟨43, _⟩ => ⟨S4096x1024, .bf16⟩
  | .hbm, ⟨44, _⟩ => ⟨S4096x1024, .bf16⟩
  | .hbm, ⟨45, _⟩ => ⟨S4096x1024, .bf16⟩
  | .hbm, ⟨46, _⟩ => ⟨S4096x512, .f32⟩
  | .hbm, ⟨47, _⟩ => ⟨S4096x512, .f32⟩
  | .local _ .vmem, ⟨0, _⟩ => ⟨S512x1024, .f32⟩
  | .local _ .vmem, ⟨1, _⟩ => ⟨S512x1024, .f32⟩
  | .local _ .vmem, ⟨2, _⟩ => ⟨S512x128, .f32⟩
  | .local _ .vmem, ⟨3, _⟩ => ⟨S512x128, .f32⟩
  | .local _ .vmem, ⟨4, _⟩ => ⟨S1x1024, .f32⟩
  | .local _ .vmem, ⟨5, _⟩ => ⟨S1024x1536, .bf16⟩
  | .local _ .vmem, ⟨6, _⟩ => ⟨S1x256, .f32⟩
  | .local _ .vmem, ⟨7, _⟩ => ⟨S256x1024, .bf16⟩
  | .local _ .vmem, ⟨8, _⟩ => ⟨S1x128, .f32⟩
  | .local _ .vmem, ⟨9, _⟩ => ⟨S128x1024, .bf16⟩
  | .local _ .vmem, ⟨10, _⟩ => ⟨S128x1024, .bf16⟩
  | .local _ .vmem, ⟨11, _⟩ => ⟨S512x1024, .bf16⟩
  | .local _ .vmem, ⟨12, _⟩ => ⟨S512x1024, .bf16⟩
  | .local _ .vmem, ⟨13, _⟩ => ⟨S512x1024, .bf16⟩
  | .local _ .vmem, ⟨14, _⟩ => ⟨S512x1024, .bf16⟩
  | .local _ .vmem, ⟨15, _⟩ => ⟨S512x1024, .bf16⟩
  | .local _ .vmem, ⟨16, _⟩ => ⟨S512x1024, .bf16⟩
  | .local _ .vmem, ⟨17, _⟩ => ⟨S512x512, .f32⟩
  | .local _ .vmem, ⟨18, _⟩ => ⟨S512x512, .f32⟩
  | .local _ .vmem, ⟨19, _⟩ => ⟨S512x512, .f32⟩
  | .local _ .vmem, ⟨20, _⟩ => ⟨S512x512, .f32⟩
  | _, _ => ⟨S2x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 21 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | _ => false

abbrev sig : RefSig :=
  ofTc nBuf bufTy 0 21 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_cst : Ref sig .tc := ⟨.hbm, 11, rfl⟩
abbrev main_v3 : Ref sig .tc := ⟨.hbm, 12, rfl⟩
abbrev main_v4 : Ref sig .tc := ⟨.hbm, 13, rfl⟩
abbrev main_cst_0 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_c : Ref sig .tc := ⟨.hbm, 19, rfl⟩
abbrev main_call0_v0 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_c_1 : Ref sig .tc := ⟨.hbm, 25, rfl⟩
abbrev main_call1_v0 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_c_2 : Ref sig .tc := ⟨.hbm, 31, rfl⟩
abbrev main_call2_v0 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27_0 : Ref sig .tc := ⟨.hbm, 43, rfl⟩
abbrev main_v27_1 : Ref sig .tc := ⟨.hbm, 44, rfl⟩
abbrev main_v27_2 : Ref sig .tc := ⟨.hbm, 45, rfl⟩
abbrev main_v27_3 : Ref sig .tc := ⟨.hbm, 46, rfl⟩
abbrev main_v27_4 : Ref sig .tc := ⟨.hbm, 47, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg9_0 : Ref sig .tc := ⟨.vmem, 11, rfl⟩
abbrev cc0_stg9_1 : Ref sig .tc := ⟨.vmem, 12, rfl⟩
abbrev cc0_stg10_0 : Ref sig .tc := ⟨.vmem, 13, rfl⟩
abbrev cc0_stg10_1 : Ref sig .tc := ⟨.vmem, 14, rfl⟩
abbrev cc0_stg11_0 : Ref sig .tc := ⟨.vmem, 15, rfl⟩
abbrev cc0_stg11_1 : Ref sig .tc := ⟨.vmem, 16, rfl⟩
abbrev cc0_stg12_0 : Ref sig .tc := ⟨.vmem, 17, rfl⟩
abbrev cc0_stg12_1 : Ref sig .tc := ⟨.vmem, 18, rfl⟩
abbrev cc0_stg13_0 : Ref sig .tc := ⟨.vmem, 19, rfl⟩
abbrev cc0_stg13_1 : Ref sig .tc := ⟨.vmem, 20, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem9_0 : DmaSem sig := 11
abbrev cc0_sem9_1 : DmaSem sig := 12
abbrev cc0_sem10_0 : DmaSem sig := 13
abbrev cc0_sem10_1 : DmaSem sig := 14
abbrev cc0_sem11_0 : DmaSem sig := 15
abbrev cc0_sem11_1 : DmaSem sig := 16
abbrev cc0_sem12_0 : DmaSem sig := 17
abbrev cc0_sem12_1 : DmaSem sig := 18
abbrev cc0_sem13_0 : DmaSem sig := 19
abbrev cc0_sem13_1 : DmaSem sig := 20

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x1536 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S256x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S128x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S128x1024 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S512x1024 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S512x1024 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S512x1024 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S512x512 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S512x512 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]
-- ==== HeadsRefIdeal.lean ====
abbrev S2x2048x1024 : Shape := ⟨3, ![2, 2048, 1024]⟩
abbrev S2x2048 : Shape := ⟨2, ![2, 2048]⟩
abbrev S1024 : Shape := ⟨1, ![1024]⟩
abbrev S1024x1440 : Shape := ⟨2, ![1024, 1440]⟩
abbrev S256 : Shape := ⟨1, ![256]⟩
abbrev S256x768 : Shape := ⟨2, ![256, 768]⟩
abbrev S128 : Shape := ⟨1, ![128]⟩
abbrev S128x1024 : Shape := ⟨2, ![128, 1024]⟩
abbrev S_ : Shape := ⟨0, ![]⟩
abbrev S2x2048x1 : Shape := ⟨3, ![2, 2048, 1]⟩
abbrev S1x1x1024 : Shape := ⟨3, ![1, 1, 1024]⟩
abbrev S2x2048x1440 : Shape := ⟨3, ![2, 2048, 1440]⟩
abbrev S2x2048x256 : Shape := ⟨3, ![2, 2048, 256]⟩
abbrev S2x2048x128 : Shape := ⟨3, ![2, 2048, 128]⟩
abbrev S2x2048x32 : Shape := ⟨3, ![2, 2048, 32]⟩
abbrev S2x2048x512 : Shape := ⟨3, ![2, 2048, 512]⟩
abbrev S1x1x256 : Shape := ⟨3, ![1, 1, 256]⟩
abbrev S2x2048x768 : Shape := ⟨3, ![2, 2048, 768]⟩
abbrev S2x2048x8x96 : Shape := ⟨4, ![2, 2048, 8, 96]⟩
abbrev S2x2048x8x64 : Shape := ⟨4, ![2, 2048, 8, 64]⟩
abbrev S2x2048x8x32 : Shape := ⟨4, ![2, 2048, 8, 32]⟩
abbrev S16 : Shape := ⟨1, ![16]⟩
abbrev S1x1x16 : Shape := ⟨3, ![1, 1, 16]⟩
abbrev S2x2048x16 : Shape := ⟨3, ![2, 2048, 16]⟩
abbrev S2x2048x1x16 : Shape := ⟨4, ![2, 2048, 1, 16]⟩
abbrev S2x2048x8x16 : Shape := ⟨4, ![2, 2048, 8, 16]⟩
abbrev S1x1x128 : Shape := ⟨3, ![1, 1, 128]⟩
abbrev S2x2048x8x128 : Shape := ⟨4, ![2, 2048, 8, 128]⟩
abbrev S2x2048x1x32 : Shape := ⟨4, ![2, 2048, 1, 32]⟩
abbrev S4096x1024 : Shape := ⟨2, ![4096, 1024]⟩
abbrev S4096x512 : Shape := ⟨2, ![4096, 512]⟩

abbrev nBuf : Space → Nat
  | .hbm => 149
  | .vmem => 0
  | .smem => 0
  | _ => 0

abbrev hbmTy0_0 (i : Nat) : BufTy := match i % 128 with
  | 0 => ⟨S2x2048x1024, .f32⟩
  | 1 => ⟨S2x2048, .i32⟩
  | 2 => ⟨S1024, .f32⟩
  | 3 => ⟨S1024x1440, .f32⟩
  | 4 => ⟨S256, .f32⟩
  | 5 => ⟨S256x768, .f32⟩
  | 6 => ⟨S128, .f32⟩
  | 7 => ⟨S128x1024, .f32⟩
  | 8 => ⟨S2x2048x1024, .f32⟩
  | 9 => ⟨S_, .f32⟩
  | 10 => ⟨S2x2048, .f32⟩
  | 11 => ⟨S2x2048x1, .f32⟩
  | 12 => ⟨S_, .f32⟩
  | 13 => ⟨S2x2048x1, .f32⟩
  | 14 => ⟨S2x2048x1, .f32⟩
  | 15 => ⟨S_, .f32⟩
  | 16 => ⟨S2x2048x1, .f32⟩
  | 17 => ⟨S2x2048x1, .f32⟩
  | 18 => ⟨S2x2048x1, .f32⟩
  | 19 => ⟨S2x2048x1024, .f32⟩
  | 20 => ⟨S2x2048x1024, .f32⟩
  | 21 => ⟨S1x1x1024, .f32⟩
  | 22 => ⟨S2x2048x1024, .f32⟩
  | 23 => ⟨S2x2048x1024, .f32⟩
  | 24 => ⟨S2x2048x1440, .f32⟩
  | 25 => ⟨S2x2048x256, .f32⟩
  | 26 => ⟨S2x2048x128, .f32⟩
  | 27 => ⟨S2x2048x32, .f32⟩
  | 28 => ⟨S2x2048x512, .f32⟩
  | 29 => ⟨S2x2048x512, .f32⟩
  | 30 => ⟨S2x2048x256, .f32⟩
  | 31 => ⟨S_, .f32⟩
  | 32 => ⟨S2x2048, .f32⟩
  | 33 => ⟨S2x2048x1, .f32⟩
  | 34 => ⟨S_, .f32⟩
  | 35 => ⟨S2x2048x1, .f32⟩
  | 36 => ⟨S2x2048x1, .f32⟩
  | 37 => ⟨S_, .f32⟩
  | 38 => ⟨S2x2048x1, .f32⟩
  | 39 => ⟨S2x2048x1, .f32⟩
  | 40 => ⟨S2x2048x1, .f32⟩
  | 41 => ⟨S2x2048x256, .f32⟩
  | 42 => ⟨S2x2048x256, .f32⟩
  | 43 => ⟨S1x1x256, .f32⟩
  | 44 => ⟨S2x2048x256, .f32⟩
  | 45 => ⟨S2x2048x256, .f32⟩
  | 46 => ⟨S2x2048x768, .f32⟩
  | 47 => ⟨S2x2048x8x96, .f32⟩
  | 48 => ⟨S2x2048x8x64, .f32⟩
  | 49 => ⟨S2x2048x8x32, .f32⟩
  | 50 => ⟨S16, .f32⟩
  | 51 => ⟨S_, .f32⟩
  | 52 => ⟨S16, .f32⟩
  | 53 => ⟨S16, .f32⟩
  | 54 => ⟨S_, .f32⟩
  | 55 => ⟨S16, .f32⟩
  | 56 => ⟨S16, .f32⟩
  | 57 => ⟨S16, .f32⟩
  | 58 => ⟨S2x2048, .f32⟩
  | 59 => ⟨S2x2048x1, .f32⟩
  | 60 => ⟨S1x1x16, .f32⟩
  | 61 => ⟨S2x2048x16, .f32⟩
  | 62 => ⟨S2x2048x16, .f32⟩
  | 63 => ⟨S2x2048x16, .f32⟩
  | 64 => ⟨S2x2048x16, .f32⟩
  | 65 => ⟨S2x2048x1x16, .f32⟩
  | 66 => ⟨S2x2048x16, .f32⟩
  | 67 => ⟨S2x2048x1x16, .f32⟩
  | 68 => ⟨S2x2048x8x16, .f32⟩
  | 69 => ⟨S2x2048x8x16, .f32⟩
  | 70 => ⟨S2x2048x8x16, .f32⟩
  | 71 => ⟨S2x2048x8x16, .f32⟩
  | 72 => ⟨S2x2048x8x16, .f32⟩
  | 73 => ⟨S2x2048x8x16, .f32⟩
  | 74 => ⟨S2x2048x8x16, .f32⟩
  | 75 => ⟨S2x2048x8x16, .f32⟩
  | 76 => ⟨S2x2048x8x16, .f32⟩
  | 77 => ⟨S2x2048x8x16, .f32⟩
  | 78 => ⟨S2x2048x8x16, .f32⟩
  | 79 => ⟨S2x2048x8x16, .f32⟩
  | 80 => ⟨S2x2048x8x32, .f32⟩
  | 81 => ⟨S2x2048x8x96, .f32⟩
  | 82 => ⟨S2x2048x128, .f32⟩
  | 83 => ⟨S_, .f32⟩
  | 84 => ⟨S2x2048, .f32⟩
  | 85 => ⟨S2x2048x1, .f32⟩
  | 86 => ⟨S_, .f32⟩
  | 87 => ⟨S2x2048x1, .f32⟩
  | 88 => ⟨S2x2048x1, .f32⟩
  | 89 => ⟨S_, .f32⟩
  | 90 => ⟨S2x2048x1, .f32⟩
  | 91 => ⟨S2x2048x1, .f32⟩
  | 92 => ⟨S2x2048x1, .f32⟩
  | 93 => ⟨S2x2048x128, .f32⟩
  | 94 => ⟨S2x2048x128, .f32⟩
  | 95 => ⟨S1x1x128, .f32⟩
  | 96 => ⟨S2x2048x128, .f32⟩
  | 97 => ⟨S2x2048x128, .f32⟩
  | 98 => ⟨S2x2048x1024, .f32⟩
  | 99 => ⟨S2x2048x8x128, .f32⟩
  | 100 => ⟨S2x2048x1x32, .f32⟩
  | 101 => ⟨S16, .f32⟩
  | 102 => ⟨S_, .f32⟩
  | 103 => ⟨S16, .f32⟩
  | 104 => ⟨S16, .f32⟩
  | 105 => ⟨S_, .f32⟩
  | 106 => ⟨S16, .f32⟩
  | 107 => ⟨S16, .f32⟩
  | 108 => ⟨S16, .f32⟩
  | 109 => ⟨S2x2048, .f32⟩
  | 110 => ⟨S2x2048x1, .f32⟩
  | 111 => ⟨S1x1x16, .f32⟩
  | 112 => ⟨S2x2048x16, .f32⟩
  | 113 => ⟨S2x2048x16, .f32⟩
  | 114 => ⟨S2x2048x16, .f32⟩
  | 115 => ⟨S2x2048x16, .f32⟩
  | 116 => ⟨S2x2048x1x16, .f32⟩
  | 117 => ⟨S2x2048x16, .f32⟩
  | 118 => ⟨S2x2048x1x16, .f32⟩
  | 119 => ⟨S2x2048x1x16, .f32⟩
  | 120 => ⟨S2x2048x1x16, .f32⟩
  | 121 => ⟨S2x2048x1x16, .f32⟩
  | 122 => ⟨S2x2048x1x16, .f32⟩
  | 123 => ⟨S2x2048x1x16, .f32⟩
  | 124 => ⟨S2x2048x1x16, .f32⟩
  | 125 => ⟨S2x2048x1x16, .f32⟩
  | 126 => ⟨S2x2048x1x16, .f32⟩
  | 127 => ⟨S2x2048x1x32, .f32⟩
  | _ => ⟨S2x2048x1024, .f32⟩

abbrev hbmTy0_1 (i : Nat) : BufTy := match i % 128 with
  | 0 => ⟨S2x2048x8x32, .f32⟩
  | 1 => ⟨S2x2048x8x64, .f32⟩
  | 2 => ⟨S2x2048x8x96, .f32⟩
  | 3 => ⟨S2x2048x8x64, .f32⟩
  | 4 => ⟨S_, .i32⟩
  | 5 => ⟨S_, .f32⟩
  | 6 => ⟨S2x2048x8x128, .f32⟩
  | 7 => ⟨S2x2048x8x128, .bf16⟩
  | 8 => ⟨S4096x1024, .bf16⟩
  | 9 => ⟨S_, .i32⟩
  | 10 => ⟨S_, .f32⟩
  | 11 => ⟨S2x2048x8x128, .f32⟩
  | 12 => ⟨S2x2048x8x128, .bf16⟩
  | 13 => ⟨S4096x1024, .bf16⟩
  | 14 => ⟨S_, .i32⟩
  | 15 => ⟨S_, .f32⟩
  | 16 => ⟨S2x2048x8x128, .f32⟩
  | 17 => ⟨S2x2048x8x128, .bf16⟩
  | 18 => ⟨S4096x1024, .bf16⟩
  | 19 => ⟨S4096x512, .f32⟩
  | 20 => ⟨S4096x512, .f32⟩
  | _ => ⟨S2x2048x1024, .f32⟩

abbrev hbmTy (i : Nat) : BufTy := match i / 128 with
  | 0 => hbmTy0_0 i
  | 1 => hbmTy0_1 i
  | _ => ⟨S2x2048x1024, .f32⟩

abbrev bufTy : (tb : Table) → Fin (tcTables nBuf tb) → BufTy
  | .hbm, ⟨i, _⟩ => hbmTy i
  | _, _ => ⟨S2x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_cst : Ref sig .tc := ⟨.hbm, 9, rfl⟩
abbrev main_v1 : Ref sig .tc := ⟨.hbm, 10, rfl⟩
abbrev main_v2 : Ref sig .tc := ⟨.hbm, 11, rfl⟩
abbrev main_cst_0 : Ref sig .tc := ⟨.hbm, 12, rfl⟩
abbrev main_v3 : Ref sig .tc := ⟨.hbm, 13, rfl⟩
abbrev main_v4 : Ref sig .tc := ⟨.hbm, 14, rfl⟩
abbrev main_cst_1 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_cst_2 : Ref sig .tc := ⟨.hbm, 31, rfl⟩
abbrev main_v20 : Ref sig .tc := ⟨.hbm, 32, rfl⟩
abbrev main_v21 : Ref sig .tc := ⟨.hbm, 33, rfl⟩
abbrev main_cst_3 : Ref sig .tc := ⟨.hbm, 34, rfl⟩
abbrev main_v22 : Ref sig .tc := ⟨.hbm, 35, rfl⟩
abbrev main_v23 : Ref sig .tc := ⟨.hbm, 36, rfl⟩
abbrev main_cst_4 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_cst_5 : Ref sig .tc := ⟨.hbm, 51, rfl⟩
abbrev main_v37 : Ref sig .tc := ⟨.hbm, 52, rfl⟩
abbrev main_v38 : Ref sig .tc := ⟨.hbm, 53, rfl⟩
abbrev main_cst_6 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev main_v46 : Ref sig .tc := ⟨.hbm, 62, rfl⟩
abbrev main_v47 : Ref sig .tc := ⟨.hbm, 63, rfl⟩
abbrev main_v48 : Ref sig .tc := ⟨.hbm, 64, rfl⟩
abbrev main_v49 : Ref sig .tc := ⟨.hbm, 65, rfl⟩
abbrev main_v50 : Ref sig .tc := ⟨.hbm, 66, rfl⟩
abbrev main_v51 : Ref sig .tc := ⟨.hbm, 67, rfl⟩
abbrev main_v52 : Ref sig .tc := ⟨.hbm, 68, rfl⟩
abbrev main_v53 : Ref sig .tc := ⟨.hbm, 69, rfl⟩
abbrev main_v54 : Ref sig .tc := ⟨.hbm, 70, rfl⟩
abbrev main_v55 : Ref sig .tc := ⟨.hbm, 71, rfl⟩
abbrev main_v56 : Ref sig .tc := ⟨.hbm, 72, rfl⟩
abbrev main_v57 : Ref sig .tc := ⟨.hbm, 73, rfl⟩
abbrev main_v58 : Ref sig .tc := ⟨.hbm, 74, rfl⟩
abbrev main_v59 : Ref sig .tc := ⟨.hbm, 75, rfl⟩
abbrev main_v60 : Ref sig .tc := ⟨.hbm, 76, rfl⟩
abbrev main_v61 : Ref sig .tc := ⟨.hbm, 77, rfl⟩
abbrev main_v62 : Ref sig .tc := ⟨.hbm, 78, rfl⟩
abbrev main_v63 : Ref sig .tc := ⟨.hbm, 79, rfl⟩
abbrev main_v64 : Ref sig .tc := ⟨.hbm, 80, rfl⟩
abbrev main_v65 : Ref sig .tc := ⟨.hbm, 81, rfl⟩
abbrev main_v66 : Ref sig .tc := ⟨.hbm, 82, rfl⟩
abbrev main_cst_7 : Ref sig .tc := ⟨.hbm, 83, rfl⟩
abbrev main_v67 : Ref sig .tc := ⟨.hbm, 84, rfl⟩
abbrev main_v68 : Ref sig .tc := ⟨.hbm, 85, rfl⟩
abbrev main_cst_8 : Ref sig .tc := ⟨.hbm, 86, rfl⟩
abbrev main_v69 : Ref sig .tc := ⟨.hbm, 87, rfl⟩
abbrev main_v70 : Ref sig .tc := ⟨.hbm, 88, rfl⟩
abbrev main_cst_9 : Ref sig .tc := ⟨.hbm, 89, rfl⟩
abbrev main_v71 : Ref sig .tc := ⟨.hbm, 90, rfl⟩
abbrev main_v72 : Ref sig .tc := ⟨.hbm, 91, rfl⟩
abbrev main_v73 : Ref sig .tc := ⟨.hbm, 92, rfl⟩
abbrev main_v74 : Ref sig .tc := ⟨.hbm, 93, rfl⟩
abbrev main_v75 : Ref sig .tc := ⟨.hbm, 94, rfl⟩
abbrev main_v76 : Ref sig .tc := ⟨.hbm, 95, rfl⟩
abbrev main_v77 : Ref sig .tc := ⟨.hbm, 96, rfl⟩
abbrev main_v78 : Ref sig .tc := ⟨.hbm, 97, rfl⟩
abbrev main_v79 : Ref sig .tc := ⟨.hbm, 98, rfl⟩
abbrev main_v80 : Ref sig .tc := ⟨.hbm, 99, rfl⟩
abbrev main_v81 : Ref sig .tc := ⟨.hbm, 100, rfl⟩
abbrev main_v82 : Ref sig .tc := ⟨.hbm, 101, rfl⟩
abbrev main_cst_10 : Ref sig .tc := ⟨.hbm, 102, rfl⟩
abbrev main_v83 : Ref sig .tc := ⟨.hbm, 103, rfl⟩
abbrev main_v84 : Ref sig .tc := ⟨.hbm, 104, rfl⟩
abbrev main_cst_11 : Ref sig .tc := ⟨.hbm, 105, rfl⟩
abbrev main_v85 : Ref sig .tc := ⟨.hbm, 106, rfl⟩
abbrev main_v86 : Ref sig .tc := ⟨.hbm, 107, rfl⟩
abbrev main_v87 : Ref sig .tc := ⟨.hbm, 108, rfl⟩
abbrev main_v88 : Ref sig .tc := ⟨.hbm, 109, rfl⟩
abbrev main_v89 : Ref sig .tc := ⟨.hbm, 110, rfl⟩
abbrev main_v90 : Ref sig .tc := ⟨.hbm, 111, rfl⟩
abbrev main_v91 : Ref sig .tc := ⟨.hbm, 112, rfl⟩
abbrev main_v92 : Ref sig .tc := ⟨.hbm, 113, rfl⟩
abbrev main_v93 : Ref sig .tc := ⟨.hbm, 114, rfl⟩
abbrev main_v94 : Ref sig .tc := ⟨.hbm, 115, rfl⟩
abbrev main_v95 : Ref sig .tc := ⟨.hbm, 116, rfl⟩
abbrev main_v96 : Ref sig .tc := ⟨.hbm, 117, rfl⟩
abbrev main_v97 : Ref sig .tc := ⟨.hbm, 118, rfl⟩
abbrev main_v98 : Ref sig .tc := ⟨.hbm, 119, rfl⟩
abbrev main_v99 : Ref sig .tc := ⟨.hbm, 120, rfl⟩
abbrev main_v100 : Ref sig .tc := ⟨.hbm, 121, rfl⟩
abbrev main_v101 : Ref sig .tc := ⟨.hbm, 122, rfl⟩
abbrev main_v102 : Ref sig .tc := ⟨.hbm, 123, rfl⟩
abbrev main_v103 : Ref sig .tc := ⟨.hbm, 124, rfl⟩
abbrev main_v104 : Ref sig .tc := ⟨.hbm, 125, rfl⟩
abbrev main_v105 : Ref sig .tc := ⟨.hbm, 126, rfl⟩
abbrev main_v106 : Ref sig .tc := ⟨.hbm, 127, rfl⟩
abbrev main_v107 : Ref sig .tc := ⟨.hbm, 128, rfl⟩
abbrev main_v108 : Ref sig .tc := ⟨.hbm, 129, rfl⟩
abbrev main_v109 : Ref sig .tc := ⟨.hbm, 130, rfl⟩
abbrev main_v110 : Ref sig .tc := ⟨.hbm, 131, rfl⟩
abbrev main_c : Ref sig .tc := ⟨.hbm, 132, rfl⟩
abbrev main_call0_v0 : Ref sig .tc := ⟨.hbm, 133, rfl⟩
abbrev main_v111 : Ref sig .tc := ⟨.hbm, 134, rfl⟩
abbrev main_v112 : Ref sig .tc := ⟨.hbm, 135, rfl⟩
abbrev main_v113 : Ref sig .tc := ⟨.hbm, 136, rfl⟩
abbrev main_c_12 : Ref sig .tc := ⟨.hbm, 137, rfl⟩
abbrev main_call1_v0 : Ref sig .tc := ⟨.hbm, 138, rfl⟩
abbrev main_v114 : Ref sig .tc := ⟨.hbm, 139, rfl⟩
abbrev main_v115 : Ref sig .tc := ⟨.hbm, 140, rfl⟩
abbrev main_v116 : Ref sig .tc := ⟨.hbm, 141, rfl⟩
abbrev main_c_13 : Ref sig .tc := ⟨.hbm, 142, rfl⟩
abbrev main_call2_v0 : Ref sig .tc := ⟨.hbm, 143, rfl⟩
abbrev main_v117 : Ref sig .tc := ⟨.hbm, 144, rfl⟩
abbrev main_v118 : Ref sig .tc := ⟨.hbm, 145, rfl⟩
abbrev main_v119 : Ref sig .tc := ⟨.hbm, 146, rfl⟩
abbrev main_v120 : Ref sig .tc := ⟨.hbm, 147, rfl⟩
abbrev main_v121 : Ref sig .tc := ⟨.hbm, 148, rfl⟩

abbrev nD : Nat := 1
abbrev τ : Topo := Topo.v7x

variable {F : FTy → Type} [FloatOps F]
-- ==== OutB.lean ====
abbrev S2x2048x512 : Shape := ⟨3, ![2, 2048, 512]⟩
abbrev S2x2048x1024 : Shape := ⟨3, ![2, 2048, 1024]⟩
abbrev S1024x1024 : Shape := ⟨2, ![1024, 1024]⟩
abbrev S4096x8x64 : Shape := ⟨3, ![4096, 8, 64]⟩
abbrev S_ : Shape := ⟨0, ![]⟩
abbrev S4096x8x128 : Shape := ⟨3, ![4096, 8, 128]⟩
abbrev S4096x1024 : Shape := ⟨2, ![4096, 1024]⟩
abbrev S4096x512 : Shape := ⟨2, ![4096, 512]⟩
abbrev S512x1024 : Shape := ⟨2, ![512, 1024]⟩
abbrev S8x64x1024 : Shape := ⟨3, ![8, 64, 1024]⟩
abbrev S8x128x1024 : Shape := ⟨3, ![8, 128, 1024]⟩
abbrev S1024x512 : Shape := ⟨2, ![1024, 512]⟩

abbrev nBuf : Space → Nat
  | .hbm => 25
  | .vmem => 14
  | .smem => 0
  | _ => 0

abbrev bufTy : (tb : Table) → Fin (tcTables nBuf tb) → BufTy
  | .hbm, ⟨0, _⟩ => ⟨S2x2048x512, .f32⟩
  | .hbm, ⟨1, _⟩ => ⟨S2x2048x512, .f32⟩
  | .hbm, ⟨2, _⟩ => ⟨S2x2048x1024, .f32⟩
  | .hbm, ⟨3, _⟩ => ⟨S1024x1024, .f32⟩
  | .hbm, ⟨4, _⟩ => ⟨S4096x8x64, .f32⟩
  | .hbm, ⟨5, _⟩ => ⟨S_, .i32⟩
  | .hbm, ⟨6, _⟩ => ⟨S_, .f32⟩
  | .hbm, ⟨7, _⟩ => ⟨S4096x8x128, .f32⟩
  | .hbm, ⟨8, _⟩ => ⟨S4096x1024, .f32⟩
  | .hbm, ⟨9, _⟩ => ⟨S4096x1024, .bf16⟩
  | .hbm, ⟨10, _⟩ => ⟨S4096x512, .f32⟩
  | .hbm, ⟨11, _⟩ => ⟨S4096x1024, .f32⟩
  | .hbm, ⟨12, _⟩ => ⟨S512x1024, .f32⟩
  | .hbm, ⟨13, _⟩ => ⟨S8x64x1024, .f32⟩
  | .hbm, ⟨14, _⟩ => ⟨S_, .i32⟩
  | .hbm, ⟨15, _⟩ => ⟨S_, .f32⟩
  | .hbm, ⟨16, _⟩ => ⟨S8x128x1024, .f32⟩
  | .hbm, ⟨17, _⟩ => ⟨S1024x1024, .f32⟩
  | .hbm, ⟨18, _⟩ => ⟨S1024x1024, .bf16⟩
  | .hbm, ⟨19, _⟩ => ⟨S512x1024, .f32⟩
  | .hbm, ⟨20, _⟩ => ⟨S512x1024, .bf16⟩
  | .hbm, ⟨21, _⟩ => ⟨S4096x1024, .bf16⟩
  | .hbm, ⟨22, _⟩ => ⟨S4096x512, .f32⟩
  | .hbm, ⟨23, _⟩ => ⟨S1024x1024, .f32⟩
  | .hbm, ⟨24, _⟩ => ⟨S512x1024, .f32⟩
  | .local _ .vmem, ⟨0, _⟩ => ⟨S1024x1024, .bf16⟩
  | .local _ .vmem, ⟨1, _⟩ => ⟨S1024x1024, .bf16⟩
  | .local _ .vmem, ⟨2, _⟩ => ⟨S1024x512, .f32⟩
  | .local _ .vmem, ⟨3, _⟩ => ⟨S1024x512, .f32⟩
  | .local _ .vmem, ⟨4, _⟩ => ⟨S1024x1024, .f32⟩
  | .local _ .vmem, ⟨5, _⟩ => ⟨S1024x1024, .f32⟩
  | .local _ .vmem, ⟨6, _⟩ => ⟨S1024x1024, .bf16⟩
  | .local _ .vmem, ⟨7, _⟩ => ⟨S512x1024, .bf16⟩
  | .local _ .vmem, ⟨8, _⟩ => ⟨S1024x1024, .bf16⟩
  | .local _ .vmem, ⟨9, _⟩ => ⟨S1024x1024, .bf16⟩
  | .local _ .vmem, ⟨10, _⟩ => ⟨S1024x512, .f32⟩
  | .local _ .vmem, ⟨11, _⟩ => ⟨S1024x512, .f32⟩
  | .local _ .vmem, ⟨12, _⟩ => ⟨S1024x1024, .f32⟩
  | .local _ .vmem, ⟨13, _⟩ => ⟨S512x1024, .f32⟩
  | _, _ => ⟨S2x2048x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_c : Ref sig .tc := ⟨.hbm, 5, rfl⟩
abbrev main_call0_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_c_0 : Ref sig .tc := ⟨.hbm, 14, rfl⟩
abbrev main_call1_v0 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13_0 : Ref sig .tc := ⟨.hbm, 21, rfl⟩
abbrev main_v13_1 : Ref sig .tc := ⟨.hbm, 22, rfl⟩
abbrev main_v13_2 : Ref sig .tc := ⟨.hbm, 23, rfl⟩
abbrev main_v13_3 : Ref sig .tc := ⟨.hbm, 24, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg8_0 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem8_0 : DmaSem sig := 13

abbrev nD : Nat := 1
abbrev τ : Topo := Topo.v7x

variable {F : FTy → Type} [FloatOps F]

abbrev grid0 : Pipeline.Grid := ⟨1, ![4], ![false]⟩

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let v18 : BitVec 32 := Scalar.extui v0
  let c0_i32_13 : BitVec 32 := 0#32
  let v19 : BitVec 1 := Scalar.cmpi .ne v18 c0_i32_13
  v19

def k0_cond2 (i : grid0.Coords) : BitVec 1 :=
  let arg0 : BitVec 32 := BitVec.ofNat 32 (i 0).val
  let c0_i32 : BitVec 32 := 0#32
  let v0 : BitVec 1 := Scalar.cmpi .eq arg0 c0_i32
  let v_true : BitVec 1 := 1#1
  let v20 : BitVec 1 := Scalar.xori v0 v_true
  let v21 : BitVec 32 := Scalar.extui v20
  let c0_i32_14 : BitVec 32 := 0#32
  let v22 : BitVec 1 := Scalar.cmpi .ne v21 c0_i32_14
  v22

def k0_cond3 (i : grid0.Coords) : BitVec 1 :=
  let arg0 : BitVec 32 := BitVec.ofNat 32 (i 0).val
  let c0_i32 : BitVec 32 := 0#32
  let v0 : BitVec 1 := Scalar.cmpi .eq arg0 c0_i32
  let v28 : BitVec 32 := Scalar.extui v0
  let c0_i32_18 : BitVec 32 := 0#32
  let v29 : BitVec 1 := Scalar.cmpi .ne v28 c0_i32_18
  v29

def k0_cond4 (i : grid0.Coords) : BitVec 1 :=
  let arg0 : BitVec 32 := BitVec.ofNat 32 (i 0).val
  let c0_i32 : BitVec 32 := 0#32
  let v0 : BitVec 1 := Scalar.cmpi .eq arg0 c0_i32
  let true_19 : BitVec 1 := 1#1
  let v30 : BitVec 1 := Scalar.xori v0 true_19
  let v31 : BitVec 32 := Scalar.extui v30
  let c0_i32_20 : BitVec 32 := 0#32
  let v32 : BitVec 1 := Scalar.cmpi .ne v31 c0_i32_20
  v32

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1024x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S512x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S1024x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1024x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S1024x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S512x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]
-- ==== OutBRefIdeal.lean ====
abbrev S2x2048x512 : Shape := ⟨3, ![2, 2048, 512]⟩
abbrev S2x2048x1024 : Shape := ⟨3, ![2, 2048, 1024]⟩
abbrev S1024x1024 : Shape := ⟨2, ![1024, 1024]⟩
abbrev S4096x8x64 : Shape := ⟨3, ![4096, 8, 64]⟩
abbrev S_ : Shape := ⟨0, ![]⟩
abbrev S4096x8x128 : Shape := ⟨3, ![4096, 8, 128]⟩
abbrev S4096x1024 : Shape := ⟨2, ![4096, 1024]⟩
abbrev S512x1024 : Shape := ⟨2, ![512, 1024]⟩
abbrev S8x64x1024 : Shape := ⟨3, ![8, 64, 1024]⟩
abbrev S8x128x1024 : Shape := ⟨3, ![8, 128, 1024]⟩
abbrev S4096x512 : Shape := ⟨2, ![4096, 512]⟩

abbrev nBuf : Space → Nat
  | .hbm => 25
  | .vmem => 0
  | .smem => 0
  | _ => 0

abbrev bufTy : (tb : Table) → Fin (tcTables nBuf tb) → BufTy
  | .hbm, ⟨0, _⟩ => ⟨S2x2048x512, .f32⟩
  | .hbm, ⟨1, _⟩ => ⟨S2x2048x512, .f32⟩
  | .hbm, ⟨2, _⟩ => ⟨S2x2048x1024, .f32⟩
  | .hbm, ⟨3, _⟩ => ⟨S1024x1024, .f32⟩
  | .hbm, ⟨4, _⟩ => ⟨S2x2048x1024, .f32⟩
  | .hbm, ⟨5, _⟩ => ⟨S2x2048x1024, .f32⟩
  | .hbm, ⟨6, _⟩ => ⟨S1024x1024, .f32⟩
  | .hbm, ⟨7, _⟩ => ⟨S1024x1024, .f32⟩
  | .hbm, ⟨8, _⟩ => ⟨S2x2048x1024, .f32⟩
  | .hbm, ⟨9, _⟩ => ⟨S2x2048x512, .f32⟩
  | .hbm, ⟨10, _⟩ => ⟨S2x2048x512, .f32⟩
  | .hbm, ⟨11, _⟩ => ⟨S4096x8x64, .f32⟩
  | .hbm, ⟨12, _⟩ => ⟨S_, .i32⟩
  | .hbm, ⟨13, _⟩ => ⟨S_, .f32⟩
  | .hbm, ⟨14, _⟩ => ⟨S4096x8x128, .f32⟩
  | .hbm, ⟨15, _⟩ => ⟨S4096x1024, .f32⟩
  | .hbm, ⟨16, _⟩ => ⟨S4096x1024, .bf16⟩
  | .hbm, ⟨17, _⟩ => ⟨S512x1024, .f32⟩
  | .hbm, ⟨18, _⟩ => ⟨S8x64x1024, .f32⟩
  | .hbm, ⟨19, _⟩ => ⟨S_, .i32⟩
  | .hbm, ⟨20, _⟩ => ⟨S_, .f32⟩
  | .hbm, ⟨21, _⟩ => ⟨S8x128x1024, .f32⟩
  | .hbm, ⟨22, _⟩ => ⟨S1024x1024, .f32⟩
  | .hbm, ⟨23, _⟩ => ⟨S4096x512, .f32⟩
  | .hbm, ⟨24, _⟩ => ⟨S512x1024, .f32⟩
  | _, _ => ⟨S2x2048x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_c : Ref sig .tc := ⟨.hbm, 12, rfl⟩
abbrev main_call0_v0 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_c_0 : Ref sig .tc := ⟨.hbm, 19, rfl⟩
abbrev main_call1_v0 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩

abbrev nD : Nat := 1
abbrev τ : Topo := Topo.v7x

variable {F : FTy → Type} [FloatOps F]
-- ==== OutF.lean ====
abbrev S2x2048x1024 : Shape := ⟨3, ![2, 2048, 1024]⟩
abbrev S2x2048x512 : Shape := ⟨3, ![2, 2048, 512]⟩
abbrev S1024x1024 : Shape := ⟨2, ![1024, 1024]⟩
abbrev S4096x1024 : Shape := ⟨2, ![4096, 1024]⟩
abbrev S4096x8x64 : Shape := ⟨3, ![4096, 8, 64]⟩
abbrev S_ : Shape := ⟨0, ![]⟩
abbrev S4096x8x128 : Shape := ⟨3, ![4096, 8, 128]⟩
abbrev S4096x512 : Shape := ⟨2, ![4096, 512]⟩
abbrev S512x1024 : Shape := ⟨2, ![512, 1024]⟩
abbrev S8x64x1024 : Shape := ⟨3, ![8, 64, 1024]⟩
abbrev S8x128x1024 : Shape := ⟨3, ![8, 128, 1024]⟩
abbrev S1024x512 : Shape := ⟨2, ![1024, 512]⟩

abbrev nBuf : Space → Nat
  | .hbm => 22
  | .vmem => 10
  | .smem => 0
  | _ => 0

abbrev bufTy : (tb : Table) → Fin (tcTables nBuf tb) → BufTy
  | .hbm, ⟨0, _⟩ => ⟨S2x2048x1024, .f32⟩
  | .hbm, ⟨1, _⟩ => ⟨S2x2048x512, .f32⟩
  | .hbm, ⟨2, _⟩ => ⟨S2x2048x512, .f32⟩
  | .hbm, ⟨3, _⟩ => ⟨S1024x1024, .f32⟩
  | .hbm, ⟨4, _⟩ => ⟨S4096x1024, .f32⟩
  | .hbm, ⟨5, _⟩ => ⟨S4096x8x64, .f32⟩
  | .hbm, ⟨6, _⟩ => ⟨S_, .i32⟩
  | .hbm, ⟨7, _⟩ => ⟨S_, .f32⟩
  | .hbm, ⟨8, _⟩ => ⟨S4096x8x128, .f32⟩
  | .hbm, ⟨9, _⟩ => ⟨S4096x1024, .f32⟩
  | .hbm, ⟨10, _⟩ => ⟨S4096x1024, .bf16⟩
  | .hbm, ⟨11, _⟩ => ⟨S4096x512, .f32⟩
  | .hbm, ⟨12, _⟩ => ⟨S512x1024, .f32⟩
  | .hbm, ⟨13, _⟩ => ⟨S8x64x1024, .f32⟩
  | .hbm, ⟨14, _⟩ => ⟨S_, .i32⟩
  | .hbm, ⟨15, _⟩ => ⟨S_, .f32⟩
  | .hbm, ⟨16, _⟩ => ⟨S8x128x1024, .f32⟩
  | .hbm, ⟨17, _⟩ => ⟨S1024x1024, .f32⟩
  | .hbm, ⟨18, _⟩ => ⟨S1024x1024, .bf16⟩
  | .hbm, ⟨19, _⟩ => ⟨S512x1024, .f32⟩
  | .hbm, ⟨20, _⟩ => ⟨S512x1024, .bf16⟩
  | .hbm, ⟨21, _⟩ => ⟨S4096x1024, .f32⟩
  | .local _ .vmem, ⟨0, _⟩ => ⟨S1024x1024, .f32⟩
  | .local _ .vmem, ⟨1, _⟩ => ⟨S1024x1024, .f32⟩
  | .local _ .vmem, ⟨2, _⟩ => ⟨S1024x1024, .bf16⟩
  | .local _ .vmem, ⟨3, _⟩ => ⟨S1024x1024, .bf16⟩
  | .local _ .vmem, ⟨4, _⟩ => ⟨S1024x512, .f32⟩
  | .local _ .vmem, ⟨5, _⟩ => ⟨S1024x512, .f32⟩
  | .local _ .vmem, ⟨6, _⟩ => ⟨S1024x1024, .bf16⟩
  | .local _ .vmem, ⟨7, _⟩ => ⟨S512x1024, .bf16⟩
  | .local _ .vmem, ⟨8, _⟩ => ⟨S1024x1024, .f32⟩
  | .local _ .vmem, ⟨9, _⟩ => ⟨S1024x1024, .f32⟩
  | _, _ => ⟨S2x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_c : Ref sig .tc := ⟨.hbm, 6, rfl⟩
abbrev main_call0_v0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_c_0 : Ref sig .tc := ⟨.hbm, 14, rfl⟩
abbrev main_call1_v0 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1024x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S512x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S1024x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== OutFRefIdeal.lean ====
abbrev S2x2048x1024 : Shape := ⟨3, ![2, 2048, 1024]⟩
abbrev S2x2048x512 : Shape := ⟨3, ![2, 2048, 512]⟩
abbrev S1024x1024 : Shape := ⟨2, ![1024, 1024]⟩
abbrev S4096x1024 : Shape := ⟨2, ![4096, 1024]⟩

abbrev nBuf : Space → Nat
  | .hbm => 8
  | .vmem => 0
  | .smem => 0
  | _ => 0

abbrev bufTy : (tb : Table) → Fin (tcTables nBuf tb) → BufTy
  | .hbm, ⟨0, _⟩ => ⟨S2x2048x1024, .f32⟩
  | .hbm, ⟨1, _⟩ => ⟨S2x2048x512, .f32⟩
  | .hbm, ⟨2, _⟩ => ⟨S2x2048x512, .f32⟩
  | .hbm, ⟨3, _⟩ => ⟨S1024x1024, .f32⟩
  | .hbm, ⟨4, _⟩ => ⟨S2x2048x1024, .f32⟩
  | .hbm, ⟨5, _⟩ => ⟨S2x2048x1024, .f32⟩
  | .hbm, ⟨6, _⟩ => ⟨S2x2048x1024, .f32⟩
  | .hbm, ⟨7, _⟩ => ⟨S4096x1024, .f32⟩
  | _, _ => ⟨S2x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩

abbrev nD : Nat := 1
abbrev τ : Topo := Topo.v7x

variable {F : FTy → Type} [FloatOps F]
-- ==== Loss.lean ====
abbrev S2x2048x2816 : Shape := ⟨3, ![2, 2048, 2816]⟩
abbrev S2x2048x1024 : Shape := ⟨3, ![2, 2048, 1024]⟩
abbrev S3x2816 : Shape := ⟨2, ![3, 2816]⟩
abbrev S2816 : Shape := ⟨1, ![2816]⟩
abbrev S2816x1024 : Shape := ⟨2, ![2816, 1024]⟩
abbrev S1024 : Shape := ⟨1, ![1024]⟩
abbrev S4096x2816 : Shape := ⟨2, ![4096, 2816]⟩
abbrev S4096x1024 : Shape := ⟨2, ![4096, 1024]⟩
abbrev S1x2816 : Shape := ⟨2, ![1, 2816]⟩
abbrev S1x1024 : Shape := ⟨2, ![1, 1024]⟩
abbrev S1x1 : Shape := ⟨2, ![1, 1]⟩
abbrev S512x2816 : Shape := ⟨2, ![512, 2816]⟩
abbrev S8x2816 : Shape := ⟨2, ![8, 2816]⟩
abbrev S512x1024 : Shape := ⟨2, ![512, 1024]⟩
abbrev S520x2816 : Shape := ⟨2, ![520, 2816]⟩
abbrev S8x384 : Shape := ⟨2, ![8, 384]⟩
abbrev S16x384 : Shape := ⟨2, ![16, 384]⟩
abbrev S1x384 : Shape := ⟨2, ![1, 384]⟩
abbrev S8x128 : Shape := ⟨2, ![8, 128]⟩
abbrev S16x128 : Shape := ⟨2, ![16, 128]⟩
abbrev S1x128 : Shape := ⟨2, ![1, 128]⟩
abbrev S512 : Shape := ⟨1, ![512]⟩
abbrev S512x1 : Shape := ⟨2, ![512, 1]⟩
abbrev S1 : Shape := ⟨1, ![1]⟩
abbrev S1x1x1 : Shape := ⟨3, ![1, 1, 1]⟩

abbrev nBuf : Space → Nat
  | .hbm => 18
  | .vmem => 20
  | .smem => 0
  | _ => 0

abbrev bufTy : (tb : Table) → Fin (tcTables nBuf tb) → BufTy
  | .hbm, ⟨0, _⟩ => ⟨S2x2048x2816, .f32⟩
  | .hbm, ⟨1, _⟩ => ⟨S2x2048x2816, .f32⟩
  | .hbm, ⟨2, _⟩ => ⟨S2x2048x1024, .f32⟩
  | .hbm, ⟨3, _⟩ => ⟨S3x2816, .f32⟩
  | .hbm, ⟨4, _⟩ => ⟨S2816, .f32⟩
  | .hbm, ⟨5, _⟩ => ⟨S2816x1024, .f32⟩
  | .hbm, ⟨6, _⟩ => ⟨S2x2048x1024, .f32⟩
  | .hbm, ⟨7, _⟩ => ⟨S1024, .f32⟩
  | .hbm, ⟨8, _⟩ => ⟨S4096x2816, .f32⟩
  | .hbm, ⟨9, _⟩ => ⟨S4096x2816, .f32⟩
  | .hbm, ⟨10, _⟩ => ⟨S4096x1024, .f32⟩
  | .hbm, ⟨11, _⟩ => ⟨S1x2816, .f32⟩
  | .hbm, ⟨12, _⟩ => ⟨S2816x1024, .bf16⟩
  | .hbm, ⟨13, _⟩ => ⟨S4096x1024, .f32⟩
  | .hbm, ⟨14, _⟩ => ⟨S1x1024, .f32⟩
  | .hbm, ⟨15, _⟩ => ⟨S4096x1024, .f32⟩
  | .hbm, ⟨16, _⟩ => ⟨S1x1, .f32⟩
  | .hbm, ⟨17, _⟩ => ⟨S1x1024, .f32⟩
  | .local _ .vmem, ⟨0, _⟩ => ⟨S512x2816, .f32⟩
  | .local _ .vmem, ⟨1, _⟩ => ⟨S512x2816, .f32⟩
  | .local _ .vmem, ⟨2, _⟩ => ⟨S8x2816, .f32⟩
  | .local _ .vmem, ⟨3, _⟩ => ⟨S8x2816, .f32⟩
  | .local _ .vmem, ⟨4, _⟩ => ⟨S512x2816, .f32⟩
  | .local _ .vmem, ⟨5, _⟩ => ⟨S512x2816, .f32⟩
  | .local _ .vmem, ⟨6, _⟩ => ⟨S512x1024, .f32⟩
  | .local _ .vmem, ⟨7, _⟩ => ⟨S512x1024, .f32⟩
  | .local _ .vmem, ⟨8, _⟩ => ⟨S3x2816, .f32⟩
  | .local _ .vmem, ⟨9, _⟩ => ⟨S1x2816, .f32⟩
  | .local _ .vmem, ⟨10, _⟩ => ⟨S2816x1024, .bf16⟩
  | .local _ .vmem, ⟨11, _⟩ => ⟨S512x1024, .f32⟩
  | .local _ .vmem, ⟨12, _⟩ => ⟨S512x1024, .f32⟩
  | .local _ .vmem, ⟨13, _⟩ => ⟨S1x1024, .f32⟩
  | .local _ .vmem, ⟨14, _⟩ => ⟨S512x1024, .f32⟩
  | .local _ .vmem, ⟨15, _⟩ => ⟨S512x1024, .f32⟩
  | .local _ .vmem, ⟨16, _⟩ => ⟨S1x1, .f32⟩
  | .local _ .vmem, ⟨17, _⟩ => ⟨S1x1024, .f32⟩
  | .local _ .vmem, ⟨18, _⟩ => ⟨S520x2816, .f32⟩
  | .local _ .vmem, ⟨19, _⟩ => ⟨S512x2816, .bf16⟩
  | _, _ => ⟨S2x2048x2816, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7_0 : Ref sig .tc := ⟨.hbm, 15, rfl⟩
abbrev main_v7_1 : Ref sig .tc := ⟨.hbm, 16, rfl⟩
abbrev main_v7_2 : Ref sig .tc := ⟨.hbm, 17, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg9_0 : Ref sig .tc := ⟨.vmem, 14, rfl⟩
abbrev cc0_stg9_1 : Ref sig .tc := ⟨.vmem, 15, rfl⟩
abbrev cc0_stg10_0 : Ref sig .tc := ⟨.vmem, 16, rfl⟩
abbrev cc0_stg11_0 : Ref sig .tc := ⟨.vmem, 17, rfl⟩
abbrev cc0_scratch0 : Ref sig .tc := ⟨.vmem, 18, rfl⟩
abbrev cc0_scratch1 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem7_1 : DmaSem sig := 12
abbrev cc0_sem8_0 : DmaSem sig := 13
abbrev cc0_sem9_0 : DmaSem sig := 14
abbrev cc0_sem9_1 : DmaSem sig := 15
abbrev cc0_sem10_0 : DmaSem sig := 16
abbrev cc0_sem11_0 : DmaSem sig := 17

abbrev nD : Nat := 1
abbrev τ : Topo := Topo.v7x

variable {F : FTy → Type} [FloatOps F]

abbrev grid0 : Pipeline.Grid := ⟨1, ![8], ![false]⟩

def k0_cond1 (i : grid0.Coords) : BitVec 1 :=
  let arg0 : BitVec 32 := BitVec.ofNat 32 (i 0).val
  let c0_i32_6095 : BitVec 32 := 0#32
  let v15137 : BitVec 1 := Scalar.cmpi .eq arg0 c0_i32_6095
  let v15206 : BitVec 32 := Scalar.extui v15137
  let c0_i32_6119 : BitVec 32 := 0#32
  let v15207 : BitVec 1 := Scalar.cmpi .ne v15206 c0_i32_6119
  v15207

def k0_cond2 (i : grid0.Coords) : BitVec 1 :=
  let arg0 : BitVec 32 := BitVec.ofNat 32 (i 0).val
  let c0_i32_6095 : BitVec 32 := 0#32
  let v15137 : BitVec 1 := Scalar.cmpi .eq arg0 c0_i32_6095
  let v_true : BitVec 1 := 1#1
  let v15208 : BitVec 1 := Scalar.xori v15137 v_true
  let v15209 : BitVec 32 := Scalar.extui v15208
  let c0_i32_6120 : BitVec 32 := 0#32
  let v15210 : BitVec 1 := Scalar.cmpi .ne v15209 c0_i32_6120
  v15210

def k0_cond3 (i : grid0.Coords) : BitVec 1 :=
  let arg0 : BitVec 32 := BitVec.ofNat 32 (i 0).val
  let c0_i32_6095 : BitVec 32 := 0#32
  let v15137 : BitVec 1 := Scalar.cmpi .eq arg0 c0_i32_6095
  let v15211 : BitVec 32 := Scalar.extui v15137
  let c0_i32_6121 : BitVec 32 := 0#32
  let v15212 : BitVec 1 := Scalar.cmpi .ne v15211 c0_i32_6121
  v15212

def k0_cond4 (i : grid0.Coords) : BitVec 1 :=
  let arg0 : BitVec 32 := BitVec.ofNat 32 (i 0).val
  let c0_i32_6095 : BitVec 32 := 0#32
  let v15137 : BitVec 1 := Scalar.cmpi .eq arg0 c0_i32_6095
  let true_6122 : BitVec 1 := 1#1
  let v15213 : BitVec 1 := Scalar.xori v15137 true_6122
  let v15214 : BitVec 32 := Scalar.extui v15213
  let c0_i32_6123 : BitVec 32 := 0#32
  let v15215 : BitVec 1 := Scalar.cmpi .ne v15214 c0_i32_6123
  v15215

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c64_i32 : BitVec 32 := 64#32
  let v0 : BitVec 32 := Scalar.muli arg0 c64_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  ![v2.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x2816 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S8x2816 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x2816 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S3x2816 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x2816 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S2816x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S512x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S512x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 1 → Memref sig .tc .vmem S1x1 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1x1024 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]
-- ==== LossRefIdeal.lean ====
abbrev S2x2048x2816 : Shape := ⟨3, ![2, 2048, 2816]⟩
abbrev S2x2048x1024 : Shape := ⟨3, ![2, 2048, 1024]⟩
abbrev S3x2816 : Shape := ⟨2, ![3, 2816]⟩
abbrev S2816 : Shape := ⟨1, ![2816]⟩
abbrev S2816x1024 : Shape := ⟨2, ![2816, 1024]⟩
abbrev S1024 : Shape := ⟨1, ![1024]⟩
abbrev S_ : Shape := ⟨0, ![]⟩
abbrev S2x2x2816 : Shape := ⟨3, ![2, 2, 2816]⟩
abbrev S2x2050x2816 : Shape := ⟨3, ![2, 2050, 2816]⟩
abbrev S1x2816 : Shape := ⟨2, ![1, 2816]⟩
abbrev S1x1x2816 : Shape := ⟨3, ![1, 1, 2816]⟩
abbrev S2x2048 : Shape := ⟨2, ![2, 2048]⟩
abbrev S2x2048x1 : Shape := ⟨3, ![2, 2048, 1]⟩
abbrev S1x1x1024 : Shape := ⟨3, ![1, 1, 1024]⟩
abbrev S4096x1024 : Shape := ⟨2, ![4096, 1024]⟩
abbrev S1x1 : Shape := ⟨2, ![1, 1]⟩
abbrev S1x1024 : Shape := ⟨2, ![1, 1024]⟩

abbrev nBuf : Space → Nat
  | .hbm => 125
  | .vmem => 0
  | .smem => 0
  | _ => 0

abbrev bufTy : (tb : Table) → Fin (tcTables nBuf tb) → BufTy
  | .hbm, ⟨0, _⟩ => ⟨S2x2048x2816, .f32⟩
  | .hbm, ⟨1, _⟩ => ⟨S2x2048x2816, .f32⟩
  | .hbm, ⟨2, _⟩ => ⟨S2x2048x1024, .f32⟩
  | .hbm, ⟨3, _⟩ => ⟨S3x2816, .f32⟩
  | .hbm, ⟨4, _⟩ => ⟨S2816, .f32⟩
  | .hbm, ⟨5, _⟩ => ⟨S2816x1024, .f32⟩
  | .hbm, ⟨6, _⟩ => ⟨S2x2048x1024, .f32⟩
  | .hbm, ⟨7, _⟩ => ⟨S1024, .f32⟩
  | .hbm, ⟨8, _⟩ => ⟨S_, .f32⟩
  | .hbm, ⟨9, _⟩ => ⟨S2x2x2816, .f32⟩
  | .hbm, ⟨10, _⟩ => ⟨S2x2050x2816, .f32⟩
  | .hbm, ⟨11, _⟩ => ⟨S2x2048x2816, .f32⟩
  | .hbm, ⟨12, _⟩ => ⟨S1x2816, .f32⟩
  | .hbm, ⟨13, _⟩ => ⟨S2816, .f32⟩
  | .hbm, ⟨14, _⟩ => ⟨S1x1x2816, .f32⟩
  | .hbm, ⟨15, _⟩ => ⟨S2x2048x2816, .f32⟩
  | .hbm, ⟨16, _⟩ => ⟨S2x2048x2816, .f32⟩
  | .hbm, ⟨17, _⟩ => ⟨S2x2048x2816, .f32⟩
  | .hbm, ⟨18, _⟩ => ⟨S1x2816, .f32⟩
  | .hbm, ⟨19, _⟩ => ⟨S2816, .f32⟩
  | .hbm, ⟨20, _⟩ => ⟨S1x1x2816, .f32⟩
  | .hbm, ⟨21, _⟩ => ⟨S2x2048x2816, .f32⟩
  | .hbm, ⟨22, _⟩ => ⟨S2x2048x2816, .f32⟩
  | .hbm, ⟨23, _⟩ => ⟨S2x2048x2816, .f32⟩
  | .hbm, ⟨24, _⟩ => ⟨S2x2048x2816, .f32⟩
  | .hbm, ⟨25, _⟩ => ⟨S1x2816, .f32⟩
  | .hbm, ⟨26, _⟩ => ⟨S2816, .f32⟩
  | .hbm, ⟨27, _⟩ => ⟨S1x1x2816, .f32⟩
  | .hbm, ⟨28, _⟩ => ⟨S2x2048x2816, .f32⟩
  | .hbm, ⟨29, _⟩ => ⟨S2x2048x2816, .f32⟩
  | .hbm, ⟨30, _⟩ => ⟨S2x2048x2816, .f32⟩
  | .hbm, ⟨31, _⟩ => ⟨S1x1x2816, .f32⟩
  | .hbm, ⟨32, _⟩ => ⟨S2x2048x2816, .f32⟩
  | .hbm, ⟨33, _⟩ => ⟨S2x2048x2816, .f32⟩
  | .hbm, ⟨34, _⟩ => ⟨S2x2048x2816, .f32⟩
  | .hbm, ⟨35, _⟩ => ⟨S2x2048x2816, .f32⟩
  | .hbm, ⟨36, _⟩ => ⟨S_, .f32⟩
  | .hbm, ⟨37, _⟩ => ⟨S2x2048x2816, .f32⟩
  | .hbm, ⟨38, _⟩ => ⟨S2x2048x2816, .f32⟩
  | .hbm, ⟨39, _⟩ => ⟨S2x2048x2816, .f32⟩
  | .hbm, ⟨40, _⟩ => ⟨S_, .f32⟩
  | .hbm, ⟨41, _⟩ => ⟨S2x2048x2816, .f32⟩
  | .hbm, ⟨42, _⟩ => ⟨S2x2048x2816, .f32⟩
  | .hbm, ⟨43, _⟩ => ⟨S2x2048x2816, .f32⟩
  | .hbm, ⟨44, _⟩ => ⟨S_, .f32⟩
  | .hbm, ⟨45, _⟩ => ⟨S2x2048x2816, .f32⟩
  | .hbm, ⟨46, _⟩ => ⟨S2x2048x2816, .f32⟩
  | .hbm, ⟨47, _⟩ => ⟨S_, .f32⟩
  | .hbm, ⟨48, _⟩ => ⟨S2x2048x2816, .f32⟩
  | .hbm, ⟨49, _⟩ => ⟨S2x2048x2816, .f32⟩
  | .hbm, ⟨50, _⟩ => ⟨S2x2048x2816, .f32⟩
  | .hbm, ⟨51, _⟩ => ⟨S2x2048x2816, .f32⟩
  | .hbm, ⟨52, _⟩ => ⟨S2x2048x1024, .f32⟩
  | .hbm, ⟨53, _⟩ => ⟨S2x2048x1024, .f32⟩
  | .hbm, ⟨54, _⟩ => ⟨S2x2048x1024, .f32⟩
  | .hbm, ⟨55, _⟩ => ⟨S_, .f32⟩
  | .hbm, ⟨56, _⟩ => ⟨S2x2048, .f32⟩
  | .hbm, ⟨57, _⟩ => ⟨S2x2048x1, .f32⟩
  | .hbm, ⟨58, _⟩ => ⟨S_, .f32⟩
  | .hbm, ⟨59, _⟩ => ⟨S2x2048x1, .f32⟩
  | .hbm, ⟨60, _⟩ => ⟨S2x2048x1, .f32⟩
  | .hbm, ⟨61, _⟩ => ⟨S_, .f32⟩
  | .hbm, ⟨62, _⟩ => ⟨S2x2048x1, .f32⟩
  | .hbm, ⟨63, _⟩ => ⟨S2x2048x1, .f32⟩
  | .hbm, ⟨64, _⟩ => ⟨S2x2048x1, .f32⟩
  | .hbm, ⟨65, _⟩ => ⟨S2x2048x1, .f32⟩
  | .hbm, ⟨66, _⟩ => ⟨S_, .f32⟩
  | .hbm, ⟨67, _⟩ => ⟨S2x2048x1, .f32⟩
  | .hbm, ⟨68, _⟩ => ⟨S2x2048x1, .f32⟩
  | .hbm, ⟨69, _⟩ => ⟨S2x2048x1024, .f32⟩
  | .hbm, ⟨70, _⟩ => ⟨S2x2048x1024, .f32⟩
  | .hbm, ⟨71, _⟩ => ⟨S1x1x1024, .f32⟩
  | .hbm, ⟨72, _⟩ => ⟨S2x2048x1024, .f32⟩
  | .hbm, ⟨73, _⟩ => ⟨S2x2048x1024, .f32⟩
  | .hbm, ⟨74, _⟩ => ⟨S2x2048x1024, .f32⟩
  | .hbm, ⟨75, _⟩ => ⟨S2x2048x1024, .f32⟩
  | .hbm, ⟨76, _⟩ => ⟨S_, .f32⟩
  | .hbm, ⟨77, _⟩ => ⟨S2x2048x1024, .f32⟩
  | .hbm, ⟨78, _⟩ => ⟨S2x2048x1024, .f32⟩
  | .hbm, ⟨79, _⟩ => ⟨S_, .f32⟩
  | .hbm, ⟨80, _⟩ => ⟨S2x2048, .f32⟩
  | .hbm, ⟨81, _⟩ => ⟨S_, .f32⟩
  | .hbm, ⟨82, _⟩ => ⟨S2x2048, .f32⟩
  | .hbm, ⟨83, _⟩ => ⟨S2x2048, .f32⟩
  | .hbm, ⟨84, _⟩ => ⟨S_, .f32⟩
  | .hbm, ⟨85, _⟩ => ⟨S_, .f32⟩
  | .hbm, ⟨86, _⟩ => ⟨S_, .f32⟩
  | .hbm, ⟨87, _⟩ => ⟨S_, .f32⟩
  | .hbm, ⟨88, _⟩ => ⟨S_, .f32⟩
  | .hbm, ⟨89, _⟩ => ⟨S_, .f32⟩
  | .hbm, ⟨90, _⟩ => ⟨S_, .f32⟩
  | .hbm, ⟨91, _⟩ => ⟨S2x2048, .f32⟩
  | .hbm, ⟨92, _⟩ => ⟨S_, .f32⟩
  | .hbm, ⟨93, _⟩ => ⟨S2x2048, .f32⟩
  | .hbm, ⟨94, _⟩ => ⟨S2x2048, .f32⟩
  | .hbm, ⟨95, _⟩ => ⟨S2x2048x1024, .f32⟩
  | .hbm, ⟨96, _⟩ => ⟨S2x2048x1024, .f32⟩
  | .hbm, ⟨97, _⟩ => ⟨S2x2048x1024, .f32⟩
  | .hbm, ⟨98, _⟩ => ⟨S_, .f32⟩
  | .hbm, ⟨99, _⟩ => ⟨S1024, .f32⟩
  | .hbm, ⟨100, _⟩ => ⟨S1x1x1024, .f32⟩
  | .hbm, ⟨101, _⟩ => ⟨S2x2048x1024, .f32⟩
  | .hbm, ⟨102, _⟩ => ⟨S2x2048x1024, .f32⟩
  | .hbm, ⟨103, _⟩ => ⟨S_, .f32⟩
  | .hbm, ⟨104, _⟩ => ⟨S1024, .f32⟩
  | .hbm, ⟨105, _⟩ => ⟨S2x2048x1024, .f32⟩
  | .hbm, ⟨106, _⟩ => ⟨S_, .f32⟩
  | .hbm, ⟨107, _⟩ => ⟨S2x2048, .f32⟩
  | .hbm, ⟨108, _⟩ => ⟨S2x2048x1, .f32⟩
  | .hbm, ⟨109, _⟩ => ⟨S2x2048x1024, .f32⟩
  | .hbm, ⟨110, _⟩ => ⟨S2x2048x1024, .f32⟩
  | .hbm, ⟨111, _⟩ => ⟨S2x2048x1, .f32⟩
  | .hbm, ⟨112, _⟩ => ⟨S_, .f32⟩
  | .hbm, ⟨113, _⟩ => ⟨S2x2048x1, .f32⟩
  | .hbm, ⟨114, _⟩ => ⟨S2x2048x1, .f32⟩
  | .hbm, ⟨115, _⟩ => ⟨S_, .f32⟩
  | .hbm, ⟨116, _⟩ => ⟨S2x2048, .f32⟩
  | .hbm, ⟨117, _⟩ => ⟨S2x2048x1024, .f32⟩
  | .hbm, ⟨118, _⟩ => ⟨S2x2048x1024, .f32⟩
  | .hbm, ⟨119, _⟩ => ⟨S2x2048x1024, .f32⟩
  | .hbm, ⟨120, _⟩ => ⟨S2x2048x1024, .f32⟩
  | .hbm, ⟨121, _⟩ => ⟨S2x2048x1024, .f32⟩
  | .hbm, ⟨122, _⟩ => ⟨S4096x1024, .f32⟩
  | .hbm, ⟨123, _⟩ => ⟨S1x1, .f32⟩
  | .hbm, ⟨124, _⟩ => ⟨S1x1024, .f32⟩
  | _, _ => ⟨S2x2048x2816, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_cst : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_cst_0 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_cst_1 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_cst_2 : Ref sig .tc := ⟨.hbm, 44, rfl⟩
abbrev main_v33 : Ref sig .tc := ⟨.hbm, 45, rfl⟩
abbrev main_v34 : Ref sig .tc := ⟨.hbm, 46, rfl⟩
abbrev main_cst_3 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩
abbrev main_cst_4 : Ref sig .tc := ⟨.hbm, 55, rfl⟩
abbrev main_v42 : Ref sig .tc := ⟨.hbm, 56, rfl⟩
abbrev main_v43 : Ref sig .tc := ⟨.hbm, 57, rfl⟩
abbrev main_cst_5 : Ref sig .tc := ⟨.hbm, 58, rfl⟩
abbrev main_v44 : Ref sig .tc := ⟨.hbm, 59, rfl⟩
abbrev main_v45 : Ref sig .tc := ⟨.hbm, 60, rfl⟩
abbrev main_cst_6 : Ref sig .tc := ⟨.hbm, 61, rfl⟩
abbrev main_v46 : Ref sig .tc := ⟨.hbm, 62, rfl⟩
abbrev main_v47 : Ref sig .tc := ⟨.hbm, 63, rfl⟩
abbrev main_v48 : Ref sig .tc := ⟨.hbm, 64, rfl⟩
abbrev main_v49 : Ref sig .tc := ⟨.hbm, 65, rfl⟩
abbrev main_cst_7 : Ref sig .tc := ⟨.hbm, 66, rfl⟩
abbrev main_v50 : Ref sig .tc := ⟨.hbm, 67, rfl⟩
abbrev main_v51 : Ref sig .tc := ⟨.hbm, 68, rfl⟩
abbrev main_v52 : Ref sig .tc := ⟨.hbm, 69, rfl⟩
abbrev main_v53 : Ref sig .tc := ⟨.hbm, 70, rfl⟩
abbrev main_v54 : Ref sig .tc := ⟨.hbm, 71, rfl⟩
abbrev main_v55 : Ref sig .tc := ⟨.hbm, 72, rfl⟩
abbrev main_v56 : Ref sig .tc := ⟨.hbm, 73, rfl⟩
abbrev main_v57 : Ref sig .tc := ⟨.hbm, 74, rfl⟩
abbrev main_v58 : Ref sig .tc := ⟨.hbm, 75, rfl⟩
abbrev main_cst_8 : Ref sig .tc := ⟨.hbm, 76, rfl⟩
abbrev main_v59 : Ref sig .tc := ⟨.hbm, 77, rfl⟩
abbrev main_v60 : Ref sig .tc := ⟨.hbm, 78, rfl⟩
abbrev main_cst_9 : Ref sig .tc := ⟨.hbm, 79, rfl⟩
abbrev main_v61 : Ref sig .tc := ⟨.hbm, 80, rfl⟩
abbrev main_cst_10 : Ref sig .tc := ⟨.hbm, 81, rfl⟩
abbrev main_v62 : Ref sig .tc := ⟨.hbm, 82, rfl⟩
abbrev main_v63 : Ref sig .tc := ⟨.hbm, 83, rfl⟩
abbrev main_cst_11 : Ref sig .tc := ⟨.hbm, 84, rfl⟩
abbrev main_v64 : Ref sig .tc := ⟨.hbm, 85, rfl⟩
abbrev main_cst_12 : Ref sig .tc := ⟨.hbm, 86, rfl⟩
abbrev main_v65 : Ref sig .tc := ⟨.hbm, 87, rfl⟩
abbrev main_cst_13 : Ref sig .tc := ⟨.hbm, 88, rfl⟩
abbrev main_cst_14 : Ref sig .tc := ⟨.hbm, 89, rfl⟩
abbrev main_v66 : Ref sig .tc := ⟨.hbm, 90, rfl⟩
abbrev main_v67 : Ref sig .tc := ⟨.hbm, 91, rfl⟩
abbrev main_cst_15 : Ref sig .tc := ⟨.hbm, 92, rfl⟩
abbrev main_v68 : Ref sig .tc := ⟨.hbm, 93, rfl⟩
abbrev main_v69 : Ref sig .tc := ⟨.hbm, 94, rfl⟩
abbrev main_v70 : Ref sig .tc := ⟨.hbm, 95, rfl⟩
abbrev main_v71 : Ref sig .tc := ⟨.hbm, 96, rfl⟩
abbrev main_v72 : Ref sig .tc := ⟨.hbm, 97, rfl⟩
abbrev main_cst_16 : Ref sig .tc := ⟨.hbm, 98, rfl⟩
abbrev main_v73 : Ref sig .tc := ⟨.hbm, 99, rfl⟩
abbrev main_v74 : Ref sig .tc := ⟨.hbm, 100, rfl⟩
abbrev main_v75 : Ref sig .tc := ⟨.hbm, 101, rfl⟩
abbrev main_v76 : Ref sig .tc := ⟨.hbm, 102, rfl⟩
abbrev main_cst_17 : Ref sig .tc := ⟨.hbm, 103, rfl⟩
abbrev main_v77 : Ref sig .tc := ⟨.hbm, 104, rfl⟩
abbrev main_v78 : Ref sig .tc := ⟨.hbm, 105, rfl⟩
abbrev main_cst_18 : Ref sig .tc := ⟨.hbm, 106, rfl⟩
abbrev main_v79 : Ref sig .tc := ⟨.hbm, 107, rfl⟩
abbrev main_v80 : Ref sig .tc := ⟨.hbm, 108, rfl⟩
abbrev main_v81 : Ref sig .tc := ⟨.hbm, 109, rfl⟩
abbrev main_v82 : Ref sig .tc := ⟨.hbm, 110, rfl⟩
abbrev main_v83 : Ref sig .tc := ⟨.hbm, 111, rfl⟩
abbrev main_cst_19 : Ref sig .tc := ⟨.hbm, 112, rfl⟩
abbrev main_v84 : Ref sig .tc := ⟨.hbm, 113, rfl⟩
abbrev main_v85 : Ref sig .tc := ⟨.hbm, 114, rfl⟩
abbrev main_cst_20 : Ref sig .tc := ⟨.hbm, 115, rfl⟩
abbrev main_v86 : Ref sig .tc := ⟨.hbm, 116, rfl⟩
abbrev main_v87 : Ref sig .tc := ⟨.hbm, 117, rfl⟩
abbrev main_v88 : Ref sig .tc := ⟨.hbm, 118, rfl⟩
abbrev main_v89 : Ref sig .tc := ⟨.hbm, 119, rfl⟩
abbrev main_v90 : Ref sig .tc := ⟨.hbm, 120, rfl⟩
abbrev main_v91 : Ref sig .tc := ⟨.hbm, 121, rfl⟩
abbrev main_v92 : Ref sig .tc := ⟨.hbm, 122, rfl⟩
abbrev main_v93 : Ref sig .tc := ⟨.hbm, 123, rfl⟩
abbrev main_v94 : Ref sig .tc := ⟨.hbm, 124, rfl⟩

abbrev nD : Nat := 1
abbrev τ : Topo := Topo.v7x

variable {F : FTy → Type} [FloatOps F]
-- ==== FfnW.lean ====
abbrev S2x2048x1024 : Shape := ⟨3, ![2, 2048, 1024]⟩
abbrev S1024 : Shape := ⟨1, ![1024]⟩
abbrev S2x2048x2816 : Shape := ⟨3, ![2, 2048, 2816]⟩
abbrev S_ : Shape := ⟨0, ![]⟩
abbrev S2x2048 : Shape := ⟨2, ![2, 2048]⟩
abbrev S2x2048x1 : Shape := ⟨3, ![2, 2048, 1]⟩
abbrev S1x1x1024 : Shape := ⟨3, ![1, 1, 1024]⟩
abbrev S1x4096x1024 : Shape := ⟨3, ![1, 4096, 1024]⟩
abbrev S2x4096x1024 : Shape := ⟨3, ![2, 4096, 1024]⟩
abbrev S4096x2816 : Shape := ⟨2, ![4096, 2816]⟩
abbrev S2816x1024 : Shape := ⟨2, ![2816, 1024]⟩
abbrev S1x1024x1024 : Shape := ⟨3, ![1, 1024, 1024]⟩
abbrev S1024x1408 : Shape := ⟨2, ![1024, 1408]⟩
abbrev S1408x1024 : Shape := ⟨2, ![1408, 1024]⟩
abbrev S1024x1024 : Shape := ⟨2, ![1024, 1024]⟩

abbrev nBuf : Space → Nat
  | .hbm => 29
  | .vmem => 10
  | .smem => 0
  | _ => 0

abbrev bufTy : (tb : Table) → Fin (tcTables nBuf tb) → BufTy
  | .hbm, ⟨0, _⟩ => ⟨S2x2048x1024, .f32⟩
  | .hbm, ⟨1, _⟩ => ⟨S1024, .f32⟩
  | .hbm, ⟨2, _⟩ => ⟨S2x2048x2816, .f32⟩
  | .hbm, ⟨3, _⟩ => ⟨S2x2048x2816, .f32⟩
  | .hbm, ⟨4, _⟩ => ⟨S2x2048x1024, .f32⟩
  | .hbm, ⟨5, _⟩ => ⟨S_, .f32⟩
  | .hbm, ⟨6, _⟩ => ⟨S2x2048, .f32⟩
  | .hbm, ⟨7, _⟩ => ⟨S2x2048x1, .f32⟩
  | .hbm, ⟨8, _⟩ => ⟨S_, .f32⟩
  | .hbm, ⟨9, _⟩ => ⟨S2x2048x1, .f32⟩
  | .hbm, ⟨10, _⟩ => ⟨S2x2048x1, .f32⟩
  | .hbm, ⟨11, _⟩ => ⟨S_, .f32⟩
  | .hbm, ⟨12, _⟩ => ⟨S2x2048x1, .f32⟩
  | .hbm, ⟨13, _⟩ => ⟨S2x2048x1, .f32⟩
  | .hbm, ⟨14, _⟩ => ⟨S2x2048x1, .f32⟩
  | .hbm, ⟨15, _⟩ => ⟨S2x2048x1024, .f32⟩
  | .hbm, ⟨16, _⟩ => ⟨S2x2048x1024, .f32⟩
  | .hbm, ⟨17, _⟩ => ⟨S1x1x1024, .f32⟩
  | .hbm, ⟨18, _⟩ => ⟨S2x2048x1024, .f32⟩
  | .hbm, ⟨19, _⟩ => ⟨S2x2048x1024, .f32⟩
  | .hbm, ⟨20, _⟩ => ⟨S2x2048x1024, .bf16⟩
  | .hbm, ⟨21, _⟩ => ⟨S1x4096x1024, .bf16⟩
  | .hbm, ⟨22, _⟩ => ⟨S2x4096x1024, .bf16⟩
  | .hbm, ⟨23, _⟩ => ⟨S4096x2816, .f32⟩
  | .hbm, ⟨24, _⟩ => ⟨S4096x2816, .bf16⟩
  | .hbm, ⟨25, _⟩ => ⟨S4096x2816, .f32⟩
  | .hbm, ⟨26, _⟩ => ⟨S4096x2816, .bf16⟩
  | .hbm, ⟨27, _⟩ => ⟨S2816x1024, .bf16⟩
  | .hbm, ⟨28, _⟩ => ⟨S2816x1024, .bf16⟩
  | .local _ .vmem, ⟨0, _⟩ => ⟨S1x1024x1024, .bf16⟩
  | .local _ .vmem, ⟨1, _⟩ => ⟨S1x1024x1024, .bf16⟩
  | .local _ .vmem, ⟨2, _⟩ => ⟨S1024x1408, .bf16⟩
  | .local _ .vmem, ⟨3, _⟩ => ⟨S1024x1408, .bf16⟩
  | .local _ .vmem, ⟨4, _⟩ => ⟨S1024x1408, .bf16⟩
  | .local _ .vmem, ⟨5, _⟩ => ⟨S1024x1408, .bf16⟩
  | .local _ .vmem, ⟨6, _⟩ => ⟨S1408x1024, .bf16⟩
  | .local _ .vmem, ⟨7, _⟩ => ⟨S1408x1024, .bf16⟩
  | .local _ .vmem, ⟨8, _⟩ => ⟨S1408x1024, .f32⟩
  | .local _ .vmem, ⟨9, _⟩ => ⟨S1408x1024, .f32⟩
  | _, _ => ⟨S2x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20_0 : Ref sig .tc := ⟨.hbm, 27, rfl⟩
abbrev main_v20_1 : Ref sig .tc := ⟨.hbm, 28, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_scratch0 : Ref sig .tc := ⟨.vmem, 8, rfl⟩
abbrev cc0_scratch1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7

abbrev nD : Nat := 1
abbrev τ : Topo := Topo.v7x

variable {F : FTy → Type} [FloatOps F]

abbrev grid0 : Pipeline.Grid := ⟨2, ![2, 4], ![false, false]⟩

def k0_cond5 (i : grid0.Coords) : BitVec 1 :=
  let arg1 : BitVec 32 := BitVec.ofNat 32 (i 1).val
  let c3_i32 : BitVec 32 := 3#32
  let v20 : BitVec 1 := Scalar.cmpi .eq arg1 c3_i32
  let v21 : BitVec 32 := Scalar.extui v20
  let c0_i32_13 : BitVec 32 := 0#32
  let v22 : BitVec 1 := Scalar.cmpi .ne v21 c0_i32_13
  v22

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg1.toNat, c0_i32_0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1x1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1024x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1024x1408 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 1 → Memref sig .tc .vmem S1408x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true, false]

abbrev stage0_4 : Fin 1 → Memref sig .tc .vmem S1408x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true, false]
-- ==== FfnWRefIdeal.lean ====
abbrev S2x2048x1024 : Shape := ⟨3, ![2, 2048, 1024]⟩
abbrev S1024 : Shape := ⟨1, ![1024]⟩
abbrev S2x2048x2816 : Shape := ⟨3, ![2, 2048, 2816]⟩
abbrev S_ : Shape := ⟨0, ![]⟩
abbrev S2x2048 : Shape := ⟨2, ![2, 2048]⟩
abbrev S2x2048x1 : Shape := ⟨3, ![2, 2048, 1]⟩
abbrev S1x1x1024 : Shape := ⟨3, ![1, 1, 1024]⟩
abbrev S1024x2816 : Shape := ⟨2, ![1024, 2816]⟩
abbrev S2816x1024 : Shape := ⟨2, ![2816, 1024]⟩

abbrev nBuf : Space → Nat
  | .hbm => 32
  | .vmem => 0
  | .smem => 0
  | _ => 0

abbrev bufTy : (tb : Table) → Fin (tcTables nBuf tb) → BufTy
  | .hbm, ⟨0, _⟩ => ⟨S2x2048x1024, .f32⟩
  | .hbm, ⟨1, _⟩ => ⟨S1024, .f32⟩
  | .hbm, ⟨2, _⟩ => ⟨S2x2048x2816, .f32⟩
  | .hbm, ⟨3, _⟩ => ⟨S2x2048x2816, .f32⟩
  | .hbm, ⟨4, _⟩ => ⟨S2x2048x1024, .f32⟩
  | .hbm, ⟨5, _⟩ => ⟨S_, .f32⟩
  | .hbm, ⟨6, _⟩ => ⟨S2x2048, .f32⟩
  | .hbm, ⟨7, _⟩ => ⟨S2x2048x1, .f32⟩
  | .hbm, ⟨8, _⟩ => ⟨S_, .f32⟩
  | .hbm, ⟨9, _⟩ => ⟨S2x2048x1, .f32⟩
  | .hbm, ⟨10, _⟩ => ⟨S2x2048x1, .f32⟩
  | .hbm, ⟨11, _⟩ => ⟨S_, .f32⟩
  | .hbm, ⟨12, _⟩ => ⟨S2x2048x1, .f32⟩
  | .hbm, ⟨13, _⟩ => ⟨S2x2048x1, .f32⟩
  | .hbm, ⟨14, _⟩ => ⟨S2x2048x1, .f32⟩
  | .hbm, ⟨15, _⟩ => ⟨S2x2048x1024, .f32⟩
  | .hbm, ⟨16, _⟩ => ⟨S2x2048x1024, .f32⟩
  | .hbm, ⟨17, _⟩ => ⟨S1x1x1024, .f32⟩
  | .hbm, ⟨18, _⟩ => ⟨S2x2048x1024, .f32⟩
  | .hbm, ⟨19, _⟩ => ⟨S2x2048x1024, .f32⟩
  | .hbm, ⟨20, _⟩ => ⟨S_, .f32⟩
  | .hbm, ⟨21, _⟩ => ⟨S1024x2816, .f32⟩
  | .hbm, ⟨22, _⟩ => ⟨S2x2048x2816, .f32⟩
  | .hbm, ⟨23, _⟩ => ⟨S2816x1024, .f32⟩
  | .hbm, ⟨24, _⟩ => ⟨S1024x2816, .f32⟩
  | .hbm, ⟨25, _⟩ => ⟨S2x2048x2816, .f32⟩
  | .hbm, ⟨26, _⟩ => ⟨S2816x1024, .f32⟩
  | .hbm, ⟨27, _⟩ => ⟨S1024x2816, .f32⟩
  | .hbm, ⟨28, _⟩ => ⟨S2816x1024, .f32⟩
  | .hbm, ⟨29, _⟩ => ⟨S2816x1024, .bf16⟩
  | .hbm, ⟨30, _⟩ => ⟨S2816x1024, .f32⟩
  | .hbm, ⟨31, _⟩ => ⟨S2816x1024, .bf16⟩
  | _, _ => ⟨S2x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_cst_2 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩

abbrev nD : Nat := 1
abbrev τ : Topo := Topo.v7x

variable {F : FTy → Type} [FloatOps F]
-- ==== Proof.FfnRow.lean ====
module

public import Idealize.ShloMosaic.Lib.Pointwise

@[expose] public section

noncomputable section

/-! One row of the feed-forward's input gradient: the gate's convolution taken back through its three taps, the two
products taken back, and the root-mean-square norm's gradient. -/

namespace Cert.FfnRow

open Idealize.ShloMosaic

/-- The mean square of a row and its inverse root, both with the norm's small constant. -/
def ms (h : Fin 1024 → EReal) : EReal :=
  Ideal.div (∑ x, h x * h x) (Ideal.ofBits .f32 0x44800000#32) + Ideal.ofBits .f32 0x358637BD#32
def inv (h : Fin 1024 → EReal) : EReal := Ideal.rsqrt (ms h)
/-- The derivative of the inverse root. -/
def slope (h : Fin 1024 → EReal) : EReal := Ideal.ofBits .f32 0xBF000000#32 * Ideal.div (inv h) (ms h)

/-- The gate's gradient at one place: each tap times the cotangent of the row it reached. -/
def tap (w : Fin 3 → EReal) (d0 d1 d2 : EReal) : EReal := w 2 * d0 + w 0 * d2 + w 1 * d1

/-- The normed row's gradient from the gate's and the up projection's. -/
def back (dg du : Fin 2816 → EReal) (wg wu : Fin 1024 → Fin 2816 → EReal) (j : Fin 1024) : EReal :=
  ∑ f, dg f * wg j f + ∑ f, du f * wu j f

/-- What a row adds to the scale's gradient. -/
def scale (h y : Fin 1024 → EReal) (j : Fin 1024) : EReal := h j * inv h * y j

/-- The part of a row's gradient that goes through the mean square. -/
def through (h g y : Fin 1024 → EReal) : EReal :=
  Ideal.div ((∑ x, h x * (y x * g x)) * slope h) (Ideal.ofBits .f32 0x44800000#32)

/-- A row's gradient, with the residual's cotangent added. -/
def row (h g y u : Fin 1024 → EReal) (j : Fin 1024) : EReal :=
  y j * g j * inv h + h j * through h g y + through h g y * h j + u j

end Cert.FfnRow

end
-- ==== Proof.FfnCRef.lean ====
module

public import proofs.«01_k».proof.Proof.Gen.FfnCRefIdeal.Run
public import proofs.«01_k».proof.Proof.Gen.FfnCRefIdeal.Read
public import Idealize.ShloMosaic.Lib.Pointwise
public import proofs.«01_k».proof.Proof.FfnRow

@[expose] public section

noncomputable section

/-! The feed-forward's two projections and its normed input in the reference, row by row. -/

namespace Cert.FfnCRefIdeal.Val

open Cert.FfnCRefIdeal Cert.FfnCRefIdeal.Gen Cert.FfnCRefIdeal.Read Idealize.ShloMosaic Idealize.ShloMosaic.TcCoe
open Cert.FfnRow

/-- A row over its root mean square, times the norm's scale. -/
def unit (h g : Fin 1024 → EReal) (j : Fin 1024) : EReal := h j * inv h * g j
/-- One entry of a projection of the normed row. -/
def proj (h g w : Fin 1024 → EReal) : EReal := ∑ j, unit h g j * w j

variable (x0 : S2x2048x1024.Idx → EReal) (x1 : S1024.Idx → EReal) (x2 x3 : S1024x2816.Idx → EReal)

theorem inv_at (b : Fin 2) (s : Fin 2048) : val_main_v7 (F := Ideal) x0 (ix3 b s 0) = inv fun x => x0 (ix3 b s x) := by
  pointwise [val_main_v7, val_main_v6, val_main_v5, val_main_v4, val_main_v3, val_main_v2, val_main_v1, val_main_v0, val_main_cst, val_main_cst_0, val_main_cst_1]
  rfl

theorem unit_at (b : Fin 2) (s : Fin 2048) (j : Fin 1024) : val_main_v12 (F := Ideal) x0 x1 (ix3 b s j)
    = unit (fun x => x0 (ix3 b s x)) (fun x => x1 (ix1 x)) j := by
  unfold unit
  rw [← inv_at]
  pointwise [val_main_v12, val_main_v11, val_main_v10, val_main_v9, val_main_v8]

theorem gate_at (b : Fin 2) (s : Fin 2048) (f : Fin 2816) : val_main_v15 (F := Ideal) x0 x1 x2 (ix3 b s f)
    = proj (fun x => x0 (ix3 b s x)) (fun x => x1 (ix1 x)) (fun j => x2 (ix2 j f)) := by
  have e : val_main_v15 (F := Ideal) x0 x1 x2 (ix3 b s f) = ∑ j, val_main_v12 (F := Ideal) x0 x1 (ix3 b s j) * x2 (ix2 j f) := by
    pointwise [val_main_v15]
  simpa only [unit_at, proj] using e

theorem up_at (b : Fin 2) (s : Fin 2048) (f : Fin 2816) : val_main_v17 (F := Ideal) x0 x1 x3 (ix3 b s f)
    = proj (fun x => x0 (ix3 b s x)) (fun x => x1 (ix1 x)) (fun j => x3 (ix2 j f)) := by
  have e : val_main_v17 (F := Ideal) x0 x1 x3 (ix3 b s f) = ∑ j, val_main_v12 (F := Ideal) x0 x1 (ix3 b s j) * x3 (ix2 j f) := by
    pointwise [val_main_v17]
  simpa only [unit_at, proj] using e

/-- Both copies of the normed input hold the same rows. -/
theorem copy_at (k : Fin 2) (r : Fin 4096) (j : Fin 1024) : val_main_v21 (F := Ideal) x0 x1 (ix3 k r j) = val_main_v14 (F := Ideal) x0 x1 (ix2 r j) := by
  match k with
  | ⟨0, _⟩ => pointwise [val_main_v21, val_main_v20, val_main_v19]
  | ⟨1, _⟩ => pointwise [val_main_v21, val_main_v20, val_main_v19]

end Cert.FfnCRefIdeal.Val

end
-- ==== Proof.FfnCBlock.lean ====
module

public import proofs.«01_k».proof.Proof.Gen.FfnCIdeal.Value
public import proofs.«01_k».proof.Proof.FfnCRef
public import Idealize.ShloMosaic.Lib.Pipeline.ValueKit.Geometry
public import Idealize.ShloMosaic.Lib.Pipeline.ValueKit.Acc

@[expose] public section

noncomputable section

/-! What one grid point leaves: 1024 normed rows and their projections onto half of the columns. -/

namespace Cert.FfnCIdeal.Block

open Cert.FfnCIdeal Cert.FfnCIdeal.Gen Idealize.ShloMosaic Idealize.ShloMosaic.TcCoe Cert.FfnCRefIdeal.Val Cert.FfnRow

/-- A matrix. -/
abbrev M (a b : ℕ) := (⟨2, ![a, b]⟩ : Shape).Idx → EReal

variable (h : M 1024 1024) (g : M 1 1024) (w w' : M 1408 1024)

theorem pay1 (r j : Fin 1024) : k0_pay1 (F := Ideal) h g (ix2 r j) = unit (fun x => h (ix2 r x)) (fun x => g (ix2 0 x)) j := by
  unfold k0_pay1; pointwise; rfl

theorem pay2 (r j : Fin 1024) : k0_pay2 (F := Ideal) h g (ix3 0 r j) = unit (fun x => h (ix2 r x)) (fun x => g (ix2 0 x)) j := by
  rw [← pay1]
  unfold k0_pay2; pointwise

theorem pay3 (r : Fin 1024) (f : Fin 1408) : k0_pay3 (F := Ideal) h g w (ix2 r f)
    = proj (fun x => h (ix2 r x)) (fun x => g (ix2 0 x)) (fun j => w (ix2 f j)) := by
  unfold proj
  simp only [← pay1]
  unfold k0_pay3; pointwise

theorem pay4 (r : Fin 1024) (f : Fin 1408) : k0_pay4 (F := Ideal) h g w (ix2 r f)
    = proj (fun x => h (ix2 r x)) (fun x => g (ix2 0 x)) (fun j => w (ix2 f j)) := by
  unfold proj
  simp only [← pay1]
  unfold k0_pay4; pointwise

theorem out4 (r : Fin 1024) (f : Fin 1408) : out0_4 (F := Ideal) h g w w' (ix2 r f)
    = proj (fun x => h (ix2 r x)) (fun x => g (ix2 0 x)) (fun j => w (ix2 f j)) := by
  rw [← pay3]; frame_out

theorem out5 (r : Fin 1024) (f : Fin 1408) : out0_5 (F := Ideal) h g w w' (ix2 r f)
    = proj (fun x => h (ix2 r x)) (fun x => g (ix2 0 x)) (fun j => w' (ix2 f j)) := by
  rw [← pay4]; frame_out

theorem out6 (r j : Fin 1024) : out0_6 (F := Ideal) h g w w' (ix3 0 r j) = unit (fun x => h (ix2 r x)) (fun x => g (ix2 0 x)) j := by
  rw [← pay2]; frame_out

end Cert.FfnCIdeal.Block

end
-- ==== Proof.FfnBlock.lean ====
module

public import proofs.«01_k».proof.Proof.Gen.FfnAIdeal.Value
public import proofs.«01_k».proof.Proof.FfnRow
public import Idealize.ShloMosaic.Lib.WordCmp
public import Idealize.ShloMosaic.Lib.Pipeline.ValueKit.Geometry
public import Idealize.ShloMosaic.Lib.Pipeline.ValueKit.Acc

@[expose] public section

noncomputable section

/-! What one grid point leaves: 256 rows of the input's gradient and of the gate's, and its share of the scale's. The
cotangent's rows stand in a buffer with the first eight rows of the next block below them, or with zeros after a
sequence's last block, so the taps' shifts read on past the block's end. -/

namespace Cert.FfnAIdeal.Block

open Cert.FfnAIdeal Cert.FfnAIdeal.Gen Idealize.ShloMosaic Idealize.ShloMosaic.TcCoe Idealize.SL.Sem Cert.FfnRow

/-- A matrix. -/
abbrev M (a b : ℕ) := (⟨2, ![a, b]⟩ : Shape).Idx → EReal

/-- The buffer's row: the block's, then the eight below. -/
def below (d : M 256 2816) (v : M 8 2816) (n : ℕ) (hn : n < 264) (f : Fin 2816) : EReal :=
  if h : n < 256 then d (ix2 ⟨n, h⟩ f) else v (ix2 ⟨n - 256, by omega⟩ f)

/-- The buffer's two stores. -/
abbrev stores (d : Vec Ideal ⟨2, ![256, 2816]⟩ .f32) (v : Vec Ideal ⟨2, ![8, 2816]⟩ .f32) : List (View.Piece (Elt Ideal) S264x2816 .f32) :=
  [⟨Rect.unit ![256, 0] ![8, 2816] inb_S264x2816_S8x2816_256_0, v⟩, ⟨Rect.unit ![0, 0] ![256, 2816] inb_S264x2816_S256x2816_0_0, d⟩]

/-- A store into a part of the buffer is read back there, -/
theorem canon_part (o n : ℕ) (ho : ∀ a, (![o, 0] : Fin 2 → ℕ) a + (![n, 2816] : Fin 2 → ℕ) a ≤ S264x2816.size a)
    (L : List (View.Piece (Elt Ideal) S264x2816 .f32)) (w : Vec Ideal ⟨2, ![n, 2816]⟩ .f32) (k : Fin n) (hk : o + k.val < 264) (f : Fin 2816) :
    View.canon (Val := Elt Ideal) (⟨Rect.unit ![o, 0] ![n, 2816] ho, w⟩ :: L) (ix2 ⟨o + k.val, hk⟩ f) = w (ix2 k f) := by
  have hk : (ix2 ⟨o + k.val, hk⟩ f : S264x2816.Idx) = (Rect.unit (s := S264x2816) ![o, 0] ![n, 2816] ho).emb (ix2 (n0 := n) (n1 := 2816) k f) := by
    funext a; refine Fin.ext ?_
    rw [Idealize.ShloMosaic.ValueKit.rect_emb_unit_val]
    fin_cases a
    · rfl
    · exact (Nat.zero_add _).symm
  have hc : ∀ z, View.canon (Val := Elt Ideal) (⟨Rect.unit ![o, 0] ![n, 2816] ho, w⟩ :: L)
      ((Rect.unit (s := S264x2816) ![o, 0] ![n, 2816] ho).emb z) = w z := fun z => View.canon_cons_emb (Val := Elt Ideal) _ w L z
  rw [hk, hc]

theorem stored (d : Vec Ideal ⟨2, ![256, 2816]⟩ .f32) (v : Vec Ideal ⟨2, ![8, 2816]⟩ .f32) (n : ℕ) (hn : n < 264) (f : Fin 2816) :
    View.canon (Val := Elt Ideal) (stores d v) (ix2 ⟨n, hn⟩ f) = below d v n hn f := by
  unfold below
  split
  · rename_i h
    have hx : (ix2 ⟨n, hn⟩ f : S264x2816.Idx) = ix2 ⟨0 + n, (Nat.zero_add n).symm ▸ hn⟩ f := by
      congr 2; exact (Nat.zero_add n).symm
    refine (View.canon_cons_of_not_mem (Val := Elt Ideal) _ _ ?_).trans ((congrArg _ hx).trans (canon_part 0 256 _ [] d ⟨n, h⟩ _ f))
    intro hm
    have h1 : 256 ≤ n := ((Rect.mem_set_unit (inb := inb_S264x2816_S8x2816_256_0)).1 hm 0).1
    omega
  · rename_i h
    have hx : (ix2 ⟨n, hn⟩ f : S264x2816.Idx) = ix2 ⟨256 + (n - 256), by omega⟩ f := by
      congr 2; omega
    exact (congrArg _ hx).trans (canon_part 256 8 _ _ v ⟨n - 256, by omega⟩ _ f)

theorem covered (d : Vec Ideal ⟨2, ![256, 2816]⟩ .f32) (v : Vec Ideal ⟨2, ![8, 2816]⟩ .f32) : ∀ y, ∃ p ∈ stores d v, y ∈ p.1.set := fun y => by
  have hy : (y 0).val < 264 := (y 0).isLt
  rcases Nat.lt_or_ge (y 0).val 256 with h | h
  · refine ⟨_, List.mem_cons_of_mem _ List.mem_cons_self, (Rect.mem_set_unit (inb := inb_S264x2816_S256x2816_0_0)).2 fun a => ?_⟩
    fin_cases a
    · exact ⟨Nat.zero_le _, (Nat.zero_add 256).symm ▸ h⟩
    · exact ⟨Nat.zero_le _, (Nat.zero_add 2816).symm ▸ (y 1).isLt⟩
  · refine ⟨_, List.mem_cons_self, (Rect.mem_set_unit (inb := inb_S264x2816_S8x2816_256_0)).2 fun a => ?_⟩
    fin_cases a
    · exact ⟨h, hy⟩
    · exact ⟨Nat.zero_le _, (Nat.zero_add 2816).symm ▸ (y 1).isLt⟩

/-- A load of 256 rows from row `k` on. -/
theorem loaded (view : View sig .tc .vmem S264x2816 .f32) (d : Vec Ideal ⟨2, ![256, 2816]⟩ .f32) (v : Vec Ideal ⟨2, ![8, 2816]⟩ .f32) (k : ℕ) (hk : k ≤ 8)
    (ho : ∀ a, (![k, 0] : Fin 2 → ℕ) a + (![256, 2816] : Fin 2 → ℕ) a ≤ S264x2816.size a) (r : Fin 256) (f : Fin 2816) :
    (view.readCov (Val := Elt Ideal) (stores d v) (Rect.unit (s := S264x2816) ![k, 0] ![256, 2816] ho).toLoadRect : Vec Ideal ⟨2, ![256, 2816]⟩ .f32) (ix2 r f)
      = below d v (k + r.val) (by omega) f := by
  have he : (Rect.unit (s := S264x2816) ![k, 0] ![256, 2816] ho).emb (ix2 (n0 := 256) (n1 := 2816) r f) = (ix2 ⟨k + r.val, by omega⟩ f : S264x2816.Idx) := by
    funext a; refine Fin.ext ?_
    rw [Idealize.ShloMosaic.ValueKit.rect_emb_unit_val]
    fin_cases a
    · rfl
    · exact Nat.zero_add _
  rw [View.readCov_eq_canon_ld _ _ _ (covered d v), ← stored, ← he]
  rfl

variable (d s1 s2 u : M 256 2816) (w : M 3 2816) (h res : M 256 1024) (g : M 1 1024) (wg wu : M 2816 1024)

theorem pay8 (r : Fin 256) (f : Fin 2816) : k0_pay8 (F := Ideal) (k0_pay6 (F := Ideal) d w s2) s1 (k0_pay7 w) (ix2 r f)
    = tap (fun k => w (ix2 k f)) (d (ix2 r f)) (s1 (ix2 r f)) (s2 (ix2 r f)) := by
  unfold k0_pay8 k0_pay7 k0_pay6 k0_pay3; pointwise; rfl

theorem pay11 (r : Fin 256) : k0_pay11 (F := Ideal) h (ix2 r 0) = inv fun x => h (ix2 r x) := by
  unfold k0_pay11 k0_pay10 k0_pay9; pointwise; rfl

theorem pay12 (r : Fin 256) : k0_pay12 (F := Ideal) h (ix2 r 0) = slope fun x => h (ix2 r x) := by
  unfold k0_pay12 k0_pay11 k0_pay10 k0_pay9; pointwise; rfl

theorem pay13 (a b c : M 256 2816) (r : Fin 256) (j : Fin 1024) : k0_pay13 (F := Ideal) a b c wg u wu (ix2 r j)
    = back (fun f => k0_pay8 (F := Ideal) a b c (ix2 r f)) (fun f => u (ix2 r f)) (fun j f => wg (ix2 f j)) (fun j f => wu (ix2 f j)) j := by
  unfold k0_pay13; pointwise; rfl

theorem pay14 (a b c : M 256 2816) (j : Fin 1024) : k0_pay14 (F := Ideal) a b c h wg u wu (ix2 0 j)
    = ∑ r : Fin 256, scale (fun x => h (ix2 r x)) (fun x => k0_pay13 (F := Ideal) a b c wg u wu (ix2 r x)) j := by
  unfold k0_pay14 k0_pay9; pointwise
  exact Finset.sum_congr rfl fun r _ => by rw [pay11]; rfl

theorem pay1 (a b c : M 256 2816) (r : Fin 256) (j : Fin 1024) :
    k0_pay1 (F := Ideal) (k0_pay9 h) (k0_pay12 h) (k0_pay15 a b c g wg u wu) (k0_pay16 a b c h g wg u wu) (k0_pay17 h) res (ix2 r j)
      = row (fun x => h (ix2 r x)) (fun x => g (ix2 0 x)) (fun x => k0_pay13 (F := Ideal) a b c wg u wu (ix2 r x)) (fun x => res (ix2 r x)) j := by
  unfold k0_pay1 k0_pay16 k0_pay15 k0_pay9 k0_pay17; pointwise
  simp only [Fin.sum_univ_one, pay11, pay12]
  rfl

/-- After a sequence's last block the rows below are zeros. -/
def halo (t : Fin cfg0.N) (v : M 8 2816) : M 8 2816 := fun i => if t.val % 8 = 7 then 0 else v i

theorem last_bit : ∀ t : Fin cfg0.N, (let arg0 : BitVec 32 := BitVec.ofNat 32 (grid0.coords t 0).val
    let v1 : BitVec 32 := Scalar.select (Scalar.cmpi .eq 8#32 0#32) 1#32 8#32
    let v2 : BitVec 32 := Scalar.remsi arg0 v1
    let v7 : BitVec 1 := Scalar.andi (Scalar.xori (Scalar.cmpi .slt v2 0#32) (Scalar.cmpi .slt v1 0#32)) (Scalar.cmpi .ne v2 0#32)
    Scalar.cmpi .eq (Scalar.select v7 (Scalar.addi v2 v1) v2) 7#32) = BitVec.ofBool (decide (t.val % 8 = 7)) :=
  (by decide +kernel : ∀ t : Fin grid0.N, _)

theorem pay5 (t : Fin cfg0.N) (v : M 8 2816) (i : Fin 8) (f : Fin 2816) : k0_pay5 (F := Ideal) (grid0.coords t) v (ix2 i f) = halo t v (ix2 i f) := by
  have e : k0_pay5 (F := Ideal) (grid0.coords t) v (ix2 i f)
      = Scalar.select (BitVec.ofBool (decide (t.val % 8 = 7))) (0 : EReal) (v (ix2 i f)) := by
    rw [← last_bit t]
    unfold k0_pay5; pointwise
  rw [e, WordCmp.select_ofBool]
  simp only [decide_eq_true_eq, halo]

theorem pay4 (r : Fin 256) (f : Fin 2816) : k0_pay4 (F := Ideal) d (ix2 r f) = d (ix2 r f) := by
  unfold k0_pay4 k0_pay3; pointwise

variable (m : (ℓ : Loc nD τ sig) → Buf (Elt Ideal) ℓ)

/-- A grid point's blocks: the input, the norm's scale, the gate's cotangent and the eight rows below it, the up
projection's cotangent, the residual's, the taps and the two weights. -/
abbrev hB (c : Dev nD) (t : Fin cfg0.N) : M 256 1024 := iblk m c 0 t
@[inherit_doc hB] abbrev gB (c : Dev nD) (t : Fin cfg0.N) : M 1 1024 := iblk m c 1 t
@[inherit_doc hB] abbrev dB (c : Dev nD) (t : Fin cfg0.N) : M 256 2816 := iblk m c 2 t
@[inherit_doc hB] abbrev vB (c : Dev nD) (t : Fin cfg0.N) : M 8 2816 := iblk m c 3 t
@[inherit_doc hB] abbrev uB (c : Dev nD) (t : Fin cfg0.N) : M 256 2816 := iblk m c 4 t
@[inherit_doc hB] abbrev rB (c : Dev nD) (t : Fin cfg0.N) : M 256 1024 := iblk m c 5 t
@[inherit_doc hB] abbrev wB (c : Dev nD) (t : Fin cfg0.N) : M 3 2816 := iblk m c 6 t
@[inherit_doc hB] abbrev wgB (c : Dev nD) (t : Fin cfg0.N) : M 2816 1024 := iblk m c 7 t
@[inherit_doc hB] abbrev wuB (c : Dev nD) (t : Fin cfg0.N) : M 2816 1024 := iblk m c 8 t

/-- A row of the gate's gradient, and of the normed input's. -/
def gate (c : Dev nD) (t : Fin cfg0.N) (r : Fin 256) (f : Fin 2816) : EReal :=
  tap (fun k => wB m c t (ix2 k f)) (dB m c t (ix2 r f)) (below (dB m c t) (halo t (vB m c t)) (1 + r.val) (by omega) f)
    (below (dB m c t) (halo t (vB m c t)) (2 + r.val) (by omega) f)
def normed (c : Dev nD) (t : Fin cfg0.N) (r : Fin 256) : Fin 1024 → EReal :=
  back (gate m c t r) (fun f => uB m c t (ix2 r f)) (fun j f => wgB m c t (ix2 f j)) (fun j f => wuB m c t (ix2 f j))

theorem below_congr {d d' : M 256 2816} {v v' : M 8 2816} (hd : ∀ r f, d (ix2 r f) = d' (ix2 r f)) (hv : ∀ r f, v (ix2 r f) = v' (ix2 r f))
    (n : ℕ) (hn : n < 264) (f : Fin 2816) : below d v n hn f = below d' v' n hn f := by
  unfold below
  split
  · exact hd _ _
  · exact hv _ _

/-- The buffer's rows shifted by `k`. -/
abbrev shifted (c : Dev nD) (t : Fin cfg0.N) (k : ℕ) (ho : ∀ a, (![k, 0] : Fin 2 → ℕ) a + (![256, 2816] : Fin 2 → ℕ) a ≤ S264x2816.size a) : Vec Ideal ⟨2, ![256, 2816]⟩ .f32 :=
  (View.whole cc0_scratch0).readCov (Val := Elt Ideal) (stores (k0_pay4 (iblk m c 2 t)) (k0_pay5 (grid0.coords t) (iblk m c 3 t)))
    (Rect.unit (s := S264x2816) ![k, 0] ![256, 2816] ho).toLoadRect

theorem gate_pay (c : Dev nD) (t : Fin cfg0.N) (r : Fin 256) (f : Fin 2816) :
    k0_pay8 (F := Ideal) (k0_pay6 (iblk m c 2 t) (iblk m c 6 t) (shifted m c t 2 inb_S264x2816_S256x2816_2_0)) (shifted m c t 1 inb_S264x2816_S256x2816_1_0)
      (k0_pay7 (iblk m c 6 t)) (ix2 r f) = gate m c t r f := by
  refine (pay8 _ _ _ _ r f).trans ?_
  have e1 : shifted m c t 1 inb_S264x2816_S256x2816_1_0 (ix2 r f) = _ := loaded _ _ _ 1 (by decide) _ r f
  have e2 : shifted m c t 2 inb_S264x2816_S256x2816_2_0 (ix2 r f) = _ := loaded _ _ _ 2 (by decide) _ r f
  rw [e1, e2]
  unfold gate
  rw [below_congr (pay4 (dB m c t)) (pay5 t (vB m c t)), below_congr (pay4 (dB m c t)) (pay5 t (vB m c t))]

theorem normed_pay (c : Dev nD) (t : Fin cfg0.N) (r : Fin 256) (j : Fin 1024) :
    k0_pay13 (F := Ideal) (k0_pay6 (iblk m c 2 t) (iblk m c 6 t) (shifted m c t 2 inb_S264x2816_S256x2816_2_0)) (shifted m c t 1 inb_S264x2816_S256x2816_1_0)
      (k0_pay7 (iblk m c 6 t)) (iblk m c 7 t) (iblk m c 4 t) (iblk m c 8 t) (ix2 r j) = normed m c t r j := by
  refine (pay13 _ _ _ _ _ _ r j).trans ?_
  simp only [gate_pay]
  rfl

/-- The grid's first point begins the scale's gradient, the others add to it. -/
theorem point_cases (t : Fin cfg0.N) : (t.val % 16 = 0 ∧ ¬1 ≤ t.val) ∨ (¬t.val % 16 = 0 ∧ 1 ≤ t.val) := by
  have h : t.val < 16 := t.isLt
  omega

/-- What a grid point leaves of the gate's gradient, -/
theorem gate_block (c : Dev nD) (t : Fin cfg0.N) (r : Fin 256) (f : Fin 2816) : (outsAt0 m c t.val t.isLt).2.1 (ix2 r f) = gate m c t r f := by
  rcases point_cases t with ⟨h0, h1⟩ | ⟨h0, h1⟩
  · rw [outsAt0_A m c t h0 h1]; frame_out
    exact gate_pay m c t r f
  · rw [outsAt0_B m c t h0 h1]; frame_out
    exact gate_pay m c t r f

/-- of the input's, -/
theorem row_block (c : Dev nD) (t : Fin cfg0.N) (r : Fin 256) (j : Fin 1024) : (outsAt0 m c t.val t.isLt).1 (ix2 r j)
    = row (fun x => hB m c t (ix2 r x)) (fun x => gB m c t (ix2 0 x)) (normed m c t r) (fun x => rB m c t (ix2 r x)) j := by
  have e : ∀ x, _ := fun x => normed_pay m c t r x
  rcases point_cases t with ⟨h0, h1⟩ | ⟨h0, h1⟩
  · rw [outsAt0_A m c t h0 h1]; frame_out
    refine (pay1 _ _ _ _ _ _ _ _ _ r j).trans ?_
    simp only [e]
  · rw [outsAt0_B m c t h0 h1]; frame_out
    refine (pay1 _ _ _ _ _ _ _ _ _ r j).trans ?_
    simp only [e]

/-- and of the scale's. -/
def share (c : Dev nD) (t : Fin cfg0.N) (j : Fin 1024) : EReal :=
  ∑ r : Fin 256, scale (fun x => hB m c t (ix2 r x)) (normed m c t r) j

theorem share_pay (c : Dev nD) (t : Fin cfg0.N) (j : Fin 1024) :
    k0_pay14 (F := Ideal) (k0_pay6 (iblk m c 2 t) (iblk m c 6 t) (shifted m c t 2 inb_S264x2816_S256x2816_2_0)) (shifted m c t 1 inb_S264x2816_S256x2816_1_0)
      (k0_pay7 (iblk m c 6 t)) (iblk m c 0 t) (iblk m c 7 t) (iblk m c 4 t) (iblk m c 8 t) (ix2 0 j) = share m c t j := by
  refine (pay14 _ _ _ _ _ _ _ j).trans ?_
  simp only [normed_pay]
  rfl

theorem add_pay (a b : M 1 1024) (j : Fin 1024) : k0_pay2 (F := Ideal) a b (ix2 0 j) = b (ix2 0 j) + a (ix2 0 j) := by
  unfold k0_pay2; pointwise

theorem scale_first (c : Dev nD) (t : Fin cfg0.N) (h0 : t.val % 16 = 0) (h1 : ¬1 ≤ t.val) (j : Fin 1024) :
    (outsAt0 m c t.val t.isLt).2.2 (ix2 0 j) = share m c t j := by
  rw [outsAt0_A m c t h0 h1]; frame_out
  exact share_pay m c t j

theorem scale_next (c : Dev nD) (t : Fin cfg0.N) (h0 : ¬t.val % 16 = 0) (h1 : 1 ≤ t.val) (j : Fin 1024) :
    (outsAt0 m c t.val t.isLt).2.2 (ix2 0 j) = (outsAt0 m c (t.val - 1) (by omega)).2.2 (ix2 0 j) + share m c t j := by
  rw [outsAt0_B m c t h0 h1]; frame_out
  exact (add_pay _ _ j).trans (congrArg _ (share_pay m c t j))

end Cert.FfnAIdeal.Block

end
-- ==== Proof.FfnRef.lean ====
module

public import proofs.«01_k».proof.Proof.Gen.FfnARefIdeal.Run
public import proofs.«01_k».proof.Proof.Gen.FfnARefIdeal.Read
public import Idealize.ShloMosaic.Lib.Pointwise
public import Idealize.ShloMosaic.Lib.KernelVsHost
public import proofs.«01_k».proof.Proof.FfnRow

@[expose] public section

noncomputable section

/-! The reference's three gradients read at an index, row by row. -/

namespace Cert.FfnARefIdeal.Val

open Cert.FfnARefIdeal Cert.FfnARefIdeal.Gen Cert.FfnARefIdeal.Read Idealize.ShloMosaic Idealize.ShloMosaic.TcCoe Idealize.SL.Sem
open Cert.FfnRow

/-- A sequence's row, or zero past its end. -/
def past (d : Fin 2048 → EReal) (n : ℕ) : EReal := if h : n < 2048 then d ⟨n, h⟩ else 0

theorem zero_word : Ideal.ofBits .f32 0x00000000#32 = 0 := by simp [Ideal.ofBits, Ideal.ieee]

/-- Rows padded with `lo` zeros above and `hi` below, read two rows on. -/
theorem pad_rows (lo hi k : ℕ) (hk : lo + k = 2) (y : S2x2048x2816.Idx → EReal) (z : S_.Idx → EReal) (hz : ∀ i, z i = 0)
    (hp : S2x2048x2816.Pads ![0, lo, 0] ![0, hi, 0] ![0, 0, 0] S2x2050x2816) (hu : 0 < S_.numel) (b : Fin 2) (s : Fin 2048) (f : Fin 2816) :
    pad S2x2050x2816 ![0, lo, 0] ![0, hi, 0] ![0, 0, 0] y z hp hu (ix3 b ⟨2 + s.val, by omega⟩ f) = past (fun s => y (ix3 b s f)) (s.val + k) := by
  unfold past
  split
  · rename_i hx
    refine pad_apply_of_inside _ _ _ y z hp hu (ix3 b ⟨2 + s.val, by omega⟩ f) (ix3 b ⟨s.val + k, hx⟩ f) fun a => ?_
    match a with
    | ⟨0, _⟩ => show b.val = 0 + b.val * 1; omega
    | ⟨1, _⟩ => show 2 + s.val = lo + (s.val + k) * 1; omega
    | ⟨2, _⟩ => show f.val = 0 + f.val * 1; omega
  · rename_i hx
    rw [pad_apply_of_not_inside _ _ _ y z hp hu (ix3 b ⟨2 + s.val, by omega⟩ f) (⟨1, by decide⟩ : Fin 3), hz]
    rintro ⟨h1, -, h3⟩
    have h3' : (2 + s.val - lo) / 1 < 2048 := h3
    omega

/-- A sum over the first two axes. -/
theorem sum_rows {a b n : ℕ} (h : (⟨3, ![a, b, n]⟩ : Shape).ReducesTo [0, 1] ⟨1, ![n]⟩) (v : (⟨3, ![a, b, n]⟩ : Shape).Idx → EReal) (init : EReal) (j : Fin n) :
    Ideal.hostReduceAdd h v init (ix1 j) = init + ∑ k : Fin a, ∑ l : Fin b, v (ix3 k l j) := by
  have hd : ∀ i, (h.drop i (⟨0, by decide⟩ : Fin 1)).val = (i (⟨2, by decide⟩ : Fin 3)).val := fun i =>
    Shape.ReducesTo.drop_apply_val_of_eq h i (⟨0, by decide⟩ : Fin 1) (⟨2, by decide⟩ : Fin 3) (hb := Nat.zero_lt_one) (hc := rfl)
  have hf : ∀ i, h.drop i = ix1 j ↔ ∃ k : Fin a × Fin b, ix3 k.1 k.2 j = i := fun i => by
    constructor
    · intro e
      refine ⟨(i 0, i 1), ?_⟩
      funext c; apply Fin.ext
      match c with
      | ⟨0, _⟩ => rfl
      | ⟨1, _⟩ => rfl
      | ⟨2, _⟩ => exact (congrArg Fin.val (congrFun e 0)).symm.trans (hd i)
    · rintro ⟨k, rfl⟩
      funext c; apply Fin.ext
      match c with
      | ⟨0, _⟩ => exact hd _
  refine congrArg (init + ·) ((Finset.sum_filter_eq_sum_of_fiber _ (fun k : Fin a × Fin b => ix3 k.1 k.2 j)
    (fun _ _ e => Prod.ext (congrFun e 0) (congrFun e 1)) hf v).trans ?_)
  simp only [Fintype.sum_prod_type]

variable (x0 : S2x2048x1024.Idx → EReal) (x1 : S1024.Idx → EReal) (x2 x3 : S2x2048x2816.Idx → EReal) (x4 : S2x2048x1024.Idx → EReal)
  (x5 : S3x2816.Idx → EReal) (x6 x7 : S1024x2816.Idx → EReal)

/-- The gate's gradient. -/
def gate (b : Fin 2) (s : Fin 2048) (f : Fin 2816) : EReal :=
  tap (fun k => x5 (ix2 k f)) (past (fun s => x2 (ix3 b s f)) s.val) (past (fun s => x2 (ix3 b s f)) (s.val + 1)) (past (fun s => x2 (ix3 b s f)) (s.val + 2))

/-- A scaled row past the end is still zero. -/
theorem past_mul (d : Fin 2048 → EReal) (w : EReal) (n : ℕ) : past (fun s => d s * w) n = w * past d n := by
  unfold past
  split
  · exact mul_comm _ _
  · exact (mul_zero _).symm

theorem tap2 (b : Fin 2) (s : Fin 2048) (f : Fin 2816) : val_main_v47 (F := Ideal) x2 x5 (ix3 b s f) = x2 (ix3 b s f) * x5 (ix2 2 f) := by
  pointwise [val_main_v47, val_main_v46, val_main_v45, val_main_v37, val_main_v36, val_main_v35]
theorem tap1 (b : Fin 2) (s : Fin 2048) (f : Fin 2816) : val_main_v50 (F := Ideal) x2 x5 (ix3 b s f) = x2 (ix3 b s f) * x5 (ix2 1 f) := by
  pointwise [val_main_v50, val_main_v49, val_main_v44, val_main_v30, val_main_v29, val_main_v28]
theorem tap0 (b : Fin 2) (s : Fin 2048) (f : Fin 2816) : val_main_v54 (F := Ideal) x2 x5 (ix3 b s f) = x2 (ix3 b s f) * x5 (ix2 0 f) := by
  pointwise [val_main_v54, val_main_v53, val_main_v44, val_main_v24, val_main_v23, val_main_v22]

theorem gate_at (b : Fin 2) (s : Fin 2048) (f : Fin 2816) : val_main_v58 (F := Ideal) x2 x5 (ix3 b s f) = gate x2 x5 b s f := by
  have e : val_main_v58 (F := Ideal) x2 x5 (ix3 b s f) = val_main_v48 (F := Ideal) x2 x5 (ix3 b ⟨2 + s.val, by omega⟩ f)
      + val_main_v51 (F := Ideal) x2 x5 (ix3 b ⟨2 + s.val, by omega⟩ f) + val_main_v55 (F := Ideal) x2 x5 (ix3 b ⟨2 + s.val, by omega⟩ f) := by
    pointwise [val_main_v58, val_main_v56, val_main_v52]
  have e2 := pad_rows 2 0 0 rfl (val_main_v47 (F := Ideal) x2 x5) (val_main_cst_6 (F := Ideal)) (fun _ => zero_word) pads_S2x2048x2816_S2x2050x2816_000_200_000 h_S_ b s f
  have e1 := pad_rows 1 1 1 rfl (val_main_v50 (F := Ideal) x2 x5) (val_main_cst_7 (F := Ideal)) (fun _ => zero_word) pads_S2x2048x2816_S2x2050x2816_000_110_000 h_S_ b s f
  have e0 := pad_rows 0 2 2 rfl (val_main_v54 (F := Ideal) x2 x5) (val_main_cst_8 (F := Ideal)) (fun _ => zero_word) pads_S2x2048x2816_S2x2050x2816_000_020_000 h_S_ b s f
  simp only [tap2, tap1, tap0, past_mul] at e2 e1 e0
  rw [e]
  refine (congrArg₂ (· + ·) (congrArg₂ (· + ·) e2 e1) e0).trans ?_
  exact add_right_comm _ _ _

/-- The normed row's gradient. -/
def normed (b : Fin 2) (s : Fin 2048) : Fin 1024 → EReal :=
  back (gate x2 x5 b s) (fun f => x3 (ix3 b s f)) (fun j f => x6 (ix2 j f)) (fun j f => x7 (ix2 j f))

theorem normed_at (b : Fin 2) (s : Fin 2048) (j : Fin 1024) :
    val_main_v63 (F := Ideal) x2 x3 x5 x6 x7 (ix3 b s j) = normed x2 x3 x5 x6 x7 b s j := by
  have e : val_main_v63 (F := Ideal) x2 x3 x5 x6 x7 (ix3 b s j)
      = ∑ f, x3 (ix3 b s f) * x7 (ix2 j f) + ∑ f, val_main_v58 (F := Ideal) x2 x5 (ix3 b s f) * x6 (ix2 j f) := by
    pointwise [val_main_v63, val_main_v62, val_main_v61]
  rw [e, add_comm]
  simp only [gate_at]
  rfl

theorem inv_at (b : Fin 2) (s : Fin 2048) : val_main_v7 (F := Ideal) x0 (ix3 b s 0) = inv fun x => x0 (ix3 b s x) := by
  pointwise [val_main_v7, val_main_v6, val_main_v5, val_main_v4, val_main_v3, val_main_v2, val_main_v1, val_main_v0, val_main_cst, val_main_cst_0, val_main_cst_1]
  rfl

theorem slope_at (b : Fin 2) (s : Fin 2048) : val_main_v10 (F := Ideal) x0 (ix3 b s 0) = slope fun x => x0 (ix3 b s x) := by
  pointwise [val_main_v10, val_main_v9, val_main_v8, val_main_cst_2, val_main_v7, val_main_v6, val_main_v5, val_main_v4, val_main_v3, val_main_v2, val_main_v1, val_main_v0, val_main_cst, val_main_cst_0, val_main_cst_1]
  rfl

theorem sum_at (b : Fin 2) (s : Fin 2048) : val_main_v72 (F := Ideal) x0 x1 x2 x3 x5 x6 x7 (ix3 b s 0)
    = ∑ x, x0 (ix3 b s x) * (normed x2 x3 x5 x6 x7 b s x * x1 (ix1 x)) := by
  have e : val_main_v72 (F := Ideal) x0 x1 x2 x3 x5 x6 x7 (ix3 b s 0)
    = ∑ x, x0 (ix3 b s x) * (val_main_v63 (F := Ideal) x2 x3 x5 x6 x7 (ix3 b s x) * x1 (ix1 x)) := by
    pointwise [val_main_v72, val_main_v71, val_main_v70, val_main_v68, val_main_v67, val_main_v13, val_main_cst_11]
  simpa only [normed_at] using e

theorem through_at (b : Fin 2) (s : Fin 2048) (j : Fin 1024) : val_main_v79 (F := Ideal) x0 x1 x2 x3 x5 x6 x7 (ix3 b s j)
    = through (fun x => x0 (ix3 b s x)) (fun x => x1 (ix1 x)) (normed x2 x3 x5 x6 x7 b s) := by
  have e : val_main_v79 (F := Ideal) x0 x1 x2 x3 x5 x6 x7 (ix3 b s j)
    = ∑ i : Fin 1, Ideal.div (val_main_v72 (F := Ideal) x0 x1 x2 x3 x5 x6 x7 (ix3 b s i) * val_main_v10 (F := Ideal) x0 (ix3 b s i)) (Ideal.ofBits .f32 0x44800000#32) := by
    pointwise [val_main_v79, val_main_v78, val_main_v77, val_main_v76, val_main_v75, val_main_cst_12, val_main_cst_13]
  rw [e, Fin.sum_univ_one, sum_at, slope_at]
  rfl

/-- The input's gradient with the residual's cotangent. -/
theorem row_at (b : Fin 2) (s : Fin 2048) (j : Fin 1024) : val_main_v84 (F := Ideal) x0 x1 x2 x3 x4 x5 x6 x7 (ix3 b s j)
    = row (fun x => x0 (ix3 b s x)) (fun x => x1 (ix1 x)) (normed x2 x3 x5 x6 x7 b s) (fun x => x4 (ix3 b s x)) j := by
  have e : val_main_v84 (F := Ideal) x0 x1 x2 x3 x4 x5 x6 x7 (ix3 b s j)
    = val_main_v63 (F := Ideal) x2 x3 x5 x6 x7 (ix3 b s j) * x1 (ix1 j) * val_main_v7 (F := Ideal) x0 (ix3 b s 0)
      + x0 (ix3 b s j) * val_main_v79 (F := Ideal) x0 x1 x2 x3 x5 x6 x7 (ix3 b s j)
      + val_main_v79 (F := Ideal) x0 x1 x2 x3 x5 x6 x7 (ix3 b s j) * x0 (ix3 b s j) + x4 (ix3 b s j) := by
    pointwise [val_main_v84, val_main_v83, val_main_v82, val_main_v81, val_main_v80, val_main_v74, val_main_v73, val_main_v68, val_main_v67, val_main_v13]
  rw [e, normed_at, inv_at, through_at]
  rfl

/-- The scale's gradient. -/
theorem scale_at (j : Fin 1024) : val_main_v88 (F := Ideal) x0 x2 x3 x5 x6 x7 (ix2 0 j)
    = ∑ b : Fin 2, ∑ s : Fin 2048, scale (fun x => x0 (ix3 b s x)) (normed x2 x3 x5 x6 x7 b s) j := by
  have e64 : ∀ b s, val_main_v64 (F := Ideal) x0 x2 x3 x5 x6 x7 (ix3 b s j)
      = x0 (ix3 b s j) * val_main_v7 (F := Ideal) x0 (ix3 b s 0) * val_main_v63 (F := Ideal) x2 x3 x5 x6 x7 (ix3 b s j) := fun b s => by
    pointwise [val_main_v64, val_main_v12, val_main_v11]
  have e65 : val_main_v65 (F := Ideal) x0 x2 x3 x5 x6 x7 (ix1 j) = _ := sum_rows reducesTo_S2x2048x1024_S1024_d0_1 (val_main_v64 (F := Ideal) x0 x2 x3 x5 x6 x7) (Ideal.ofBits .f32 0x00000000#32) j
  have e69 : val_main_v69 (F := Ideal) x0 x2 x3 x5 x6 x7 (ix1 j) = _ := sum_rows reducesTo_S1x1x1024_S1024_d0_1 (val_main_v66 (F := Ideal) x0 x2 x3 x5 x6 x7) (Ideal.ofBits .f32 0x00000000#32) j
  have e66 : ∀ k l, val_main_v66 (F := Ideal) x0 x2 x3 x5 x6 x7 (ix3 k l j) = val_main_v65 (F := Ideal) x0 x2 x3 x5 x6 x7 (ix1 j) := fun k l => by
    pointwise [val_main_v66]
  have e88 : val_main_v88 (F := Ideal) x0 x2 x3 x5 x6 x7 (ix2 0 j) = val_main_v69 (F := Ideal) x0 x2 x3 x5 x6 x7 (ix1 j) := by
    pointwise [val_main_v88]
  simp only [e88, e69, e66, e65, e64, Fin.sum_univ_one, zero_word, zero_add, normed_at, inv_at]
  rfl

end Cert.FfnARefIdeal.Val

end
-- ==== Proof.FfnArr.lean ====
module

public import proofs.«01_k».proof.Proof.FfnBlock
public import proofs.«01_k».proof.Proof.FfnRef
public import Idealize.ShloMosaic.Lib.KernelVsHost
public import Idealize.ShloMosaic.Lib.Tactic.CleanTypes

@[expose] public section

noncomputable section

/-! The feed-forward kernel's blocks at a grid point, in the arguments. -/

namespace Cert.FfnAIdeal.Arr

open Cert.FfnAIdeal Cert.FfnAIdeal.Gen Idealize.ShloMosaic Idealize.ShloMosaic.TcCoe Idealize.SL.Sem Cert.FfnAIdeal.Block Cert.FfnARefIdeal.Val

variable (m : (ℓ : Loc nD τ sig) → Buf (Elt Ideal) ℓ)

theorem lt16 (t : Fin cfg0.N) : t.val < 16 := t.isLt

/-- The sequence of a grid point, and the place of the block's row in it. -/
abbrev bt (t : Fin cfg0.N) : Fin 2 := ⟨t.val / 8, by have := lt16 t; omega⟩
abbrev sq (t : Fin cfg0.N) (r : Fin 256) : Fin 2048 := ⟨t.val % 8 * 256 + r.val, by omega⟩
/-- A row among both sequences' rows. -/
abbrev gr (b : Fin 2) (s : Fin 2048) : Fin 4096 := ⟨b.val * 2048 + s.val, by omega⟩

abbrev a0 (c : Dev nD) : S2x2048x1024.Idx → EReal := m ((c.tc : Thread nD τ).loc main_arg0)
abbrev a1 (c : Dev nD) : S1024.Idx → EReal := m ((c.tc : Thread nD τ).loc main_arg1)
abbrev a2 (c : Dev nD) : S2x2048x2816.Idx → EReal := m ((c.tc : Thread nD τ).loc main_arg2)
abbrev a3 (c : Dev nD) : S2x2048x2816.Idx → EReal := m ((c.tc : Thread nD τ).loc main_arg3)
abbrev a4 (c : Dev nD) : S2x2048x1024.Idx → EReal := m ((c.tc : Thread nD τ).loc main_arg4)
abbrev a5 (c : Dev nD) : S3x2816.Idx → EReal := m ((c.tc : Thread nD τ).loc main_arg5)
abbrev a6 (c : Dev nD) : S1024x2816.Idx → EReal := m ((c.tc : Thread nD τ).loc main_arg6)
abbrev a7 (c : Dev nD) : S1024x2816.Idx → EReal := m ((c.tc : Thread nD τ).loc main_arg7)

/-- Both sequences' rows in one array. -/
theorem flat_at {n : ℕ} (y : (⟨3, ![2, 2048, n]⟩ : Shape).Idx → EReal)
    (hc : (⟨3, ![2, 2048, n]⟩ : Shape).ShapeCasts ⟨2, ![4096, n]⟩) (b : Fin 2) (s : Fin 2048) (x : Fin n) :
    shapeCast ⟨2, ![4096, n]⟩ y hc (ix2 (gr b s) x) = y (ix3 b s x) := by
  refine shapeCast_apply y hc (ix2 (gr b s) x) (ix3 b s x) ?_
  rewrite [Shape.rowMajor_val_three, Shape.rowMajor_val_two]
  rfl

/-- Rounding to a shorter format keeps an ideal vector. -/
theorem short_eq {S : Shape} (y : FVec Ideal S .f32) (h : FTy.bf16.bits < FTy.f32.bits) : truncf (F := Ideal) .bf16 y h = (y : S.Idx → EReal) := rfl

theorem input_at (c : Dev nD) (b : Fin 2) (s : Fin 2048) (x : Fin 1024) : V m c main_v0 (ix2 (gr b s) x) = a0 m c (ix3 b s x) := by
  show StableHlo.after hostOps0 (fun b => m (c, b)) main_v0 _ = _
  simp only [hostOps0]
  after_results_simp
  exact flat_at _ _ b s x

theorem cot_at (c : Dev nD) (b : Fin 2) (s : Fin 2048) (f : Fin 2816) : V m c main_v2 (ix2 (gr b s) f) = a2 m c (ix3 b s f) := by
  show StableHlo.after hostOps0 (fun b => m (c, b)) main_v2 _ = _
  simp only [hostOps0]
  after_results_simp
  exact flat_at _ _ b s f

theorem up_at (c : Dev nD) (b : Fin 2) (s : Fin 2048) (f : Fin 2816) : V m c main_v4 (ix2 (gr b s) f) = a3 m c (ix3 b s f) := by
  show StableHlo.after hostOps0 (fun b => m (c, b)) main_v4 _ = _
  simp only [hostOps0]
  after_results_simp
  rw [short_eq]
  exact flat_at _ _ b s f

theorem res_at (c : Dev nD) (b : Fin 2) (s : Fin 2048) (x : Fin 1024) : V m c main_v5 (ix2 (gr b s) x) = a4 m c (ix3 b s x) := by
  show StableHlo.after hostOps0 (fun b => m (c, b)) main_v5 _ = _
  simp only [hostOps0]
  after_results_simp
  exact flat_at _ _ b s x

theorem norm_at (c : Dev nD) (x : Fin 1024) : V m c main_v1 (ix2 0 x) = a1 m c (ix1 x) := by
  show StableHlo.after hostOps0 (fun b => m (c, b)) main_v1 _ = _
  simp only [hostOps0]
  after_results_simp
  refine shapeCast_apply (a1 m c) _ (ix2 0 x) (ix1 x) ?_
  rewrite [Shape.rowMajor_val_one, Shape.rowMajor_val_two]
  exact (Nat.zero_add _).symm

theorem gateW_at (c : Dev nD) (f : Fin 2816) (j : Fin 1024) : V m c main_v7 (ix2 f j) = a6 m c (ix2 j f) := by
  show StableHlo.after hostOps0 (fun b => m (c, b)) main_v7 _ = _
  simp only [hostOps0]
  after_results_simp
  rw [short_eq]
  pointwise

theorem upW_at (c : Dev nD) (f : Fin 2816) (j : Fin 1024) : V m c main_v9 (ix2 f j) = a7 m c (ix2 j f) := by
  show StableHlo.after hostOps0 (fun b => m (c, b)) main_v9 _ = _
  simp only [hostOps0]
  after_results_simp
  rw [short_eq]
  pointwise

theorem taps_at (c : Dev nD) (k : Fin 3) (f : Fin 2816) : V m c main_arg5 (ix2 k f) = a5 m c (ix2 k f) := by
  show StableHlo.after hostOps0 (fun b => m (c, b)) main_arg5 _ = _
  simp only [hostOps0]
  after_results_simp

theorem idx0 : ∀ t : Fin cfg0.N, win0_0.index t = ![t.val, 0] := (by decide +kernel : ∀ t : Fin grid0.N, _)
theorem idx1 : ∀ t : Fin cfg0.N, win0_1.index t = ![0, 0] := (by decide +kernel : ∀ t : Fin grid0.N, _)
theorem idx2 : ∀ t : Fin cfg0.N, win0_2.index t = ![t.val, 0] := (by decide +kernel : ∀ t : Fin grid0.N, _)
theorem idx3 : ∀ t : Fin cfg0.N, win0_3.index t = ![min (t.val * 32 + 32) 511, 0] := (by decide +kernel : ∀ t : Fin grid0.N, _)
theorem idx4 : ∀ t : Fin cfg0.N, win0_4.index t = ![t.val, 0] := (by decide +kernel : ∀ t : Fin grid0.N, _)
theorem idx5 : ∀ t : Fin cfg0.N, win0_5.index t = ![t.val, 0] := (by decide +kernel : ∀ t : Fin grid0.N, _)
theorem idx6 : ∀ t : Fin cfg0.N, win0_6.index t = ![0, 0] := (by decide +kernel : ∀ t : Fin grid0.N, _)
theorem idx7 : ∀ t : Fin cfg0.N, win0_7.index t = ![0, 0] := (by decide +kernel : ∀ t : Fin grid0.N, _)
theorem idx8 : ∀ t : Fin cfg0.N, win0_8.index t = ![0, 0] := (by decide +kernel : ∀ t : Fin grid0.N, _)
theorem idx9 : ∀ t : Fin cfg0.N, win0_9.index t = ![t.val, 0] := (by decide +kernel : ∀ t : Fin grid0.N, _)
theorem idx10 : ∀ t : Fin cfg0.N, win0_10.index t = ![t.val, 0] := (by decide +kernel : ∀ t : Fin grid0.N, _)
theorem idx11 : ∀ t : Fin cfg0.N, win0_11.index t = ![0, 0] := (by decide +kernel : ∀ t : Fin grid0.N, _)

/-- A block's row sits in its array at the grid point's sequence and place. -/
theorem emb0 (t : Fin cfg0.N) (r : Fin 256) (x : Fin 1024) : (win0_0.blk t).view.emb (ix2 r x) = ix2 (gr (bt t) (sq t r)) x := by
  blk_ext [idx0]
theorem emb1 (t : Fin cfg0.N) (x : Fin 1024) : (win0_1.blk t).view.emb (ix2 0 x) = ix2 0 x := by
  blk_ext [idx1]
theorem emb2 (t : Fin cfg0.N) (r : Fin 256) (f : Fin 2816) : (win0_2.blk t).view.emb (ix2 r f) = ix2 (gr (bt t) (sq t r)) f := by
  blk_ext [idx2]
theorem emb3 (t : Fin cfg0.N) (ht : ¬t.val % 8 = 7) (i : Fin 8) (f : Fin 2816) :
    (win0_3.blk t).view.emb (ix2 i f) = ix2 (gr (bt t) ⟨t.val % 8 * 256 + (256 + i.val), by omega⟩) f := by
  have := lt16 t
  blk_ext [idx3]
theorem emb4 (t : Fin cfg0.N) (r : Fin 256) (f : Fin 2816) : (win0_4.blk t).view.emb (ix2 r f) = ix2 (gr (bt t) (sq t r)) f := by
  blk_ext [idx4]
theorem emb5 (t : Fin cfg0.N) (r : Fin 256) (x : Fin 1024) : (win0_5.blk t).view.emb (ix2 r x) = ix2 (gr (bt t) (sq t r)) x := by
  blk_ext [idx5]
theorem emb6 (t : Fin cfg0.N) (k : Fin 3) (f : Fin 2816) : (win0_6.blk t).view.emb (ix2 k f) = ix2 k f := by
  blk_ext [idx6]
theorem emb7 (t : Fin cfg0.N) (f : Fin 2816) (j : Fin 1024) : (win0_7.blk t).view.emb (ix2 f j) = ix2 f j := by
  blk_ext [idx7]
theorem emb8 (t : Fin cfg0.N) (f : Fin 2816) (j : Fin 1024) : (win0_8.blk t).view.emb (ix2 f j) = ix2 f j := by
  blk_ext [idx8]
theorem emb9 (t : Fin cfg0.N) (y : S256x1024.Idx) : (win0_9.blk t).view.emb y = ix2 (gr (bt t) (sq t (y 0))) (y 1) := by
  blk_ext [idx9]
theorem emb10 (t : Fin cfg0.N) (y : S256x2816.Idx) : (win0_10.blk t).view.emb y = ix2 (gr (bt t) (sq t (y 0))) (y 1) := by
  blk_ext [idx10]
theorem emb11 (t : Fin cfg0.N) (y : S1x1024.Idx) : (win0_11.blk t).view.emb y = ix2 0 (y 1) := by
  blk_ext [idx11]

end Cert.FfnAIdeal.Arr

end
-- ==== Proof.FfnFinal.lean ====
module

public import proofs.«01_k».proof.Proof.FfnArr
public import proofs.«01_k».proof.Proof.Gen.FfnAIdeal.Value

@[expose] public section

noncomputable section

/-! The feed-forward kernel's three result arrays after the run are the reference's gradients. -/

namespace Cert.FfnAIdeal.Final

open Cert.FfnAIdeal Cert.FfnAIdeal.Gen Cert.FfnAIdeal.Value Idealize.ShloMosaic Idealize.ShloMosaic.TcCoe Idealize.SL.Sem
open Cert.FfnAIdeal.Block Cert.FfnAIdeal.Arr Cert.FfnRow Cert.FfnARefIdeal.Read Cert.FfnARefIdeal.Val

variable (m : (ℓ : Loc nD τ sig) → Buf (Elt Ideal) ℓ) (c : Dev nD) (t : Fin cfg0.N)

theorem hB_at (r : Fin 256) (x : Fin 1024) : hB m c t (ix2 r x) = a0 m c (ix3 (bt t) (sq t r) x) := by
  have hV : ∀ A : Buf (Elt Ideal) ((c.tc : Thread nD τ).loc main_v0),
      ((cfg0.win 0).blk t).view.read (Elt Ideal) A (ix2 r x) = A ((win0_0.blk t).view.emb (ix2 r x)) := fun A => rfl
  exact (hV (V m c main_v0)).trans ((congrArg _ (emb0 t r x)).trans (input_at m c _ _ x))

theorem gB_at (x : Fin 1024) : gB m c t (ix2 0 x) = a1 m c (ix1 x) := by
  have hV : ∀ A : Buf (Elt Ideal) ((c.tc : Thread nD τ).loc main_v1),
      ((cfg0.win 1).blk t).view.read (Elt Ideal) A (ix2 0 x) = A ((win0_1.blk t).view.emb (ix2 0 x)) := fun A => rfl
  exact (hV (V m c main_v1)).trans ((congrArg _ (emb1 t x)).trans (norm_at m c x))

theorem dB_at (r : Fin 256) (f : Fin 2816) : dB m c t (ix2 r f) = a2 m c (ix3 (bt t) (sq t r) f) := by
  have hV : ∀ A : Buf (Elt Ideal) ((c.tc : Thread nD τ).loc main_v2),
      ((cfg0.win 2).blk t).view.read (Elt Ideal) A (ix2 r f) = A ((win0_2.blk t).view.emb (ix2 r f)) := fun A => rfl
  exact (hV (V m c main_v2)).trans ((congrArg _ (emb2 t r f)).trans (cot_at m c _ _ f))

theorem vB_at (ht : ¬t.val % 8 = 7) (i : Fin 8) (f : Fin 2816) :
    vB m c t (ix2 i f) = a2 m c (ix3 (bt t) ⟨t.val % 8 * 256 + (256 + i.val), by omega⟩ f) := by
  have hV : ∀ A : Buf (Elt Ideal) ((c.tc : Thread nD τ).loc main_v2),
      ((cfg0.win 3).blk t).view.read (Elt Ideal) A (ix2 i f) = A ((win0_3.blk t).view.emb (ix2 i f)) := fun A => rfl
  exact (hV (V m c main_v2)).trans ((congrArg _ (emb3 t ht i f)).trans (cot_at m c _ _ f))

theorem uB_at (r : Fin 256) (f : Fin 2816) : uB m c t (ix2 r f) = a3 m c (ix3 (bt t) (sq t r) f) := by
  have hV : ∀ A : Buf (Elt Ideal) ((c.tc : Thread nD τ).loc main_v4),
      ((cfg0.win 4).blk t).view.read (Elt Ideal) A (ix2 r f) = A ((win0_4.blk t).view.emb (ix2 r f)) := fun A => rfl
  exact (hV (V m c main_v4)).trans ((congrArg _ (emb4 t r f)).trans (up_at m c _ _ f))

theorem rB_at (r : Fin 256) (x : Fin 1024) : rB m c t (ix2 r x) = a4 m c (ix3 (bt t) (sq t r) x) := by
  have hV : ∀ A : Buf (Elt Ideal) ((c.tc : Thread nD τ).loc main_v5),
      ((cfg0.win 5).blk t).view.read (Elt Ideal) A (ix2 r x) = A ((win0_5.blk t).view.emb (ix2 r x)) := fun A => rfl
  exact (hV (V m c main_v5)).trans ((congrArg _ (emb5 t r x)).trans (res_at m c _ _ x))

theorem wB_at (k : Fin 3) (f : Fin 2816) : wB m c t (ix2 k f) = a5 m c (ix2 k f) := by
  have hV : ∀ A : Buf (Elt Ideal) ((c.tc : Thread nD τ).loc main_arg5),
      ((cfg0.win 6).blk t).view.read (Elt Ideal) A (ix2 k f) = A ((win0_6.blk t).view.emb (ix2 k f)) := fun A => rfl
  exact (hV (V m c main_arg5)).trans ((congrArg _ (emb6 t k f)).trans (taps_at m c k f))

theorem wgB_at (f : Fin 2816) (j : Fin 1024) : wgB m c t (ix2 f j) = a6 m c (ix2 j f) := by
  have hV : ∀ A : Buf (Elt Ideal) ((c.tc : Thread nD τ).loc main_v7),
      ((cfg0.win 7).blk t).view.read (Elt Ideal) A (ix2 f j) = A ((win0_7.blk t).view.emb (ix2 f j)) := fun A => rfl
  exact (hV (V m c main_v7)).trans ((congrArg _ (emb7 t f j)).trans (gateW_at m c f j))

theorem wuB_at (f : Fin 2816) (j : Fin 1024) : wuB m c t (ix2 f j) = a7 m c (ix2 j f) := by
  have hV : ∀ A : Buf (Elt Ideal) ((c.tc : Thread nD τ).loc main_v9),
      ((cfg0.win 8).blk t).view.read (Elt Ideal) A (ix2 f j) = A ((win0_8.blk t).view.emb (ix2 f j)) := fun A => rfl
  exact (hV (V m c main_v9)).trans ((congrArg _ (emb8 t f j)).trans (upW_at m c f j))

/-- The buffer's rows are the sequence's, with zeros past its end. -/
theorem below_at (n : ℕ) (hn : n < 264) (f : Fin 2816) : below (dB m c t) (halo t (vB m c t)) n hn f
    = past (fun s => a2 m c (ix3 (bt t) s f)) (t.val % 8 * 256 + n) := by
  have := lt16 t
  unfold below past halo
  by_cases h : n < 256
  · rw [dif_pos h, dif_pos (by omega)]
    exact dB_at m c t _ f
  · rw [dif_neg h]
    by_cases ht : t.val % 8 = 7
    · rw [if_pos ht, dif_neg (by omega)]
    · rw [if_neg ht, dif_pos (by omega), vB_at m c t ht]
      congr 2
      exact Fin.ext (by show t.val % 8 * 256 + (256 + (n - 256)) = t.val % 8 * 256 + n; omega)

theorem past_at (d : Fin 2048 → EReal) (s : Fin 2048) : past d s.val = d s := dif_pos s.isLt

theorem gate_eq (r : Fin 256) (f : Fin 2816) :
    Block.gate m c t r f = Cert.FfnARefIdeal.Val.gate (a2 m c) (a5 m c) (bt t) (sq t r) f := by
  unfold Block.gate Cert.FfnARefIdeal.Val.gate
  rw [below_at, below_at, dB_at, past_at]
  simp only [wB_at]
  congr 2
  · omega
  · omega

theorem normed_eq (r : Fin 256) (j : Fin 1024) : Block.normed m c t r j
    = Cert.FfnARefIdeal.Val.normed (a2 m c) (a3 m c) (a5 m c) (a6 m c) (a7 m c) (bt t) (sq t r) j := by
  unfold Block.normed Cert.FfnARefIdeal.Val.normed back
  simp only [gate_eq, uB_at, wgB_at, wuB_at]

theorem row_eq (r : Fin 256) (j : Fin 1024) :
    row (fun x => hB m c t (ix2 r x)) (fun x => gB m c t (ix2 0 x)) (Block.normed m c t r) (fun x => rB m c t (ix2 r x)) j
      = row (fun x => a0 m c (ix3 (bt t) (sq t r) x)) (fun x => a1 m c (ix1 x))
        (Cert.FfnARefIdeal.Val.normed (a2 m c) (a3 m c) (a5 m c) (a6 m c) (a7 m c) (bt t) (sq t r)) (fun x => a4 m c (ix3 (bt t) (sq t r) x)) j := by
  unfold row through
  simp only [hB_at, gB_at, rB_at, normed_eq]

/-- A row's part of the scale's gradient. -/
abbrev part (j : Fin 1024) (b : Fin 2) (s : Fin 2048) : EReal :=
  scale (fun x => a0 m c (ix3 b s x)) (Cert.FfnARefIdeal.Val.normed (a2 m c) (a3 m c) (a5 m c) (a6 m c) (a7 m c) b s) j

theorem share_eq (j : Fin 1024) : share m c t j = ∑ r : Fin 256, part m c j (bt t) (sq t r) := by
  unfold share part scale
  simp only [hB_at, normed_eq]

/-- Cutting a point's block out of `X` gives the block of `G` when `X` is `G` at the block's place. -/
theorem cut9 (X : Vec Ideal S256x1024 .f32) (G : S4096x1024.Idx → EReal) (h : ∀ y, X y = G ((win0_9.blk t).view.emb y)) :
    (cfg0.win 9).cut (grid0.coords t) X = ((cfg0.win 9).blk t).view.read (Elt Ideal) G :=
  funext fun y => h y
theorem cut10 (X : Vec Ideal S256x2816 .bf16) (G : S4096x2816.Idx → EReal) (h : ∀ y, X y = G ((win0_10.blk t).view.emb y)) :
    (cfg0.win 10).cut (grid0.coords t) X = ((cfg0.win 10).blk t).view.read (Elt Ideal) G :=
  funext fun y => h y
theorem cut11 (X : Vec Ideal S1x1024 .f32) (G : S1x1024.Idx → EReal) (h : ∀ y, X y = G ((win0_11.blk t).view.emb y)) :
    (cfg0.win 11).cut (grid0.coords t) X = ((cfg0.win 11).blk t).view.read (Elt Ideal) G :=
  funext fun y => h y

/-- Every index of a result lies in the block of some grid point that is written back. -/
theorem covers9 : (cfg0.win 9).Covers := by decide +kernel
theorem covers10 : (cfg0.win 10).Covers := by decide +kernel
theorem covers11 : (cfg0.win 11).Covers := by decide +kernel

/-- The scale's gradient is written back after the last point only. -/
theorem last11 : ∀ t : Fin cfg0.N, (cfg0.win 11).flush t = true → t.val + 1 = cfg0.N :=
  (by decide +kernel : ∀ t : Fin grid0.N, _)

/-- A block index by its row and column. -/
theorem row_col {a b : ℕ} (y : (⟨2, ![a, b]⟩ : Shape).Idx) : y = ix2 (y 0) (y 1) := by
  funext a
  match a with
  | ⟨0, _⟩ => rfl
  | ⟨1, _⟩ => rfl

theorem col_only (y : S1x1024.Idx) : y = ix2 0 (y 1) := by
  funext a
  match a with
  | ⟨0, _⟩ => exact Fin.ext (by have h := (y 0).isLt; exact Nat.lt_one_iff.mp h)
  | ⟨1, _⟩ => rfl

/-- The array of input gradients after the run. -/
theorem inputs : (dats m 0 c).arrAt 9 cfg0.N
    = val_main_v85 (F := Ideal) (a0 m c) (a1 m c) (a2 m c) (a3 m c) (a4 m c) (a5 m c) (a6 m c) (a7 m c) := by
  refine (dats m 0 c).arrAt_eq_of_cover 9 _ (fun t _ => ?_) (Pipeline.Window.Covers.cover _ covers9 (Memref.isWhole_whole _))
  rw [flushed9]
  refine cut9 t _ _ fun y => ?_
  rw [emb9]
  exact (congrArg _ (row_col y)).trans ((row_block m c t (y 0) (y 1)).trans ((row_eq m c t (y 0) (y 1)).trans
    ((flat_at _ _ (bt t) (sq t (y 0)) (y 1)).trans (row_at _ _ _ _ _ _ _ _ _ _ _)).symm))

/-- The array of gate gradients after the run. -/
theorem gates : (dats m 0 c).arrAt 10 cfg0.N = val_main_v87 (F := Ideal) (a2 m c) (a5 m c) := by
  refine (dats m 0 c).arrAt_eq_of_cover 10 _ (fun t _ => ?_) (Pipeline.Window.Covers.cover _ covers10 (Memref.isWhole_whole _))
  rw [flushed10]
  refine cut10 t _ _ fun y => ?_
  rw [emb10]
  exact (congrArg _ (row_col y)).trans ((gate_block m c t (y 0) (y 1)).trans ((gate_eq m c t (y 0) (y 1)).trans
    ((flat_at _ _ (bt t) (sq t (y 0)) (y 1)).trans (gate_at _ _ _ _ _)).symm))

/-- The points' shares add up to the sum over both sequences' rows. -/
theorem sum_points (F : Fin 2 → Fin 2048 → EReal) : ∑ t : Fin cfg0.N, ∑ r : Fin 256, F (bt t) (sq t r) = ∑ b : Fin 2, ∑ s : Fin 2048, F b s := by
  let e : Fin cfg0.N × Fin 256 ≃ Fin 2 × Fin 2048 :=
    { toFun := fun p => (bt p.1, sq p.1 p.2)
      invFun := fun q => (⟨q.1.val * 8 + q.2.val / 256, by show _ < 16; omega⟩, ⟨q.2.val % 256, Nat.mod_lt _ (by decide)⟩)
      left_inv := fun p => by
        have := lt16 p.1
        refine Prod.ext (Fin.ext ?_) (Fin.ext ?_)
        · show p.1.val / 8 * 8 + (p.1.val % 8 * 256 + p.2.val) / 256 = p.1.val; omega
        · show (p.1.val % 8 * 256 + p.2.val) % 256 = p.2.val; omega
      right_inv := fun q => by
        refine Prod.ext (Fin.ext ?_) (Fin.ext ?_)
        · show (q.1.val * 8 + q.2.val / 256) / 8 = q.1.val; omega
        · show (q.1.val * 8 + q.2.val / 256) % 8 * 256 + q.2.val % 256 = q.2.val; omega }
  rw [← Fintype.sum_prod_type', ← Fintype.sum_prod_type']
  exact Fintype.sum_equiv e _ _ fun _ => rfl

/-- What the last point leaves of the scale's gradient. -/
theorem scale_last (ht : t.val + 1 = cfg0.N) (j : Fin 1024) : (outsAt0 m c t.val t.isLt).2.2 (ix2 0 j) = ∑ b : Fin 2, ∑ s : Fin 2048, part m c j b s := by
  have h := Pipeline.eq_sum_fin_of_reset_step_apply_last (fun n h (j : Fin 1024) => (outsAt0 m c n h).2.2 (ix2 0 j)) 16 (fun _ => (0 : EReal)) (share m c)
    (fun t h0 j => (scale_first m c t h0 (by have := lt16 t; omega) j).trans (zero_add _).symm)
    (fun t h0 j => scale_next m c t h0 (by omega) j) (by decide) t ht j
  refine h.trans ((zero_add _).trans ?_)
  rw [← sum_points]
  exact Finset.sum_congr rfl fun t _ => share_eq m c t j

/-- The scale's gradient after the run. -/
theorem scales : (dats m 0 c).arrAt 11 cfg0.N = val_main_v88 (F := Ideal) (a0 m c) (a2 m c) (a3 m c) (a5 m c) (a6 m c) (a7 m c) := by
  refine (dats m 0 c).arrAt_eq_of_cover 11 _ (fun t hf => ?_) (Pipeline.Window.Covers.cover _ covers11 (Memref.isWhole_whole _))
  rw [flushed11]
  refine cut11 t _ _ fun y => ?_
  rw [emb11]
  exact (congrArg _ (col_only y)).trans ((scale_last m c t (last11 t hf) (y 1)).trans (scale_at _ _ _ _ _ _ (y 1)).symm)

end Cert.FfnAIdeal.Final

end
-- ==== Proof.FfnCFinal.lean ====
module

public import proofs.«01_k».proof.Proof.FfnCBlock
public import proofs.«01_k».proof.Proof.FfnFinal

@[expose] public section

noncomputable section

/-! The feed-forward's first kernel: its blocks in the arguments, and its three arrays after the run are the reference's. -/

namespace Cert.FfnCIdeal.Final

open Cert.FfnCIdeal Cert.FfnCIdeal.Gen Cert.FfnCIdeal.Value Idealize.ShloMosaic Idealize.ShloMosaic.TcCoe Idealize.SL.Sem
open Cert.FfnCIdeal.Block Cert.FfnCRefIdeal.Read Cert.FfnCRefIdeal.Val
open Cert.FfnAIdeal.Arr (gr flat_at short_eq)

variable (m : (ℓ : Loc nD τ sig) → Buf (Elt Ideal) ℓ) (c : Dev nD) (t : Fin cfg0.N)

theorem lt8 (t : Fin cfg0.N) : t.val < 8 := t.isLt

/-- A grid point's sequence, the place of a block's row in it, its half of the columns and a column in that half. -/
abbrev bt (t : Fin cfg0.N) : Fin 2 := ⟨t.val % 4 / 2, by omega⟩
@[inherit_doc bt] abbrev sq (t : Fin cfg0.N) (r : Fin 1024) : Fin 2048 := ⟨t.val % 2 * 1024 + r.val, by omega⟩
@[inherit_doc bt] abbrev hf (t : Fin cfg0.N) : Fin 2 := ⟨t.val / 4, by have := lt8 t; omega⟩
@[inherit_doc bt] abbrev cl (t : Fin cfg0.N) (f : Fin 1408) : Fin 2816 := ⟨t.val / 4 * 1408 + f.val, by have := lt8 t; omega⟩

abbrev a0 (c : Dev nD) : S2x2048x1024.Idx → EReal := m ((c.tc : Thread nD τ).loc main_arg0)
abbrev a1 (c : Dev nD) : S1024.Idx → EReal := m ((c.tc : Thread nD τ).loc main_arg1)
abbrev a2 (c : Dev nD) : S1024x2816.Idx → EReal := m ((c.tc : Thread nD τ).loc main_arg2)
abbrev a3 (c : Dev nD) : S1024x2816.Idx → EReal := m ((c.tc : Thread nD τ).loc main_arg3)

theorem input_at (b : Fin 2) (s : Fin 2048) (x : Fin 1024) : V m c main_v0 (ix2 (gr b s) x) = a0 m c (ix3 b s x) := by
  show StableHlo.after hostOps0 (fun b => m (c, b)) main_v0 _ = _
  simp only [hostOps0]
  after_results_simp
  exact flat_at _ _ b s x

theorem norm_at (x : Fin 1024) : V m c main_v1 (ix2 0 x) = a1 m c (ix1 x) := by
  show StableHlo.after hostOps0 (fun b => m (c, b)) main_v1 _ = _
  simp only [hostOps0]
  after_results_simp
  pointwise

theorem gateW_at (f : Fin 2816) (j : Fin 1024) : V m c main_v3 (ix2 f j) = a2 m c (ix2 j f) := by
  show StableHlo.after hostOps0 (fun b => m (c, b)) main_v3 _ = _
  simp only [hostOps0]
  after_results_simp
  rw [short_eq]
  pointwise

theorem upW_at (f : Fin 2816) (j : Fin 1024) : V m c main_v5 (ix2 f j) = a3 m c (ix2 j f) := by
  show StableHlo.after hostOps0 (fun b => m (c, b)) main_v5 _ = _
  simp only [hostOps0]
  after_results_simp
  rw [short_eq]
  pointwise

theorem idx0 : ∀ t : Fin cfg0.N, win0_0.index t = ![t.val % 4, 0] := (by decide +kernel : ∀ t : Fin grid0.N, _)
theorem idx1 : ∀ t : Fin cfg0.N, win0_1.index t = ![0, 0] := (by decide +kernel : ∀ t : Fin grid0.N, _)
theorem idx2 : ∀ t : Fin cfg0.N, win0_2.index t = ![t.val / 4, 0] := (by decide +kernel : ∀ t : Fin grid0.N, _)
theorem idx3 : ∀ t : Fin cfg0.N, win0_3.index t = ![t.val / 4, 0] := (by decide +kernel : ∀ t : Fin grid0.N, _)
theorem idx4 : ∀ t : Fin cfg0.N, win0_4.index t = ![t.val % 4, t.val / 4] := (by decide +kernel : ∀ t : Fin grid0.N, _)
theorem idx5 : ∀ t : Fin cfg0.N, win0_5.index t = ![t.val % 4, t.val / 4] := (by decide +kernel : ∀ t : Fin grid0.N, _)
theorem idx6 : ∀ t : Fin cfg0.N, win0_6.index t = ![t.val / 4, t.val % 4, 0] := (by decide +kernel : ∀ t : Fin grid0.N, _)

/-- A block's entry sits in its array at the grid point's rows and columns. -/
theorem emb0 (r x : Fin 1024) : (win0_0.blk t).view.emb (ix2 r x) = ix2 (gr (bt t) (sq t r)) x := by blk_ext [idx0]
theorem emb1 (x : Fin 1024) : (win0_1.blk t).view.emb (ix2 0 x) = ix2 0 x := by blk_ext [idx1]
theorem emb2 (f : Fin 1408) (j : Fin 1024) : (win0_2.blk t).view.emb (ix2 f j) = ix2 (cl t f) j := by blk_ext [idx2]
theorem emb3 (f : Fin 1408) (j : Fin 1024) : (win0_3.blk t).view.emb (ix2 f j) = ix2 (cl t f) j := by blk_ext [idx3]
theorem emb4 (y : S1024x1408.Idx) : (win0_4.blk t).view.emb y = ix2 (gr (bt t) (sq t (y 0))) (cl t (y 1)) := by blk_ext [idx4]
theorem emb5 (y : S1024x1408.Idx) : (win0_5.blk t).view.emb y = ix2 (gr (bt t) (sq t (y 0))) (cl t (y 1)) := by blk_ext [idx5]
theorem emb6 (y : S1x1024x1024.Idx) : (win0_6.blk t).view.emb y = ix3 (hf t) (gr (bt t) (sq t (y 1))) (y 2) := by
  have h0 : (y 0).val = 0 := Nat.lt_one_iff.mp (y 0).isLt
  blk_ext [idx6]

/-- A grid point's blocks: the input, the norm's scale and the two weights. -/
abbrev hB : M 1024 1024 := iblk m c 0 t
@[inherit_doc hB] abbrev gB : M 1 1024 := iblk m c 1 t
@[inherit_doc hB] abbrev wgB : M 1408 1024 := iblk m c 2 t
@[inherit_doc hB] abbrev wuB : M 1408 1024 := iblk m c 3 t

theorem hB_at (r x : Fin 1024) : hB m c t (ix2 r x) = a0 m c (ix3 (bt t) (sq t r) x) := by
  have hV : ∀ A : Buf (Elt Ideal) ((c.tc : Thread nD τ).loc main_v0),
      ((cfg0.win 0).blk t).view.read (Elt Ideal) A (ix2 r x) = A ((win0_0.blk t).view.emb (ix2 r x)) := fun A => rfl
  exact (hV (V m c main_v0)).trans ((congrArg _ (emb0 t r x)).trans (input_at m c _ _ x))

theorem gB_at (x : Fin 1024) : gB m c t (ix2 0 x) = a1 m c (ix1 x) := by
  have hV : ∀ A : Buf (Elt Ideal) ((c.tc : Thread nD τ).loc main_v1),
      ((cfg0.win 1).blk t).view.read (Elt Ideal) A (ix2 0 x) = A ((win0_1.blk t).view.emb (ix2 0 x)) := fun A => rfl
  exact (hV (V m c main_v1)).trans ((congrArg _ (emb1 t x)).trans (norm_at m c x))

theorem wgB_at (f : Fin 1408) (j : Fin 1024) : wgB m c t (ix2 f j) = a2 m c (ix2 j (cl t f)) := by
  have hV : ∀ A : Buf (Elt Ideal) ((c.tc : Thread nD τ).loc main_v3),
      ((cfg0.win 2).blk t).view.read (Elt Ideal) A (ix2 f j) = A ((win0_2.blk t).view.emb (ix2 f j)) := fun A => rfl
  exact (hV (V m c main_v3)).trans ((congrArg _ (emb2 t f j)).trans (gateW_at m c _ j))

theorem wuB_at (f : Fin 1408) (j : Fin 1024) : wuB m c t (ix2 f j) = a3 m c (ix2 j (cl t f)) := by
  have hV : ∀ A : Buf (Elt Ideal) ((c.tc : Thread nD τ).loc main_v5),
      ((cfg0.win 3).blk t).view.read (Elt Ideal) A (ix2 f j) = A ((win0_3.blk t).view.emb (ix2 f j)) := fun A => rfl
  exact (hV (V m c main_v5)).trans ((congrArg _ (emb3 t f j)).trans (upW_at m c _ j))

/-- Cutting a point's block out of `X` gives the block of `G` when `X` is `G` at the block's place. -/
theorem cut4 (X : Vec Ideal S1024x1408 .f32) (G : S4096x2816.Idx → EReal) (h : ∀ y, X y = G ((win0_4.blk t).view.emb y)) :
    (cfg0.win 4).cut (grid0.coords t) X = ((cfg0.win 4).blk t).view.read (Elt Ideal) G :=
  funext fun y => h y
theorem cut5 (X : Vec Ideal S1024x1408 .f32) (G : S4096x2816.Idx → EReal) (h : ∀ y, X y = G ((win0_5.blk t).view.emb y)) :
    (cfg0.win 5).cut (grid0.coords t) X = ((cfg0.win 5).blk t).view.read (Elt Ideal) G :=
  funext fun y => h y
theorem cut6 (X : Vec Ideal S1x1024x1024 .bf16) (G : S2x4096x1024.Idx → EReal) (h : ∀ y, X y = G ((win0_6.blk t).view.emb y)) :
    (cfg0.win 6).cut (grid0.coords t) X = ((cfg0.win 6).blk t).view.read (Elt Ideal) G :=
  funext fun y => h y

/-- Every index of a result lies in the block of some grid point that is written back. -/
theorem covers4 : (cfg0.win 4).Covers := by decide +kernel
theorem covers5 : (cfg0.win 5).Covers := by decide +kernel
theorem covers6 : (cfg0.win 6).Covers := by decide +kernel

/-- A block index with one page. -/
theorem page {a b : ℕ} (y : (⟨3, ![1, a, b]⟩ : Shape).Idx) : y = ix3 0 (y 1) (y 2) := by
  funext a
  match a with
  | ⟨0, _⟩ => exact Fin.ext (Nat.lt_one_iff.mp (y 0).isLt)
  | ⟨1, _⟩ => rfl
  | ⟨2, _⟩ => rfl

theorem gate_block (r : Fin 1024) (f : Fin 1408) : out0_4 (F := Ideal) (hB m c t) (gB m c t) (wgB m c t) (wuB m c t) (ix2 r f)
    = val_main_v16 (F := Ideal) (a0 m c) (a1 m c) (a2 m c) (ix2 (gr (bt t) (sq t r)) (cl t f)) := by
  rw [out4]
  simp only [hB_at, gB_at, wgB_at]
  exact ((flat_at _ _ (bt t) (sq t r) (cl t f)).trans (gate_at _ _ _ _ _ _)).symm

theorem up_block (r : Fin 1024) (f : Fin 1408) : out0_5 (F := Ideal) (hB m c t) (gB m c t) (wgB m c t) (wuB m c t) (ix2 r f)
    = val_main_v18 (F := Ideal) (a0 m c) (a1 m c) (a3 m c) (ix2 (gr (bt t) (sq t r)) (cl t f)) := by
  rw [out5]
  simp only [hB_at, gB_at, wuB_at]
  exact ((flat_at _ _ (bt t) (sq t r) (cl t f)).trans (up_at _ _ _ _ _ _)).symm

theorem copy_block (r j : Fin 1024) : out0_6 (F := Ideal) (hB m c t) (gB m c t) (wgB m c t) (wuB m c t) (ix3 0 r j)
    = val_main_v21 (F := Ideal) (a0 m c) (a1 m c) (ix3 (hf t) (gr (bt t) (sq t r)) j) := by
  rw [out6, copy_at]
  simp only [hB_at, gB_at]
  exact ((flat_at _ _ (bt t) (sq t r) j).trans (unit_at _ _ _ _ _)).symm

/-- The gate's array after the run. -/
theorem gates : (dats m 0 c).arrAt 4 cfg0.N = val_main_v16 (F := Ideal) (a0 m c) (a1 m c) (a2 m c) := by
  refine (dats m 0 c).arrAt_eq_of_cover 4 _ (fun t _ => ?_) (Pipeline.Window.Covers.cover _ covers4 (Memref.isWhole_whole _))
  rw [flushed4]
  refine cut4 t _ _ fun y => ?_
  rw [emb4]
  exact (congrArg _ (Cert.FfnAIdeal.Final.row_col y)).trans (gate_block m c t (y 0) (y 1))

/-- The up projection's array after the run. -/
theorem ups : (dats m 0 c).arrAt 5 cfg0.N = val_main_v18 (F := Ideal) (a0 m c) (a1 m c) (a3 m c) := by
  refine (dats m 0 c).arrAt_eq_of_cover 5 _ (fun t _ => ?_) (Pipeline.Window.Covers.cover _ covers5 (Memref.isWhole_whole _))
  rw [flushed5]
  refine cut5 t _ _ fun y => ?_
  rw [emb5]
  exact (congrArg _ (Cert.FfnAIdeal.Final.row_col y)).trans (up_block m c t (y 0) (y 1))

/-- The two copies of the normed input after the run. -/
theorem copies : (dats m 0 c).arrAt 6 cfg0.N = val_main_v21 (F := Ideal) (a0 m c) (a1 m c) := by
  refine (dats m 0 c).arrAt_eq_of_cover 6 _ (fun t _ => ?_) (Pipeline.Window.Covers.cover _ covers6 (Memref.isWhole_whole _))
  rw [flushed6]
  refine cut6 t _ _ fun y => ?_
  rw [emb6]
  exact (congrArg _ (page y)).trans (copy_block m c t (y 1) (y 2))

end Cert.FfnCIdeal.Final

end
-- ==== Proof.SguRow.lean ====
module

public import Idealize.ShloMosaic.Lib.Pointwise
public import proofs.«01_k».proof.Proof.FfnRow

@[expose] public section

noncomputable section

/-! The spatial gating's gradient over one chunk of 128 rows: the normed row's product, the tanh form of the gelu and its
derivative, the layer norm of the second half, the mix of the chunk's rows group by group, and all of it taken back. -/

namespace Cert.SguRow

open Idealize.ShloMosaic Cert.FfnRow

/-- The call's weights: the norm's scale, the product's matrix, the layer norm's scale and shift, the mixing matrices and
their shifts, and the last product's matrix. -/
structure Wt where
  cn : Fin 1024 → EReal
  win : Fin 1024 → Fin 2048 → EReal
  lg : Fin 1024 → EReal
  lb : Fin 1024 → EReal
  ws : Fin 8 → Fin 128 → Fin 128 → EReal
  bs : Fin 8 → Fin 128 → EReal
  wout : Fin 1024 → Fin 1024 → EReal

/-- The tanh of the gelu, the factor it makes, the gelu, and the gelu's derivative times a cotangent. -/
def th (x : EReal) : EReal := Ideal.tanh (Ideal.ofBits .f32 0x3F4C422A#32 * (x + Ideal.ofBits .f32 0x3D372713#32 * (x * (x * x))))
def fac (x : EReal) : EReal := Ideal.ofBits .f32 0x3F000000#32 * (1 + th x)
def gelu (x : EReal) : EReal := x * fac x
def inner (x y : EReal) : EReal := Ideal.ofBits .f32 0x3F4C422A#32 * (Ideal.ofBits .f32 0x3F000000#32 * (x * y)
  * ((1 + th x) * (1 - th x)))
def dgelu (x y : EReal) : EReal := y * fac x + inner x y
  + Ideal.ofBits .f32 0x3D372713#32 * inner x y * (Ideal.ofBits .f32 0x40400000#32 * (x * x))

/-- A lane's group, and a lane of the first or second half of the product. -/
def grp (j : Fin 1024) : Fin 8 := ⟨j.val / 128, by omega⟩
def fst (j : Fin 1024) : Fin 2048 := ⟨j.val, by omega⟩
def snd (j : Fin 1024) : Fin 2048 := ⟨1024 + j.val, by omega⟩

/-- An entry of a mixing matrix: nothing above the diagonal. -/
def low (r k : Fin 128) (x : EReal) : EReal := if k.val ≤ r.val then x else 0

/-- A row less its mean. -/
def cent (a : Fin 1024 → EReal) (j : Fin 1024) : EReal := a j - Ideal.div (∑ x, a x) (Ideal.ofBits .f32 0x44800000#32)

/-- The normalised row's gradient, before the mean's part. -/
def lnb (a g y : Fin 1024 → EReal) (j : Fin 1024) : EReal := y j * g j * inv a + a j * through a g y + through a g y * a j
def lnd (a g y : Fin 1024 → EReal) (j : Fin 1024) : EReal :=
  lnb a g y j + Ideal.div (∑ x, (0 - lnb a g y x)) (Ideal.ofBits .f32 0x44800000#32)

variable (w : Wt)

def nrm (h : Fin 1024 → EReal) (j : Fin 1024) : EReal := h j * inv h * w.cn j
def z (h : Fin 1024 → EReal) (k : Fin 2048) : EReal := ∑ x, nrm w h x * w.win x k
def u (h : Fin 1024 → EReal) (j : Fin 1024) : EReal := gelu (z w h (fst j))
def xc (h : Fin 1024 → EReal) : Fin 1024 → EReal := cent fun j => gelu (z w h (snd j))
def vn (h : Fin 1024 → EReal) (j : Fin 1024) : EReal := xc w h j * inv (xc w h) * w.lg j + w.lb j
def dus (d : Fin 1024 → EReal) (j : Fin 1024) : EReal := ∑ k, d k * w.wout j k
def ds (h d : Fin 1024 → EReal) (j : Fin 1024) : EReal := dus w d j * u w h j

variable (H D : Fin 128 → Fin 1024 → EReal)

def s (r : Fin 128) (j : Fin 1024) : EReal := ∑ k, low r k (w.ws (grp j) r k) * vn w (H k) j + w.bs (grp j) r
def us (r : Fin 128) (j : Fin 1024) : EReal := u w (H r) j * s w H r j
def dvn (k : Fin 128) (j : Fin 1024) : EReal := ∑ r, low r k (w.ws (grp j) r k) * ds w (H r) (D r) j
def dzu (r : Fin 128) (j : Fin 1024) : EReal := dgelu (z w (H r) (fst j)) (dus w (D r) j * s w H r j)
def dzv (r : Fin 128) (j : Fin 1024) : EReal := dgelu (z w (H r) (snd j)) (lnd (xc w (H r)) w.lg (dvn w H D r) j)
def dz (r : Fin 128) (k : Fin 2048) : EReal := if h : k.val < 1024 then dzu w H D r ⟨k.val, h⟩ else dzv w H D r ⟨k.val - 1024, by omega⟩
def y (r : Fin 128) (j : Fin 1024) : EReal := ∑ k, dz w H D r k * w.win j k
def dh (r : Fin 128) (j : Fin 1024) : EReal := row (H r) w.cn (y w H D r) (D r) j

/-- One chunk's share of the gradients of the weights. -/
def dcn (j : Fin 1024) : EReal := ∑ r, scale (H r) (y w H D r) j
def dwin (x : Fin 1024) (k : Fin 2048) : EReal := ∑ r, nrm w (H r) x * dz w H D r k
def dlg (j : Fin 1024) : EReal := ∑ r, scale (xc w (H r)) (dvn w H D r) j
def dlb (j : Fin 1024) : EReal := ∑ r, dvn w H D r j
def lane (g : Fin 8) (c : Fin 128) : Fin 1024 := ⟨128 * g.val + c.val, by omega⟩
def dws (g : Fin 8) (r k : Fin 128) : EReal := ∑ c, ds w (H r) (D r) (lane g c) * vn w (H k) (lane g c)
def dbs (g : Fin 8) (r : Fin 128) : EReal := ∑ c, ds w (H r) (D r) (lane g c)
def dwout (j k : Fin 1024) : EReal := ∑ r, us w H r j * D r k

end Cert.SguRow

end
-- ==== Proof.SguRef.lean ====
module

public import proofs.«01_k».proof.Proof.Gen.SguRefIdeal.Read
public import proofs.«01_k».proof.Proof.SguRow
public import Idealize.ShloMosaic.Lib.WordCmp

@[expose] public section

noncomputable section

/-! The derivative of the gated mixer's forward lines, entry by entry. -/

namespace Cert.SguRefIdeal.Val

open Cert.SguRefIdeal Cert.SguRefIdeal.Gen Cert.SguRefIdeal.Read Idealize.ShloMosaic Idealize.ShloMosaic.TcCoe Idealize.SL.Sem Cert.FfnRow Cert.SguRow

variable (x0 x1 : S2x2048x1024.Idx → EReal) (x2 : S1024.Idx → EReal) (x3 : S1024x2048.Idx → EReal) (x4 x5 : S1024.Idx → EReal)
  (x6 : S8x128x128.Idx → EReal) (x7 : S8x128.Idx → EReal) (x8 : S1024x1024.Idx → EReal)

/-- A row by its chunk and its place in it. -/
def at16 (N : Fin 16) (r : Fin 128) : Fin 2048 := ⟨N.val * 128 + r.val, by omega⟩

/-- The weights, a row, and a chunk. -/
def W : Wt where
  cn x := x2 (ix1 x)
  win x k := x3 (ix2 x k)
  lg x := x4 (ix1 x)
  lb x := x5 (ix1 x)
  ws g r k := x6 (ix3 g r k)
  bs g r := x7 (ix2 g r)
  wout j k := x8 (ix2 j k)
def chunk (x : S2x2048x1024.Idx → EReal) (b : Fin 2) (N : Fin 16) (r : Fin 128) (j : Fin 1024) : EReal := x (ix3 b (at16 N r) j)

section
variable (b : Fin 2) (N : Fin 16) (r : Fin 128)

theorem inv_at : val_main_v7 (F := Ideal) x0 (ix3 b (at16 N r) 0) = inv (chunk x0 b N r) := by
  pointwise [val_main_v7, val_main_v6, val_main_v5, val_main_v4, val_main_v3, val_main_v2, val_main_v1, val_main_v0, val_main_cst, val_main_cst_0, val_main_cst_1]
  rfl
theorem slope_at : val_main_v10 (F := Ideal) x0 (ix3 b (at16 N r) 0) = slope (chunk x0 b N r) := by
  pointwise [val_main_v10, val_main_v9, val_main_v8, val_main_cst_2, val_main_v7, val_main_v6, val_main_v5, val_main_v4, val_main_v3, val_main_v2, val_main_v1, val_main_v0, val_main_cst, val_main_cst_0, val_main_cst_1]
  rfl

theorem nrm_at (j : Fin 1024) : val_main_v15 (F := Ideal) x0 x2 (ix3 b (at16 N r) j) = nrm (W x2 x3 x4 x5 x6 x7 x8) (chunk x0 b N r) j := by
  pointwise [val_main_v15, val_main_v14, val_main_v13, val_main_v12, val_main_v11]
  rw [inv_at]
  rfl

theorem z_at (k : Fin 2048) : val_main_v16 (F := Ideal) x0 x2 x3 (ix3 b (at16 N r) k) = z (W x2 x3 x4 x5 x6 x7 x8) (chunk x0 b N r) k := by
  pointwise [val_main_v16]
  simp only [nrm_at x0 x2 x3 x4 x5 x6 x7 x8]
  rfl

/-- The gelu's pieces at one place. -/
theorem th_at (i : S2x2048x2048.Idx) : val_main_v27 (F := Ideal) x0 x2 x3 i = th (val_main_v16 (F := Ideal) x0 x2 x3 i) := by
  pointwise [val_main_v27, val_main_v26, val_main_v25, val_main_v24, val_main_v23, val_main_v22, val_main_v18, val_main_v17, val_main_cst_4, val_main_cst_5]
  unfold th
  rw [mul_comm (val_main_v16 (F := Ideal) x0 x2 x3 i * val_main_v16 (F := Ideal) x0 x2 x3 i)]
theorem fac_at (i : S2x2048x2048.Idx) : val_main_v36 (F := Ideal) x0 x2 x3 i = fac (val_main_v16 (F := Ideal) x0 x2 x3 i) := by
  pointwise [val_main_v36, val_main_v35, val_main_v34, val_main_v33, val_main_cst_8, val_main_cst_9]
  rw [th_at]
  rfl
theorem gelu_at (i : S2x2048x2048.Idx) : val_main_v37 (F := Ideal) x0 x2 x3 i = gelu (val_main_v16 (F := Ideal) x0 x2 x3 i) := by
  pointwise [val_main_v37]
  rw [fac_at]
  rfl

theorem u_at (j : Fin 1024) : val_main_v38 (F := Ideal) x0 x2 x3 (ix3 b (at16 N r) j) = u (W x2 x3 x4 x5 x6 x7 x8) (chunk x0 b N r) j := by
  pointwise [val_main_v38]
  rw [gelu_at]
  exact congrArg gelu (z_at x0 x2 x3 x4 x5 x6 x7 x8 b N r (fst j))
theorem v_at (j : Fin 1024) : val_main_v39 (F := Ideal) x0 x2 x3 (ix3 b (at16 N r) j) = gelu (z (W x2 x3 x4 x5 x6 x7 x8) (chunk x0 b N r) (snd j)) := by
  pointwise [val_main_v39]
  rw [gelu_at]
  exact congrArg gelu (z_at x0 x2 x3 x4 x5 x6 x7 x8 b N r (snd j))

theorem xc_at (j : Fin 1024) : val_main_v45 (F := Ideal) x0 x2 x3 (ix3 b (at16 N r) j) = xc (W x2 x3 x4 x5 x6 x7 x8) (chunk x0 b N r) j := by
  pointwise [val_main_v45, val_main_v44, val_main_v43, val_main_v42, val_main_v41, val_main_v40, val_main_cst_10, val_main_cst_11]
  simp only [v_at x0 x2 x3 x4 x5 x6 x7 x8]
  rfl
theorem vinv_at : val_main_v53 (F := Ideal) x0 x2 x3 (ix3 b (at16 N r) 0) = inv (xc (W x2 x3 x4 x5 x6 x7 x8) (chunk x0 b N r)) := by
  pointwise [val_main_v53, val_main_v52, val_main_v51, val_main_v50, val_main_v49, val_main_v48, val_main_v47, val_main_v46, val_main_cst_12, val_main_cst_13, val_main_cst_14]
  simp only [xc_at x0 x2 x3 x4 x5 x6 x7 x8]
  rfl
theorem vslope_at : val_main_v56 (F := Ideal) x0 x2 x3 (ix3 b (at16 N r) 0) = slope (xc (W x2 x3 x4 x5 x6 x7 x8) (chunk x0 b N r)) := by
  pointwise [val_main_v56, val_main_v55, val_main_v54, val_main_cst_15]
  rw [vinv_at x0 x2 x3 x4 x5 x6 x7 x8]
  pointwise [val_main_v52, val_main_v51, val_main_v50, val_main_v49, val_main_v48, val_main_v47, val_main_v46, val_main_cst_12, val_main_cst_13, val_main_cst_14]
  simp only [xc_at x0 x2 x3 x4 x5 x6 x7 x8]
  rfl
theorem vn_at (j : Fin 1024) : val_main_v64 (F := Ideal) x0 x2 x3 x4 x5 (ix3 b (at16 N r) j) = vn (W x2 x3 x4 x5 x6 x7 x8) (chunk x0 b N r) j := by
  pointwise [val_main_v64, val_main_v63, val_main_v62, val_main_v61, val_main_v60, val_main_v59, val_main_v58, val_main_v57]
  rw [xc_at x0 x2 x3 x4 x5 x6 x7 x8, vinv_at x0 x2 x3 x4 x5 x6 x7 x8]
  rfl

/-- A lane by its group. -/
theorem lane_eq (g : Fin 8) (l : Fin 128) (h : g.val * 128 + l.val < 1024) : (⟨g.val * 128 + l.val, h⟩ : Fin 1024) = lane g l := Fin.ext (by show g.val * 128 + l.val = 128 * g.val + l.val; omega)

theorem vg_at (g : Fin 8) (l : Fin 128) : val_main_v65 (F := Ideal) x0 x2 x3 x4 x5 (ix5 b N r g l) = vn (W x2 x3 x4 x5 x6 x7 x8) (chunk x0 b N r) (lane g l) := by
  pointwise [val_main_v65]
  rw [lane_eq]
  exact vn_at x0 x2 x3 x4 x5 x6 x7 x8 b N r (lane g l)

theorem low_at (g : Fin 8) (r k : Fin 128) : val_main_v70 (F := Ideal) x6 (ix3 g r k) = low r k (x6 (ix3 g r k)) := by
  pointwise [val_main_v70, val_main_v69, val_main_v68, val_main_v67, val_main_v66, val_main_cst_16, val_main_call0_v4, val_main_call0_v2, val_main_call0_v3, val_main_call0_v0, val_main_call0_v1, val_main_call0_v5, val_main_call0_cst, val_main_call0_c]
  rw [show IntOp.addi (BitVec.ofNat 32 r.val) 0#32 = BitVec.ofNat 32 r.val from BitVec.add_zero _, WordCmp.cmpi_sge_ofNat (by omega) (by omega), WordCmp.select_ofBool]
  simp only [decide_eq_true_eq, low]

theorem grp_lane (g : Fin 8) (l : Fin 128) : grp (lane g l) = g := Fin.ext (by show (128 * g.val + l.val) / 128 = g.val; omega)

theorem sg_at (g : Fin 8) (l : Fin 128) : val_main_v77 (F := Ideal) x0 x2 x3 x4 x5 x6 x7 (ix5 b N r g l) = s (W x2 x3 x4 x5 x6 x7 x8) (chunk x0 b N) r (lane g l) := by
  pointwise [val_main_v77, val_main_v76, val_main_v75, val_main_v74, val_main_v73, val_main_v72, val_main_v71]
  unfold s
  rw [grp_lane]
  simp only [vg_at x0 x2 x3 x4 x5 x6 x7 x8, low_at]
  exact congrArg (· + _) (Finset.sum_congr rfl fun k _ => mul_comm _ _)

/-- A row's lane by chunk and group. -/
theorem ix_chunk (j : Fin 1024) (h1 : (at16 N r).val / 128 < 16) (h2 : (at16 N r).val % 128 < 128) (h3 : j.val / 128 < 8) (h4 : j.val % 128 < 128) :
    (ix5 b ⟨(at16 N r).val / 128, h1⟩ ⟨(at16 N r).val % 128, h2⟩ ⟨j.val / 128, h3⟩ ⟨j.val % 128, h4⟩ : S2x16x128x8x128.Idx) = ix5 b N r (grp j) ⟨j.val % 128, h4⟩ := by
  have e1 : (⟨(at16 N r).val / 128, h1⟩ : Fin 16) = N := Fin.ext (by show (N.val * 128 + r.val) / 128 = N.val; omega)
  have e2 : (⟨(at16 N r).val % 128, h2⟩ : Fin 128) = r := Fin.ext (by show (N.val * 128 + r.val) % 128 = r.val; omega)
  rw [e1, e2]
  rfl
theorem lane_mod (j : Fin 1024) (h : j.val % 128 < 128) : lane (grp j) ⟨j.val % 128, h⟩ = j := Fin.ext (by show 128 * (j.val / 128) + j.val % 128 = j.val; omega)

theorem s_at (j : Fin 1024) : val_main_v78 (F := Ideal) x0 x2 x3 x4 x5 x6 x7 (ix3 b (at16 N r) j) = s (W x2 x3 x4 x5 x6 x7 x8) (chunk x0 b N) r j := by
  pointwise [val_main_v78]
  rw [ix_chunk, sg_at x0 x2 x3 x4 x5 x6 x7 x8, lane_mod]

theorem us_at (j : Fin 1024) : val_main_v79 (F := Ideal) x0 x2 x3 x4 x5 x6 x7 (ix3 b (at16 N r) j) = us (W x2 x3 x4 x5 x6 x7 x8) (chunk x0 b N) r j := by
  pointwise [val_main_v79]
  rw [u_at x0 x2 x3 x4 x5 x6 x7 x8, s_at x0 x2 x3 x4 x5 x6 x7 x8]
  rfl
theorem dus_at (j : Fin 1024) : val_main_v85 (F := Ideal) x1 x8 (ix3 b (at16 N r) j) = dus (W x2 x3 x4 x5 x6 x7 x8) (chunk x1 b N r) j := by
  pointwise [val_main_v85, val_main_v82]
  rfl
theorem ds_at (j : Fin 1024) : val_main_v86 (F := Ideal) x0 x1 x2 x3 x8 (ix3 b (at16 N r) j) = ds (W x2 x3 x4 x5 x6 x7 x8) (chunk x0 b N r) (chunk x1 b N r) j := by
  pointwise [val_main_v86]
  rw [u_at x0 x2 x3 x4 x5 x6 x7 x8, dus_at x1 x2 x3 x4 x5 x6 x7 x8]
  exact mul_comm _ _
theorem dsg_at (g : Fin 8) (l : Fin 128) : val_main_v88 (F := Ideal) x0 x1 x2 x3 x8 (ix5 b N r g l) = ds (W x2 x3 x4 x5 x6 x7 x8) (chunk x0 b N r) (chunk x1 b N r) (lane g l) := by
  pointwise [val_main_v88]
  rw [lane_eq]
  exact ds_at x0 x1 x2 x3 x4 x5 x6 x7 x8 b N r (lane g l)
theorem dvg_at (g : Fin 8) (l : Fin 128) : val_main_v98 (F := Ideal) x0 x1 x2 x3 x6 x8 (ix5 b N r g l) = dvn (W x2 x3 x4 x5 x6 x7 x8) (chunk x0 b N) (chunk x1 b N) r (lane g l) := by
  pointwise [val_main_v98, val_main_v97, val_main_v95]
  unfold dvn
  rw [grp_lane]
  simp only [dsg_at x0 x1 x2 x3 x4 x5 x6 x7 x8, low_at]
  exact Finset.sum_congr rfl fun k _ => mul_comm _ _
theorem dvn_at (j : Fin 1024) : val_main_v101 (F := Ideal) x0 x1 x2 x3 x6 x8 (ix3 b (at16 N r) j) = dvn (W x2 x3 x4 x5 x6 x7 x8) (chunk x0 b N) (chunk x1 b N) r j := by
  pointwise [val_main_v101]
  rw [ix_chunk, dvg_at x0 x1 x2 x3 x4 x5 x6 x7 x8, lane_mod]

theorem through_at (j : Fin 1024) : val_main_v120 (F := Ideal) x0 x1 x2 x3 x4 x6 x8 (ix3 b (at16 N r) j)
    = through (xc (W x2 x3 x4 x5 x6 x7 x8) (chunk x0 b N r)) (W x2 x3 x4 x5 x6 x7 x8).lg (dvn (W x2 x3 x4 x5 x6 x7 x8) (chunk x0 b N) (chunk x1 b N) r) := by
  pointwise [val_main_v120, val_main_v119, val_main_v118, val_main_v117, val_main_v116, val_main_v113, val_main_v112, val_main_v111, val_main_v109, val_main_v108, val_main_v59,
    val_main_cst_24, val_main_cst_25, val_main_cst_26]
  simp only [Fin.sum_univ_one, vslope_at x0 x2 x3 x4 x5 x6 x7 x8, xc_at x0 x2 x3 x4 x5 x6 x7 x8, dvn_at x0 x1 x2 x3 x4 x5 x6 x7 x8]
  rfl
theorem lnb_at (j : Fin 1024) : val_main_v124 (F := Ideal) x0 x1 x2 x3 x4 x6 x8 (ix3 b (at16 N r) j)
    = lnb (xc (W x2 x3 x4 x5 x6 x7 x8) (chunk x0 b N r)) (W x2 x3 x4 x5 x6 x7 x8).lg (dvn (W x2 x3 x4 x5 x6 x7 x8) (chunk x0 b N) (chunk x1 b N) r) j := by
  pointwise [val_main_v124, val_main_v123, val_main_v122, val_main_v121, val_main_v115, val_main_v114, val_main_v109, val_main_v108, val_main_v59]
  simp only [through_at x0 x1 x2 x3 x4 x5 x6 x7 x8, vinv_at x0 x2 x3 x4 x5 x6 x7 x8, xc_at x0 x2 x3 x4 x5 x6 x7 x8, dvn_at x0 x1 x2 x3 x4 x5 x6 x7 x8]
  rfl
theorem lnd_at (j : Fin 1024) : val_main_v132 (F := Ideal) x0 x1 x2 x3 x4 x6 x8 (ix3 b (at16 N r) j)
    = lnd (xc (W x2 x3 x4 x5 x6 x7 x8) (chunk x0 b N r)) (W x2 x3 x4 x5 x6 x7 x8).lg (dvn (W x2 x3 x4 x5 x6 x7 x8) (chunk x0 b N) (chunk x1 b N) r) j := by
  pointwise [val_main_v132, val_main_v131, val_main_v130, val_main_v129, val_main_v128, val_main_v127, val_main_v126, val_main_v125, val_main_cst_27, val_main_cst_28, val_main_cst_29]
  simp only [Fin.sum_univ_one, lnb_at x0 x1 x2 x3 x4 x5 x6 x7 x8]
  unfold lnd
  simp only [zero_sub]

theorem dz_at (k : Fin 2048) : val_main_v145 (F := Ideal) x0 x1 x2 x3 x4 x5 x6 x7 x8 (ix3 b (at16 N r) k) = dz (W x2 x3 x4 x5 x6 x7 x8) (chunk x0 b N) (chunk x1 b N) r k := by
  have e : val_main_v145 (F := Ideal) x0 x1 x2 x3 x4 x5 x6 x7 x8 (ix3 b (at16 N r) k)
      = dgelu (z (W x2 x3 x4 x5 x6 x7 x8) (chunk x0 b N r) k) (val_main_v133 (F := Ideal) x0 x1 x2 x3 x4 x5 x6 x7 x8 (ix3 b (at16 N r) k)) := by
    rw [← z_at x0 x2 x3 x4 x5 x6 x7 x8]
    pointwise [val_main_v145, val_main_v144, val_main_v143, val_main_v142, val_main_v141, val_main_v140, val_main_v139, val_main_v138, val_main_v137, val_main_v136, val_main_v135, val_main_v134,
      val_main_v32, val_main_v31, val_main_v30, val_main_v29, val_main_v28, val_main_v21, val_main_v20, val_main_v19, val_main_cst_3, val_main_cst_6, val_main_cst_7, val_main_cst_30, val_main_cst_31, val_main_cst_32]
    rw [fac_at, th_at]
    rfl
  rw [e]
  unfold dz dzu dzv
  have e2 : val_main_v133 (F := Ideal) x0 x1 x2 x3 x4 x5 x6 x7 x8 (ix3 b (at16 N r) k) = if h : k.val < 1024
      then val_main_v87 (F := Ideal) x0 x1 x2 x3 x4 x5 x6 x7 x8 (ix3 b (at16 N r) ⟨k.val, h⟩)
      else val_main_v132 (F := Ideal) x0 x1 x2 x3 x4 x6 x8 (ix3 b (at16 N r) ⟨k.val - 1024, by omega⟩) := by
    pointwise [val_main_v133]
  rw [e2]
  split
  · rename_i h
    refine congrArg₂ dgelu (congrArg _ (Fin.ext rfl)) ?_
    pointwise [val_main_v87]
    rw [dus_at x1 x2 x3 x4 x5 x6 x7 x8, s_at x0 x2 x3 x4 x5 x6 x7 x8]
  · rename_i h
    refine congrArg₂ dgelu (congrArg _ (Fin.ext ?_)) (lnd_at x0 x1 x2 x3 x4 x5 x6 x7 x8 b N r _)
    show k.val = 1024 + (k.val - 1024)
    omega

theorem y_at (j : Fin 1024) : val_main_v148 (F := Ideal) x0 x1 x2 x3 x4 x5 x6 x7 x8 (ix3 b (at16 N r) j) = y (W x2 x3 x4 x5 x6 x7 x8) (chunk x0 b N) (chunk x1 b N) r j := by
  pointwise [val_main_v148]
  simp only [dz_at]
  rfl

theorem ythrough_at (j : Fin 1024) : val_main_v165 (F := Ideal) x0 x1 x2 x3 x4 x5 x6 x7 x8 (ix3 b (at16 N r) j)
    = through (chunk x0 b N r) (W x2 x3 x4 x5 x6 x7 x8).cn (y (W x2 x3 x4 x5 x6 x7 x8) (chunk x0 b N) (chunk x1 b N) r) := by
  pointwise [val_main_v165, val_main_v164, val_main_v163, val_main_v162, val_main_v161, val_main_v157, val_main_v156, val_main_v155, val_main_v153, val_main_v152, val_main_v13,
    val_main_cst_35, val_main_cst_36, val_main_cst_37]
  simp only [Fin.sum_univ_one, slope_at, y_at]
  rfl

theorem dh_at (j : Fin 1024) : val_main_v169 (F := Ideal) x0 x1 x2 x3 x4 x5 x6 x7 x8 (ix3 b (at16 N r) j) = dh (W x2 x3 x4 x5 x6 x7 x8) (chunk x0 b N) (chunk x1 b N) r j := by
  pointwise [val_main_v169, val_main_v168, val_main_v167, val_main_v166, val_main_v160, val_main_v159, val_main_v158, val_main_v153, val_main_v152, val_main_v13]
  simp only [ythrough_at, inv_at, y_at]
  unfold dh row
  rw [add_assoc, add_assoc, add_comm, ← add_assoc]
  rfl
end

end Cert.SguRefIdeal.Val

end
-- ==== Proof.SguFRef.lean ====
module

public import proofs.«01_k».proof.Proof.Gen.SguFRefIdeal.Run
public import proofs.«01_k».proof.Proof.Gen.SguFRefIdeal.Read
public import proofs.«01_k».proof.Proof.SguRef

@[expose] public section

noncomputable section

/-! The gated mixer in the forward reference: the lines that the gradient's reference also starts with, and the last product. -/

namespace Cert.SguFRefIdeal.Val

open Cert.SguFRefIdeal Cert.SguFRefIdeal.Gen Cert.SguFRefIdeal.Read Idealize.ShloMosaic Idealize.ShloMosaic.TcCoe Cert.FfnRow Cert.SguRow
open Cert.SguRefIdeal.Val (W at16 chunk)

variable (x0 : S2x2048x1024.Idx → EReal) (x1 : S1024.Idx → EReal) (x2 : S1024x2048.Idx → EReal) (x3 x4 : S1024.Idx → EReal)
  (x5 : S8x128x128.Idx → EReal) (x6 : S8x128.Idx → EReal) (x7 : S1024x1024.Idx → EReal)

theorem product_eq : val_main_v13 (F := Ideal) x0 x1 x2 = Cert.SguRefIdeal.Read.val_main_v16 (F := Ideal) x0 x1 x2 := rfl
theorem gelu_eq : val_main_v26 (F := Ideal) x0 x1 x2 = Cert.SguRefIdeal.Read.val_main_v37 (F := Ideal) x0 x1 x2 := rfl
theorem norm_eq : val_main_v50 (F := Ideal) x0 x1 x2 x3 x4 = Cert.SguRefIdeal.Read.val_main_v64 (F := Ideal) x0 x1 x2 x3 x4 := rfl
theorem mix_eq : val_main_v64 (F := Ideal) x0 x1 x2 x3 x4 x5 x6 = Cert.SguRefIdeal.Read.val_main_v78 (F := Ideal) x0 x1 x2 x3 x4 x5 x6 := rfl
theorem gated_eq : val_main_v65 (F := Ideal) x0 x1 x2 x3 x4 x5 x6 = Cert.SguRefIdeal.Read.val_main_v79 (F := Ideal) x0 x1 x2 x3 x4 x5 x6 := rfl

/-- The result's row: the input's and the last product of the gated row. -/
def out (w : Wt) (H : Fin 128 → Fin 1024 → EReal) (r : Fin 128) (j : Fin 1024) : EReal := H r j + ∑ k, us w H r k * w.wout k j

theorem out_at (b : Fin 2) (N : Fin 16) (r : Fin 128) (j : Fin 1024) : val_main_v67 (F := Ideal) x0 x1 x2 x3 x4 x5 x6 x7 (ix3 b (at16 N r) j)
    = out (W x1 x2 x3 x4 x5 x6 x7) (chunk x0 b N) r j := by
  have e : val_main_v67 (F := Ideal) x0 x1 x2 x3 x4 x5 x6 x7 (ix3 b (at16 N r) j)
      = x0 (ix3 b (at16 N r) j) + ∑ k, val_main_v65 (F := Ideal) x0 x1 x2 x3 x4 x5 x6 (ix3 b (at16 N r) k) * x7 (ix2 k j) := by
    pointwise [val_main_v67, val_main_v66]
  rw [e, gated_eq]
  simp only [Cert.SguRefIdeal.Val.us_at x0 x1 x2 x3 x4 x5 x6 x7]
  rfl

end Cert.SguFRefIdeal.Val

end
-- ==== Proof.SguPay.lean ====
module

public import proofs.«01_k».proof.Proof.Gen.SguIdeal.Value
public import proofs.«01_k».proof.Proof.SguRow
public import Idealize.ShloMosaic.Lib.WordCmp
public import Idealize.ShloMosaic.Lib.Pipeline.ValueKit.Geometry
public import Idealize.ShloMosaic.Lib.Pipeline.ValueKit.Acc

@[expose] public section

noncomputable section

namespace Cert.SguIdeal.Pay

open Cert.SguIdeal Cert.SguIdeal.Gen Idealize.ShloMosaic Idealize.ShloMosaic.TcCoe Idealize.SL.Sem Cert.FfnRow Cert.SguRow

/-- A matrix, and a stack of them. -/
abbrev M (a b : ℕ) := (⟨2, ![a, b]⟩ : Shape).Idx → EReal
abbrev M3 (a b c : ℕ) := (⟨3, ![a, b, c]⟩ : Shape).Idx → EReal

/-- A row of a matrix. -/
abbrev rw2 {a b : ℕ} (X : M a b) (r : Fin a) : Fin b → EReal := fun x => X (ix2 r x)

variable (X D : M 256 1024) (cn lg lb : M 1 1024) (win : M 1024 2048) (ws : M3 8 128 128) (bst : M 128 128) (wout : M 1024 1024)

/-- The weights' blocks. -/
def wt : Wt where
  cn := rw2 cn 0
  win x k := win (ix2 x k)
  lg := rw2 lg 0
  lb := rw2 lb 0
  ws g r k := ws (ix3 g r k)
  bs g r := bst (ix2 r ⟨g.val, by omega⟩)
  wout j k := wout (ix2 j k)

theorem p15 (r : Fin 256) : k0_pay15 (F := Ideal) X (ix2 r 0) = inv (rw2 X r) := by
  unfold k0_pay15 k0_pay14 k0_pay12; pointwise; rfl
theorem p16 (r : Fin 256) : k0_pay16 (F := Ideal) X (ix2 r 0) = slope (rw2 X r) := by
  unfold k0_pay16 k0_pay15 k0_pay14 k0_pay12; pointwise; rfl

/-- The product. -/
theorem p19 (r : Fin 256) (k : Fin 2048) : k0_pay19 (F := Ideal) X cn win (ix2 r k) = z (wt cn lg lb win ws bst wout) (rw2 X r) k := by
  unfold k0_pay19 k0_pay18 k0_pay17 k0_pay13 k0_pay12; pointwise
  simp only [p15]
  rfl
theorem p20 (r : Fin 256) (j : Fin 1024) : k0_pay20 (F := Ideal) X cn win (ix2 r j) = k0_pay19 (F := Ideal) X cn win (ix2 r (fst j)) := by
  unfold k0_pay20; pointwise; rfl
theorem p26 (Z : M 256 2048) (r : Fin 256) (j : Fin 1024) : k0_pay26 (F := Ideal) Z (ix2 r j) = Z (ix2 r (snd j)) := by
  unfold k0_pay26; pointwise; rfl
theorem p25 (Z : M 256 1024) (r : Fin 256) (j : Fin 1024) : k0_pay25 (F := Ideal) Z (ix2 r j) = gelu (Z (ix2 r j)) := by
  unfold k0_pay25 k0_pay24 k0_pay22; pointwise; rfl
theorem p34 (Z : M 256 2048) (r : Fin 256) (j : Fin 1024) :
    k0_pay34 (F := Ideal) (k0_pay26 Z) (k0_pay30 Z) k0_pay32 (ix2 r j) = cent (fun x => gelu (k0_pay26 (F := Ideal) Z (ix2 r x))) j := by
  unfold k0_pay34 k0_pay33 k0_pay32 k0_pay30; pointwise; rfl
theorem p36 (Z : M 256 2048) (r : Fin 256) :
    k0_pay36 (F := Ideal) (k0_pay26 Z) (k0_pay30 Z) k0_pay32 (ix2 r 0) = inv (cent (fun x => gelu (k0_pay26 (F := Ideal) Z (ix2 r x)))) := by
  unfold k0_pay36 k0_pay35; pointwise
  simp only [p34]
  rfl
theorem p37 (Z : M 256 2048) (r : Fin 256) :
    k0_pay37 (F := Ideal) (k0_pay26 Z) (k0_pay30 Z) k0_pay32 (ix2 r 0) = slope (cent (fun x => gelu (k0_pay26 (F := Ideal) Z (ix2 r x)))) := by
  unfold k0_pay37 k0_pay36 k0_pay35; pointwise
  simp only [p34]
  rfl

/-- The layer norm. -/
abbrev VN : M 256 1024 := k0_pay39 (F := Ideal) (k0_pay26 (k0_pay19 X cn win)) (k0_pay27 lg) (k0_pay28 lb) (k0_pay30 (k0_pay19 X cn win)) k0_pay32
theorem vn_at (r : Fin 256) (j : Fin 1024) : VN X cn lg lb win (ix2 r j) = vn (wt cn lg lb win ws bst wout) (rw2 X r) j := by
  unfold VN k0_pay39 k0_pay38 k0_pay27 k0_pay28; pointwise
  rw [p34, p36]
  simp only [p26, p19 X cn lg lb win ws bst wout]
  rfl

/-- The cotangent through the last product, alone and times the first half. -/
theorem p59 (r : Fin 256) (j : Fin 1024) : k0_pay59 (F := Ideal) D wout (ix2 r j) = dus (wt cn lg lb win ws bst wout) (rw2 D r) j := by
  unfold k0_pay59 k0_pay58; pointwise; rfl
abbrev DS : M 256 1024 := k0_pay62 (F := Ideal) (k0_pay25 (k0_pay20 X cn win)) D wout
theorem ds_at (r : Fin 256) (j : Fin 1024) : DS X D cn win wout (ix2 r j) = ds (wt cn lg lb win ws bst wout) (rw2 X r) (rw2 D r) j := by
  unfold DS k0_pay62; pointwise
  rw [p59 D cn lg lb win ws bst wout, p25, p20, p19 X cn lg lb win ws bst wout]
  rfl

/-! The mix, group by group. -/

theorem slice_lane (g : Fin 8) : S128x1024.Slices ![0, 128 * g.val] S128x128 := by
  fin_cases g <;> decide
theorem slice_one (g : Fin 8) : S128x128.Slices ![0, g.val] S128x1 := by
  fin_cases g <;> decide
theorem slice_chunk (n : Fin 2) : S256x1024.Slices ![128 * n.val, 0] S128x1024 := by
  fin_cases n <;> decide
theorem ld_ok (g : Fin 8) : ∀ a, (![g.val, 0, 0] : Fin 3 → ℕ) a + (![1, 128, 128] : Fin 3 → ℕ) a ≤ S8x128x128.size a := by
  fin_cases g <;> decide

/-- A mixing matrix as loaded. -/
def mat (g : Fin 8) : Vec Ideal S1x128x128 .f32 := View.ld (Val := Elt Ideal) (S := S8x128x128) (e' := .f32) ws (Rect.unit (s := S8x128x128) ![g.val, 0, 0] ![1, 128, 128] (ld_ok g))

/-- One group's mix of one chunk. -/
def cell (V : Vec Ideal S256x1024 .f32) (n : Fin 2) (g : Fin 8) : FVec Ideal S128x128 .f32 :=
  addf (matmul dot_S128x128_S128x128_S128x128_1_0_0_1_n_n none (truncf .bf16 (k0_pay42 (mat ws g)) bitsLt_bf16_f32)
      (truncf .bf16 (extractStridedSlice S128x128 ![0, 128 * g.val] (extractStridedSlice S128x1024 ![128 * n.val, 0] V (slice_chunk n)) (slice_lane g)) bitsLt_bf16_f32)
      (constant S128x128 .f32 0x00000000#32))
    (broadcastTo S128x128 (extractStridedSlice S128x1 ![0, g.val] (k0_pay40 bst) (slice_one g)) broadcasts_S128x1_S128x128)

/-- Eight groups side by side, and two chunks one below the other. -/
def side (f : Fin 8 → FVec Ideal S128x128 .f32) : FVec Ideal S128x1024 .f32 :=
  concatenate S128x1024 1 [⟨S128x128, f 0⟩, ⟨S128x128, f 1⟩, ⟨S128x128, f 2⟩, ⟨S128x128, f 3⟩, ⟨S128x128, f 4⟩, ⟨S128x128, f 5⟩, ⟨S128x128, f 6⟩, ⟨S128x128, f 7⟩]
    concatenates_S128x128_S128x128_S128x128_S128x128_S128x128_S128x128_S128x128_S128x128_S128x1024_d1
def below (f : Fin 2 → FVec Ideal S128x1024 .f32) : FVec Ideal S256x1024 .f32 :=
  concatenate S256x1024 0 [⟨S128x1024, f 0⟩, ⟨S128x1024, f 1⟩] concatenates_S128x1024_S128x1024_S256x1024_d0

set_option maxHeartbeats 1000000 in
theorem side_at (f : Fin 8 → FVec Ideal S128x128 .f32) (r : Fin 128) (g : Fin 8) (c : Fin 128) : side f (ix2 r (lane g c)) = f g (ix2 r c) := by
  fin_cases g <;> (
    unfold side lane; pointwise
    try (split_ifs <;> first
      | (exfalso; omega)
      | (refine congrArg _ (congrArg (ix2 r) (Fin.ext ?_)); dsimp only; omega)))
theorem below_at (f : Fin 2 → FVec Ideal S128x1024 .f32) (n : Fin 2) (r : Fin 128) (j : Fin 1024) :
    below f (ix2 ⟨128 * n.val + r.val, by omega⟩ j) = f n (ix2 r j) := by
  fin_cases n <;> (
    unfold below; pointwise
    try (split_ifs <;> first
      | (exfalso; omega)
      | (refine congrArg _ (congrArg (fun k => ix2 k j) (Fin.ext ?_)); dsimp only; omega)))

/-- The mix as the program writes it. -/
def MIX (V : M 256 1024) : M 256 1024 := below fun n => side fun g => cell ws bst V n g

theorem mix_written (V : Vec Ideal S256x1024 .f32) :
  k0_pay57 (F := Ideal) (k0_pay40 bst) (k0_pay43 (mat ws 1)) (k0_pay44 k0_pay41 (mat ws 2)) (k0_pay45 k0_pay41 (mat ws 3)) (k0_pay46 k0_pay41 (mat ws 4))
    (k0_pay47 k0_pay41 (mat ws 5)) (k0_pay48 k0_pay41 (mat ws 6)) (k0_pay49 k0_pay41 (mat ws 7))
    (k0_pay54 (k0_pay40 bst) (k0_pay44 k0_pay41 (mat ws 2)) (k0_pay45 k0_pay41 (mat ws 3)) (k0_pay46 k0_pay41 (mat ws 4)) (k0_pay47 k0_pay41 (mat ws 5))
      (k0_pay48 k0_pay41 (mat ws 6)) (k0_pay49 k0_pay41 (mat ws 7)) (k0_pay50 V) (k0_pay51 V (k0_pay40 bst) (k0_pay42 (mat ws 0)))
      (k0_pay52 V (k0_pay43 (mat ws 1))) (k0_pay53 (k0_pay40 bst)))
    (k0_pay55 V) (k0_pay56 V (k0_pay40 bst) (k0_pay42 (mat ws 0))) = MIX ws bst V := rfl

theorem mat_at (g : Fin 8) (r k : Fin 128) : mat ws g (ix3 0 r k) = ws (ix3 g r k) := by
  unfold mat
  refine congrArg ws (funext fun a => Fin.ext ?_)
  show (![g.val, 0, 0] : Fin 3 → ℕ) a + 1 * (ix3 (n0 := 1) 0 r k a).val = (ix3 g r k a).val
  rw [Nat.one_mul]
  fin_cases a
  · rfl
  · exact Nat.zero_add _
  · exact Nat.zero_add _

theorem low_at (g : Fin 8) (r k : Fin 128) : k0_pay42 (F := Ideal) (mat ws g) (ix2 r k) = low r k (ws (ix3 g r k)) := by
  have e : k0_pay42 (F := Ideal) (mat ws g) (ix2 r k) = Scalar.select (IntOp.cmpi .sge (BitVec.ofNat 32 r.val) (BitVec.ofNat 32 k.val)) (mat ws g (ix3 0 r k)) 0 := by
    unfold k0_pay42 k0_pay41; pointwise
  rw [e, WordCmp.cmpi_sge_ofNat (by omega) (by omega), WordCmp.select_ofBool, mat_at]
  simp only [decide_eq_true_eq, low]

theorem cell_at (V : M 256 1024) (n : Fin 2) (g : Fin 8) (r c : Fin 128) : cell ws bst V n g (ix2 r c)
    = ∑ k : Fin 128, low r k (ws (ix3 g r k)) * V (ix2 ⟨128 * n.val + k.val, by omega⟩ (lane g c)) + bst (ix2 r ⟨g.val, by omega⟩) := by
  unfold cell; pointwise
  simp only [low_at]
  refine congrArg₂ (· + ·) rfl ?_
  unfold k0_pay40; pointwise

end Cert.SguIdeal.Pay

end
-- ==== Proof.SguOut.lean ====
module

public import proofs.«01_k».proof.Proof.SguPay

@[expose] public section

noncomputable section

/-! What a grid point of the gating kernel stores, at the first point and at the later ones. -/

namespace Cert.SguIdeal.Pay

open Cert.SguIdeal Cert.SguIdeal.Gen Idealize.ShloMosaic Idealize.ShloMosaic.TcCoe Idealize.SL.Sem Cert.FfnRow Cert.SguRow

variable (X D : M 256 1024) (cn lg lb : M 1 1024) (win : M 1024 2048) (ws : M3 8 128 128) (bst : M 128 128) (wout : M 1024 1024)

theorem slice_both (n : Fin 2) (g : Fin 8) : S256x1024.Slices ![128 * n.val, 128 * g.val] S128x128 := by
  fin_cases n <;> fin_cases g <;> decide

/-- One group of one chunk. -/
def part (V : Vec Ideal S256x1024 .f32) (n : Fin 2) (g : Fin 8) : FVec Ideal S128x128 .f32 :=
  extractStridedSlice S128x128 ![128 * n.val, 128 * g.val] V (slice_both n g)

/-- The mix taken back, the matrices' share, and the shifts'. -/
def bcell (S : Vec Ideal S256x1024 .f32) (n : Fin 2) (g : Fin 8) : FVec Ideal S128x128 .f32 :=
  matmul dot_S128x128_S128x128_S128x128_0_0_1_1_n_n none (truncf .bf16 (k0_pay42 (mat ws g)) bitsLt_bf16_f32)
    (truncf .bf16 (part S n g) bitsLt_bf16_f32) (constant S128x128 .f32 0x00000000#32)
def wcell (S V : Vec Ideal S256x1024 .f32) (n : Fin 2) (g : Fin 8) : FVec Ideal S128x128 .f32 :=
  matmul dot_S128x128_S128x128_S128x128_1_1_0_0_n_n none (truncf .bf16 (part S n g) bitsLt_bf16_f32)
    (truncf .bf16 (part V n g) bitsLt_bf16_f32) (constant S128x128 .f32 0x00000000#32)
def scell (S : Vec Ideal S256x1024 .f32) (n : Fin 2) (g : Fin 8) : FVec Ideal S128x128 .f32 :=
  select (cmpi .eq (iota .tc S128x128 32 [1] iota_S128x128_d1_w32) (broadcast S128x128 (BitVec.ofNat 32 g.val)))
    (broadcastTo S128x128 (shapeCast S128x1 (shapeCast S128x1 (multiReduction .add [1] S128 (part S n g) 0x00000000#32 reduces_S128x128_S128 (.inl rfl) rfl)
      shapeCasts_S128_S128x1) shapeCasts_S128x1_S128x1) broadcasts_S128x1_S128x128)
    (broadcast S128x128 (Scalar.ofBits .f32 0x00000000#32))
def DVN (S : M 256 1024) : M 256 1024 := below fun n => side fun g => bcell ws S n g

theorem part_at (V : M 256 1024) (n : Fin 2) (g : Fin 8) (r c : Fin 128) : part V n g (ix2 r c) = V (ix2 ⟨128 * n.val + r.val, by omega⟩ (lane g c)) := by
  unfold part; pointwise; rfl
theorem bcell_at (S : M 256 1024) (n : Fin 2) (g : Fin 8) (k c : Fin 128) : bcell ws S n g (ix2 k c)
    = ∑ r : Fin 128, low r k (ws (ix3 g r k)) * S (ix2 ⟨128 * n.val + r.val, by omega⟩ (lane g c)) := by
  unfold bcell; pointwise
  simp only [low_at, part_at]
theorem wcell_at (S V : M 256 1024) (n : Fin 2) (g : Fin 8) (r k : Fin 128) : wcell S V n g (ix2 r k)
    = ∑ c : Fin 128, S (ix2 ⟨128 * n.val + r.val, by omega⟩ (lane g c)) * V (ix2 ⟨128 * n.val + k.val, by omega⟩ (lane g c)) := by
  unfold wcell; pointwise
  simp only [part_at]
theorem scell_at (S : M 256 1024) (n : Fin 2) (g : Fin 8) (r l : Fin 128) : scell S n g (ix2 r l)
    = if l.val = g.val then ∑ c : Fin 128, S (ix2 ⟨128 * n.val + r.val, by omega⟩ (lane g c)) else 0 := by
  have e : scell S n g (ix2 r l) = Scalar.select (IntOp.cmpi .eq (BitVec.ofNat 32 l.val) (BitVec.ofNat 32 g.val)) (∑ c : Fin 128, part S n g (ix2 r c)) 0 := by
    unfold scell; pointwise
  rw [e, WordCmp.cmpi_eq_ofNat (by omega) (by omega), WordCmp.select_ofBool]
  simp only [decide_eq_true_eq, part_at]

/-- The product's gradient. -/
abbrev Z : M 256 2048 := k0_pay19 (F := Ideal) X cn win
abbrev DZ : M 256 2048 :=
  k0_pay133 (F := Ideal) (k0_pay26 (Z X cn win)) (k0_pay27 lg) (k0_pay29 (Z X cn win)) (k0_pay31 (Z X cn win))
    (k0_pay33 (k0_pay30 (Z X cn win)) k0_pay32) (k0_pay34 (k0_pay26 (Z X cn win)) (k0_pay30 (Z X cn win)) k0_pay32)
    (k0_pay36 (k0_pay26 (Z X cn win)) (k0_pay30 (Z X cn win)) k0_pay32) (k0_pay37 (k0_pay26 (Z X cn win)) (k0_pay30 (Z X cn win)) k0_pay32)
    (DVN ws (DS X D cn win wout))
    (k0_pay130 (k0_pay20 X cn win) (k0_pay21 (k0_pay20 X cn win)) (k0_pay23 (k0_pay20 X cn win)) (k0_pay24 (k0_pay20 X cn win))
      (MIX ws bst (VN X cn lg lb win)) (k0_pay59 D wout))
abbrev US : M 256 1024 := k0_pay61 (F := Ideal) (k0_pay25 (k0_pay20 X cn win)) (MIX ws bst (VN X cn lg lb win))
abbrev DH : M 256 1024 :=
  k0_pay137 (F := Ideal) (k0_pay12 X) (k0_pay13 cn) (k0_pay15 X) (k0_pay16 X) (k0_pay58 D) (DZ X D cn lg lb win ws bst wout) win
abbrev DLG : M 1 1024 := k0_pay132 (F := Ideal) (k0_pay38 (k0_pay26 (Z X cn win)) (k0_pay30 (Z X cn win)) k0_pay32) (DVN ws (DS X D cn win wout))
abbrev DLB : M 1 1024 := k0_pay131 (F := Ideal) (DVN ws (DS X D cn win wout))
abbrev DCN : M 1 1024 := shapeCast S1x1024 (multiReduction .add [0] S1024 (mulf (F := Ideal) (s := S256x1024) (φ := .f32) (k0_pay17 X) (k0_pay136 (DZ X D cn lg lb win ws bst wout) win))
  0x00000000#32 reduces_S256x1024_S1024 (.inl rfl) rfl) shapeCasts_S1024_S1x1024

variable (m : (ℓ : Loc nD τ sig) → Buf (Elt Ideal) ℓ)

/-- A grid point's blocks. -/
abbrev xB (c : Dev nD) (t : Fin cfg0.N) (o : ℕ) (ho : ∀ a, (![o, 0] : Fin 2 → ℕ) a + (![256, 1024] : Fin 2 → ℕ) a ≤ S512x1024.size a) : M 256 1024 :=
  View.ld (Val := Elt Ideal) (S := S512x1024) (e' := .f32) (iblk m c 0 t) (Rect.unit (s := S512x1024) ![o, 0] ![256, 1024] ho)
abbrev dB (c : Dev nD) (t : Fin cfg0.N) (o : ℕ) (ho : ∀ a, (![o, 0] : Fin 2 → ℕ) a + (![256, 1024] : Fin 2 → ℕ) a ≤ S512x1024.size a) : M 256 1024 :=
  View.ld (Val := Elt Ideal) (S := S512x1024) (e' := .f32) (iblk m c 1 t) (Rect.unit (s := S512x1024) ![o, 0] ![256, 1024] ho)
abbrev cnB (c : Dev nD) (t : Fin cfg0.N) : M 1 1024 := iblk m c 2 t
abbrev winB (c : Dev nD) (t : Fin cfg0.N) : M 1024 2048 := iblk m c 3 t
abbrev lgB (c : Dev nD) (t : Fin cfg0.N) : M 1 1024 := iblk m c 4 t
abbrev lbB (c : Dev nD) (t : Fin cfg0.N) : M 1 1024 := iblk m c 5 t
abbrev wsB (c : Dev nD) (t : Fin cfg0.N) : M3 8 128 128 := iblk m c 6 t
abbrev bstB (c : Dev nD) (t : Fin cfg0.N) : M 128 128 := iblk m c 7 t
abbrev woutB (c : Dev nD) (t : Fin cfg0.N) : M 1024 1024 := iblk m c 8 t

abbrev x0 (c : Dev nD) (t : Fin cfg0.N) := xB m c t 0 inb_S512x1024_S256x1024_0_0
abbrev x1 (c : Dev nD) (t : Fin cfg0.N) := xB m c t 256 inb_S512x1024_S256x1024_256_0
abbrev d0 (c : Dev nD) (t : Fin cfg0.N) := dB m c t 0 inb_S512x1024_S256x1024_0_0
abbrev d1 (c : Dev nD) (t : Fin cfg0.N) := dB m c t 256 inb_S512x1024_S256x1024_256_0

/-- Two halves of a block, one below the other. -/
abbrev halves (n : ℕ) (hb : ∀ a, (![256, 0] : Fin 2 → ℕ) a + (![256, n] : Fin 2 → ℕ) a ≤ (⟨2, ![512, n]⟩ : Shape).size a)
    (ha : ∀ a, (![0, 0] : Fin 2 → ℕ) a + (![256, n] : Fin 2 → ℕ) a ≤ (⟨2, ![512, n]⟩ : Shape).size a) {e : EltTy} (b a : Vec Ideal ⟨2, ![256, n]⟩ e) :
    List (View.Piece (Elt Ideal) ⟨2, ![512, n]⟩ e) :=
  [⟨Rect.unit ![256, 0] ![256, n] hb, b⟩, ⟨Rect.unit ![0, 0] ![256, n] ha, a⟩]

/-- The halves' gradients. -/
abbrev dhS (c : Dev nD) (t : Fin cfg0.N) (X D : M 256 1024) : M 256 1024 := DH X D (cnB m c t) (lgB m c t) (lbB m c t) (winB m c t) (wsB m c t) (bstB m c t) (woutB m c t)
abbrev dcnS (c : Dev nD) (t : Fin cfg0.N) (X D : M 256 1024) : M 1 1024 := DCN X D (cnB m c t) (lgB m c t) (lbB m c t) (winB m c t) (wsB m c t) (bstB m c t) (woutB m c t)
abbrev dlgS (c : Dev nD) (t : Fin cfg0.N) (X D : M 256 1024) : M 1 1024 := DLG X D (cnB m c t) (winB m c t) (wsB m c t) (woutB m c t)
abbrev dlbS (c : Dev nD) (t : Fin cfg0.N) (X D : M 256 1024) : M 1 1024 := DLB X D (cnB m c t) (winB m c t) (wsB m c t) (woutB m c t)
abbrev dsS (c : Dev nD) (t : Fin cfg0.N) (X D : M 256 1024) : M 256 1024 := DS X D (cnB m c t) (winB m c t) (woutB m c t)
abbrev vnS (c : Dev nD) (t : Fin cfg0.N) (X : M 256 1024) : M 256 1024 := VN X (cnB m c t) (lgB m c t) (lbB m c t) (winB m c t)
abbrev usS (c : Dev nD) (t : Fin cfg0.N) (X : M 256 1024) : Vec Ideal S256x1024 .bf16 := US X (cnB m c t) (lgB m c t) (lbB m c t) (winB m c t) (wsB m c t) (bstB m c t)
abbrev hnS (c : Dev nD) (t : Fin cfg0.N) (X : M 256 1024) : Vec Ideal S256x1024 .bf16 := k0_pay60 (F := Ideal) (k0_pay18 X (cnB m c t))
abbrev dzS (c : Dev nD) (t : Fin cfg0.N) (X D : M 256 1024) : Vec Ideal S256x2048 .bf16 :=
  k0_pay135 (F := Ideal) (truncf (F := Ideal) (s := S256x2048) .bf16 (DZ X D (cnB m c t) (lgB m c t) (lbB m c t) (winB m c t) (wsB m c t) (bstB m c t) (woutB m c t)) bitsLt_bf16_f32)

/-- A point's share of each weight's gradient. -/
def dhOut (c : Dev nD) (t : Fin cfg0.N) : Vec Ideal S512x1024 .f32 :=
  View.canon (Val := Elt Ideal) (halves 1024 inb_S512x1024_S256x1024_256_0 inb_S512x1024_S256x1024_0_0 (e := .f32) (dhS m c t (x1 m c t) (d1 m c t)) (dhS m c t (x0 m c t) (d0 m c t)))
/-- Two rows added to a row of zeros. -/
def both (a b : FVec Ideal S1x1024 .f32) : FVec Ideal S1x1024 .f32 := addf (addf (broadcast S1x1024 (Scalar.ofBits .f32 0x00000000#32)) a) b
def dcnOut (c : Dev nD) (t : Fin cfg0.N) : FVec Ideal S1x1024 .f32 := both (dcnS m c t (x0 m c t) (d0 m c t)) (dcnS m c t (x1 m c t) (d1 m c t))
def dlgOut (c : Dev nD) (t : Fin cfg0.N) : FVec Ideal S1x1024 .f32 := both (dlgS m c t (x0 m c t) (d0 m c t)) (dlgS m c t (x1 m c t) (d1 m c t))
def dlbOut (c : Dev nD) (t : Fin cfg0.N) : FVec Ideal S1x1024 .f32 := both (dlbS m c t (x0 m c t) (d0 m c t)) (dlbS m c t (x1 m c t) (d1 m c t))
def dwinOut (c : Dev nD) (t : Fin cfg0.N) : FVec Ideal S1024x2048 .f32 :=
  k0_pay292 (F := Ideal)
    ((View.whole cc0_scratch0).readCov (Val := Elt Ideal) (halves 1024 inb_S512x1024_S256x1024_256_0 inb_S512x1024_S256x1024_0_0 (e := .bf16) (hnS m c t (x1 m c t)) (hnS m c t (x0 m c t)))
      (Rect.unit (s := S512x1024) ![0, 0] ![512, 1024] inb_S512x1024_S512x1024_0_0).toLoadRect)
    ((View.whole cc0_scratch2).readCov (Val := Elt Ideal) (halves 2048 inb_S512x2048_S256x2048_256_0 inb_S512x2048_S256x2048_0_0 (e := .bf16) (dzS m c t (x1 m c t) (d1 m c t)) (dzS m c t (x0 m c t) (d0 m c t)))
      (Rect.unit (s := S512x2048) ![0, 0] ![512, 2048] inb_S512x2048_S512x2048_0_0).toLoadRect)
def dwoutOut (c : Dev nD) (t : Fin cfg0.N) : FVec Ideal S1024x1024 .f32 :=
  k0_pay290 (F := Ideal)
    ((View.whole cc0_scratch1).readCov (Val := Elt Ideal) (halves 1024 inb_S512x1024_S256x1024_256_0 inb_S512x1024_S256x1024_0_0 (e := .bf16) (usS m c t (x1 m c t)) (usS m c t (x0 m c t)))
      (Rect.unit (s := S512x1024) ![0, 0] ![512, 1024] inb_S512x1024_S512x1024_0_0).toLoadRect)
    (iblk m c 1 t)
/-- A point's share of one mixing matrix's gradient. -/
def dwsOut (c : Dev nD) (t : Fin cfg0.N) (g : Fin 8) : FVec Ideal S128x128 .f32 :=
  select k0_pay2
    (addf (addf (addf (addf (broadcast S128x128 (Scalar.ofBits .f32 0x00000000#32))
      (wcell (dsS m c t (x0 m c t) (d0 m c t)) (vnS m c t (x0 m c t)) 0 g)) (wcell (dsS m c t (x0 m c t) (d0 m c t)) (vnS m c t (x0 m c t)) 1 g))
      (wcell (dsS m c t (x1 m c t) (d1 m c t)) (vnS m c t (x1 m c t)) 0 g)) (wcell (dsS m c t (x1 m c t) (d1 m c t)) (vnS m c t (x1 m c t)) 1 g))
    (broadcast S128x128 (Scalar.ofBits .f32 0x00000000#32))
/-- Eight matrices stored one after the other. -/
abbrev stack (f : Fin 8 → Vec Ideal S1x128x128 .f32) : List (View.Piece (Elt Ideal) S8x128x128 .f32) :=
  [7, 6, 5, 4, 3, 2, 1, 0].map fun g => ⟨Rect.unit (s := S8x128x128) ![g.val, 0, 0] ![1, 128, 128] (ld_ok g), f g⟩
/-- One chunk's row sums, group by group, added on. -/
def shifts (S : M 256 1024) (a : FVec Ideal S128x128 .f32) (n : Fin 2) : FVec Ideal S128x128 .f32 :=
  [0, 1, 2, 3, 4, 5, 6, 7].foldl (fun a g => addf a (scell S n g)) a
def dbsOut (c : Dev nD) (t : Fin cfg0.N) : FVec Ideal S128x128 .f32 :=
  shifts (dsS m c t (x1 m c t) (d1 m c t)) (shifts (dsS m c t (x1 m c t) (d1 m c t))
    (shifts (dsS m c t (x0 m c t) (d0 m c t)) (shifts (dsS m c t (x0 m c t) (d0 m c t)) (broadcast S128x128 (Scalar.ofBits .f32 0x00000000#32)) 0) 1) 0) 1

/-- What a point leaves when it adds `b` to `a`. -/
abbrev plus {S : Shape} (a : FVec Ideal S .f32) (h : S.ShapeCasts S) (b : FVec Ideal S .f32) : FVec Ideal S .f32 := addf (shapeCast S a h) b

/-- What the point before leaves. -/
abbrev prev (c : Dev nD) (t : Fin cfg0.N) := outsAt0 m c (t.val - 1) (Nat.lt_of_le_of_lt (Nat.sub_le _ _) t.isLt)

/-- The grid's first point begins every sum, -/
theorem first (c : Dev nD) (t : Fin cfg0.N) (h0 : t.val % 8 = 0) (h1 : ¬1 ≤ t.val) : outsAt0 m c t.val t.isLt
    = (dhOut m c t, dcnOut m c t, dwinOut m c t, dlgOut m c t, dlbOut m c t,
      View.canon (Val := Elt Ideal) (stack fun g => shapeCast S1x128x128 (dwsOut m c t g) shapeCasts_S128x128_S1x128x128), dbsOut m c t, dwoutOut m c t) := by
  refine Prod.ext ?_ (Prod.ext ?_ (Prod.ext ?_ (Prod.ext ?_ (Prod.ext ?_ (Prod.ext ?_ (Prod.ext ?_ ?_))))))
  all_goals
    rw [outsAt0_A m c t h0 h1 h0 h1 h0 h1 h0 h1 h0 h1 h0 h1 h0 h1 h0 h1 h0 h1 h0 h1 h0 h1 h0 h1 h0 h1 h0 h1]
    frame_out
    rfl

/-- the others add to it. -/
theorem next (c : Dev nD) (t : Fin cfg0.N) (h0 : ¬t.val % 8 = 0) (h1 : 1 ≤ t.val) : outsAt0 m c t.val t.isLt
    = (dhOut m c t, plus (prev m c t).2.1 shapeCasts_S1x1024_S1x1024 (dcnOut m c t), plus (prev m c t).2.2.1 shapeCasts_S1024x2048_S1024x2048 (dwinOut m c t),
      plus (prev m c t).2.2.2.1 shapeCasts_S1x1024_S1x1024 (dlgOut m c t), plus (prev m c t).2.2.2.2.1 shapeCasts_S1x1024_S1x1024 (dlbOut m c t),
      View.canon (Val := Elt Ideal) (stack fun g => shapeCast S1x128x128
        (addf (F := Ideal) (s := S128x128) (φ := .f32) (shapeCast S128x128 (mat (prev m c t).2.2.2.2.2.1 g) shapeCasts_S1x128x128_S128x128) (dwsOut m c t g)) shapeCasts_S128x128_S1x128x128),
      plus (prev m c t).2.2.2.2.2.2.1 shapeCasts_S128x128_S128x128 (dbsOut m c t), plus (prev m c t).2.2.2.2.2.2.2 shapeCasts_S1024x1024_S1024x1024 (dwoutOut m c t)) := by
  refine Prod.ext ?_ (Prod.ext ?_ (Prod.ext ?_ (Prod.ext ?_ (Prod.ext ?_ (Prod.ext ?_ (Prod.ext ?_ ?_))))))
  all_goals
    rw [outsAt0_B m c t h0 h1 h0 h1 h0 h1 h0 h1 h0 h1 h0 h1 h0 h1 h0 h1 h0 h1 h0 h1 h0 h1 h0 h1 h0 h1 h0 h1]
    frame_out
    rfl

end Cert.SguIdeal.Pay

end
-- ==== Proof.SguAt.lean ====
module

public import proofs.«01_k».proof.Proof.SguOut

@[expose] public section

noncomputable section

/-! The gating kernel's intermediate arrays at a grid point, read at an entry. -/

namespace Cert.SguIdeal.Pay

open Cert.SguIdeal Cert.SguIdeal.Gen Idealize.ShloMosaic Idealize.ShloMosaic.TcCoe Idealize.SL.Sem Cert.FfnRow Cert.SguRow

/-- The curve's derivative from its pieces. -/
def curve (a b c d y : EReal) : EReal := y * d + Ideal.ofBits .f32 0x3F4C422A#32 * (Ideal.ofBits .f32 0x3F000000#32 * (a * y) * c)
  + Ideal.ofBits .f32 0x3D372713#32 * (Ideal.ofBits .f32 0x3F4C422A#32 * (Ideal.ofBits .f32 0x3F000000#32 * (a * y) * c)) * b

variable (X D : M 256 1024) (cn lg lb : M 1 1024) (win : M 1024 2048) (ws : M3 8 128 128) (bst : M 128 128) (wout : M 1024 1024)

/-- A row of a half block, and a half block's chunk. -/
def at2 (n : Fin 2) (r : Fin 128) : Fin 256 := ⟨128 * n.val + r.val, by omega⟩
def chunk (X : M 256 1024) (n : Fin 2) (r : Fin 128) : Fin 1024 → EReal := rw2 X (at2 n r)

/-- A lane by its group and its place in it. -/
theorem lane_grp (j : Fin 1024) : ∃ g c, j = lane g c ∧ grp j = g := by
  refine ⟨grp j, ⟨j.val % 128, Nat.mod_lt _ (by decide)⟩, Fin.ext ?_, rfl⟩
  show j.val = 128 * (j.val / 128) + j.val % 128
  omega

theorem mix_at (n : Fin 2) (r : Fin 128) (j : Fin 1024) : MIX ws bst (VN X cn lg lb win) (ix2 (at2 n r) j)
    = s (wt cn lg lb win ws bst wout) (chunk X n) r j := by
  obtain ⟨g, c, hj, hg⟩ := lane_grp j
  unfold MIX at2 s
  rw [below_at]
  subst hj
  rw [side_at, cell_at, hg]
  simp only [vn_at X cn lg lb win ws bst wout]
  rfl

theorem dvn_at (n : Fin 2) (r : Fin 128) (j : Fin 1024) : DVN ws (DS X D cn win wout) (ix2 (at2 n r) j)
    = dvn (wt cn lg lb win ws bst wout) (chunk X n) (chunk D n) r j := by
  obtain ⟨g, c, hj, hg⟩ := lane_grp j
  unfold DVN at2 dvn
  rw [below_at]
  subst hj
  rw [side_at, bcell_at, hg]
  simp only [ds_at X D cn lg lb win ws bst wout]
  rfl

/-- The first half's gradient. -/
theorem dzu_at (n : Fin 2) (r : Fin 128) (j : Fin 1024) :
    k0_pay130 (F := Ideal) (k0_pay20 X cn win) (k0_pay21 (k0_pay20 X cn win)) (k0_pay23 (k0_pay20 X cn win)) (k0_pay24 (k0_pay20 X cn win))
      (MIX ws bst (VN X cn lg lb win)) (k0_pay59 D wout) (ix2 (at2 n r) j) = dzu (wt cn lg lb win ws bst wout) (chunk X n) (chunk D n) r j := by
  unfold k0_pay130 k0_pay21 k0_pay23 k0_pay24 k0_pay22; pointwise
  rw [mix_at X cn lg lb win ws bst wout, p59 D cn lg lb win ws bst wout, p20, p19 X cn lg lb win ws bst wout]
  rfl

/-- The layer norm's row before its scale. -/
theorem xc_at (n : Fin 2) (r : Fin 128) : cent (fun x => gelu (k0_pay26 (F := Ideal) (Z X cn win) (ix2 (at2 n r) x)))
    = xc (wt cn lg lb win ws bst wout) (chunk X n r) := by
  simp only [p26, p19 X cn lg lb win ws bst wout]
  rfl

/-- The second half's gradient through the layer norm and the gate's curve. -/
theorem p133 (v59 v68 v79 v83 v90 v632 v645 : FVec Ideal S256x1024 .f32) (v61 : FVec Ideal S1x1024 .f32) (v98 v101 : FVec Ideal S256x1 .f32) (r : Fin 256)
    (h98 : v98 (ix2 r 0) = inv fun x => v90 (ix2 r x)) (h101 : v101 (ix2 r 0) = slope fun x => v90 (ix2 r x)) (k : Fin 2048) :
    k0_pay133 (F := Ideal) v59 v61 v68 v79 v83 v90 v98 v101 v632 v645 (ix2 r k)
      = if h : k.val < 1024 then v645 (ix2 r ⟨k.val, h⟩)
        else curve (v59 (ix2 r ⟨k.val - 1024, by omega⟩)) (v68 (ix2 r ⟨k.val - 1024, by omega⟩)) (v79 (ix2 r ⟨k.val - 1024, by omega⟩)) (v83 (ix2 r ⟨k.val - 1024, by omega⟩))
          (lnd (fun x => v90 (ix2 r x)) (fun x => v61 (ix2 0 x)) (fun x => v632 (ix2 r x)) ⟨k.val - 1024, by omega⟩) := by
  unfold k0_pay133; pointwise
  simp only [Fin.sum_univ_one, h98, h101]
  rfl

theorem p27 (i : (⟨2, ![1, 1024]⟩ : Shape).Idx) : k0_pay27 (F := Ideal) lg i = lg i := by
  unfold k0_pay27; pointwise
theorem p29 (Z : M 256 2048) (i : (⟨2, ![256, 1024]⟩ : Shape).Idx) : k0_pay29 (F := Ideal) Z i
    = Ideal.ofBits .f32 0x40400000#32 * (k0_pay26 (F := Ideal) Z i * k0_pay26 (F := Ideal) Z i) := by
  unfold k0_pay29; pointwise
theorem p31 (Z : M 256 2048) (i : (⟨2, ![256, 1024]⟩ : Shape).Idx) : k0_pay31 (F := Ideal) Z i
    = (1 + th (k0_pay26 (F := Ideal) Z i)) * (1 - th (k0_pay26 (F := Ideal) Z i)) := by
  unfold k0_pay31 k0_pay30; pointwise; rfl
theorem p33 (Z : M 256 2048) (i : (⟨2, ![256, 1024]⟩ : Shape).Idx) : k0_pay33 (F := Ideal) (k0_pay30 Z) k0_pay32 i = fac (k0_pay26 (F := Ideal) Z i) := by
  unfold k0_pay33 k0_pay30 k0_pay32; pointwise; rfl

theorem dz_at (n : Fin 2) (r : Fin 128) (k : Fin 2048) : DZ X D cn lg lb win ws bst wout (ix2 (at2 n r) k)
    = dz (wt cn lg lb win ws bst wout) (chunk X n) (chunk D n) r k := by
  refine (p133 _ _ _ _ _ _ _ _ _ _ (at2 n r) ?_ ?_ k).trans ?_
  · simp only [p34, p36]
  · simp only [p34, p37]
  · unfold dz
    refine dite_congr rfl (fun h => dzu_at X D cn lg lb win ws bst wout n r _) fun h => ?_
    simp only [p34, p29, p31, p33, xc_at X cn lg lb win ws bst wout, dvn_at X D cn lg lb win ws bst wout]
    have hz : ∀ k, Z X cn win (ix2 (at2 n r) k) = z (wt cn lg lb win ws bst wout) (chunk X n r) k := fun k => p19 X cn lg lb win ws bst wout _ _
    simp only [p26, p27, hz]
    rfl

theorem y_at (n : Fin 2) (r : Fin 128) (j : Fin 1024) : k0_pay136 (F := Ideal) (DZ X D cn lg lb win ws bst wout) win (ix2 (at2 n r) j)
    = y (wt cn lg lb win ws bst wout) (chunk X n) (chunk D n) r j := by
  unfold k0_pay136; pointwise
  simp only [dz_at]
  rfl

theorem p58 (i : (⟨2, ![256, 1024]⟩ : Shape).Idx) : k0_pay58 (F := Ideal) D i = D i := by
  unfold k0_pay58; pointwise

theorem dh_at (n : Fin 2) (r : Fin 128) (j : Fin 1024) : DH X D cn lg lb win ws bst wout (ix2 (at2 n r) j)
    = dh (wt cn lg lb win ws bst wout) (chunk X n) (chunk D n) r j := by
  unfold DH k0_pay137 k0_pay12 k0_pay13; pointwise
  simp only [Fin.sum_univ_one, y_at X D cn lg lb win ws bst wout, p15, p16, p58]
  rfl

/-- A sum over a half block's rows, chunk by chunk. -/
theorem sum_half (f : Fin 256 → EReal) : ∑ r, f r = ∑ r : Fin 128, f (at2 0 r) + ∑ r : Fin 128, f (at2 1 r) :=
  (Fin.sum_univ_add (a := 128) (b := 128) f).trans (congrArg₂ (· + ·)
    (Finset.sum_congr rfl fun r _ => congrArg f (Fin.ext (Nat.zero_add _).symm))
    (Finset.sum_congr rfl fun r _ => rfl))

theorem dcn_at (j : Fin 1024) : DCN X D cn lg lb win ws bst wout (ix2 0 j)
    = dcn (wt cn lg lb win ws bst wout) (chunk X 0) (chunk D 0) j + dcn (wt cn lg lb win ws bst wout) (chunk X 1) (chunk D 1) j := by
  have e : DCN X D cn lg lb win ws bst wout (ix2 0 j) = ∑ r : Fin 256, X (ix2 r j) * inv (rw2 X r) * k0_pay136 (F := Ideal) (DZ X D cn lg lb win ws bst wout) win (ix2 r j) := by
    unfold DCN k0_pay17 k0_pay12; pointwise
    simp only [p15]
  rw [e, sum_half]
  simp only [y_at]
  rfl

theorem dlb_at (j : Fin 1024) : DLB X D cn win ws wout (ix2 0 j)
    = dlb (wt cn lg lb win ws bst wout) (chunk X 0) (chunk D 0) j + dlb (wt cn lg lb win ws bst wout) (chunk X 1) (chunk D 1) j := by
  have e : DLB X D cn win ws wout (ix2 0 j) = ∑ r : Fin 256, DVN ws (DS X D cn win wout) (ix2 r j) := by
    unfold DLB k0_pay131; pointwise
  rw [e, sum_half]
  simp only [dvn_at X D cn lg lb win ws bst wout]
  rfl

theorem dlg_at (j : Fin 1024) : DLG X D cn win ws wout (ix2 0 j)
    = dlg (wt cn lg lb win ws bst wout) (chunk X 0) (chunk D 0) j + dlg (wt cn lg lb win ws bst wout) (chunk X 1) (chunk D 1) j := by
  have e : DLG X D cn win ws wout (ix2 0 j) = ∑ r : Fin 256, cent (fun x => gelu (k0_pay26 (F := Ideal) (Z X cn win) (ix2 r x))) j
      * inv (cent (fun x => gelu (k0_pay26 (F := Ideal) (Z X cn win) (ix2 r x)))) * DVN ws (DS X D cn win wout) (ix2 r j) := by
    unfold DLG k0_pay132 k0_pay38; pointwise
    simp only [p34, p36]
  rw [e, sum_half]
  simp only [dvn_at X D cn lg lb win ws bst wout, xc_at X cn lg lb win ws bst wout]
  rfl

theorem us_at (n : Fin 2) (r : Fin 128) (j : Fin 1024) : US X cn lg lb win ws bst (ix2 (at2 n r) j)
    = us (wt cn lg lb win ws bst wout) (chunk X n) r j := by
  unfold US k0_pay61; pointwise
  rw [mix_at X cn lg lb win ws bst wout, p25, p20, p19 X cn lg lb win ws bst wout]
  rfl

theorem hn_at (n : Fin 2) (r : Fin 128) (j : Fin 1024) : k0_pay60 (F := Ideal) (k0_pay18 X cn) (ix2 (at2 n r) j)
    = nrm (wt cn lg lb win ws bst wout) (chunk X n r) j := by
  unfold k0_pay60 k0_pay18 k0_pay17 k0_pay13 k0_pay12; pointwise
  rw [p15]
  rfl

theorem dws_at (n : Fin 2) (g : Fin 8) (r k : Fin 128) : wcell (DS X D cn win wout) (VN X cn lg lb win) n g (ix2 r k)
    = dws (wt cn lg lb win ws bst wout) (chunk X n) (chunk D n) g r k := by
  rw [wcell_at]
  simp only [ds_at X D cn lg lb win ws bst wout, vn_at X cn lg lb win ws bst wout]
  rfl

/-- A lane's row sum, where the lane names a group. -/
def shift (w : Wt) (H D : Fin 128 → Fin 1024 → EReal) (r l : Fin 128) : EReal := if h : l.val < 8 then dbs w H D ⟨l.val, h⟩ r else 0

theorem shifts_at (a : FVec Ideal S128x128 .f32) (n : Fin 2) (r l : Fin 128) : shifts (DS X D cn win wout) a n (ix2 r l)
    = a (ix2 r l) + shift (wt cn lg lb win ws bst wout) (chunk X n) (chunk D n) r l := by
  have hs : ∀ g, scell (DS X D cn win wout) n g (ix2 r l) = if l.val = g.val then dbs (wt cn lg lb win ws bst wout) (chunk X n) (chunk D n) g r else 0 := fun g => by
    rw [scell_at]
    simp only [ds_at X D cn lg lb win ws bst wout]
    rfl
  have e : shifts (DS X D cn win wout) a n (ix2 r l) = (List.finRange 8).foldl (fun b g => b + scell (DS X D cn win wout) n g (ix2 r l)) (a (ix2 r l)) := rfl
  rw [e]
  simp only [hs]
  unfold shift
  by_cases h : l.val < 8
  · rw [dif_pos h]
    obtain ⟨g, hg⟩ : ∃ g : Fin 8, g.val = l.val := ⟨⟨l.val, h⟩, rfl⟩
    obtain rfl : g = ⟨l.val, h⟩ := Fin.ext hg
    generalize (⟨l.val, h⟩ : Fin 8) = g at *
    simp only [← hg]
    fin_cases g <;> simp [List.finRange]
  · have hne : ∀ g : Fin 8, ¬ l.val = g.val := fun g => by omega
    rw [dif_neg h]
    simp [hne, List.finRange]

end Cert.SguIdeal.Pay

end
-- ==== Proof.SguFBlock.lean ====
module

public import proofs.«01_k».proof.Proof.Gen.SguFIdeal.Value
public import proofs.«01_k».proof.Proof.SguFRef
public import proofs.«01_k».proof.Proof.SguAt
public import proofs.«01_k».proof.Proof.FfnFinal
public import Idealize.ShloMosaic.Lib.Pipeline.ValueKit.Geometry
public import Idealize.ShloMosaic.Lib.Pipeline.ValueKit.Acc

@[expose] public section

noncomputable section

/-! What one grid point of the gated mixer leaves: two chunks of the result. -/

namespace Cert.SguFIdeal.Block

open Cert.SguFIdeal Cert.SguFIdeal.Gen Idealize.ShloMosaic Idealize.ShloMosaic.TcCoe Cert.FfnRow Cert.SguRow
open Cert.SguIdeal.Pay (M M3 wt rw2 MIX at2 chunk mix_at VN vn_at)

variable (X : M 256 1024) (cn lg lb : M 1 1024) (win : M 1024 2048) (ws : M3 8 128 128) (bst : M 128 128) (wout : M 1024 1024)

/-- The gate's curve over both halves, and the layer norm of the second. -/
abbrev Gelu : M 256 2048 := k0_pay2 (F := Ideal) X cn win
@[inherit_doc Gelu] abbrev Norm : M 256 1024 := k0_pay7 (F := Ideal) (k0_pay3 X cn win) (k0_pay4 lg) (k0_pay5 lb) (k0_pay6 X cn win)

/-- The block's last lines, after the mix `V`. -/
def last (V : M 256 1024) : M 256 1024 :=
  addf (F := Ideal) (φ := .f32) (k0_pay1 X) (matmul dot_S256x1024_S1024x1024_S256x1024_1_0_0_1_n_n none
    (truncf .bf16 (mulf (F := Ideal) (φ := .f32) (extractStridedSlice S256x1024 ![0, 0] (Gelu X cn win) slices_S256x2048_o0_0_S256x1024) V) bitsLt_bf16_f32)
    (shapeCast S1024x1024 (show FVec Ideal S1024x1024 .bf16 from wout) shapeCasts_S1024x1024_S1024x1024) (constant S256x1024 .f32 0x00000000#32))

theorem written : out0_8 (F := Ideal) X cn win lg lb ws bst wout = last X cn win wout (MIX ws bst (Norm X cn lg lb win)) := by
  unfold_out out0_8
  funext y
  frame_out
  rfl

theorem gelu_at (r : Fin 256) (k : Fin 2048) : Gelu X cn win (ix2 r k) = gelu (z (wt cn lg lb win ws bst wout) (rw2 X r) k) := by
  unfold Gelu k0_pay2 k0_pay1; pointwise
  rfl

theorem norm_at (r : Fin 256) (j : Fin 1024) : Norm X cn lg lb win (ix2 r j) = vn (wt cn lg lb win ws bst wout) (rw2 X r) j := by
  unfold Norm k0_pay7 k0_pay6 k0_pay3 k0_pay4 k0_pay5; pointwise
  simp only [gelu_at X cn lg lb win ws bst wout]
  rfl

include ws bst wout in
/-- The layer norm is the gradient kernel's. -/
theorem norm_eq : Norm X cn lg lb win = VN X cn lg lb win := by
  funext y
  have h : ∀ (r : Fin 256) (j : Fin 1024), Norm X cn lg lb win (ix2 r j) = VN X cn lg lb win (ix2 r j) := fun r j =>
    (norm_at X cn lg lb win ws bst wout r j).trans (vn_at X cn lg lb win ws bst wout r j).symm
  rw [Cert.FfnAIdeal.Final.row_col y]
  exact h _ _

theorem out_at (n : Fin 2) (r : Fin 128) (j : Fin 1024) : out0_8 (F := Ideal) X cn win lg lb ws bst wout (ix2 (at2 n r) j)
    = Cert.SguFRefIdeal.Val.out (wt cn lg lb win ws bst wout) (chunk X n) r j := by
  rw [written, norm_eq X cn lg lb win ws bst wout]
  have e : ∀ V : M 256 1024, last X cn win wout V (ix2 (at2 n r) j)
      = X (ix2 (at2 n r) j) + ∑ k : Fin 1024, Gelu X cn win (ix2 (at2 n r) (fst k)) * V (ix2 (at2 n r) k) * wout (ix2 k j) := fun V => by
    unfold last k0_pay1; pointwise
    rfl
  rw [e]
  simp only [gelu_at X cn lg lb win ws bst wout, mix_at X cn lg lb win ws bst wout]
  rfl

end Cert.SguFIdeal.Block

end
-- ==== Proof.SguBlock.lean ====
module

public import proofs.«01_k».proof.Proof.SguAt

@[expose] public section

noncomputable section

/-! What one grid point leaves, entry by entry. -/

namespace Cert.SguIdeal.Pay

open Cert.SguIdeal Cert.SguIdeal.Gen Idealize.ShloMosaic Idealize.ShloMosaic.TcCoe Idealize.SL.Sem Cert.FfnRow Cert.SguRow

/-- A row of a block by its half and its place there. -/
def at5 (p : Fin 2) (k : Fin 256) : Fin 512 := ⟨256 * p.val + k.val, by omega⟩

theorem row_at5 (i : Fin 512) : ∃ p k, i = at5 p k := by
  refine ⟨⟨i.val / 256, by omega⟩, ⟨i.val % 256, Nat.mod_lt _ (by decide)⟩, Fin.ext ?_⟩
  show i.val = 256 * (i.val / 256) + i.val % 256
  omega
theorem row_at2 (i : Fin 256) : ∃ n r, i = at2 n r := by
  refine ⟨⟨i.val / 128, by omega⟩, ⟨i.val % 128, Nat.mod_lt _ (by decide)⟩, Fin.ext ?_⟩
  show i.val = 128 * (i.val / 128) + i.val % 128
  omega

/-- A sum over a block's rows, chunk by chunk. -/
theorem sum_block (f : Fin 512 → EReal) : ∑ i, f i = ∑ p : Fin 2, ∑ n : Fin 2, ∑ r : Fin 128, f (at5 p (at2 n r)) := by
  simp only [Fin.sum_univ_two]
  rw [← sum_half fun k => f (at5 0 k), ← sum_half fun k => f (at5 1 k)]
  exact (Fin.sum_univ_add (a := 256) (b := 256) f).trans (congrArg₂ (· + ·)
    (Finset.sum_congr rfl fun r _ => congrArg f (Fin.ext (Nat.zero_add _).symm)) (Finset.sum_congr rfl fun r _ => rfl))

/-- The first or the second of two. -/
def pick {α : Type} (p : Fin 2) (a b : α) : α := match p with
  | 0 => a
  | 1 => b
theorem pick_map {α β γ : Type} (g : α → β → γ) (p : Fin 2) (a b : α) (x y : β) : pick p (g a x) (g b y) = g (pick p a b) (pick p x y) := match p with
  | 0 => rfl
  | 1 => rfl

section
variable {n : ℕ} {e : EltTy} (hb : ∀ a, (![256, 0] : Fin 2 → ℕ) a + (![256, n] : Fin 2 → ℕ) a ≤ (⟨2, ![512, n]⟩ : Shape).size a)
  (ha : ∀ a, (![0, 0] : Fin 2 → ℕ) a + (![256, n] : Fin 2 → ℕ) a ≤ (⟨2, ![512, n]⟩ : Shape).size a)
  (b a : Vec Ideal ⟨2, ![256, n]⟩ e)

/-- A stored half is read back at its place, -/
theorem canon_half (o : ℕ) (ho : ∀ a, (![o, 0] : Fin 2 → ℕ) a + (![256, n] : Fin 2 → ℕ) a ≤ (⟨2, ![512, n]⟩ : Shape).size a)
    (L : List (View.Piece (Elt Ideal) ⟨2, ![512, n]⟩ e)) (w : Vec Ideal ⟨2, ![256, n]⟩ e) (k : Fin 256) (hk : o + k.val < 512) (j : Fin n) :
    View.canon (Val := Elt Ideal) (⟨Rect.unit ![o, 0] ![256, n] ho, w⟩ :: L) (ix2 ⟨o + k.val, hk⟩ j) = w (ix2 k j) := by
  have hk : (ix2 ⟨o + k.val, hk⟩ j : (⟨2, ![512, n]⟩ : Shape).Idx) = (Rect.unit (s := ⟨2, ![512, n]⟩) ![o, 0] ![256, n] ho).emb (ix2 (n0 := 256) (n1 := n) k j) := by
    funext a; refine Fin.ext ?_
    rw [Idealize.ShloMosaic.ValueKit.rect_emb_unit_val]
    fin_cases a
    · rfl
    · exact (Nat.zero_add _).symm
  have hc : ∀ z, View.canon (Val := Elt Ideal) (⟨Rect.unit ![o, 0] ![256, n] ho, w⟩ :: L)
      ((Rect.unit (s := ⟨2, ![512, n]⟩) ![o, 0] ![256, n] ho).emb z) = w z := fun z => View.canon_cons_emb (Val := Elt Ideal) _ w L z
  rw [hk, hc]

theorem halves_at (p : Fin 2) (k : Fin 256) (j : Fin n) : View.canon (Val := Elt Ideal) (halves n hb ha b a) (ix2 (at5 p k) j) = pick p a b (ix2 k j) := by
  match p with
  | 0 =>
    refine (View.canon_cons_of_not_mem (Val := Elt Ideal) _ _ ?_).trans (canon_half 0 ha [] a k (by omega) j)
    intro hm
    have h1 : 256 ≤ 256 * 0 + k.val := ((Rect.mem_set_unit (inb := hb)).1 hm 0).1
    omega
  | 1 => exact canon_half 256 hb _ b k (by omega) j

theorem halves_covered : ∀ y, ∃ p ∈ halves n hb ha b a, y ∈ p.1.set := fun y => by
  have hy : (y 0).val < 512 := (y 0).isLt
  have hz : (y 1).val < n := (y 1).isLt
  rcases Nat.lt_or_ge (y 0).val 256 with h | h
  · refine ⟨_, List.mem_cons_of_mem _ List.mem_cons_self, (Rect.mem_set_unit (inb := ha)).2 fun a => ?_⟩
    fin_cases a
    · exact ⟨Nat.zero_le _, (Nat.zero_add 256).symm ▸ h⟩
    · exact ⟨Nat.zero_le _, (Nat.zero_add n).symm ▸ hz⟩
  · refine ⟨_, List.mem_cons_self, (Rect.mem_set_unit (inb := hb)).2 fun a => ?_⟩
    fin_cases a
    · exact ⟨h, hy⟩
    · exact ⟨Nat.zero_le _, (Nat.zero_add n).symm ▸ hz⟩

/-- and both halves by a load of the whole. -/
theorem halves_read (view : View sig .tc .vmem ⟨2, ![512, n]⟩ e)
    (ho : ∀ a, (![0, 0] : Fin 2 → ℕ) a + (![512, n] : Fin 2 → ℕ) a ≤ (⟨2, ![512, n]⟩ : Shape).size a) (p : Fin 2) (k : Fin 256) (j : Fin n) :
    (view.readCov (Val := Elt Ideal) (halves n hb ha b a) (Rect.unit (s := ⟨2, ![512, n]⟩) ![0, 0] ![512, n] ho).toLoadRect : Vec Ideal ⟨2, ![512, n]⟩ e) (ix2 (at5 p k) j)
      = pick p a b (ix2 k j) := by
  have he : (Rect.unit (s := ⟨2, ![512, n]⟩) ![0, 0] ![512, n] ho).emb (ix2 (n0 := 512) (n1 := n) (at5 p k) j) = (ix2 (at5 p k) j : (⟨2, ![512, n]⟩ : Shape).Idx) := by
    funext a; refine Fin.ext ?_
    rw [Idealize.ShloMosaic.ValueKit.rect_emb_unit_val]
    fin_cases a
    · exact Nat.zero_add _
    · exact Nat.zero_add _
  refine (congrFun (View.readCov_eq_canon_ld view (halves n hb ha b a) _ (halves_covered hb ha b a)) _).trans ?_
  exact (congrArg (View.canon (Val := Elt Ideal) (halves n hb ha b a)) he).trans (halves_at hb ha b a p k j)
end

/-- The eight matrices read back. -/
theorem stack_at (f : Fin 8 → Vec Ideal S1x128x128 .f32) (g : Fin 8) (r k : Fin 128) : View.canon (Val := Elt Ideal) (stack f) (ix3 g r k) = f g (ix3 0 r k) := by
  have key : ∀ L : List (Fin 8), g ∈ L → View.canon (Val := Elt Ideal) (L.map fun g => (⟨Rect.unit (s := S8x128x128) ![g.val, 0, 0] ![1, 128, 128] (ld_ok g), f g⟩ : View.Piece (Elt Ideal) S8x128x128 .f32))
      (ix3 g r k) = f g (ix3 0 r k) := by
    intro L
    induction L with
    | nil => exact fun h => absurd h List.not_mem_nil
    | cons x L ih =>
      intro h
      by_cases hx : g = x
      · subst hx
        have hk : (ix3 g r k : S8x128x128.Idx) = (Rect.unit (s := S8x128x128) ![g.val, 0, 0] ![1, 128, 128] (ld_ok g)).emb (ix3 (n0 := 1) (n1 := 128) (n2 := 128) 0 r k) := by
          funext a; refine Fin.ext ?_
          rw [Idealize.ShloMosaic.ValueKit.rect_emb_unit_val]
          fin_cases a
          · rfl
          · exact (Nat.zero_add _).symm
          · exact (Nat.zero_add _).symm
        have hc : ∀ M z, View.canon (Val := Elt Ideal) (⟨Rect.unit (s := S8x128x128) ![g.val, 0, 0] ![1, 128, 128] (ld_ok g), f g⟩ :: M)
            ((Rect.unit (s := S8x128x128) ![g.val, 0, 0] ![1, 128, 128] (ld_ok g)).emb z) = f g z := fun M z => View.canon_cons_emb (Val := Elt Ideal) _ _ M z
        rw [List.map_cons, hk, hc]
      · refine (View.canon_cons_of_not_mem (Val := Elt Ideal) _ _ ?_).trans (ih ((List.mem_cons.1 h).resolve_left hx))
        intro hm
        have h1 : x.val ≤ g.val := ((Rect.mem_set_unit (inb := ld_ok x)).1 hm 0).1
        have h2 : g.val < x.val + 1 := ((Rect.mem_set_unit (inb := ld_ok x)).1 hm 0).2
        exact hx (Fin.ext (by omega))
  exact key _ (by fin_cases g <;> decide)

variable (m : (ℓ : Loc nD τ sig) → Buf (Elt Ideal) ℓ) (c : Dev nD) (t : Fin cfg0.N)

/-- A point's weights, and the rows of its chunks. -/
abbrev wP : Wt := wt (cnB m c t) (lgB m c t) (lbB m c t) (winB m c t) (wsB m c t) (bstB m c t) (woutB m c t)
def xP (p : Fin 2) : M 256 1024 := pick p (x0 m c t) (x1 m c t)
def dP (p : Fin 2) : M 256 1024 := pick p (d0 m c t) (d1 m c t)
abbrev HP (p n : Fin 2) : Fin 128 → Fin 1024 → EReal := chunk (xP m c t p) n
abbrev DP (p n : Fin 2) : Fin 128 → Fin 1024 → EReal := chunk (dP m c t p) n

/-- A sum over a point's four chunks. -/
def four (f : (Fin 128 → Fin 1024 → EReal) → (Fin 128 → Fin 1024 → EReal) → EReal) : EReal := ∑ p : Fin 2, ∑ n : Fin 2, f (HP m c t p n) (DP m c t p n)

theorem four_eq (f : (Fin 128 → Fin 1024 → EReal) → (Fin 128 → Fin 1024 → EReal) → EReal) : four m c t f
    = f (chunk (x0 m c t) 0) (chunk (d0 m c t) 0) + f (chunk (x0 m c t) 1) (chunk (d0 m c t) 1)
      + (f (chunk (x1 m c t) 0) (chunk (d1 m c t) 0) + f (chunk (x1 m c t) 1) (chunk (d1 m c t) 1)) := by
  unfold four
  simp only [Fin.sum_univ_two]
  rfl

theorem dh_block (p n : Fin 2) (r : Fin 128) (j : Fin 1024) : dhOut m c t (ix2 (at5 p (at2 n r)) j) = dh (wP m c t) (HP m c t p n) (DP m c t p n) r j :=
  (halves_at _ _ _ _ p (at2 n r) j).trans ((congrFun (pick_map (dhS m c t) p _ _ _ _) _).trans (dh_at _ _ _ _ _ _ _ _ _ n r j))

theorem both_at (a b : FVec Ideal S1x1024 .f32) (j : Fin 1024) : both a b (ix2 0 j) = a (ix2 0 j) + b (ix2 0 j) := by
  unfold both; pointwise

theorem dcn_block (j : Fin 1024) : dcnOut m c t (ix2 0 j) = four m c t fun H D => dcn (wP m c t) H D j := by
  rw [four_eq]
  exact (both_at _ _ j).trans (congrArg₂ (· + ·) (dcn_at _ _ _ _ _ _ _ _ _ j) (dcn_at _ _ _ _ _ _ _ _ _ j))
theorem dlg_block (j : Fin 1024) : dlgOut m c t (ix2 0 j) = four m c t fun H D => dlg (wP m c t) H D j := by
  rw [four_eq]
  exact (both_at _ _ j).trans (congrArg₂ (· + ·) (dlg_at _ _ _ _ _ _ _ _ _ j) (dlg_at _ _ _ _ _ _ _ _ _ j))
theorem dlb_block (j : Fin 1024) : dlbOut m c t (ix2 0 j) = four m c t fun H D => dlb (wP m c t) H D j := by
  rw [four_eq]
  exact (both_at _ _ j).trans (congrArg₂ (· + ·) (dlb_at _ _ _ _ _ _ _ _ _ j) (dlb_at _ _ _ _ _ _ _ _ _ j))

theorem p292 (a : FVec Ideal S512x1024 .bf16) (b : FVec Ideal S512x2048 .bf16) (x : Fin 1024) (k : Fin 2048) :
    k0_pay292 (F := Ideal) a b (ix2 x k) = ∑ i : Fin 512, a (ix2 i x) * b (ix2 i k) := by
  unfold k0_pay292; pointwise
theorem p290 (a : FVec Ideal S512x1024 .bf16) (b : FVec Ideal S512x1024 .f32) (x k : Fin 1024) :
    k0_pay290 (F := Ideal) a b (ix2 x k) = ∑ i : Fin 512, a (ix2 i x) * b (ix2 i k) := by
  unfold k0_pay290; pointwise
theorem p135 (v : FVec Ideal S256x2048 .f32) (i : S256x2048.Idx) : k0_pay135 (F := Ideal) (truncf (F := Ideal) (s := S256x2048) .bf16 v bitsLt_bf16_f32) i = v i := by
  unfold k0_pay135; pointwise

theorem dwin_block (x : Fin 1024) (k : Fin 2048) : dwinOut m c t (ix2 x k) = four m c t fun H D => dwin (wP m c t) H D x k := by
  refine (p292 _ _ x k).trans ((sum_block _).trans ?_)
  refine Finset.sum_congr rfl fun p _ => Finset.sum_congr rfl fun n _ => Finset.sum_congr rfl fun r _ => congrArg₂ (· * ·) ?_ ?_
  · exact (halves_read _ _ _ _ _ _ p (at2 n r) x).trans ((congrFun (pick_map (fun X (_ : Unit) => hnS m c t X) p _ _ () ()) _).trans (hn_at _ _ _ _ _ _ _ _ n r x))
  · exact (halves_read _ _ _ _ _ _ p (at2 n r) k).trans ((congrFun (pick_map (dzS m c t) p _ _ _ _) _).trans ((p135 _ _).trans (dz_at _ _ _ _ _ _ _ _ _ n r k)))

/-- A block's row is its half's. -/
theorem load_at (A : M 512 1024) (o : ℕ) (ho : ∀ a, (![o, 0] : Fin 2 → ℕ) a + (![256, 1024] : Fin 2 → ℕ) a ≤ S512x1024.size a) (k : Fin 256) (hk : o + k.val < 512) (j : Fin 1024) :
    (View.ld (Val := Elt Ideal) (S := S512x1024) (e' := .f32) A (Rect.unit (s := S512x1024) ![o, 0] ![256, 1024] ho) : M 256 1024) (ix2 k j) = A (ix2 ⟨o + k.val, hk⟩ j) := by
  refine congrArg A (funext fun a => Fin.ext ?_)
  show (![o, 0] : Fin 2 → ℕ) a + 1 * (ix2 (n0 := 256) (n1 := 1024) k j a).val = (ix2 (n0 := 512) (n1 := 1024) ⟨o + k.val, hk⟩ j a).val
  rw [Nat.one_mul]
  fin_cases a
  · rfl
  · exact Nat.zero_add _
theorem half_at (A : M 512 1024) (p : Fin 2) (k : Fin 256) (j : Fin 1024) :
    (pick p (View.ld (Val := Elt Ideal) (S := S512x1024) (e' := .f32) A (Rect.unit (s := S512x1024) ![0, 0] ![256, 1024] inb_S512x1024_S256x1024_0_0) : M 256 1024)
      (View.ld (Val := Elt Ideal) (S := S512x1024) (e' := .f32) A (Rect.unit (s := S512x1024) ![256, 0] ![256, 1024] inb_S512x1024_S256x1024_256_0) : M 256 1024)) (ix2 k j) = A (ix2 (at5 p k) j) :=
  match p with
  | 0 => load_at A 0 _ k (by omega) j
  | 1 => load_at A 256 _ k (by omega) j

theorem d_at (p : Fin 2) (k : Fin 256) (j : Fin 1024) : dP m c t p (ix2 k j) = (iblk m c 1 t : M 512 1024) (ix2 (at5 p k) j) :=
  half_at _ p k j
theorem x_at (p : Fin 2) (k : Fin 256) (j : Fin 1024) : xP m c t p (ix2 k j) = (iblk m c 0 t : M 512 1024) (ix2 (at5 p k) j) :=
  half_at _ p k j

theorem dwout_block (x k : Fin 1024) : dwoutOut m c t (ix2 x k) = four m c t fun H D => dwout (wP m c t) H D x k := by
  refine (p290 _ _ x k).trans ((sum_block _).trans ?_)
  refine Finset.sum_congr rfl fun p _ => Finset.sum_congr rfl fun n _ => Finset.sum_congr rfl fun r _ => congrArg₂ (· * ·) ?_ ?_
  · exact (halves_read _ _ _ _ _ _ p (at2 n r) x).trans ((congrFun (pick_map (fun X (_ : Unit) => usS m c t X) p _ _ () ()) _).trans (us_at _ _ _ _ _ _ _ _ n r x))
  · exact (d_at m c t p _ k).symm

theorem dws_block (g : Fin 8) (r k : Fin 128) : dwsOut m c t g (ix2 r k) = low r k (four m c t fun H D => dws (wP m c t) H D g r k) := by
  have e : dwsOut m c t g (ix2 r k) = Scalar.select (IntOp.cmpi .sge (BitVec.ofNat 32 r.val) (BitVec.ofNat 32 k.val))
      (wcell (dsS m c t (x0 m c t) (d0 m c t)) (vnS m c t (x0 m c t)) 0 g (ix2 r k) + wcell (dsS m c t (x0 m c t) (d0 m c t)) (vnS m c t (x0 m c t)) 1 g (ix2 r k)
        + wcell (dsS m c t (x1 m c t) (d1 m c t)) (vnS m c t (x1 m c t)) 0 g (ix2 r k) + wcell (dsS m c t (x1 m c t) (d1 m c t)) (vnS m c t (x1 m c t)) 1 g (ix2 r k)) 0 := by
    unfold dwsOut k0_pay2; pointwise
  rw [e, WordCmp.cmpi_sge_ofNat (by omega) (by omega), WordCmp.select_ofBool, four_eq]
  simp only [decide_eq_true_eq, dws_at _ _ _ (lgB m c t) (lbB m c t) _ (wsB m c t) (bstB m c t)]
  rw [add_assoc (dws _ _ _ g r k + dws _ _ _ g r k)]
  rfl

theorem dbs_block (r l : Fin 128) : dbsOut m c t (ix2 r l) = four m c t fun H D => shift (wP m c t) H D r l := by
  have z : (broadcast S128x128 (Scalar.ofBits (F := Ideal) .f32 0x00000000#32) : FVec Ideal S128x128 .f32) (ix2 r l) = 0 := by pointwise
  rw [four_eq]
  unfold dbsOut
  simp only [shifts_at _ _ _ (lgB m c t) (lbB m c t) _ (wsB m c t) (bstB m c t)]
  rw [z, zero_add, add_assoc (shift _ _ _ r l + shift _ _ _ r l)]

end Cert.SguIdeal.Pay

end
-- ==== Proof.SguRefSum.lean ====
module

public import proofs.«01_k».proof.Proof.SguRef
public import proofs.«01_k».proof.Proof.FfnRef
public import Idealize.ShloMosaic.Lib.KernelVsHost

@[expose] public section

noncomputable section

/-! The weights' gradients in the reference: sums over both sequences' chunks. -/

namespace Cert.SguRefIdeal.Val

open Cert.SguRefIdeal Cert.SguRefIdeal.Gen Cert.SguRefIdeal.Read Idealize.ShloMosaic Idealize.ShloMosaic.TcCoe Idealize.SL.Sem Cert.FfnRow Cert.SguRow
open Cert.FfnARefIdeal.Val (sum_rows zero_word)

variable (x0 x1 : S2x2048x1024.Idx → EReal) (x2 : S1024.Idx → EReal) (x3 : S1024x2048.Idx → EReal) (x4 x5 : S1024.Idx → EReal)
  (x6 : S8x128x128.Idx → EReal) (x7 : S8x128.Idx → EReal) (x8 : S1024x1024.Idx → EReal)

/-- A sum over a sequence's rows, chunk by chunk. -/
theorem sum_seq (f : Fin 2048 → EReal) : ∑ i, f i = ∑ N : Fin 16, ∑ r : Fin 128, f (at16 N r) := by
  let e : Fin 16 × Fin 128 ≃ Fin 2048 :=
    { toFun := fun p => at16 p.1 p.2
      invFun := fun i => (⟨i.val / 128, by omega⟩, ⟨i.val % 128, Nat.mod_lt _ (by decide)⟩)
      left_inv := fun p => by
        refine Prod.ext (Fin.ext ?_) (Fin.ext ?_)
        · show (p.1.val * 128 + p.2.val) / 128 = p.1.val; omega
        · show (p.1.val * 128 + p.2.val) % 128 = p.2.val; omega
      right_inv := fun i => Fin.ext (by show i.val / 128 * 128 + i.val % 128 = i.val; omega) }
  rw [← Fintype.sum_prod_type']
  exact (Fintype.sum_equiv e _ _ fun _ => rfl).symm

/-- A sum over all chunks of both sequences. -/
def all (f : (Fin 128 → Fin 1024 → EReal) → (Fin 128 → Fin 1024 → EReal) → EReal) : EReal :=
  ∑ b : Fin 2, ∑ N : Fin 16, f (chunk x0 b N) (chunk x1 b N)

/-- The first two axes summed, then two axes of one entry each. -/
theorem sum_all {v : S2x2048x1024.Idx → EReal} {f : (Fin 128 → Fin 1024 → EReal) → (Fin 128 → Fin 1024 → EReal) → Fin 128 → EReal} (j : Fin 1024)
    (h : ∀ b N r, v (ix3 b (at16 N r) j) = f (chunk x0 b N) (chunk x1 b N) r) : ∑ b : Fin 2, ∑ i : Fin 2048, v (ix3 b i j) = all x0 x1 fun H D => ∑ r, f H D r := by
  unfold all
  refine Finset.sum_congr rfl fun b _ => (sum_seq _).trans (Finset.sum_congr rfl fun N _ => Finset.sum_congr rfl fun r _ => h b N r)

theorem dcn_all (j : Fin 1024) : val_main_v171 (F := Ideal) x0 x1 x2 x3 x4 x5 x6 x7 x8 (ix2 0 j) = all x0 x1 fun H D => dcn (W x2 x3 x4 x5 x6 x7 x8) H D j := by
  have e0 : val_main_v150 (F := Ideal) x0 x1 x2 x3 x4 x5 x6 x7 x8 (ix1 j) = _ := sum_rows reducesTo_S2x2048x1024_S1024_d0_1 (val_main_v149 (F := Ideal) x0 x1 x2 x3 x4 x5 x6 x7 x8) (Ideal.ofBits .f32 0x00000000#32) j
  have e1 : val_main_v154 (F := Ideal) x0 x1 x2 x3 x4 x5 x6 x7 x8 (ix1 j) = _ := sum_rows reducesTo_S1x1x1024_S1024_d0_1 (val_main_v151 (F := Ideal) x0 x1 x2 x3 x4 x5 x6 x7 x8) (Ideal.ofBits .f32 0x00000000#32) j
  have e2 : ∀ k l, val_main_v151 (F := Ideal) x0 x1 x2 x3 x4 x5 x6 x7 x8 (ix3 k l j) = val_main_v150 (F := Ideal) x0 x1 x2 x3 x4 x5 x6 x7 x8 (ix1 j) := fun k l => by pointwise [val_main_v151]
  have e3 : val_main_v171 (F := Ideal) x0 x1 x2 x3 x4 x5 x6 x7 x8 (ix2 0 j) = val_main_v154 (F := Ideal) x0 x1 x2 x3 x4 x5 x6 x7 x8 (ix1 j) := by pointwise [val_main_v171]
  simp only [e3, e1, e2, e0, Fin.sum_univ_one, zero_word, zero_add]
  refine sum_all x0 x1 j fun b N r => ?_
  pointwise [val_main_v149, val_main_v12, val_main_v11]
  rw [inv_at, y_at]
  rfl

theorem dlb_all (j : Fin 1024) : val_main_v173 (F := Ideal) x0 x1 x2 x3 x6 x8 (ix2 0 j) = all x0 x1 fun H D => dlb (W x2 x3 x4 x5 x6 x7 x8) H D j := by
  have e0 : val_main_v102 (F := Ideal) x0 x1 x2 x3 x6 x8 (ix1 j) = _ := sum_rows reducesTo_S2x2048x1024_S1024_d0_1 (val_main_v101 (F := Ideal) x0 x1 x2 x3 x6 x8) (Ideal.ofBits .f32 0x00000000#32) j
  have e1 : val_main_v104 (F := Ideal) x0 x1 x2 x3 x6 x8 (ix1 j) = _ := sum_rows reducesTo_S1x1x1024_S1024_d0_1 (val_main_v103 (F := Ideal) x0 x1 x2 x3 x6 x8) (Ideal.ofBits .f32 0x00000000#32) j
  have e2 : ∀ k l, val_main_v103 (F := Ideal) x0 x1 x2 x3 x6 x8 (ix3 k l j) = val_main_v102 (F := Ideal) x0 x1 x2 x3 x6 x8 (ix1 j) := fun k l => by pointwise [val_main_v103]
  have e3 : val_main_v173 (F := Ideal) x0 x1 x2 x3 x6 x8 (ix2 0 j) = val_main_v104 (F := Ideal) x0 x1 x2 x3 x6 x8 (ix1 j) := by pointwise [val_main_v173]
  simp only [e3, e1, e2, e0, Fin.sum_univ_one, zero_word, zero_add]
  exact sum_all x0 x1 j fun b N r => dvn_at x0 x1 x2 x3 x4 x5 x6 x7 x8 b N r j

theorem dlg_all (j : Fin 1024) : val_main_v172 (F := Ideal) x0 x1 x2 x3 x6 x8 (ix2 0 j) = all x0 x1 fun H D => dlg (W x2 x3 x4 x5 x6 x7 x8) H D j := by
  have e0 : val_main_v106 (F := Ideal) x0 x1 x2 x3 x6 x8 (ix1 j) = _ := sum_rows reducesTo_S2x2048x1024_S1024_d0_1 (val_main_v105 (F := Ideal) x0 x1 x2 x3 x6 x8) (Ideal.ofBits .f32 0x00000000#32) j
  have e1 : val_main_v110 (F := Ideal) x0 x1 x2 x3 x6 x8 (ix1 j) = _ := sum_rows reducesTo_S1x1x1024_S1024_d0_1 (val_main_v107 (F := Ideal) x0 x1 x2 x3 x6 x8) (Ideal.ofBits .f32 0x00000000#32) j
  have e2 : ∀ k l, val_main_v107 (F := Ideal) x0 x1 x2 x3 x6 x8 (ix3 k l j) = val_main_v106 (F := Ideal) x0 x1 x2 x3 x6 x8 (ix1 j) := fun k l => by pointwise [val_main_v107]
  have e3 : val_main_v172 (F := Ideal) x0 x1 x2 x3 x6 x8 (ix2 0 j) = val_main_v110 (F := Ideal) x0 x1 x2 x3 x6 x8 (ix1 j) := by pointwise [val_main_v172]
  simp only [e3, e1, e2, e0, Fin.sum_univ_one, zero_word, zero_add]
  refine sum_all x0 x1 j fun b N r => ?_
  pointwise [val_main_v105, val_main_v58, val_main_v57]
  rw [xc_at x0 x2 x3 x4 x5 x6 x7 x8, vinv_at x0 x2 x3 x4 x5 x6 x7 x8, dvn_at x0 x1 x2 x3 x4 x5 x6 x7 x8]
  rfl

theorem dwin_all (j : Fin 1024) (k : Fin 2048) : val_main_v147 (F := Ideal) x0 x1 x2 x3 x4 x5 x6 x7 x8 (ix2 j k) = all x0 x1 fun H D => dwin (W x2 x3 x4 x5 x6 x7 x8) H D j k := by
  pointwise [val_main_v147, val_main_v146]
  unfold all
  refine Finset.sum_congr rfl fun b _ => (sum_seq _).trans (Finset.sum_congr rfl fun N _ => Finset.sum_congr rfl fun r _ => ?_)
  rw [dz_at, nrm_at x0 x2 x3 x4 x5 x6 x7 x8]
  exact mul_comm _ _

theorem dwout_all (j k : Fin 1024) : val_main_v84 (F := Ideal) x0 x1 x2 x3 x4 x5 x6 x7 (ix2 j k) = all x0 x1 fun H D => dwout (W x2 x3 x4 x5 x6 x7 x8) H D j k := by
  pointwise [val_main_v84, val_main_v83, val_main_v82]
  unfold all
  refine Finset.sum_congr rfl fun b _ => (sum_seq _).trans (Finset.sum_congr rfl fun N _ => Finset.sum_congr rfl fun r _ => ?_)
  rw [us_at x0 x2 x3 x4 x5 x6 x7 x8]
  exact mul_comm _ _

/-- A contraction over chunks and a group's lanes. -/
theorem contract (l : S8x2x16x128x128.Idx → EReal) (q : S2x16x128x8x128.Idx → EReal) (g : Fin 8) (r k : Fin 128) :
    Ideal.matmul dot_S8x2x16x128x128_S2x16x128x8x128_S8x128x128_123_014_4_2_0_3 l q (fun _ => 0) (ix3 g r k)
      = ∑ b : Fin 2, ∑ N : Fin 16, ∑ c : Fin 128, l (ix5 g b N c r) * q (ix5 b N k g c) := by
  let e : Fin 2 × Fin 16 × Fin 128 ≃ dot_S8x2x16x128x128_S2x16x128x8x128_S8x128x128_123_014_4_2_0_3.contr.Idx :=
    { toFun := fun p a => match a with
        | ⟨0, _⟩ => p.1
        | ⟨1, _⟩ => p.2.1
        | ⟨2, _⟩ => p.2.2
      invFun := fun i => (i ⟨0, by decide⟩, i ⟨1, by decide⟩, i ⟨2, by decide⟩)
      left_inv := fun p => rfl
      right_inv := fun i => by
        funext a
        match a with
        | ⟨0, _⟩ => rfl
        | ⟨1, _⟩ => rfl
        | ⟨2, _⟩ => rfl }
  refine (zero_add _).trans ((Fintype.sum_equiv e (fun p => l (ix5 g p.1 p.2.1 p.2.2 r) * q (ix5 p.1 p.2.1 k g p.2.2)) _ fun p => ?_).symm.trans ?_)
  · refine congrArg₂ (· * ·) (congrArg l (funext fun a => Fin.ext ?_)) (congrArg q (funext fun a => Fin.ext ?_))
    · match a with
      | ⟨0, _⟩ => rfl
      | ⟨1, _⟩ => rfl
      | ⟨2, _⟩ => rfl
      | ⟨3, _⟩ => rfl
      | ⟨4, _⟩ => rfl
    · match a with
      | ⟨0, _⟩ => rfl
      | ⟨1, _⟩ => rfl
      | ⟨2, _⟩ => rfl
      | ⟨3, _⟩ => rfl
      | ⟨4, _⟩ => rfl
  · simp only [Fintype.sum_prod_type]

theorem dws_all (g : Fin 8) (r k : Fin 128) : val_main_v100 (F := Ideal) x0 x1 x2 x3 x4 x5 x8 (ix3 g r k)
    = low r k (all x0 x1 fun H D => dws (W x2 x3 x4 x5 x6 x7 x8) H D g r k) := by
  have e : val_main_v96 (F := Ideal) x0 x1 x2 x3 x4 x5 x8 (ix3 g r k) = all x0 x1 fun H D => dws (W x2 x3 x4 x5 x6 x7 x8) H D g r k := by
    pointwise [val_main_v96]
    rw [contract]
    unfold all dws
    refine Finset.sum_congr rfl fun b _ => Finset.sum_congr rfl fun N _ => Finset.sum_congr rfl fun c _ => ?_
    rw [vg_at x0 x2 x3 x4 x5 x6 x7 x8]
    pointwise [val_main_v95]
    rw [dsg_at x0 x1 x2 x3 x4 x5 x6 x7 x8]
  have e2 := low_at (val_main_v96 (F := Ideal) x0 x1 x2 x3 x4 x5 x8) g r k
  rw [e] at e2
  exact e2

/-- A sum over the first, second and last of five axes. -/
theorem sum_lanes {a b n m c : ℕ} (h : (⟨5, ![a, b, n, m, c]⟩ : Shape).ReducesTo [0, 1, 4] ⟨2, ![n, m]⟩) (v : (⟨5, ![a, b, n, m, c]⟩ : Shape).Idx → EReal)
    (init : EReal) (r : Fin n) (g : Fin m) : Ideal.hostReduceAdd h v init (ix2 r g) = init + ∑ k : Fin a, ∑ l : Fin b, ∑ o : Fin c, v (ix5 k l r g o) := by
  have hd0 : ∀ i, (h.drop i (⟨0, by decide⟩ : Fin 2)).val = (i (⟨2, by decide⟩ : Fin 5)).val := fun i =>
    Shape.ReducesTo.drop_apply_val_of_eq h i (⟨0, by decide⟩ : Fin 2) (⟨2, by decide⟩ : Fin 5) (hb := Nat.zero_lt_two) (hc := rfl)
  have hd1 : ∀ i, (h.drop i (⟨1, by decide⟩ : Fin 2)).val = (i (⟨3, by decide⟩ : Fin 5)).val := fun i =>
    Shape.ReducesTo.drop_apply_val_of_eq h i (⟨1, by decide⟩ : Fin 2) (⟨3, by decide⟩ : Fin 5) (hb := Nat.one_lt_two) (hc := rfl)
  have hf : ∀ i, h.drop i = ix2 r g ↔ ∃ k : Fin a × Fin b × Fin c, ix5 k.1 k.2.1 r g k.2.2 = i := fun i => by
    constructor
    · intro e
      refine ⟨(i 0, i 1, i 4), ?_⟩
      funext c; apply Fin.ext
      match c with
      | ⟨0, _⟩ => rfl
      | ⟨1, _⟩ => rfl
      | ⟨2, _⟩ => exact (congrArg Fin.val (congrFun e 0)).symm.trans (hd0 i)
      | ⟨3, _⟩ => exact (congrArg Fin.val (congrFun e 1)).symm.trans (hd1 i)
      | ⟨4, _⟩ => rfl
    · rintro ⟨k, rfl⟩
      funext c; apply Fin.ext
      match c with
      | ⟨0, _⟩ => exact hd0 _
      | ⟨1, _⟩ => exact hd1 _
  refine congrArg (init + ·) ((Finset.sum_filter_eq_sum_of_fiber _ (fun k : Fin a × Fin b × Fin c => ix5 k.1 k.2.1 r g k.2.2)
    (fun _ _ e => Prod.ext (congrFun e 0) (Prod.ext (congrFun e 1) (congrFun e 4))) hf v).trans ?_)
  simp only [Fintype.sum_prod_type]

theorem int_zero (i : S_.Idx) : sitofp (F := Ideal) .f32 (constantI S_ 32 0#32) i = (0 : EReal) := by
  show (((0#32 : BitVec 32).toInt : ℝ) : EReal) = 0
  simp

/-- Eight columns widened with zeros to 128. -/
theorem pad_cols (y : S128x8.Idx → EReal) (z : S_.Idx → EReal) (hz : ∀ i, z i = 0) (hp : S128x8.Pads ![0, 0] ![0, 120] ![0, 0] S128x128) (hu : 0 < S_.numel)
    (r l : Fin 128) : pad S128x128 ![0, 0] ![0, 120] ![0, 0] y z hp hu (ix2 r l) = if h : l.val < 8 then y (ix2 r ⟨l.val, h⟩) else 0 := by
  split
  · rename_i hx
    refine pad_apply_of_inside _ _ _ y z hp hu (ix2 r l) (ix2 r ⟨l.val, hx⟩) fun a => ?_
    match a with
    | ⟨0, _⟩ => show r.val = 0 + r.val * 1; omega
    | ⟨1, _⟩ => show l.val = 0 + l.val * 1; omega
  · rename_i hx
    rw [pad_apply_of_not_inside _ _ _ y z hp hu (ix2 r l) (⟨1, by decide⟩ : Fin 2), hz]
    rintro ⟨h1, -, h3⟩
    have h3' : (l.val - 0) / 1 < 8 := h3
    omega

theorem dbs_all (r l : Fin 128) : val_main_v175 (F := Ideal) x0 x1 x2 x3 x8 (ix2 r l)
    = if h : l.val < 8 then all x0 x1 fun H D => dbs (W x2 x3 x4 x5 x6 x7 x8) H D ⟨l.val, h⟩ r else 0 := by
  have e0 : ∀ g, val_main_v89 (F := Ideal) x0 x1 x2 x3 x8 (ix2 r g) = _ := fun g => sum_lanes reducesTo_S2x16x128x8x128_S128x8_d0_1_4 (val_main_v88 (F := Ideal) x0 x1 x2 x3 x8) (Ideal.ofBits .f32 0x00000000#32) r g
  have e1 : ∀ g, val_main_v91 (F := Ideal) x0 x1 x2 x3 x8 (ix2 r g) = _ := fun g => sum_lanes reducesTo_S1x1x128x8x1_S128x8_d0_1_4 (val_main_v90 (F := Ideal) x0 x1 x2 x3 x8) (Ideal.ofBits .f32 0x00000000#32) r g
  have e2 : ∀ g a b c, val_main_v90 (F := Ideal) x0 x1 x2 x3 x8 (ix5 a b r g c) = val_main_v89 (F := Ideal) x0 x1 x2 x3 x8 (ix2 r g) := fun g a b c => by pointwise [val_main_v90]
  have e3 : ∀ g, val_main_v174 (F := Ideal) x0 x1 x2 x3 x8 (ix2 r g) = val_main_v91 (F := Ideal) x0 x1 x2 x3 x8 (ix2 r g) := fun g => by
    pointwise [val_main_v174, val_main_v94, val_main_v93, val_main_v92]
    simp only [Fin.sum_univ_one, val_main_cst_19_apply]
    exact (congrArg (· + _) zero_word).trans (zero_add _)
  have e4 : ∀ g, val_main_v174 (F := Ideal) x0 x1 x2 x3 x8 (ix2 r g) = all x0 x1 fun H D => dbs (W x2 x3 x4 x5 x6 x7 x8) H D g r := fun g => by
    simp only [e3, e1, e2, e0, Fin.sum_univ_one, zero_word, zero_add, dsg_at x0 x1 x2 x3 x4 x5 x6 x7 x8]
    rfl
  simp only [← e4]
  exact pad_cols _ _ (fun i => int_zero i) _ _ r l

end Cert.SguRefIdeal.Val

end
-- ==== Proof.SguArr.lean ====
module

public import proofs.«01_k».proof.Proof.SguBlock
public import proofs.«01_k».proof.Proof.SguRefSum
public import proofs.«01_k».proof.Proof.FfnArr
public import Idealize.ShloMosaic.Lib.Tactic.CleanTypes

@[expose] public section

noncomputable section

/-! The gating kernel's blocks at a grid point, in the arguments, and its sums over the grid. -/

namespace Cert.SguIdeal.Arr

open Cert.SguIdeal Cert.SguIdeal.Gen Idealize.ShloMosaic Idealize.ShloMosaic.TcCoe Idealize.SL.Sem Cert.SguRow Cert.SguIdeal.Pay
open Cert.FfnAIdeal.Arr (gr flat_at short_eq)
open Cert.SguRefIdeal.Val (W at16 all)

variable (m : (ℓ : Loc nD τ sig) → Buf (Elt Ideal) ℓ) (c : Dev nD) (t : Fin cfg0.N)

theorem lt8 : t.val < 8 := t.isLt

/-- The sequence of a grid point, and a chunk's place in it. -/
abbrev bt : Fin 2 := ⟨t.val / 4, by have := lt8 t; omega⟩
abbrev ch (p n : Fin 2) : Fin 16 := ⟨t.val % 4 * 4 + 2 * p.val + n.val, by omega⟩

abbrev a0 : S2x2048x1024.Idx → EReal := m ((c.tc : Thread nD τ).loc main_arg0)
abbrev a1 : S2x2048x1024.Idx → EReal := m ((c.tc : Thread nD τ).loc main_arg1)
abbrev a2 : S1024.Idx → EReal := m ((c.tc : Thread nD τ).loc main_arg2)
abbrev a3 : S1024x2048.Idx → EReal := m ((c.tc : Thread nD τ).loc main_arg3)
abbrev a4 : S1024.Idx → EReal := m ((c.tc : Thread nD τ).loc main_arg4)
abbrev a5 : S1024.Idx → EReal := m ((c.tc : Thread nD τ).loc main_arg5)
abbrev a6 : S8x128x128.Idx → EReal := m ((c.tc : Thread nD τ).loc main_arg6)
abbrev a7 : S8x128.Idx → EReal := m ((c.tc : Thread nD τ).loc main_arg7)
abbrev a8 : S1024x1024.Idx → EReal := m ((c.tc : Thread nD τ).loc main_arg8)

/-- The arrays as the region finds them. -/
theorem arrays : (V m c main_v0 : S1x1024.Idx → EReal) = shapeCast S1x1024 (a2 m c) shapeCasts_S1024_S1x1024
    ∧ (V m c main_v1 : S1024x2048.Idx → EReal) = a3 m c
    ∧ (V m c main_v2 : S1x1024.Idx → EReal) = shapeCast S1x1024 (a4 m c) shapeCasts_S1024_S1x1024
    ∧ (V m c main_v3 : S1x1024.Idx → EReal) = shapeCast S1x1024 (a5 m c) shapeCasts_S1024_S1x1024
    ∧ (V m c main_v5 : S128x128.Idx → EReal) = pad S128x128 ![0, 0] ![0, 120] ![0, 0] (transpose S128x8 [1, 0] (a7 m c) transposes_S8x128_S128x8_1_0)
      (sitofp (F := Ideal) .f32 (constantI S_ 32 0#32)) pads_S128x8_S128x128_000_01200 h_S_
    ∧ (V m c main_v6 : S1024x1024.Idx → EReal) = a8 m c
    ∧ (V m c main_v7 : S4096x1024.Idx → EReal) = shapeCast S4096x1024 (a0 m c) shapeCasts_S2x2048x1024_S4096x1024
    ∧ (V m c main_v8 : S4096x1024.Idx → EReal) = shapeCast S4096x1024 (a1 m c) shapeCasts_S2x2048x1024_S4096x1024 := by
  refine ⟨?_, ?_, ?_, ?_, ?_, ?_, ?_, ?_⟩
  all_goals
    unfold V
    simp only [hostOps0, hostOps0_1, hostOps0_2, List.flatten_cons, List.flatten_nil, List.append_nil, List.cons_append, List.nil_append]
    after_results_simp
    try simp -implicitDefEqProofs only [StableHlo.TRef.toBuf, StableHlo.TRef.ofBuf, cast_cast, cast_eq]
    try clean_types
    try rfl

theorem idx0 : ∀ t : Fin cfg0.N, win0_0.index t = ![t.val, 0] := (by decide +kernel : ∀ t : Fin grid0.N, _)
theorem idx1 : ∀ t : Fin cfg0.N, win0_1.index t = ![t.val, 0] := (by decide +kernel : ∀ t : Fin grid0.N, _)
theorem idx2 : ∀ t : Fin cfg0.N, win0_2.index t = ![0, 0] := (by decide +kernel : ∀ t : Fin grid0.N, _)
theorem idx3 : ∀ t : Fin cfg0.N, win0_3.index t = ![0, 0] := (by decide +kernel : ∀ t : Fin grid0.N, _)
theorem idx4 : ∀ t : Fin cfg0.N, win0_4.index t = ![0, 0] := (by decide +kernel : ∀ t : Fin grid0.N, _)
theorem idx5 : ∀ t : Fin cfg0.N, win0_5.index t = ![0, 0] := (by decide +kernel : ∀ t : Fin grid0.N, _)
theorem idx6 : ∀ t : Fin cfg0.N, win0_6.index t = ![0, 0, 0] := (by decide +kernel : ∀ t : Fin grid0.N, _)
theorem idx7 : ∀ t : Fin cfg0.N, win0_7.index t = ![0, 0] := (by decide +kernel : ∀ t : Fin grid0.N, _)
theorem idx8 : ∀ t : Fin cfg0.N, win0_8.index t = ![0, 0] := (by decide +kernel : ∀ t : Fin grid0.N, _)

/-- A block's row sits in its array at the grid point's sequence and place; a weight's block is the whole. -/
theorem emb0 (p n : Fin 2) (r : Fin 128) (j : Fin 1024) : (win0_0.blk t).view.emb (ix2 (at5 p (at2 n r)) j) = ix2 (gr (bt t) (at16 (ch t p n) r)) j := by
  unfold at5 at2 at16
  have := lt8 t
  blk_ext [idx0]
theorem emb1 (p n : Fin 2) (r : Fin 128) (j : Fin 1024) : (win0_1.blk t).view.emb (ix2 (at5 p (at2 n r)) j) = ix2 (gr (bt t) (at16 (ch t p n) r)) j := by
  unfold at5 at2 at16
  have := lt8 t
  blk_ext [idx1]
theorem emb2 (y : S1x1024.Idx) : (win0_2.blk t).view.emb y = y := by
  blk_ext [idx2]
theorem emb3 (y : S1024x2048.Idx) : (win0_3.blk t).view.emb y = y := by
  blk_ext [idx3]
theorem emb4 (y : S1x1024.Idx) : (win0_4.blk t).view.emb y = y := by
  blk_ext [idx4]
theorem emb5 (y : S1x1024.Idx) : (win0_5.blk t).view.emb y = y := by
  blk_ext [idx5]
theorem emb6 (y : S8x128x128.Idx) : (win0_6.blk t).view.emb y = y := by
  blk_ext [idx6]
theorem emb7 (y : S128x128.Idx) : (win0_7.blk t).view.emb y = y := by
  blk_ext [idx7]
theorem emb8 (y : S1024x1024.Idx) : (win0_8.blk t).view.emb y = y := by
  blk_ext [idx8]

end Cert.SguIdeal.Arr

end
-- ==== Proof.SguFinal.lean ====
module

public import proofs.«01_k».proof.Proof.SguArr
public import proofs.«01_k».proof.Proof.FfnFinal
public import proofs.«01_k».proof.Proof.Gen.SguIdeal.Value

@[expose] public section

noncomputable section

/-! The gating kernel's eight result arrays after the run are the reference's gradients. -/

namespace Cert.SguIdeal.Final

open Cert.SguIdeal Cert.SguIdeal.Gen Cert.SguIdeal.Value Idealize.ShloMosaic Idealize.ShloMosaic.TcCoe Idealize.SL.Sem Cert.SguRow Cert.SguIdeal.Pay Cert.SguIdeal.Arr
open Cert.FfnAIdeal.Arr (gr flat_at)
open Cert.FfnAIdeal.Final (row_col col_only)
open Cert.SguRefIdeal.Val (W at16 all pad_cols int_zero dcn_all dlb_all dlg_all dwin_all dwout_all dws_all dbs_all)
open Cert.SguRefIdeal.Read

variable (m : (ℓ : Loc nD τ sig) → Buf (Elt Ideal) ℓ) (c : Dev nD) (t : Fin cfg0.N)

/-- A vector as one row. -/
theorem line (y : S1024.Idx → EReal) (x : Fin 1024) : shapeCast S1x1024 y shapeCasts_S1024_S1x1024 (ix2 0 x) = y (ix1 x) := by
  refine shapeCast_apply y _ (ix2 0 x) (ix1 x) ?_
  rewrite [Shape.rowMajor_val_one, Shape.rowMajor_val_two]
  exact (Nat.zero_add _).symm

/-- The shifts, transposed and widened. -/
theorem turned (y : S8x128.Idx → EReal) (r : Fin 128) (g : Fin 8) : pad S128x128 ![0, 0] ![0, 120] ![0, 0] (transpose S128x8 [1, 0] y transposes_S8x128_S128x8_1_0)
    (sitofp (F := Ideal) .f32 (constantI S_ 32 0#32)) pads_S128x8_S128x128_000_01200 h_S_ (ix2 r ⟨g.val, by omega⟩) = y (ix2 g r) := by
  rw [pad_cols _ _ int_zero, dif_pos g.isLt]
  pointwise

theorem whole2 : cnB m c t = V m c main_v0 := by
  have hV : ∀ (A : Buf (Elt Ideal) ((c.tc : Thread nD τ).loc main_v0)) (y : S1x1024.Idx),
      ((cfg0.win 2).blk t).view.read (Elt Ideal) A y = A ((win0_2.blk t).view.emb y) := fun A y => rfl
  exact funext fun y => (hV (V m c main_v0) y).trans (congrArg _ (emb2 t y))
theorem whole3 : winB m c t = V m c main_v1 := by
  have hV : ∀ (A : Buf (Elt Ideal) ((c.tc : Thread nD τ).loc main_v1)) (y : S1024x2048.Idx),
      ((cfg0.win 3).blk t).view.read (Elt Ideal) A y = A ((win0_3.blk t).view.emb y) := fun A y => rfl
  exact funext fun y => (hV (V m c main_v1) y).trans (congrArg _ (emb3 t y))
theorem whole4 : lgB m c t = V m c main_v2 := by
  have hV : ∀ (A : Buf (Elt Ideal) ((c.tc : Thread nD τ).loc main_v2)) (y : S1x1024.Idx),
      ((cfg0.win 4).blk t).view.read (Elt Ideal) A y = A ((win0_4.blk t).view.emb y) := fun A y => rfl
  exact funext fun y => (hV (V m c main_v2) y).trans (congrArg _ (emb4 t y))
theorem whole5 : lbB m c t = V m c main_v3 := by
  have hV : ∀ (A : Buf (Elt Ideal) ((c.tc : Thread nD τ).loc main_v3)) (y : S1x1024.Idx),
      ((cfg0.win 5).blk t).view.read (Elt Ideal) A y = A ((win0_5.blk t).view.emb y) := fun A y => rfl
  exact funext fun y => (hV (V m c main_v3) y).trans (congrArg _ (emb5 t y))
theorem whole6 : wsB m c t = V m c main_arg6 := by
  have hV : ∀ (A : Buf (Elt Ideal) ((c.tc : Thread nD τ).loc main_arg6)) (y : S8x128x128.Idx),
      ((cfg0.win 6).blk t).view.read (Elt Ideal) A y = A ((win0_6.blk t).view.emb y) := fun A y => rfl
  exact funext fun y => (hV (V m c main_arg6) y).trans (congrArg _ (emb6 t y))
theorem whole7 : bstB m c t = V m c main_v5 := by
  have hV : ∀ (A : Buf (Elt Ideal) ((c.tc : Thread nD τ).loc main_v5)) (y : S128x128.Idx),
      ((cfg0.win 7).blk t).view.read (Elt Ideal) A y = A ((win0_7.blk t).view.emb y) := fun A y => rfl
  exact funext fun y => (hV (V m c main_v5) y).trans (congrArg _ (emb7 t y))
theorem whole8 : woutB m c t = V m c main_v6 := by
  have hV : ∀ (A : Buf (Elt Ideal) ((c.tc : Thread nD τ).loc main_v6)) (y : S1024x1024.Idx),
      ((cfg0.win 8).blk t).view.read (Elt Ideal) A y = A ((win0_8.blk t).view.emb y) := fun A y => rfl
  exact funext fun y => (hV (V m c main_v6) y).trans (congrArg _ (emb8 t y))

/-- A point's weights are the arguments', -/
theorem weights : wP m c t = W (a2 m c) (a3 m c) (a4 m c) (a5 m c) (a6 m c) (a7 m c) (a8 m c) := by
  obtain ⟨e0, e1, e2, e3, e5, e6, -, -⟩ := arrays m c
  unfold wP wt W
  rw [whole2, whole3, whole4, whole5, whole6, whole7, whole8, e0, e1, e2, e3, e5, e6, V_main_arg6]
  congr 1
  · exact funext fun x => line _ x
  · exact funext fun x => line _ x
  · exact funext fun x => line _ x
  · exact funext fun g => funext fun r => turned _ r g

/-- and its chunks the sequence's. -/
theorem rows (p n : Fin 2) : HP m c t p n = Cert.SguRefIdeal.Val.chunk (a0 m c) (bt t) (ch t p n) := by
  have hV : ∀ (A : Buf (Elt Ideal) ((c.tc : Thread nD τ).loc main_v7)) (y : S512x1024.Idx),
      ((cfg0.win 0).blk t).view.read (Elt Ideal) A y = A ((win0_0.blk t).view.emb y) := fun A y => rfl
  refine funext fun r => funext fun j => (x_at m c t p (at2 n r) j).trans ((hV (V m c main_v7) _).trans ?_)
  rw [emb0, (arrays m c).2.2.2.2.2.2.1]
  exact flat_at _ _ _ _ j
theorem cotangents (p n : Fin 2) : DP m c t p n = Cert.SguRefIdeal.Val.chunk (a1 m c) (bt t) (ch t p n) := by
  have hV : ∀ (A : Buf (Elt Ideal) ((c.tc : Thread nD τ).loc main_v8)) (y : S512x1024.Idx),
      ((cfg0.win 1).blk t).view.read (Elt Ideal) A y = A ((win0_1.blk t).view.emb y) := fun A y => rfl
  refine funext fun r => funext fun j => (d_at m c t p (at2 n r) j).trans ((hV (V m c main_v8) _).trans ?_)
  rw [emb1, (arrays m c).2.2.2.2.2.2.2]
  exact flat_at _ _ _ _ j

/-- The points' chunks are both sequences'. -/
theorem sum_points (F : Fin 2 → Fin 16 → EReal) : ∑ t : Fin cfg0.N, ∑ p : Fin 2, ∑ n : Fin 2, F (bt t) (ch t p n) = ∑ b : Fin 2, ∑ N : Fin 16, F b N := by
  let e : Fin cfg0.N × Fin 2 × Fin 2 ≃ Fin 2 × Fin 16 :=
    { toFun := fun q => (bt q.1, ch q.1 q.2.1 q.2.2)
      invFun := fun q => (⟨q.1.val * 4 + q.2.val / 4, by show _ < 8; omega⟩, ⟨q.2.val % 4 / 2, by omega⟩, ⟨q.2.val % 2, by omega⟩)
      left_inv := fun q => by
        have := lt8 q.1
        refine Prod.ext (Fin.ext ?_) (Prod.ext (Fin.ext ?_) (Fin.ext ?_))
        · show q.1.val / 4 * 4 + (q.1.val % 4 * 4 + 2 * q.2.1.val + q.2.2.val) / 4 = q.1.val; omega
        · show (q.1.val % 4 * 4 + 2 * q.2.1.val + q.2.2.val) % 4 / 2 = q.2.1.val; omega
        · show (q.1.val % 4 * 4 + 2 * q.2.1.val + q.2.2.val) % 2 = q.2.2.val; omega
      right_inv := fun q => by
        refine Prod.ext (Fin.ext ?_) (Fin.ext ?_)
        · show (q.1.val * 4 + q.2.val / 4) / 4 = q.1.val; omega
        · show (q.1.val * 4 + q.2.val / 4) % 4 * 4 + 2 * (q.2.val % 4 / 2) + q.2.val % 2 = q.2.val; omega }
  have h := Fintype.sum_equiv e (fun q => F (bt q.1) (ch q.1 q.2.1 q.2.2)) (fun q => F q.1 q.2) fun _ => rfl
  simpa only [Fintype.sum_prod_type] using h

/-- A sum begun at the first point and added to at the others is the sum over all chunks. -/
theorem total {ι : Type} (f : (n : ℕ) → n < cfg0.N → ι → EReal) (g : Wt → ι → (Fin 128 → Fin 1024 → EReal) → (Fin 128 → Fin 1024 → EReal) → EReal)
    (h0 : ∀ t : Fin cfg0.N, t.val % 8 = 0 → ¬1 ≤ t.val → ∀ i, f t.val t.isLt i = four m c t (g (wP m c t) i))
    (hs : ∀ t : Fin cfg0.N, ¬t.val % 8 = 0 → 1 ≤ t.val → ∀ i, f t.val t.isLt i = f (t.val - 1) (Nat.lt_of_le_of_lt (Nat.sub_le _ _) t.isLt) i + four m c t (g (wP m c t) i))
    (ht : t.val + 1 = cfg0.N) (i : ι) : f t.val t.isLt i = all (a0 m c) (a1 m c) (g (W (a2 m c) (a3 m c) (a4 m c) (a5 m c) (a6 m c) (a7 m c) (a8 m c)) i) := by
  have h := Pipeline.eq_sum_fin_of_reset_step_apply_last f 8 (fun _ => (0 : EReal)) (fun t i => four m c t (g (wP m c t) i))
    (fun t e i => (h0 t e (by have := lt8 t; omega) i).trans (zero_add _).symm)
    (fun t e i => hs t e (by omega) i) (by decide) t ht i
  refine h.trans ((zero_add _).trans ?_)
  unfold all
  rw [← sum_points]
  refine Finset.sum_congr rfl fun t _ => Finset.sum_congr rfl fun p _ => Finset.sum_congr rfl fun n _ => ?_
  rw [weights, rows, cotangents]

theorem plus_at {S : Shape} (a : FVec Ideal S .f32) (h : S.ShapeCasts S) (b : FVec Ideal S .f32) (i : S.Idx) : plus a h b i = a i + b i :=
  congrArg (· + b i) (shapeCast_apply a h i i rfl)

theorem add_at (a b : FVec Ideal S128x128 .f32) (i : S128x128.Idx) : addf (F := Ideal) a b i = a i + b i := rfl

/-- One matrix as a stack of one, and back. -/
theorem up_at (v : S128x128.Idx → EReal) (r k : Fin 128) : shapeCast S1x128x128 v shapeCasts_S128x128_S1x128x128 (ix3 0 r k) = v (ix2 r k) := by
  pointwise
theorem down_at (v : S1x128x128.Idx → EReal) (r k : Fin 128) : shapeCast S128x128 v shapeCasts_S1x128x128_S128x128 (ix2 r k) = v (ix3 0 r k) := by
  pointwise

theorem low_four (r k : Fin 128) (f : (Fin 128 → Fin 1024 → EReal) → (Fin 128 → Fin 1024 → EReal) → EReal) : low r k (four m c t f) = four m c t fun H D => low r k (f H D) := by
  unfold low four
  split
  · rfl
  · simp
theorem low_all (x0 x1 : S2x2048x1024.Idx → EReal) (r k : Fin 128) (f : (Fin 128 → Fin 1024 → EReal) → (Fin 128 → Fin 1024 → EReal) → EReal) :
    (all x0 x1 fun H D => low r k (f H D)) = low r k (all x0 x1 f) := by
  unfold low all
  split
  · rfl
  · simp
theorem shift_all (x0 x1 : S2x2048x1024.Idx → EReal) (w : Wt) (r l : Fin 128) : (all x0 x1 fun H D => shift w H D r l)
    = if h : l.val < 8 then all x0 x1 fun H D => dbs w H D ⟨l.val, h⟩ r else 0 := by
  unfold shift all
  split
  · rfl
  · simp

theorem idx9 : ∀ t : Fin cfg0.N, win0_9.index t = ![t.val, 0] := (by decide +kernel : ∀ t : Fin grid0.N, _)
theorem idx10 : ∀ t : Fin cfg0.N, win0_10.index t = ![0, 0] := (by decide +kernel : ∀ t : Fin grid0.N, _)
theorem idx11 : ∀ t : Fin cfg0.N, win0_11.index t = ![0, 0] := (by decide +kernel : ∀ t : Fin grid0.N, _)
theorem idx12 : ∀ t : Fin cfg0.N, win0_12.index t = ![0, 0] := (by decide +kernel : ∀ t : Fin grid0.N, _)
theorem idx13 : ∀ t : Fin cfg0.N, win0_13.index t = ![0, 0] := (by decide +kernel : ∀ t : Fin grid0.N, _)
theorem idx14 : ∀ t : Fin cfg0.N, win0_14.index t = ![0, 0, 0] := (by decide +kernel : ∀ t : Fin grid0.N, _)
theorem idx15 : ∀ t : Fin cfg0.N, win0_15.index t = ![0, 0] := (by decide +kernel : ∀ t : Fin grid0.N, _)
theorem idx16 : ∀ t : Fin cfg0.N, win0_16.index t = ![0, 0] := (by decide +kernel : ∀ t : Fin grid0.N, _)
theorem emb9 (p n : Fin 2) (r : Fin 128) (j : Fin 1024) : (win0_9.blk t).view.emb (ix2 (at5 p (at2 n r)) j) = ix2 (gr (bt t) (at16 (ch t p n) r)) j := by
  unfold at5 at2 at16
  have := lt8 t
  blk_ext [idx9]
theorem emb10 (y : S1x1024.Idx) : (win0_10.blk t).view.emb y = y := by
  blk_ext [idx10]
theorem emb11 (y : S1024x2048.Idx) : (win0_11.blk t).view.emb y = y := by
  blk_ext [idx11]
theorem emb12 (y : S1x1024.Idx) : (win0_12.blk t).view.emb y = y := by
  blk_ext [idx12]
theorem emb13 (y : S1x1024.Idx) : (win0_13.blk t).view.emb y = y := by
  blk_ext [idx13]
theorem emb14 (y : S8x128x128.Idx) : (win0_14.blk t).view.emb y = y := by
  blk_ext [idx14]
theorem emb15 (y : S128x128.Idx) : (win0_15.blk t).view.emb y = y := by
  blk_ext [idx15]
theorem emb16 (y : S1024x1024.Idx) : (win0_16.blk t).view.emb y = y := by
  blk_ext [idx16]

/-- Every index of a result lies in the block of some grid point that is written back. -/
theorem covers9 : (cfg0.win 9).Covers := by decide +kernel
theorem covers10 : (cfg0.win 10).Covers := by decide +kernel
theorem covers11 : (cfg0.win 11).Covers := by decide +kernel
theorem covers12 : (cfg0.win 12).Covers := by decide +kernel
theorem covers13 : (cfg0.win 13).Covers := by decide +kernel
theorem covers14 : (cfg0.win 14).Covers := by decide +kernel
theorem covers15 : (cfg0.win 15).Covers := by decide +kernel
theorem covers16 : (cfg0.win 16).Covers := by decide +kernel

/-- The weights' gradients are written back after the last point only. -/
theorem last : ∀ t : Fin cfg0.N, ((cfg0.win 10).flush t = true ∨ (cfg0.win 11).flush t = true ∨ (cfg0.win 12).flush t = true ∨ (cfg0.win 13).flush t = true
    ∨ (cfg0.win 14).flush t = true ∨ (cfg0.win 15).flush t = true ∨ (cfg0.win 16).flush t = true) → t.val + 1 = cfg0.N :=
  (by decide +kernel : ∀ t : Fin grid0.N, _)

/-- Cutting a point's block out of `X` gives the block of `G` when `X` is `G` at the block's place. -/
theorem cut9 (X : Vec Ideal S512x1024 .f32) (G : S4096x1024.Idx → EReal) (h : ∀ y, X y = G ((win0_9.blk t).view.emb y)) :
    (cfg0.win 9).cut (grid0.coords t) X = ((cfg0.win 9).blk t).view.read (Elt Ideal) G :=
  funext fun y => h y
theorem cut10 (X : Vec Ideal S1x1024 .f32) (G : S1x1024.Idx → EReal) (h : ∀ y, X y = G y) : (cfg0.win 10).cut (grid0.coords t) X = ((cfg0.win 10).blk t).view.read (Elt Ideal) G :=
  funext fun y => (h y).trans (congrArg G (emb10 t y).symm)
theorem cut11 (X : Vec Ideal S1024x2048 .f32) (G : S1024x2048.Idx → EReal) (h : ∀ y, X y = G y) : (cfg0.win 11).cut (grid0.coords t) X = ((cfg0.win 11).blk t).view.read (Elt Ideal) G :=
  funext fun y => (h y).trans (congrArg G (emb11 t y).symm)
theorem cut12 (X : Vec Ideal S1x1024 .f32) (G : S1x1024.Idx → EReal) (h : ∀ y, X y = G y) : (cfg0.win 12).cut (grid0.coords t) X = ((cfg0.win 12).blk t).view.read (Elt Ideal) G :=
  funext fun y => (h y).trans (congrArg G (emb12 t y).symm)
theorem cut13 (X : Vec Ideal S1x1024 .f32) (G : S1x1024.Idx → EReal) (h : ∀ y, X y = G y) : (cfg0.win 13).cut (grid0.coords t) X = ((cfg0.win 13).blk t).view.read (Elt Ideal) G :=
  funext fun y => (h y).trans (congrArg G (emb13 t y).symm)
theorem cut14 (X : Vec Ideal S8x128x128 .f32) (G : S8x128x128.Idx → EReal) (h : ∀ y, X y = G y) : (cfg0.win 14).cut (grid0.coords t) X = ((cfg0.win 14).blk t).view.read (Elt Ideal) G :=
  funext fun y => (h y).trans (congrArg G (emb14 t y).symm)
theorem cut15 (X : Vec Ideal S128x128 .f32) (G : S128x128.Idx → EReal) (h : ∀ y, X y = G y) : (cfg0.win 15).cut (grid0.coords t) X = ((cfg0.win 15).blk t).view.read (Elt Ideal) G :=
  funext fun y => (h y).trans (congrArg G (emb15 t y).symm)
theorem cut16 (X : Vec Ideal S1024x1024 .f32) (G : S1024x1024.Idx → EReal) (h : ∀ y, X y = G y) : (cfg0.win 16).cut (grid0.coords t) X = ((cfg0.win 16).blk t).view.read (Elt Ideal) G :=
  funext fun y => (h y).trans (congrArg G (emb16 t y).symm)

theorem place (y : S512x1024.Idx) : ∃ p n r j, y = ix2 (at5 p (at2 n r)) j := by
  obtain ⟨p, k, hk⟩ := row_at5 (y 0)
  obtain ⟨n, r, rfl⟩ := row_at2 k
  exact ⟨p, n, r, y 1, (row_col y).trans (congrArg (fun i : Fin 512 => ix2 i (y 1)) hk)⟩
theorem inputs_at (p n : Fin 2) (r : Fin 128) (j : Fin 1024) : dhOut m c t (ix2 (at5 p (at2 n r)) j)
    = val_main_v170 (F := Ideal) (a0 m c) (a1 m c) (a2 m c) (a3 m c) (a4 m c) (a5 m c) (a6 m c) (a7 m c) (a8 m c) ((win0_9.blk t).view.emb (ix2 (at5 p (at2 n r)) j)) := by
  rw [emb9]
  refine (dh_block m c t p n r j).trans ?_
  rw [weights, rows, cotangents]
  exact ((flat_at _ _ _ _ j).trans (Cert.SguRefIdeal.Val.dh_at _ _ _ _ _ _ _ _ _ _ _ _ _)).symm

/-- The array of input gradients after the run. -/
theorem inputs : (dats m 0 c).arrAt 9 cfg0.N = val_main_v170 (F := Ideal) (a0 m c) (a1 m c) (a2 m c) (a3 m c) (a4 m c) (a5 m c) (a6 m c) (a7 m c) (a8 m c) := by
  refine (dats m 0 c).arrAt_eq_of_cover 9 _ (fun t _ => ?_) (Pipeline.Window.Covers.cover _ covers9 (Memref.isWhole_whole _))
  have h : (outsAt0 m c t.val t.isLt).1 = dhOut m c t := by
    by_cases h0 : 1 ≤ t.val
    · rw [next m c t (by have := lt8 t; omega) h0]
    · rw [first m c t (by omega) h0]
  rw [flushed9, h]
  refine cut9 t _ _ fun y => ?_
  obtain ⟨p, n, r, j, rfl⟩ := place y
  exact inputs_at m c t p n r j

theorem stack_col (y : S8x128x128.Idx) : y = ix3 (y 0) (y 1) (y 2) := by
  funext a
  match a with
  | ⟨0, _⟩ => rfl
  | ⟨1, _⟩ => rfl
  | ⟨2, _⟩ => rfl

/-- A point's share of the mixing matrices' gradients. -/
theorem mats_block (x : Fin 8 × Fin 128 × Fin 128) : dwsOut m c t x.1 (ix2 x.2.1 x.2.2)
    = four m c t fun H D => low x.2.1 x.2.2 (dws (wP m c t) H D x.1 x.2.1 x.2.2) :=
  (dws_block m c t x.1 x.2.1 x.2.2).trans (low_four m c t _ _ _)

theorem mats_first (t : Fin cfg0.N) (h0 : t.val % 8 = 0) (h1 : ¬1 ≤ t.val) (x : Fin 8 × Fin 128 × Fin 128) :
    (outsAt0 m c t.val t.isLt).2.2.2.2.2.1 (ix3 x.1 x.2.1 x.2.2) = four m c t fun H D => low x.2.1 x.2.2 (dws (wP m c t) H D x.1 x.2.1 x.2.2) := by
  rw [first m c t h0 h1]
  refine (stack_at (fun g => shapeCast S1x128x128 (dwsOut m c t g) shapeCasts_S128x128_S1x128x128) x.1 x.2.1 x.2.2).trans ?_
  exact (up_at _ _ _).trans (mats_block m c t x)
theorem mats_next (t : Fin cfg0.N) (h0 : ¬t.val % 8 = 0) (h1 : 1 ≤ t.val) (x : Fin 8 × Fin 128 × Fin 128) :
    (outsAt0 m c t.val t.isLt).2.2.2.2.2.1 (ix3 x.1 x.2.1 x.2.2) = (prev m c t).2.2.2.2.2.1 (ix3 x.1 x.2.1 x.2.2)
      + four m c t fun H D => low x.2.1 x.2.2 (dws (wP m c t) H D x.1 x.2.1 x.2.2) := by
  rw [next m c t h0 h1]
  refine (stack_at (fun g => shapeCast S1x128x128 (addf (F := Ideal) (s := S128x128) (φ := .f32)
    (shapeCast S128x128 (mat (prev m c t).2.2.2.2.2.1 g) shapeCasts_S1x128x128_S128x128) (dwsOut m c t g)) shapeCasts_S128x128_S1x128x128)
    x.1 x.2.1 x.2.2).trans ?_
  refine (up_at _ _ _).trans ((add_at _ _ _).trans (congrArg₂ (· + ·) ?_ (mats_block m c t x)))
  exact (down_at _ _ _).trans (mat_at _ _ _ _)

/-- The gradient of the norm's scale after the run. -/
theorem norms : (dats m 0 c).arrAt 10 cfg0.N = val_main_v171 (F := Ideal) (a0 m c) (a1 m c) (a2 m c) (a3 m c) (a4 m c) (a5 m c) (a6 m c) (a7 m c) (a8 m c) := by
  refine (dats m 0 c).arrAt_eq_of_cover 10 _ (fun t hf => ?_) (Pipeline.Window.Covers.cover _ covers10 (Memref.isWhole_whole _))
  rw [flushed10]
  refine cut10 t _ _ fun y => ?_
  have h := total m c t (fun n h (x : Fin 1024) => (outsAt0 m c n h).2.1 (ix2 0 x)) (fun w x H D => dcn w H D x)
    (fun t h0 h1 x => (congrFun (congrArg (·.2.1) (first m c t h0 h1)) _).trans (dcn_block m c t x))
    (fun t h0 h1 x => (congrFun (congrArg (·.2.1) (next m c t h0 h1)) _).trans ((plus_at _ _ _ _).trans (congrArg (_ + ·) (dcn_block m c t x))))
    (last t (Or.inl hf)) (y 1)
  rw [col_only y]
  exact h.trans (dcn_all _ _ _ _ _ _ _ _ _ _).symm

/-- The gradient of the product's matrix after the run. -/
theorem products : (dats m 0 c).arrAt 11 cfg0.N = val_main_v147 (F := Ideal) (a0 m c) (a1 m c) (a2 m c) (a3 m c) (a4 m c) (a5 m c) (a6 m c) (a7 m c) (a8 m c) := by
  refine (dats m 0 c).arrAt_eq_of_cover 11 _ (fun t hf => ?_) (Pipeline.Window.Covers.cover _ covers11 (Memref.isWhole_whole _))
  rw [flushed11]
  refine cut11 t _ _ fun y => ?_
  have h := total m c t (fun n h (x : Fin 1024 × Fin 2048) => (outsAt0 m c n h).2.2.1 (ix2 x.1 x.2)) (fun w x H D => dwin w H D x.1 x.2)
    (fun t h0 h1 x => (congrFun (congrArg (·.2.2.1) (first m c t h0 h1)) _).trans (dwin_block m c t x.1 x.2))
    (fun t h0 h1 x => (congrFun (congrArg (·.2.2.1) (next m c t h0 h1)) _).trans ((plus_at _ _ _ _).trans (congrArg (_ + ·) (dwin_block m c t x.1 x.2))))
    (last t (Or.inr (Or.inl hf))) (y 0, y 1)
  rw [row_col y]
  exact h.trans (dwin_all _ _ _ _ _ _ _ _ _ _ _).symm

/-- The gradient of the layer norm's scale after the run. -/
theorem scales : (dats m 0 c).arrAt 12 cfg0.N = val_main_v172 (F := Ideal) (a0 m c) (a1 m c) (a2 m c) (a3 m c) (a6 m c) (a8 m c) := by
  refine (dats m 0 c).arrAt_eq_of_cover 12 _ (fun t hf => ?_) (Pipeline.Window.Covers.cover _ covers12 (Memref.isWhole_whole _))
  rw [flushed12]
  refine cut12 t _ _ fun y => ?_
  have h := total m c t (fun n h (x : Fin 1024) => (outsAt0 m c n h).2.2.2.1 (ix2 0 x)) (fun w x H D => dlg w H D x)
    (fun t h0 h1 x => (congrFun (congrArg (·.2.2.2.1) (first m c t h0 h1)) _).trans (dlg_block m c t x))
    (fun t h0 h1 x => (congrFun (congrArg (·.2.2.2.1) (next m c t h0 h1)) _).trans ((plus_at _ _ _ _).trans (congrArg (_ + ·) (dlg_block m c t x))))
    (last t (Or.inr (Or.inr (Or.inl hf)))) (y 1)
  rw [col_only y]
  exact h.trans (dlg_all _ _ _ _ _ _ _ _ _ _).symm

/-- The gradient of the layer norm's shift after the run. -/
theorem moves : (dats m 0 c).arrAt 13 cfg0.N = val_main_v173 (F := Ideal) (a0 m c) (a1 m c) (a2 m c) (a3 m c) (a6 m c) (a8 m c) := by
  refine (dats m 0 c).arrAt_eq_of_cover 13 _ (fun t hf => ?_) (Pipeline.Window.Covers.cover _ covers13 (Memref.isWhole_whole _))
  rw [flushed13]
  refine cut13 t _ _ fun y => ?_
  have h := total m c t (fun n h (x : Fin 1024) => (outsAt0 m c n h).2.2.2.2.1 (ix2 0 x)) (fun w x H D => dlb w H D x)
    (fun t h0 h1 x => (congrFun (congrArg (·.2.2.2.2.1) (first m c t h0 h1)) _).trans (dlb_block m c t x))
    (fun t h0 h1 x => (congrFun (congrArg (·.2.2.2.2.1) (next m c t h0 h1)) _).trans ((plus_at _ _ _ _).trans (congrArg (_ + ·) (dlb_block m c t x))))
    (last t (Or.inr (Or.inr (Or.inr (Or.inl hf))))) (y 1)
  rw [col_only y]
  exact h.trans (dlb_all _ _ _ _ _ _ _ _ _ _).symm

/-- The gradient of the mixing matrices after the run. -/
theorem matrices : (dats m 0 c).arrAt 14 cfg0.N = val_main_v100 (F := Ideal) (a0 m c) (a1 m c) (a2 m c) (a3 m c) (a4 m c) (a5 m c) (a8 m c) := by
  refine (dats m 0 c).arrAt_eq_of_cover 14 _ (fun t hf => ?_) (Pipeline.Window.Covers.cover _ covers14 (Memref.isWhole_whole _))
  rw [flushed14]
  refine cut14 t _ _ fun y => ?_
  have h := total m c t (fun n h (x : Fin 8 × Fin 128 × Fin 128) => (outsAt0 m c n h).2.2.2.2.2.1 (ix3 x.1 x.2.1 x.2.2)) (fun w x H D => low x.2.1 x.2.2 (dws w H D x.1 x.2.1 x.2.2))
    (mats_first m c) (mats_next m c)
    (last t (Or.inr (Or.inr (Or.inr (Or.inr (Or.inl hf)))))) (y 0, y 1, y 2)
  rw [stack_col y]
  exact h.trans ((low_all _ _ _ _ _).trans (dws_all _ _ _ _ _ _ _ _ _ _ _ _).symm)

/-- The gradient of the mixes' shifts after the run. -/
theorem shifts : (dats m 0 c).arrAt 15 cfg0.N = val_main_v175 (F := Ideal) (a0 m c) (a1 m c) (a2 m c) (a3 m c) (a8 m c) := by
  refine (dats m 0 c).arrAt_eq_of_cover 15 _ (fun t hf => ?_) (Pipeline.Window.Covers.cover _ covers15 (Memref.isWhole_whole _))
  rw [flushed15]
  refine cut15 t _ _ fun y => ?_
  have h := total m c t (fun n h (x : Fin 128 × Fin 128) => (outsAt0 m c n h).2.2.2.2.2.2.1 (ix2 x.1 x.2)) (fun w x H D => shift w H D x.1 x.2)
    (fun t h0 h1 x => (congrFun (congrArg (·.2.2.2.2.2.2.1) (first m c t h0 h1)) _).trans (dbs_block m c t x.1 x.2))
    (fun t h0 h1 x => (congrFun (congrArg (·.2.2.2.2.2.2.1) (next m c t h0 h1)) _).trans ((plus_at _ _ _ _).trans (congrArg (_ + ·) (dbs_block m c t x.1 x.2))))
    (last t (Or.inr (Or.inr (Or.inr (Or.inr (Or.inr (Or.inl hf))))))) (y 0, y 1)
  rw [row_col y]
  exact h.trans ((shift_all _ _ _ _ _).trans (dbs_all _ _ _ _ _ _ _ _ _ _ _).symm)

/-- The gradient of the last product's matrix after the run. -/
theorem outputs : (dats m 0 c).arrAt 16 cfg0.N = val_main_v84 (F := Ideal) (a0 m c) (a1 m c) (a2 m c) (a3 m c) (a4 m c) (a5 m c) (a6 m c) (a7 m c) := by
  refine (dats m 0 c).arrAt_eq_of_cover 16 _ (fun t hf => ?_) (Pipeline.Window.Covers.cover _ covers16 (Memref.isWhole_whole _))
  rw [flushed16]
  refine cut16 t _ _ fun y => ?_
  have h := total m c t (fun n h (x : Fin 1024 × Fin 1024) => (outsAt0 m c n h).2.2.2.2.2.2.2 (ix2 x.1 x.2)) (fun w x H D => dwout w H D x.1 x.2)
    (fun t h0 h1 x => (congrFun (congrArg (·.2.2.2.2.2.2.2) (first m c t h0 h1)) _).trans (dwout_block m c t x.1 x.2))
    (fun t h0 h1 x => (congrFun (congrArg (·.2.2.2.2.2.2.2) (next m c t h0 h1)) _).trans ((plus_at _ _ _ _).trans (congrArg (_ + ·) (dwout_block m c t x.1 x.2))))
    (last t (Or.inr (Or.inr (Or.inr (Or.inr (Or.inr (Or.inr hf))))))) (y 0, y 1)
  rw [row_col y]
  exact h.trans (dwout_all _ _ _ _ _ _ _ _ _ _ _).symm

end Cert.SguIdeal.Final

end
-- ==== Proof.SguFFinal.lean ====
module

public import proofs.«01_k».proof.Proof.SguFBlock
public import proofs.«01_k».proof.Proof.SguFinal

@[expose] public section

noncomputable section

/-! The gated mixer's blocks in the arguments, and its result array after the run is the reference's. -/

namespace Cert.SguFIdeal.Final

open Cert.SguFIdeal Cert.SguFIdeal.Gen Cert.SguFIdeal.Value Idealize.ShloMosaic Idealize.ShloMosaic.TcCoe Idealize.SL.Sem
open Cert.SguFRefIdeal.Read Cert.SguFIdeal.Block Cert.SguRow
open Cert.SguIdeal.Pay (M M3 wt at2 rw2)
open Cert.SguRefIdeal.Val (W at16)
open Cert.FfnAIdeal.Arr (gr flat_at)

variable (m : (ℓ : Loc nD τ sig) → Buf (Elt Ideal) ℓ) (c : Dev nD) (t : Fin cfg0.N)

theorem lt16 (t : Fin cfg0.N) : t.val < 16 := t.isLt

/-- The sequence of a grid point, and a chunk's place in it. -/
abbrev bt (t : Fin cfg0.N) : Fin 2 := ⟨t.val / 8, by have := lt16 t; omega⟩
@[inherit_doc bt] abbrev ch (t : Fin cfg0.N) (n : Fin 2) : Fin 16 := ⟨t.val % 8 * 2 + n.val, by omega⟩

abbrev a0 (c : Dev nD) : S2x2048x1024.Idx → EReal := m ((c.tc : Thread nD τ).loc main_arg0)
abbrev a1 (c : Dev nD) : S1024.Idx → EReal := m ((c.tc : Thread nD τ).loc main_arg1)
abbrev a2 (c : Dev nD) : S1024x2048.Idx → EReal := m ((c.tc : Thread nD τ).loc main_arg2)
abbrev a3 (c : Dev nD) : S1024.Idx → EReal := m ((c.tc : Thread nD τ).loc main_arg3)
abbrev a4 (c : Dev nD) : S1024.Idx → EReal := m ((c.tc : Thread nD τ).loc main_arg4)
abbrev a5 (c : Dev nD) : S8x128x128.Idx → EReal := m ((c.tc : Thread nD τ).loc main_arg5)
abbrev a6 (c : Dev nD) : S8x128.Idx → EReal := m ((c.tc : Thread nD τ).loc main_arg6)
abbrev a7 (c : Dev nD) : S1024x1024.Idx → EReal := m ((c.tc : Thread nD τ).loc main_arg7)

/-- The arrays as the region finds them. -/
theorem arrays : (V m c main_v0 : S1x1024.Idx → EReal) = shapeCast S1x1024 (a1 m c) shapeCasts_S1024_S1x1024
    ∧ (V m c main_v1 : S1024x2048.Idx → EReal) = a2 m c
    ∧ (V m c main_v2 : S1x1024.Idx → EReal) = shapeCast S1x1024 (a3 m c) shapeCasts_S1024_S1x1024
    ∧ (V m c main_v3 : S1x1024.Idx → EReal) = shapeCast S1x1024 (a4 m c) shapeCasts_S1024_S1x1024
    ∧ (V m c main_v5 : S128x128.Idx → EReal) = pad S128x128 ![0, 0] ![0, 120] ![0, 0] (transpose S128x8 [1, 0] (a6 m c) transposes_S8x128_S128x8_1_0)
      (sitofp (F := Ideal) .f32 (constantI S_ 32 0#32)) pads_S128x8_S128x128_000_01200 h_S_
    ∧ (V m c main_v6 : S1024x1024.Idx → EReal) = a7 m c
    ∧ (V m c main_v7 : S4096x1024.Idx → EReal) = shapeCast S4096x1024 (a0 m c) shapeCasts_S2x2048x1024_S4096x1024 := by
  refine ⟨?_, ?_, ?_, ?_, ?_, ?_, ?_⟩
  all_goals
    unfold V
    simp only [hostOps0, hostOps0_1, hostOps0_2, List.flatten_cons, List.flatten_nil, List.append_nil, List.cons_append, List.nil_append]
    after_results_simp
    try simp -implicitDefEqProofs only [StableHlo.TRef.toBuf, StableHlo.TRef.ofBuf, cast_cast, cast_eq]
    try clean_types
    try rfl

theorem idx0 : ∀ t : Fin cfg0.N, win0_0.index t = ![t.val, 0] := (by decide +kernel : ∀ t : Fin grid0.N, _)
theorem idx1 : ∀ t : Fin cfg0.N, win0_1.index t = ![0, 0] := (by decide +kernel : ∀ t : Fin grid0.N, _)
theorem idx2 : ∀ t : Fin cfg0.N, win0_2.index t = ![0, 0] := (by decide +kernel : ∀ t : Fin grid0.N, _)
theorem idx3 : ∀ t : Fin cfg0.N, win0_3.index t = ![0, 0] := (by decide +kernel : ∀ t : Fin grid0.N, _)
theorem idx4 : ∀ t : Fin cfg0.N, win0_4.index t = ![0, 0] := (by decide +kernel : ∀ t : Fin grid0.N, _)
theorem idx5 : ∀ t : Fin cfg0.N, win0_5.index t = ![0, 0, 0] := (by decide +kernel : ∀ t : Fin grid0.N, _)
theorem idx6 : ∀ t : Fin cfg0.N, win0_6.index t = ![0, 0] := (by decide +kernel : ∀ t : Fin grid0.N, _)
theorem idx7 : ∀ t : Fin cfg0.N, win0_7.index t = ![0, 0] := (by decide +kernel : ∀ t : Fin grid0.N, _)
theorem idx8 : ∀ t : Fin cfg0.N, win0_8.index t = ![t.val, 0] := (by decide +kernel : ∀ t : Fin grid0.N, _)

/-- A block's row sits in its array at the grid point's sequence and place; a weight's block is the whole. -/
theorem emb0 (n : Fin 2) (r : Fin 128) (j : Fin 1024) : (win0_0.blk t).view.emb (ix2 (at2 n r) j) = ix2 (gr (bt t) (at16 (ch t n) r)) j := by
  unfold at2 at16
  have := lt16 t
  blk_ext [idx0]
theorem emb8 (n : Fin 2) (r : Fin 128) (j : Fin 1024) : (win0_8.blk t).view.emb (ix2 (at2 n r) j) = ix2 (gr (bt t) (at16 (ch t n) r)) j := by
  unfold at2 at16
  have := lt16 t
  blk_ext [idx8]

/-- A grid point's blocks. -/
abbrev hB : M 256 1024 := iblk m c 0 t
@[inherit_doc hB] abbrev cnB : M 1 1024 := iblk m c 1 t
@[inherit_doc hB] abbrev winB : M 1024 2048 := iblk m c 2 t
@[inherit_doc hB] abbrev lgB : M 1 1024 := iblk m c 3 t
@[inherit_doc hB] abbrev lbB : M 1 1024 := iblk m c 4 t
@[inherit_doc hB] abbrev wsB : M3 8 128 128 := iblk m c 5 t
@[inherit_doc hB] abbrev bstB : M 128 128 := iblk m c 6 t
@[inherit_doc hB] abbrev woutB : M 1024 1024 := iblk m c 7 t

theorem whole1 : cnB m c t = V m c main_v0 := by
  have hV : ∀ (A : Buf (Elt Ideal) ((c.tc : Thread nD τ).loc main_v0)) (y : S1x1024.Idx),
      ((cfg0.win 1).blk t).view.read (Elt Ideal) A y = A ((win0_1.blk t).view.emb y) := fun A y => rfl
  exact funext fun y => (hV (V m c main_v0) y).trans (congrArg _ (by blk_ext [idx1]))
theorem whole2 : winB m c t = V m c main_v1 := by
  have hV : ∀ (A : Buf (Elt Ideal) ((c.tc : Thread nD τ).loc main_v1)) (y : S1024x2048.Idx),
      ((cfg0.win 2).blk t).view.read (Elt Ideal) A y = A ((win0_2.blk t).view.emb y) := fun A y => rfl
  exact funext fun y => (hV (V m c main_v1) y).trans (congrArg _ (by blk_ext [idx2]))
theorem whole3 : lgB m c t = V m c main_v2 := by
  have hV : ∀ (A : Buf (Elt Ideal) ((c.tc : Thread nD τ).loc main_v2)) (y : S1x1024.Idx),
      ((cfg0.win 3).blk t).view.read (Elt Ideal) A y = A ((win0_3.blk t).view.emb y) := fun A y => rfl
  exact funext fun y => (hV (V m c main_v2) y).trans (congrArg _ (by blk_ext [idx3]))
theorem whole4 : lbB m c t = V m c main_v3 := by
  have hV : ∀ (A : Buf (Elt Ideal) ((c.tc : Thread nD τ).loc main_v3)) (y : S1x1024.Idx),
      ((cfg0.win 4).blk t).view.read (Elt Ideal) A y = A ((win0_4.blk t).view.emb y) := fun A y => rfl
  exact funext fun y => (hV (V m c main_v3) y).trans (congrArg _ (by blk_ext [idx4]))
theorem whole5 : wsB m c t = V m c main_arg5 := by
  have hV : ∀ (A : Buf (Elt Ideal) ((c.tc : Thread nD τ).loc main_arg5)) (y : S8x128x128.Idx),
      ((cfg0.win 5).blk t).view.read (Elt Ideal) A y = A ((win0_5.blk t).view.emb y) := fun A y => rfl
  exact funext fun y => (hV (V m c main_arg5) y).trans (congrArg _ (by blk_ext [idx5]))
theorem whole6 : bstB m c t = V m c main_v5 := by
  have hV : ∀ (A : Buf (Elt Ideal) ((c.tc : Thread nD τ).loc main_v5)) (y : S128x128.Idx),
      ((cfg0.win 6).blk t).view.read (Elt Ideal) A y = A ((win0_6.blk t).view.emb y) := fun A y => rfl
  exact funext fun y => (hV (V m c main_v5) y).trans (congrArg _ (by blk_ext [idx6]))
theorem whole7 : woutB m c t = V m c main_v6 := by
  have hV : ∀ (A : Buf (Elt Ideal) ((c.tc : Thread nD τ).loc main_v6)) (y : S1024x1024.Idx),
      ((cfg0.win 7).blk t).view.read (Elt Ideal) A y = A ((win0_7.blk t).view.emb y) := fun A y => rfl
  exact funext fun y => (hV (V m c main_v6) y).trans (congrArg _ (by blk_ext [idx7]))

/-- A point's weights are the arguments', -/
theorem weights : wt (cnB m c t) (lgB m c t) (lbB m c t) (winB m c t) (wsB m c t) (bstB m c t) (woutB m c t)
    = W (a1 m c) (a2 m c) (a3 m c) (a4 m c) (a5 m c) (a6 m c) (a7 m c) := by
  obtain ⟨e0, e1, e2, e3, e5, e6, -⟩ := arrays m c
  unfold wt W
  rw [whole1, whole2, whole3, whole4, whole5, whole6, whole7, e0, e1, e2, e3, e5, e6, V_main_arg5]
  congr 1
  · exact funext fun x => Cert.SguIdeal.Final.line _ x
  · exact funext fun x => Cert.SguIdeal.Final.line _ x
  · exact funext fun x => Cert.SguIdeal.Final.line _ x
  · exact funext fun g => funext fun r => Cert.SguIdeal.Final.turned _ r g

/-- and its chunks the sequence's. -/
theorem rows (n : Fin 2) : Cert.SguIdeal.Pay.chunk (hB m c t) n = Cert.SguRefIdeal.Val.chunk (a0 m c) (bt t) (ch t n) := by
  have hV : ∀ (A : Buf (Elt Ideal) ((c.tc : Thread nD τ).loc main_v7)) (y : S256x1024.Idx),
      ((cfg0.win 0).blk t).view.read (Elt Ideal) A y = A ((win0_0.blk t).view.emb y) := fun A y => rfl
  refine funext fun r => funext fun j => (hV (V m c main_v7) (ix2 (at2 n r) j)).trans ?_
  rw [emb0, (arrays m c).2.2.2.2.2.2]
  exact flat_at _ _ _ _ j

theorem block (n : Fin 2) (r : Fin 128) (j : Fin 1024) :
    out0_8 (F := Ideal) (hB m c t) (cnB m c t) (winB m c t) (lgB m c t) (lbB m c t) (wsB m c t) (bstB m c t) (woutB m c t) (ix2 (at2 n r) j)
      = val_main_v68 (F := Ideal) (a0 m c) (a1 m c) (a2 m c) (a3 m c) (a4 m c) (a5 m c) (a6 m c) (a7 m c) (ix2 (gr (bt t) (at16 (ch t n) r)) j) := by
  rw [out_at, weights, rows]
  exact ((flat_at _ _ (bt t) (at16 (ch t n) r) j).trans (Cert.SguFRefIdeal.Val.out_at _ _ _ _ _ _ _ _ _ _ _ _)).symm

/-- A block's row is in one of its two chunks. -/
theorem halves (r : Fin 256) : ∃ n r', r = at2 n r' :=
  ⟨⟨r.val / 128, by omega⟩, ⟨r.val % 128, by omega⟩, Fin.ext (Nat.div_add_mod r.val 128).symm⟩

theorem covers8 : (cfg0.win 8).Covers := by decide +kernel

/-- Cutting a point's block out of `X` gives the block of `G` when `X` is `G` at the block's place. -/
theorem cut8 (X : Vec Ideal S256x1024 .f32) (G : S4096x1024.Idx → EReal) (h : ∀ r j, X (ix2 r j) = G ((win0_8.blk t).view.emb (ix2 r j))) :
    (cfg0.win 8).cut (grid0.coords t) X = ((cfg0.win 8).blk t).view.read (Elt Ideal) G := by
  refine funext fun (y : S256x1024.Idx) => ?_
  have e : X y = G ((win0_8.blk t).view.emb y) := by
    rw [Cert.FfnAIdeal.Final.row_col y]
    exact h _ _
  exact e

/-- The result's array after the run. -/
theorem results : (dats m 0 c).arrAt 8 cfg0.N
    = val_main_v68 (F := Ideal) (a0 m c) (a1 m c) (a2 m c) (a3 m c) (a4 m c) (a5 m c) (a6 m c) (a7 m c) := by
  refine (dats m 0 c).arrAt_eq_of_cover 8 _ (fun t _ => ?_) (Pipeline.Window.Covers.cover _ covers8 (Memref.isWhole_whole _))
  rw [flushed8]
  refine cut8 t _ _ fun r j => ?_
  obtain ⟨n, r', rfl⟩ := halves r
  rw [emb8]
  exact block m c t n r' j

end Cert.SguFIdeal.Final

end
-- ==== Proof.HeadPad.lean ====
module

public import Idealize.ShloMosaic.Lib.Pointwise
public import Idealize.ShloMosaic.Lib.KernelVsHost
public import Idealize.ShloMosaic.Lib.Pipeline.Value

@[expose] public section

noncomputable section

/-! Heads of `n` columns padded with zeros to 128 and laid side by side, read at a column of a head. -/

namespace Cert.HeadPad

open Idealize.ShloMosaic

/-- Head `h`'s column `x` among the eight heads' columns. -/
abbrev col (h : Fin 8) (x : Fin 128) : Fin 1024 := ⟨h.val * 128 + x.val, by omega⟩

/-- The padded entry: the array's, or zero past the head's last column. -/
def padded (n : ℕ) (y : (⟨4, ![2, 2048, 8, n]⟩ : Shape).Idx → EReal) (b : Fin 2) (r : Fin 2048) (h : Fin 8) (x : Fin 128) : EReal :=
  if hx : x.val < n then y (ix4 b r h ⟨x.val, hx⟩) else 0

theorem pad_at {n q : ℕ} (y : (⟨4, ![2, 2048, 8, n]⟩ : Shape).Idx → EReal) {u : Shape} (z : u.Idx → EReal) (hz : ∀ i, z i = 0)
    (hp : (⟨4, ![2, 2048, 8, n]⟩ : Shape).Pads ![0, 0, 0, 0] ![0, 0, 0, q] ![0, 0, 0, 0] ⟨4, ![2, 2048, 8, 128]⟩) (hu : 0 < u.numel)
    (b : Fin 2) (r : Fin 2048) (h : Fin 8) (x : Fin 128) :
    pad ⟨4, ![2, 2048, 8, 128]⟩ ![0, 0, 0, 0] ![0, 0, 0, q] ![0, 0, 0, 0] y z hp hu (ix4 b r h x) = padded n y b r h x := by
  unfold padded
  split
  · rename_i hx
    refine pad_apply_of_inside _ _ _ y z hp hu (ix4 b r h x) (ix4 b r h ⟨x.val, hx⟩) fun a => ?_
    match a with
    | ⟨0, _⟩ => show b.val = 0 + b.val * 1; omega
    | ⟨1, _⟩ => show r.val = 0 + r.val * 1; omega
    | ⟨2, _⟩ => show h.val = 0 + h.val * 1; omega
    | ⟨3, _⟩ => show x.val = 0 + x.val * 1; omega
  · rename_i hx
    rw [pad_apply_of_not_inside _ _ _ y z hp hu (ix4 b r h x) (⟨3, by decide⟩ : Fin 4), hz]
    rintro ⟨-, -, h3⟩
    have h3' : (x.val - 0) / 1 < n := h3
    omega

/-- The heads laid side by side. -/
theorem flat_at (y : (⟨4, ![2, 2048, 8, 128]⟩ : Shape).Idx → EReal)
    (hc : (⟨4, ![2, 2048, 8, 128]⟩ : Shape).ShapeCasts ⟨3, ![2, 2048, 1024]⟩) (b : Fin 2) (r : Fin 2048) (h : Fin 8) (x : Fin 128) :
    shapeCast ⟨3, ![2, 2048, 1024]⟩ y hc (ix3 b r (col h x)) = y (ix4 b r h x) := by
  refine shapeCast_apply y hc (ix3 b r (col h x)) (ix4 b r h x) ?_
  rewrite [Shape.rowMajor_val_four, Shape.rowMajor_val_three]
  show ((b.val * 2048 + r.val) * 8 + h.val) * 128 + x.val = (b.val * 2048 + r.val) * 1024 + (h.val * 128 + x.val)
  omega

end Cert.HeadPad

end
-- ==== Proof.HeadsRow.lean ====
module

public import Idealize.ShloMosaic.Lib.Pointwise
public import proofs.«01_k».proof.Proof.HeadPad

@[expose] public section

noncomputable section

/-! One row of the attention's input: norms of any width, and the turn that a position gives a head's last columns. -/

namespace Cert.HeadsRow

open Idealize.ShloMosaic

/-- A matrix. -/
abbrev M (a b : ℕ) := (⟨2, ![a, b]⟩ : Shape).Idx → EReal

/-- A row over its root mean square, times the norm's scale; `N` is the row's width. -/
def rms {n : ℕ} (N : EReal) (f g : Fin n → EReal) (j : Fin n) : EReal :=
  f j * Ideal.rsqrt (Ideal.div (∑ x, f x * f x) N + Ideal.ofBits .f32 0x358637BD#32) * g j

/-- The angle of the `i`-th pair at position `p`. -/
def ang (p : EReal) (i : ℕ) : EReal :=
  p * Ideal.exp (Ideal.div (Ideal.ofBits .f32 0xC1135D8E#32 * FloatOps.sitofp (F := Ideal) .f32 (BitVec.ofNat 32 i))
    (Ideal.ofBits .f32 0x41800000#32))

/-- A head with its columns 64 to 95 turned in pairs, 16 columns apart. -/
def head (f : Fin 128 → EReal) (p : EReal) (l : Fin 128) : EReal :=
  if l.val < 64 then f l
  else if h : l.val < 80 then f l * Ideal.cos (ang p (l.val - 64)) - f ⟨l.val + 16, by omega⟩ * Ideal.sin (ang p (l.val - 64))
  else if l.val < 96 then f l * Ideal.cos (ang p (l.val - 80)) + f ⟨l.val - 16, by omega⟩ * Ideal.sin (ang p (l.val - 80))
  else f l

/-- The column of a head that a column of all the heads is, as the kernel's mask takes it. -/
theorem lane (c : Fin 1024) : BitVec.ofNat 32 c.val &&& 127#32 = BitVec.ofNat 32 (c.val % 128) :=
  (by decide +kernel : ∀ c : Fin 1024, BitVec.ofNat 32 c.val &&& 127#32 = BitVec.ofNat 32 (c.val % 128)) c

/-- The pair that a column belongs to. -/
theorem pair (l : Fin 128) : BitVec.ofNat 32 l.val &&& 15#32 = BitVec.ofNat 32 (l.val % 16) :=
  (by decide +kernel : ∀ l : Fin 128, BitVec.ofNat 32 l.val &&& 15#32 = BitVec.ofNat 32 (l.val % 16)) l

/-- The kernel's comparisons of a column. -/
theorem sge64 (l : Fin 128) : IntOp.cmpi .sge (BitVec.ofNat 32 l.val) 64#32 = if 64 ≤ l.val then 1#1 else 0#1 :=
  (by decide +kernel : ∀ l : Fin 128, IntOp.cmpi .sge (BitVec.ofNat 32 l.val) 64#32 = if 64 ≤ l.val then 1#1 else 0#1) l
@[inherit_doc sge64] theorem slt80 (l : Fin 128) : IntOp.cmpi .slt (BitVec.ofNat 32 l.val) 80#32 = if l.val < 80 then 1#1 else 0#1 :=
  (by decide +kernel : ∀ l : Fin 128, IntOp.cmpi .slt (BitVec.ofNat 32 l.val) 80#32 = if l.val < 80 then 1#1 else 0#1) l
@[inherit_doc sge64] theorem slt96 (l : Fin 128) : IntOp.cmpi .slt (BitVec.ofNat 32 l.val) 96#32 = if l.val < 96 then 1#1 else 0#1 :=
  (by decide +kernel : ∀ l : Fin 128, IntOp.cmpi .slt (BitVec.ofNat 32 l.val) 96#32 = if l.val < 96 then 1#1 else 0#1) l

theorem select_one {α : Type} (a b : α) : Scalar.select 1#1 a b = a := rfl
theorem select_zero {α : Type} (a b : α) : Scalar.select 0#1 a b = b := rfl

/-- The kernel's form of the turn: everywhere a column times `c` plus a shifted column times `s`, with `c` one and `s` zero
    outside the turned columns. -/
theorem head_eq (f : Fin 128 → EReal) (p : EReal) (l : Fin 128) (up dn : EReal)
    (hu : ∀ h : l.val < 80, up = f ⟨l.val + 16, by omega⟩) (hd : 80 ≤ l.val → dn = f ⟨l.val - 16, by omega⟩) :
    f l * (if 64 ≤ l.val ∧ l.val < 96 then Ideal.cos (ang p (l.val % 16)) else 1)
      + (if l.val < 80 then (if 64 ≤ l.val then 0 - up else 0) else if l.val < 96 then dn else 0)
        * (if 64 ≤ l.val ∧ l.val < 96 then Ideal.sin (ang p (l.val % 16)) else 0) = head f p l := by
  unfold head
  by_cases h1 : l.val < 64
  · simp [h1, show ¬64 ≤ l.val by omega]
  by_cases h2 : l.val < 80
  · rw [if_pos ⟨by omega, by omega⟩, if_pos h2, if_pos (by omega), if_pos ⟨by omega, by omega⟩, if_neg h1, dif_pos h2,
      hu h2, show l.val % 16 = l.val - 64 by omega, zero_sub, EReal.neg_mul, sub_eq_add_neg]
  by_cases h3 : l.val < 96
  · rw [if_pos ⟨by omega, h3⟩, if_neg h2, if_pos h3, if_pos ⟨by omega, h3⟩, if_neg h1, dif_neg h2, if_pos h3,
      hd (by omega), show l.val % 16 = l.val - 80 by omega]
  · simp [h1, h2, h3]

/-- The same with the kernel's selections by the column's word, `w` or `w'`. -/
theorem head_sel (f : Fin 128 → EReal) (p : EReal) (l : Fin 128) (a c s up dn : EReal) (w w' : BitVec 32)
    (hw : w = BitVec.ofNat 32 l.val) (hw' : w' = BitVec.ofNat 32 l.val) (ha : a = f l)
    (hc : c = if 64 ≤ l.val ∧ l.val < 96 then Ideal.cos (ang p (l.val % 16)) else 1)
    (hs : s = if 64 ≤ l.val ∧ l.val < 96 then Ideal.sin (ang p (l.val % 16)) else 0)
    (hu : ∀ h : l.val < 80, up = f ⟨l.val + 16, by omega⟩) (hd : 80 ≤ l.val → dn = f ⟨l.val - 16, by omega⟩) :
    a * c + Scalar.select (IntOp.cmpi .slt w 80#32) (Scalar.select (IntOp.cmpi .sge w' 64#32) (0 - up) 0)
      (Scalar.select (IntOp.cmpi .slt w 96#32) dn 0) * s = head f p l := by
  rw [hw, hw', ha, hc, hs, sge64, slt80, slt96, ← head_eq f p l up dn hu hd]
  by_cases h1 : 64 ≤ l.val <;> by_cases h2 : l.val < 80 <;> by_cases h3 : l.val < 96 <;>
    simp only [h1, h2, h3, if_true, if_false, and_true, and_false, select_one, select_zero]

/-- The padding's value. -/
theorem int_zero {S : Shape} (i : S.Idx) : sitofp (F := Ideal) .f32 (constantI S 32 0#32) i = (0 : EReal) := by
  show (((0#32 : BitVec 32).toInt : ℝ) : EReal) = 0
  simp

end Cert.HeadsRow

end
-- ==== Proof.HeadsBlock.lean ====
module

public import proofs.«01_k».proof.Proof.Gen.HeadsIdeal.Value
public import proofs.«01_k».proof.Proof.HeadsRow
public import Idealize.ShloMosaic.Lib.Pipeline.ValueKit.Geometry
public import Idealize.ShloMosaic.Lib.Pipeline.ValueKit.Acc

@[expose] public section

noncomputable section

/-! What one grid point leaves: 512 rows of the heads' queries, keys and values, and of the recurrence's two inputs. -/

namespace Cert.HeadsIdeal.Block

open Cert.HeadsIdeal Cert.HeadsIdeal.Gen Idealize.ShloMosaic Idealize.ShloMosaic.TcCoe Cert.HeadsRow
open Cert.HeadPad (col)

variable (X : M 512 1024) (P : M 512 128) (g : M 1 1024) (W : M 1024 1536) (gq : M 1 256) (wq : M 256 1024) (gk : M 1 128) (wk wv : M 128 1024)

/-- A row of the first product. -/
def zrow (r : Fin 512) (k : Fin 1536) : EReal :=
  ∑ j, rms (Ideal.ofBits .f32 0x44800000#32) (fun x => X (ix2 r x)) (fun x => g (ix2 0 x)) j * W (ix2 j k)

theorem pay5 (r : Fin 512) (k : Fin 1536) : k0_pay5 (F := Ideal) X g W (ix2 r k) = zrow X g W r k := by
  unfold k0_pay5 zrow rms; pointwise

theorem cos_at (r : Fin 512) (l : Fin 128) : k0_pay13 (F := Ideal) P (ix2 r l)
    = if 64 ≤ l.val ∧ l.val < 96 then Ideal.cos (ang (P (ix2 r l)) (l.val % 16)) else 1 := by
  unfold k0_pay13 k0_pay12 k0_pay11 ang; pointwise
  rw [sge64, slt96, show IntOp.andi (BitVec.ofNat 32 l.val) 15#32 = BitVec.ofNat 32 (l.val % 16) from pair l]
  by_cases h1 : 64 ≤ l.val <;> by_cases h2 : l.val < 96 <;> simp only [h1, h2, if_true, if_false, and_true, and_false] <;> rfl

theorem sin_at (r : Fin 512) (l : Fin 128) : k0_pay14 (F := Ideal) P (ix2 r l)
    = if 64 ≤ l.val ∧ l.val < 96 then Ideal.sin (ang (P (ix2 r l)) (l.val % 16)) else 0 := by
  unfold k0_pay14 k0_pay12 k0_pay11 ang; pointwise
  rw [sge64, slt96, show IntOp.andi (BitVec.ofNat 32 l.val) 15#32 = BitVec.ofNat 32 (l.val % 16) from pair l]
  by_cases h1 : 64 ≤ l.val <;> by_cases h2 : l.val < 96 <;> simp only [h1, h2, if_true, if_false, and_true, and_false] <;> rfl

/-- One head's table set eight times side by side. -/
def wide (y : M 512 128) : M 512 1024 :=
  concatenate S512x1024 1 [⟨S512x128, y⟩, ⟨S512x128, y⟩, ⟨S512x128, y⟩, ⟨S512x128, y⟩, ⟨S512x128, y⟩, ⟨S512x128, y⟩, ⟨S512x128, y⟩, ⟨S512x128, y⟩]
    concatenates_S512x128_S512x128_S512x128_S512x128_S512x128_S512x128_S512x128_S512x128_S512x1024_d1

theorem wide_at (y : M 512 128) (r : Fin 512) (h : Fin 8) (l : Fin 128) : wide y (ix2 r (col h l)) = y (ix2 r l) := by
  unfold wide; pointwise
  split_ifs <;> exact congrArg (fun k => y (ix2 r k)) (Fin.ext (by simp only; omega))

theorem shift (y : M 512 1024) (r : Fin 512) (a b : Fin 1024) (h : a.val = b.val) : y (ix2 r a) = y (ix2 r b) :=
  congrArg (fun k => y (ix2 r k)) (Fin.ext h)

/-- The rotations along all the heads' columns stay in a head where they are used. -/
theorem turn_at (v76 C S : M 512 1024) (p : EReal) (r : Fin 512) (h : Fin 8) (l : Fin 128)
    (hC : C (ix2 r (col h l)) = if 64 ≤ l.val ∧ l.val < 96 then Ideal.cos (ang p (l.val % 16)) else 1)
    (hS : S (ix2 r (col h l)) = if 64 ≤ l.val ∧ l.val < 96 then Ideal.sin (ang p (l.val % 16)) else 0) :
    k0_pay20 (F := Ideal) v76 S (mulf (F := Ideal) (φ := .f32) v76 C) k0_pay18 k0_pay19 (ix2 r (col h l))
      = head (fun x => v76 (ix2 r (col h x))) p l := by
  have hl : IntOp.andi (BitVec.ofNat 32 (h.val * 128 + l.val)) 127#32 = BitVec.ofNat 32 l.val :=
    (lane (col h l)).trans (by show BitVec.ofNat 32 ((h.val * 128 + l.val) % 128) = _; congr 1; omega)
  have hm : k0_pay18 (ix2 r (col h l)) = BitVec.ofNat 32 l.val := by
    unfold k0_pay18; pointwise
    exact hl
  unfold k0_pay20 k0_pay19; pointwise
  exact head_sel (fun x => v76 (ix2 r (col h x))) p l _ _ _ _ _ _ _ hm hm rfl hC hS
    (fun _ => shift v76 r _ _ (by show (h.val * 128 + l.val + 1024 - 1008) % 1024 = h.val * 128 + (l.val + 16); omega))
    (fun _ => shift v76 r _ _ (by show (h.val * 128 + l.val + 1024 - 16) % 1024 = h.val * 128 + (l.val - 16); omega))

theorem cq_at (r : Fin 512) (j : Fin 256) : k0_pay6 (F := Ideal) X g W gq (ix2 r j)
    = rms (Ideal.ofBits .f32 0x43800000#32) (fun k : Fin 256 => zrow X g W r ⟨k.val, by omega⟩) (fun k => gq (ix2 0 k)) j := by
  unfold k0_pay6 rms; pointwise
  simp only [pay5]

theorem kv_at (r : Fin 512) (j : Fin 128) :
    k0_pay10 (F := Ideal) (k0_pay7 X g W) (k0_pay8 gk) (k0_pay9 X g W) (ix2 r j)
    = rms (Ideal.ofBits .f32 0x43000000#32) (fun k : Fin 128 => zrow X g W r ⟨256 + k.val, by omega⟩) (fun k => gk (ix2 0 k)) j := by
  unfold k0_pay10 k0_pay9 k0_pay8 k0_pay7 rms; pointwise
  simp only [pay5]

theorem kp_at (r : Fin 512) (l : Fin 128) : k0_pay21 (F := Ideal) (k0_pay5 X g W) (k0_pay13 P) (k0_pay14 P) (ix2 r l)
    = head (fun x => zrow X g W r ⟨384 + x.val, by omega⟩) (P (ix2 r l)) l := by
  unfold k0_pay21; pointwise
  have hl : IntOp.andi (BitVec.ofNat 32 l.val) 127#32 = BitVec.ofNat 32 l.val :=
    (lane ⟨l.val, by omega⟩).trans (by show BitVec.ofNat 32 (l.val % 128) = _; congr 1; omega)
  exact head_sel _ _ l _ _ _ _ _ _ _ hl hl (pay5 X g W r _) (cos_at P r l) (sin_at P r l)
    (fun _ => (pay5 X g W r _).trans (congrArg _ (Fin.ext (by show 384 + (l.val + 128 - 112) % 128 = 384 + (l.val + 16); omega))))
    (fun _ => (pay5 X g W r _).trans (congrArg _ (Fin.ext (by show 384 + (l.val + 128 - 16) % 128 = 384 + (l.val - 16); omega))))

/-- The normed rows that the queries, and the keys and values, are projected from. -/
def cq (r : Fin 512) (j : Fin 256) : EReal :=
  rms (Ideal.ofBits .f32 0x43800000#32) (fun k : Fin 256 => zrow X g W r ⟨k.val, by omega⟩) (fun k => gq (ix2 0 k)) j
@[inherit_doc cq] def kv (r : Fin 512) (j : Fin 128) : EReal :=
  rms (Ideal.ofBits .f32 0x43000000#32) (fun k : Fin 128 => zrow X g W r ⟨256 + k.val, by omega⟩) (fun k => gk (ix2 0 k)) j

theorem pay2_at (A : M 512 128) (w : M 128 1024) (r : Fin 512) (f : Fin 1024) :
    k0_pay2 (F := Ideal) A w (ix2 r f) = ∑ j, A (ix2 r j) * w (ix2 j f) := by
  unfold k0_pay2; pointwise

theorem out9 (r : Fin 512) (h : Fin 8) (l : Fin 128) : out0_9 (F := Ideal) X P g W gq wq gk wk wv (ix2 r (col h l))
    = head (fun x => ∑ j, cq X g W gq r j * wq (ix2 j (col h x))) (P (ix2 r l)) l := by
  have e : ∀ (x : Fin 128), k0_pay15 (F := Ideal) (k0_pay6 X g W gq) wq (ix2 r (col h x)) = ∑ j, cq X g W gq r j * wq (ix2 j (col h x)) := fun x => by
    unfold k0_pay15; pointwise
    simp only [cq_at]
    rfl
  simp only [← e]
  rw [← turn_at (k0_pay15 (F := Ideal) (k0_pay6 X g W gq) wq) (wide (k0_pay13 (F := Ideal) P)) (wide (k0_pay14 (F := Ideal) P)) (P (ix2 r l)) r h l
    ((wide_at (k0_pay13 (F := Ideal) P) r h l).trans (cos_at P r l)) ((wide_at (k0_pay14 (F := Ideal) P) r h l).trans (sin_at P r l))]
  unfold_out out0_9
  frame_out
  rfl

theorem out10 (r : Fin 512) (h : Fin 8) (l : Fin 128) : out0_10 (F := Ideal) X P g W gq wq gk wk wv (ix2 r (col h l))
    = (∑ j, kv X g W gk r j * wk (ix2 j (col h l))) + head (fun x => zrow X g W r ⟨384 + x.val, by omega⟩) (P (ix2 r l)) l := by
  have e : ∀ (A y : M 512 128), k0_pay1 (F := Ideal) A y wk (ix2 r (col h l)) = k0_pay2 (F := Ideal) A wk (ix2 r (col h l)) + wide y (ix2 r (col h l)) :=
    fun A y => rfl
  rw [← kp_at, ← wide_at (k0_pay21 (F := Ideal) (k0_pay5 X g W) (k0_pay13 P) (k0_pay14 P)) r h l]
  simp only [kv, ← kv_at]
  rw [← pay2_at, ← e]
  unfold_out out0_10
  frame_out

theorem out11 (r : Fin 512) (f : Fin 1024) : out0_11 (F := Ideal) X P g W gq wq gk wk wv (ix2 r f) = ∑ j, kv X g W gk r j * wv (ix2 j f) := by
  simp only [kv, ← kv_at]
  rw [← pay2_at]
  unfold_out out0_11
  frame_out

theorem out12 (r f : Fin 512) : out0_12 (F := Ideal) X P g W gq wq gk wk wv (ix2 r f) = zrow X g W r ⟨512 + f.val, by omega⟩ := by
  have e : k0_pay3 (F := Ideal) (k0_pay5 X g W) (ix2 r f) = zrow X g W r ⟨512 + f.val, by omega⟩ := by
    unfold k0_pay3; pointwise
    exact pay5 X g W r _
  rw [← e]
  unfold_out out0_12
  frame_out

theorem out13 (r f : Fin 512) : out0_13 (F := Ideal) X P g W gq wq gk wk wv (ix2 r f) = zrow X g W r ⟨1024 + f.val, by omega⟩ := by
  have e : k0_pay4 (F := Ideal) (k0_pay5 X g W) (ix2 r f) = zrow X g W r ⟨1024 + f.val, by omega⟩ := by
    unfold k0_pay4; pointwise
    exact pay5 X g W r _
  rw [← e]
  unfold_out out0_13
  frame_out

end Cert.HeadsIdeal.Block

end
-- ==== Proof.HeadsArr.lean ====
module

public import proofs.«01_k».proof.Proof.Gen.HeadsIdeal.Value
public import proofs.«01_k».proof.Proof.HeadsRow
public import proofs.«01_k».proof.Proof.FfnArr
public import Idealize.ShloMosaic.Lib.Tactic.CleanTypes

@[expose] public section

noncomputable section

/-! The arrays that the attention's input kernel runs on, entry by entry in the arguments. -/

namespace Cert.HeadsIdeal.Arr

open Cert.HeadsIdeal Cert.HeadsIdeal.Gen Idealize.ShloMosaic Idealize.ShloMosaic.TcCoe
open Cert.HeadsRow Cert.HeadPad
open Cert.FfnAIdeal.Arr (gr flat_at)

variable (m : (ℓ : Loc nD τ sig) → Buf (Elt Ideal) ℓ) (c : Dev nD)

abbrev a0 (c : Dev nD) : S2x2048x1024.Idx → EReal := m ((c.tc : Thread nD τ).loc main_arg0)
abbrev a1 (c : Dev nD) : S2x2048.Idx → BitVec 32 := m ((c.tc : Thread nD τ).loc main_arg1)
abbrev a2 (c : Dev nD) : S1024.Idx → EReal := m ((c.tc : Thread nD τ).loc main_arg2)
abbrev a3 (c : Dev nD) : S1024x1440.Idx → EReal := m ((c.tc : Thread nD τ).loc main_arg3)
abbrev a4 (c : Dev nD) : S256.Idx → EReal := m ((c.tc : Thread nD τ).loc main_arg4)
abbrev a5 (c : Dev nD) : S256x768.Idx → EReal := m ((c.tc : Thread nD τ).loc main_arg5)
abbrev a6 (c : Dev nD) : S128.Idx → EReal := m ((c.tc : Thread nD τ).loc main_arg6)
abbrev a7 (c : Dev nD) : S128x1024.Idx → EReal := m ((c.tc : Thread nD τ).loc main_arg7)

/-- The first weight with zero columns set around the key's turned ones. -/
def winArr (w : S1024x1440.Idx → EReal) : M 1024 1536 :=
  concatenate S1024x1536 1 [⟨S1024x384, extractStridedSlice S1024x384 ![0, 0] w slices_S1024x1440_S1024x384_0_0⟩,
    ⟨S1024x64, fun _ => Ideal.ofBits .f32 0x00000000#32⟩, ⟨S1024x32, extractStridedSlice S1024x32 ![0, 384] w slices_S1024x1440_S1024x32_0_384⟩,
    ⟨S1024x32, fun _ => Ideal.ofBits .f32 0x00000000#32⟩, ⟨S1024x1024, extractStridedSlice S1024x1024 ![0, 416] w slices_S1024x1440_S1024x1024_0_416⟩]
    concatenates_S1024x384_S1024x64_S1024x32_S1024x32_S1024x1024_S1024x1536_d1

/-- Eight heads' columns of the keys' and values' weight from column `o` of each head on, padded. -/
def halfArr (w : S128x1024.Idx → EReal) (o : ℕ) (h : S128x8x128.Slices ![0, 0, o] S128x8x64) : M 128 1024 :=
  shapeCast S128x1024 (pad S128x8x128 ![0, 0, 0] ![0, 0, 64] ![0, 0, 0]
    (extractStridedSlice S128x8x64 ![0, 0, o] (shapeCast S128x8x128 w shapeCasts_S128x1024_S128x8x128) h)
    (sitofp (F := Ideal) .f32 (constantI S_ 32 0#32)) pads_S128x8x64_S128x8x128_000_000_0640 h_S_) shapeCasts_S128x8x128_S128x1024

theorem arrays : V m c main_v8 = winArr (a3 m c)
    ∧ V m c main_v11 = shapeCast S256x1024 (pad S256x8x128 ![0, 0, 0] ![0, 0, 32] ![0, 0, 0] (shapeCast S256x8x96 (a5 m c) shapeCasts_S256x768_S256x8x96)
        (sitofp (F := Ideal) .f32 (constantI S_ 32 0#32)) pads_S256x8x96_S256x8x128_000_000_0320 h_S_) shapeCasts_S256x8x128_S256x1024
    ∧ V m c main_v15 = halfArr (a7 m c) 0 slices_S128x8x128_S128x8x64_0_0_0
    ∧ V m c main_v19 = halfArr (a7 m c) 64 slices_S128x8x128_S128x8x64_0_0_64
    ∧ V m c main_v20 = shapeCast S1x1024 (a2 m c) shapeCasts_S1024_S1x1024
    ∧ V m c main_v21 = shapeCast S1x256 (a4 m c) shapeCasts_S256_S1x256
    ∧ V m c main_v22 = shapeCast S1x128 (a6 m c) shapeCasts_S128_S1x128
    ∧ V m c main_v25 = broadcastInDim S4096x128 ![0, 1] bcast_S4096x1_S4096x128_0_1
        (shapeCast S4096x1 (sitofp (F := Ideal) .f32 (a1 m c)) shapeCasts_S2x2048_S4096x1)
    ∧ V m c main_v26 = shapeCast S4096x1024 (a0 m c) shapeCasts_S2x2048x1024_S4096x1024 := by
  refine ⟨?_, ?_, ?_, ?_, ?_, ?_, ?_, ?_, ?_⟩ <;>
  · simp only [V, hostOps0, hostOps0_1, hostOps0_2, hostOps0_3, hostOps0_4, hostOps0_5, hostOps0_6, List.flatten_cons, List.flatten_nil, List.append_nil, List.cons_append, List.nil_append]
    after_results_simp
    try simp -implicitDefEqProofs only [StableHlo.TRef.toBuf, StableHlo.TRef.ofBuf, cast_cast, cast_eq]
    try clean_types
    try rfl

theorem win_at (j : Fin 1024) (k : Fin 1536) (w : S1024x1440.Idx → EReal) : winArr w (ix2 j k)
    = if h : k.val < 384 then w (ix2 j ⟨k.val, by omega⟩) else if k.val < 448 then 0
      else if h : k.val < 480 then w (ix2 j ⟨k.val - 64, by omega⟩) else if k.val < 512 then 0 else w (ix2 j ⟨k.val - 96, by omega⟩) := by
  unfold winArr; pointwise
  by_cases h1 : k.val < 384
  · rw [dif_pos h1, dif_pos h1]
  rw [dif_neg h1, dif_neg h1]
  by_cases h2 : k.val < 448
  · rw [dif_pos (by omega), if_pos h2]
  rw [dif_neg (by omega), if_neg h2]
  by_cases h3 : k.val < 480
  · rw [dif_pos (by omega), dif_pos h3]
    exact congrArg (fun q => w (ix2 j q)) (Fin.ext (by show 384 + (k.val - 384 - 64) = k.val - 64; omega))
  rw [dif_neg (by omega), dif_neg h3]
  by_cases h4 : k.val < 512
  · rw [dif_pos (by omega), if_pos h4]
  · rw [dif_neg (by omega), if_neg h4]
    exact congrArg (fun q => w (ix2 j q)) (Fin.ext (by show 416 + (k.val - 384 - 64 - 32 - 32) = k.val - 96; omega))

/-- Heads of `n` columns of a weight, padded with zeros to 128 and laid side by side, read at a column of a head. -/
theorem padded_at {a n q : ℕ} (y : (⟨3, ![a, 8, n]⟩ : Shape).Idx → EReal) {u : Shape} (z : u.Idx → EReal) (hz : ∀ i, z i = 0)
    (hp : (⟨3, ![a, 8, n]⟩ : Shape).Pads ![0, 0, 0] ![0, 0, q] ![0, 0, 0] ⟨3, ![a, 8, 128]⟩) (hu : 0 < u.numel)
    (hc : (⟨3, ![a, 8, 128]⟩ : Shape).ShapeCasts ⟨2, ![a, 1024]⟩) (j : Fin a) (h : Fin 8) (x : Fin 128) :
    shapeCast ⟨2, ![a, 1024]⟩ (pad ⟨3, ![a, 8, 128]⟩ ![0, 0, 0] ![0, 0, q] ![0, 0, 0] y z hp hu) hc (ix2 j (col h x))
      = if hx : x.val < n then y (ix3 j h ⟨x.val, hx⟩) else 0 := by
  refine (shapeCast_apply _ hc (ix2 j (col h x)) (ix3 j h x) ?_).trans ?_
  · rewrite [Shape.rowMajor_val_three, Shape.rowMajor_val_two]
    show (j.val * 8 + h.val) * 128 + x.val = j.val * 1024 + (h.val * 128 + x.val)
    omega
  split
  · rename_i hx
    refine pad_apply_of_inside _ _ _ y z hp hu (ix3 j h x) (ix3 j h ⟨x.val, hx⟩) fun a => ?_
    match a with
    | ⟨0, _⟩ => show j.val = 0 + j.val * 1; omega
    | ⟨1, _⟩ => show h.val = 0 + h.val * 1; omega
    | ⟨2, _⟩ => show x.val = 0 + x.val * 1; omega
  · rename_i hx
    rw [pad_apply_of_not_inside _ _ _ y z hp hu (ix3 j h x) (⟨2, by decide⟩ : Fin 3), hz]
    rintro ⟨-, -, h3⟩
    have h3' : (x.val - 0) / 1 < n := h3
    omega

theorem half_at (w : S128x1024.Idx → EReal) (o : ℕ) (ho : o ≤ 64) (hs : S128x8x128.Slices ![0, 0, o] S128x8x64) (j : Fin 128) (h : Fin 8) (x : Fin 128) :
    halfArr w o hs (ix2 j (col h x)) = if hx : x.val < 64 then w (ix2 j (col h ⟨o + x.val, by omega⟩)) else 0 := by
  unfold halfArr
  rw [padded_at _ _ int_zero]
  pointwise

theorem wq_at (j : Fin 256) (h : Fin 8) (x : Fin 128) : V m c main_v11 (ix2 j (col h x))
    = if hx : x.val < 96 then a5 m c (ix2 j ⟨h.val * 96 + x.val, by omega⟩) else 0 := by
  rw [(arrays m c).2.1]
  refine (padded_at _ _ int_zero _ _ _ j h x).trans ?_
  pointwise

theorem pos_at (b : Fin 2) (s : Fin 2048) (l : Fin 128) : V m c main_v25 (ix2 (gr b s) l) = FloatOps.sitofp (F := Ideal) .f32 (a1 m c (ix2 b s)) := by
  rw [(arrays m c).2.2.2.2.2.2.2.1]
  pointwise

end Cert.HeadsIdeal.Arr

end
-- ==== Proof.HeadsRef.lean ====
module

public import proofs.«01_k».proof.Proof.Gen.HeadsRefIdeal.Run
public import proofs.«01_k».proof.Proof.Gen.HeadsRefIdeal.Read
public import proofs.«01_k».proof.Proof.HeadsRow
public import proofs.«01_k».proof.Proof.FfnArr

@[expose] public section

noncomputable section

/-! The attention's input in the reference, row by row. -/

namespace Cert.HeadsRefIdeal.Val

open Cert.HeadsRefIdeal Cert.HeadsRefIdeal.Gen Cert.HeadsRefIdeal.Read Idealize.ShloMosaic Idealize.ShloMosaic.TcCoe
open Cert.HeadsRow Cert.HeadPad

variable (x0 : S2x2048x1024.Idx → EReal) (x1 : S2x2048.Idx → BitVec 32) (x2 : S1024.Idx → EReal) (x3 : S1024x1440.Idx → EReal)
  (x4 : S256.Idx → EReal) (x5 : S256x768.Idx → EReal) (x6 : S128.Idx → EReal) (x7 : S128x1024.Idx → EReal)
  (b : Fin 2) (s : Fin 2048)

/-- A row of the first product, the two rows normed again, and a row's position. -/
def zr (k : Fin 1440) : EReal := ∑ j, rms (Ideal.ofBits .f32 0x44800000#32) (fun x => x0 (ix3 b s x)) (fun x => x2 (ix1 x)) j * x3 (ix2 j k)
@[inherit_doc zr] def cqr (j : Fin 256) : EReal :=
  rms (Ideal.ofBits .f32 0x43800000#32) (fun k : Fin 256 => zr x0 x2 x3 b s ⟨k.val, by omega⟩) (fun k => x4 (ix1 k)) j
@[inherit_doc zr] def kvr (j : Fin 128) : EReal :=
  rms (Ideal.ofBits .f32 0x43000000#32) (fun k : Fin 128 => zr x0 x2 x3 b s ⟨256 + k.val, by omega⟩) (fun k => x6 (ix1 k)) j
@[inherit_doc zr] def pos : EReal := FloatOps.sitofp (F := Ideal) .f32 (x1 (ix2 b s))

theorem z_at (k : Fin 1440) : val_main_v13 (F := Ideal) x0 x2 x3 (ix3 b s k) = zr x0 x2 x3 b s k := by
  unfold zr rms
  pointwise [val_main_v13, val_main_v12, val_main_v11, val_main_v10, val_main_v9, val_main_v8, val_main_v7, val_main_v6, val_main_v5, val_main_v4, val_main_v3, val_main_v2, val_main_v1, val_main_v0, val_main_cst, val_main_cst_0, val_main_cst_1]

theorem cq_at (j : Fin 256) : val_main_v31 (F := Ideal) x0 x2 x3 x4 (ix3 b s j) = cqr x0 x2 x3 x4 b s j := by
  unfold cqr rms
  simp only [← z_at]
  pointwise [val_main_v31, val_main_v30, val_main_v29, val_main_v28, val_main_v27, val_main_v26, val_main_v25, val_main_v24, val_main_v23, val_main_v22, val_main_v21, val_main_v20, val_main_v19, val_main_v14, val_main_cst_2, val_main_cst_3, val_main_cst_4]

theorem kv_at (j : Fin 128) : val_main_v78 (F := Ideal) x0 x2 x3 x6 (ix3 b s j) = kvr x0 x2 x3 x6 b s j := by
  unfold kvr rms
  simp only [← z_at]
  pointwise [val_main_v78, val_main_v77, val_main_v76, val_main_v75, val_main_v74, val_main_v73, val_main_v72, val_main_v71, val_main_v70, val_main_v69, val_main_v68, val_main_v67, val_main_v66, val_main_v15, val_main_cst_7, val_main_cst_8, val_main_cst_9]

theorem ang_at (i : Fin 16) : val_main_v47 (F := Ideal) x1 (ix3 b s i) = ang (pos x1 b s) i.val := by
  unfold ang pos
  pointwise [val_main_v47, val_main_v46, val_main_v45, val_main_v44, val_main_v43, val_main_v42, val_main_v41, val_main_v40, val_main_v39, val_main_v38, val_main_v37, val_main_v36, val_main_cst_5, val_main_cst_6]

/-- The keys' angles are the queries'. -/
theorem ang_eq : val_main_v93 (F := Ideal) x1 = val_main_v47 (F := Ideal) x1 := rfl

/-- The columns of a head's query before the turn. -/
def qr (h : Fin 8) (x : Fin 96) : EReal := ∑ j, cqr x0 x2 x3 x4 b s j * x5 (ix2 j ⟨h.val * 96 + x.val, by omega⟩)

theorem q_at (h : Fin 8) (x : Fin 96) : val_main_v33 (F := Ideal) x0 x2 x3 x4 x5 (ix4 b s h x) = qr x0 x2 x3 x4 x5 b s h x := by
  unfold qr
  simp only [← cq_at]
  pointwise [val_main_v33, val_main_v32]

/-- The 32 turned columns of a head, from the columns before the turn. -/
theorem turned (h : Fin 8) (i : Fin 32) : val_main_v64 (F := Ideal) x0 x1 x2 x3 x4 x5 (ix4 b s h i)
    = if hi : i.val < 16 then
        qr x0 x2 x3 x4 x5 b s h ⟨64 + i.val, by omega⟩ * Ideal.cos (ang (pos x1 b s) i.val)
          - qr x0 x2 x3 x4 x5 b s h ⟨80 + i.val, by omega⟩ * Ideal.sin (ang (pos x1 b s) i.val)
      else qr x0 x2 x3 x4 x5 b s h ⟨64 + i.val, by omega⟩ * Ideal.cos (ang (pos x1 b s) (i.val - 16))
          + qr x0 x2 x3 x4 x5 b s h ⟨48 + i.val, by omega⟩ * Ideal.sin (ang (pos x1 b s) (i.val - 16)) := by
  by_cases hi : i.val < 16
  · rw [dif_pos hi, ← ang_at x1 b s ⟨i.val, hi⟩, ← q_at, ← q_at]
    pointwise [val_main_v64, val_main_v63, val_main_v62, val_main_v61, val_main_v60, val_main_v59, val_main_v58, val_main_v57, val_main_v56, val_main_v55, val_main_v54, val_main_v53, val_main_v52, val_main_v51, val_main_v50, val_main_v49, val_main_v48, val_main_v35]
    simp only [dif_pos hi, show 64 + (16 + i.val) = 80 + i.val by omega]
  · rw [dif_neg hi, ← ang_at x1 b s ⟨i.val - 16, by omega⟩, ← q_at, ← q_at]
    pointwise [val_main_v64, val_main_v63, val_main_v62, val_main_v61, val_main_v60, val_main_v59, val_main_v58, val_main_v57, val_main_v56, val_main_v55, val_main_v54, val_main_v53, val_main_v52, val_main_v51, val_main_v50, val_main_v49, val_main_v48, val_main_v35]
    simp only [dif_neg hi, show 64 + (16 + (i.val - 16)) = 64 + i.val by omega, show 64 + (i.val - 16) = 48 + i.val by omega]

/-- The key's turned columns, the same for every head. -/
theorem turnedK (h : Fin 8) (i : Fin 32) : val_main_v107 (F := Ideal) x0 x1 x2 x3 (ix4 b s h i)
    = if hi : i.val < 16 then
        zr x0 x2 x3 b s ⟨384 + i.val, by omega⟩ * Ideal.cos (ang (pos x1 b s) i.val)
          - zr x0 x2 x3 b s ⟨400 + i.val, by omega⟩ * Ideal.sin (ang (pos x1 b s) i.val)
      else zr x0 x2 x3 b s ⟨384 + i.val, by omega⟩ * Ideal.cos (ang (pos x1 b s) (i.val - 16))
          + zr x0 x2 x3 b s ⟨368 + i.val, by omega⟩ * Ideal.sin (ang (pos x1 b s) (i.val - 16)) := by
  by_cases hi : i.val < 16
  · rw [dif_pos hi, ← ang_at x1 b s ⟨i.val, hi⟩, ← z_at, ← z_at, ← ang_eq]
    pointwise [val_main_v107, val_main_v106, val_main_v105, val_main_v104, val_main_v103, val_main_v102, val_main_v101, val_main_v100, val_main_v99, val_main_v98, val_main_v97, val_main_v96, val_main_v95, val_main_v94, val_main_v81, val_main_v16]
    simp only [dif_pos hi, show 384 + (16 + i.val) = 400 + i.val by omega]
  · rw [dif_neg hi, ← ang_at x1 b s ⟨i.val - 16, by omega⟩, ← z_at, ← z_at, ← ang_eq]
    pointwise [val_main_v107, val_main_v106, val_main_v105, val_main_v104, val_main_v103, val_main_v102, val_main_v101, val_main_v100, val_main_v99, val_main_v98, val_main_v97, val_main_v96, val_main_v95, val_main_v94, val_main_v81, val_main_v16]
    simp only [dif_neg hi, show 384 + (16 + (i.val - 16)) = 384 + i.val by omega, show 384 + (i.val - 16) = 368 + i.val by omega]

/-- A head's columns padded with zeros to 128, and the key's 32 turned columns at their place in a head. -/
def ext (f : Fin 96 → EReal) (x : Fin 128) : EReal := if hx : x.val < 96 then f ⟨x.val, hx⟩ else 0
@[inherit_doc ext] def extK (f : Fin 1440 → EReal) (x : Fin 128) : EReal :=
  if hx : 64 ≤ x.val ∧ x.val < 96 then f ⟨320 + x.val, by omega⟩ else 0

theorem heads_at (h : Fin 8) (l : Fin 128) : padded 96 (val_main_v65 (F := Ideal) x0 x1 x2 x3 x4 x5) b s h l
    = head (ext (qr x0 x2 x3 x4 x5 b s h)) (pos x1 b s) l := by
  have e : ∀ x : Fin 96, val_main_v65 (F := Ideal) x0 x1 x2 x3 x4 x5 (ix4 b s h x)
      = if hx : x.val < 64 then val_main_v33 (F := Ideal) x0 x2 x3 x4 x5 (ix4 b s h x)
        else val_main_v64 (F := Ideal) x0 x1 x2 x3 x4 x5 (ix4 b s h ⟨x.val - 64, by omega⟩) := fun x => by
    pointwise [val_main_v65, val_main_v34]
  unfold padded head ext
  by_cases h1 : l.val < 64
  · rw [dif_pos (by omega), e, dif_pos h1, q_at, if_pos h1, dif_pos (by omega)]
  by_cases h2 : l.val < 80
  · rw [dif_pos (by omega), e, dif_neg h1, turned, dif_pos (by show l.val - 64 < 16; omega), if_neg h1, dif_pos h2, dif_pos (by omega), dif_pos (by show l.val + 16 < 96; omega)]
    simp only [show 64 + (l.val - 64) = l.val by omega, show 80 + (l.val - 64) = l.val + 16 by omega]
  by_cases h3 : l.val < 96
  · rw [dif_pos h3, e, dif_neg h1, turned, dif_neg (by show ¬l.val - 64 < 16; omega), if_neg h1, dif_neg h2, if_pos h3, dif_pos h3, dif_pos (by show l.val - 16 < 96; omega)]
    simp only [show 64 + (l.val - 64) = l.val by omega, show 48 + (l.val - 64) = l.val - 16 by omega, show l.val - 64 - 16 = l.val - 80 by omega]
  · rw [dif_neg h3, if_neg h1, dif_neg h2, if_neg h3, dif_neg h3]

/-- The columns of a head's key and value before the turned columns are set beside the key's. -/
def kvh (h : Fin 8) (y : Fin 128) : EReal := ∑ j, kvr x0 x2 x3 x6 b s j * x7 (ix2 j (col h y))

theorem kvh_at (h : Fin 8) (y : Fin 128) : val_main_v80 (F := Ideal) x0 x2 x3 x6 x7 (ix4 b s h y) = kvh x0 x2 x3 x6 x7 b s h y := by
  unfold kvh
  simp only [← kv_at]
  pointwise [val_main_v80, val_main_v79]

theorem values_at (h : Fin 8) (l : Fin 128) : padded 64 (val_main_v110 (F := Ideal) x0 x2 x3 x6 x7) b s h l
    = if hl : l.val < 64 then kvh x0 x2 x3 x6 x7 b s h ⟨64 + l.val, by omega⟩ else 0 := by
  unfold padded
  simp only [← kvh_at]
  pointwise [val_main_v110]

theorem keys_at (h : Fin 8) (l : Fin 128) : padded 96 (val_main_v109 (F := Ideal) x0 x1 x2 x3 x6 x7) b s h l
    = (if l.val < 64 then kvh x0 x2 x3 x6 x7 b s h l else 0) + head (extK (zr x0 x2 x3 b s)) (pos x1 b s) l := by
  have e : ∀ x : Fin 96, val_main_v109 (F := Ideal) x0 x1 x2 x3 x6 x7 (ix4 b s h x)
      = if hx : x.val < 64 then val_main_v80 (F := Ideal) x0 x2 x3 x6 x7 (ix4 b s h ⟨x.val, by omega⟩)
        else val_main_v107 (F := Ideal) x0 x1 x2 x3 (ix4 b s h ⟨x.val - 64, by omega⟩) := fun x => by
    pointwise [val_main_v109, val_main_v108]
  unfold padded head extK
  by_cases h1 : l.val < 64
  · rw [dif_pos (by omega), e, dif_pos h1, kvh_at, if_pos h1, if_pos h1, dif_neg (by omega), add_zero]
  by_cases h2 : l.val < 80
  · rw [dif_pos (by omega), e, dif_neg h1, turnedK, dif_pos (by show l.val - 64 < 16; omega), if_neg h1, if_neg h1, dif_pos h2, dif_pos (by omega), dif_pos (by show 64 ≤ l.val + 16 ∧ l.val + 16 < 96; omega), zero_add]
    simp only [show 384 + (l.val - 64) = 320 + l.val by omega, show 400 + (l.val - 64) = 320 + (l.val + 16) by omega]
  by_cases h3 : l.val < 96
  · rw [dif_pos h3, e, dif_neg h1, turnedK, dif_neg (by show ¬l.val - 64 < 16; omega), if_neg h1, if_neg h1, dif_neg h2, if_pos h3, dif_pos (by omega), dif_pos (by show 64 ≤ l.val - 16 ∧ l.val - 16 < 96; omega), zero_add]
    simp only [show 384 + (l.val - 64) = 320 + l.val by omega, show 368 + (l.val - 64) = 320 + (l.val - 16) by omega, show l.val - 64 - 16 = l.val - 80 by omega]
  · rw [dif_neg h3, if_neg h1, if_neg h1, dif_neg h2, if_neg h3, dif_neg (by omega), add_zero]

/-- A padded head's entry in the rows of all the heads. -/
theorem rows4 (y : S2x2048x8x128.Idx → EReal) (hc : S2x2048x8x128.ShapeCasts S4096x1024) (h : Fin 8) (l : Fin 128) :
    shapeCast S4096x1024 y hc (ix2 ⟨b.val * 2048 + s.val, by omega⟩ (col h l)) = y (ix4 b s h l) := by
  refine shapeCast_apply y hc (ix2 _ (col h l)) (ix4 b s h l) ?_
  rewrite [Shape.rowMajor_val_four, Shape.rowMajor_val_two]
  show ((b.val * 2048 + s.val) * 8 + h.val) * 128 + l.val = (b.val * 2048 + s.val) * 1024 + (h.val * 128 + l.val)
  omega

theorem q_final (h : Fin 8) (l : Fin 128) : val_main_v113 (F := Ideal) x0 x1 x2 x3 x4 x5 (ix2 ⟨b.val * 2048 + s.val, by omega⟩ (col h l))
    = head (ext (qr x0 x2 x3 x4 x5 b s h)) (pos x1 b s) l := by
  rw [← heads_at]
  exact (rows4 b s (val_main_v112 (F := Ideal) x0 x1 x2 x3 x4 x5) _ h l).trans
    (pad_at (val_main_v65 (F := Ideal) x0 x1 x2 x3 x4 x5) (val_main_call0_v0 (F := Ideal)) int_zero pads_S2x2048x8x96_S2x2048x8x128_000_000_000_0320 h_S_ b s h l)

theorem k_final (h : Fin 8) (l : Fin 128) : val_main_v116 (F := Ideal) x0 x1 x2 x3 x6 x7 (ix2 ⟨b.val * 2048 + s.val, by omega⟩ (col h l))
    = (if l.val < 64 then kvh x0 x2 x3 x6 x7 b s h l else 0) + head (extK (zr x0 x2 x3 b s)) (pos x1 b s) l := by
  rw [← keys_at]
  exact (rows4 b s (val_main_v115 (F := Ideal) x0 x1 x2 x3 x6 x7) _ h l).trans
    (pad_at (val_main_v109 (F := Ideal) x0 x1 x2 x3 x6 x7) (val_main_call1_v0 (F := Ideal)) int_zero pads_S2x2048x8x96_S2x2048x8x128_000_000_000_0320 h_S_ b s h l)

theorem v_final (h : Fin 8) (l : Fin 128) : val_main_v119 (F := Ideal) x0 x2 x3 x6 x7 (ix2 ⟨b.val * 2048 + s.val, by omega⟩ (col h l))
    = if hl : l.val < 64 then kvh x0 x2 x3 x6 x7 b s h ⟨64 + l.val, by omega⟩ else 0 := by
  rw [← values_at]
  exact (rows4 b s (val_main_v118 (F := Ideal) x0 x2 x3 x6 x7) _ h l).trans
    (pad_at (val_main_v110 (F := Ideal) x0 x2 x3 x6 x7) (val_main_call2_v0 (F := Ideal)) int_zero pads_S2x2048x8x64_S2x2048x8x128_000_000_000_0640 h_S_ b s h l)

theorem x_final (f : Fin 512) : val_main_v120 (F := Ideal) x0 x2 x3 (ix2 ⟨b.val * 2048 + s.val, by omega⟩ f) = zr x0 x2 x3 b s ⟨416 + f.val, by omega⟩ := by
  rw [← z_at]
  exact (Cert.FfnAIdeal.Arr.flat_at _ _ b s f).trans (by pointwise [val_main_v17])

theorem gate_final (f : Fin 512) : val_main_v121 (F := Ideal) x0 x2 x3 (ix2 ⟨b.val * 2048 + s.val, by omega⟩ f) = zr x0 x2 x3 b s ⟨928 + f.val, by omega⟩ := by
  rw [← z_at]
  exact (Cert.FfnAIdeal.Arr.flat_at _ _ b s f).trans (by pointwise [val_main_v18])

end Cert.HeadsRefIdeal.Val

end
-- ==== Proof.HeadsFinal.lean ====
module

public import proofs.«01_k».proof.Proof.HeadsBlock
public import proofs.«01_k».proof.Proof.HeadsArr
public import proofs.«01_k».proof.Proof.HeadsRef
public import proofs.«01_k».proof.Proof.FfnFinal

@[expose] public section

noncomputable section

/-! The attention's input kernel: its blocks in the arguments, and its five arrays after the run are the reference's. -/

namespace Cert.HeadsIdeal.Final

open Cert.HeadsIdeal Cert.HeadsIdeal.Gen Cert.HeadsIdeal.Value Idealize.ShloMosaic Idealize.ShloMosaic.TcCoe Idealize.SL.Sem
open Cert.HeadsIdeal.Block Cert.HeadsIdeal.Arr Cert.HeadsRow Cert.HeadsRefIdeal.Read Cert.HeadsRefIdeal.Val
open Cert.HeadPad (col)
open Cert.FfnAIdeal.Arr (gr flat_at)

variable (m : (ℓ : Loc nD τ sig) → Buf (Elt Ideal) ℓ) (c : Dev nD) (t : Fin cfg0.N)

theorem lt8 (t : Fin cfg0.N) : t.val < 8 := t.isLt

/-- A grid point's sequence and the place of a block's row in it. -/
abbrev bt (t : Fin cfg0.N) : Fin 2 := ⟨t.val / 4, by have := lt8 t; omega⟩
@[inherit_doc bt] abbrev sq (t : Fin cfg0.N) (r : Fin 512) : Fin 2048 := ⟨t.val % 4 * 512 + r.val, by omega⟩

theorem idx0 : ∀ t : Fin cfg0.N, win0_0.index t = ![t.val, 0] := (by decide +kernel : ∀ t : Fin grid0.N, _)
theorem idx1 : ∀ t : Fin cfg0.N, win0_1.index t = ![t.val, 0] := (by decide +kernel : ∀ t : Fin grid0.N, _)
theorem fixed : ∀ t : Fin cfg0.N, win0_2.index t = ![0, 0] ∧ win0_3.index t = ![0, 0] ∧ win0_4.index t = ![0, 0] ∧ win0_5.index t = ![0, 0]
    ∧ win0_6.index t = ![0, 0] ∧ win0_7.index t = ![0, 0] ∧ win0_8.index t = ![0, 0] := (by decide +kernel : ∀ t : Fin grid0.N, _)
theorem rows : ∀ t : Fin cfg0.N, win0_9.index t = ![t.val, 0] ∧ win0_10.index t = ![t.val, 0] ∧ win0_11.index t = ![t.val, 0]
    ∧ win0_12.index t = ![t.val, 0] ∧ win0_13.index t = ![t.val, 0] := (by decide +kernel : ∀ t : Fin grid0.N, _)

/-- A block's entry sits in its array at the grid point's rows. -/
theorem emb0 (r : Fin 512) (x : Fin 1024) : (win0_0.blk t).view.emb (ix2 r x) = ix2 (gr (bt t) (sq t r)) x := by blk_ext [idx0]
theorem emb1 (r : Fin 512) (x : Fin 128) : (win0_1.blk t).view.emb (ix2 r x) = ix2 (gr (bt t) (sq t r)) x := by blk_ext [idx1]
theorem emb2 (y : S1x1024.Idx) : (win0_2.blk t).view.emb y = y := by blk_ext [fixed]
theorem emb3 (y : S1024x1536.Idx) : (win0_3.blk t).view.emb y = y := by blk_ext [fixed]
theorem emb4 (y : S1x256.Idx) : (win0_4.blk t).view.emb y = y := by blk_ext [fixed]
theorem emb5 (y : S256x1024.Idx) : (win0_5.blk t).view.emb y = y := by blk_ext [fixed]
theorem emb6 (y : S1x128.Idx) : (win0_6.blk t).view.emb y = y := by blk_ext [fixed]
theorem emb7 (y : S128x1024.Idx) : (win0_7.blk t).view.emb y = y := by blk_ext [fixed]
theorem emb8 (y : S128x1024.Idx) : (win0_8.blk t).view.emb y = y := by blk_ext [fixed]
theorem emb9 (y : S512x1024.Idx) : (win0_9.blk t).view.emb y = ix2 (gr (bt t) (sq t (y 0))) (y 1) := by blk_ext [rows]
theorem emb10 (y : S512x1024.Idx) : (win0_10.blk t).view.emb y = ix2 (gr (bt t) (sq t (y 0))) (y 1) := by blk_ext [rows]
theorem emb11 (y : S512x1024.Idx) : (win0_11.blk t).view.emb y = ix2 (gr (bt t) (sq t (y 0))) (y 1) := by blk_ext [rows]
theorem emb12 (y : S512x512.Idx) : (win0_12.blk t).view.emb y = ix2 (gr (bt t) (sq t (y 0))) (y 1) := by blk_ext [rows]
theorem emb13 (y : S512x512.Idx) : (win0_13.blk t).view.emb y = ix2 (gr (bt t) (sq t (y 0))) (y 1) := by blk_ext [rows]

/-- A grid point's blocks: the input's rows, their positions, the norms' scales and the weights. -/
abbrev xB : M 512 1024 := iblk m c 0 t
@[inherit_doc xB] abbrev pB : M 512 128 := iblk m c 1 t
@[inherit_doc xB] abbrev gB : M 1 1024 := iblk m c 2 t
@[inherit_doc xB] abbrev wB : M 1024 1536 := iblk m c 3 t
@[inherit_doc xB] abbrev gqB : M 1 256 := iblk m c 4 t
@[inherit_doc xB] abbrev wqB : M 256 1024 := iblk m c 5 t
@[inherit_doc xB] abbrev gkB : M 1 128 := iblk m c 6 t
@[inherit_doc xB] abbrev wkB : M 128 1024 := iblk m c 7 t
@[inherit_doc xB] abbrev wvB : M 128 1024 := iblk m c 8 t

theorem xB_at (r : Fin 512) (x : Fin 1024) : xB m c t (ix2 r x) = a0 m c (ix3 (bt t) (sq t r) x) := by
  have hV : ∀ A : Buf (Elt Ideal) ((c.tc : Thread nD τ).loc main_v26),
      ((cfg0.win 0).blk t).view.read (Elt Ideal) A (ix2 r x) = A ((win0_0.blk t).view.emb (ix2 r x)) := fun A => rfl
  rw [← flat_at (a0 m c) shapeCasts_S2x2048x1024_S4096x1024, ← (arrays m c).2.2.2.2.2.2.2.2]
  exact (hV (V m c main_v26)).trans (congrArg _ (emb0 t r x))

theorem pB_at (r : Fin 512) (x : Fin 128) : pB m c t (ix2 r x) = pos (a1 m c) (bt t) (sq t r) := by
  have hV : ∀ A : Buf (Elt Ideal) ((c.tc : Thread nD τ).loc main_v25),
      ((cfg0.win 1).blk t).view.read (Elt Ideal) A (ix2 r x) = A ((win0_1.blk t).view.emb (ix2 r x)) := fun A => rfl
  exact (hV (V m c main_v25)).trans ((congrArg _ (emb1 t r x)).trans (pos_at m c _ _ x))

theorem gB_eq : gB m c t = V m c main_v20 := by
  have hV : ∀ (A : Buf (Elt Ideal) ((c.tc : Thread nD τ).loc main_v20)) (y : S1x1024.Idx),
      ((cfg0.win 2).blk t).view.read (Elt Ideal) A y = A ((win0_2.blk t).view.emb y) := fun A y => rfl
  exact funext fun y => (hV (V m c main_v20) y).trans (congrArg _ (emb2 t y))

theorem wB_eq : wB m c t = V m c main_v8 := by
  have hV : ∀ (A : Buf (Elt Ideal) ((c.tc : Thread nD τ).loc main_v8)) (y : S1024x1536.Idx),
      ((cfg0.win 3).blk t).view.read (Elt Ideal) A y = A ((win0_3.blk t).view.emb y) := fun A y => rfl
  exact funext fun y => (hV (V m c main_v8) y).trans (congrArg _ (emb3 t y))

theorem gqB_eq : gqB m c t = V m c main_v21 := by
  have hV : ∀ (A : Buf (Elt Ideal) ((c.tc : Thread nD τ).loc main_v21)) (y : S1x256.Idx),
      ((cfg0.win 4).blk t).view.read (Elt Ideal) A y = A ((win0_4.blk t).view.emb y) := fun A y => rfl
  exact funext fun y => (hV (V m c main_v21) y).trans (congrArg _ (emb4 t y))

theorem wqB_eq : wqB m c t = V m c main_v11 := by
  have hV : ∀ (A : Buf (Elt Ideal) ((c.tc : Thread nD τ).loc main_v11)) (y : S256x1024.Idx),
      ((cfg0.win 5).blk t).view.read (Elt Ideal) A y = A ((win0_5.blk t).view.emb y) := fun A y => rfl
  exact funext fun y => (hV (V m c main_v11) y).trans (congrArg _ (emb5 t y))

theorem gkB_eq : gkB m c t = V m c main_v22 := by
  have hV : ∀ (A : Buf (Elt Ideal) ((c.tc : Thread nD τ).loc main_v22)) (y : S1x128.Idx),
      ((cfg0.win 6).blk t).view.read (Elt Ideal) A y = A ((win0_6.blk t).view.emb y) := fun A y => rfl
  exact funext fun y => (hV (V m c main_v22) y).trans (congrArg _ (emb6 t y))

theorem wkB_eq : wkB m c t = V m c main_v15 := by
  have hV : ∀ (A : Buf (Elt Ideal) ((c.tc : Thread nD τ).loc main_v15)) (y : S128x1024.Idx),
      ((cfg0.win 7).blk t).view.read (Elt Ideal) A y = A ((win0_7.blk t).view.emb y) := fun A y => rfl
  exact funext fun y => (hV (V m c main_v15) y).trans (congrArg _ (emb7 t y))

theorem wvB_eq : wvB m c t = V m c main_v19 := by
  have hV : ∀ (A : Buf (Elt Ideal) ((c.tc : Thread nD τ).loc main_v19)) (y : S128x1024.Idx),
      ((cfg0.win 8).blk t).view.read (Elt Ideal) A y = A ((win0_8.blk t).view.emb y) := fun A y => rfl
  exact funext fun y => (hV (V m c main_v19) y).trans (congrArg _ (emb8 t y))

theorem wqB_at (j : Fin 256) (h : Fin 8) (x : Fin 128) : wqB m c t (ix2 j (col h x))
    = if hx : x.val < 96 then a5 m c (ix2 j ⟨h.val * 96 + x.val, by omega⟩) else 0 := by
  rw [wqB_eq]
  exact wq_at m c j h x

/-- The norms' scales at an entry. -/
theorem scales_at : (∀ x, gB m c t (ix2 0 x) = a2 m c (ix1 x)) ∧ (∀ x, gqB m c t (ix2 0 x) = a4 m c (ix1 x)) ∧ ∀ x, gkB m c t (ix2 0 x) = a6 m c (ix1 x) := by
  refine ⟨fun x => ?_, fun x => ?_, fun x => ?_⟩
  · rw [gB_eq, (arrays m c).2.2.2.2.1]; pointwise
  · rw [gqB_eq, (arrays m c).2.2.2.2.2.1]; pointwise
  · rw [gkB_eq, (arrays m c).2.2.2.2.2.2.1]; pointwise

/-- A row of the first product is the reference's, with zeros around the key's turned columns. -/
theorem zrow_at (r : Fin 512) (k : Fin 1536) : zrow (xB m c t) (gB m c t) (wB m c t) r k
    = if h : k.val < 384 then zr (a0 m c) (a2 m c) (a3 m c) (bt t) (sq t r) ⟨k.val, by omega⟩ else if k.val < 448 then 0
      else if h : k.val < 480 then zr (a0 m c) (a2 m c) (a3 m c) (bt t) (sq t r) ⟨k.val - 64, by omega⟩ else if k.val < 512 then 0
      else zr (a0 m c) (a2 m c) (a3 m c) (bt t) (sq t r) ⟨k.val - 96, by omega⟩ := by
  unfold zrow zr
  simp only [xB_at, (scales_at m c t).1, wB_eq, (arrays m c).1, win_at]
  split_ifs <;> simp only [mul_zero, Finset.sum_const_zero]

theorem cq_eq (r : Fin 512) (j : Fin 256) : cq (xB m c t) (gB m c t) (wB m c t) (gqB m c t) r j = cqr (a0 m c) (a2 m c) (a3 m c) (a4 m c) (bt t) (sq t r) j := by
  have e : ∀ k : Fin 256, zrow (xB m c t) (gB m c t) (wB m c t) r ⟨k.val, by omega⟩ = zr (a0 m c) (a2 m c) (a3 m c) (bt t) (sq t r) ⟨k.val, by omega⟩ :=
    fun k => (zrow_at m c t r _).trans (dif_pos (by show k.val < 384; omega))
  unfold cq cqr
  simp only [e, (scales_at m c t).2.1]

theorem kv_eq (r : Fin 512) (j : Fin 128) : kv (xB m c t) (gB m c t) (wB m c t) (gkB m c t) r j = kvr (a0 m c) (a2 m c) (a3 m c) (a6 m c) (bt t) (sq t r) j := by
  have e : ∀ k : Fin 128, zrow (xB m c t) (gB m c t) (wB m c t) r ⟨256 + k.val, by omega⟩ = zr (a0 m c) (a2 m c) (a3 m c) (bt t) (sq t r) ⟨256 + k.val, by omega⟩ :=
    fun k => (zrow_at m c t r _).trans (dif_pos (by show 256 + k.val < 384; omega))
  unfold kv kvr
  simp only [e, (scales_at m c t).2.2]

theorem kp_eq (r : Fin 512) (x : Fin 128) : zrow (xB m c t) (gB m c t) (wB m c t) r ⟨384 + x.val, by omega⟩
    = extK (zr (a0 m c) (a2 m c) (a3 m c) (bt t) (sq t r)) x := by
  rw [zrow_at]
  unfold extK
  rw [dif_neg (by show ¬384 + x.val < 384; omega)]
  by_cases h1 : x.val < 64
  · rw [if_pos (by show 384 + x.val < 448; omega), dif_neg (by omega)]
  rw [if_neg (by show ¬384 + x.val < 448; omega)]
  by_cases h2 : x.val < 96
  · rw [dif_pos (by show 384 + x.val < 480; omega), dif_pos (by omega)]
    exact congrArg _ (Fin.ext (by show 384 + x.val - 64 = 320 + x.val; omega))
  · rw [dif_neg (by show ¬384 + x.val < 480; omega), if_pos (by show 384 + x.val < 512; omega), dif_neg (by omega)]

theorem tail_eq (r : Fin 512) (k : Fin 1536) (f : Fin 1440) (h : 512 ≤ k.val) (hf : f.val = k.val - 96) :
    zrow (xB m c t) (gB m c t) (wB m c t) r k = zr (a0 m c) (a2 m c) (a3 m c) (bt t) (sq t r) f := by
  rw [zrow_at, dif_neg (by omega), if_neg (by omega), dif_neg (by omega), if_neg (by omega)]
  exact congrArg _ (Fin.ext hf.symm)

/-- A grid point's block of output: of the queries, the keys, the values, and the recurrence's input and gate. -/
abbrev oq : M 512 1024 := out0_9 (F := Ideal) (xB m c t) (pB m c t) (gB m c t) (wB m c t) (gqB m c t) (wqB m c t) (gkB m c t) (wkB m c t) (wvB m c t)
@[inherit_doc oq] abbrev ok : M 512 1024 := out0_10 (F := Ideal) (xB m c t) (pB m c t) (gB m c t) (wB m c t) (gqB m c t) (wqB m c t) (gkB m c t) (wkB m c t) (wvB m c t)
@[inherit_doc oq] abbrev ov : M 512 1024 := out0_11 (F := Ideal) (xB m c t) (pB m c t) (gB m c t) (wB m c t) (gqB m c t) (wqB m c t) (gkB m c t) (wkB m c t) (wvB m c t)
@[inherit_doc oq] abbrev ox : M 512 512 := out0_12 (F := Ideal) (xB m c t) (pB m c t) (gB m c t) (wB m c t) (gqB m c t) (wqB m c t) (gkB m c t) (wkB m c t) (wvB m c t)
@[inherit_doc oq] abbrev og : M 512 512 := out0_13 (F := Ideal) (xB m c t) (pB m c t) (gB m c t) (wB m c t) (gqB m c t) (wqB m c t) (gkB m c t) (wkB m c t) (wvB m c t)

theorem q_block (r : Fin 512) (h : Fin 8) (l : Fin 128) : oq m c t (ix2 r (col h l))
    = val_main_v113 (F := Ideal) (a0 m c) (a1 m c) (a2 m c) (a3 m c) (a4 m c) (a5 m c) (ix2 (gr (bt t) (sq t r)) (col h l)) := by
  rw [q_final]
  unfold oq
  rw [out9, pB_at]
  have e : ∀ x, (∑ j, cq (xB m c t) (gB m c t) (wB m c t) (gqB m c t) r j * wqB m c t (ix2 j (col h x)))
      = ext (qr (a0 m c) (a2 m c) (a3 m c) (a4 m c) (a5 m c) (bt t) (sq t r) h) x := fun x => by
    unfold ext qr
    simp only [cq_eq, wqB_at]
    split_ifs <;> simp only [mul_zero, Finset.sum_const_zero]
  simp only [e]

theorem k_block (r : Fin 512) (h : Fin 8) (l : Fin 128) : ok m c t (ix2 r (col h l))
    = val_main_v116 (F := Ideal) (a0 m c) (a1 m c) (a2 m c) (a3 m c) (a6 m c) (a7 m c) (ix2 (gr (bt t) (sq t r)) (col h l)) := by
  rw [k_final]
  unfold ok
  rw [out10, pB_at]
  simp only [kp_eq, kv_eq, wkB_eq, (arrays m c).2.2.1, half_at _ 0 (by omega), kvh]
  congr 1
  split_ifs <;> simp only [mul_zero, Finset.sum_const_zero, Nat.zero_add]

theorem v_block (r : Fin 512) (h : Fin 8) (l : Fin 128) : ov m c t (ix2 r (col h l))
    = val_main_v119 (F := Ideal) (a0 m c) (a2 m c) (a3 m c) (a6 m c) (a7 m c) (ix2 (gr (bt t) (sq t r)) (col h l)) := by
  rw [v_final]
  unfold ov
  rw [out11]
  simp only [kv_eq, wvB_eq, (arrays m c).2.2.2.1, half_at _ 64 (by omega), kvh]
  split_ifs <;> simp only [mul_zero, Finset.sum_const_zero]

theorem x_block (r f : Fin 512) : ox m c t (ix2 r f) = val_main_v120 (F := Ideal) (a0 m c) (a2 m c) (a3 m c) (ix2 (gr (bt t) (sq t r)) f) := by
  rw [x_final]
  unfold ox
  rw [out12]
  exact tail_eq m c t r _ _ (by show 512 ≤ 512 + f.val; omega) (by show 416 + f.val = 512 + f.val - 96; omega)

theorem g_block (r f : Fin 512) : og m c t (ix2 r f) = val_main_v121 (F := Ideal) (a0 m c) (a2 m c) (a3 m c) (ix2 (gr (bt t) (sq t r)) f) := by
  rw [gate_final]
  unfold og
  rw [out13]
  exact tail_eq m c t r _ _ (by show 512 ≤ 1024 + f.val; omega) (by show 928 + f.val = 1024 + f.val - 96; omega)

/-- Every column of the heads is a column of a head. -/
theorem by_head {X : M 512 1024} {G : S4096x1024.Idx → EReal} (r : Fin 512) (f : Fin 1024) (g : Fin 4096)
    (h : ∀ h l, X (ix2 r (col h l)) = G (ix2 g (col h l))) : X (ix2 r f) = G (ix2 g f) := by
  have e : f = col ⟨f.val / 128, by omega⟩ ⟨f.val % 128, by omega⟩ := Fin.ext (by show f.val = f.val / 128 * 128 + f.val % 128; omega)
  rw [e]
  exact h _ _

/-- Every index of a result lies in the block of some grid point that is written back. -/
theorem covers : (cfg0.win 9).Covers ∧ (cfg0.win 10).Covers ∧ (cfg0.win 11).Covers ∧ (cfg0.win 12).Covers ∧ (cfg0.win 13).Covers := by decide +kernel

/-- Cutting a point's block out of `X` gives the block of `G` when `X` is `G` at the block's place. -/
theorem cut9 (X : Vec Ideal S512x1024 .bf16) (G : S4096x1024.Idx → EReal) (h : ∀ y, X y = G ((win0_9.blk t).view.emb y)) :
    (cfg0.win 9).cut (grid0.coords t) X = ((cfg0.win 9).blk t).view.read (Elt Ideal) G := funext fun y => h y
theorem cut10 (X : Vec Ideal S512x1024 .bf16) (G : S4096x1024.Idx → EReal) (h : ∀ y, X y = G ((win0_10.blk t).view.emb y)) :
    (cfg0.win 10).cut (grid0.coords t) X = ((cfg0.win 10).blk t).view.read (Elt Ideal) G := funext fun y => h y
theorem cut11 (X : Vec Ideal S512x1024 .bf16) (G : S4096x1024.Idx → EReal) (h : ∀ y, X y = G ((win0_11.blk t).view.emb y)) :
    (cfg0.win 11).cut (grid0.coords t) X = ((cfg0.win 11).blk t).view.read (Elt Ideal) G := funext fun y => h y
theorem cut12 (X : Vec Ideal S512x512 .f32) (G : S4096x512.Idx → EReal) (h : ∀ y, X y = G ((win0_12.blk t).view.emb y)) :
    (cfg0.win 12).cut (grid0.coords t) X = ((cfg0.win 12).blk t).view.read (Elt Ideal) G := funext fun y => h y
theorem cut13 (X : Vec Ideal S512x512 .f32) (G : S4096x512.Idx → EReal) (h : ∀ y, X y = G ((win0_13.blk t).view.emb y)) :
    (cfg0.win 13).cut (grid0.coords t) X = ((cfg0.win 13).blk t).view.read (Elt Ideal) G := funext fun y => h y

/-- The queries' array after the run. -/
theorem queries : (dats m 0 c).arrAt 9 cfg0.N = val_main_v113 (F := Ideal) (a0 m c) (a1 m c) (a2 m c) (a3 m c) (a4 m c) (a5 m c) := by
  refine (dats m 0 c).arrAt_eq_of_cover 9 _ (fun t _ => ?_) (Pipeline.Window.Covers.cover _ covers.1 (Memref.isWhole_whole _))
  rw [flushed9]
  refine cut9 t _ _ fun y => ?_
  rw [emb9]
  exact (congrArg _ (Cert.FfnAIdeal.Final.row_col y)).trans (by_head (y 0) (y 1) _ (q_block m c t (y 0)))

/-- The keys' array after the run. -/
theorem keys : (dats m 0 c).arrAt 10 cfg0.N = val_main_v116 (F := Ideal) (a0 m c) (a1 m c) (a2 m c) (a3 m c) (a6 m c) (a7 m c) := by
  refine (dats m 0 c).arrAt_eq_of_cover 10 _ (fun t _ => ?_) (Pipeline.Window.Covers.cover _ covers.2.1 (Memref.isWhole_whole _))
  rw [flushed10]
  refine cut10 t _ _ fun y => ?_
  rw [emb10]
  exact (congrArg _ (Cert.FfnAIdeal.Final.row_col y)).trans (by_head (y 0) (y 1) _ (k_block m c t (y 0)))

/-- The values' array after the run. -/
theorem values : (dats m 0 c).arrAt 11 cfg0.N = val_main_v119 (F := Ideal) (a0 m c) (a2 m c) (a3 m c) (a6 m c) (a7 m c) := by
  refine (dats m 0 c).arrAt_eq_of_cover 11 _ (fun t _ => ?_) (Pipeline.Window.Covers.cover _ covers.2.2.1 (Memref.isWhole_whole _))
  rw [flushed11]
  refine cut11 t _ _ fun y => ?_
  rw [emb11]
  exact (congrArg _ (Cert.FfnAIdeal.Final.row_col y)).trans (by_head (y 0) (y 1) _ (v_block m c t (y 0)))

/-- The recurrence's input after the run. -/
theorem inputs : (dats m 0 c).arrAt 12 cfg0.N = val_main_v120 (F := Ideal) (a0 m c) (a2 m c) (a3 m c) := by
  refine (dats m 0 c).arrAt_eq_of_cover 12 _ (fun t _ => ?_) (Pipeline.Window.Covers.cover _ covers.2.2.2.1 (Memref.isWhole_whole _))
  rw [flushed12]
  refine cut12 t _ _ fun y => ?_
  rw [emb12]
  exact (congrArg _ (Cert.FfnAIdeal.Final.row_col y)).trans (x_block m c t (y 0) (y 1))

/-- The recurrence's gate after the run. -/
theorem gates : (dats m 0 c).arrAt 13 cfg0.N = val_main_v121 (F := Ideal) (a0 m c) (a2 m c) (a3 m c) := by
  refine (dats m 0 c).arrAt_eq_of_cover 13 _ (fun t _ => ?_) (Pipeline.Window.Covers.cover _ covers.2.2.2.2 (Memref.isWhole_whole _))
  rw [flushed13]
  refine cut13 t _ _ fun y => ?_
  rw [emb13]
  exact (congrArg _ (Cert.FfnAIdeal.Final.row_col y)).trans (g_block m c t (y 0) (y 1))

end Cert.HeadsIdeal.Final

end
-- ==== Proof.OutRef.lean ====
module

public import proofs.«01_k».proof.Proof.Gen.OutBRefIdeal.Read
public import proofs.«01_k».proof.Proof.HeadsArr

@[expose] public section

noncomputable section

/-! The gradients of the mixers' output product in the reference, entry by entry, with a head's columns padded to 128. -/

namespace Cert.OutBRefIdeal.Val

open Cert.OutBRefIdeal Cert.OutBRefIdeal.Read Idealize.ShloMosaic Idealize.ShloMosaic.TcCoe
open Cert.HeadPad (col)
open Cert.HeadsRow Cert.HeadsIdeal.Arr Cert.FfnAIdeal.Arr

/-- Head `h`'s entry `x` among the heads' unpadded ones, and the place of the other mixer's column. -/
abbrev near (h : Fin 8) (x : Fin 128) (hx : x.val < 64) : Fin 512 := ⟨h.val * 64 + x.val, by omega⟩
@[inherit_doc near] abbrev lo (h : Fin 8) (x : Fin 128) (hx : x.val < 64) : Fin 1024 := ⟨h.val * 64 + x.val, by omega⟩
@[inherit_doc near] abbrev hi (k : Fin 512) : Fin 1024 := ⟨512 + k.val, by omega⟩

/-- Heads of 64 rows padded with zeros to 128 and laid one under another, read at a row of a head. -/
theorem stacked_at (y : (⟨3, ![8, 64, 1024]⟩ : Shape).Idx → EReal) {u : Shape} (z : u.Idx → EReal) (hz : ∀ i, z i = 0)
    (hp : (⟨3, ![8, 64, 1024]⟩ : Shape).Pads ![0, 0, 0] ![0, 64, 0] ![0, 0, 0] ⟨3, ![8, 128, 1024]⟩) (hu : 0 < u.numel)
    (hc : (⟨3, ![8, 128, 1024]⟩ : Shape).ShapeCasts ⟨2, ![1024, 1024]⟩) (h : Fin 8) (x : Fin 128) (d : Fin 1024) :
    shapeCast ⟨2, ![1024, 1024]⟩ (pad ⟨3, ![8, 128, 1024]⟩ ![0, 0, 0] ![0, 64, 0] ![0, 0, 0] y z hp hu) hc (ix2 (col h x) d)
      = if hx : x.val < 64 then y (ix3 h ⟨x.val, hx⟩ d) else 0 := by
  refine (shapeCast_apply _ hc (ix2 (col h x) d) (ix3 h x d) ?_).trans ?_
  · rewrite [Shape.rowMajor_val_three, Shape.rowMajor_val_two]
    rfl
  split
  · rename_i hx
    refine pad_apply_of_inside _ _ _ y z hp hu (ix3 h x d) (ix3 h ⟨x.val, hx⟩ d) fun a => ?_
    match a with
    | ⟨0, _⟩ => show h.val = 0 + h.val * 1; omega
    | ⟨1, _⟩ => show x.val = 0 + x.val * 1; omega
    | ⟨2, _⟩ => show d.val = 0 + d.val * 1; omega
  · rename_i hx
    rw [pad_apply_of_not_inside _ _ _ y z hp hu (ix3 h x d) (⟨1, by decide⟩ : Fin 3), hz]
    rintro ⟨-, -, h3⟩
    have h3' : (x.val - 0) / 1 < 64 := h3
    omega

/-- The heads' rows taken apart. -/
theorem apart_at (y : (⟨2, ![512, 1024]⟩ : Shape).Idx → EReal) (hc : (⟨2, ![512, 1024]⟩ : Shape).ShapeCasts ⟨3, ![8, 64, 1024]⟩)
    (h : Fin 8) (x : Fin 128) (hx : x.val < 64) (d : Fin 1024) : shapeCast ⟨3, ![8, 64, 1024]⟩ y hc (ix3 h ⟨x.val, hx⟩ d) = y (ix2 (near h x hx) d) := by
  refine shapeCast_apply _ hc _ (ix2 (near h x hx) d) ?_
  rewrite [Shape.rowMajor_val_three, Shape.rowMajor_val_two]
  rfl

/-- A row's columns taken apart into heads. -/
theorem split_at (y : (⟨3, ![2, 2048, 512]⟩ : Shape).Idx → EReal) (hc : (⟨3, ![2, 2048, 512]⟩ : Shape).ShapeCasts ⟨3, ![4096, 8, 64]⟩)
    (b : Fin 2) (s : Fin 2048) (h : Fin 8) (x : Fin 128) (hx : x.val < 64) :
    shapeCast ⟨3, ![4096, 8, 64]⟩ y hc (ix3 (gr b s) h ⟨x.val, hx⟩) = y (ix3 b s (near h x hx)) := by
  refine shapeCast_apply _ hc _ (ix3 b s (near h x hx)) ?_
  rewrite [Shape.rowMajor_val_three, Shape.rowMajor_val_three]
  show (b.val * 2048 + s.val) * 512 + (h.val * 64 + x.val) = ((b.val * 2048 + s.val) * 8 + h.val) * 64 + x.val
  omega

variable (x0 x1 : S2x2048x512.Idx → EReal) (x2 : S2x2048x1024.Idx → EReal) (x3 : S1024x1024.Idx → EReal)

/-- The gradient of the attention's output, -/
theorem do_at (b : Fin 2) (s : Fin 2048) (h : Fin 8) (x : Fin 128) : val_main_v10 (F := Ideal) x2 x3 (ix2 (gr b s) (col h x))
    = if hx : x.val < 64 then ∑ d : Fin 1024, x2 (ix3 b s d) * x3 (ix2 (lo h x hx) d) else 0 := by
  refine (padded_at (q := 64) (val_main_v7 (F := Ideal) x2 x3) _ int_zero Gen.pads_S4096x8x64_S4096x8x128_000_000_0640 _ _ (gr b s) h x).trans ?_
  refine dite_congr rfl (fun hx => (split_at _ _ b s h x hx).trans ?_) fun _ => rfl
  pointwise [val_main_v5, val_main_v4]

/-- of the recurrence's, -/
theorem dy_at (b : Fin 2) (s : Fin 2048) (k : Fin 512) : val_main_v15 (F := Ideal) x2 x3 (ix2 (gr b s) k)
    = ∑ d : Fin 1024, x2 (ix3 b s d) * x3 (ix2 (hi k) d) := by
  refine (flat_at _ _ b s k).trans ?_
  pointwise [val_main_v6, val_main_v4]

/-- of the weight's rows that meet the attention's output, -/
theorem dwa_at (h : Fin 8) (x : Fin 128) (d : Fin 1024) : val_main_v14 (F := Ideal) x0 x1 x2 (ix2 (col h x) d)
    = if hx : x.val < 64 then ∑ b : Fin 2, ∑ s : Fin 2048, x2 (ix3 b s d) * x0 (ix3 b s (near h x hx)) else 0 := by
  refine (stacked_at (val_main_v12 (F := Ideal) x0 x1 x2) _ int_zero Gen.pads_S8x64x1024_S8x128x1024_000_0640_000 _ _ h x d).trans ?_
  refine dite_congr rfl (fun hx => (apart_at _ _ h x hx d).trans ?_) fun _ => rfl
  pointwise [val_main_v11, val_main_v3, val_main_v2, val_main_v0]
  exact Finset.sum_congr rfl fun b _ => Finset.sum_congr rfl fun s _ => congrArg (x2 _ * ·) (dif_pos (by omega))

/-- and of those that meet the recurrence's. -/
theorem dwb_at (k : Fin 512) (d : Fin 1024) : val_main_v16 (F := Ideal) x0 x1 x2 (ix2 k d)
    = ∑ b : Fin 2, ∑ s : Fin 2048, x2 (ix3 b s d) * x1 (ix3 b s k) := by
  pointwise [val_main_v16, val_main_v3, val_main_v2, val_main_v0]

end Cert.OutBRefIdeal.Val

end
-- ==== Proof.OutBlock.lean ====
module

public import proofs.«01_k».proof.Proof.Gen.OutBIdeal.Value
public import proofs.«01_k».proof.Proof.OutRef
public import Idealize.ShloMosaic.Lib.KernelVsHost
public import Idealize.ShloMosaic.Lib.Tactic.CleanTypes

@[expose] public section

noncomputable section

/-! What a grid point of the output product's backward kernel stores, and the arrays that it runs on. -/

namespace Cert.OutBIdeal.Block

open Cert.OutBIdeal Cert.OutBIdeal.Gen Idealize.ShloMosaic Idealize.ShloMosaic.TcCoe Idealize.SL.Sem
open Cert.HeadPad (col)
open Cert.HeadsRow Cert.HeadsIdeal.Arr Cert.FfnAIdeal.Arr Cert.OutBRefIdeal.Val

theorem pay3 (D W : M 1024 1024) (r k : Fin 1024) : k0_pay3 (F := Ideal) D W (ix2 r k) = ∑ d, D (ix2 r d) * W (ix2 k d) := by
  unfold k0_pay3 k0_pay2; pointwise
theorem pay4 (D : M 1024 1024) (W : M 512 1024) (r : Fin 1024) (k : Fin 512) : k0_pay4 (F := Ideal) D W (ix2 r k) = ∑ d, D (ix2 r d) * W (ix2 k d) := by
  unfold k0_pay4 k0_pay2; pointwise
theorem pay5 (D O : M 1024 1024) (k d : Fin 1024) : k0_pay5 (F := Ideal) D O (ix2 k d) = ∑ r, O (ix2 r k) * D (ix2 r d) := by
  unfold k0_pay5 k0_pay2; pointwise
theorem pay7 (D : M 1024 1024) (Y : M 1024 512) (k : Fin 512) (d : Fin 1024) : k0_pay7 (F := Ideal) D Y (ix2 k d) = ∑ r, Y (ix2 r k) * D (ix2 r d) := by
  unfold k0_pay7 k0_pay2; pointwise
theorem pay6 (D O P : M 1024 1024) (k d : Fin 1024) : k0_pay6 (F := Ideal) D O P (ix2 k d) = P (ix2 k d) + k0_pay5 (F := Ideal) D O (ix2 k d) := by
  unfold k0_pay6; pointwise
theorem pay1 (Q P : M 512 1024) (k : Fin 512) (d : Fin 1024) : k0_pay1 (F := Ideal) Q P (ix2 k d) = P (ix2 k d) + Q (ix2 k d) := by
  unfold k0_pay1; pointwise

variable (m : (ℓ : Loc nD τ sig) → Buf (Elt Ideal) ℓ) (c : Dev nD) (t : Fin cfg0.N)

/-- A grid point's blocks: the padded attention's output, the recurrence's, the cotangent, the two parts of the weight. -/
abbrev oB : M 1024 1024 := iblk m c 0 t
@[inherit_doc oB] abbrev yB : M 1024 512 := iblk m c 1 t
@[inherit_doc oB] abbrev dB : M 1024 1024 := iblk m c 2 t
@[inherit_doc oB] abbrev waB : M 1024 1024 := iblk m c 3 t
@[inherit_doc oB] abbrev wbB : M 512 1024 := iblk m c 4 t

/-- The first point begins the weight's gradients, the others add to them. -/
theorem point_cases (t : Fin cfg0.N) : (t.val % 4 = 0 ∧ ¬1 ≤ t.val) ∨ (¬t.val % 4 = 0 ∧ 1 ≤ t.val) := by
  have h : t.val < 4 := t.isLt
  omega

theorem do_block (r k : Fin 1024) : (outsAt0 m c t.val t.isLt).1 (ix2 r k) = ∑ d, dB m c t (ix2 r d) * waB m c t (ix2 k d) := by
  rcases point_cases t with ⟨h0, h1⟩ | ⟨h0, h1⟩
  · rw [outsAt0_A m c t h0 h1 h0 h1]; frame_out
    exact pay3 _ _ r k
  · rw [outsAt0_B m c t h0 h1 h0 h1]; frame_out
    exact pay3 _ _ r k

theorem dy_block (r : Fin 1024) (k : Fin 512) : (outsAt0 m c t.val t.isLt).2.1 (ix2 r k) = ∑ d, dB m c t (ix2 r d) * wbB m c t (ix2 k d) := by
  rcases point_cases t with ⟨h0, h1⟩ | ⟨h0, h1⟩
  · rw [outsAt0_A m c t h0 h1 h0 h1]; frame_out
    exact pay4 _ _ r k
  · rw [outsAt0_B m c t h0 h1 h0 h1]; frame_out
    exact pay4 _ _ r k

theorem dwa_first (h0 : t.val % 4 = 0) (h1 : ¬1 ≤ t.val) (k d : Fin 1024) :
    (outsAt0 m c t.val t.isLt).2.2.1 (ix2 k d) = ∑ r, oB m c t (ix2 r k) * dB m c t (ix2 r d) := by
  rw [outsAt0_A m c t h0 h1 h0 h1]; frame_out
  exact pay5 _ _ k d

theorem dwa_next (h0 : ¬t.val % 4 = 0) (h1 : 1 ≤ t.val) (k d : Fin 1024) : (outsAt0 m c t.val t.isLt).2.2.1 (ix2 k d)
    = (outsAt0 m c (t.val - 1) (by omega)).2.2.1 (ix2 k d) + ∑ r, oB m c t (ix2 r k) * dB m c t (ix2 r d) := by
  rw [outsAt0_B m c t h0 h1 h0 h1]; frame_out
  exact (pay6 _ _ _ k d).trans (congrArg _ (pay5 _ _ k d))

theorem dwb_first (h0 : t.val % 4 = 0) (h1 : ¬1 ≤ t.val) (k : Fin 512) (d : Fin 1024) :
    (outsAt0 m c t.val t.isLt).2.2.2 (ix2 k d) = ∑ r, yB m c t (ix2 r k) * dB m c t (ix2 r d) := by
  rw [outsAt0_A m c t h0 h1 h0 h1]; frame_out
  exact pay7 _ _ k d

theorem dwb_next (h0 : ¬t.val % 4 = 0) (h1 : 1 ≤ t.val) (k : Fin 512) (d : Fin 1024) : (outsAt0 m c t.val t.isLt).2.2.2 (ix2 k d)
    = (outsAt0 m c (t.val - 1) (by omega)).2.2.2 (ix2 k d) + ∑ r, yB m c t (ix2 r k) * dB m c t (ix2 r d) := by
  rw [outsAt0_B m c t h0 h1 h0 h1]; frame_out
  exact (pay1 _ _ k d).trans (congrArg _ (pay7 _ _ k d))

abbrev a0 (c : Dev nD) : S2x2048x512.Idx → EReal := m ((c.tc : Thread nD τ).loc main_arg0)
abbrev a1 (c : Dev nD) : S2x2048x512.Idx → EReal := m ((c.tc : Thread nD τ).loc main_arg1)
abbrev a2 (c : Dev nD) : S2x2048x1024.Idx → EReal := m ((c.tc : Thread nD τ).loc main_arg2)
abbrev a3 (c : Dev nD) : S1024x1024.Idx → EReal := m ((c.tc : Thread nD τ).loc main_arg3)

theorem arrays : V m c main_v3 = shapeCast S4096x1024 (pad S4096x8x128 ![0, 0, 0] ![0, 0, 64] ![0, 0, 0] (shapeCast S4096x8x64 (a0 m c) shapeCasts_S2x2048x512_S4096x8x64)
        (sitofp (F := Ideal) .f32 (constantI S_ 32 0#32)) pads_S4096x8x64_S4096x8x128_000_000_0640 h_S_) shapeCasts_S4096x8x128_S4096x1024
    ∧ V m c main_v4 = shapeCast S4096x512 (a1 m c) shapeCasts_S2x2048x512_S4096x512
    ∧ V m c main_v5 = shapeCast S4096x1024 (a2 m c) shapeCasts_S2x2048x1024_S4096x1024
    ∧ V m c main_v10 = shapeCast S1024x1024 (pad S8x128x1024 ![0, 0, 0] ![0, 64, 0] ![0, 0, 0]
        (shapeCast S8x64x1024 (extractStridedSlice S512x1024 ![0, 0] (a3 m c) slices_S1024x1024_S512x1024_0_0) shapeCasts_S512x1024_S8x64x1024)
        (sitofp (F := Ideal) .f32 (constantI S_ 32 0#32)) pads_S8x64x1024_S8x128x1024_000_0640_000 h_S_) shapeCasts_S8x128x1024_S1024x1024
    ∧ V m c main_v12 = extractStridedSlice S512x1024 ![512, 0] (a3 m c) slices_S1024x1024_S512x1024_512_0 := by
  refine ⟨?_, ?_, ?_, ?_, ?_⟩ <;>
  · simp only [V, hostOps0, hostOps0_1, hostOps0_2, hostOps0_3, hostOps0_4, List.flatten_cons, List.flatten_nil, List.append_nil, List.cons_append, List.nil_append]
    after_results_simp
    try simp -implicitDefEqProofs only [StableHlo.TRef.toBuf, StableHlo.TRef.ofBuf, cast_cast, cast_eq]
    try clean_types
    try rfl

theorem o_at (b : Fin 2) (s : Fin 2048) (h : Fin 8) (x : Fin 128) : V m c main_v3 (ix2 (gr b s) (col h x))
    = if hx : x.val < 64 then a0 m c (ix3 b s (near h x hx)) else 0 := by
  rw [(arrays m c).1]
  exact (padded_at _ _ int_zero _ _ _ _ h x).trans (dite_congr rfl (fun hx => split_at _ _ b s h x hx) fun _ => rfl)

theorem y_at (b : Fin 2) (s : Fin 2048) (k : Fin 512) : V m c main_v4 (ix2 (gr b s) k) = a1 m c (ix3 b s k) := by
  rw [(arrays m c).2.1]
  exact flat_at _ _ b s k

theorem d_at (b : Fin 2) (s : Fin 2048) (x : Fin 1024) : V m c main_v5 (ix2 (gr b s) x) = a2 m c (ix3 b s x) := by
  rw [(arrays m c).2.2.1]
  exact flat_at _ _ b s x

theorem wa_at (h : Fin 8) (x : Fin 128) (d : Fin 1024) : V m c main_v10 (ix2 (col h x) d)
    = if hx : x.val < 64 then a3 m c (ix2 (lo h x hx) d) else 0 := by
  rw [(arrays m c).2.2.2.1]
  refine (stacked_at _ _ int_zero _ _ _ h x d).trans (dite_congr rfl (fun hx => (apart_at _ _ h x hx d).trans ?_) fun _ => rfl)
  pointwise

theorem wb_at (k : Fin 512) (d : Fin 1024) : V m c main_v12 (ix2 k d) = a3 m c (ix2 (hi k) d) := by
  rw [(arrays m c).2.2.2.2]
  pointwise

end Cert.OutBIdeal.Block

end
-- ==== Proof.OutFinal.lean ====
module

public import proofs.«01_k».proof.Proof.OutBlock
public import proofs.«01_k».proof.Proof.FfnFinal

@[expose] public section

noncomputable section

/-! The output product's backward kernel: its blocks in the arguments, and its four arrays after the run are the reference's. -/

namespace Cert.OutBIdeal.Final

open Cert.OutBIdeal Cert.OutBIdeal.Gen Cert.OutBIdeal.Value Idealize.ShloMosaic Idealize.ShloMosaic.TcCoe Idealize.SL.Sem
open Cert.OutBIdeal.Block Cert.OutBRefIdeal.Read Cert.OutBRefIdeal.Val Cert.HeadsRow
open Cert.HeadPad (col)
open Cert.FfnAIdeal.Arr (gr flat_at)
open Cert.FfnAIdeal.Final (row_col)

variable (m : (ℓ : Loc nD τ sig) → Buf (Elt Ideal) ℓ) (c : Dev nD) (t : Fin cfg0.N)

theorem lt4 (t : Fin cfg0.N) : t.val < 4 := t.isLt

/-- A grid point's sequence and the place of a block's row in it. -/
abbrev bt (t : Fin cfg0.N) : Fin 2 := ⟨t.val / 2, by have := lt4 t; omega⟩
@[inherit_doc bt] abbrev sq (t : Fin cfg0.N) (r : Fin 1024) : Fin 2048 := ⟨t.val % 2 * 1024 + r.val, by omega⟩

/-- A padded column's head and its place in the head. -/
abbrev hd (k : Fin 1024) : Fin 8 := ⟨k.val / 128, by omega⟩
@[inherit_doc hd] abbrev wi (k : Fin 1024) : Fin 128 := ⟨k.val % 128, Nat.mod_lt _ (by decide)⟩

theorem col_hd (k : Fin 1024) : col (hd k) (wi k) = k := Fin.ext (by show k.val / 128 * 128 + k.val % 128 = k.val; omega)

theorem idx0 : ∀ t : Fin cfg0.N, win0_0.index t = ![t.val, 0] := (by decide +kernel : ∀ t : Fin grid0.N, _)
theorem idx1 : ∀ t : Fin cfg0.N, win0_1.index t = ![t.val, 0] := (by decide +kernel : ∀ t : Fin grid0.N, _)
theorem idx2 : ∀ t : Fin cfg0.N, win0_2.index t = ![t.val, 0] := (by decide +kernel : ∀ t : Fin grid0.N, _)
theorem idx3 : ∀ t : Fin cfg0.N, win0_3.index t = ![0, 0] := (by decide +kernel : ∀ t : Fin grid0.N, _)
theorem idx4 : ∀ t : Fin cfg0.N, win0_4.index t = ![0, 0] := (by decide +kernel : ∀ t : Fin grid0.N, _)
theorem idx5 : ∀ t : Fin cfg0.N, win0_5.index t = ![t.val, 0] := (by decide +kernel : ∀ t : Fin grid0.N, _)
theorem idx6 : ∀ t : Fin cfg0.N, win0_6.index t = ![t.val, 0] := (by decide +kernel : ∀ t : Fin grid0.N, _)
theorem idx7 : ∀ t : Fin cfg0.N, win0_7.index t = ![0, 0] := (by decide +kernel : ∀ t : Fin grid0.N, _)
theorem idx8 : ∀ t : Fin cfg0.N, win0_8.index t = ![0, 0] := (by decide +kernel : ∀ t : Fin grid0.N, _)

/-- A block's entry sits in its array at the grid point's rows. -/
theorem emb0 (r x : Fin 1024) : (win0_0.blk t).view.emb (ix2 r x) = ix2 (gr (bt t) (sq t r)) x := by blk_ext [idx0]
theorem emb1 (r : Fin 1024) (x : Fin 512) : (win0_1.blk t).view.emb (ix2 r x) = ix2 (gr (bt t) (sq t r)) x := by blk_ext [idx1]
theorem emb2 (r x : Fin 1024) : (win0_2.blk t).view.emb (ix2 r x) = ix2 (gr (bt t) (sq t r)) x := by blk_ext [idx2]
theorem emb3 (k d : Fin 1024) : (win0_3.blk t).view.emb (ix2 k d) = ix2 k d := by blk_ext [idx3]
theorem emb4 (k : Fin 512) (d : Fin 1024) : (win0_4.blk t).view.emb (ix2 k d) = ix2 k d := by blk_ext [idx4]
theorem emb5 (y : S1024x1024.Idx) : (win0_5.blk t).view.emb y = ix2 (gr (bt t) (sq t (y 0))) (y 1) := by blk_ext [idx5]
theorem emb6 (y : S1024x512.Idx) : (win0_6.blk t).view.emb y = ix2 (gr (bt t) (sq t (y 0))) (y 1) := by blk_ext [idx6]
theorem emb7 (y : S1024x1024.Idx) : (win0_7.blk t).view.emb y = y := by blk_ext [idx7]
theorem emb8 (y : S512x1024.Idx) : (win0_8.blk t).view.emb y = y := by blk_ext [idx8]

theorem oB_at (r : Fin 1024) (h : Fin 8) (x : Fin 128) : oB m c t (ix2 r (col h x))
    = if hx : x.val < 64 then a0 m c (ix3 (bt t) (sq t r) (near h x hx)) else 0 := by
  have hV : ∀ A : Buf (Elt Ideal) ((c.tc : Thread nD τ).loc main_v3),
      ((cfg0.win 0).blk t).view.read (Elt Ideal) A (ix2 r (col h x)) = A ((win0_0.blk t).view.emb (ix2 r (col h x))) := fun A => rfl
  exact (hV (V m c main_v3)).trans ((congrArg _ (emb0 t r _)).trans (o_at m c _ _ h x))

theorem yB_at (r : Fin 1024) (x : Fin 512) : yB m c t (ix2 r x) = a1 m c (ix3 (bt t) (sq t r) x) := by
  have hV : ∀ A : Buf (Elt Ideal) ((c.tc : Thread nD τ).loc main_v4),
      ((cfg0.win 1).blk t).view.read (Elt Ideal) A (ix2 r x) = A ((win0_1.blk t).view.emb (ix2 r x)) := fun A => rfl
  exact (hV (V m c main_v4)).trans ((congrArg _ (emb1 t r x)).trans (y_at m c _ _ x))

theorem dB_at (r x : Fin 1024) : dB m c t (ix2 r x) = a2 m c (ix3 (bt t) (sq t r) x) := by
  have hV : ∀ A : Buf (Elt Ideal) ((c.tc : Thread nD τ).loc main_v5),
      ((cfg0.win 2).blk t).view.read (Elt Ideal) A (ix2 r x) = A ((win0_2.blk t).view.emb (ix2 r x)) := fun A => rfl
  exact (hV (V m c main_v5)).trans ((congrArg _ (emb2 t r x)).trans (d_at m c _ _ x))

theorem waB_at (h : Fin 8) (x : Fin 128) (d : Fin 1024) : waB m c t (ix2 (col h x) d)
    = if hx : x.val < 64 then a3 m c (ix2 (lo h x hx) d) else 0 := by
  have hV : ∀ A : Buf (Elt Ideal) ((c.tc : Thread nD τ).loc main_v10),
      ((cfg0.win 3).blk t).view.read (Elt Ideal) A (ix2 (col h x) d) = A ((win0_3.blk t).view.emb (ix2 (col h x) d)) := fun A => rfl
  exact (hV (V m c main_v10)).trans ((congrArg _ (emb3 t _ d)).trans (wa_at m c h x d))

theorem wbB_at (k : Fin 512) (d : Fin 1024) : wbB m c t (ix2 k d) = a3 m c (ix2 (hi k) d) := by
  have hV : ∀ A : Buf (Elt Ideal) ((c.tc : Thread nD τ).loc main_v12),
      ((cfg0.win 4).blk t).view.read (Elt Ideal) A (ix2 k d) = A ((win0_4.blk t).view.emb (ix2 k d)) := fun A => rfl
  exact (hV (V m c main_v12)).trans ((congrArg _ (emb4 t k d)).trans (wb_at m c k d))

/-- Cutting a point's block out of `X` gives the block of `G` when `X` is `G` at the block's place. -/
theorem cut5 (X : Vec Ideal S1024x1024 .f32) (G : S4096x1024.Idx → EReal) (h : ∀ y, X y = G ((win0_5.blk t).view.emb y)) :
    (cfg0.win 5).cut (grid0.coords t) X = ((cfg0.win 5).blk t).view.read (Elt Ideal) G :=
  funext fun y => h y
theorem cut6 (X : Vec Ideal S1024x512 .f32) (G : S4096x512.Idx → EReal) (h : ∀ y, X y = G ((win0_6.blk t).view.emb y)) :
    (cfg0.win 6).cut (grid0.coords t) X = ((cfg0.win 6).blk t).view.read (Elt Ideal) G :=
  funext fun y => h y
theorem cut7 (X : Vec Ideal S1024x1024 .f32) (G : S1024x1024.Idx → EReal) (h : ∀ y, X y = G ((win0_7.blk t).view.emb y)) :
    (cfg0.win 7).cut (grid0.coords t) X = ((cfg0.win 7).blk t).view.read (Elt Ideal) G :=
  funext fun y => h y
theorem cut8 (X : Vec Ideal S512x1024 .f32) (G : S512x1024.Idx → EReal) (h : ∀ y, X y = G ((win0_8.blk t).view.emb y)) :
    (cfg0.win 8).cut (grid0.coords t) X = ((cfg0.win 8).blk t).view.read (Elt Ideal) G :=
  funext fun y => h y

/-- Every index of a result lies in the block of some grid point that is written back. -/
theorem covers5 : (cfg0.win 5).Covers := by decide +kernel
theorem covers6 : (cfg0.win 6).Covers := by decide +kernel
theorem covers7 : (cfg0.win 7).Covers := by decide +kernel
theorem covers8 : (cfg0.win 8).Covers := by decide +kernel

/-- The weight's gradients are written back after the last point only. -/
theorem last7 : ∀ t : Fin cfg0.N, (cfg0.win 7).flush t = true → t.val + 1 = cfg0.N := (by decide +kernel : ∀ t : Fin grid0.N, _)
theorem last8 : ∀ t : Fin cfg0.N, (cfg0.win 8).flush t = true → t.val + 1 = cfg0.N := (by decide +kernel : ∀ t : Fin grid0.N, _)

theorem do_eq (r k : Fin 1024) : ∑ d, dB m c t (ix2 r d) * waB m c t (ix2 k d) = val_main_v10 (F := Ideal) (a2 m c) (a3 m c) (ix2 (gr (bt t) (sq t r)) k) := by
  rw [← col_hd k, do_at]
  simp only [dB_at, waB_at]
  split
  · rfl
  · simp only [mul_zero, Finset.sum_const_zero]

theorem dy_eq (r : Fin 1024) (k : Fin 512) : ∑ d, dB m c t (ix2 r d) * wbB m c t (ix2 k d) = val_main_v15 (F := Ideal) (a2 m c) (a3 m c) (ix2 (gr (bt t) (sq t r)) k) := by
  rw [dy_at]
  simp only [dB_at, wbB_at]

/-- The attention's gradient after the run. -/
theorem dos : (dats m 0 c).arrAt 5 cfg0.N = val_main_v10 (F := Ideal) (a2 m c) (a3 m c) := by
  refine (dats m 0 c).arrAt_eq_of_cover 5 _ (fun t _ => ?_) (Pipeline.Window.Covers.cover _ covers5 (Memref.isWhole_whole _))
  rw [flushed5]
  refine cut5 t _ _ fun y => ?_
  rw [emb5]
  exact (congrArg _ (row_col y)).trans ((do_block m c t (y 0) (y 1)).trans (do_eq m c t (y 0) (y 1)))

/-- The recurrence's gradient after the run. -/
theorem dys : (dats m 0 c).arrAt 6 cfg0.N = val_main_v15 (F := Ideal) (a2 m c) (a3 m c) := by
  refine (dats m 0 c).arrAt_eq_of_cover 6 _ (fun t _ => ?_) (Pipeline.Window.Covers.cover _ covers6 (Memref.isWhole_whole _))
  rw [flushed6]
  refine cut6 t _ _ fun y => ?_
  rw [emb6]
  exact (congrArg _ (row_col y)).trans ((dy_block m c t (y 0) (y 1)).trans (dy_eq m c t (y 0) (y 1)))

/-- The points' shares add up to the sum over both sequences' rows. -/
theorem sum_points (F : Fin 2 → Fin 2048 → EReal) : ∑ t : Fin cfg0.N, ∑ r : Fin 1024, F (bt t) (sq t r) = ∑ b : Fin 2, ∑ s : Fin 2048, F b s := by
  rw [← Fintype.sum_prod_type', ← Fintype.sum_prod_type']
  refine Fintype.sum_equiv (Equiv.mk (fun p => (bt p.1, sq p.1 p.2))
    (fun q => (⟨q.1.val * 2 + q.2.val / 1024, by show _ < 4; omega⟩, ⟨q.2.val % 1024, Nat.mod_lt _ (by decide)⟩)) (fun p => ?_) fun q => ?_) _ _ fun _ => rfl
  · have := lt4 p.1
    exact Prod.ext (Fin.ext (by show p.1.val / 2 * 2 + (p.1.val % 2 * 1024 + p.2.val) / 1024 = p.1.val; omega))
      (Fin.ext (by show (p.1.val % 2 * 1024 + p.2.val) % 1024 = p.2.val; omega))
  · exact Prod.ext (Fin.ext (by show (q.1.val * 2 + q.2.val / 1024) / 2 = q.1.val; omega))
      (Fin.ext (by show (q.1.val * 2 + q.2.val / 1024) % 2 * 1024 + q.2.val % 1024 = q.2.val; omega))

/-- A sum begun at the first point and added to at the others is the sum over both sequences' rows. -/
theorem gathered {ι : Type} (f : (n : ℕ) → n < cfg0.N → ι → EReal) (g : Fin cfg0.N → ι → EReal) (F : ι → Fin 2 → Fin 2048 → EReal)
    (h0 : ∀ t : Fin cfg0.N, t.val % 4 = 0 → ¬1 ≤ t.val → ∀ i, f t.val t.isLt i = g t i)
    (h1 : ∀ t : Fin cfg0.N, ¬t.val % 4 = 0 → 1 ≤ t.val → ∀ i, f t.val t.isLt i = f (t.val - 1) (by omega) i + g t i)
    (hg : ∀ t i, g t i = ∑ r : Fin 1024, F i (bt t) (sq t r)) (ht : t.val + 1 = cfg0.N) (i : ι) :
    f t.val t.isLt i = ∑ b : Fin 2, ∑ s : Fin 2048, F i b s := by
  refine (Pipeline.eq_sum_fin_of_reset_step_apply_last f 4 (fun _ => (0 : EReal)) g
    (fun t h i => (h0 t h (by have := lt4 t; omega) i).trans (zero_add _).symm) (fun t h i => h1 t h (by omega) i) (by decide) t ht i).trans ?_
  rw [zero_add, ← sum_points]
  exact Finset.sum_congr rfl fun t _ => hg t i

theorem dwa_last (ht : t.val + 1 = cfg0.N) (k d : Fin 1024) : (outsAt0 m c t.val t.isLt).2.2.1 (ix2 k d)
    = val_main_v14 (F := Ideal) (a0 m c) (a1 m c) (a2 m c) (ix2 k d) := by
  refine (gathered t (fun n h (i : Fin 1024 × Fin 1024) => (outsAt0 m c n h).2.2.1 (ix2 i.1 i.2)) (fun t i => ∑ r, oB m c t (ix2 r i.1) * dB m c t (ix2 r i.2))
    (fun i b s => (if hx : (wi i.1).val < 64 then a0 m c (ix3 b s (near (hd i.1) (wi i.1) hx)) else 0) * a2 m c (ix3 b s i.2))
    (fun t h0 h1 i => dwa_first m c t h0 h1 i.1 i.2) (fun t h0 h1 i => dwa_next m c t h0 h1 i.1 i.2) (fun t i => ?_) ht (k, d)).trans ?_
  · refine Finset.sum_congr rfl fun r _ => ?_
    rw [← oB_at, dB_at, col_hd]
  · refine Eq.trans ?_ (congrArg (fun k => val_main_v14 (F := Ideal) (a0 m c) (a1 m c) (a2 m c) (ix2 k d)) (col_hd k))
    rw [dwa_at]
    show ∑ b : Fin 2, ∑ s : Fin 2048, (if hx : (wi k).val < 64 then a0 m c (ix3 b s (near (hd k) (wi k) hx)) else 0) * a2 m c (ix3 b s d) = _
    split
    · exact Finset.sum_congr rfl fun b _ => Finset.sum_congr rfl fun s _ => mul_comm _ _
    · simp only [zero_mul, Finset.sum_const_zero]

theorem dwb_last (ht : t.val + 1 = cfg0.N) (k : Fin 512) (d : Fin 1024) : (outsAt0 m c t.val t.isLt).2.2.2 (ix2 k d)
    = val_main_v16 (F := Ideal) (a0 m c) (a1 m c) (a2 m c) (ix2 k d) := by
  refine (gathered t (fun n h (i : Fin 512 × Fin 1024) => (outsAt0 m c n h).2.2.2 (ix2 i.1 i.2)) (fun t i => ∑ r, yB m c t (ix2 r i.1) * dB m c t (ix2 r i.2))
    (fun i b s => a1 m c (ix3 b s i.1) * a2 m c (ix3 b s i.2))
    (fun t h0 h1 i => dwb_first m c t h0 h1 i.1 i.2) (fun t h0 h1 i => dwb_next m c t h0 h1 i.1 i.2) (fun t i => ?_) ht (k, d)).trans ?_
  · exact Finset.sum_congr rfl fun r _ => by rw [yB_at, dB_at]
  · rw [dwb_at]
    exact Finset.sum_congr rfl fun b _ => Finset.sum_congr rfl fun s _ => mul_comm _ _

/-- The weight's two gradients after the run. -/
theorem dwas : (dats m 0 c).arrAt 7 cfg0.N = val_main_v14 (F := Ideal) (a0 m c) (a1 m c) (a2 m c) := by
  refine (dats m 0 c).arrAt_eq_of_cover 7 _ (fun t hf => ?_) (Pipeline.Window.Covers.cover _ covers7 (Memref.isWhole_whole _))
  rw [flushed7]
  refine cut7 t _ _ fun y => ?_
  rw [emb7, row_col y]
  exact dwa_last m c t (last7 t hf) (y 0) (y 1)

@[inherit_doc dwas] theorem dwbs : (dats m 0 c).arrAt 8 cfg0.N = val_main_v16 (F := Ideal) (a0 m c) (a1 m c) (a2 m c) := by
  refine (dats m 0 c).arrAt_eq_of_cover 8 _ (fun t hf => ?_) (Pipeline.Window.Covers.cover _ covers8 (Memref.isWhole_whole _))
  rw [flushed8]
  refine cut8 t _ _ fun y => ?_
  rw [emb8, row_col y]
  exact dwb_last m c t (last8 t hf) (y 0) (y 1)

end Cert.OutBIdeal.Final

end
-- ==== Proof.OutFFinal.lean ====
module

public import proofs.«01_k».proof.Proof.Gen.OutFIdeal.Value
public import proofs.«01_k».proof.Proof.Gen.OutFRefIdeal.Read
public import proofs.«01_k».proof.Proof.OutFinal

@[expose] public section

noncomputable section

/-! The output product's forward kernel: the padded heads' product is the unpadded one, and its array after the run is the reference's. -/

namespace Cert.OutFIdeal.Final

open Cert.OutFIdeal Cert.OutFIdeal.Gen Cert.OutFIdeal.Value Idealize.ShloMosaic Idealize.ShloMosaic.TcCoe Idealize.SL.Sem
open Cert.OutFRefIdeal.Read Cert.HeadsRow Cert.HeadsIdeal.Arr
open Cert.OutBRefIdeal.Val (near lo hi stacked_at apart_at split_at)
open Cert.HeadPad (col)
open Cert.FfnAIdeal.Arr (gr flat_at)
open Cert.FfnAIdeal.Final (row_col)

/-- A row of heads with zeros past each head's 64 entries sums to the heads' own entries' sum. -/
theorem heads_sum (f : Fin 1024 → EReal) (g : Fin 512 → EReal)
    (h : ∀ (a : Fin 8) (x : Fin 128), f (col a x) = if hx : x.val < 64 then g (near a x hx) else 0) : ∑ k, f k = ∑ k, g k := by
  have wide : ∑ k, f k = ∑ a : Fin 8, ∑ x : Fin 128, f (col a x) := by
    rw [← Fintype.sum_prod_type']
    exact (Fintype.sum_equiv finProdFinEquiv (fun p : Fin 8 × Fin 128 => f (col p.1 p.2)) f fun p => congrArg f (Fin.ext (by
      show p.1.val * 128 + p.2.val = p.2.val + 128 * p.1.val; omega))).symm
  have thin : ∑ k, g k = ∑ a : Fin 8, ∑ x : Fin 64, g ⟨a.val * 64 + x.val, by omega⟩ := by
    rw [← Fintype.sum_prod_type']
    exact (Fintype.sum_equiv finProdFinEquiv (fun p : Fin 8 × Fin 64 => g ⟨p.1.val * 64 + p.2.val, by omega⟩) g fun p => congrArg g (Fin.ext (by
      show p.1.val * 64 + p.2.val = p.2.val + 64 * p.1.val; omega))).symm
  rw [wide, thin]
  refine Finset.sum_congr rfl fun a _ => ?_
  rw [Fin.sum_univ_add (a := 64) (b := 64) fun x => f (col a x)]
  refine (congrArg₂ (· + ·) (Finset.sum_congr rfl fun x _ => (h a _).trans (dif_pos x.isLt))
    (Finset.sum_eq_zero fun x _ => (h a _).trans (dif_neg (by show ¬64 + x.val < 64; omega)))).trans (add_zero _)

/-- A sum over both mixers' columns is the sum over each one's. -/
theorem both_sum (f g : Fin 512 → EReal) (w : Fin 1024 → EReal) :
    ∑ k : Fin 1024, (if h : k.val < 512 then f ⟨k.val, h⟩ else g ⟨k.val - 512, by omega⟩) * w k
      = ∑ k : Fin 512, f k * w ⟨k.val, by omega⟩ + ∑ k, g k * w (hi k) := by
  rw [Fin.sum_univ_add (a := 512) (b := 512)]
  refine congrArg₂ (· + ·) (Finset.sum_congr rfl fun k _ => congrArg (· * _) (dif_pos k.isLt))
    (Finset.sum_congr rfl fun k _ => congrArg (· * _) ((dif_neg (by show ¬512 + k.val < 512; omega)).trans ?_))
  exact congrArg g (Fin.ext (by show 512 + k.val - 512 = k.val; omega))

theorem pay (X O W : M 1024 1024) (Y : M 1024 512) (W' : M 512 1024) (r d : Fin 1024) : k0_pay1 (F := Ideal) X O W Y W' (ix2 r d)
    = X (ix2 r d) + ∑ k, O (ix2 r k) * W (ix2 k d) + ∑ k, Y (ix2 r k) * W' (ix2 k d) := by
  unfold k0_pay1; pointwise

theorem out5 (X O W : M 1024 1024) (Y : M 1024 512) (W' : M 512 1024) (r d : Fin 1024) : out0_5 (F := Ideal) X O Y W W' (ix2 r d)
    = X (ix2 r d) + ∑ k, O (ix2 r k) * W (ix2 k d) + ∑ k, Y (ix2 r k) * W' (ix2 k d) := by
  rw [← pay]; frame_out

theorem ref_at (x0 : S2x2048x1024.Idx → EReal) (x1 x2 : S2x2048x512.Idx → EReal) (x3 : S1024x1024.Idx → EReal) (b : Fin 2) (s : Fin 2048) (d : Fin 1024) :
    val_main_v3 (F := Ideal) x0 x1 x2 x3 (ix2 (gr b s) d)
      = x0 (ix3 b s d) + (∑ k : Fin 512, x1 (ix3 b s k) * x3 (ix2 ⟨k.val, by omega⟩ d) + ∑ k, x2 (ix3 b s k) * x3 (ix2 (hi k) d)) := by
  refine (flat_at _ _ b s d).trans ?_
  refine Eq.trans ?_ (congrArg (x0 (ix3 b s d) + ·) (both_sum (fun k => x1 (ix3 b s k)) (fun k => x2 (ix3 b s k)) fun k => x3 (ix2 k d)))
  pointwise [val_main_v2, val_main_v1, val_main_v0]

variable (m : (ℓ : Loc nD τ sig) → Buf (Elt Ideal) ℓ) (c : Dev nD) (t : Fin cfg0.N)

theorem lt4 (t : Fin cfg0.N) : t.val < 4 := t.isLt

/-- A grid point's sequence and the place of a block's row in it. -/
abbrev bt (t : Fin cfg0.N) : Fin 2 := ⟨t.val / 2, by have := lt4 t; omega⟩
@[inherit_doc bt] abbrev sq (t : Fin cfg0.N) (r : Fin 1024) : Fin 2048 := ⟨t.val % 2 * 1024 + r.val, by omega⟩

abbrev a0 (c : Dev nD) : S2x2048x1024.Idx → EReal := m ((c.tc : Thread nD τ).loc main_arg0)
abbrev a1 (c : Dev nD) : S2x2048x512.Idx → EReal := m ((c.tc : Thread nD τ).loc main_arg1)
abbrev a2 (c : Dev nD) : S2x2048x512.Idx → EReal := m ((c.tc : Thread nD τ).loc main_arg2)
abbrev a3 (c : Dev nD) : S1024x1024.Idx → EReal := m ((c.tc : Thread nD τ).loc main_arg3)

theorem arrays : V m c main_v0 = shapeCast S4096x1024 (a0 m c) shapeCasts_S2x2048x1024_S4096x1024
    ∧ V m c main_v4 = shapeCast S4096x1024 (pad S4096x8x128 ![0, 0, 0] ![0, 0, 64] ![0, 0, 0] (shapeCast S4096x8x64 (a1 m c) shapeCasts_S2x2048x512_S4096x8x64)
        (sitofp (F := Ideal) .f32 (constantI S_ 32 0#32)) pads_S4096x8x64_S4096x8x128_000_000_0640 h_S_) shapeCasts_S4096x8x128_S4096x1024
    ∧ V m c main_v5 = shapeCast S4096x512 (a2 m c) shapeCasts_S2x2048x512_S4096x512
    ∧ V m c main_v10 = shapeCast S1024x1024 (pad S8x128x1024 ![0, 0, 0] ![0, 64, 0] ![0, 0, 0]
        (shapeCast S8x64x1024 (extractStridedSlice S512x1024 ![0, 0] (a3 m c) slices_S1024x1024_S512x1024_0_0) shapeCasts_S512x1024_S8x64x1024)
        (sitofp (F := Ideal) .f32 (constantI S_ 32 0#32)) pads_S8x64x1024_S8x128x1024_000_0640_000 h_S_) shapeCasts_S8x128x1024_S1024x1024
    ∧ V m c main_v12 = extractStridedSlice S512x1024 ![512, 0] (a3 m c) slices_S1024x1024_S512x1024_512_0 := by
  refine ⟨?_, ?_, ?_, ?_, ?_⟩ <;>
  · simp only [V, hostOps0, hostOps0_1, hostOps0_2, hostOps0_3, hostOps0_4, List.flatten_cons, List.flatten_nil, List.append_nil, List.cons_append, List.nil_append]
    after_results_simp
    try simp -implicitDefEqProofs only [StableHlo.TRef.toBuf, StableHlo.TRef.ofBuf, cast_cast, cast_eq]
    try clean_types
    try rfl

theorem x_at (b : Fin 2) (s : Fin 2048) (d : Fin 1024) : V m c main_v0 (ix2 (gr b s) d) = a0 m c (ix3 b s d) := by
  rw [(arrays m c).1]
  exact flat_at _ _ b s d

theorem o_at (b : Fin 2) (s : Fin 2048) (h : Fin 8) (x : Fin 128) : V m c main_v4 (ix2 (gr b s) (col h x))
    = if hx : x.val < 64 then a1 m c (ix3 b s (near h x hx)) else 0 := by
  rw [(arrays m c).2.1]
  exact (padded_at _ _ int_zero _ _ _ _ h x).trans (dite_congr rfl (fun hx => split_at _ _ b s h x hx) fun _ => rfl)

theorem y_at (b : Fin 2) (s : Fin 2048) (k : Fin 512) : V m c main_v5 (ix2 (gr b s) k) = a2 m c (ix3 b s k) := by
  rw [(arrays m c).2.2.1]
  exact flat_at _ _ b s k

theorem wa_at (h : Fin 8) (x : Fin 128) (d : Fin 1024) : V m c main_v10 (ix2 (col h x) d)
    = if hx : x.val < 64 then a3 m c (ix2 (lo h x hx) d) else 0 := by
  rw [(arrays m c).2.2.2.1]
  refine (stacked_at _ _ int_zero _ _ _ h x d).trans (dite_congr rfl (fun hx => (apart_at _ _ h x hx d).trans ?_) fun _ => rfl)
  pointwise

theorem wb_at (k : Fin 512) (d : Fin 1024) : V m c main_v12 (ix2 k d) = a3 m c (ix2 (hi k) d) := by
  rw [(arrays m c).2.2.2.2]
  pointwise

theorem idx0 : ∀ t : Fin cfg0.N, win0_0.index t = ![t.val, 0] := (by decide +kernel : ∀ t : Fin grid0.N, _)
theorem idx1 : ∀ t : Fin cfg0.N, win0_1.index t = ![t.val, 0] := (by decide +kernel : ∀ t : Fin grid0.N, _)
theorem idx2 : ∀ t : Fin cfg0.N, win0_2.index t = ![t.val, 0] := (by decide +kernel : ∀ t : Fin grid0.N, _)
theorem idx3 : ∀ t : Fin cfg0.N, win0_3.index t = ![0, 0] := (by decide +kernel : ∀ t : Fin grid0.N, _)
theorem idx4 : ∀ t : Fin cfg0.N, win0_4.index t = ![0, 0] := (by decide +kernel : ∀ t : Fin grid0.N, _)
theorem idx5 : ∀ t : Fin cfg0.N, win0_5.index t = ![t.val, 0] := (by decide +kernel : ∀ t : Fin grid0.N, _)

/-- A block's entry sits in its array at the grid point's rows. -/
theorem emb0 (r d : Fin 1024) : (win0_0.blk t).view.emb (ix2 r d) = ix2 (gr (bt t) (sq t r)) d := by blk_ext [idx0]
theorem emb1 (r k : Fin 1024) : (win0_1.blk t).view.emb (ix2 r k) = ix2 (gr (bt t) (sq t r)) k := by blk_ext [idx1]
theorem emb2 (r : Fin 1024) (k : Fin 512) : (win0_2.blk t).view.emb (ix2 r k) = ix2 (gr (bt t) (sq t r)) k := by blk_ext [idx2]
theorem emb3 (k d : Fin 1024) : (win0_3.blk t).view.emb (ix2 k d) = ix2 k d := by blk_ext [idx3]
theorem emb4 (k : Fin 512) (d : Fin 1024) : (win0_4.blk t).view.emb (ix2 k d) = ix2 k d := by blk_ext [idx4]
theorem emb5 (y : S1024x1024.Idx) : (win0_5.blk t).view.emb y = ix2 (gr (bt t) (sq t (y 0))) (y 1) := by blk_ext [idx5]

/-- A grid point's blocks: the input, the padded attention's output, the recurrence's, the two parts of the weight. -/
abbrev xB : M 1024 1024 := iblk m c 0 t
@[inherit_doc xB] abbrev oB : M 1024 1024 := iblk m c 1 t
@[inherit_doc xB] abbrev yB : M 1024 512 := iblk m c 2 t
@[inherit_doc xB] abbrev waB : M 1024 1024 := iblk m c 3 t
@[inherit_doc xB] abbrev wbB : M 512 1024 := iblk m c 4 t

theorem xB_at (r d : Fin 1024) : xB m c t (ix2 r d) = a0 m c (ix3 (bt t) (sq t r) d) := by
  have hV : ∀ A : Buf (Elt Ideal) ((c.tc : Thread nD τ).loc main_v0),
      ((cfg0.win 0).blk t).view.read (Elt Ideal) A (ix2 r d) = A ((win0_0.blk t).view.emb (ix2 r d)) := fun A => rfl
  exact (hV (V m c main_v0)).trans ((congrArg _ (emb0 t r d)).trans (x_at m c _ _ d))

theorem oB_at (r : Fin 1024) (h : Fin 8) (x : Fin 128) : oB m c t (ix2 r (col h x))
    = if hx : x.val < 64 then a1 m c (ix3 (bt t) (sq t r) (near h x hx)) else 0 := by
  have hV : ∀ A : Buf (Elt Ideal) ((c.tc : Thread nD τ).loc main_v4),
      ((cfg0.win 1).blk t).view.read (Elt Ideal) A (ix2 r (col h x)) = A ((win0_1.blk t).view.emb (ix2 r (col h x))) := fun A => rfl
  exact (hV (V m c main_v4)).trans ((congrArg _ (emb1 t r _)).trans (o_at m c _ _ h x))

theorem yB_at (r : Fin 1024) (k : Fin 512) : yB m c t (ix2 r k) = a2 m c (ix3 (bt t) (sq t r) k) := by
  have hV : ∀ A : Buf (Elt Ideal) ((c.tc : Thread nD τ).loc main_v5),
      ((cfg0.win 2).blk t).view.read (Elt Ideal) A (ix2 r k) = A ((win0_2.blk t).view.emb (ix2 r k)) := fun A => rfl
  exact (hV (V m c main_v5)).trans ((congrArg _ (emb2 t r k)).trans (y_at m c _ _ k))

theorem waB_at (h : Fin 8) (x : Fin 128) (d : Fin 1024) : waB m c t (ix2 (col h x) d)
    = if hx : x.val < 64 then a3 m c (ix2 (lo h x hx) d) else 0 := by
  have hV : ∀ A : Buf (Elt Ideal) ((c.tc : Thread nD τ).loc main_v10),
      ((cfg0.win 3).blk t).view.read (Elt Ideal) A (ix2 (col h x) d) = A ((win0_3.blk t).view.emb (ix2 (col h x) d)) := fun A => rfl
  exact (hV (V m c main_v10)).trans ((congrArg _ (emb3 t _ d)).trans (wa_at m c h x d))

theorem wbB_at (k : Fin 512) (d : Fin 1024) : wbB m c t (ix2 k d) = a3 m c (ix2 (hi k) d) := by
  have hV : ∀ A : Buf (Elt Ideal) ((c.tc : Thread nD τ).loc main_v12),
      ((cfg0.win 4).blk t).view.read (Elt Ideal) A (ix2 k d) = A ((win0_4.blk t).view.emb (ix2 k d)) := fun A => rfl
  exact (hV (V m c main_v12)).trans ((congrArg _ (emb4 t k d)).trans (wb_at m c k d))

theorem block_eq (r d : Fin 1024) : out0_5 (F := Ideal) (xB m c t) (oB m c t) (yB m c t) (waB m c t) (wbB m c t) (ix2 r d)
    = val_main_v3 (F := Ideal) (a0 m c) (a1 m c) (a2 m c) (a3 m c) (ix2 (gr (bt t) (sq t r)) d) := by
  rw [out5, ref_at, ← add_assoc]
  refine congrArg₂ (· + ·) (congrArg₂ (· + ·) (xB_at m c t r d) (heads_sum _ _ fun h x => ?_))
    (Finset.sum_congr rfl fun k _ => by rw [yB_at, wbB_at])
  rw [oB_at, waB_at]
  split
  · rfl
  · exact mul_zero _

/-- Cutting a point's block out of `X` gives the block of `G` when `X` is `G` at the block's place. -/
theorem cut5 (X : Vec Ideal S1024x1024 .f32) (G : S4096x1024.Idx → EReal) (h : ∀ y, X y = G ((win0_5.blk t).view.emb y)) :
    (cfg0.win 5).cut (grid0.coords t) X = ((cfg0.win 5).blk t).view.read (Elt Ideal) G :=
  funext fun y => h y

theorem covers5 : (cfg0.win 5).Covers := by decide +kernel

/-- The sum of the input and both mixers' products after the run. -/
theorem sums : (dats m 0 c).arrAt 5 cfg0.N = val_main_v3 (F := Ideal) (a0 m c) (a1 m c) (a2 m c) (a3 m c) := by
  refine (dats m 0 c).arrAt_eq_of_cover 5 _ (fun t _ => ?_) (Pipeline.Window.Covers.cover _ covers5 (Memref.isWhole_whole _))
  rw [flushed5]
  refine cut5 t _ _ fun y => ?_
  rw [emb5]
  exact (congrArg _ (row_col y)).trans (block_eq m c t (y 0) (y 1))

end Cert.OutFIdeal.Final

end
-- ==== Proof.FfnWFinal.lean ====
module

public import proofs.«01_k».proof.Proof.Gen.FfnWIdeal.Value
public import proofs.«01_k».proof.Proof.Gen.FfnWRefIdeal.Read
public import proofs.«01_k».proof.Proof.OutFinal
public import Idealize.ShloMosaic.Lib.Pipeline.ReadBack
public import Idealize.ShloMosaic.Lib.KernelVsHost
public import Idealize.ShloMosaic.Lib.Tactic.CleanTypes

@[expose] public section

noncomputable section

/-! The kernel of the gradients of the feed-forward's two input products: its two arrays after the run are the reference's. -/

namespace Cert.FfnWIdeal.Final

open Cert.FfnWIdeal Cert.FfnWIdeal.Gen Cert.FfnWIdeal.Value Idealize.ShloMosaic Idealize.ShloMosaic.TcCoe Idealize.SL.Sem
open Cert.FfnWRefIdeal.Read Cert.HeadsRow
open Cert.FfnAIdeal.Arr (gr flat_at short_eq)
open Cert.FfnAIdeal.Final (row_col)

/-- A page of matrices. -/
abbrev Pg (a b c : ℕ) := (⟨3, ![a, b, c]⟩ : Shape).Idx → EReal

theorem pay2 (N : Pg 1 1024 1024) (D : M 1024 1408) (f : Fin 1408) (j : Fin 1024) : k0_pay2 (F := Ideal) N D (ix2 f j) = ∑ r, D (ix2 r f) * N (ix3 0 r j) := by
  unfold k0_pay2 k0_pay1; pointwise
theorem pay5 (N : Pg 1 1024 1024) (D : M 1024 1408) (f : Fin 1408) (j : Fin 1024) : k0_pay5 (F := Ideal) N D (ix2 f j) = ∑ r, D (ix2 r f) * N (ix3 0 r j) := by
  unfold k0_pay5 k0_pay1; pointwise
theorem pay3 (N : Pg 1 1024 1024) (D : M 1024 1408) (f : Fin 1408) (j : Fin 1024) : k0_pay3 (F := Ideal) N D (ix2 f j) = k0_pay2 (F := Ideal) N D (ix2 f j) := by
  unfold k0_pay3; pointwise
theorem pay6 (N : Pg 1 1024 1024) (D : M 1024 1408) (f : Fin 1408) (j : Fin 1024) : k0_pay6 (F := Ideal) N D (ix2 f j) = k0_pay5 (F := Ideal) N D (ix2 f j) := by
  unfold k0_pay6; pointwise
theorem pay4 (N : Pg 1 1024 1024) (D : M 1024 1408) (P : M 1408 1024) (f : Fin 1408) (j : Fin 1024) :
    k0_pay4 (F := Ideal) N D P (ix2 f j) = P (ix2 f j) + k0_pay2 (F := Ideal) N D (ix2 f j) := by
  unfold k0_pay4; pointwise
theorem pay7 (N : Pg 1 1024 1024) (D : M 1024 1408) (P : M 1408 1024) (f : Fin 1408) (j : Fin 1024) :
    k0_pay7 (F := Ideal) N D P (ix2 f j) = P (ix2 f j) + k0_pay5 (F := Ideal) N D (ix2 f j) := by
  unfold k0_pay7; pointwise

theorem ref_at (x0 : S2x2048x1024.Idx → EReal) (x1 : S1024.Idx → EReal) (x2 : S2x2048x2816.Idx → EReal) (f : Fin 2816) (j : Fin 1024) :
    val_main_v21 (F := Ideal) x0 x1 x2 (ix2 f j) = ∑ b : Fin 2, ∑ s : Fin 2048, x2 (ix3 b s f) * val_main_v12 (F := Ideal) x0 x1 (ix3 b s j) := by
  refine (show val_main_v21 (F := Ideal) x0 x1 x2 (ix2 f j) = val_main_v15 (F := Ideal) x0 x1 x2 (ix2 f j) from ?_).trans ?_
  · pointwise [val_main_v21, val_main_v20, val_main_v16]
  · unfold val_main_v15
    generalize val_main_v12 (F := Ideal) x0 x1 = y
    pointwise

variable (m : (ℓ : Loc nD τ sig) → Buf (Elt Ideal) ℓ) (c : Dev nD) (t : Fin cfg0.N)

theorem lt8 (t : Fin cfg0.N) : t.val < 8 := t.isLt

/-- A grid point's sequence, the place of a block's row in it, and a column in its half of the columns. -/
abbrev bt (t : Fin cfg0.N) : Fin 2 := ⟨t.val % 4 / 2, by omega⟩
@[inherit_doc bt] abbrev sq (t : Fin cfg0.N) (r : Fin 1024) : Fin 2048 := ⟨t.val % 2 * 1024 + r.val, by omega⟩
@[inherit_doc bt] abbrev cl (t : Fin cfg0.N) (f : Fin 1408) : Fin 2816 := ⟨t.val / 4 * 1408 + f.val, by have := lt8 t; omega⟩

abbrev a0 (c : Dev nD) : S2x2048x1024.Idx → EReal := m ((c.tc : Thread nD τ).loc main_arg0)
abbrev a1 (c : Dev nD) : S1024.Idx → EReal := m ((c.tc : Thread nD τ).loc main_arg1)
abbrev a2 (c : Dev nD) : S2x2048x2816.Idx → EReal := m ((c.tc : Thread nD τ).loc main_arg2)
abbrev a3 (c : Dev nD) : S2x2048x2816.Idx → EReal := m ((c.tc : Thread nD τ).loc main_arg3)

/-- A block's normed input and its two cotangents. -/
abbrev nB : Pg 1 1024 1024 := iblk m c 0 t
@[inherit_doc nB] abbrev gB : M 1024 1408 := iblk m c 1 t
@[inherit_doc nB] abbrev uB : M 1024 1408 := iblk m c 2 t

/-- A point's share of the gate's gradient and of the other's. -/
abbrev shareG (i : Fin 1408 × Fin 1024) : EReal := ∑ r, gB m c t (ix2 r i.1) * nB m c t (ix3 0 r i.2)
@[inherit_doc shareG] abbrev shareU (i : Fin 1408 × Fin 1024) : EReal := ∑ r, uB m c t (ix2 r i.1) * nB m c t (ix3 0 r i.2)

theorem first (h : t.val % 4 = 0) (i : Fin 1408 × Fin 1024) : (outsAt0 m c t.val t.isLt).2.2.1 (ix2 i.1 i.2) = shareG m c t i
    ∧ (outsAt0 m c t.val t.isLt).2.2.2 (ix2 i.1 i.2) = shareU m c t i := by
  rw [outsAt0_A m c t h (by omega) h (by omega) (by omega)]
  constructor <;> frame_out
  · exact (pay3 _ _ _ _).trans (pay2 _ _ _ _)
  · exact (pay6 _ _ _ _).trans (pay5 _ _ _ _)

theorem next (h : ¬t.val % 4 = 0) (i : Fin 1408 × Fin 1024) :
    (outsAt0 m c t.val t.isLt).2.2.1 (ix2 i.1 i.2) = (outsAt0 m c (t.val - 1) (by omega)).2.2.1 (ix2 i.1 i.2) + shareG m c t i
    ∧ (outsAt0 m c t.val t.isLt).2.2.2 (ix2 i.1 i.2) = (outsAt0 m c (t.val - 1) (by omega)).2.2.2 (ix2 i.1 i.2) + shareU m c t i := by
  have put : ∀ P : M 1408 1024, k0_pay4 (F := Ideal) (nB m c t) (gB m c t) P (ix2 i.1 i.2) = P (ix2 i.1 i.2) + shareG m c t i
      ∧ k0_pay7 (F := Ideal) (nB m c t) (uB m c t) P (ix2 i.1 i.2) = P (ix2 i.1 i.2) + shareU m c t i :=
    fun P => ⟨(pay4 _ _ _ _ _).trans (congrArg _ (pay2 _ _ _ _)), (pay7 _ _ _ _ _).trans (congrArg _ (pay5 _ _ _ _))⟩
  by_cases h3 : t.val % 4 = 3
  · rw [outsAt0_C m c t h (by omega) h (by omega) h3]
    constructor <;> frame_out <;> rw [read_unread_whole]
    · exact (put _).1
    · exact (put _).2
  · rw [outsAt0_B m c t h (by omega) h (by omega) h3]
    constructor <;> frame_out <;> rw [read_unread_whole]
    · exact (put _).1
    · exact (put _).2

/-- The last point of a half writes out what it has gathered. -/
theorem written (h : t.val % 4 = 3) (y : S1408x1024.Idx) : (outsAt0 m c t.val t.isLt).1 y = (outsAt0 m c t.val t.isLt).2.2.1 y
    ∧ (outsAt0 m c t.val t.isLt).2.1 y = (outsAt0 m c t.val t.isLt).2.2.2 y := by
  rw [outsAt0_C m c t (by omega) (by omega) (by omega) (by omega) h]
  constructor <;> frame_out <;> rfl

/-- A half's four points. -/
abbrev pt (q : Fin 2) (i : Fin 4) : Fin cfg0.N := ⟨q.val * 4 + i.val, by show _ < 8; omega⟩

theorem four {ι : Type} (f : (n : ℕ) → n < cfg0.N → ι → EReal) (g : Fin cfg0.N → ι → EReal)
    (h0 : ∀ t : Fin cfg0.N, t.val % 4 = 0 → ∀ i, f t.val t.isLt i = g t i)
    (h1 : ∀ t : Fin cfg0.N, ¬t.val % 4 = 0 → ∀ i, f t.val t.isLt i = f (t.val - 1) (by omega) i + g t i)
    (q : Fin 2) (i : ι) : f (pt q 3).val (pt q 3).isLt i = ∑ k : Fin 4, g (pt q k) i := by
  have e0 : f (pt q 0).val (pt q 0).isLt i = g (pt q 0) i := h0 (pt q 0) (by show (q.val * 4 + 0) % 4 = 0; omega) i
  have e1 : f (pt q 1).val (pt q 1).isLt i = f (pt q 0).val (pt q 0).isLt i + g (pt q 1) i := h1 (pt q 1) (by show ¬(q.val * 4 + 1) % 4 = 0; omega) i
  have e2 : f (pt q 2).val (pt q 2).isLt i = f (pt q 1).val (pt q 1).isLt i + g (pt q 2) i := h1 (pt q 2) (by show ¬(q.val * 4 + 2) % 4 = 0; omega) i
  have e3 : f (pt q 3).val (pt q 3).isLt i = f (pt q 2).val (pt q 2).isLt i + g (pt q 3) i := h1 (pt q 3) (by show ¬(q.val * 4 + 3) % 4 = 0; omega) i
  rw [Fin.sum_univ_four, e3, e2, e1, e0]

/-- The rows' copy: the reference's normed input, flat. -/
theorem copies : V m c main_v15 = concatenate S2x4096x1024 0 [⟨S1x4096x1024, shapeCast S1x4096x1024 (val_main_v12 (F := Ideal) (a0 m c) (a1 m c)) shapeCasts_S2x2048x1024_S1x4096x1024⟩,
        ⟨S1x4096x1024, shapeCast S1x4096x1024 (val_main_v12 (F := Ideal) (a0 m c) (a1 m c)) shapeCasts_S2x2048x1024_S1x4096x1024⟩] concatenates_S1x4096x1024_S1x4096x1024_S2x4096x1024_d0 := by
  simp only [V, hostOps0]
  after_results_simp
  refine congrArg (fun z : S1x4096x1024.Idx → EReal => concatenate S2x4096x1024 0 [⟨S1x4096x1024, z⟩, ⟨S1x4096x1024, z⟩] concatenates_S1x4096x1024_S1x4096x1024_S2x4096x1024_d0) ?_
  after_results_simp
  simp only [val_main_v12, val_main_v11, val_main_v10, val_main_v9, val_main_v8, val_main_v7, val_main_v6, val_main_v5, val_main_v4, val_main_v3, val_main_v2, val_main_v1, val_main_v0, val_main_cst, val_main_cst_0, val_main_cst_1]
  rfl

/-- The cotangents, flat. -/
theorem arrays : V m c main_v17 = shapeCast S4096x2816 (a2 m c) shapeCasts_S2x2048x2816_S4096x2816
    ∧ V m c main_v19 = shapeCast S4096x2816 (a3 m c) shapeCasts_S2x2048x2816_S4096x2816 := by
  constructor <;>
  · simp only [V, hostOps0]
    after_results_simp
    rfl

theorem n_at (b : Fin 2) (s : Fin 2048) (j : Fin 1024) : V m c main_v15 (ix3 0 (gr b s) j) = val_main_v12 (F := Ideal) (a0 m c) (a1 m c) (ix3 b s j) := by
  rw [copies]
  generalize val_main_v12 (F := Ideal) (a0 m c) (a1 m c) = y
  refine Eq.trans (b := shapeCast S1x4096x1024 y shapeCasts_S2x2048x1024_S1x4096x1024 (ix3 0 (gr b s) j)) ?_ ?_
  · generalize shapeCast S1x4096x1024 y shapeCasts_S2x2048x1024_S1x4096x1024 = z
    pointwise
  · refine shapeCast_apply y _ _ (ix3 b s j) ?_
    rewrite [Shape.rowMajor_val_three, Shape.rowMajor_val_three]
    show (b.val * 2048 + s.val) * 1024 + j.val = (0 * 4096 + (b.val * 2048 + s.val)) * 1024 + j.val
    omega

theorem idx0 : ∀ t : Fin cfg0.N, win0_0.index t = ![0, t.val % 4, 0] := (by decide +kernel : ∀ t : Fin grid0.N, _)
theorem idx1 : ∀ t : Fin cfg0.N, win0_1.index t = ![t.val % 4, t.val / 4] := (by decide +kernel : ∀ t : Fin grid0.N, _)
theorem idx2 : ∀ t : Fin cfg0.N, win0_2.index t = ![t.val % 4, t.val / 4] := (by decide +kernel : ∀ t : Fin grid0.N, _)
theorem idx3 : ∀ t : Fin cfg0.N, win0_3.index t = ![t.val / 4, 0] := (by decide +kernel : ∀ t : Fin grid0.N, _)
theorem idx4 : ∀ t : Fin cfg0.N, win0_4.index t = ![t.val / 4, 0] := (by decide +kernel : ∀ t : Fin grid0.N, _)

/-- A block's entry sits in its array at the grid point's rows and columns. -/
theorem emb0 (r j : Fin 1024) : (win0_0.blk t).view.emb (ix3 0 r j) = ix3 0 (gr (bt t) (sq t r)) j := by blk_ext [idx0]
theorem emb1 (r : Fin 1024) (f : Fin 1408) : (win0_1.blk t).view.emb (ix2 r f) = ix2 (gr (bt t) (sq t r)) (cl t f) := by blk_ext [idx1]
theorem emb2 (r : Fin 1024) (f : Fin 1408) : (win0_2.blk t).view.emb (ix2 r f) = ix2 (gr (bt t) (sq t r)) (cl t f) := by blk_ext [idx2]
theorem emb3 (y : S1408x1024.Idx) : (win0_3.blk t).view.emb y = ix2 (cl t (y 0)) (y 1) := by blk_ext [idx3]
theorem emb4 (y : S1408x1024.Idx) : (win0_4.blk t).view.emb y = ix2 (cl t (y 0)) (y 1) := by blk_ext [idx4]

theorem nB_at (r j : Fin 1024) : nB m c t (ix3 0 r j) = val_main_v12 (F := Ideal) (a0 m c) (a1 m c) (ix3 (bt t) (sq t r) j) := by
  have hV : ∀ A : Buf (Elt Ideal) ((c.tc : Thread nD τ).loc main_v15),
      ((cfg0.win 0).blk t).view.read (Elt Ideal) A (ix3 0 r j) = A ((win0_0.blk t).view.emb (ix3 0 r j)) := fun A => rfl
  exact (hV (V m c main_v15)).trans ((congrArg _ (emb0 t r j)).trans (n_at m c _ _ j))

theorem gB_at (r : Fin 1024) (f : Fin 1408) : gB m c t (ix2 r f) = a2 m c (ix3 (bt t) (sq t r) (cl t f)) := by
  have hV : ∀ A : Buf (Elt Ideal) ((c.tc : Thread nD τ).loc main_v17),
      ((cfg0.win 1).blk t).view.read (Elt Ideal) A (ix2 r f) = A ((win0_1.blk t).view.emb (ix2 r f)) := fun A => rfl
  exact (hV (V m c main_v17)).trans ((congrArg _ (emb1 t r f)).trans ((congrFun (arrays m c).1 _).trans (flat_at _ _ _ _ _)))

theorem uB_at (r : Fin 1024) (f : Fin 1408) : uB m c t (ix2 r f) = a3 m c (ix3 (bt t) (sq t r) (cl t f)) := by
  have hV : ∀ A : Buf (Elt Ideal) ((c.tc : Thread nD τ).loc main_v19),
      ((cfg0.win 2).blk t).view.read (Elt Ideal) A (ix2 r f) = A ((win0_2.blk t).view.emb (ix2 r f)) := fun A => rfl
  exact (hV (V m c main_v19)).trans ((congrArg _ (emb2 t r f)).trans ((congrFun (arrays m c).2 _).trans (flat_at _ _ _ _ _)))

/-- A half's shares add up to the sum over both sequences' rows. -/
theorem half_sum (q : Fin 2) (F : Fin 2 → Fin 2048 → EReal) : ∑ k : Fin 4, ∑ r : Fin 1024, F (bt (pt q k)) (sq (pt q k) r) = ∑ b : Fin 2, ∑ s : Fin 2048, F b s := by
  rw [← Cert.OutBIdeal.Final.sum_points]
  refine Finset.sum_congr rfl fun k _ => Finset.sum_congr rfl fun r _ => congrArg₂ F (Fin.ext ?_) (Fin.ext ?_)
  · show (q.val * 4 + k.val) % 4 / 2 = k.val / 2
    omega
  · show (q.val * 4 + k.val) % 2 * 1024 + r.val = k.val % 2 * 1024 + r.val
    omega

theorem last_pt (h : t.val % 4 = 3) : ∃ q : Fin 2, t = pt q 3 :=
  ⟨⟨t.val / 4, by have := lt8 t; omega⟩, Fin.ext (by show t.val = t.val / 4 * 4 + 3; omega)⟩

theorem cl_pt (q : Fin 2) (k : Fin 4) (f : Fin 1408) : cl (pt q k) f = cl (pt q 3) f := Fin.ext (by
  show (q.val * 4 + k.val) / 4 * 1408 + f.val = (q.val * 4 + 3) / 4 * 1408 + f.val; omega)

theorem gate_last (h : t.val % 4 = 3) (f : Fin 1408) (j : Fin 1024) : (outsAt0 m c t.val t.isLt).1 (ix2 f j)
    = val_main_v21 (F := Ideal) (a0 m c) (a1 m c) (a2 m c) (ix2 (cl t f) j) := by
  rw [(written m c t h _).1]
  obtain ⟨q, rfl⟩ := last_pt t h
  refine (four (fun n hn (i : Fin 1408 × Fin 1024) => (outsAt0 m c n hn).2.2.1 (ix2 i.1 i.2)) (shareG m c) (fun t h i => (first m c t h i).1)
    (fun t h i => (next m c t h i).1) q (f, j)).trans ?_
  rw [ref_at, ← half_sum q]
  exact Finset.sum_congr rfl fun k _ => Finset.sum_congr rfl fun r _ => by rw [gB_at, nB_at, cl_pt]

theorem up_last (h : t.val % 4 = 3) (f : Fin 1408) (j : Fin 1024) : (outsAt0 m c t.val t.isLt).2.1 (ix2 f j)
    = val_main_v23 (F := Ideal) (a0 m c) (a1 m c) (a3 m c) (ix2 (cl t f) j) := by
  rw [(written m c t h _).2]
  obtain ⟨q, rfl⟩ := last_pt t h
  refine (four (fun n hn (i : Fin 1408 × Fin 1024) => (outsAt0 m c n hn).2.2.2 (ix2 i.1 i.2)) (shareU m c) (fun t h i => (first m c t h i).2)
    (fun t h i => (next m c t h i).2) q (f, j)).trans ?_
  show _ = val_main_v21 (F := Ideal) (a0 m c) (a1 m c) (a3 m c) (ix2 (cl (pt q 3) f) j)
  rw [ref_at, ← half_sum q]
  exact Finset.sum_congr rfl fun k _ => Finset.sum_congr rfl fun r _ => by rw [uB_at, nB_at, cl_pt]

/-- Cutting a point's block out of `X` gives the block of `G` when `X` is `G` at the block's place. -/
theorem cut3 (X : Vec Ideal S1408x1024 .bf16) (G : S2816x1024.Idx → EReal) (h : ∀ y, X y = G ((win0_3.blk t).view.emb y)) :
    (cfg0.win 3).cut (grid0.coords t) X = ((cfg0.win 3).blk t).view.read (Elt Ideal) G :=
  funext fun y => h y
theorem cut4 (X : Vec Ideal S1408x1024 .bf16) (G : S2816x1024.Idx → EReal) (h : ∀ y, X y = G ((win0_4.blk t).view.emb y)) :
    (cfg0.win 4).cut (grid0.coords t) X = ((cfg0.win 4).blk t).view.read (Elt Ideal) G :=
  funext fun y => h y

/-- Every index of a result lies in the block of some grid point that is written back. -/
theorem covers3 : (cfg0.win 3).Covers := by decide +kernel
theorem covers4 : (cfg0.win 4).Covers := by decide +kernel

/-- The two gradients after the run. -/
theorem gates : (dats m 0 c).arrAt 3 cfg0.N = val_main_v21 (F := Ideal) (a0 m c) (a1 m c) (a2 m c) := by
  refine (dats m 0 c).arrAt_eq_of_cover 3 _ (fun t hf => ?_) (Pipeline.Window.Covers.cover _ covers3 (Memref.isWhole_whole _))
  rw [flushed3]
  refine cut3 t _ _ fun y => ?_
  rw [emb3]
  exact (congrArg _ (row_col y)).trans (gate_last m c t ((flush0_3 t).mp hf) (y 0) (y 1))

@[inherit_doc gates] theorem ups : (dats m 0 c).arrAt 4 cfg0.N = val_main_v23 (F := Ideal) (a0 m c) (a1 m c) (a3 m c) := by
  refine (dats m 0 c).arrAt_eq_of_cover 4 _ (fun t hf => ?_) (Pipeline.Window.Covers.cover _ covers4 (Memref.isWhole_whole _))
  rw [flushed4]
  refine cut4 t _ _ fun y => ?_
  rw [emb4]
  exact (congrArg _ (row_col y)).trans (up_last m c t ((flush0_4 t).mp hf) (y 0) (y 1))

end Cert.FfnWIdeal.Final

end
-- ==== Proof.AttnFRun.lean ====
module

public import proofs.«01_k».proof.Proof.Gen.AttnFIdeal.Frame
public import proofs.«01_k».proof.Proof.Gen.AttnFIdeal.Skeleton
public import Idealize.ShloMosaic.Lib.Claim

@[expose] public section

set_option maxRecDepth 16384

noncomputable section

/-! The run of the forward attention. The block of outputs is named at every grid point, by the four stores that cover it;
nothing is said of the block of probabilities, whose part above the diagonal the kernel never stores. -/

namespace Cert.AttnFIdeal.Run

open Cert.AttnFIdeal Cert.AttnFIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligation)

variable {F : FTy → Type} [FloatOps F] [Named F]

/-- The world the assertions speak of. -/
abbrev World (F : FTy → Type) := MT nD τ sig Unit (Elt F) ℕ (UR sig nD τ) ℕ

variable (m : (ℓ : Loc nD τ sig) → Buf (Elt F) ℓ) (ρ : Dev nD → PrngReg)

/-- A memref of one head's block, and of the block of probabilities. -/
abbrev HeadRef := Memref sig .tc .vmem S1x2048x128 .bf16
@[inherit_doc HeadRef] abbrev ProbRef := Memref sig .tc .vmem S1x1x2048x2048 .bf16

/-- A block held whole, at contents nothing is said of. -/
abbrev someBlock {s : Shape} (c : Dev nD) (a : Memref sig .tc .vmem s .bf16) : sProp (World F) := iprop(∃ d, owns (c : Thread nD τ) a fullShare d)

set_option maxHeartbeats 1000000 in
/-- The stores into the output block, found by running the body; the inputs are left as they were. -/
def stores (c : Dev nD) (i : grid0.Coords) (q : HeadRef) (hq : q.IsWhole) (k : HeadRef) (hk : k.IsWhole) (v : HeadRef) (hv : v.IsWhole)
    (o : HeadRef) (ho : o.IsWhole) (p : ProbRef) (hp : p.IsWhole) (x0 x1 x2 : Vec F S1x2048x128 .bf16) :
    { L : List (View.Piece (Elt F) S1x2048x128 .bf16) // ∀ (E : Set ℕ) (K : PUnit → sProp (World F)),
      iprop(owns (c : Thread nD τ) q fullShare x0 ∗ owns (c : Thread nD τ) k fullShare x1 ∗ owns (c : Thread nD τ) v fullShare x2
          ∗ someBlock c o ∗ someBlock c p
          ∗ (iprop(owns (c : Thread nD τ) q fullShare x0 ∗ owns (c : Thread nD τ) k fullShare x1 ∗ owns (c : Thread nD τ) v fullShare x2
            ∗ (∃ f, o.view.loc (c : Thread nD τ) ↦[o.view.set]{fullShare} o.view.writes (Elt F) f L) ∗ someBlock c p) -∗ K ⟨⟩))
        ⊢ wp frame (wpE (defs₀ (F := F)) Variants.none c none) E (cc0_attn_fwd i q hq k hk v hv o ho p hp) K } := by
  refine ⟨?_, fun E K => ?run⟩
  case run =>
    simp only [cc0_attn_fwd_eq_skeleton]; unfold cc0_attn_fwd_skel
    simp only [k0_part1_eq_skeleton, k0_part2_eq_skeleton, k0_part3_eq_skeleton, k0_part4_eq_skeleton]
    unfold someBlock owns
    iintro ⟨⟨%f0, %hf0, H0⟩, ⟨%f1, %hf1, H1⟩, ⟨%f2, %hf2, H2⟩, ⟨%d3, %f3, -, H3⟩, ⟨%d4, %f4, -, H4⟩, Hk⟩
    obtain rfl := hq.eq_unread hf0; obtain rfl := hk.eq_unread hf1; obtain rfl := hv.eq_unread hf2
    sl_exec
    sl_step
    iapply Hk
    isplitl [H0]
    · iexists _; isplitr; · ipureintro; exact hq.read_unread _
      iexact H0
    isplitl [H1]
    · iexists _; isplitr; · ipureintro; exact hk.read_unread _
      iexact H1
    isplitl [H2]
    · iexists _; isplitr; · ipureintro; exact hv.read_unread _
      iexact H2
    isplitl [H3]
    · iexists _; iexact H3
    iexists _, _; isplitr; swap; · iexact H4
    ipureintro; rfl

/-- They cover the block. -/
theorem covered (c : Dev nD) (i : grid0.Coords) (q : HeadRef) (hq : q.IsWhole) (k : HeadRef) (hk : k.IsWhole) (v : HeadRef) (hv : v.IsWhole)
    (o : HeadRef) (ho : o.IsWhole) (p : ProbRef) (hp : p.IsWhole) (x0 x1 x2 : Vec F S1x2048x128 .bf16) (y : S1x2048x128.Idx) :
    ∃ pc ∈ (stores c i q hq k hk v hv o ho p hp x0 x1 x2).1, y ∈ pc.1.set :=
  View.cover_of_tiledL (stores c i q hq k hk v hv o ho p hp x0 x1 x2).1 S1x512x128.size (by sl_kernel_rfl) y

/-- The staging memrefs of a grid point, whole each. -/
abbrev qR (t : Fin cfg0.N) : HeadRef := win0_0.stage (cfg0.slots t 0)
@[inherit_doc qR] abbrev kR (t : Fin cfg0.N) : HeadRef := win0_1.stage (cfg0.slots t 1)
@[inherit_doc qR] abbrev vR (t : Fin cfg0.N) : HeadRef := win0_2.stage (cfg0.slots t 2)
@[inherit_doc qR] abbrev oR (t : Fin cfg0.N) : HeadRef := win0_3.stage (cfg0.slots t 3)
@[inherit_doc qR] abbrev pR (t : Fin cfg0.N) : ProbRef := win0_4.stage (cfg0.slots t 4)
theorem qW (t : Fin cfg0.N) : (qR t).IsWhole := hstage0_0 ((cfg0.slots t 0).cast nbuf0_0)
theorem kW (t : Fin cfg0.N) : (kR t).IsWhole := hstage0_1 ((cfg0.slots t 1).cast nbuf0_1)
theorem vW (t : Fin cfg0.N) : (vR t).IsWhole := hstage0_2 ((cfg0.slots t 2).cast nbuf0_2)
theorem oW (t : Fin cfg0.N) : (oR t).IsWhole := hstage0_3 ((cfg0.slots t 3).cast nbuf0_3)
theorem pW (t : Fin cfg0.N) : (pR t).IsWhole := hstage0_4 ((cfg0.slots t 4).cast nbuf0_4)

/-- The stores of a grid point, -/
def storesAt (c : Dev nD) (t : Fin cfg0.N) :=
  stores c (grid0.coords t) (qR t) (qW t) (kR t) (kW t) (vR t) (vW t) (oR t) (oW t) (pR t) (pW t) (iblk m c 0 t) (iblk m c 1 t) (iblk m c 2 t)

/-- what they leave in the output block, -/
def outBlock (c : Dev nD) (t : Fin cfg0.N) : Vec F S1x2048x128 .bf16 := View.canon (storesAt m c t).1

/-- and how the block reads back, whatever it held. -/
theorem read_stores (c : Dev nD) (t : Fin cfg0.N) (f) : (oR t).view.read (Elt F) ((oR t).view.writes (Elt F) f (storesAt m c t).1) = outBlock m c t :=
  View.read_writes_eq_canon _ _ _ (covered c _ _ _ _ _ _ _ _ _ _ _ _ _ _)

/-- Only the probabilities are forgotten. -/
def forgets : Fin 5 → Bool := fun w => w.val == 4

/-- What is said of the arrays, of the blocks after each grid point, and of what the points share. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => outBlock m c t
    | ⟨4, h⟩ => Pipeline.Dat.unnamed (cfg := cfg0) ⟨4, h⟩ t
  Φ _ := Pipeline.ΦA spec0 c
  q _ := fullShare
  owed _ := 0

theorem arrays (c : Dev nD) (w : Fin cfg0.W) : (dats m 0 c).A w = V m c (Pipeline.arrRef spec0 w) := by dsimp only [dats]
theorem after_q (c : Dev nD) (t : Fin cfg0.N) : (dats m 0 c).after 0 t = iblk m c 0 t := by dsimp only [dats]
theorem after_k (c : Dev nD) (t : Fin cfg0.N) : (dats m 0 c).after 1 t = iblk m c 1 t := by dsimp only [dats]
theorem after_v (c : Dev nD) (t : Fin cfg0.N) : (dats m 0 c).after 2 t = iblk m c 2 t := by dsimp only [dats]
theorem after_o (c : Dev nD) (t : Fin cfg0.N) : (dats m 0 c).after 3 t = outBlock m c t := by dsimp only [dats]

/-- What the body is called with, -/
def entry (c : Dev nD) (t : Fin cfg0.N) : sProp (World F) :=
  iprop((dats m 0 c).Φ t.castSucc ∗ (dats m 0 c).owesAt () t.castSucc
    ∗ (∃ d, owns (c : Thread nD τ) (qR t) fullShare ((dats m 0 c).before 0 t d))
    ∗ (∃ d, owns (c : Thread nD τ) (kR t) fullShare ((dats m 0 c).before 1 t d))
    ∗ (∃ d, owns (c : Thread nD τ) (vR t) fullShare ((dats m 0 c).before 2 t d))
    ∗ (∃ d, owns (c : Thread nD τ) (oR t) fullShare ((dats m 0 c).before 3 t d))
    ∗ someBlock c (pR t))

/-- and what it returns. -/
def exit (c : Dev nD) (t : Fin cfg0.N) : sProp (World F) :=
  iprop((dats m 0 c).Φ t.succ ∗ (dats m 0 c).owesAt () t.succ
    ∗ owns (c : Thread nD τ) (qR t) fullShare ((dats m 0 c).after 0 t)
    ∗ owns (c : Thread nD τ) (kR t) fullShare ((dats m 0 c).after 1 t)
    ∗ owns (c : Thread nD τ) (vR t) fullShare ((dats m 0 c).after 2 t)
    ∗ owns (c : Thread nD τ) (oR t) fullShare ((dats m 0 c).after 3 t)
    ∗ someBlock c (pR t))

/-- The body takes the one to the other. -/
theorem body_at (c : Dev nD) (t : Fin cfg0.N) :
    entry m c t ⊢ wp frame (wpE (defs₀ (F := F)) Variants.none c none) Set.univ (bodyAt0 t) (fun _ => exit m c t) := by
  unfold entry exit bodyAt0
  simp only [before0_0_of m (dats m 0 c) (arrays m c 0) (after_q m c) t, before0_1_of m (dats m 0 c) (arrays m c 1) (after_k m c) t,
    before0_2_of m (dats m 0 c) (arrays m c 2) (after_v m c) t]
  rw [show (dats m 0 c).Φ t.succ = (dats m 0 c).Φ t.castSucc from rfl,
    show (dats m 0 c).owesAt () t.succ = (dats m 0 c).owesAt () t.castSucc from rfl, after_q, after_k, after_v, after_o]
  iintro ⟨HΦ, Ho, ⟨%d0, H0⟩, ⟨%d1, H1⟩, ⟨%d2, H2⟩, ⟨%d3, H3⟩, H4⟩
  iapply ((storesAt m c t).2 Set.univ _)
  isplitl [H0]; · iexact H0
  isplitl [H1]; · iexact H1
  isplitl [H2]; · iexact H2
  isplitl [H3]; · iexists _; iexact H3
  isplitl [H4]; · iexact H4
  iintro ⟨H0, H1, H2, ⟨%f, H3⟩, H4⟩
  isplitl [HΦ]; · iexact HΦ
  isplitl [Ho]; · iexact Ho
  isplitl [H0]; · iexact H0
  isplitl [H1]; · iexact H1
  isplitl [H2]; · iexact H2
  isplitl [H3]
  · unfold owns
    iexists _; isplitr; swap; · iexact H3
    ipureintro; exact read_stores m c t f
  iexact H4

/-- The same as the pipeline asks for it. -/
theorem obligation (c : Dev nD) : BodyObligation (dats (F := F) m 0 c) (defs₀ (F := F)) Variants.none () Set.univ forgets := fun t => by
  rw [bigSep_W0, bigSep_W0, show defs₀ (F := F) .tc cfg0.body (cfg0.bodyArgs t (cfg0.slots t)) = bodyAt0 t by unfold defs₀; rw [Defs.onTc_tc]]
  exact triple_restated (body_at m c t) rfl .rfl fun _ => .rfl

/-- What a run ends with: the arrays as the stores leave them, save the probabilities'. -/
abbrev Ends (r : PUnit × MemSt nD τ sig (Elt F)) : Prop := Pipeline.RDat.FramePost (cfgs 0) (fun c => (dats m 0 c).toRForget forgets) (V m) r

set_option backward.isDefEq.respectTransparency.types false in
/-- Every run ends so, with every counter at zero. -/
theorem run : θ_run defs (onTc (τ := τ) (main (F := F))) (s₀ m ρ) (fun r => Ends m r ∧ r.2.sem = fun _ => 0) :=
  Pipeline.θ_run_frame_forget (Q' := _) cfgs (dats m) (0 : Fin 1) launch0 defs₀ Variants.none forgets m ρ main
    (hbody := fun c => (obligation m c).loose) (hshare := fun c => (dats m 0 c).share_full fun _ => rfl)
    (howed := fun _ _ => rfl) (V := V m) (hmain := hmain m Variants.none) (hA := arrays m) (hΦ := fun _ _ => rfl)

/-- The output array at the end. -/
theorem output {r : PUnit × MemSt nD τ sig (Elt F)} (h : Ends m r) (c : Dev nD) :
    r.2.mem ((cfg0.spec 3).arr.view.loc (c : Thread nD τ)) = (dats m 0 c).arrAt 3 cfg0.N :=
  (Dat.toRForget_arrAt_iff (dat := dats m 0 c) (fgt := forgets) (w := 3) rfl cfg0.N _).1 ((h c).1 3)

/-- The arguments at the end. -/
theorem arguments {r : PUnit × MemSt nD τ sig (Elt F)} (h : Ends m r) (c : Dev nD) :
    r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  ⟨((h c).2 main_arg0 (Pipeline.mem_restRefs_of main_arg0 (by decide) (by decide))).trans (V_main_arg0 m c),
    ((h c).2 main_arg1 (Pipeline.mem_restRefs_of main_arg1 (by decide) (by decide))).trans (V_main_arg1 m c),
    ((h c).2 main_arg2 (Pipeline.mem_restRefs_of main_arg2 (by decide) (by decide))).trans (V_main_arg2 m c)⟩

end Cert.AttnFIdeal.Run

end
-- ==== Proof.AttnFWord.lean ====
module

public import proofs.«01_k».proof.Proof.AttnFRun
public import proofs.«01_k».proof.Defs
public import proofs.«01_k».proof.Proof.Gen.AttnF

@[expose] public section

noncomputable section

/-! The forward attention at the machine's words is the program with the mask named, the name read as the word itself. -/

namespace Cert.AttnF.Word

open Idealize.ShloMosaic Idealize.SL.Sem

/-- A named constant read as its word. -/
local instance : Named Bits where
  named _ _ {φ} b := FloatOps.ofBits φ b

/-- From any memory and generator the program with the mask named keeps its arguments and leaves every counter at zero. -/
def Keeps : Prop := ∀ (m : (ℓ : Loc Cert.AttnFIdeal.nD Cert.AttnFIdeal.τ Cert.AttnFIdeal.sig) → Buf (Elt Bits) ℓ) (g : Dev Cert.AttnFIdeal.nD → PrngReg), True →
    θ_run (Cert.AttnFIdeal.defs (F := Bits)) (onTc (τ := Cert.AttnFIdeal.τ) (Cert.AttnFIdeal.main (F := Bits))) ⟨m, fun _ => 0, g⟩
      (fun r => (∀ c : Dev Cert.AttnFIdeal.nD,
        r.2.mem ((c.tc : Thread Cert.AttnFIdeal.nD Cert.AttnFIdeal.τ).loc Cert.AttnFIdeal.main_arg0) = m ((c.tc : Thread Cert.AttnFIdeal.nD Cert.AttnFIdeal.τ).loc Cert.AttnFIdeal.main_arg0)
        ∧ r.2.mem ((c.tc : Thread Cert.AttnFIdeal.nD Cert.AttnFIdeal.τ).loc Cert.AttnFIdeal.main_arg1) = m ((c.tc : Thread Cert.AttnFIdeal.nD Cert.AttnFIdeal.τ).loc Cert.AttnFIdeal.main_arg1)
        ∧ r.2.mem ((c.tc : Thread Cert.AttnFIdeal.nD Cert.AttnFIdeal.τ).loc Cert.AttnFIdeal.main_arg2) = m ((c.tc : Thread Cert.AttnFIdeal.nD Cert.AttnFIdeal.τ).loc Cert.AttnFIdeal.main_arg2))
        ∧ r.2.sem = fun _ => 0)

theorem keeps : Keeps := fun m g _ => (θ_run _ _ _).mono (fun r h => ⟨Cert.AttnFIdeal.Run.arguments m h.1, h.2⟩) (Cert.AttnFIdeal.Run.run m g)

/-- The two say the same. -/
theorem same : Keeps = Cert.quiescent_AttnF (hAttnF := Cert.AttnF.Gen.facts) := by
  sl_kernel_rfl

theorem runs : Cert.quiescent_AttnF (hAttnF := Cert.AttnF.Gen.facts) := same ▸ keeps

end Cert.AttnF.Word

end
-- ==== Proof.SoftMath.lean ====
module

public import Idealize.ShloMosaic.Lib.Pointwise

@[expose] public section

noncomputable section

/-! The extended-real algebra of one row of a softmax and of its gradient, with no program in sight. -/

namespace Cert.SoftMath

open Idealize.ShloMosaic

variable {n : ℕ}

/-- A real number among the extended reals. -/
def IsReal (x : EReal) : Prop := ∃ a : ℝ, x = (a : EReal)

theorem IsReal.mul {x y : EReal} (hx : IsReal x) (hy : IsReal y) : IsReal (x * y) := by
  obtain ⟨a, rfl⟩ := hx; obtain ⟨b, rfl⟩ := hy; exact ⟨a * b, (EReal.coe_mul a b).symm⟩

theorem IsReal.add {x y : EReal} (hx : IsReal x) (hy : IsReal y) : IsReal (x + y) := by
  obtain ⟨a, rfl⟩ := hx; obtain ⟨b, rfl⟩ := hy; exact ⟨a + b, (EReal.coe_add a b).symm⟩

theorem IsReal.sum (f : Fin n → EReal) (hf : ∀ x, IsReal (f x)) : IsReal (∑ x, f x) :=
  Finset.sum_induction _ IsReal (fun _ _ => IsReal.add) ⟨0, rfl⟩ fun x _ => hf x

theorem IsReal.of_lt {x : EReal} (h₁ : ⊥ < x) (h₂ : x < ⊤) : IsReal x :=
  ⟨x.toReal, (EReal.coe_toReal h₂.ne h₁.ne').symm⟩

theorem IsReal.bot_lt {x : EReal} (h : IsReal x) : ⊥ < x := by obtain ⟨a, rfl⟩ := h; exact EReal.bot_lt_coe a
theorem IsReal.lt_top {x : EReal} (h : IsReal x) : x < ⊤ := by obtain ⟨a, rfl⟩ := h; exact EReal.coe_lt_top a

/-- A nonnegative real factor goes into a finite sum, whatever the terms are. -/
theorem mul_sum (c : ℝ) (hc : 0 ≤ c) (f : Fin n → EReal) : (c : EReal) * ∑ x, f x = ∑ x, (c : EReal) * f x :=
  map_sum (⟨⟨fun y : EReal => (c : EReal) * y, mul_zero _⟩,
    fun a b => EReal.left_distrib_of_nonneg_of_ne_top (EReal.coe_nonneg.2 hc) (EReal.coe_ne_top c) a b⟩ : EReal →+ EReal) f Finset.univ

/-- What a softmax's row is made of: exponentials of scores that are reals or the least element, less a real maximum. -/
structure Row (E : Fin n → EReal) (Z : EReal) (c : ℝ) : Prop where
  nonneg : 0 ≤ c
  div_eq : ∀ x, Ideal.div x Z = x * c
  div_sq : Ideal.div 1 (Z * Z) = (c * c : ℝ)

/-- Exponentials of scores below top less a real are reals from zero on, and their sum is positive once one score is a
real; then dividing by the sum is multiplying by a nonnegative real. -/
theorem row_of_scores (s : Fin n → EReal) (M : EReal) (hM : IsReal M) (hs : ∀ k, s k < ⊤) (k₀ : Fin n) (h₀ : IsReal (s k₀)) :
    ∃ c : ℝ, Row (fun k => Ideal.exp (s k - M)) (∑ k, Ideal.exp (s k - M)) c := by
  obtain ⟨M, rfl⟩ := hM
  have he : ∀ k, ∃ a : ℝ, 0 ≤ a ∧ Ideal.exp (s k - (M : EReal)) = (a : EReal) := fun k => by
    rcases eq_or_ne (s k) ⊥ with hb | hb
    · exact ⟨0, le_refl _, by rw [hb, EReal.bot_sub]; rfl⟩
    · obtain ⟨a, ha⟩ := IsReal.of_lt (bot_lt_iff_ne_bot.2 hb) (hs k)
      exact ⟨Real.exp (a - M), (Real.exp_pos _).le, by rw [ha, ← EReal.coe_sub]; rfl⟩
  choose a ha using he
  have hpos : 0 < a k₀ := by
    obtain ⟨b, hb⟩ := h₀
    have h := (ha k₀).2
    rw [hb, ← EReal.coe_sub] at h
    have h' : Real.exp (b - M) = a k₀ := EReal.coe_injective h
    rw [← h']; exact Real.exp_pos _
  have hsum : ∑ k, Ideal.exp (s k - (M : EReal)) = ((∑ k, a k : ℝ) : EReal) := by
    rw [Finset.sum_congr rfl fun k _ => (ha k).2]
    exact (map_sum (⟨⟨fun y : ℝ => (y : EReal), EReal.coe_zero⟩, EReal.coe_add⟩ : ℝ →+ EReal) a Finset.univ).symm
  have hZ : 0 < ∑ k, a k := Finset.sum_pos' (fun k _ => (ha k).1) ⟨k₀, Finset.mem_univ _, hpos⟩
  have hne : ((∑ k, a k : ℝ) : EReal) ≠ 0 := EReal.coe_ne_zero.2 hZ.ne'
  refine ⟨(∑ k, a k)⁻¹, inv_nonneg.2 hZ.le, fun x => ?_, ?_⟩
  · rw [hsum]; unfold Ideal.div; rw [if_neg hne, EReal.coe_inv]
  · rw [hsum, ← EReal.coe_mul]; unfold Ideal.div
    rw [if_neg (EReal.coe_ne_zero.2 (mul_pos hZ hZ).ne'), one_mul, ← EReal.coe_inv, mul_inv]

/-- The softmax's gradient as differentiation writes it — through the quotient and the sum of the exponentials — is the
gradient written with the probabilities themselves. -/
theorem grad_row {E : Fin n → EReal} {Z : EReal} {c : ℝ} (h : Row E Z c) (d : Fin n → EReal) (k : Fin n) :
    (Ideal.div (d k) Z + -(∑ x, d x * Ideal.div 1 (Z * Z) * E x)) * E k
      = Ideal.div (E k) Z * (d k - ∑ x, Ideal.div (E x) Z * d x) := by
  have hc : (0 : EReal) ≤ c := EReal.coe_nonneg.2 h.nonneg
  have e : ∑ x, d x * Ideal.div 1 (Z * Z) * E x = c * ∑ x, Ideal.div (E x) Z * d x := by
    rw [mul_sum c h.nonneg]
    refine Finset.sum_congr rfl fun x _ => ?_
    rw [h.div_sq, h.div_eq, EReal.coe_mul]; ac_rfl
  rw [e, h.div_eq, h.div_eq, ← mul_neg, mul_comm (d k), ← EReal.left_distrib_of_nonneg_of_ne_top hc (EReal.coe_ne_top c),
    ← sub_eq_add_neg]
  ac_rfl

/-- A sum whose terms vanish from `n` on is the sum of its first `n` terms. -/
theorem sum_head {N : ℕ} (hn : n ≤ N) (f : Fin N → EReal) (hf : ∀ x : Fin N, n ≤ x.val → f x = 0) :
    ∑ x, f x = ∑ x : Fin n, f ⟨x.val, x.isLt.trans_le hn⟩ := by
  refine (Finset.sum_of_injOn (fun x : Fin n => (⟨x.val, x.isLt.trans_le hn⟩ : Fin N)) ?_ ?_ ?_ ?_).symm
  · intro a _ b _ h; exact Fin.ext (Fin.mk.inj h)
  · intro a _; exact Finset.mem_coe.2 (Finset.mem_univ _)
  · intro k _ hk
    exact hf k (Nat.le_of_not_lt fun h => hk ⟨⟨k.val, h⟩, Finset.mem_coe.2 (Finset.mem_univ _), rfl⟩)
  · intro a _; rfl

end Cert.SoftMath

end
-- ==== Proof.Attend.lean ====
module

public import proofs.«01_k».proof.Proof.SoftMath

@[expose] public section

noncomputable section

/-! One row of attention on the extended reals, with no program in sight. -/

namespace Cert.SoftMath

open Idealize.ShloMosaic

variable {n : ℕ}

/-- One row of attention: the softmax of the scores, weighing the values. -/
def attend (s v : Fin n → EReal) : EReal :=
  ∑ k, Ideal.exp (s k - Finset.fold max ⊥ s Finset.univ) * Ideal.div 1 (∑ k', Ideal.exp (s k' - Finset.fold max ⊥ s Finset.univ)) * v k

/-- A row whose scores are the least element from `n` on attends to its first `n` keys only. -/
theorem attend_cut {N : ℕ} (hn : n ≤ N) (s v : Fin N → EReal) (hs : ∀ k : Fin N, n ≤ k.val → s k = ⊥) :
    attend (fun k : Fin n => s ⟨k.val, k.isLt.trans_le hn⟩) (fun k : Fin n => v ⟨k.val, k.isLt.trans_le hn⟩) = attend s v := by
  have hM : Finset.fold max ⊥ (fun k : Fin n => s ⟨k.val, k.isLt.trans_le hn⟩) Finset.univ = Finset.fold max ⊥ s Finset.univ := by
    refine le_antisymm ((Finset.fold_max_le _).2 ⟨bot_le, fun k _ => (Finset.le_fold_max _).2 (.inr ⟨_, Finset.mem_univ _, le_refl _⟩)⟩)
      ((Finset.fold_max_le _).2 ⟨bot_le, fun k _ => ?_⟩)
    rcases Nat.lt_or_ge k.val n with hk | hk
    · exact (Finset.le_fold_max _).2 (.inr ⟨⟨k.val, hk⟩, Finset.mem_univ _, le_refl _⟩)
    · rw [hs k hk]; exact bot_le
  have he : ∀ k : Fin N, n ≤ k.val → Ideal.exp (s k - Finset.fold max ⊥ s Finset.univ) = 0 := fun k hk => by
    rw [hs k hk, EReal.bot_sub]; rfl
  unfold attend
  rw [hM, sum_head hn (fun k => Ideal.exp (s k - Finset.fold max ⊥ s Finset.univ)) he,
    sum_head hn (fun k => _ * _ * v k) fun k hk => by rw [he k hk, zero_mul, zero_mul]]

/-- Scores below the top, one of them a real: the softmax's quotients weigh the values the same way. -/
theorem attend_of_scores (s v : Fin n → EReal) (hs : ∀ k, s k < ⊤) (k₀ : Fin n) (h₀ : IsReal (s k₀)) :
    ∑ k, v k * Ideal.div (Ideal.exp (s k - Finset.fold max ⊥ s Finset.univ)) (∑ k', Ideal.exp (s k' - Finset.fold max ⊥ s Finset.univ))
      = attend s v := by
  have hM : IsReal (Finset.fold max ⊥ s Finset.univ) :=
    IsReal.of_lt ((Finset.lt_fold_max _).2 (.inr ⟨k₀, Finset.mem_univ _, h₀.bot_lt⟩)) ((Finset.fold_max_lt _).2 ⟨bot_lt_top, fun k _ => hs k⟩)
  obtain ⟨c, hc⟩ := row_of_scores s _ hM hs k₀ h₀
  unfold attend
  refine Finset.sum_congr rfl fun k _ => ?_
  rw [hc.div_eq, hc.div_eq, one_mul, mul_comm]

/-- Nothing comes of values that are all zero. -/
theorem attend_zero (s : Fin n → EReal) : attend s (fun _ => 0) = 0 := by
  unfold attend
  simp only [mul_zero, Finset.sum_const_zero]

end Cert.SoftMath

end
-- ==== Proof.Quarters.lean ====
module

public import Idealize.ShloMosaic.Lib.Pointwise
public import Idealize.ShloMosaic.Lib.Pipeline.ValueKit.Geometry
public import Idealize.ShloMosaic.Lib.Pipeline.Value

@[expose] public section

noncomputable section

/-! One head's block of 2048 rows written in four stores of 512 rows each. -/

namespace Cert.Quarters

open Idealize.ShloMosaic

/-- One head's block, and 512 rows of it. -/
abbrev Block : Shape := ⟨3, ![1, 2048, 128]⟩
@[inherit_doc Block] abbrev Quarter : Shape := ⟨3, ![1, 512, 128]⟩

/-- 512 rows from `o` on lie in the block. -/
theorem inb (o : ℕ) (ho : o + 512 ≤ 2048) : ∀ a, (![0, o, 0] : Fin 3 → ℕ) a + (![1, 512, 128] : Fin 3 → ℕ) a ≤ Block.size a := fun a => by
  fin_cases a
  · exact le_refl 1
  · exact ho
  · exact le_refl 128

/-- Four stores of 512 rows each that agree with one function leave that function. -/
theorem canon_quarters {t : EltTy} (G : Block.Idx → Elt Ideal t) (w0 w1 w2 w3 : Vec Ideal Quarter t)
    (h0 : ∀ (r : Fin 512) (e : Fin 128), w0 (ix3 0 r e) = G (ix3 0 ⟨0 + r.val, by omega⟩ e))
    (h1 : ∀ (r : Fin 512) (e : Fin 128), w1 (ix3 0 r e) = G (ix3 0 ⟨512 + r.val, by omega⟩ e))
    (h2 : ∀ (r : Fin 512) (e : Fin 128), w2 (ix3 0 r e) = G (ix3 0 ⟨1024 + r.val, by omega⟩ e))
    (h3 : ∀ (r : Fin 512) (e : Fin 128), w3 (ix3 0 r e) = G (ix3 0 ⟨1536 + r.val, by omega⟩ e)) :
    View.canon (Val := Elt Ideal) (e := t)
      [⟨Rect.unit ![0, 1536, 0] ![1, 512, 128] (inb 1536 (by decide)), w3⟩,
        ⟨Rect.unit ![0, 1024, 0] ![1, 512, 128] (inb 1024 (by decide)), w2⟩,
        ⟨Rect.unit ![0, 512, 0] ![1, 512, 128] (inb 512 (by decide)), w1⟩,
        ⟨Rect.unit ![0, 0, 0] ![1, 512, 128] (inb 0 (by decide)), w0⟩] = G := by
  have one : ∀ (o : ℕ) (ho : ∀ a, (![0, o, 0] : Fin 3 → ℕ) a + ![1, 512, 128] a ≤ Block.size a) (hb : ∀ r : Fin 512, o + r.val < 2048) (w : Vec Ideal Quarter t),
      (∀ (r : Fin 512) (e : Fin 128), w (ix3 0 r e) = G (ix3 0 ⟨o + r.val, hb r⟩ e)) →
      ∀ x : (Rect.unit (s := Block) ![0, o, 0] ![1, 512, 128] ho).shape.Idx, w x = G ((Rect.unit (s := Block) ![0, o, 0] ![1, 512, 128] ho).emb x) := by
    intro o ho hb w h x
    have hx : x = ix3 (n0 := 1) (n1 := 512) (n2 := 128) 0 (x 1) (x 2) := by
      funext a; fin_cases a
      · exact Subsingleton.elim (α := Fin 1) _ _
      · rfl
      · rfl
    refine (congrArg w hx).trans ((h _ _).trans (congrArg G ?_))
    funext a; refine Fin.ext ?_
    rw [Idealize.ShloMosaic.ValueKit.rect_emb_unit_val]
    fin_cases a
    · exact (Nat.lt_one_iff.1 (x 0).isLt).symm.trans (Nat.zero_add _).symm
    · rfl
    · exact (Nat.zero_add _).symm
  funext y
  refine View.canon_apply_of_pieces (Val := Elt Ideal) (e := t) G _ ?_ y ?_
  · simp only [List.forall_mem_cons, List.not_mem_nil, false_imp_iff, implies_true, and_true]
    exact ⟨one 1536 _ _ w3 h3, one 1024 _ _ w2 h2, one 512 _ _ w1 h1, one 0 _ _ w0 h0⟩
  · have hy : (y 1).val < 2048 := (y 1).isLt
    have mem : ∀ (o : ℕ) (ho : ∀ a, (![0, o, 0] : Fin 3 → ℕ) a + ![1, 512, 128] a ≤ Block.size a), o ≤ (y 1).val → (y 1).val < o + 512 →
        y ∈ (Rect.unit (s := Block) ![0, o, 0] ![1, 512, 128] ho).set := fun o ho h1 h2 => Rect.mem_set_unit.2 fun (a : Fin 3) => by
      fin_cases a
      · exact ⟨Nat.zero_le _, (y 0).isLt⟩
      · exact ⟨h1, h2⟩
      · exact ⟨Nat.zero_le _, (Nat.zero_add 128).symm ▸ (y 2).isLt⟩
    simp only [List.exists_mem_cons_iff, List.not_mem_nil, false_and, exists_false, or_false]
    rcases Nat.lt_or_ge (y 1).val 512 with h | h
    · exact .inr (.inr (.inr (mem 0 _ (Nat.zero_le _) (by omega))))
    rcases Nat.lt_or_ge (y 1).val 1024 with h' | h'
    · exact .inr (.inr (.inl (mem 512 _ h (by omega))))
    rcases Nat.lt_or_ge (y 1).val 1536 with h'' | h''
    · exact .inr (.inl (mem 1024 _ h' (by omega)))
    · exact .inl (mem 1536 _ h'' (by omega))

end Cert.Quarters

end
-- ==== Proof.AttnFBlock.lean ====
module

public import proofs.«01_k».proof.Proof.AttnFRun
public import Idealize.ShloMosaic.Lib.Pointwise
public import Idealize.ShloMosaic.Lib.WordCmp
public import Idealize.ShloMosaic.Lib.Pipeline.ValueKit.Geometry
public import proofs.«01_k».proof.Proof.Attend
public import proofs.«01_k».proof.Proof.Quarters

@[expose] public section

noncomputable section

/-! What one grid point of the forward attention leaves in its block of outputs. The kernel works on four blocks of 512
queries and, for each, on the keys up to the block's end; the keys left out have the least score and so no weight. -/

namespace Cert.AttnFIdeal.Block

open Cert.AttnFIdeal Cert.AttnFIdeal.Gen Idealize.ShloMosaic Idealize.ShloMosaic.TcCoe Idealize.SL.Sem Cert.SoftMath

/-- A block of one head: queries, keys or values. -/
abbrev Head := S1x2048x128.Idx → EReal

/-- The word of the scale. -/
abbrev sc : EReal := Ideal.ofBits .f32 0x3DD105EC#32

variable {n : ℕ}

/-- A matrix of `n` columns for a block of 512 queries. -/
abbrev Mat (n : ℕ) : Shape := ⟨2, ![512, n]⟩

theorem bot_word : Ideal.ofBits .f32 0xFF800000#32 = ⊥ := by simp [Ideal.ofBits, Ideal.ieee]

/-- The softmax of a block's rows as the kernel computes it. -/
def soft (hr : (Mat n).Reduces [1] S512) (hb : S512x1.Broadcasts (Mat n)) (s : FVec Ideal (Mat n) .f32) : FVec Ideal (Mat n) .bf16 :=
  have e : FVec Ideal (Mat n) .f32 := exp (subf s (broadcastTo (Mat n)
    (shapeCast S512x1 (multiReduction .maximumf [1] S512 s 0xFF800000#32 hr (.inl rfl) rfl) shapeCasts_S512_S512x1) hb))
  truncf .bf16 (mulf e (broadcastTo (Mat n) (divf (broadcast S512x1 (Scalar.ofBits (F := Ideal) .f32 0x3F800000#32))
    (shapeCast S512x1 (multiReduction .add [1] S512 e 0x00000000#32 hr (.inl rfl) rfl) shapeCasts_S512_S512x1)) hb)) bitsLt_bf16_f32

theorem soft_at (hr : (Mat n).Reduces [1] S512) (hb : S512x1.Broadcasts (Mat n)) (s : FVec Ideal (Mat n) .f32) (r : Fin 512) (k : Fin n) :
    soft hr hb s (ix2 r k) = Ideal.exp (s (ix2 r k) - Finset.fold max ⊥ (fun k => s (ix2 r k)) Finset.univ)
      * Ideal.div 1 (∑ k', Ideal.exp (s (ix2 r k') - Finset.fold max ⊥ (fun k => s (ix2 r k)) Finset.univ)) := by
  unfold soft
  pointwise []
  rw [bot_word]

/-- The mask: the lower triangle kept, the rest the least element. -/
def tri (s : FVec Ideal S512x512 .f32) : FVec Ideal S512x512 .f32 :=
  select (cmpi .sle (iota .tc S512x512 32 [1] iota_S512x512_d1_w32) (iota .tc S512x512 32 [0] iota_S512x512_d0_w32)) s
    (broadcast S512x512 (Named.named (F := Ideal) κ "mask" 0xF149F2CA#32))

theorem tri_at (s : FVec Ideal S512x512 .f32) (r k : Fin 512) : tri s (ix2 r k) = if k ≤ r then s (ix2 r k) else ⊥ := by
  have e : tri s (ix2 r k) = Scalar.select (IntOp.cmpi .sle (BitVec.ofNat 32 k.val) (BitVec.ofNat 32 r.val)) (s (ix2 r k))
      (Named.named (F := Ideal) κ "mask" 0xF149F2CA#32) := by
    unfold tri
    pointwise []
  rw [e, IdealRules.named_const.ideal_named_scalar κ "mask" _ ⊥ rfl, WordCmp.cmpi_sle_ofNat (by omega) (by omega), WordCmp.select_ofBool]
  simp only [decide_eq_true_eq, Fin.le_def]

/-- The scores with the last 512 columns masked. -/
def joined (o : ℕ) (s : FVec Ideal (Mat n) .f32) (h0 : Shape.Slices (Mat n) ![0, 0] (Mat o)) (h1 : Shape.Slices (Mat n) ![0, o] S512x512)
    (hc : Shape.Concatenates [Mat o, S512x512] (Mat n) 1) : FVec Ideal (Mat n) .f32 :=
  concatenate (Mat n) 1 [⟨Mat o, extractStridedSlice (Mat o) ![0, 0] s h0⟩, ⟨S512x512, tri (extractStridedSlice S512x512 ![0, o] s h1)⟩] hc

theorem joined_at (o : ℕ) (ho : n = o + 512) (s : FVec Ideal (Mat n) .f32) (h0 : Shape.Slices (Mat n) ![0, 0] (Mat o)) (h1 : Shape.Slices (Mat n) ![0, o] S512x512)
    (hc : Shape.Concatenates [Mat o, S512x512] (Mat n) 1) (r : Fin 512) (k : Fin n) :
    joined o s h0 h1 hc (ix2 r k) = if k.val ≤ o + r.val then s (ix2 r k) else ⊥ := by
  unfold joined
  pointwise []
  split
  · rename_i hk
    rw [if_pos (by omega)]
    exact congrArg s (funext fun a => Fin.ext (by fin_cases a <;> exact Nat.zero_add _))
  · rename_i hk
    rw [tri_at]
    have hle : (⟨k.val - o, by omega⟩ : Fin 512) ≤ r ↔ k.val ≤ o + r.val := by simp only [Fin.le_def]; omega
    simp only [hle]
    refine if_congr Iff.rfl ?_ rfl
    refine congrArg s (funext fun a => Fin.ext ?_)
    fin_cases a
    · exact Nat.zero_add _
    · show o + (k.val - o) = k.val
      omega

/-- The scaled scores of a block. -/
def scores (d : DotDims S512x128 ⟨2, ![n, 128]⟩ (Mat n)) (hk : (⟨3, ![1, n, 128]⟩ : Shape).ShapeCasts ⟨2, ![n, 128]⟩)
    (q : Vec Ideal S1x512x128 .bf16) (k : Vec Ideal ⟨3, ![1, n, 128]⟩ .bf16) : FVec Ideal (Mat n) .f32 :=
  mulf (matmul (φ₁ := .bf16) (φ₂ := .bf16) d none (shapeCast S512x128 q shapeCasts_S1x512x128_S512x128) (shapeCast ⟨2, ![n, 128]⟩ k hk)
    (constant (Mat n) .f32 0x00000000#32)) (broadcast (Mat n) (Scalar.ofBits (F := Ideal) .f32 0x3DD105EC#32))

/-- The masked score of a query and a key, -/
def score (q k : Head) (r x : Fin 2048) : EReal := if x ≤ r then (∑ i : Fin 128, q (ix3 0 r i) * k (ix3 0 x i)) * sc else ⊥

/-- and the block of outputs. -/
def out (q k v : Head) : Head := fun y => attend (score q k (y 1)) (fun x => v (ix3 0 x (y 2)))

/-- Rows of `n` masked scores that agree with the whole rows, bottom past the row's own key, give the whole rows' outputs. -/
theorem out_cut (o : ℕ) (hn : n ≤ 2048) (q k v : Head) (r : Fin 2048) (hr : r.val < n) (e : Fin 128) (s w : Fin n → EReal)
    (hs : ∀ x : Fin n, s x = if x.val ≤ r.val then (∑ i : Fin 128, q (ix3 0 r i) * k (ix3 0 ⟨x.val, x.isLt.trans_le hn⟩ i)) * sc else ⊥)
    (hw : ∀ x : Fin n, w x = v (ix3 0 ⟨x.val, x.isLt.trans_le hn⟩ e)) : attend s w = out q k v (ix3 0 r e) := by
  obtain rfl : s = fun x : Fin n => score q k r ⟨x.val, x.isLt.trans_le hn⟩ := funext hs
  obtain rfl := funext hw
  exact attend_cut hn (score q k r) (fun x => v (ix3 0 x e)) fun x hx => if_neg (by rw [Fin.le_def]; omega)

variable (q k v : Head)

/-- The store of rows 0 to 511. -/
theorem pay0 (r : Fin 512) (e : Fin 128) :
    k0_pay4 (F := Ideal) (View.ld (Val := Elt Ideal) (e' := .bf16) q (Rect.unit ![0, 0, 0] ![1, 512, 128] inb_S1x2048x128_S1x512x128_0_0_0))
      (View.ld (Val := Elt Ideal) (e' := .bf16) k (Rect.unit ![0, 0, 0] ![1, 512, 128] inb_S1x2048x128_S1x512x128_0_0_0))
      (View.ld (Val := Elt Ideal) (e' := .bf16) v (Rect.unit ![0, 0, 0] ![1, 512, 128] inb_S1x2048x128_S1x512x128_0_0_0)) (ix3 0 r e)
      = out q k v (ix3 0 ⟨0 + r.val, by omega⟩ e) := by
  rw [show (⟨0 + r.val, by omega⟩ : Fin 2048) = ⟨r.val, by omega⟩ from Fin.ext (Nat.zero_add _)]
  generalize hQ : View.ld (Val := Elt Ideal) (e' := .bf16) q _ = Q
  generalize hK : View.ld (Val := Elt Ideal) (e' := .bf16) k _ = K
  generalize hV : View.ld (Val := Elt Ideal) (e' := .bf16) v _ = V
  have h : k0_pay2 (F := Ideal) Q K = soft reduces_S512x512_S512 broadcasts_S512x1_S512x512
      (tri (scores dot_S512x128_S512x128_S512x512_1_1_0_0_n_n shapeCasts_S1x512x128_S512x128 Q K)) := rfl
  unfold k0_pay4
  rw [h]
  pointwise []
  simp only [soft_at]
  refine out_cut 512 (by decide) q k v ⟨r.val, by omega⟩ r.isLt e _ _ (fun x => ?_) fun x => ?_
  · rw [tri_at]
    refine if_congr Fin.le_def ?_ rfl
    subst hQ hK
    unfold scores
    pointwise []
  · subst hV
    pointwise []

/-- The store of rows 512 to 1023. -/
theorem pay1 (r : Fin 512) (e : Fin 128) :
    k0_pay8 (F := Ideal) (k0_pay7 (View.ld (Val := Elt Ideal) (e' := .bf16) q (Rect.unit ![0, 512, 0] ![1, 512, 128] inb_S1x2048x128_S1x512x128_0_512_0))
      (View.ld (Val := Elt Ideal) (e' := .bf16) k (Rect.unit ![0, 0, 0] ![1, 1024, 128] inb_S1x2048x128_S1x1024x128_0_0_0))
      (View.ld (Val := Elt Ideal) (e' := .bf16) v (Rect.unit ![0, 0, 0] ![1, 1024, 128] inb_S1x2048x128_S1x1024x128_0_0_0))) (ix3 0 r e)
      = out q k v (ix3 0 ⟨512 + r.val, by omega⟩ e) := by
  generalize hQ : View.ld (Val := Elt Ideal) (e' := .bf16) q _ = Q
  generalize hK : View.ld (Val := Elt Ideal) (e' := .bf16) k _ = K
  generalize hV : View.ld (Val := Elt Ideal) (e' := .bf16) v _ = V
  have h : k0_pay5 (F := Ideal) Q K = soft reduces_S512x1024_S512 broadcasts_S512x1_S512x1024
      (joined 512 (scores dot_S512x128_S1024x128_S512x1024_1_1_0_0_n_n shapeCasts_S1x1024x128_S1024x128 Q K)
        slices_S512x1024_o0_0_S512x512 slices_S512x1024_o0_512_S512x512 concatenates_S512x512_S512x512_S512x1024_d1) := rfl
  unfold k0_pay8 k0_pay7
  rw [h]
  pointwise []
  simp only [soft_at]
  refine out_cut 1024 (by decide) q k v ⟨512 + r.val, by omega⟩ (by show 512 + r.val < 1024; omega) e _ _ (fun x => ?_) fun x => ?_
  · rw [joined_at 512 rfl]
    refine if_congr Iff.rfl ?_ rfl
    subst hQ hK
    unfold scores
    pointwise []
  · subst hV
    pointwise []

/-- The store of rows 1024 to 1535. -/
theorem pay2 (r : Fin 512) (e : Fin 128) :
    k0_pay12 (F := Ideal) (k0_pay11 (View.ld (Val := Elt Ideal) (e' := .bf16) q (Rect.unit ![0, 1024, 0] ![1, 512, 128] inb_S1x2048x128_S1x512x128_0_1024_0))
      (View.ld (Val := Elt Ideal) (e' := .bf16) k (Rect.unit ![0, 0, 0] ![1, 1536, 128] inb_S1x2048x128_S1x1536x128_0_0_0))
      (View.ld (Val := Elt Ideal) (e' := .bf16) v (Rect.unit ![0, 0, 0] ![1, 1536, 128] inb_S1x2048x128_S1x1536x128_0_0_0))) (ix3 0 r e)
      = out q k v (ix3 0 ⟨1024 + r.val, by omega⟩ e) := by
  generalize hQ : View.ld (Val := Elt Ideal) (e' := .bf16) q _ = Q
  generalize hK : View.ld (Val := Elt Ideal) (e' := .bf16) k _ = K
  generalize hV : View.ld (Val := Elt Ideal) (e' := .bf16) v _ = V
  have h : k0_pay9 (F := Ideal) Q K = soft reduces_S512x1536_S512 broadcasts_S512x1_S512x1536
      (joined 1024 (scores dot_S512x128_S1536x128_S512x1536_1_1_0_0_n_n shapeCasts_S1x1536x128_S1536x128 Q K)
        slices_S512x1536_o0_0_S512x1024 slices_S512x1536_o0_1024_S512x512 concatenates_S512x1024_S512x512_S512x1536_d1) := rfl
  unfold k0_pay12 k0_pay11
  rw [h]
  pointwise []
  simp only [soft_at]
  refine out_cut 1536 (by decide) q k v ⟨1024 + r.val, by omega⟩ (by show 1024 + r.val < 1536; omega) e _ _ (fun x => ?_) fun x => ?_
  · rw [joined_at 1024 rfl]
    refine if_congr Iff.rfl ?_ rfl
    subst hQ hK
    unfold scores
    pointwise []
  · subst hV
    pointwise []

/-- The store of rows 1536 to 2047. -/
theorem pay3 (r : Fin 512) (e : Fin 128) :
    k0_pay1 (F := Ideal) (k0_pay15 (View.ld (Val := Elt Ideal) (e' := .bf16) q (Rect.unit ![0, 1536, 0] ![1, 512, 128] inb_S1x2048x128_S1x512x128_0_1536_0))
      (View.ld (Val := Elt Ideal) (e' := .bf16) k (Rect.unit ![0, 0, 0] ![1, 2048, 128] inb_S1x2048x128_S1x2048x128_0_0_0))
      (View.ld (Val := Elt Ideal) (e' := .bf16) v (Rect.unit ![0, 0, 0] ![1, 2048, 128] inb_S1x2048x128_S1x2048x128_0_0_0))) (ix3 0 r e)
      = out q k v (ix3 0 ⟨1536 + r.val, by omega⟩ e) := by
  generalize hQ : View.ld (Val := Elt Ideal) (e' := .bf16) q _ = Q
  generalize hK : View.ld (Val := Elt Ideal) (e' := .bf16) k _ = K
  generalize hV : View.ld (Val := Elt Ideal) (e' := .bf16) v _ = V
  have h : k0_pay13 (F := Ideal) Q K = soft reduces_S512x2048_S512 broadcasts_S512x1_S512x2048
      (joined 1536 (scores dot_S512x128_S2048x128_S512x2048_1_1_0_0_n_n shapeCasts_S1x2048x128_S2048x128 Q K)
        slices_S512x2048_o0_0_S512x1536 slices_S512x2048_o0_1536_S512x512 concatenates_S512x1536_S512x512_S512x2048_d1) := rfl
  unfold k0_pay1 k0_pay15
  rw [h]
  pointwise []
  simp only [soft_at]
  refine out_cut 2048 (by decide) q k v ⟨1536 + r.val, by omega⟩ (by show 1536 + r.val < 2048; omega) e _ _ (fun x => ?_) fun x => ?_
  · rw [joined_at 1536 rfl]
    refine if_congr Iff.rfl ?_ rfl
    subst hQ hK
    unfold scores
    pointwise []
  · subst hV
    pointwise []

variable (m : (ℓ : Loc nD τ sig) → Buf (Elt Ideal) ℓ)

open Cert.AttnFIdeal.Run

/-- The blocks of queries, keys and values at a grid point. -/
abbrev qB (c : Dev nD) (t : Fin cfg0.N) : Head := iblk m c 0 t
@[inherit_doc qB] abbrev kB (c : Dev nD) (t : Fin cfg0.N) : Head := iblk m c 1 t
@[inherit_doc qB] abbrev vB (c : Dev nD) (t : Fin cfg0.N) : Head := iblk m c 2 t

/-- What a grid point leaves in the output block. -/
theorem out_block (c : Dev nD) (t : Fin cfg0.N) : outBlock m c t = out (qB m c t) (kB m c t) (vB m c t) := by
  unfold outBlock storesAt stores
  dsimp only
  sl_unfold_words
  simp only [View.readAt_eq_ld, (qW t).read_unread, (kW t).read_unread, (vW t).read_unread]
  exact Cert.Quarters.canon_quarters (t := .bf16) _ _ _ _ _ (pay0 _ _ _) (pay1 _ _ _) (pay2 _ _ _) (pay3 _ _ _)

end Cert.AttnFIdeal.Block

end
-- ==== Proof.AttnFArr.lean ====
module

public import proofs.«01_k».proof.Proof.AttnFBlock
public import proofs.«01_k».proof.Proof.HeadPad
public import Idealize.ShloMosaic.Lib.KernelVsHost
public import Idealize.ShloMosaic.Lib.Tactic.CleanTypes

@[expose] public section

noncomputable section

/-! The forward attention's input blocks at a grid point, in the arguments. -/

namespace Cert.AttnFIdeal.Arr

open Cert.AttnFIdeal Cert.AttnFIdeal.Gen Idealize.ShloMosaic Idealize.ShloMosaic.TcCoe Idealize.SL.Sem Cert.HeadPad Cert.AttnFIdeal.Block

variable (m : (ℓ : Loc nD τ sig) → Buf (Elt Ideal) ℓ)

/-- The batch of a grid point, and its head. -/
abbrev bt (t : Fin cfg0.N) : Fin 2 := ⟨t.val / 8, by
  have := t.isLt
  have h : cfg0.N = 16 := by decide
  show t.val / 8 < 2
  omega⟩
@[inherit_doc bt] abbrev hd (t : Fin cfg0.N) : Fin 8 := ⟨t.val % 8, by omega⟩

/-- The arguments: queries, keys, values. -/
abbrev a0 (c : Dev nD) : S2x2048x8x96.Idx → EReal := m ((c.tc : Thread nD τ).loc main_arg0)
@[inherit_doc a0] abbrev a1 (c : Dev nD) : S2x2048x8x96.Idx → EReal := m ((c.tc : Thread nD τ).loc main_arg1)
@[inherit_doc a0] abbrev a2 (c : Dev nD) : S2x2048x8x64.Idx → EReal := m ((c.tc : Thread nD τ).loc main_arg2)

/-- The host's zero, the padding's value. -/
theorem zpad_eq (i : S_.Idx) : sitofp (F := Ideal) .f32 (constantI S_ 32 0#32) i = (0 : EReal) := by
  show (((0#32 : BitVec 32).toInt : ℝ) : EReal) = 0
  simp

/-- Rounding to a shorter format keeps an ideal vector. -/
theorem short_eq {S : Shape} (y : FVec Ideal S .f32) (h : FTy.bf16.bits < FTy.f32.bits) : truncf (F := Ideal) .bf16 y h = (y : S.Idx → EReal) := rfl

/-- The padded arguments as the kernel finds them. -/
theorem queries_at (c : Dev nD) (b : Fin 2) (r : Fin 2048) (h : Fin 8) (x : Fin 128) :
    V m c main_v2 (ix3 b r (col h x)) = padded 96 (a0 m c) b r h x := by
  show StableHlo.after (List.flatten [hostOps0, hostOps0_1, hostOps0_2, hostOps0_3, hostOps0_4, hostOps0_5, hostOps0_6]) (fun b => m (c, b)) main_v2 _ = _
  simp only [hostOps0, hostOps0_1, hostOps0_2, hostOps0_3, hostOps0_4, hostOps0_5, hostOps0_6, List.flatten_cons, List.flatten_nil, List.append_nil, List.cons_append, List.nil_append]
  after_results_simp
  simp -implicitDefEqProofs only [StableHlo.TRef.toBuf, StableHlo.TRef.ofBuf, cast_cast, cast_eq]
  clean_types
  rw [short_eq]
  exact (flat_at _ _ b r h x).trans (pad_at _ _ zpad_eq _ _ b r h x)

@[inherit_doc queries_at] theorem keys_at (c : Dev nD) (b : Fin 2) (r : Fin 2048) (h : Fin 8) (x : Fin 128) :
    V m c main_v5 (ix3 b r (col h x)) = padded 96 (a1 m c) b r h x := by
  show StableHlo.after (List.flatten [hostOps0, hostOps0_1, hostOps0_2, hostOps0_3, hostOps0_4, hostOps0_5, hostOps0_6]) (fun b => m (c, b)) main_v5 _ = _
  simp only [hostOps0, hostOps0_1, hostOps0_2, hostOps0_3, hostOps0_4, hostOps0_5, hostOps0_6, List.flatten_cons, List.flatten_nil, List.append_nil, List.cons_append, List.nil_append]
  after_results_simp
  simp -implicitDefEqProofs only [StableHlo.TRef.toBuf, StableHlo.TRef.ofBuf, cast_cast, cast_eq]
  clean_types
  rw [short_eq]
  exact (flat_at _ _ b r h x).trans (pad_at _ _ zpad_eq _ _ b r h x)

@[inherit_doc queries_at] theorem values_at (c : Dev nD) (b : Fin 2) (r : Fin 2048) (h : Fin 8) (x : Fin 128) :
    V m c main_v8 (ix3 b r (col h x)) = padded 64 (a2 m c) b r h x := by
  show StableHlo.after (List.flatten [hostOps0, hostOps0_1, hostOps0_2, hostOps0_3, hostOps0_4, hostOps0_5, hostOps0_6]) (fun b => m (c, b)) main_v8 _ = _
  simp only [hostOps0, hostOps0_1, hostOps0_2, hostOps0_3, hostOps0_4, hostOps0_5, hostOps0_6, List.flatten_cons, List.flatten_nil, List.append_nil, List.cons_append, List.nil_append]
  after_results_simp
  simp -implicitDefEqProofs only [StableHlo.TRef.toBuf, StableHlo.TRef.ofBuf, cast_cast, cast_eq]
  clean_types
  rw [short_eq]
  exact (flat_at _ _ b r h x).trans (pad_at _ _ zpad_eq _ _ b r h x)

theorem idx0 : ∀ t : Fin cfg0.N, win0_0.index t = ![(bt t).val, 0, (hd t).val] := (by decide +kernel : ∀ t : Fin grid0.N, _)
theorem idx1 : ∀ t : Fin cfg0.N, win0_1.index t = ![(bt t).val, 0, (hd t).val] := (by decide +kernel : ∀ t : Fin grid0.N, _)
theorem idx2 : ∀ t : Fin cfg0.N, win0_2.index t = ![(bt t).val, 0, (hd t).val] := (by decide +kernel : ∀ t : Fin grid0.N, _)
theorem idx3 : ∀ t : Fin cfg0.N, win0_3.index t = ![(bt t).val, 0, (hd t).val] := (by decide +kernel : ∀ t : Fin grid0.N, _)

/-- A block's entry sits in its array at the grid point's batch and head. -/
theorem emb0 (t : Fin cfg0.N) (r : Fin 2048) (x : Fin 128) : (win0_0.blk t).view.emb (ix3 0 r x) = ix3 (bt t) r (col (hd t) x) := by
  blk_ext [idx0]
theorem emb1 (t : Fin cfg0.N) (r : Fin 2048) (x : Fin 128) : (win0_1.blk t).view.emb (ix3 0 r x) = ix3 (bt t) r (col (hd t) x) := by
  blk_ext [idx1]
theorem emb2 (t : Fin cfg0.N) (r : Fin 2048) (x : Fin 128) : (win0_2.blk t).view.emb (ix3 0 r x) = ix3 (bt t) r (col (hd t) x) := by
  blk_ext [idx2]
theorem emb3 (t : Fin cfg0.N) (y : S1x2048x128.Idx) : (win0_3.blk t).view.emb y = ix3 (bt t) (y 1) (col (hd t) (y 2)) := by
  blk_ext [idx3]

/-- The blocks at a grid point, entry by entry. -/
theorem qB_at (c : Dev nD) (t : Fin cfg0.N) (r : Fin 2048) (x : Fin 128) : qB m c t (ix3 0 r x) = padded 96 (a0 m c) (bt t) r (hd t) x := by
  have h := queries_at m c (bt t) r (hd t) x
  rw [← emb0 t r x] at h
  have hV : ∀ A : Buf (Elt Ideal) ((c.tc : Thread nD τ).loc main_v2), ((cfg0.win 0).blk t).view.read (Elt Ideal) A (ix3 0 r x)
      = A ((win0_0.blk t).view.emb (ix3 0 r x)) := fun A => rfl
  exact (hV (V m c main_v2)).trans h
theorem kB_at (c : Dev nD) (t : Fin cfg0.N) (r : Fin 2048) (x : Fin 128) : kB m c t (ix3 0 r x) = padded 96 (a1 m c) (bt t) r (hd t) x := by
  have h := keys_at m c (bt t) r (hd t) x
  rw [← emb1 t r x] at h
  have hV : ∀ A : Buf (Elt Ideal) ((c.tc : Thread nD τ).loc main_v5), ((cfg0.win 1).blk t).view.read (Elt Ideal) A (ix3 0 r x)
      = A ((win0_1.blk t).view.emb (ix3 0 r x)) := fun A => rfl
  exact (hV (V m c main_v5)).trans h
theorem vB_at (c : Dev nD) (t : Fin cfg0.N) (r : Fin 2048) (x : Fin 128) : vB m c t (ix3 0 r x) = padded 64 (a2 m c) (bt t) r (hd t) x := by
  have h := values_at m c (bt t) r (hd t) x
  rw [← emb2 t r x] at h
  have hV : ∀ A : Buf (Elt Ideal) ((c.tc : Thread nD τ).loc main_v8), ((cfg0.win 2).blk t).view.read (Elt Ideal) A (ix3 0 r x)
      = A ((win0_2.blk t).view.emb (ix3 0 r x)) := fun A => rfl
  exact (hV (V m c main_v8)).trans h

end Cert.AttnFIdeal.Arr

end
-- ==== Proof.AttnFRef.lean ====
module

public import proofs.«01_k».proof.Proof.Gen.AttnFRefIdeal.Run
public import proofs.«01_k».proof.Proof.Gen.AttnFRefIdeal.Read
public import Idealize.ShloMosaic.Lib.Pointwise
public import Idealize.ShloMosaic.Lib.KernelVsHost
public import Idealize.ShloMosaic.Lib.WordCmp
public import proofs.«01_k».proof.Proof.Attend
public import proofs.«01_k».proof.Proof.HeadPad

@[expose] public section

noncomputable section

/-! The reference of the forward attention read at an index. -/

namespace Cert.AttnFRefIdeal.Val

open Cert.AttnFRefIdeal Cert.AttnFRefIdeal.Gen Cert.AttnFRefIdeal.Read Idealize.ShloMosaic Idealize.ShloMosaic.TcCoe Idealize.SL.Sem
open Cert.SoftMath Cert.HeadPad

variable (x0 x1 : S2x2048x8x96.Idx → EReal) (x2 : S2x2048x8x64.Idx → EReal)

/-- The word of the scale. -/
abbrev sc : EReal := Ideal.ofBits .f32 0x3DD105EC#32

theorem sc_real : IsReal sc := ⟨_, by simp [Ideal.ofBits, Ideal.ieee, -EReal.coe_mul]; rfl⟩

theorem bot_word : Ideal.ofBits .f32 0xFF800000#32 = ⊥ := by simp [Ideal.ofBits, Ideal.ieee]

/-- A row of masked scores. -/
def score (b : Fin 2) (h : Fin 8) (r k : Fin 2048) : EReal :=
  if k ≤ r then (∑ x : Fin 96, x0 (ix4 b r h x) * x1 (ix4 b k h x)) * sc else ⊥

theorem score_at (b : Fin 2) (h : Fin 8) (r k : Fin 2048) : val_main_v9 (F := Ideal) x0 x1 (ix4 b h r k) = score x0 x1 b h r k := by
  have e : val_main_v9 (F := Ideal) x0 x1 (ix4 b h r k)
      = Scalar.select (IntOp.cmpi .sle (BitVec.ofNat 32 k.val) (BitVec.ofNat 32 r.val))
          ((∑ x : Fin 96, x0 (ix4 b r h x) * x1 (ix4 b k h x)) * sc) (Ideal.ofBits .f32 0xFF800000#32) := by
    pointwise [val_main_v9, val_main_v2, val_main_v1, val_main_v0, val_main_v8, val_main_v7, val_main_v6, val_main_v5, val_main_v4,
      val_main_v3, val_main_call0_v0, val_main_call0_v1, val_main_call0_v2, val_main_cst_0, val_main_cst]
    rfl
  unfold score
  rw [e, WordCmp.cmpi_sle_ofNat (by omega) (by omega), bot_word, WordCmp.select_ofBool]
  simp only [decide_eq_true_eq, Fin.le_def]

/-- The largest entry along the last axis. -/
theorem fold_at (y : S2x8x2048x2048.Idx → EReal) (z : S_.Idx → EReal) (hz : ∀ i, z i = ⊥) (b : Fin 2) (h : Fin 8) (r : Fin 2048) :
    Host.reduce (FloatOps.maximumf (F := Ideal) (φ := .f32)) y z reducesTo_S2x8x2048x2048_S2x8x2048_d3 h_S_ (ix3 b h r)
      = Finset.fold max ⊥ (fun k => y (ix4 b h r k)) Finset.univ := by
  rw [Host.reduce_eq_fold, hz]
  exact Shape.ReducesTo.fold_fiber_r4_a3 _ _ _ _ _

/-- The larger of two vectors, at an index. -/
theorem larger_at (y z : FVec Ideal S2x8x2048 .f32) (i : S2x8x2048.Idx) : maximumf y z i = max (y i : EReal) (z i) := rfl

theorem floor_at (i : S2x8x2048.Idx) : val_main_v11 (F := Ideal) i = (⊥ : EReal) := bot_word

/-- The largest score of a row. -/
theorem max_at (b : Fin 2) (h : Fin 8) (r : Fin 2048) :
    val_main_v12 (F := Ideal) x0 x1 (ix3 b h r) = Finset.fold max ⊥ (score x0 x1 b h r) Finset.univ := by
  unfold val_main_v12 val_main_v10
  rw [larger_at, floor_at, max_eq_right bot_le, fold_at _ (val_main_cst_1 (F := Ideal)) fun _ => bot_word]
  exact congrArg (fun s => Finset.fold max ⊥ s Finset.univ) (funext (score_at x0 x1 b h r))

/-- The weight of a key: the exponential of its score less the largest. -/
abbrev E (b : Fin 2) (h : Fin 8) (r k : Fin 2048) : EReal :=
  Ideal.exp (score x0 x1 b h r k - Finset.fold max ⊥ (score x0 x1 b h r) Finset.univ)

theorem exp_at (b : Fin 2) (h : Fin 8) (r k : Fin 2048) : val_main_v16 (F := Ideal) x0 x1 (ix4 b h r k) = E x0 x1 b h r k := by
  unfold E
  rw [← max_at, ← score_at]
  pointwise [val_main_v16, val_main_v15, val_main_v14, val_main_v13]

theorem norm_at (b : Fin 2) (h : Fin 8) (r : Fin 2048) : val_main_v17 (F := Ideal) x0 x1 (ix3 b h r) = ∑ k, E x0 x1 b h r k := by
  rw [Finset.sum_congr rfl fun k _ => (exp_at x0 x1 b h r k).symm]
  pointwise [val_main_v17, val_main_cst_3]

theorem prob_at (b : Fin 2) (h : Fin 8) (r k : Fin 2048) :
    val_main_v20 (F := Ideal) x0 x1 (ix4 b h r k) = Ideal.div (E x0 x1 b h r k) (∑ k, E x0 x1 b h r k) := by
  rw [← norm_at, ← exp_at]
  pointwise [val_main_v20, val_main_v19, val_main_v18]

/-- A product of a query with a key, scaled, is a real. -/
theorem dot_real (h0 : ∀ i, IsReal (x0 i)) (h1 : ∀ i, IsReal (x1 i)) (b : Fin 2) (h : Fin 8) (r k : Fin 2048) :
    IsReal ((∑ x : Fin 96, x0 (ix4 b r h x) * x1 (ix4 b k h x)) * sc) :=
  (IsReal.sum _ fun _ => (h0 _).mul (h1 _)).mul sc_real

theorem score_lt_top (h0 : ∀ i, IsReal (x0 i)) (h1 : ∀ i, IsReal (x1 i)) (b : Fin 2) (h : Fin 8) (r k : Fin 2048) : score x0 x1 b h r k < ⊤ := by
  unfold score
  split
  · exact (dot_real x0 x1 h0 h1 b h r k).lt_top
  · exact bot_lt_top

/-- A head's output. -/
theorem head_at (h0 : ∀ i, IsReal (x0 i)) (h1 : ∀ i, IsReal (x1 i)) (b : Fin 2) (r : Fin 2048) (h : Fin 8) (e : Fin 64) :
    val_main_v22 (F := Ideal) x0 x1 x2 (ix4 b r h e) = attend (score x0 x1 b h r) (fun k => x2 (ix4 b k h e)) := by
  rw [← attend_of_scores _ _ (score_lt_top x0 x1 h0 h1 b h r) r (by
    unfold score; rw [if_pos (le_refl r)]; exact dot_real x0 x1 h0 h1 b h r r)]
  rw [Finset.sum_congr rfl fun k _ => by rw [← prob_at x0 x1 b h r k]]
  pointwise [val_main_v22, val_main_v21]

/-- The padding's value: the integer zero as a real. -/
theorem int_zero (i : S_.Idx) : sitofp (F := Ideal) .f32 (constantI S_ 32 0#32) i = (0 : EReal) := by
  show (((0#32 : BitVec 32).toInt : ℝ) : EReal) = 0
  simp

/-- The result: the heads' outputs with their padded columns. -/
theorem out_at (b : Fin 2) (r : Fin 2048) (h : Fin 8) (x : Fin 128) :
    val_main_v25 (F := Ideal) x0 x1 x2 (ix3 b r (col h x)) = padded 64 (val_main_v22 (F := Ideal) x0 x1 x2) b r h x :=
  (flat_at _ shapeCasts_S2x2048x8x128_S2x2048x1024 b r h x).trans
    (pad_at _ (val_main_call1_v0 (F := Ideal)) int_zero pads_S2x2048x8x64_S2x2048x8x128_000_000_000_0640 h_S_ b r h x)

end Cert.AttnFRefIdeal.Val

end
-- ==== Proof.AttnFFinal.lean ====
module

public import proofs.«01_k».proof.Proof.AttnFArr
public import proofs.«01_k».proof.Proof.AttnFRef

@[expose] public section

noncomputable section

/-! The forward attention's array of outputs after the run is the reference's. -/

namespace Cert.AttnFIdeal.Final

open Cert.AttnFIdeal Cert.AttnFIdeal.Gen Cert.AttnFIdeal.Run Idealize.ShloMosaic Idealize.ShloMosaic.TcCoe Idealize.SL.Sem
open Cert.AttnFIdeal.Block Cert.AttnFIdeal.Arr Cert.HeadPad Cert.SoftMath Cert.AttnFRefIdeal.Read

variable (m : (ℓ : Loc nD τ sig) → Buf (Elt Ideal) ℓ)

/-- The scores of a grid point are those of its batch and head: the padded columns add nothing. -/
theorem score_eq (c : Dev nD) (t : Fin cfg0.N) (r : Fin 2048) :
    score (qB m c t) (kB m c t) r = Cert.AttnFRefIdeal.Val.score (a0 m c) (a1 m c) (bt t) (hd t) r := by
  funext k
  unfold score Cert.AttnFRefIdeal.Val.score
  refine if_congr Iff.rfl (congrArg (· * _) ?_) rfl
  rw [sum_head (n := 96) (by decide) _ fun x hx => by
    rw [qB_at]; unfold padded; rw [dif_neg (not_lt.2 hx), zero_mul]]
  refine Finset.sum_congr rfl fun x _ => ?_
  rw [qB_at, kB_at]
  unfold padded
  rw [dif_pos x.isLt, dif_pos x.isLt]

/-- A row of the output block is the reference's. -/
theorem row_eq (c : Dev nD) (h0 : ∀ i, IsReal (a0 m c i)) (h1 : ∀ i, IsReal (a1 m c i)) (t : Fin cfg0.N) (r : Fin 2048) (x : Fin 128) :
    attend (score (qB m c t) (kB m c t) r) (fun k => vB m c t (ix3 0 k x))
      = val_main_v25 (F := Ideal) (a0 m c) (a1 m c) (a2 m c) (ix3 (bt t) r (col (hd t) x)) := by
  rw [Cert.AttnFRefIdeal.Val.out_at, score_eq, funext fun k => vB_at m c t k x]
  unfold padded
  split
  · rw [Cert.AttnFRefIdeal.Val.head_at _ _ _ h0 h1]
  · exact attend_zero _

/-- Cutting a point's block out of `X` gives the block of `G` when `X` is `G` at the block's place. -/
theorem cut (t : Fin cfg0.N) (X : Vec Ideal S1x2048x128 .bf16) (G : S2x2048x1024.Idx → EReal)
    (h : ∀ y, X y = G ((win0_3.blk t).view.emb y)) :
    (cfg0.win 3).cut (grid0.coords t) X = ((cfg0.win 3).blk t).view.read (Elt Ideal) G :=
  funext fun y => h y

/-- Every index of the outputs lies in the block of some grid point that is written back. -/
theorem covers : (cfg0.win 3).Covers := by decide +kernel

/-- What a grid point hands back. -/
theorem handed (c : Dev nD) (t : Fin cfg0.N) : (dats m 0 c).flushed 3 t = (cfg0.win 3).cut (grid0.coords t) (outBlock m c t) := by
  show (cfg0.win 3).cut (grid0.coords t) ((dats m 0 c).after 3 t) = _
  rw [after_o]

/-- The array of outputs after the run. -/
theorem outputs (c : Dev nD) (h0 : ∀ i, IsReal (a0 m c i)) (h1 : ∀ i, IsReal (a1 m c i)) :
    (dats m 0 c).arrAt 3 cfg0.N = val_main_v25 (F := Ideal) (a0 m c) (a1 m c) (a2 m c) := by
  refine (dats m 0 c).arrAt_eq_of_cover 3 _ (fun t _ => ?_) (Pipeline.Window.Covers.cover _ covers (Memref.isWhole_whole _))
  rw [handed]
  refine cut t _ _ fun y => ?_
  rw [emb3, out_block]
  exact row_eq m c h0 h1 t (y 1) (y 2)

end Cert.AttnFIdeal.Final

end
-- ==== Proof.AttnBlock.lean ====
module

public import proofs.«01_k».proof.Proof.Quarters
public import proofs.«01_k».proof.Proof.Gen.AttnIdeal.Value
public import Idealize.ShloMosaic.Lib.Pointwise
public import Idealize.ShloMosaic.Lib.Pipeline.ValueKit.Geometry

@[expose] public section

noncomputable section

/-! What one grid point of the kernel leaves in its three output blocks, as sums over the whole sequence: the kernel
works on four blocks of 512 queries and, for each, on the keys up to the block's end only, so the sums are over the whole
sequence once the probabilities vanish at the keys after the query. -/

namespace Cert.AttnIdeal.Block

open Cert.AttnIdeal Cert.AttnIdeal.Gen Idealize.ShloMosaic Idealize.ShloMosaic.TcCoe Idealize.SL.Sem

/-- A block of one head: queries, keys, values or cotangent. -/
abbrev Head := S1x2048x128.Idx → EReal
/-- The block of probabilities of one head. -/
abbrev Probs := S1x1x2048x2048.Idx → EReal

/-- The word of the scale, read as a real. -/
abbrev sc : EReal := Ideal.ofBits .f32 0x3DD105EC#32

/-- The gradient of a probability: the product of the cotangent's row with the value's row. -/
def dp (v d : Head) (r k : Fin 2048) : EReal := ∑ x : Fin 128, d (ix3 0 r x) * v (ix3 0 k x)

/-- The gradient of a score: the softmax's gradient, scaled. -/
def ds (v : Head) (p : Probs) (d : Head) (r k : Fin 2048) : EReal :=
  p (ix4 0 0 r k) * (dp v d r k - ∑ k' : Fin 2048, p (ix4 0 0 r k') * dp v d r k') * sc

/-- No probability at a key after the query. -/
def Causal (p : Probs) : Prop := ∀ r k : Fin 2048, r < k → p (ix4 0 0 r k) = 0

/-- A sum whose terms vanish from `n` on is the sum of the first `n` terms. -/
theorem sum_prefix (n : ℕ) (hn : n ≤ 2048) (f : Fin 2048 → EReal) (hf : ∀ k : Fin 2048, n ≤ k.val → f k = 0) :
    ∑ x : Fin n, f ⟨x.val, x.isLt.trans_le hn⟩ = ∑ k : Fin 2048, f k := by
  refine Finset.sum_of_injOn (fun x : Fin n => (⟨x.val, x.isLt.trans_le hn⟩ : Fin 2048)) ?_ ?_ ?_ ?_
  · intro a _ b _ h; exact Fin.ext (Fin.mk.inj h)
  · intro a _; exact Finset.mem_coe.2 (Finset.mem_univ _)
  · intro k _ hk
    refine hf k (Nat.le_of_not_lt fun h => hk ⟨⟨k.val, h⟩, Finset.mem_coe.2 (Finset.mem_univ _), rfl⟩)
  · intro a _; rfl

/-- The score's gradient with the row's sum cut at `n`. -/
theorem ds_cut {v : Head} {p : Probs} {d : Head} (hp : Causal p) (n : ℕ) (hn : n ≤ 2048) (r k : Fin 2048) (hr : r.val < n) :
    p (ix4 0 0 r k) * ((∑ x : Fin 128, d (ix3 0 r x) * v (ix3 0 k x))
      - ∑ k' : Fin n, p (ix4 0 0 r ⟨k'.val, k'.isLt.trans_le hn⟩)
          * ∑ x : Fin 128, d (ix3 0 r x) * v (ix3 0 ⟨k'.val, k'.isLt.trans_le hn⟩ x)) * sc = ds v p d r k := by
  have h := sum_prefix n hn (fun k' => p (ix4 0 0 r k') * dp v d r k') fun k' hk => by
    rw [hp r k' (Fin.lt_def.2 (hr.trans_le hk)), zero_mul]
  unfold ds
  rw [← h]
  rfl

/-- A row of the queries' gradient, summed over the keys before `n` only. -/
theorem row_cut {v k1 : Head} {p : Probs} {d : Head} (hp : Causal p) (n : ℕ) (hn : n ≤ 2048) (r : Fin 2048) (e : Fin 128) (hr : r.val < n) :
    ∑ k : Fin n, p (ix4 0 0 r ⟨k.val, k.isLt.trans_le hn⟩)
        * ((∑ x : Fin 128, d (ix3 0 r x) * v (ix3 0 ⟨k.val, k.isLt.trans_le hn⟩ x))
          - ∑ k' : Fin n, p (ix4 0 0 r ⟨k'.val, k'.isLt.trans_le hn⟩)
              * ∑ x : Fin 128, d (ix3 0 r x) * v (ix3 0 ⟨k'.val, k'.isLt.trans_le hn⟩ x)) * sc * k1 (ix3 0 ⟨k.val, k.isLt.trans_le hn⟩ e)
      = ∑ k : Fin 2048, ds v p d r k * k1 (ix3 0 k e) := by
  rw [← sum_prefix n hn (fun k => ds v p d r k * k1 (ix3 0 k e)) fun k hk => by
    unfold ds
    rw [hp r k (Fin.lt_def.2 (hr.trans_le hk)), zero_mul, zero_mul, zero_mul]]
  exact Finset.sum_congr rfl fun k _ => by rw [ds_cut hp n hn r _ hr]

/-- The queries' gradient as the block holds it. -/
def dqBlk (k1 v : Head) (p : Probs) (d : Head) : Head := fun y => ∑ k : Fin 2048, ds v p d (y 1) k * k1 (ix3 0 k (y 2))

/-- The part of a gradient of the keys or values that the 512 queries from `o` on give: a weight of the pair times a row. -/
def part (w : Fin 2048 → Fin 2048 → EReal) (a : Head) (o : ℕ) (ho : o + 512 ≤ 2048) (k : Fin 2048) (e : Fin 128) : EReal :=
  ∑ r : Fin 512, w ⟨o + r.val, (Nat.add_lt_add_left r.isLt o).trans_le ho⟩ k * a (ix3 0 ⟨o + r.val, (Nat.add_lt_add_left r.isLt o).trans_le ho⟩ e)

/-- The four parts are the whole sum over the queries. -/
theorem part_sum (w : Fin 2048 → Fin 2048 → EReal) (a : Head) (k : Fin 2048) (e : Fin 128) :
    (((0 + part w a 0 (by decide) k e) + part w a 512 (by decide) k e) + part w a 1024 (by decide) k e) + part w a 1536 (by decide) k e
      = ∑ r : Fin 2048, w r k * a (ix3 0 r e) := by
  have h := Fin.sum_univ_add (M := EReal) (a := 512) (b := 1536) fun r => w r k * a (ix3 0 r e)
  have h2 := Fin.sum_univ_add (M := EReal) (a := 512) (b := 1024) fun r => w (Fin.natAdd 512 r) k * a (ix3 0 (Fin.natAdd 512 r) e)
  have h3 := Fin.sum_univ_add (M := EReal) (a := 512) (b := 512) fun r => w (Fin.natAdd 512 (Fin.natAdd 512 r)) k * a (ix3 0 (Fin.natAdd 512 (Fin.natAdd 512 r)) e)
  refine Eq.trans ?_ h.symm
  rw [h2, h3, ← add_assoc, ← add_assoc, zero_add]
  unfold part
  refine congrArg₂ _ (congrArg₂ _ (congrArg₂ _ ?_ ?_) ?_) ?_ <;> refine Finset.sum_congr rfl fun r _ => ?_
  all_goals
    refine congrArg₂ (fun i j => w i k * a (ix3 0 j e)) (Fin.ext ?_) (Fin.ext ?_) <;>
      simp only [Fin.val_castAdd, Fin.val_natAdd, zero_add] <;> omega

variable (q k1 v d : Head) (p : Probs)

/-- The store of the queries' gradient of block 0. -/
theorem dq_pay0 (hp : Causal p) (r : Fin 512) (e : Fin 128) :
    (k0_pay14 (F := Ideal) (k0_pay9 (View.ld (Val := Elt Ideal) (e' := .bf16) p (Rect.unit ![0, 0, 0, 0] ![1, 1, 512, 512] inb_S1x1x2048x2048_S1x1x512x512_0_0_0_0))) (k0_pay11 (View.ld (Val := Elt Ideal) (e' := .bf16) d (Rect.unit ![0, 0, 0] ![1, 512, 128] inb_S1x2048x128_S1x512x128_0_0_0)) (View.ld (Val := Elt Ideal) (e' := .bf16) v (Rect.unit ![0, 0, 0] ![1, 512, 128] inb_S1x2048x128_S1x512x128_0_0_0))) (k0_pay12 (View.ld (Val := Elt Ideal) (e' := .bf16) d (Rect.unit ![0, 0, 0] ![1, 512, 128] inb_S1x2048x128_S1x512x128_0_0_0)) (View.ld (Val := Elt Ideal) (e' := .bf16) p (Rect.unit ![0, 0, 0, 0] ![1, 1, 512, 512] inb_S1x1x2048x2048_S1x1x512x512_0_0_0_0)) (View.ld (Val := Elt Ideal) (e' := .bf16) v (Rect.unit ![0, 0, 0] ![1, 512, 128] inb_S1x2048x128_S1x512x128_0_0_0))) (View.ld (Val := Elt Ideal) (e' := .bf16) k1 (Rect.unit ![0, 0, 0] ![1, 512, 128] inb_S1x2048x128_S1x512x128_0_0_0)) ) (ix3 0 r e)
      = dqBlk k1 v p d (ix3 0 ⟨0 + r.val, by omega⟩ e) := by
  unfold_payloads
  pointwise [dqBlk]
  exact row_cut hp 512 (by decide) _ e (by first | (show 0 + r.val < 512; omega) | (show r.val < 512; omega))

/-- The store of the keys' gradient of block 0. -/
theorem dk_pay0 (hp : Causal p) (old : Vec Ideal S1x512x128 .f32) (k : Fin 512) (e : Fin 128) :
    (k0_pay15 (F := Ideal) (k0_pay6 (View.ld (Val := Elt Ideal) (e' := .bf16) q (Rect.unit ![0, 0, 0] ![1, 512, 128] inb_S1x2048x128_S1x512x128_0_0_0))) (k0_pay9 (View.ld (Val := Elt Ideal) (e' := .bf16) p (Rect.unit ![0, 0, 0, 0] ![1, 1, 512, 512] inb_S1x1x2048x2048_S1x1x512x512_0_0_0_0))) (k0_pay11 (View.ld (Val := Elt Ideal) (e' := .bf16) d (Rect.unit ![0, 0, 0] ![1, 512, 128] inb_S1x2048x128_S1x512x128_0_0_0)) (View.ld (Val := Elt Ideal) (e' := .bf16) v (Rect.unit ![0, 0, 0] ![1, 512, 128] inb_S1x2048x128_S1x512x128_0_0_0))) (k0_pay12 (View.ld (Val := Elt Ideal) (e' := .bf16) d (Rect.unit ![0, 0, 0] ![1, 512, 128] inb_S1x2048x128_S1x512x128_0_0_0)) (View.ld (Val := Elt Ideal) (e' := .bf16) p (Rect.unit ![0, 0, 0, 0] ![1, 1, 512, 512] inb_S1x1x2048x2048_S1x1x512x512_0_0_0_0)) (View.ld (Val := Elt Ideal) (e' := .bf16) v (Rect.unit ![0, 0, 0] ![1, 512, 128] inb_S1x2048x128_S1x512x128_0_0_0))) old) (ix3 0 k e)
      = old (ix3 0 k e) + part (ds v p d) q 0 (by decide) ⟨k.val, by omega⟩ e := by
  unfold_payloads
  pointwise [part]
  refine congrArg (old _ + ·) (Finset.sum_congr rfl fun r _ => ?_)
  exact congrArg (· * _) (ds_cut hp 512 (by decide) _ _ (by first | (show 0 + r.val < 512; omega) | (show r.val < 512; omega)))

/-- The store of the values' gradient of block 0. -/
theorem dv_pay0 (old : Vec Ideal S1x512x128 .f32) (k : Fin 512) (e : Fin 128) :
    (k0_pay10 (F := Ideal) (View.ld (Val := Elt Ideal) (e' := .bf16) d (Rect.unit ![0, 0, 0] ![1, 512, 128] inb_S1x2048x128_S1x512x128_0_0_0)) (View.ld (Val := Elt Ideal) (e' := .bf16) p (Rect.unit ![0, 0, 0, 0] ![1, 1, 512, 512] inb_S1x1x2048x2048_S1x1x512x512_0_0_0_0)) old) (ix3 0 k e)
      = old (ix3 0 k e) + part (fun r k => p (ix4 0 0 r k)) d 0 (by decide) ⟨k.val, by omega⟩ e := by
  unfold_payloads
  pointwise [part]

/-- The store of the queries' gradient of block 1. -/
theorem dq_pay1 (hp : Causal p) (r : Fin 512) (e : Fin 128) :
    (k0_pay23 (F := Ideal) (k0_pay17 (View.ld (Val := Elt Ideal) (e' := .bf16) d (Rect.unit ![0, 512, 0] ![1, 512, 128] inb_S1x2048x128_S1x512x128_0_512_0))) (k0_pay19 (View.ld (Val := Elt Ideal) (e' := .bf16) p (Rect.unit ![0, 0, 512, 0] ![1, 1, 512, 1024] inb_S1x1x2048x2048_S1x1x512x1024_0_0_512_0))) (View.ld (Val := Elt Ideal) (e' := .bf16) v (Rect.unit ![0, 0, 0] ![1, 1024, 128] inb_S1x2048x128_S1x1024x128_0_0_0)) (View.ld (Val := Elt Ideal) (e' := .bf16) k1 (Rect.unit ![0, 0, 0] ![1, 1024, 128] inb_S1x2048x128_S1x1024x128_0_0_0)) ) (ix3 0 r e)
      = dqBlk k1 v p d (ix3 0 ⟨512 + r.val, by omega⟩ e) := by
  unfold_payloads
  pointwise [dqBlk]
  exact row_cut hp 1024 (by decide) _ e (by first | (show 512 + r.val < 1024; omega) | (show r.val < 1024; omega))

/-- The store of the keys' gradient of block 1. -/
theorem dk_pay1 (hp : Causal p) (old : Vec Ideal S1x1024x128 .f32) (k : Fin 1024) (e : Fin 128) :
    (k0_pay24 (F := Ideal) (k0_pay16 (View.ld (Val := Elt Ideal) (e' := .bf16) q (Rect.unit ![0, 512, 0] ![1, 512, 128] inb_S1x2048x128_S1x512x128_0_512_0))) (k0_pay17 (View.ld (Val := Elt Ideal) (e' := .bf16) d (Rect.unit ![0, 512, 0] ![1, 512, 128] inb_S1x2048x128_S1x512x128_0_512_0))) (k0_pay19 (View.ld (Val := Elt Ideal) (e' := .bf16) p (Rect.unit ![0, 0, 512, 0] ![1, 1, 512, 1024] inb_S1x1x2048x2048_S1x1x512x1024_0_0_512_0))) (View.ld (Val := Elt Ideal) (e' := .bf16) v (Rect.unit ![0, 0, 0] ![1, 1024, 128] inb_S1x2048x128_S1x1024x128_0_0_0)) old) (ix3 0 k e)
      = old (ix3 0 k e) + part (ds v p d) q 512 (by decide) ⟨k.val, by omega⟩ e := by
  unfold_payloads
  pointwise [part]
  refine congrArg (old _ + ·) (Finset.sum_congr rfl fun r _ => ?_)
  exact congrArg (· * _) (ds_cut hp 1024 (by decide) _ _ (by first | (show 512 + r.val < 1024; omega) | (show r.val < 1024; omega)))

/-- The store of the values' gradient of block 1. -/
theorem dv_pay1 (old : Vec Ideal S1x1024x128 .f32) (k : Fin 1024) (e : Fin 128) :
    (k0_pay21 (F := Ideal) (k0_pay20 (View.ld (Val := Elt Ideal) (e' := .bf16) d (Rect.unit ![0, 512, 0] ![1, 512, 128] inb_S1x2048x128_S1x512x128_0_512_0)) (View.ld (Val := Elt Ideal) (e' := .bf16) p (Rect.unit ![0, 0, 512, 0] ![1, 1, 512, 1024] inb_S1x1x2048x2048_S1x1x512x1024_0_0_512_0)) old)) (ix3 0 k e)
      = old (ix3 0 k e) + part (fun r k => p (ix4 0 0 r k)) d 512 (by decide) ⟨k.val, by omega⟩ e := by
  unfold_payloads
  pointwise [part]

/-- The store of the queries' gradient of block 2. -/
theorem dq_pay2 (hp : Causal p) (r : Fin 512) (e : Fin 128) :
    (k0_pay30 (F := Ideal) (View.ld (Val := Elt Ideal) (e' := .bf16) d (Rect.unit ![0, 1024, 0] ![1, 512, 128] inb_S1x2048x128_S1x512x128_0_1024_0)) (View.ld (Val := Elt Ideal) (e' := .bf16) p (Rect.unit ![0, 0, 1024, 0] ![1, 1, 512, 1536] inb_S1x1x2048x2048_S1x1x512x1536_0_0_1024_0)) (View.ld (Val := Elt Ideal) (e' := .bf16) v (Rect.unit ![0, 0, 0] ![1, 1536, 128] inb_S1x2048x128_S1x1536x128_0_0_0)) (View.ld (Val := Elt Ideal) (e' := .bf16) k1 (Rect.unit ![0, 0, 0] ![1, 1536, 128] inb_S1x2048x128_S1x1536x128_0_0_0)) ) (ix3 0 r e)
      = dqBlk k1 v p d (ix3 0 ⟨1024 + r.val, by omega⟩ e) := by
  unfold_payloads
  pointwise [dqBlk]
  exact row_cut hp 1536 (by decide) _ e (by first | (show 1024 + r.val < 1536; omega) | (show r.val < 1536; omega))

/-- The store of the keys' gradient of block 2. -/
theorem dk_pay2 (hp : Causal p) (old : Vec Ideal S1x1536x128 .f32) (k : Fin 1536) (e : Fin 128) :
    (k0_pay31 (F := Ideal) (k0_pay25 (View.ld (Val := Elt Ideal) (e' := .bf16) q (Rect.unit ![0, 1024, 0] ![1, 512, 128] inb_S1x2048x128_S1x512x128_0_1024_0))) (k0_pay29 (View.ld (Val := Elt Ideal) (e' := .bf16) d (Rect.unit ![0, 1024, 0] ![1, 512, 128] inb_S1x2048x128_S1x512x128_0_1024_0)) (View.ld (Val := Elt Ideal) (e' := .bf16) p (Rect.unit ![0, 0, 1024, 0] ![1, 1, 512, 1536] inb_S1x1x2048x2048_S1x1x512x1536_0_0_1024_0)) (View.ld (Val := Elt Ideal) (e' := .bf16) v (Rect.unit ![0, 0, 0] ![1, 1536, 128] inb_S1x2048x128_S1x1536x128_0_0_0))) old) (ix3 0 k e)
      = old (ix3 0 k e) + part (ds v p d) q 1024 (by decide) ⟨k.val, by omega⟩ e := by
  unfold_payloads
  pointwise [part]
  refine congrArg (old _ + ·) (Finset.sum_congr rfl fun r _ => ?_)
  exact congrArg (· * _) (ds_cut hp 1536 (by decide) _ _ (by first | (show 1024 + r.val < 1536; omega) | (show r.val < 1536; omega)))

/-- The store of the values' gradient of block 2. -/
theorem dv_pay2 (old : Vec Ideal S1x1536x128 .f32) (k : Fin 1536) (e : Fin 128) :
    (k0_pay28 (F := Ideal) (View.ld (Val := Elt Ideal) (e' := .bf16) d (Rect.unit ![0, 1024, 0] ![1, 512, 128] inb_S1x2048x128_S1x512x128_0_1024_0)) (View.ld (Val := Elt Ideal) (e' := .bf16) p (Rect.unit ![0, 0, 1024, 0] ![1, 1, 512, 1536] inb_S1x1x2048x2048_S1x1x512x1536_0_0_1024_0)) old) (ix3 0 k e)
      = old (ix3 0 k e) + part (fun r k => p (ix4 0 0 r k)) d 1024 (by decide) ⟨k.val, by omega⟩ e := by
  unfold_payloads
  pointwise [part]

/-- The store of the queries' gradient of block 3. -/
theorem dq_pay3 (hp : Causal p) (r : Fin 512) (e : Fin 128) :
    (k0_pay2 (F := Ideal) (k0_pay36 (View.ld (Val := Elt Ideal) (e' := .bf16) d (Rect.unit ![0, 1536, 0] ![1, 512, 128] inb_S1x2048x128_S1x512x128_0_1536_0)) (View.ld (Val := Elt Ideal) (e' := .bf16) p (Rect.unit ![0, 0, 1536, 0] ![1, 1, 512, 2048] inb_S1x1x2048x2048_S1x1x512x2048_0_0_1536_0)) (View.ld (Val := Elt Ideal) (e' := .bf16) v (Rect.unit ![0, 0, 0] ![1, 2048, 128] inb_S1x2048x128_S1x2048x128_0_0_0))) (FloatOps.ofBits FTy.f32 0x3DD105EC#32) (View.ld (Val := Elt Ideal) (e' := .bf16) k1 (Rect.unit ![0, 0, 0] ![1, 2048, 128] inb_S1x2048x128_S1x2048x128_0_0_0)) ) (ix3 0 r e)
      = dqBlk k1 v p d (ix3 0 ⟨1536 + r.val, by omega⟩ e) := by
  unfold_payloads
  pointwise [dqBlk]
  exact row_cut hp 2048 (by decide) _ e (by first | (show 1536 + r.val < 2048; omega) | (show r.val < 2048; omega))

/-- The store of the keys' gradient of block 3. -/
theorem dk_pay3 (hp : Causal p) (old : Vec Ideal S1x2048x128 .f32) (k : Fin 2048) (e : Fin 128) :
    (k0_pay3 (F := Ideal) (k0_pay32 (View.ld (Val := Elt Ideal) (e' := .bf16) q (Rect.unit ![0, 1536, 0] ![1, 512, 128] inb_S1x2048x128_S1x512x128_0_1536_0))) (k0_pay36 (View.ld (Val := Elt Ideal) (e' := .bf16) d (Rect.unit ![0, 1536, 0] ![1, 512, 128] inb_S1x2048x128_S1x512x128_0_1536_0)) (View.ld (Val := Elt Ideal) (e' := .bf16) p (Rect.unit ![0, 0, 1536, 0] ![1, 1, 512, 2048] inb_S1x1x2048x2048_S1x1x512x2048_0_0_1536_0)) (View.ld (Val := Elt Ideal) (e' := .bf16) v (Rect.unit ![0, 0, 0] ![1, 2048, 128] inb_S1x2048x128_S1x2048x128_0_0_0))) (FloatOps.ofBits FTy.f32 0x3DD105EC#32) old) (ix3 0 k e)
      = old (ix3 0 k e) + part (ds v p d) q 1536 (by decide) ⟨k.val, by omega⟩ e := by
  unfold_payloads
  pointwise [part]
  refine congrArg (old _ + ·) (Finset.sum_congr rfl fun r _ => ?_)
  exact congrArg (· * _) (ds_cut hp 2048 (by decide) _ _ (by first | (show 1536 + r.val < 2048; omega) | (show r.val < 2048; omega)))

/-- The store of the values' gradient of block 3. -/
theorem dv_pay3 (old : Vec Ideal S1x2048x128 .f32) (k : Fin 2048) (e : Fin 128) :
    (k0_pay35 (F := Ideal) (View.ld (Val := Elt Ideal) (e' := .bf16) d (Rect.unit ![0, 1536, 0] ![1, 512, 128] inb_S1x2048x128_S1x512x128_0_1536_0)) (View.ld (Val := Elt Ideal) (e' := .bf16) p (Rect.unit ![0, 0, 1536, 0] ![1, 1, 512, 2048] inb_S1x1x2048x2048_S1x1x512x2048_0_0_1536_0)) old) (ix3 0 k e)
      = old (ix3 0 k e) + part (fun r k => p (ix4 0 0 r k)) d 1536 (by decide) ⟨k.val, by omega⟩ e := by
  unfold_payloads
  pointwise [part]

/-- A store of the first `n` rows that adds to what it reads there: the contents grow by the part that vanishes from row `n` on. -/
theorem canon_add (n : ℕ) (ho : ∀ a, (![0, 0, 0] : Fin 3 → ℕ) a + (![1, n, 128] : Fin 3 → ℕ) a ≤ S1x2048x128.size a) (hn : n ≤ 2048)
    (view : View sig .tc .vmem S1x2048x128 .f32)
    (L : List (View.Piece (Elt Ideal) S1x2048x128 .f32)) (hL : ∀ y, ∃ p ∈ L, y ∈ p.1.set)
    (w : Vec Ideal ⟨3, ![1, n, 128]⟩ .f32) (g : Fin 2048 → Fin 128 → EReal)
    (hw : ∀ (k : Fin n) (e : Fin 128), w (ix3 0 k e)
      = (view.readCov L (Rect.unit (s := S1x2048x128) ![0, 0, 0] ![1, n, 128] ho).toLoadRect : Vec Ideal ⟨3, ![1, n, 128]⟩ .f32) (ix3 0 k e)
        + g ⟨k.val, k.isLt.trans_le hn⟩ e)
    (hg : ∀ (k : Fin 2048) (e : Fin 128), n ≤ k.val → g k e = 0) (k : Fin 2048) (e : Fin 128) :
    View.canon (Val := Elt Ideal) (⟨Rect.unit ![0, 0, 0] ![1, n, 128] ho, w⟩ :: L) (ix3 0 k e)
      = View.canon (Val := Elt Ideal) L (ix3 0 k e) + g k e := by
  by_cases h : k.val < n
  · have hk : (ix3 0 k e : S1x2048x128.Idx) = (Rect.unit (s := S1x2048x128) ![0, 0, 0] ![1, n, 128] ho).emb (ix3 (n0 := 1) (n1 := n) (n2 := 128) 0 ⟨k.val, h⟩ e) := by
      funext a; refine Fin.ext ?_
      rw [Idealize.ShloMosaic.ValueKit.rect_emb_unit_val]
      fin_cases a
      · rfl
      · exact (Nat.zero_add _).symm
      · exact (Nat.zero_add _).symm
    have hc : ∀ z, View.canon (Val := Elt Ideal) (⟨Rect.unit ![0, 0, 0] ![1, n, 128] ho, w⟩ :: L)
        ((Rect.unit (s := S1x2048x128) ![0, 0, 0] ![1, n, 128] ho).emb z) = w z := fun z => View.canon_cons_emb (Val := Elt Ideal) _ w L z
    rw [hk, hc, hw, View.readCov_eq_canon_ld _ _ _ hL]
    rfl
  · rw [View.canon_cons_of_not_mem (Val := Elt Ideal) _ L, hg k e (Nat.le_of_not_lt h), add_zero]
    intro hm
    have h1 := ((Rect.mem_set_unit (inb := ho)).1 hm 1).2
    exact h ((Nat.zero_add n) ▸ h1)

/-- A store of the whole block covers it, -/
theorem covered_whole (w : Vec Ideal S1x2048x128 .f32) :
    ∀ y, ∃ p ∈ [(⟨Rect.unit ![0, 0, 0] ![1, 2048, 128] inb_S1x2048x128_S1x2048x128_0_0_0, w⟩ : View.Piece (Elt Ideal) S1x2048x128 .f32)], y ∈ p.1.set :=
  fun y => ⟨_, List.mem_cons_self, (Rect.mem_set_unit (inb := inb_S1x2048x128_S1x2048x128_0_0_0)).2 fun a => ⟨by fin_cases a <;> exact Nat.zero_le _, by
    fin_cases a
    · exact (y 0).isLt
    · exact (Nat.zero_add 2048).symm ▸ (y 1).isLt
    · exact (Nat.zero_add 128).symm ▸ (y 2).isLt⟩⟩

/-- and so does any list of stores that goes on from a covering one. -/
theorem covered_cons (q : View.Piece (Elt Ideal) S1x2048x128 .f32) {L : List (View.Piece (Elt Ideal) S1x2048x128 .f32)}
    (h : ∀ y, ∃ p ∈ L, y ∈ p.1.set) : ∀ y, ∃ p ∈ q :: L, y ∈ p.1.set := fun y =>
  let ⟨p, hp, hy⟩ := h y
  ⟨p, List.mem_cons_of_mem _ hp, hy⟩

/-- Four such stores over zeros leave the whole sum over the queries. -/
theorem canon_parts (w : Fin 2048 → Fin 2048 → EReal) (a : Head) (hw : ∀ r k : Fin 2048, r < k → w r k = 0)
    (view : View sig .tc .vmem S1x2048x128 .f32) (z : Vec Ideal S1x2048x128 .f32) (w0 : Vec Ideal S1x512x128 .f32)
    (w1 : Vec Ideal S1x1024x128 .f32) (w2 : Vec Ideal S1x1536x128 .f32) (w3 : Vec Ideal S1x2048x128 .f32)
    (hz : ∀ (k : Fin 2048) (e : Fin 128), z (ix3 0 k e) = 0)
    (h0 : ∀ (k : Fin 512) (e : Fin 128), w0 (ix3 0 k e)
      = (view.readCov (Val := Elt Ideal) [⟨Rect.unit ![0, 0, 0] ![1, 2048, 128] inb_S1x2048x128_S1x2048x128_0_0_0, z⟩] (Rect.unit (s := S1x2048x128) ![0, 0, 0] ![1, 512, 128] inb_S1x2048x128_S1x512x128_0_0_0).toLoadRect : Vec Ideal S1x512x128 .f32) (ix3 0 k e)
        + part w a 0 (by decide) ⟨k.val, by omega⟩ e)
    (h1 : ∀ (k : Fin 1024) (e : Fin 128), w1 (ix3 0 k e)
      = (view.readCov (Val := Elt Ideal) [⟨Rect.unit ![0, 0, 0] ![1, 512, 128] inb_S1x2048x128_S1x512x128_0_0_0, w0⟩, ⟨Rect.unit ![0, 0, 0] ![1, 2048, 128] inb_S1x2048x128_S1x2048x128_0_0_0, z⟩] (Rect.unit (s := S1x2048x128) ![0, 0, 0] ![1, 1024, 128] inb_S1x2048x128_S1x1024x128_0_0_0).toLoadRect : Vec Ideal S1x1024x128 .f32) (ix3 0 k e)
        + part w a 512 (by decide) ⟨k.val, by omega⟩ e)
    (h2 : ∀ (k : Fin 1536) (e : Fin 128), w2 (ix3 0 k e)
      = (view.readCov (Val := Elt Ideal) [⟨Rect.unit ![0, 0, 0] ![1, 1024, 128] inb_S1x2048x128_S1x1024x128_0_0_0, w1⟩, ⟨Rect.unit ![0, 0, 0] ![1, 512, 128] inb_S1x2048x128_S1x512x128_0_0_0, w0⟩, ⟨Rect.unit ![0, 0, 0] ![1, 2048, 128] inb_S1x2048x128_S1x2048x128_0_0_0, z⟩] (Rect.unit (s := S1x2048x128) ![0, 0, 0] ![1, 1536, 128] inb_S1x2048x128_S1x1536x128_0_0_0).toLoadRect : Vec Ideal S1x1536x128 .f32) (ix3 0 k e)
        + part w a 1024 (by decide) ⟨k.val, by omega⟩ e)
    (h3 : ∀ (k : Fin 2048) (e : Fin 128), w3 (ix3 0 k e)
      = (view.readCov (Val := Elt Ideal) [⟨Rect.unit ![0, 0, 0] ![1, 1536, 128] inb_S1x2048x128_S1x1536x128_0_0_0, w2⟩, ⟨Rect.unit ![0, 0, 0] ![1, 1024, 128] inb_S1x2048x128_S1x1024x128_0_0_0, w1⟩, ⟨Rect.unit ![0, 0, 0] ![1, 512, 128] inb_S1x2048x128_S1x512x128_0_0_0, w0⟩, ⟨Rect.unit ![0, 0, 0] ![1, 2048, 128] inb_S1x2048x128_S1x2048x128_0_0_0, z⟩] (Rect.unit (s := S1x2048x128) ![0, 0, 0] ![1, 2048, 128] inb_S1x2048x128_S1x2048x128_0_0_0).toLoadRect : Vec Ideal S1x2048x128 .f32) (ix3 0 k e)
        + part w a 1536 (by decide) ⟨k.val, by omega⟩ e)
    (k : Fin 2048) (e : Fin 128) :
    View.canon (Val := Elt Ideal) [⟨Rect.unit ![0, 0, 0] ![1, 2048, 128] inb_S1x2048x128_S1x2048x128_0_0_0, w3⟩, ⟨Rect.unit ![0, 0, 0] ![1, 1536, 128] inb_S1x2048x128_S1x1536x128_0_0_0, w2⟩, ⟨Rect.unit ![0, 0, 0] ![1, 1024, 128] inb_S1x2048x128_S1x1024x128_0_0_0, w1⟩, ⟨Rect.unit ![0, 0, 0] ![1, 512, 128] inb_S1x2048x128_S1x512x128_0_0_0, w0⟩, ⟨Rect.unit ![0, 0, 0] ![1, 2048, 128] inb_S1x2048x128_S1x2048x128_0_0_0, z⟩] (ix3 0 k e) = ∑ r : Fin 2048, w r k * a (ix3 0 r e) := by
  have hv : ∀ (o n : ℕ) (ho : o + 512 ≤ 2048) (_ : o + 512 = n) (k : Fin 2048) (e : Fin 128), n ≤ k.val → part w a o ho k e = 0 := fun o n ho hn k e hk =>
    Finset.sum_eq_zero fun r _ => by
      rw [hw ⟨o + r.val, (Nat.add_lt_add_left r.isLt o).trans_le ho⟩ k (Fin.lt_def.2 ((Nat.add_lt_add_left r.isLt o).trans_le (hn ▸ hk))), zero_mul]
  have c0 := covered_whole z
  have c1 := covered_cons ⟨Rect.unit ![0, 0, 0] ![1, 512, 128] inb_S1x2048x128_S1x512x128_0_0_0, w0⟩ c0
  have c2 := covered_cons ⟨Rect.unit ![0, 0, 0] ![1, 1024, 128] inb_S1x2048x128_S1x1024x128_0_0_0, w1⟩ c1
  have c3 := covered_cons ⟨Rect.unit ![0, 0, 0] ![1, 1536, 128] inb_S1x2048x128_S1x1536x128_0_0_0, w2⟩ c2
  rw [← part_sum w a k e]
  rw [canon_add 2048 inb_S1x2048x128_S1x2048x128_0_0_0 (by decide) view _ c3 w3 (part w a 1536 (by decide)) h3 (hv 1536 2048 (by decide) rfl) k e]
  rw [canon_add 1536 inb_S1x2048x128_S1x1536x128_0_0_0 (by decide) view _ c2 w2 (part w a 1024 (by decide)) h2 (hv 1024 1536 (by decide) rfl) k e]
  rw [canon_add 1024 inb_S1x2048x128_S1x1024x128_0_0_0 (by decide) view _ c1 w1 (part w a 512 (by decide)) h1 (hv 512 1024 (by decide) rfl) k e]
  rw [canon_add 512 inb_S1x2048x128_S1x512x128_0_0_0 (by decide) view _ c0 w0 (part w a 0 (by decide)) h0 (hv 0 512 (by decide) rfl) k e]
  have e0 := congrFun (View.canon_unit_zero (Val := Elt Ideal) (by funext a; fin_cases a <;> rfl) inb_S1x2048x128_S1x2048x128_0_0_0 z) (ix3 0 k e)
  rw [e0, hz]

variable (m : (ℓ : Loc nD τ sig) → Buf (Elt Ideal) ℓ)

/-- A grid point's block of the queries, the keys, the values, the cotangent (windows 0, 1, 2, 4), and of the probabilities. -/
abbrev qB (c : Dev nD) (t : Fin cfg0.N) : Head := iblk m c 0 t
@[inherit_doc qB] abbrev kB (c : Dev nD) (t : Fin cfg0.N) : Head := iblk m c 1 t
@[inherit_doc qB] abbrev vB (c : Dev nD) (t : Fin cfg0.N) : Head := iblk m c 2 t
@[inherit_doc qB] abbrev pB (c : Dev nD) (t : Fin cfg0.N) : Probs := iblk m c 3 t
@[inherit_doc qB] abbrev dB (c : Dev nD) (t : Fin cfg0.N) : Head := iblk m c 4 t

/-- What a grid point leaves of the queries' gradient. -/
theorem dq_block (c : Dev nD) (t : Fin cfg0.N) (hp : Causal (pB m c t)) :
    (outsAt0 m c t).1 = dqBlk (kB m c t) (vB m c t) (pB m c t) (dB m c t) := by
  unfold outsAt0 out0_A_5
  dsimp only
  rw [View.read_writes_eq_canon _ _ _ (cover0_A_5 c _ _ _ _ _ _ _ _ _ _ _ _ _ _ _ _ _ _ _ _ _ _)]
  unfold kernelRun0_A
  dsimp only
  sl_unfold_words
  simp only [View.readAt_eq_ld, (hs0_0 t).read_unread, (hs0_1 t).read_unread, (hs0_2 t).read_unread, (hs0_3 t).read_unread, (hs0_4 t).read_unread]
  exact Cert.Quarters.canon_quarters (t := .f32) _ _ _ _ _ (dq_pay0 _ _ _ _ hp) (dq_pay1 _ _ _ _ hp) (dq_pay2 _ _ _ _ hp) (dq_pay3 _ _ _ _ hp)

/-- What a grid point leaves of the keys' gradient. -/
theorem dk_block (c : Dev nD) (t : Fin cfg0.N) (hp : Causal (pB m c t)) (k : Fin 2048) (e : Fin 128) :
    (outsAt0 m c t).2.1 (ix3 0 k e) = ∑ r : Fin 2048, ds (vB m c t) (pB m c t) (dB m c t) r k * qB m c t (ix3 0 r e) := by
  unfold outsAt0 out0_A_6
  dsimp only
  rw [View.read_writes_eq_canon _ _ _ (cover0_A_6 c _ _ _ _ _ _ _ _ _ _ _ _ _ _ _ _ _ _ _ _ _ _)]
  unfold kernelRun0_A
  dsimp only
  sl_unfold_words
  simp only [View.readAt_eq_ld, (hs0_0 t).read_unread, (hs0_1 t).read_unread, (hs0_2 t).read_unread, (hs0_3 t).read_unread, (hs0_4 t).read_unread]
  exact canon_parts (ds (vB m c t) (pB m c t) (dB m c t)) (qB m c t) (fun r k h => by simp only [ds, hp r k h, zero_mul]) _ _ _ _ _ _ (fun k e => by unfold_payloads; pointwise) (dk_pay0 _ _ _ _ hp _) (dk_pay1 _ _ _ _ hp _) (dk_pay2 _ _ _ _ hp _) (dk_pay3 _ _ _ _ hp _) k e

/-- What a grid point leaves of the values' gradient. -/
theorem dv_block (c : Dev nD) (t : Fin cfg0.N) (hp : Causal (pB m c t)) (k : Fin 2048) (e : Fin 128) :
    (outsAt0 m c t).2.2 (ix3 0 k e) = ∑ r : Fin 2048, pB m c t (ix4 0 0 r k) * dB m c t (ix3 0 r e) := by
  unfold outsAt0 out0_A_7
  dsimp only
  rw [View.read_writes_eq_canon _ _ _ (cover0_A_7 c _ _ _ _ _ _ _ _ _ _ _ _ _ _ _ _ _ _ _ _ _ _)]
  unfold kernelRun0_A
  dsimp only
  sl_unfold_words
  simp only [View.readAt_eq_ld, (hs0_0 t).read_unread, (hs0_1 t).read_unread, (hs0_2 t).read_unread, (hs0_3 t).read_unread, (hs0_4 t).read_unread]
  exact canon_parts (fun r k => pB m c t (ix4 0 0 r k)) (dB m c t) hp _ _ _ _ _ _ (fun k e => by unfold_payloads; pointwise) (dv_pay0 _ _ _) (dv_pay1 _ _ _) (dv_pay2 _ _ _) (dv_pay3 _ _ _) k e

end Cert.AttnIdeal.Block

end
-- ==== Proof.AttnRef.lean ====
module

public import proofs.«01_k».proof.Proof.Gen.AttnRefIdeal.Run
public import proofs.«01_k».proof.Proof.Gen.AttnRefIdeal.Read
public import Idealize.ShloMosaic.Lib.Pointwise
public import Idealize.ShloMosaic.Lib.KernelVsHost
public import Idealize.ShloMosaic.Lib.WordCmp
public import proofs.«01_k».proof.Proof.SoftMath
public import proofs.«01_k».proof.Proof.HeadPad

@[expose] public section

noncomputable section

/-! The reference's stages read at an index: the scores, the probabilities, the gradient of the scores, and the three
results with their padded columns. -/

namespace Cert.AttnRefIdeal.Val

open Cert.AttnRefIdeal Cert.AttnRefIdeal.Gen Cert.AttnRefIdeal.Read Idealize.ShloMosaic Idealize.ShloMosaic.TcCoe Idealize.SL.Sem
open Cert.SoftMath Cert.HeadPad

variable (x0 x1 : S2x2048x8x96.Idx → EReal) (x2 : S2x2048x8x64.Idx → EReal) (x3 : S2x2048x512.Idx → EReal)

/-- The word of the scale. -/
abbrev sc : EReal := Ideal.ofBits .f32 0x3DD105EC#32

theorem sc_real : IsReal sc := ⟨_, by simp [Ideal.ofBits, Ideal.ieee, -EReal.coe_mul]; rfl⟩

theorem bot_word : Ideal.ofBits .f32 0xFF800000#32 = ⊥ := by simp [Ideal.ofBits, Ideal.ieee]

theorem zero_word : Ideal.ofBits .f32 0x00000000#32 = 0 := by simp [Ideal.ofBits, Ideal.ieee]

theorem one_word : Ideal.ofBits .f32 0x3F800000#32 = 1 := by
  rw [show (1 : EReal) = ((1 : ℝ) : EReal) by norm_cast]
  simp [Ideal.ofBits, Ideal.ieee, -EReal.coe_mul]; norm_num

/-- The padding's value: the integer zero as a real. -/
theorem int_zero (i : S_.Idx) : sitofp (F := Ideal) .f32 (constantI S_ 32 0#32) i = (0 : EReal) := by
  show (((0#32 : BitVec 32).toInt : ℝ) : EReal) = 0
  simp

/-- A masked score. -/
theorem score_at (b : Fin 2) (h : Fin 8) (r k : Fin 2048) :
    val_main_v9_0 (F := Ideal) x0 x1 (ix4 b h r k)
      = if k ≤ r then (∑ x : Fin 96, x0 (ix4 b r h x) * x1 (ix4 b k h x)) * sc else ⊥ := by
  have e : val_main_v9_0 (F := Ideal) x0 x1 (ix4 b h r k)
      = Scalar.select (IntOp.cmpi .sle (BitVec.ofNat 32 k.val) (BitVec.ofNat 32 r.val))
          ((∑ x : Fin 96, x0 (ix4 b r h x) * x1 (ix4 b k h x)) * sc) (Ideal.ofBits .f32 0xFF800000#32) := by
    pointwise [val_main_v9_0, val_main_v9_1, val_main_v2, val_main_v1, val_main_v0, val_main_v8, val_main_v7, val_main_v6,
      val_main_v5, val_main_v4, val_main_v3, val_main_call0_v2, val_main_call0_v0, val_main_cst_0, val_main_cst]
    try rfl
  rw [e, WordCmp.cmpi_sle_ofNat (by omega) (by omega), bot_word, WordCmp.select_ofBool]
  simp only [decide_eq_true_eq, Fin.le_def]

/-- The mask's bit. -/
theorem mask_at (b : Fin 2) (h : Fin 8) (r k : Fin 2048) :
    val_main_v9_1 (F := Ideal) (ix4 b h r k) = BitVec.ofBool (decide (k ≤ r)) := by
  have e : val_main_v9_1 (F := Ideal) (ix4 b h r k) = IntOp.cmpi .sle (BitVec.ofNat 32 k.val) (BitVec.ofNat 32 r.val) := by
    pointwise [val_main_v9_1, val_main_v8, val_main_v7, val_main_v6, val_main_v5, val_main_v4, val_main_v3]
  rw [e, WordCmp.cmpi_sle_ofNat (by omega) (by omega)]
  simp only [Fin.le_def]

/-- The largest entry along the last axis lies strictly between bottom and top when every entry is below top and one is
above bottom. -/
theorem fold_between (y : S2x8x2048x2048.Idx → EReal) (z : S_.Idx → EReal) (hz : ∀ i, z i = ⊥) (b : Fin 2) (h : Fin 8) (r : Fin 2048)
    (hy : ∀ i, y i < ⊤) (k : Fin 2048) (hk : ⊥ < y (ix4 b h r k)) :
    IsReal (Host.reduce (FloatOps.maximumf (F := Ideal) (φ := .f32)) y z reducesTo_S2x8x2048x2048_S2x8x2048_d3 h_S_ (ix3 b h r)) := by
  rw [Host.reduce_eq_fold, hz]
  show IsReal (Finset.fold max ⊥ y _)
  refine IsReal.of_lt ((Finset.lt_fold_max _).2 (.inr ⟨ix4 b h r k, Finset.mem_filter.2 ⟨Finset.mem_univ _, ?_⟩, hk⟩))
    ((Finset.fold_max_lt _).2 ⟨bot_lt_top, fun i _ => hy i⟩)
  funext a
  match a with
  | ⟨0, _⟩ => exact Fin.ext (Shape.ReducesTo.drop_apply_val_of_eq reducesTo_S2x8x2048x2048_S2x8x2048_d3 _ (⟨0, by decide⟩ : Fin 3) (⟨0, by decide⟩ : Fin 4))
  | ⟨1, _⟩ => exact Fin.ext (Shape.ReducesTo.drop_apply_val_of_eq reducesTo_S2x8x2048x2048_S2x8x2048_d3 _ (⟨1, by decide⟩ : Fin 3) (⟨1, by decide⟩ : Fin 4))
  | ⟨2, _⟩ => exact Fin.ext (Shape.ReducesTo.drop_apply_val_of_eq reducesTo_S2x8x2048x2048_S2x8x2048_d3 _ (⟨2, by decide⟩ : Fin 3) (⟨2, by decide⟩ : Fin 4))

/-- A product of a query with a key, scaled, is a real. -/
theorem dot_real (h0 : ∀ i, IsReal (x0 i)) (h1 : ∀ i, IsReal (x1 i)) (b : Fin 2) (h : Fin 8) (r k : Fin 2048) :
    IsReal ((∑ x : Fin 96, x0 (ix4 b r h x) * x1 (ix4 b k h x)) * sc) :=
  (IsReal.sum _ fun _ => (h0 _).mul (h1 _)).mul sc_real

theorem score_lt_top (h0 : ∀ i, IsReal (x0 i)) (h1 : ∀ i, IsReal (x1 i)) (b : Fin 2) (h : Fin 8) (r k : Fin 2048) :
    val_main_v9_0 (F := Ideal) x0 x1 (ix4 b h r k) < ⊤ := by
  rw [score_at]
  split
  · exact (dot_real x0 x1 h0 h1 b h r k).lt_top
  · exact bot_lt_top

theorem score_diag (h0 : ∀ i, IsReal (x0 i)) (h1 : ∀ i, IsReal (x1 i)) (b : Fin 2) (h : Fin 8) (r : Fin 2048) :
    IsReal (val_main_v9_0 (F := Ideal) x0 x1 (ix4 b h r r)) := by
  rw [score_at, if_pos (le_refl r)]
  exact dot_real x0 x1 h0 h1 b h r r

/-- The larger of two vectors, at an index. -/
theorem larger_at (y z : FVec Ideal S2x8x2048 .f32) (i : S2x8x2048.Idx) : maximumf y z i = max (y i : EReal) (z i) := rfl

theorem floor_at (i : S2x8x2048.Idx) : val_main_v16 (F := Ideal) i = (⊥ : EReal) := bot_word

/-- The row's maximum is the fold over the row, the bottom being below it. -/
theorem max_at (i : S2x8x2048.Idx) : val_main_v17 (F := Ideal) x0 x1 i = val_main_v10 (F := Ideal) x0 x1 i := by
  unfold val_main_v17
  rw [larger_at, floor_at, max_eq_right bot_le]

/-- The row's maximum is a real when the scores are reals. -/
theorem max_real (h0 : ∀ i, IsReal (x0 i)) (h1 : ∀ i, IsReal (x1 i)) (b : Fin 2) (h : Fin 8) (r : Fin 2048) :
    IsReal (val_main_v17 (F := Ideal) x0 x1 (ix3 b h r)) := by
  rw [max_at]
  have hs := fun i : S2x8x2048x2048.Idx => score_lt_top x0 x1 h0 h1 (i 0) (i 1) (i 2) (i 3)
  have hd := score_diag x0 x1 h0 h1 b h r
  unfold val_main_v10
  generalize val_main_v9_0 (F := Ideal) x0 x1 = y at hs hd ⊢
  refine fold_between y _ (fun _ => bot_word) b h r (fun i => ?_) r hd.bot_lt
  have hi : i = ix4 (i 0) (i 1) (i 2) (i 3) := funext fun a => by
    match a with | ⟨0, _⟩ => rfl | ⟨1, _⟩ => rfl | ⟨2, _⟩ => rfl | ⟨3, _⟩ => rfl
  exact (congrArg y hi).trans_lt (hs i)

/-- The exponential of a masked score less the row's maximum. -/
abbrev E (b : Fin 2) (h : Fin 8) (r k : Fin 2048) : EReal :=
  Ideal.exp (val_main_v9_0 (F := Ideal) x0 x1 (ix4 b h r k) - val_main_v17 (F := Ideal) x0 x1 (ix3 b h r))

theorem exp_at (b : Fin 2) (h : Fin 8) (r k : Fin 2048) : val_main_v30 (F := Ideal) x0 x1 (ix4 b h r k) = E x0 x1 b h r k := by
  pointwise [val_main_v30, val_main_v29, val_main_v28, val_main_v27]

theorem norm_at (b : Fin 2) (h : Fin 8) (r : Fin 2048) : val_main_v31 (F := Ideal) x0 x1 (ix3 b h r) = ∑ k, E x0 x1 b h r k := by
  pointwise [val_main_v31, val_main_v30, val_main_v29, val_main_v28, val_main_v27]
  rw [show val_main_cst_9 (F := Ideal) (Shape.Idx.first h_S_) = 0 from zero_word, zero_add]

theorem prob_at (b : Fin 2) (h : Fin 8) (r k : Fin 2048) :
    val_main_v34 (F := Ideal) x0 x1 (ix4 b h r k) = Ideal.div (E x0 x1 b h r k) (∑ k, E x0 x1 b h r k) := by
  rw [← norm_at, ← exp_at]
  pointwise [val_main_v34, val_main_v33, val_main_v32]

theorem row (h0 : ∀ i, IsReal (x0 i)) (h1 : ∀ i, IsReal (x1 i)) (b : Fin 2) (h : Fin 8) (r : Fin 2048) :
    ∃ c : ℝ, Row (fun k => E x0 x1 b h r k) (∑ k, E x0 x1 b h r k) c :=
  row_of_scores _ _ (max_real x0 x1 h0 h1 b h r) (fun k => score_lt_top x0 x1 h0 h1 b h r k) r (score_diag x0 x1 h0 h1 b h r)

/-- No probability at a key after the query. -/
theorem prob_causal (h0 : ∀ i, IsReal (x0 i)) (h1 : ∀ i, IsReal (x1 i)) (b : Fin 2) (h : Fin 8) (r k : Fin 2048) (hk : r < k) :
    val_main_v34 (F := Ideal) x0 x1 (ix4 b h r k) = 0 := by
  obtain ⟨c, hc⟩ := row x0 x1 h0 h1 b h r
  obtain ⟨M, hM⟩ := max_real x0 x1 h0 h1 b h r
  have e : E x0 x1 b h r k = 0 := by
    unfold E
    rw [score_at, if_neg (not_le.2 hk), hM, EReal.bot_sub]; rfl
  rw [prob_at, hc.div_eq, e, zero_mul]

/-- The gradient of a probability. -/
theorem dprob_at (b : Fin 2) (h : Fin 8) (r k : Fin 2048) :
    val_main_v43 (F := Ideal) x2 x3 (ix4 b h r k) = ∑ x : Fin 64, x3 (ix3 b r ⟨h.val * 64 + x.val, by omega⟩) * x2 (ix4 b k h x) := by
  pointwise [val_main_v43, val_main_v42, val_main_v41, val_main_v40, val_main_v39]

/-- The gradient of a score, in the probabilities. -/
theorem dscore_at (h0 : ∀ i, IsReal (x0 i)) (h1 : ∀ i, IsReal (x1 i)) (b : Fin 2) (h : Fin 8) (r k : Fin 2048) :
    val_main_v60 (F := Ideal) x0 x1 x2 x3 (ix4 b h r k)
      = val_main_v34 (F := Ideal) x0 x1 (ix4 b h r k) * (val_main_v43 (F := Ideal) x2 x3 (ix4 b h r k)
          - ∑ k', val_main_v34 (F := Ideal) x0 x1 (ix4 b h r k') * val_main_v43 (F := Ideal) x2 x3 (ix4 b h r k')) * sc := by
  have e : val_main_v60 (F := Ideal) x0 x1 x2 x3 (ix4 b h r k) = Scalar.select (val_main_v9_1 (F := Ideal) (ix4 b h r k))
      ((Ideal.div (val_main_v43 (F := Ideal) x2 x3 (ix4 b h r k)) (val_main_v31 (F := Ideal) x0 x1 (ix3 b h r)) +
          (Ideal.ofBits .f32 0x00000000#32 + ∑ _x : Fin 1, -(Ideal.ofBits .f32 0x00000000#32 + ∑ x,
              val_main_v43 (F := Ideal) x2 x3 (ix4 b h r x) * Ideal.div (Ideal.ofBits .f32 0x3F800000#32)
                (val_main_v31 (F := Ideal) x0 x1 (ix3 b h r) * val_main_v31 (F := Ideal) x0 x1 (ix3 b h r)) *
                val_main_v30 (F := Ideal) x0 x1 (ix4 b h r x)))) * val_main_v30 (F := Ideal) x0 x1 (ix4 b h r k))
      (val_main_call1_cst (F := Ideal) ix0) * sc := by
    pointwise [val_main_v60, val_main_v59, val_main_v58, val_main_v57, val_main_v56, val_main_v53, val_main_v54, val_main_v55,
      val_main_v51, val_main_v50, val_main_v49, val_main_v48, val_main_v47, val_main_v46, val_main_v52, val_main_v37, val_main_v36,
      val_main_v35, val_main_v32, val_main_call1_v0, val_main_cst_10, val_main_cst_11, val_main_cst_12, val_main_cst_13]
  have z : val_main_call1_cst (F := Ideal) ix0 = 0 := zero_word
  obtain ⟨c, hc⟩ := row x0 x1 h0 h1 b h r
  rw [e, z, mask_at, WordCmp.select_ofBool]
  rcases le_or_gt k r with hk | hk
  · have g := grad_row hc (fun k => val_main_v43 (F := Ideal) x2 x3 (ix4 b h r k)) k
    simp only [zero_word, one_word, zero_add, Finset.univ_unique, Finset.sum_singleton, norm_at, exp_at, hk, decide_true, if_true, prob_at] at g ⊢
    rw [g]
  · rw [prob_causal x0 x1 h0 h1 b h r k hk, zero_mul]
    simp only [zero_word, not_le.2 hk, decide_false, Bool.false_eq_true, if_false]

/-- The gradients with their padded columns: of the queries, of the keys, of the values. -/
theorem dq_at (b : Fin 2) (r : Fin 2048) (h : Fin 8) (x : Fin 128) : val_main_v66 (F := Ideal) x0 x1 x2 x3 (ix3 b r (col h x))
    = padded 96 (val_main_v64 (F := Ideal) x0 x1 x2 x3) b r h x :=
  (flat_at _ shapeCasts_S2x2048x8x128_S2x2048x1024 b r h x).trans
    (pad_at _ (val_main_call2_v0 (F := Ideal)) int_zero pads_S2x2048x8x96_S2x2048x8x128_000_000_000_0320 h_S_ b r h x)

theorem dk_at (b : Fin 2) (r : Fin 2048) (h : Fin 8) (x : Fin 128) : val_main_v68 (F := Ideal) x0 x1 x2 x3 (ix3 b r (col h x))
    = padded 96 (val_main_v62 (F := Ideal) x0 x1 x2 x3) b r h x :=
  (flat_at _ shapeCasts_S2x2048x8x128_S2x2048x1024 b r h x).trans
    (pad_at _ (val_main_call3_v0 (F := Ideal)) int_zero pads_S2x2048x8x96_S2x2048x8x128_000_000_000_0320 h_S_ b r h x)

theorem dv_at (b : Fin 2) (r : Fin 2048) (h : Fin 8) (x : Fin 128) : val_main_v70 (F := Ideal) x0 x1 x3 (ix3 b r (col h x))
    = padded 64 (val_main_v45 (F := Ideal) x0 x1 x3) b r h x :=
  (flat_at _ shapeCasts_S2x2048x8x128_S2x2048x1024 b r h x).trans
    (pad_at _ (val_main_call4_v0 (F := Ideal)) int_zero pads_S2x2048x8x64_S2x2048x8x128_000_000_000_0640 h_S_ b r h x)

/-- The gradients proper, as sums. -/
theorem dq_sum (b : Fin 2) (r : Fin 2048) (h : Fin 8) (e : Fin 96) : val_main_v64 (F := Ideal) x0 x1 x2 x3 (ix4 b r h e)
    = ∑ k : Fin 2048, val_main_v60 (F := Ideal) x0 x1 x2 x3 (ix4 b h r k) * x1 (ix4 b k h e) := by
  pointwise [val_main_v64, val_main_v63]

theorem dk_sum (b : Fin 2) (k : Fin 2048) (h : Fin 8) (e : Fin 96) : val_main_v62 (F := Ideal) x0 x1 x2 x3 (ix4 b k h e)
    = ∑ r : Fin 2048, val_main_v60 (F := Ideal) x0 x1 x2 x3 (ix4 b h r k) * x0 (ix4 b r h e) := by
  pointwise [val_main_v62, val_main_v61]

theorem dv_sum (b : Fin 2) (k : Fin 2048) (h : Fin 8) (e : Fin 64) : val_main_v45 (F := Ideal) x0 x1 x3 (ix4 b k h e)
    = ∑ r : Fin 2048, x3 (ix3 b r ⟨h.val * 64 + e.val, by omega⟩) * val_main_v34 (F := Ideal) x0 x1 (ix4 b h r k) := by
  pointwise [val_main_v45, val_main_v44, val_main_v42, val_main_v41, val_main_v40, val_main_v39]

end Cert.AttnRefIdeal.Val

end
-- ==== Proof.AttnArr.lean ====
module

public import proofs.«01_k».proof.Proof.AttnBlock
public import proofs.«01_k».proof.Proof.AttnRef
public import proofs.«01_k».proof.Proof.HeadPad
public import Idealize.ShloMosaic.Lib.KernelVsHost
public import Idealize.ShloMosaic.Lib.Tactic.CleanTypes

@[expose] public section

noncomputable section

/-! The kernel's input blocks at a grid point, in the arguments. -/

namespace Cert.AttnIdeal.Arr

open Cert.AttnIdeal Cert.AttnIdeal.Gen Idealize.ShloMosaic Idealize.ShloMosaic.TcCoe Idealize.SL.Sem Cert.HeadPad Cert.AttnIdeal.Block

variable (m : (ℓ : Loc nD τ sig) → Buf (Elt Ideal) ℓ)

/-- The batch of a grid point, and its head. -/
abbrev bt (t : Fin cfg0.N) : Fin 2 := ⟨t.val / 8, by have := t.isLt; show t.val / 8 < 2; have h : cfg0.N = 16 := by decide
                                                     omega⟩
abbrev hd (t : Fin cfg0.N) : Fin 8 := ⟨t.val % 8, by omega⟩

abbrev a0 (c : Dev nD) : S2x2048x8x96.Idx → EReal := m ((c.tc : Thread nD τ).loc main_arg0)
abbrev a1 (c : Dev nD) : S2x2048x8x96.Idx → EReal := m ((c.tc : Thread nD τ).loc main_arg1)
abbrev a2 (c : Dev nD) : S2x2048x8x64.Idx → EReal := m ((c.tc : Thread nD τ).loc main_arg2)
abbrev a3 (c : Dev nD) : S2x2048x512.Idx → EReal := m ((c.tc : Thread nD τ).loc main_arg3)

/-- The host's zero, the padding's value. -/
abbrev zpad : S_.Idx → EReal := sitofp (F := Ideal) .f32 (constantI S_ 32 0#32)

theorem zpad_eq (i : S_.Idx) : zpad i = 0 := by
  show (((0#32 : BitVec 32).toInt : ℝ) : EReal) = 0
  simp

/-- Rounding to a shorter format keeps an ideal vector. -/
theorem short_eq {S : Shape} (y : FVec Ideal S .f32) (h : FTy.bf16.bits < FTy.f32.bits) : truncf (F := Ideal) .bf16 y h = (y : S.Idx → EReal) := rfl

/-- The padded queries as the region finds them; then the keys, the values and the cotangent. -/
theorem queries_at (c : Dev nD) (b : Fin 2) (r : Fin 2048) (h : Fin 8) (x : Fin 128) :
    V m c main_v24 (ix3 b r (col h x)) = padded 96 (a0 m c) b r h x := by
  show StableHlo.after (List.flatten [hostOps0, hostOps0_1, hostOps0_2, hostOps0_3, hostOps0_4, hostOps0_5, hostOps0_6, hostOps0_7, hostOps0_8, hostOps0_9, hostOps0_10]) (fun b => m (c, b)) main_v24 _ = _
  simp only [hostOps0, hostOps0_1, hostOps0_2, hostOps0_3, hostOps0_4, hostOps0_5, hostOps0_6, hostOps0_7, hostOps0_8, hostOps0_9, hostOps0_10, List.flatten_cons, List.flatten_nil, List.append_nil, List.cons_append, List.nil_append]
  after_results_simp
  simp -implicitDefEqProofs only [StableHlo.TRef.toBuf, StableHlo.TRef.ofBuf, cast_cast, cast_eq]
  clean_types
  rw [short_eq]
  exact (flat_at _ _ b r h x).trans (pad_at _ _ zpad_eq _ _ b r h x)

theorem keys_at (c : Dev nD) (b : Fin 2) (r : Fin 2048) (h : Fin 8) (x : Fin 128) :
    V m c main_v27 (ix3 b r (col h x)) = padded 96 (a1 m c) b r h x := by
  show StableHlo.after (List.flatten [hostOps0, hostOps0_1, hostOps0_2, hostOps0_3, hostOps0_4, hostOps0_5, hostOps0_6, hostOps0_7, hostOps0_8, hostOps0_9, hostOps0_10]) (fun b => m (c, b)) main_v27 _ = _
  simp only [hostOps0, hostOps0_1, hostOps0_2, hostOps0_3, hostOps0_4, hostOps0_5, hostOps0_6, hostOps0_7, hostOps0_8, hostOps0_9, hostOps0_10, List.flatten_cons, List.flatten_nil, List.append_nil, List.cons_append, List.nil_append]
  after_results_simp
  simp -implicitDefEqProofs only [StableHlo.TRef.toBuf, StableHlo.TRef.ofBuf, cast_cast, cast_eq]
  clean_types
  rw [short_eq]
  exact (flat_at _ _ b r h x).trans (pad_at _ _ zpad_eq _ _ b r h x)

theorem values_at (c : Dev nD) (b : Fin 2) (r : Fin 2048) (h : Fin 8) (x : Fin 128) :
    V m c main_v30 (ix3 b r (col h x)) = padded 64 (a2 m c) b r h x := by
  show StableHlo.after (List.flatten [hostOps0, hostOps0_1, hostOps0_2, hostOps0_3, hostOps0_4, hostOps0_5, hostOps0_6, hostOps0_7, hostOps0_8, hostOps0_9, hostOps0_10]) (fun b => m (c, b)) main_v30 _ = _
  simp only [hostOps0, hostOps0_1, hostOps0_2, hostOps0_3, hostOps0_4, hostOps0_5, hostOps0_6, hostOps0_7, hostOps0_8, hostOps0_9, hostOps0_10, List.flatten_cons, List.flatten_nil, List.append_nil, List.cons_append, List.nil_append]
  after_results_simp
  simp -implicitDefEqProofs only [StableHlo.TRef.toBuf, StableHlo.TRef.ofBuf, cast_cast, cast_eq]
  clean_types
  rw [short_eq]
  exact (flat_at _ _ b r h x).trans (pad_at _ _ zpad_eq _ _ b r h x)

theorem cotangent_at (c : Dev nD) (b : Fin 2) (r : Fin 2048) (h : Fin 8) (x : Fin 128) :
    V m c main_v34 (ix3 b r (col h x)) = padded 64 (shapeCast S2x2048x8x64 (a3 m c) shapeCasts_S2x2048x512_S2x2048x8x64) b r h x := by
  show StableHlo.after (List.flatten [hostOps0, hostOps0_1, hostOps0_2, hostOps0_3, hostOps0_4, hostOps0_5, hostOps0_6, hostOps0_7, hostOps0_8, hostOps0_9, hostOps0_10]) (fun b => m (c, b)) main_v34 _ = _
  simp only [hostOps0, hostOps0_1, hostOps0_2, hostOps0_3, hostOps0_4, hostOps0_5, hostOps0_6, hostOps0_7, hostOps0_8, hostOps0_9, hostOps0_10, List.flatten_cons, List.flatten_nil, List.append_nil, List.cons_append, List.nil_append]
  after_results_simp
  simp -implicitDefEqProofs only [StableHlo.TRef.toBuf, StableHlo.TRef.ofBuf, cast_cast, cast_eq]
  clean_types
  rw [short_eq]
  exact (flat_at _ _ b r h x).trans (pad_at _ _ zpad_eq _ _ b r h x)

/-- The probabilities are the reference's. -/
theorem probs_eq (c : Dev nD) (i : S2x8x2048x2048.Idx) : V m c main_v21 i = Cert.AttnRefIdeal.Read.val_main_v34 (F := Ideal) (a0 m c) (a1 m c) i := by
  show StableHlo.after (List.flatten [hostOps0, hostOps0_1, hostOps0_2, hostOps0_3, hostOps0_4, hostOps0_5, hostOps0_6, hostOps0_7, hostOps0_8, hostOps0_9, hostOps0_10]) (fun b => m (c, b)) main_v21 _ = _
  simp only [hostOps0, hostOps0_1, hostOps0_2, hostOps0_3, hostOps0_4, hostOps0_5, hostOps0_6, hostOps0_7, hostOps0_8, hostOps0_9, hostOps0_10, List.flatten_cons, List.flatten_nil, List.append_nil, List.cons_append, List.nil_append]
  after_results_simp
  simp -implicitDefEqProofs only [StableHlo.TRef.toBuf, StableHlo.TRef.ofBuf, cast_cast, cast_eq]
  clean_types
  rw [short_eq]
  refine congrFun ?_ i
  open Cert.AttnRefIdeal.Read in
  unfold val_main_v34 val_main_v33 val_main_v32 val_main_v31 val_main_v30 val_main_v29 val_main_v28 val_main_v27 val_main_v17 val_main_v16 val_main_v10 val_main_v9_0 val_main_v9_1 val_main_v8 val_main_v7 val_main_v6 val_main_v5 val_main_v4 val_main_v3 val_main_v2 val_main_v1 val_main_v0 val_main_call0_v2 val_main_call0_v0 val_main_cst val_main_cst_0 val_main_cst_1 val_main_cst_3 val_main_cst_9
  rfl

theorem idx0 : ∀ t : Fin cfg0.N, win0_0.index t = ![(bt t).val, 0, (hd t).val] := (by decide +kernel : ∀ t : Fin grid0.N, _)
theorem idx1 : ∀ t : Fin cfg0.N, win0_1.index t = ![(bt t).val, 0, (hd t).val] := (by decide +kernel : ∀ t : Fin grid0.N, _)
theorem idx2 : ∀ t : Fin cfg0.N, win0_2.index t = ![(bt t).val, 0, (hd t).val] := (by decide +kernel : ∀ t : Fin grid0.N, _)
theorem idx3 : ∀ t : Fin cfg0.N, win0_3.index t = ![(bt t).val, (hd t).val, 0, 0] := (by decide +kernel : ∀ t : Fin grid0.N, _)
theorem idx4 : ∀ t : Fin cfg0.N, win0_4.index t = ![(bt t).val, 0, (hd t).val] := (by decide +kernel : ∀ t : Fin grid0.N, _)
theorem idx5 : ∀ t : Fin cfg0.N, win0_5.index t = ![(bt t).val, 0, (hd t).val] := (by decide +kernel : ∀ t : Fin grid0.N, _)
theorem idx6 : ∀ t : Fin cfg0.N, win0_6.index t = ![(bt t).val, 0, (hd t).val] := (by decide +kernel : ∀ t : Fin grid0.N, _)
theorem idx7 : ∀ t : Fin cfg0.N, win0_7.index t = ![(bt t).val, 0, (hd t).val] := (by decide +kernel : ∀ t : Fin grid0.N, _)

/-- A block's entry sits in its array at the grid point's batch and head. -/
theorem emb0 (t : Fin cfg0.N) (r : Fin 2048) (x : Fin 128) : (win0_0.blk t).view.emb (ix3 0 r x) = ix3 (bt t) r (col (hd t) x) := by
  blk_ext [idx0]
theorem emb1 (t : Fin cfg0.N) (r : Fin 2048) (x : Fin 128) : (win0_1.blk t).view.emb (ix3 0 r x) = ix3 (bt t) r (col (hd t) x) := by
  blk_ext [idx1]
theorem emb2 (t : Fin cfg0.N) (r : Fin 2048) (x : Fin 128) : (win0_2.blk t).view.emb (ix3 0 r x) = ix3 (bt t) r (col (hd t) x) := by
  blk_ext [idx2]
theorem emb4 (t : Fin cfg0.N) (r : Fin 2048) (x : Fin 128) : (win0_4.blk t).view.emb (ix3 0 r x) = ix3 (bt t) r (col (hd t) x) := by
  blk_ext [idx4]
theorem emb3 (t : Fin cfg0.N) (r k : Fin 2048) : (win0_3.blk t).view.emb (ix4 0 0 r k) = ix4 (bt t) (hd t) r k := by
  blk_ext [idx3]
theorem emb5 (t : Fin cfg0.N) (y : S1x2048x128.Idx) : (win0_5.blk t).view.emb y = ix3 (bt t) (y 1) (col (hd t) (y 2)) := by
  blk_ext [idx5]
theorem emb6 (t : Fin cfg0.N) (y : S1x2048x128.Idx) : (win0_6.blk t).view.emb y = ix3 (bt t) (y 1) (col (hd t) (y 2)) := by
  blk_ext [idx6]
theorem emb7 (t : Fin cfg0.N) (y : S1x2048x128.Idx) : (win0_7.blk t).view.emb y = ix3 (bt t) (y 1) (col (hd t) (y 2)) := by
  blk_ext [idx7]

/-- The blocks at a grid point, entry by entry. -/
theorem qB_at (c : Dev nD) (t : Fin cfg0.N) (r : Fin 2048) (x : Fin 128) :
    qB m c t (ix3 0 r x) = padded 96 (a0 m c) (bt t) r (hd t) x := by
  have h := queries_at m c (bt t) r (hd t) x
  rw [← emb0 t r x] at h
  have hV : ∀ A : Buf (Elt Ideal) ((c.tc : Thread nD τ).loc main_v24), ((cfg0.win 0).blk t).view.read (Elt Ideal) A (ix3 0 r x)
      = A ((win0_0.blk t).view.emb (ix3 0 r x)) := fun A => rfl
  exact (hV (V m c main_v24)).trans h
theorem kB_at (c : Dev nD) (t : Fin cfg0.N) (r : Fin 2048) (x : Fin 128) :
    kB m c t (ix3 0 r x) = padded 96 (a1 m c) (bt t) r (hd t) x := by
  have h := keys_at m c (bt t) r (hd t) x
  rw [← emb1 t r x] at h
  have hV : ∀ A : Buf (Elt Ideal) ((c.tc : Thread nD τ).loc main_v27), ((cfg0.win 1).blk t).view.read (Elt Ideal) A (ix3 0 r x)
      = A ((win0_1.blk t).view.emb (ix3 0 r x)) := fun A => rfl
  exact (hV (V m c main_v27)).trans h
theorem vB_at (c : Dev nD) (t : Fin cfg0.N) (r : Fin 2048) (x : Fin 128) :
    vB m c t (ix3 0 r x) = padded 64 (a2 m c) (bt t) r (hd t) x := by
  have h := values_at m c (bt t) r (hd t) x
  rw [← emb2 t r x] at h
  have hV : ∀ A : Buf (Elt Ideal) ((c.tc : Thread nD τ).loc main_v30), ((cfg0.win 2).blk t).view.read (Elt Ideal) A (ix3 0 r x)
      = A ((win0_2.blk t).view.emb (ix3 0 r x)) := fun A => rfl
  exact (hV (V m c main_v30)).trans h
theorem dB_at (c : Dev nD) (t : Fin cfg0.N) (r : Fin 2048) (x : Fin 128) :
    dB m c t (ix3 0 r x) = padded 64 (shapeCast S2x2048x8x64 (a3 m c) shapeCasts_S2x2048x512_S2x2048x8x64) (bt t) r (hd t) x := by
  have h := cotangent_at m c (bt t) r (hd t) x
  rw [← emb4 t r x] at h
  have hV : ∀ A : Buf (Elt Ideal) ((c.tc : Thread nD τ).loc main_v34), ((cfg0.win 4).blk t).view.read (Elt Ideal) A (ix3 0 r x)
      = A ((win0_4.blk t).view.emb (ix3 0 r x)) := fun A => rfl
  exact (hV (V m c main_v34)).trans h
theorem pB_at (c : Dev nD) (t : Fin cfg0.N) (r k : Fin 2048) :
    pB m c t (ix4 0 0 r k) = Cert.AttnRefIdeal.Read.val_main_v34 (F := Ideal) (a0 m c) (a1 m c) (ix4 (bt t) (hd t) r k) := by
  have h := probs_eq m c (ix4 (bt t) (hd t) r k)
  rw [← emb3 t r k] at h
  have hV : ∀ A : Buf (Elt Ideal) ((c.tc : Thread nD τ).loc main_v21), ((cfg0.win 3).blk t).view.read (Elt Ideal) A (ix4 0 0 r k)
      = A ((win0_3.blk t).view.emb (ix4 0 0 r k)) := fun A => rfl
  refine (hV (V m c main_v21)).trans (h.trans ?_)
  rw [emb3]

end Cert.AttnIdeal.Arr

end
-- ==== Proof.AttnEq.lean ====
module

public import proofs.«01_k».proof.Proof.AttnArr

@[expose] public section

noncomputable section

/-! One head of the kernel against the reference: the gradients of the padded blocks are the reference's gradients, padded. -/

namespace Cert.AttnIdeal.Eq

open Cert.AttnIdeal.Block Cert.HeadPad Cert.SoftMath Cert.AttnRefIdeal.Read Cert.AttnRefIdeal.Val Idealize.ShloMosaic
open Cert.AttnRefIdeal (S2x2048x8x96 S2x2048x8x64 S2x2048x512)

variable (x0 x1 : S2x2048x8x96.Idx → EReal) (x2 : S2x2048x8x64.Idx → EReal) (x3 : S2x2048x512.Idx → EReal)

/-- The cotangent's heads taken apart. -/
theorem split_at (hc : S2x2048x512.ShapeCasts S2x2048x8x64) (b : Fin 2) (r : Fin 2048) (h : Fin 8) (x : Fin 64) :
    shapeCast S2x2048x8x64 x3 hc (ix4 b r h x) = x3 (ix3 b r ⟨h.val * 64 + x.val, by omega⟩) := by
  refine shapeCast_apply x3 hc (ix4 b r h x) (ix3 b r ⟨h.val * 64 + x.val, by omega⟩) ?_
  rewrite [Shape.rowMajor_val_four, Shape.rowMajor_val_three]
  show (b.val * 2048 + r.val) * 512 + (h.val * 64 + x.val) = ((b.val * 2048 + r.val) * 8 + h.val) * 64 + x.val
  omega

/-- What ties the blocks of one grid point to the arguments at batch `b` and head `h`. -/
structure Ties (q k1 v d : Head) (p : Probs) (b : Fin 2) (h : Fin 8) (hc : S2x2048x512.ShapeCasts S2x2048x8x64) : Prop where
  q : ∀ r x, q (ix3 0 r x) = padded 96 x0 b r h x
  k : ∀ r x, k1 (ix3 0 r x) = padded 96 x1 b r h x
  v : ∀ r x, v (ix3 0 r x) = padded 64 x2 b r h x
  d : ∀ r x, d (ix3 0 r x) = padded 64 (shapeCast S2x2048x8x64 x3 hc) b r h x
  p : ∀ r k, p (ix4 0 0 r k) = val_main_v34 (F := Ideal) x0 x1 (ix4 b h r k)

variable {x0 x1 x2 x3} {q k1 v d : Head} {p : Probs} {b : Fin 2} {h : Fin 8} {hc : S2x2048x512.ShapeCasts S2x2048x8x64}

theorem dp_eq (T : Ties x0 x1 x2 x3 q k1 v d p b h hc) (r k : Fin 2048) : dp v d r k = val_main_v43 (F := Ideal) x2 x3 (ix4 b h r k) := by
  unfold dp
  rw [dprob_at, sum_head (n := 64) (by decide) _ fun x hx => by
    rw [T.d]; unfold padded; rw [dif_neg (not_lt.2 hx), zero_mul]]
  refine Finset.sum_congr rfl fun x _ => ?_
  rw [T.d, T.v]
  unfold padded
  rw [dif_pos x.isLt, dif_pos x.isLt, split_at]

theorem ds_eq (T : Ties x0 x1 x2 x3 q k1 v d p b h hc) (h0 : ∀ i, IsReal (x0 i)) (h1 : ∀ i, IsReal (x1 i)) (r k : Fin 2048) :
    ds v p d r k = val_main_v60 (F := Ideal) x0 x1 x2 x3 (ix4 b h r k) := by
  unfold ds
  rw [dscore_at x0 x1 x2 x3 h0 h1, T.p, dp_eq T]
  rw [Finset.sum_congr rfl fun k' _ => by rw [T.p, dp_eq T]]

/-- A head's gradients of the queries, the keys and the values, with the columns past the head's last one. -/
theorem dq_eq (T : Ties x0 x1 x2 x3 q k1 v d p b h hc) (h0 : ∀ i, IsReal (x0 i)) (h1 : ∀ i, IsReal (x1 i)) (r : Fin 2048) (x : Fin 128) :
    ∑ k : Fin 2048, ds v p d r k * k1 (ix3 0 k x) = val_main_v66 (F := Ideal) x0 x1 x2 x3 (ix3 b r (col h x)) := by
  rw [dq_at, Finset.sum_congr rfl fun k _ => by rw [ds_eq T h0 h1, T.k]]
  unfold padded
  split
  · rw [dq_sum]
  · simp only [mul_zero, Finset.sum_const_zero]

theorem dk_eq (T : Ties x0 x1 x2 x3 q k1 v d p b h hc) (h0 : ∀ i, IsReal (x0 i)) (h1 : ∀ i, IsReal (x1 i)) (k : Fin 2048) (x : Fin 128) :
    ∑ r : Fin 2048, ds v p d r k * q (ix3 0 r x) = val_main_v68 (F := Ideal) x0 x1 x2 x3 (ix3 b k (col h x)) := by
  rw [dk_at, Finset.sum_congr rfl fun r _ => by rw [ds_eq T h0 h1, T.q]]
  unfold padded
  split
  · rw [dk_sum]
  · simp only [mul_zero, Finset.sum_const_zero]

theorem dv_eq (T : Ties x0 x1 x2 x3 q k1 v d p b h hc) (k : Fin 2048) (x : Fin 128) :
    ∑ r : Fin 2048, p (ix4 0 0 r k) * d (ix3 0 r x) = val_main_v70 (F := Ideal) x0 x1 x3 (ix3 b k (col h x)) := by
  rw [dv_at, Finset.sum_congr rfl fun r _ => by rw [T.p, T.d]]
  unfold padded
  split
  · rw [dv_sum]
    exact Finset.sum_congr rfl fun r _ => by rw [split_at, mul_comm]
  · simp only [mul_zero, Finset.sum_const_zero]

end Cert.AttnIdeal.Eq

end
-- ==== Proof.AttnFinal.lean ====
module

public import proofs.«01_k».proof.Proof.AttnArr
public import proofs.«01_k».proof.Proof.AttnEq
public import proofs.«01_k».proof.Proof.Gen.AttnIdeal.Value

@[expose] public section

noncomputable section

/-! The three result arrays of the kernel after the run are the reference's padded gradients. -/

namespace Cert.AttnIdeal.Final

open Cert.AttnIdeal Cert.AttnIdeal.Gen Cert.AttnIdeal.Value Idealize.ShloMosaic Idealize.ShloMosaic.TcCoe Idealize.SL.Sem
open Cert.AttnIdeal.Block Cert.AttnIdeal.Arr Cert.AttnIdeal.Eq Cert.HeadPad Cert.SoftMath Cert.AttnRefIdeal.Read Cert.AttnRefIdeal.Val

variable (m : (ℓ : Loc nD τ sig) → Buf (Elt Ideal) ℓ)

/-- The blocks of grid point `t` are those of its batch and head. -/
theorem ties (c : Dev nD) (t : Fin cfg0.N) : Ties (a0 m c) (a1 m c) (a2 m c) (a3 m c)
    (qB m c t) (kB m c t) (vB m c t) (dB m c t) (pB m c t) (bt t) (hd t) shapeCasts_S2x2048x512_S2x2048x8x64 :=
  ⟨qB_at m c t, kB_at m c t, vB_at m c t, dB_at m c t, pB_at m c t⟩

variable {m}

/-- The saved probabilities vanish above the diagonal. -/
theorem causal (c : Dev nD) (t : Fin cfg0.N) (h0 : ∀ i, IsReal (a0 m c i)) (h1 : ∀ i, IsReal (a1 m c i)) : Causal (pB m c t) :=
  fun r k hk => (pB_at m c t r k).trans (prob_causal (a0 m c) (a1 m c) h0 h1 (bt t) (hd t) r k hk)

/-- A block index by its row and column. -/
theorem row_col (y : S1x2048x128.Idx) : y = ix3 0 (y 1) (y 2) := by
  funext a
  match a with
  | ⟨0, _⟩ => exact Fin.ext (by have h := (y 0).isLt; exact Nat.lt_one_iff.mp h)
  | ⟨1, _⟩ => rfl
  | ⟨2, _⟩ => rfl

/-- Cutting a point's block out of `X` gives the block of `G` when `X` is `G` at the block's place. -/
theorem cut5 (t : Fin cfg0.N) (X : Vec Ideal S1x2048x128 .f32) (G : S2x2048x1024.Idx → EReal)
    (h : ∀ y, X y = G ((win0_5.blk t).view.emb y)) :
    (cfg0.win 5).cut (grid0.coords t) X = ((cfg0.win 5).blk t).view.read (Elt Ideal) G :=
  funext fun y => h y
theorem cut6 (t : Fin cfg0.N) (X : Vec Ideal S1x2048x128 .f32) (G : S2x2048x1024.Idx → EReal)
    (h : ∀ y, X y = G ((win0_6.blk t).view.emb y)) :
    (cfg0.win 6).cut (grid0.coords t) X = ((cfg0.win 6).blk t).view.read (Elt Ideal) G :=
  funext fun y => h y
theorem cut7 (t : Fin cfg0.N) (X : Vec Ideal S1x2048x128 .f32) (G : S2x2048x1024.Idx → EReal)
    (h : ∀ y, X y = G ((win0_7.blk t).view.emb y)) :
    (cfg0.win 7).cut (grid0.coords t) X = ((cfg0.win 7).blk t).view.read (Elt Ideal) G :=
  funext fun y => h y

/-- Every index of a result lies in the block of some grid point that is written back. -/
theorem covers5 : (cfg0.win 5).Covers := by decide +kernel
theorem covers6 : (cfg0.win 6).Covers := by decide +kernel
theorem covers7 : (cfg0.win 7).Covers := by decide +kernel

/-- The array of query gradients after the run. -/
theorem queries (c : Dev nD) (h0 : ∀ i, IsReal (a0 m c i)) (h1 : ∀ i, IsReal (a1 m c i)) :
    (dats m 0 c).arrAt 5 cfg0.N = val_main_v66 (F := Ideal) (a0 m c) (a1 m c) (a2 m c) (a3 m c) := by
  refine (dats m 0 c).arrAt_eq_of_cover 5 _ (fun t _ => ?_) (Pipeline.Window.Covers.cover _ covers5 (Memref.isWhole_whole _))
  rw [flushed5]
  refine cut5 t _ _ fun y => ?_
  rw [emb5, dq_block m c t (causal c t h0 h1)]
  exact dq_eq (ties m c t) h0 h1 (y 1) (y 2)

/-- The array of key gradients after the run. -/
theorem keys (c : Dev nD) (h0 : ∀ i, IsReal (a0 m c i)) (h1 : ∀ i, IsReal (a1 m c i)) :
    (dats m 0 c).arrAt 6 cfg0.N = val_main_v68 (F := Ideal) (a0 m c) (a1 m c) (a2 m c) (a3 m c) := by
  refine (dats m 0 c).arrAt_eq_of_cover 6 _ (fun t _ => ?_) (Pipeline.Window.Covers.cover _ covers6 (Memref.isWhole_whole _))
  rw [flushed6]
  refine cut6 t _ _ fun y => ?_
  rw [emb6]
  exact (congrArg _ (row_col y)).trans ((dk_block m c t (causal c t h0 h1) (y 1) (y 2)).trans (dk_eq (ties m c t) h0 h1 (y 1) (y 2)))

/-- The array of value gradients after the run. -/
theorem values (c : Dev nD) (h0 : ∀ i, IsReal (a0 m c i)) (h1 : ∀ i, IsReal (a1 m c i)) :
    (dats m 0 c).arrAt 7 cfg0.N = val_main_v70 (F := Ideal) (a0 m c) (a1 m c) (a3 m c) := by
  refine (dats m 0 c).arrAt_eq_of_cover 7 _ (fun t _ => ?_) (Pipeline.Window.Covers.cover _ covers7 (Memref.isWhole_whole _))
  rw [flushed7]
  refine cut7 t _ _ fun y => ?_
  rw [emb7]
  exact (congrArg _ (row_col y)).trans ((dv_block m c t (causal c t h0 h1) (y 1) (y 2)).trans (dv_eq (ties m c t) (y 1) (y 2)))

end Cert.AttnIdeal.Final

end
-- ==== Proof.Finite.lean ====
module

public import proofs.«01_k».proof.Defs
public import proofs.«01_k».proof.Proof.SoftMath

@[expose] public section

noncomputable section

/-! The precondition read: queries and keys are finite. -/

namespace Cert.Finite

open Idealize.ShloMosaic Cert.SoftMath

/-- The side condition of the precondition's broadcast. -/
theorem facts : Cert.Pre_finite_qk.Facts := ⟨by decide⟩

/-- The word the absolute values are compared with is the largest extended real. -/
theorem top_word : (FloatOps.ofBits (F := Ideal) .f32 0x7F800000#32 : EReal) = ⊤ := by
  show Ideal.ofBits .f32 0x7F800000#32 = ⊤
  simp [Ideal.ofBits, Ideal.ieee]

/-- Below the largest in absolute value is finite. -/
theorem real_of_abs {x : EReal} (h : Ideal.cmp .olt (max x (-x)) ⊤ = 1#1) : IsReal x := by
  have hl : max x (-x) < ⊤ := by
    by_contra hn
    simp [Ideal.cmp, hn] at h
  refine IsReal.of_lt (bot_lt_iff_ne_bot.2 fun hb => ?_) (lt_of_le_of_lt (le_max_left _ _) hl)
  rw [hb] at hl
  simp at hl

/-- The precondition's first part says that the first argument is finite, its second that the second is. -/
theorem both [Cert.Pre_finite_qk.Facts] (x0 x1 : FVec Ideal Cert.Pre_finite_qk.S2x2048x8x96 .f32) (x2 : FVec Ideal Cert.Pre_finite_qk.S2x2048x8x64 .f32)
    (x3 : FVec Ideal Cert.Pre_finite_qk.S2x2048x512 .f32)
    (h : (Cert.Pre_finite_qk.fn (F := Ideal) x0 x1 x2 x3).1 = (fun _ => 1#1) ∧ (Cert.Pre_finite_qk.fn (F := Ideal) x0 x1 x2 x3).2 = (fun _ => 1#1)) :
    (∀ i, IsReal (x0 i)) ∧ ∀ i, IsReal (x1 i) := by
  refine ⟨fun i => real_of_abs ?_, fun i => real_of_abs ?_⟩
  · rw [← top_word]; exact congrFun h.1 i
  · rw [← top_word]; exact congrFun h.2 i

/-- The side condition of the forward call's precondition. -/
theorem facts_heads : Cert.Pre_finite_heads.Facts := ⟨by decide⟩

/-- The forward call's precondition says the same of its first two arguments. -/
theorem heads [Cert.Pre_finite_heads.Facts] (q k : FVec Ideal Cert.Pre_finite_heads.S2x2048x8x96 .f32) (v : FVec Ideal Cert.Pre_finite_heads.S2x2048x8x64 .f32)
    (h : (Cert.Pre_finite_heads.fn (F := Ideal) q k v).1 = (fun _ => 1#1) ∧ (Cert.Pre_finite_heads.fn (F := Ideal) q k v).2 = (fun _ => 1#1)) :
    (∀ i, IsReal (q i)) ∧ ∀ i, IsReal (k i) :=
  ⟨fun i => real_of_abs (top_word ▸ congrFun h.1 i), fun i => real_of_abs (top_word ▸ congrFun h.2 i)⟩

end Cert.Finite

end
-- ==== Proof.lean ====
module

public import proofs.«01_k».proof.Defs
public import proofs.«01_k».proof.Proof.Gen.Attn
public import proofs.«01_k».proof.Proof.Gen.Attn.Frame
public import proofs.«01_k».proof.Proof.Gen.AttnIdeal
public import proofs.«01_k».proof.Proof.Gen.AttnIdeal.Frame
public import proofs.«01_k».proof.Proof.Gen.AttnIdeal.Value
public import proofs.«01_k».proof.Proof.Gen.AttnRefIdeal
public import proofs.«01_k».proof.Proof.Gen.AttnRefIdeal.Run
public import proofs.«01_k».proof.Proof.Gen.AttnRefIdeal.Read
public import proofs.«01_k».proof.Proof.Gen.FfnA
public import proofs.«01_k».proof.Proof.Gen.FfnA.Frame
public import proofs.«01_k».proof.Proof.Gen.FfnAIdeal
public import proofs.«01_k».proof.Proof.Gen.FfnAIdeal.Frame
public import proofs.«01_k».proof.Proof.Gen.FfnAIdeal.Value
public import proofs.«01_k».proof.Proof.Gen.FfnARefIdeal
public import proofs.«01_k».proof.Proof.Gen.FfnARefIdeal.Run
public import proofs.«01_k».proof.Proof.Gen.FfnARefIdeal.Read
public import proofs.«01_k».proof.Proof.Gen.Sgu
public import proofs.«01_k».proof.Proof.Gen.Sgu.Frame
public import proofs.«01_k».proof.Proof.Gen.SguIdeal
public import proofs.«01_k».proof.Proof.Gen.SguIdeal.Frame
public import proofs.«01_k».proof.Proof.Gen.SguIdeal.Value
public import proofs.«01_k».proof.Proof.Gen.SguRefIdeal
public import proofs.«01_k».proof.Proof.Gen.SguRefIdeal.Run
public import proofs.«01_k».proof.Proof.Gen.SguRefIdeal.Read
public import proofs.«01_k».proof.Proof.Gen.AttnF
public import proofs.«01_k».proof.Proof.Gen.AttnFIdeal
public import proofs.«01_k».proof.Proof.Gen.AttnFRefIdeal
public import proofs.«01_k».proof.Proof.Gen.AttnFRefIdeal.Run
public import proofs.«01_k».proof.Proof.Gen.AttnFRefIdeal.Read
public import proofs.«01_k».proof.Proof.Gen.FfnC
public import proofs.«01_k».proof.Proof.Gen.FfnC.Frame
public import proofs.«01_k».proof.Proof.Gen.FfnCIdeal
public import proofs.«01_k».proof.Proof.Gen.FfnCIdeal.Frame
public import proofs.«01_k».proof.Proof.Gen.FfnCIdeal.Value
public import proofs.«01_k».proof.Proof.Gen.FfnCRefIdeal
public import proofs.«01_k».proof.Proof.Gen.FfnCRefIdeal.Run
public import proofs.«01_k».proof.Proof.Gen.FfnCRefIdeal.Read
public import proofs.«01_k».proof.Proof.Gen.SguF
public import proofs.«01_k».proof.Proof.Gen.SguF.Frame
public import proofs.«01_k».proof.Proof.Gen.SguFIdeal
public import proofs.«01_k».proof.Proof.Gen.SguFIdeal.Frame
public import proofs.«01_k».proof.Proof.Gen.SguFIdeal.Value
public import proofs.«01_k».proof.Proof.Gen.SguFRefIdeal
public import proofs.«01_k».proof.Proof.Gen.SguFRefIdeal.Run
public import proofs.«01_k».proof.Proof.Gen.SguFRefIdeal.Read
public import proofs.«01_k».proof.Proof.Gen.Heads
public import proofs.«01_k».proof.Proof.Gen.Heads.Frame
public import proofs.«01_k».proof.Proof.Gen.HeadsIdeal
public import proofs.«01_k».proof.Proof.Gen.HeadsIdeal.Frame
public import proofs.«01_k».proof.Proof.Gen.HeadsIdeal.Value
public import proofs.«01_k».proof.Proof.Gen.HeadsRefIdeal
public import proofs.«01_k».proof.Proof.Gen.HeadsRefIdeal.Run
public import proofs.«01_k».proof.Proof.Gen.HeadsRefIdeal.Read
public import proofs.«01_k».proof.Proof.Gen.OutB
public import proofs.«01_k».proof.Proof.Gen.OutB.Frame
public import proofs.«01_k».proof.Proof.Gen.OutBIdeal
public import proofs.«01_k».proof.Proof.Gen.OutBIdeal.Frame
public import proofs.«01_k».proof.Proof.Gen.OutBIdeal.Value
public import proofs.«01_k».proof.Proof.Gen.OutBRefIdeal
public import proofs.«01_k».proof.Proof.Gen.OutBRefIdeal.Run
public import proofs.«01_k».proof.Proof.Gen.OutBRefIdeal.Read
public import proofs.«01_k».proof.Proof.Gen.OutF
public import proofs.«01_k».proof.Proof.Gen.OutF.Frame
public import proofs.«01_k».proof.Proof.Gen.OutFIdeal
public import proofs.«01_k».proof.Proof.Gen.OutFIdeal.Frame
public import proofs.«01_k».proof.Proof.Gen.OutFIdeal.Value
public import proofs.«01_k».proof.Proof.Gen.OutFRefIdeal
public import proofs.«01_k».proof.Proof.Gen.OutFRefIdeal.Run
public import proofs.«01_k».proof.Proof.Gen.OutFRefIdeal.Read
public import proofs.«01_k».proof.Proof.Gen.Loss.Frame
public import proofs.«01_k».proof.Proof.Gen.LossIdeal.Frame
public import proofs.«01_k».proof.Proof.Gen.LossRefIdeal.Run
public import proofs.«01_k».proof.Proof.Gen.FfnW
public import proofs.«01_k».proof.Proof.Gen.FfnW.Frame
public import proofs.«01_k».proof.Proof.Gen.FfnWIdeal
public import proofs.«01_k».proof.Proof.Gen.FfnWIdeal.Frame
public import proofs.«01_k».proof.Proof.Gen.FfnWIdeal.Value
public import proofs.«01_k».proof.Proof.Gen.FfnWRefIdeal
public import proofs.«01_k».proof.Proof.Gen.FfnWRefIdeal.Run
public import proofs.«01_k».proof.Proof.Gen.FfnWRefIdeal.Read
public import proofs.«01_k».proof.Proof.FfnCFinal
public import proofs.«01_k».proof.Proof.SguFFinal
public import proofs.«01_k».proof.Proof.HeadsFinal
public import proofs.«01_k».proof.Proof.OutFinal
public import proofs.«01_k».proof.Proof.OutFFinal
public import proofs.«01_k».proof.Proof.FfnWFinal
public import proofs.«01_k».proof.Proof.AttnFWord
public import proofs.«01_k».proof.Proof.AttnFFinal
public import proofs.«01_k».proof.Proof.AttnFinal
public import proofs.«01_k».proof.Proof.FfnFinal
public import proofs.«01_k».proof.Proof.SguFinal
public import proofs.«01_k».proof.Proof.Finite
public import Idealize.ShloMosaic.Adequacy
public import Idealize.ShloMosaic.Init

@[expose] public section

noncomputable section

namespace Cert.Proof

open Idealize.ShloMosaic Idealize.SL.Sem Cert.Attn

/-- From finite queries and keys the kernel and the reference end with the same three gradients. -/
theorem attention [h : Cert.Pre_finite_qk.Facts] :
    Cert.algebraic_AttnIdeal_AttnRefIdeal_pre_finite_qk (hAttnIdeal := Cert.AttnIdeal.Gen.facts) (hAttnRefIdeal := Cert.AttnRefIdeal.Gen.facts) := by
  intro m g m' g' hp ha
  have hr : ∀ c, _ := fun c => Cert.Finite.both _ _ _ _ (hp c)
  refine ⟨fun c => Cert.AttnRefIdeal.Read.val_main_v66 (F := Ideal) (Cert.AttnIdeal.Arr.a0 m c) (Cert.AttnIdeal.Arr.a1 m c) (Cert.AttnIdeal.Arr.a2 m c) (Cert.AttnIdeal.Arr.a3 m c),
    fun c => Cert.AttnRefIdeal.Read.val_main_v68 (F := Ideal) (Cert.AttnIdeal.Arr.a0 m c) (Cert.AttnIdeal.Arr.a1 m c) (Cert.AttnIdeal.Arr.a2 m c) (Cert.AttnIdeal.Arr.a3 m c),
    fun c => Cert.AttnRefIdeal.Read.val_main_v70 (F := Ideal) (Cert.AttnIdeal.Arr.a0 m c) (Cert.AttnIdeal.Arr.a1 m c) (Cert.AttnIdeal.Arr.a3 m c), ?_, ?_⟩
  · refine (θ_run _ _ _).mono (fun r h c => ?_) (Cert.AttnIdeal.Value.run_blocks m g)
    obtain ⟨hq, hk, hv, hrest⟩ := h c
    exact ⟨hq.trans (Cert.AttnIdeal.Final.queries c (hr c).1 (hr c).2), hk.trans (Cert.AttnIdeal.Final.keys c (hr c).1 (hr c).2),
      hv.trans (Cert.AttnIdeal.Final.values c (hr c).1 (hr c).2), hrest⟩
  · refine (θ_run _ _ _).mono (fun r h c => ?_) (Cert.AttnRefIdeal.Value.run m' g')
    obtain ⟨hq, hk, hv, hrest⟩ := h c
    obtain ⟨e0, e1, e2, e3⟩ := ha c
    refine ⟨hq.trans ((Cert.AttnRefIdeal.Read.val_main_v66_eq m' c).trans ?_), hk.trans ((Cert.AttnRefIdeal.Read.val_main_v68_eq m' c).trans ?_),
      hv.trans ((Cert.AttnRefIdeal.Read.val_main_v70_eq m' c).trans ?_), hrest⟩
    · rw [e0, e1, e2, e3]
    · rw [e0, e1, e2, e3]
    · rw [e0, e1, e3]

/-- The reference runs, keeps its arguments and leaves every counter at zero: it has none. -/
theorem reference : Cert.quiescent_AttnRefIdeal (hAttnRefIdeal := Cert.AttnRefIdeal.Gen.facts) :=
  fun m g _ => (θ_run _ _ _).mono (fun r h => ⟨fun c => (h c).2.2.2, sem_eq_zero_of_no_sems (by decide) r.2⟩) (Cert.AttnRefIdeal.Value.run m g)

open Cert.FfnAIdeal.Arr in
/-- From any arguments the kernel and the reference end with the same gradients of the feed-forward's input, gate and norm scale. -/
theorem feedforward : Cert.algebraic_FfnAIdeal_FfnARefIdeal (hFfnAIdeal := Cert.FfnAIdeal.Gen.facts) (hFfnARefIdeal := Cert.FfnARefIdeal.Gen.facts) := by
  intro m g m' g' _ ha
  refine ⟨fun c => Cert.FfnARefIdeal.Read.val_main_v85 (F := Ideal) (a0 m c) (a1 m c) (a2 m c) (a3 m c) (a4 m c) (a5 m c) (a6 m c) (a7 m c),
    fun c => Cert.FfnARefIdeal.Read.val_main_v87 (F := Ideal) (a2 m c) (a5 m c),
    fun c => Cert.FfnARefIdeal.Read.val_main_v88 (F := Ideal) (a0 m c) (a2 m c) (a3 m c) (a5 m c) (a6 m c) (a7 m c),
    (θ_run _ _ _).mono (fun r h c => ?_) (Cert.FfnAIdeal.Value.run_blocks m g), (θ_run _ _ _).mono (fun r h c => ?_) (Cert.FfnARefIdeal.Value.run m' g')⟩
  · obtain ⟨hi, hg, hs, hrest⟩ := h c
    exact ⟨hi.trans (Cert.FfnAIdeal.Final.inputs m c), hg.trans (Cert.FfnAIdeal.Final.gates m c), hs.trans (Cert.FfnAIdeal.Final.scales m c), hrest⟩
  · obtain ⟨hi, hg, hs, hrest⟩ := h c
    obtain ⟨e0, e1, e2, e3, e4, e5, e6, e7⟩ := ha c
    refine ⟨hi.trans ((Cert.FfnARefIdeal.Read.val_main_v85_eq m' c).trans ?_), hg.trans ((Cert.FfnARefIdeal.Read.val_main_v87_eq _ _).trans ?_),
      hs.trans ((Cert.FfnARefIdeal.Read.val_main_v88_eq _ _ _ _ _ _).trans ?_), hrest⟩
    · rw [e0, e1, e2, e3, e4, e5, e6, e7]
    · rw [e2, e5]
    · rw [e0, e2, e3, e5, e6, e7]

/-- The feed-forward's reference runs, keeps its arguments and leaves every counter at zero. -/
theorem feedforward_reference : Cert.quiescent_FfnARefIdeal (hFfnARefIdeal := Cert.FfnARefIdeal.Gen.facts) :=
  fun m g _ => (θ_run _ _ _).mono (fun r h => ⟨fun c => (h c).2.2.2, sem_eq_zero_of_no_sems (by decide) r.2⟩) (Cert.FfnARefIdeal.Value.run m g)

open Cert.SguIdeal.Arr Cert.SguIdeal.Final Cert.SguRefIdeal.Read in
/-- From any arguments the kernel and the reference end with the same eight gradients of the gated mixer. -/
theorem gating : Cert.algebraic_SguIdeal_SguRefIdeal (hSguIdeal := Cert.SguIdeal.Gen.facts) (hSguRefIdeal := Cert.SguRefIdeal.Gen.facts) := by
  intro m g m' g' _ ha
  refine ⟨fun c => val_main_v170 (F := Ideal) (a0 m c) (a1 m c) (a2 m c) (a3 m c) (a4 m c) (a5 m c) (a6 m c) (a7 m c) (a8 m c),
    fun c => val_main_v171 (F := Ideal) (a0 m c) (a1 m c) (a2 m c) (a3 m c) (a4 m c) (a5 m c) (a6 m c) (a7 m c) (a8 m c),
    fun c => val_main_v147 (F := Ideal) (a0 m c) (a1 m c) (a2 m c) (a3 m c) (a4 m c) (a5 m c) (a6 m c) (a7 m c) (a8 m c),
    fun c => val_main_v172 (F := Ideal) (a0 m c) (a1 m c) (a2 m c) (a3 m c) (a6 m c) (a8 m c),
    fun c => val_main_v173 (F := Ideal) (a0 m c) (a1 m c) (a2 m c) (a3 m c) (a6 m c) (a8 m c),
    fun c => val_main_v100 (F := Ideal) (a0 m c) (a1 m c) (a2 m c) (a3 m c) (a4 m c) (a5 m c) (a8 m c),
    fun c => val_main_v175 (F := Ideal) (a0 m c) (a1 m c) (a2 m c) (a3 m c) (a8 m c),
    fun c => val_main_v84 (F := Ideal) (a0 m c) (a1 m c) (a2 m c) (a3 m c) (a4 m c) (a5 m c) (a6 m c) (a7 m c),
    (θ_run _ _ _).mono (fun r h c => ?_) (Cert.SguIdeal.Value.run_blocks m g), (θ_run _ _ _).mono (fun r h c => ?_) (Cert.SguRefIdeal.Value.run m' g')⟩
  · obtain ⟨hi, hn, hp, hs, hm, hw, hb, ho, hrest⟩ := h c
    exact ⟨hi.trans (inputs m c),
      hn.trans (norms m c),
      hp.trans (products m c),
      hs.trans (scales m c),
      hm.trans (moves m c),
      hw.trans (matrices m c),
      hb.trans (shifts m c),
      ho.trans (outputs m c), hrest⟩
  · obtain ⟨hi, hn, hp, hs, hm, hw, hb, ho, hrest⟩ := h c
    obtain ⟨e0, e1, e2, e3, e4, e5, e6, e7, e8⟩ := ha c
    refine ⟨hi.trans ((val_main_v170_eq _).trans ?_),
      hn.trans ((val_main_v171_eq _).trans ?_),
      hp.trans ((val_main_v147_eq _).trans ?_),
      hs.trans ((val_main_v172_eq _).trans ?_),
      hm.trans ((val_main_v173_eq _).trans ?_),
      hw.trans ((val_main_v100_eq _).trans ?_),
      hb.trans ((val_main_v175_eq _).trans ?_),
      ho.trans ((val_main_v84_eq _).trans ?_), hrest⟩
    all_goals simp only [StableHlo.launchContents_devRef, e0, e1, e2, e3, e4, e5, e6, e7, e8]

/-- The mixer's reference runs, keeps its arguments and leaves every counter at zero. -/
theorem gating_reference : Cert.quiescent_SguRefIdeal (hSguRefIdeal := Cert.SguRefIdeal.Gen.facts) :=
  fun m g _ => (θ_run _ _ _).mono (fun r h => ⟨fun c => (h c).2.2.2.2.2.2.2.2, sem_eq_zero_of_no_sems (by decide) r.2⟩) (Cert.SguRefIdeal.Value.run m g)

open Cert.AttnFIdeal.Arr Cert.AttnFIdeal.Run in
/-- From finite queries and keys the forward call and its reference end with the same outputs. -/
theorem forward [h : Cert.Pre_finite_heads.Facts] :
    Cert.algebraic_AttnFIdeal_AttnFRefIdeal_pre_finite_heads (hAttnFIdeal := Cert.AttnFIdeal.Gen.facts) (hAttnFRefIdeal := Cert.AttnFRefIdeal.Gen.facts) := by
  intro m g m' g' hp ha
  have hr : ∀ c, _ := fun c => Cert.Finite.heads _ _ _ (hp c)
  refine ⟨fun c => Cert.AttnFRefIdeal.Read.val_main_v25 (F := Ideal) (a0 m c) (a1 m c) (a2 m c),
    (θ_run _ _ _).mono (fun r h c => ?_) (Cert.AttnFIdeal.Run.run m g), (θ_run _ _ _).mono (fun r h c => ?_) (Cert.AttnFRefIdeal.Value.run m' g')⟩
  · exact ⟨(output m h.1 c).trans (Cert.AttnFIdeal.Final.outputs m c (hr c).1 (hr c).2), arguments m h.1 c⟩
  · obtain ⟨ho, hrest⟩ := h c
    obtain ⟨e0, e1, e2⟩ := ha c
    refine ⟨ho.trans ((Cert.AttnFRefIdeal.Read.val_main_v25_eq m' c).trans ?_), hrest⟩
    rw [e0, e1, e2]

/-- The forward call runs, keeps its arguments and leaves every counter at zero. -/
theorem forward_frame : Cert.quiescent_AttnFIdeal (hAttnFIdeal := Cert.AttnFIdeal.Gen.facts) :=
  fun m g _ => (θ_run _ _ _).mono (fun r h => ⟨Cert.AttnFIdeal.Run.arguments m h.1, h.2⟩) (Cert.AttnFIdeal.Run.run m g)

/-- So does its reference. -/
theorem forward_reference : Cert.quiescent_AttnFRefIdeal (hAttnFRefIdeal := Cert.AttnFRefIdeal.Gen.facts) :=
  fun m g _ => (θ_run _ _ _).mono (fun r h => ⟨fun c => (h c).2, sem_eq_zero_of_no_sems (by decide) r.2⟩) (Cert.AttnFRefIdeal.Value.run m g)

open Cert.FfnCIdeal.Final Cert.FfnCRefIdeal.Read in
/-- From any arguments the feed-forward's first kernel and its reference end with the same gate, up projection and normed input. -/
theorem projections : Cert.algebraic_FfnCIdeal_FfnCRefIdeal (hFfnCIdeal := Cert.FfnCIdeal.Gen.facts) (hFfnCRefIdeal := Cert.FfnCRefIdeal.Gen.facts) := by
  intro m g m' g' _ ha
  refine ⟨fun c => val_main_v16 (F := Ideal) (a0 m c) (a1 m c) (a2 m c), fun c => val_main_v18 (F := Ideal) (a0 m c) (a1 m c) (a3 m c),
    fun c => val_main_v21 (F := Ideal) (a0 m c) (a1 m c),
    (θ_run _ _ _).mono (fun r h c => ?_) (Cert.FfnCIdeal.Value.run_blocks m g), (θ_run _ _ _).mono (fun r h c => ?_) (Cert.FfnCRefIdeal.Value.run m' g')⟩
  · obtain ⟨hg, hu, hn, hrest⟩ := h c
    exact ⟨hg.trans (gates m c), hu.trans (ups m c), hn.trans (copies m c), hrest⟩
  · obtain ⟨hg, hu, hn, hrest⟩ := h c
    obtain ⟨e0, e1, e2, e3⟩ := ha c
    refine ⟨hg.trans ((val_main_v16_eq _ _ _).trans ?_), hu.trans ((val_main_v18_eq _ _ _).trans ?_), hn.trans ((val_main_v21_eq _ _).trans ?_), hrest⟩
    · rw [e0, e1, e2]
    · rw [e0, e1, e3]
    · rw [e0, e1]

/-- The reference of the first kernel runs, keeps its arguments and leaves every counter at zero. -/
theorem projections_reference : Cert.quiescent_FfnCRefIdeal (hFfnCRefIdeal := Cert.FfnCRefIdeal.Gen.facts) :=
  fun m g _ => (θ_run _ _ _).mono (fun r h => ⟨fun c => (h c).2.2.2, sem_eq_zero_of_no_sems (by decide) r.2⟩) (Cert.FfnCRefIdeal.Value.run m g)

open Cert.SguFIdeal.Final Cert.SguFRefIdeal.Read in
/-- From any arguments the gated mixer's kernel and its reference end with the same result. -/
theorem mixing : Cert.algebraic_SguFIdeal_SguFRefIdeal (hSguFIdeal := Cert.SguFIdeal.Gen.facts) (hSguFRefIdeal := Cert.SguFRefIdeal.Gen.facts) := by
  intro m g m' g' _ ha
  refine ⟨fun c => val_main_v68 (F := Ideal) (a0 m c) (a1 m c) (a2 m c) (a3 m c) (a4 m c) (a5 m c) (a6 m c) (a7 m c),
    (θ_run _ _ _).mono (fun r h c => ?_) (Cert.SguFIdeal.Value.run_blocks m g), (θ_run _ _ _).mono (fun r h c => ?_) (Cert.SguFRefIdeal.Value.run m' g')⟩
  · obtain ⟨ho, hrest⟩ := h c
    exact ⟨ho.trans (results m c), hrest⟩
  · obtain ⟨ho, hrest⟩ := h c
    obtain ⟨e0, e1, e2, e3, e4, e5, e6, e7⟩ := ha c
    exact ⟨ho.trans ((val_main_v68_eq m' c).trans (by rw [e0, e1, e2, e3, e4, e5, e6, e7])), hrest⟩

/-- The gated mixer's reference runs, keeps its arguments and leaves every counter at zero. -/
theorem mixing_reference : Cert.quiescent_SguFRefIdeal (hSguFRefIdeal := Cert.SguFRefIdeal.Gen.facts) :=
  fun m g _ => (θ_run _ _ _).mono (fun r h => ⟨fun c => (h c).2, sem_eq_zero_of_no_sems (by decide) r.2⟩) (Cert.SguFRefIdeal.Value.run m g)

open Cert.HeadsIdeal.Final Cert.HeadsIdeal.Arr Cert.HeadsRefIdeal.Read in
/-- From any arguments the kernel that makes attention's heads and its reference end with the same queries, keys, values, mixer input and gate. -/
theorem heads : Cert.algebraic_HeadsIdeal_HeadsRefIdeal (hHeadsIdeal := Cert.HeadsIdeal.Gen.facts) (hHeadsRefIdeal := Cert.HeadsRefIdeal.Gen.facts) := by
  intro m g m' g' _ ha
  refine ⟨fun c => val_main_v113 (F := Ideal) (a0 m c) (a1 m c) (a2 m c) (a3 m c) (a4 m c) (a5 m c),
    fun c => val_main_v116 (F := Ideal) (a0 m c) (a1 m c) (a2 m c) (a3 m c) (a6 m c) (a7 m c),
    fun c => val_main_v119 (F := Ideal) (a0 m c) (a2 m c) (a3 m c) (a6 m c) (a7 m c),
    fun c => val_main_v120 (F := Ideal) (a0 m c) (a2 m c) (a3 m c), fun c => val_main_v121 (F := Ideal) (a0 m c) (a2 m c) (a3 m c),
    (θ_run _ _ _).mono (fun r h c => ?_) (Cert.HeadsIdeal.Value.run_blocks m g), (θ_run _ _ _).mono (fun r h c => ?_) (Cert.HeadsRefIdeal.Value.run m' g')⟩
  · obtain ⟨hq, hk, hv, hx, hg, hrest⟩ := h c
    exact ⟨hq.trans (queries m c), hk.trans (keys m c), hv.trans (values m c), hx.trans (inputs m c), hg.trans (gates m c), hrest⟩
  · obtain ⟨hq, hk, hv, hx, hg, hrest⟩ := h c
    obtain ⟨e0, e1, e2, e3, e4, e5, e6, e7⟩ := ha c
    refine ⟨hq.trans ((val_main_v113_eq _ _).trans ?_), hk.trans ((val_main_v116_eq _ _).trans ?_), hv.trans ((val_main_v119_eq _ _ _ _ _).trans ?_),
      hx.trans ((val_main_v120_eq _ _ _).trans ?_), hg.trans ((val_main_v121_eq _ _ _).trans ?_), hrest⟩
    · rw [e0, e1, e2, e3, e4, e5]
    · rw [e0, e1, e2, e3, e6, e7]
    · rw [e0, e2, e3, e6, e7]
    · rw [e0, e2, e3]
    · rw [e0, e2, e3]

/-- The reference of the heads runs, keeps its arguments and leaves every counter at zero. -/
theorem heads_reference : Cert.quiescent_HeadsRefIdeal (hHeadsRefIdeal := Cert.HeadsRefIdeal.Gen.facts) :=
  fun m g _ => (θ_run _ _ _).mono (fun r h => ⟨fun c => (h c).2.2.2.2.2, sem_eq_zero_of_no_sems (by decide) r.2⟩) (Cert.HeadsRefIdeal.Value.run m g)

open Cert.OutBIdeal.Final Cert.OutBIdeal.Block Cert.OutBRefIdeal.Read in
/-- From any arguments the output product's backward kernel and its reference end with the same four gradients. -/
theorem output : Cert.algebraic_OutBIdeal_OutBRefIdeal (hOutBIdeal := Cert.OutBIdeal.Gen.facts) (hOutBRefIdeal := Cert.OutBRefIdeal.Gen.facts) := by
  intro m g m' g' _ ha
  refine ⟨fun c => val_main_v10 (F := Ideal) (a2 m c) (a3 m c), fun c => val_main_v15 (F := Ideal) (a2 m c) (a3 m c),
    fun c => val_main_v14 (F := Ideal) (a0 m c) (a1 m c) (a2 m c), fun c => val_main_v16 (F := Ideal) (a0 m c) (a1 m c) (a2 m c),
    (θ_run _ _ _).mono (fun r h c => ?_) (Cert.OutBIdeal.Value.run_blocks m g), (θ_run _ _ _).mono (fun r h c => ?_) (Cert.OutBRefIdeal.Value.run m' g')⟩
  · obtain ⟨ho, hy, hwa, hwb, hrest⟩ := h c
    exact ⟨ho.trans (dos m c), hy.trans (dys m c), hwa.trans (dwas m c), hwb.trans (dwbs m c), hrest⟩
  · obtain ⟨ho, hy, hwa, hwb, hrest⟩ := h c
    obtain ⟨e0, e1, e2, e3⟩ := ha c
    refine ⟨ho.trans ((val_main_v10_eq _ _).trans ?_), hy.trans ((val_main_v15_eq _ _).trans ?_), hwa.trans ((val_main_v14_eq _ _ _).trans ?_),
      hwb.trans ((val_main_v16_eq _ _ _).trans ?_), hrest⟩
    · rw [e2, e3]
    · rw [e2, e3]
    · rw [e0, e1, e2]
    · rw [e0, e1, e2]

/-- The reference of the output product's gradients runs, keeps its arguments and leaves every counter at zero. -/
theorem output_reference : Cert.quiescent_OutBRefIdeal (hOutBRefIdeal := Cert.OutBRefIdeal.Gen.facts) :=
  fun m g _ => (θ_run _ _ _).mono (fun r h => ⟨fun c => (h c).2.2.2.2, sem_eq_zero_of_no_sems (by decide) r.2⟩) (Cert.OutBRefIdeal.Value.run m g)

open Cert.OutFIdeal.Final Cert.OutFRefIdeal.Read in
/-- From any arguments the output product's forward kernel and its reference end with the same array. -/
theorem mixed : Cert.algebraic_OutFIdeal_OutFRefIdeal (hOutFIdeal := Cert.OutFIdeal.Gen.facts) (hOutFRefIdeal := Cert.OutFRefIdeal.Gen.facts) := by
  intro m g m' g' _ ha
  refine ⟨fun c => val_main_v3 (F := Ideal) (a0 m c) (a1 m c) (a2 m c) (a3 m c),
    (θ_run _ _ _).mono (fun r h c => ?_) (Cert.OutFIdeal.Value.run_blocks m g), (θ_run _ _ _).mono (fun r h c => ?_) (Cert.OutFRefIdeal.Value.run m' g')⟩
  · exact ⟨(h c).1.trans (sums m c), (h c).2⟩
  · obtain ⟨e0, e1, e2, e3⟩ := ha c
    refine ⟨(h c).1.trans ((val_main_v3_eq _ _ _ _).trans ?_), (h c).2⟩
    rw [e0, e1, e2, e3]

/-- The reference of the output product runs, keeps its arguments and leaves every counter at zero. -/
theorem mixed_reference : Cert.quiescent_OutFRefIdeal (hOutFRefIdeal := Cert.OutFRefIdeal.Gen.facts) :=
  fun m g _ => (θ_run _ _ _).mono (fun r h => ⟨fun c => (h c).2, sem_eq_zero_of_no_sems (by decide) r.2⟩) (Cert.OutFRefIdeal.Value.run m g)

/-- The reference of the last layer's product with the loss runs, keeps its arguments and leaves every counter at zero. -/
theorem loss_reference : Cert.quiescent_LossRefIdeal (hLossRefIdeal := Cert.LossRefIdeal.Gen.facts) :=
  fun m g _ => (θ_run _ _ _).mono (fun r h => ⟨fun c => (h c).2.2.2, sem_eq_zero_of_no_sems (by decide) r.2⟩) (Cert.LossRefIdeal.Value.run m g)

open Cert.FfnWIdeal.Final Cert.FfnWRefIdeal.Read in
/-- From any arguments the kernel of the feed-forward's two weight gradients and its reference end with the same arrays. -/
theorem weights : Cert.algebraic_FfnWIdeal_FfnWRefIdeal (hFfnWIdeal := Cert.FfnWIdeal.Gen.facts) (hFfnWRefIdeal := Cert.FfnWRefIdeal.Gen.facts) := by
  intro m g m' g' _ ha
  refine ⟨fun c => val_main_v21 (F := Ideal) (a0 m c) (a1 m c) (a2 m c), fun c => val_main_v23 (F := Ideal) (a0 m c) (a1 m c) (a3 m c),
    (θ_run _ _ _).mono (fun r h c => ?_) (Cert.FfnWIdeal.Value.run_blocks m g), (θ_run _ _ _).mono (fun r h c => ?_) (Cert.FfnWRefIdeal.Value.run m' g')⟩
  · exact ⟨(h c).1.trans (gates m c), (h c).2.1.trans (ups m c), (h c).2.2⟩
  · obtain ⟨e0, e1, e2, e3⟩ := ha c
    refine ⟨(h c).1.trans ((val_main_v21_eq _ _ _).trans ?_), (h c).2.1.trans ((val_main_v23_eq _ _ _).trans ?_), (h c).2.2⟩
    · rw [e0, e1, e2]
    · rw [e0, e1, e3]

/-- The reference of the feed-forward's two weight gradients runs, keeps its arguments and leaves every counter at zero. -/
theorem weights_reference : Cert.quiescent_FfnWRefIdeal (hFfnWRefIdeal := Cert.FfnWRefIdeal.Gen.facts) :=
  fun m g _ => (θ_run _ _ _).mono (fun r h => ⟨fun c => (h c).2.2, sem_eq_zero_of_no_sems (by decide) r.2⟩) (Cert.FfnWRefIdeal.Value.run m g)

theorem claim : Cert.Claim := ⟨Cert.Attn.Gen.facts, Cert.AttnIdeal.Gen.facts, Cert.AttnRefIdeal.Gen.facts,
  Cert.FfnA.Gen.facts, Cert.FfnAIdeal.Gen.facts, Cert.FfnARefIdeal.Gen.facts,
  Cert.Sgu.Gen.facts, Cert.SguIdeal.Gen.facts, Cert.SguRefIdeal.Gen.facts,
  Cert.AttnF.Gen.facts, Cert.AttnFIdeal.Gen.facts, Cert.AttnFRefIdeal.Gen.facts,
  Cert.FfnC.Gen.facts, Cert.FfnCIdeal.Gen.facts, Cert.FfnCRefIdeal.Gen.facts,
  Cert.SguF.Gen.facts, Cert.SguFIdeal.Gen.facts, Cert.SguFRefIdeal.Gen.facts,
  Cert.Heads.Gen.facts, Cert.HeadsIdeal.Gen.facts, Cert.HeadsRefIdeal.Gen.facts,
  Cert.OutB.Gen.facts, Cert.OutBIdeal.Gen.facts, Cert.OutBRefIdeal.Gen.facts,
  Cert.OutF.Gen.facts, Cert.OutFIdeal.Gen.facts, Cert.OutFRefIdeal.Gen.facts,
  Cert.Loss.Gen.facts, Cert.LossIdeal.Gen.facts, Cert.LossRefIdeal.Gen.facts,
  Cert.FfnW.Gen.facts, Cert.FfnWIdeal.Gen.facts, Cert.FfnWRefIdeal.Gen.facts, Cert.Finite.facts, Cert.Finite.facts_heads,
  fun m ρ _ => Cert.Attn.Gen.frame m ρ,
  fun m ρ _ => Cert.AttnIdeal.Gen.frame m ρ,
  fun m ρ _ => Cert.AttnIdeal.Gen.frame m ρ,
  reference,
  fun m g _ => reference m g trivial,
  fun m ρ _ => Cert.FfnA.Gen.frame m ρ,
  fun m ρ _ => Cert.FfnAIdeal.Gen.frame m ρ,
  feedforward_reference,
  fun m ρ _ => Cert.Sgu.Gen.frame m ρ,
  fun m ρ _ => Cert.SguIdeal.Gen.frame m ρ,
  gating_reference,
  Cert.AttnF.Word.runs,
  forward_frame,
  fun m g _ => forward_frame m g trivial,
  forward_reference,
  fun m g _ => forward_reference m g trivial,
  fun m ρ _ => Cert.FfnC.Gen.frame m ρ,
  fun m ρ _ => Cert.FfnCIdeal.Gen.frame m ρ,
  projections_reference,
  fun m ρ _ => Cert.SguF.Gen.frame m ρ,
  fun m ρ _ => Cert.SguFIdeal.Gen.frame m ρ,
  mixing_reference,
  fun m ρ _ => Cert.Heads.Gen.frame m ρ,
  fun m ρ _ => Cert.HeadsIdeal.Gen.frame m ρ,
  heads_reference,
  fun m ρ _ => Cert.OutB.Gen.frame m ρ,
  fun m ρ _ => Cert.OutBIdeal.Gen.frame m ρ,
  output_reference,
  fun m ρ _ => Cert.OutF.Gen.frame m ρ,
  fun m ρ _ => Cert.OutFIdeal.Gen.frame m ρ,
  mixed_reference,
  fun m ρ _ => Cert.Loss.Gen.frame m ρ,
  fun m ρ _ => Cert.LossIdeal.Gen.frame m ρ,
  loss_reference,
  fun m ρ _ => Cert.FfnW.Gen.frame m ρ,
  fun m ρ _ => Cert.FfnWIdeal.Gen.frame m ρ,
  weights_reference,
  trivial,
  attention (h := Cert.Finite.facts),
  trivial,
  feedforward,
  trivial,
  gating,
  IdealRules.named_const.statement Cert.AttnFIdeal.κ "mask" .f32 0xF149F2CA#32 ⊥ rfl,
  forward (h := Cert.Finite.facts_heads),
  trivial,
  projections,
  trivial,
  mixing,
  trivial,
  heads,
  trivial,
  output,
  trivial,
  mixed,
  trivial,
  trivial,
  weights⟩

end Cert.Proof

end
